-- ==== Defs.lean ====
def Pre_Exchange (m : (ℓ : Loc Cert.Exchange.nD Cert.Exchange.τ Cert.Exchange.sig) → Buf (Elt Bits) ℓ) : Prop :=
  True

def Pre_ExchangeIdeal (m : (ℓ : Loc Cert.ExchangeIdeal.nD Cert.ExchangeIdeal.τ Cert.ExchangeIdeal.sig) → Buf (Elt Ideal) ℓ) : Prop :=
  True

def Pre_ExchangeRef (m : (ℓ : Loc Cert.ExchangeRef.nD Cert.ExchangeRef.τ Cert.ExchangeRef.sig) → Buf (Elt Bits) ℓ) : Prop :=
  True

def Pre_ExchangeRefIdeal (m : (ℓ : Loc Cert.ExchangeRefIdeal.nD Cert.ExchangeRefIdeal.τ Cert.ExchangeRefIdeal.sig) → Buf (Elt Ideal) ℓ) : Prop :=
  True

def Pre_Scatter (m : (ℓ : Loc Cert.Scatter.nD Cert.Scatter.τ Cert.Scatter.sig) → Buf (Elt Bits) ℓ) : Prop :=
  True

def Pre_ScatterIdeal (m : (ℓ : Loc Cert.ScatterIdeal.nD Cert.ScatterIdeal.τ Cert.ScatterIdeal.sig) → Buf (Elt Ideal) ℓ) : Prop :=
  True

def Pre_ScatterRef (m : (ℓ : Loc Cert.ScatterRef.nD Cert.ScatterRef.τ Cert.ScatterRef.sig) → Buf (Elt Bits) ℓ) : Prop :=
  True

def Pre_ScatterRefIdeal (m : (ℓ : Loc Cert.ScatterRefIdeal.nD Cert.ScatterRefIdeal.τ Cert.ScatterRefIdeal.sig) → Buf (Elt Ideal) ℓ) : Prop :=
  True

def Pre_Share (m : (ℓ : Loc Cert.Share.nD Cert.Share.τ Cert.Share.sig) → Buf (Elt Bits) ℓ) : Prop :=
  True

def Pre_ShareIdeal (m : (ℓ : Loc Cert.ShareIdeal.nD Cert.ShareIdeal.τ Cert.ShareIdeal.sig) → Buf (Elt Ideal) ℓ) : Prop :=
  True

def Pre_ShareRef (m : (ℓ : Loc Cert.ShareRef.nD Cert.ShareRef.τ Cert.ShareRef.sig) → Buf (Elt Bits) ℓ) : Prop :=
  True

def Pre_ShareRefIdeal (m : (ℓ : Loc Cert.ShareRefIdeal.nD Cert.ShareRefIdeal.τ Cert.ShareRefIdeal.sig) → Buf (Elt Ideal) ℓ) : Prop :=
  True

def Pre_Gather (m : (ℓ : Loc Cert.Gather.nD Cert.Gather.τ Cert.Gather.sig) → Buf (Elt Bits) ℓ) : Prop :=
  True

def Pre_GatherIdeal (m : (ℓ : Loc Cert.GatherIdeal.nD Cert.GatherIdeal.τ Cert.GatherIdeal.sig) → Buf (Elt Ideal) ℓ) : Prop :=
  True

def Pre_GatherRef (m : (ℓ : Loc Cert.GatherRef.nD Cert.GatherRef.τ Cert.GatherRef.sig) → Buf (Elt Bits) ℓ) : Prop :=
  True

def Pre_GatherRefIdeal (m : (ℓ : Loc Cert.GatherRefIdeal.nD Cert.GatherRefIdeal.τ Cert.GatherRefIdeal.sig) → Buf (Elt Ideal) ℓ) : Prop :=
  True

def Pre_AdamEvenIn (m : (ℓ : Loc Cert.AdamEvenIn.nD Cert.AdamEvenIn.τ Cert.AdamEvenIn.sig) → Buf (Elt Bits) ℓ) : Prop :=
  True

def Pre_AdamEvenInIdeal (m : (ℓ : Loc Cert.AdamEvenInIdeal.nD Cert.AdamEvenInIdeal.τ Cert.AdamEvenInIdeal.sig) → Buf (Elt Ideal) ℓ) : Prop :=
  True

def Pre_AdamEvenInRef (m : (ℓ : Loc Cert.AdamEvenInRef.nD Cert.AdamEvenInRef.τ Cert.AdamEvenInRef.sig) → Buf (Elt Bits) ℓ) : Prop :=
  True

def Pre_AdamEvenInRefIdeal (m : (ℓ : Loc Cert.AdamEvenInRefIdeal.nD Cert.AdamEvenInRefIdeal.τ Cert.AdamEvenInRefIdeal.sig) → Buf (Elt Ideal) ℓ) : Prop :=
  True

def Pre_AdamOddIn (m : (ℓ : Loc Cert.AdamOddIn.nD Cert.AdamOddIn.τ Cert.AdamOddIn.sig) → Buf (Elt Bits) ℓ) : Prop :=
  True

def Pre_AdamOddInIdeal (m : (ℓ : Loc Cert.AdamOddInIdeal.nD Cert.AdamOddInIdeal.τ Cert.AdamOddInIdeal.sig) → Buf (Elt Ideal) ℓ) : Prop :=
  True

def Pre_AdamOddInRef (m : (ℓ : Loc Cert.AdamOddInRef.nD Cert.AdamOddInRef.τ Cert.AdamOddInRef.sig) → Buf (Elt Bits) ℓ) : Prop :=
  True

def Pre_AdamOddInRefIdeal (m : (ℓ : Loc Cert.AdamOddInRefIdeal.nD Cert.AdamOddInRefIdeal.τ Cert.AdamOddInRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRef (m : (ℓ : Loc Cert.AdamOutRef.nD Cert.AdamOutRef.τ Cert.AdamOutRef.sig) → Buf (Elt Bits) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRef (m : (ℓ : Loc Cert.AdamSmallRef.nD Cert.AdamSmallRef.τ Cert.AdamSmallRef.sig) → Buf (Elt Bits) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRef (m : (ℓ : Loc Cert.NormRef.nD Cert.NormRef.τ Cert.NormRef.sig) → Buf (Elt Bits) ℓ) : Prop :=
  True

def Pre_NormRefIdeal (m : (ℓ : Loc Cert.NormRefIdeal.nD Cert.NormRefIdeal.τ Cert.NormRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRef (m : (ℓ : Loc Cert.LossRef.nD Cert.LossRef.τ Cert.LossRef.sig) → Buf (Elt Bits) ℓ) : Prop :=
  True

def Pre_LossRefIdeal (m : (ℓ : Loc Cert.LossRefIdeal.nD Cert.LossRefIdeal.τ Cert.LossRefIdeal.sig) → Buf (Elt Ideal) ℓ) : Prop :=
  True

def Pre_TotalLoss (m : (ℓ : Loc Cert.TotalLoss.nD Cert.TotalLoss.τ Cert.TotalLoss.sig) → Buf (Elt Bits) ℓ) : Prop :=
  True

def Pre_TotalLossIdeal (m : (ℓ : Loc Cert.TotalLossIdeal.nD Cert.TotalLossIdeal.τ Cert.TotalLossIdeal.sig) → Buf (Elt Ideal) ℓ) : Prop :=
  True

def Pre_TotalLossRef (m : (ℓ : Loc Cert.TotalLossRef.nD Cert.TotalLossRef.τ Cert.TotalLossRef.sig) → Buf (Elt Bits) ℓ) : Prop :=
  True

def Pre_TotalLossRefIdeal (m : (ℓ : Loc Cert.TotalLossRefIdeal.nD Cert.TotalLossRefIdeal.τ Cert.TotalLossRefIdeal.sig) → Buf (Elt Ideal) ℓ) : Prop :=
  True

def Pre_PairEvenIn (m : (ℓ : Loc Cert.PairEvenIn.nD Cert.PairEvenIn.τ Cert.PairEvenIn.sig) → Buf (Elt Bits) ℓ) : Prop :=
  True

def Pre_PairEvenInIdeal (m : (ℓ : Loc Cert.PairEvenInIdeal.nD Cert.PairEvenInIdeal.τ Cert.PairEvenInIdeal.sig) → Buf (Elt Ideal) ℓ) : Prop :=
  True

def Pre_PairEvenInRef (m : (ℓ : Loc Cert.PairEvenInRef.nD Cert.PairEvenInRef.τ Cert.PairEvenInRef.sig) → Buf (Elt Bits) ℓ) : Prop :=
  True

def Pre_PairEvenInRefIdeal (m : (ℓ : Loc Cert.PairEvenInRefIdeal.nD Cert.PairEvenInRefIdeal.τ Cert.PairEvenInRefIdeal.sig) → Buf (Elt Ideal) ℓ) : Prop :=
  True

def Pre_PairOddIn (m : (ℓ : Loc Cert.PairOddIn.nD Cert.PairOddIn.τ Cert.PairOddIn.sig) → Buf (Elt Bits) ℓ) : Prop :=
  True

def Pre_PairOddInIdeal (m : (ℓ : Loc Cert.PairOddInIdeal.nD Cert.PairOddInIdeal.τ Cert.PairOddInIdeal.sig) → Buf (Elt Ideal) ℓ) : Prop :=
  True

def Pre_PairOddInRef (m : (ℓ : Loc Cert.PairOddInRef.nD Cert.PairOddInRef.τ Cert.PairOddInRef.sig) → Buf (Elt Bits) ℓ) : Prop :=
  True

def Pre_PairOddInRefIdeal (m : (ℓ : Loc Cert.PairOddInRefIdeal.nD Cert.PairOddInRefIdeal.τ Cert.PairOddInRefIdeal.sig) → Buf (Elt Ideal) ℓ) : Prop :=
  True

def Pre_PairOut (m : (ℓ : Loc Cert.PairOut.nD Cert.PairOut.τ Cert.PairOut.sig) → Buf (Elt Bits) ℓ) : Prop :=
  True

def Pre_PairOutIdeal (m : (ℓ : Loc Cert.PairOutIdeal.nD Cert.PairOutIdeal.τ Cert.PairOutIdeal.sig) → Buf (Elt Ideal) ℓ) : Prop :=
  True

def Pre_PairOutRef (m : (ℓ : Loc Cert.PairOutRef.nD Cert.PairOutRef.τ Cert.PairOutRef.sig) → Buf (Elt Bits) ℓ) : Prop :=
  True

def Pre_PairOutRefIdeal (m : (ℓ : Loc Cert.PairOutRefIdeal.nD Cert.PairOutRefIdeal.τ Cert.PairOutRefIdeal.sig) → Buf (Elt Ideal) ℓ) : Prop :=
  True

def Pre_ChipsEvenIn (m : (ℓ : Loc Cert.ChipsEvenIn.nD Cert.ChipsEvenIn.τ Cert.ChipsEvenIn.sig) → Buf (Elt Bits) ℓ) : Prop :=
  True

def Pre_ChipsEvenInIdeal (m : (ℓ : Loc Cert.ChipsEvenInIdeal.nD Cert.ChipsEvenInIdeal.τ Cert.ChipsEvenInIdeal.sig) → Buf (Elt Ideal) ℓ) : Prop :=
  True

def Pre_ChipsEvenInRef (m : (ℓ : Loc Cert.ChipsEvenInRef.nD Cert.ChipsEvenInRef.τ Cert.ChipsEvenInRef.sig) → Buf (Elt Bits) ℓ) : Prop :=
  True

def Pre_ChipsEvenInRefIdeal (m : (ℓ : Loc Cert.ChipsEvenInRefIdeal.nD Cert.ChipsEvenInRefIdeal.τ Cert.ChipsEvenInRefIdeal.sig) → Buf (Elt Ideal) ℓ) : Prop :=
  True

def Pre_ChipsOddIn (m : (ℓ : Loc Cert.ChipsOddIn.nD Cert.ChipsOddIn.τ Cert.ChipsOddIn.sig) → Buf (Elt Bits) ℓ) : Prop :=
  True

def Pre_ChipsOddInIdeal (m : (ℓ : Loc Cert.ChipsOddInIdeal.nD Cert.ChipsOddInIdeal.τ Cert.ChipsOddInIdeal.sig) → Buf (Elt Ideal) ℓ) : Prop :=
  True

def Pre_ChipsOddInRef (m : (ℓ : Loc Cert.ChipsOddInRef.nD Cert.ChipsOddInRef.τ Cert.ChipsOddInRef.sig) → Buf (Elt Bits) ℓ) : Prop :=
  True

def Pre_ChipsOddInRefIdeal (m : (ℓ : Loc Cert.ChipsOddInRefIdeal.nD Cert.ChipsOddInRefIdeal.τ Cert.ChipsOddInRefIdeal.sig) → Buf (Elt Ideal) ℓ) : Prop :=
  True

def Pre_ChipsOut (m : (ℓ : Loc Cert.ChipsOut.nD Cert.ChipsOut.τ Cert.ChipsOut.sig) → Buf (Elt Bits) ℓ) : Prop :=
  True

def Pre_ChipsOutIdeal (m : (ℓ : Loc Cert.ChipsOutIdeal.nD Cert.ChipsOutIdeal.τ Cert.ChipsOutIdeal.sig) → Buf (Elt Ideal) ℓ) : Prop :=
  True

def Pre_ChipsOutRef (m : (ℓ : Loc Cert.ChipsOutRef.nD Cert.ChipsOutRef.τ Cert.ChipsOutRef.sig) → Buf (Elt Bits) ℓ) : Prop :=
  True

def Pre_ChipsOutRefIdeal (m : (ℓ : Loc Cert.ChipsOutRefIdeal.nD Cert.ChipsOutRefIdeal.τ Cert.ChipsOutRefIdeal.sig) → Buf (Elt Ideal) ℓ) : Prop :=
  True

def Pre_NormForward (m : (ℓ : Loc Cert.NormForward.nD Cert.NormForward.τ Cert.NormForward.sig) → Buf (Elt Bits) ℓ) : Prop :=
  True

def Pre_NormForwardIdeal (m : (ℓ : Loc Cert.NormForwardIdeal.nD Cert.NormForwardIdeal.τ Cert.NormForwardIdeal.sig) → Buf (Elt Ideal) ℓ) : Prop :=
  True

def Pre_NormForwardRef (m : (ℓ : Loc Cert.NormForwardRef.nD Cert.NormForwardRef.τ Cert.NormForwardRef.sig) → Buf (Elt Bits) ℓ) : Prop :=
  True

def Pre_NormForwardRefIdeal (m : (ℓ : Loc Cert.NormForwardRefIdeal.nD Cert.NormForwardRefIdeal.τ Cert.NormForwardRefIdeal.sig) → Buf (Elt Ideal) ℓ) : Prop :=
  True

def Pre_EvenIn (m : (ℓ : Loc Cert.EvenIn.nD Cert.EvenIn.τ Cert.EvenIn.sig) → Buf (Elt Bits) ℓ) : Prop :=
  True

def Pre_EvenInIdeal (m : (ℓ : Loc Cert.EvenInIdeal.nD Cert.EvenInIdeal.τ Cert.EvenInIdeal.sig) → Buf (Elt Ideal) ℓ) : Prop :=
  True

def Pre_EvenInRef (m : (ℓ : Loc Cert.EvenInRef.nD Cert.EvenInRef.τ Cert.EvenInRef.sig) → Buf (Elt Bits) ℓ) : Prop :=
  True

def Pre_EvenInRefIdeal (m : (ℓ : Loc Cert.EvenInRefIdeal.nD Cert.EvenInRefIdeal.τ Cert.EvenInRefIdeal.sig) → Buf (Elt Ideal) ℓ) : Prop :=
  True

def Pre_OddIn (m : (ℓ : Loc Cert.OddIn.nD Cert.OddIn.τ Cert.OddIn.sig) → Buf (Elt Bits) ℓ) : Prop :=
  True

def Pre_OddInIdeal (m : (ℓ : Loc Cert.OddInIdeal.nD Cert.OddInIdeal.τ Cert.OddInIdeal.sig) → Buf (Elt Ideal) ℓ) : Prop :=
  True

def Pre_OddInRef (m : (ℓ : Loc Cert.OddInRef.nD Cert.OddInRef.τ Cert.OddInRef.sig) → Buf (Elt Bits) ℓ) : Prop :=
  True

def Pre_OddInRefIdeal (m : (ℓ : Loc Cert.OddInRefIdeal.nD Cert.OddInRefIdeal.τ Cert.OddInRefIdeal.sig) → Buf (Elt Ideal) ℓ) : Prop :=
  True

def Pre_LayerOut (m : (ℓ : Loc Cert.LayerOut.nD Cert.LayerOut.τ Cert.LayerOut.sig) → Buf (Elt Bits) ℓ) : Prop :=
  True

def Pre_LayerOutIdeal (m : (ℓ : Loc Cert.LayerOutIdeal.nD Cert.LayerOutIdeal.τ Cert.LayerOutIdeal.sig) → Buf (Elt Ideal) ℓ) : Prop :=
  True

def Pre_LayerOutRef (m : (ℓ : Loc Cert.LayerOutRef.nD Cert.LayerOutRef.τ Cert.LayerOutRef.sig) → Buf (Elt Bits) ℓ) : Prop :=
  True

def Pre_LayerOutRefIdeal (m : (ℓ : Loc Cert.LayerOutRefIdeal.nD Cert.LayerOutRefIdeal.τ Cert.LayerOutRefIdeal.sig) → Buf (Elt Ideal) ℓ) : Prop :=
  True

def Pre_OutGrad (m : (ℓ : Loc Cert.OutGrad.nD Cert.OutGrad.τ Cert.OutGrad.sig) → Buf (Elt Bits) ℓ) : Prop :=
  True

def Pre_OutGradIdeal (m : (ℓ : Loc Cert.OutGradIdeal.nD Cert.OutGradIdeal.τ Cert.OutGradIdeal.sig) → Buf (Elt Ideal) ℓ) : Prop :=
  True

def Pre_OutGradRef (m : (ℓ : Loc Cert.OutGradRef.nD Cert.OutGradRef.τ Cert.OutGradRef.sig) → Buf (Elt Bits) ℓ) : Prop :=
  True

def Pre_OutGradRefIdeal (m : (ℓ : Loc Cert.OutGradRefIdeal.nD Cert.OutGradRefIdeal.τ Cert.OutGradRefIdeal.sig) → Buf (Elt Ideal) ℓ) : Prop :=
  True

def Pre_OddInGrad (m : (ℓ : Loc Cert.OddInGrad.nD Cert.OddInGrad.τ Cert.OddInGrad.sig) → Buf (Elt Bits) ℓ) : Prop :=
  True

def Pre_OddInGradIdeal (m : (ℓ : Loc Cert.OddInGradIdeal.nD Cert.OddInGradIdeal.τ Cert.OddInGradIdeal.sig) → Buf (Elt Ideal) ℓ) : Prop :=
  True

def Pre_OddInGradRef (m : (ℓ : Loc Cert.OddInGradRef.nD Cert.OddInGradRef.τ Cert.OddInGradRef.sig) → Buf (Elt Bits) ℓ) : Prop :=
  True

def Pre_OddInGradRefIdeal (m : (ℓ : Loc Cert.OddInGradRefIdeal.nD Cert.OddInGradRefIdeal.τ Cert.OddInGradRefIdeal.sig) → Buf (Elt Ideal) ℓ) : Prop :=
  True

def Pre_EvenInGrad (m : (ℓ : Loc Cert.EvenInGrad.nD Cert.EvenInGrad.τ Cert.EvenInGrad.sig) → Buf (Elt Bits) ℓ) : Prop :=
  True

def Pre_EvenInGradIdeal (m : (ℓ : Loc Cert.EvenInGradIdeal.nD Cert.EvenInGradIdeal.τ Cert.EvenInGradIdeal.sig) → Buf (Elt Ideal) ℓ) : Prop :=
  True

def Pre_EvenInGradRef (m : (ℓ : Loc Cert.EvenInGradRef.nD Cert.EvenInGradRef.τ Cert.EvenInGradRef.sig) → Buf (Elt Bits) ℓ) : Prop :=
  True

def Pre_EvenInGradRefIdeal (m : (ℓ : Loc Cert.EvenInGradRefIdeal.nD Cert.EvenInGradRefIdeal.τ Cert.EvenInGradRefIdeal.sig) → Buf (Elt Ideal) ℓ) : Prop :=
  True

def Pre_OutWeightGrad (m : (ℓ : Loc Cert.OutWeightGrad.nD Cert.OutWeightGrad.τ Cert.OutWeightGrad.sig) → Buf (Elt Bits) ℓ) : Prop :=
  True

def Pre_OutWeightGradIdeal (m : (ℓ : Loc Cert.OutWeightGradIdeal.nD Cert.OutWeightGradIdeal.τ Cert.OutWeightGradIdeal.sig) → Buf (Elt Ideal) ℓ) : Prop :=
  True

def Pre_OutWeightGradRef (m : (ℓ : Loc Cert.OutWeightGradRef.nD Cert.OutWeightGradRef.τ Cert.OutWeightGradRef.sig) → Buf (Elt Bits) ℓ) : Prop :=
  True

def Pre_OutWeightGradRefIdeal (m : (ℓ : Loc Cert.OutWeightGradRefIdeal.nD Cert.OutWeightGradRefIdeal.τ Cert.OutWeightGradRefIdeal.sig) → Buf (Elt Ideal) ℓ) : Prop :=
  True

def Pre_OddInWeightGrad (m : (ℓ : Loc Cert.OddInWeightGrad.nD Cert.OddInWeightGrad.τ Cert.OddInWeightGrad.sig) → Buf (Elt Bits) ℓ) : Prop :=
  True

def Pre_OddInWeightGradIdeal (m : (ℓ : Loc Cert.OddInWeightGradIdeal.nD Cert.OddInWeightGradIdeal.τ Cert.OddInWeightGradIdeal.sig) → Buf (Elt Ideal) ℓ) : Prop :=
  True

def Pre_OddInWeightGradRef (m : (ℓ : Loc Cert.OddInWeightGradRef.nD Cert.OddInWeightGradRef.τ Cert.OddInWeightGradRef.sig) → Buf (Elt Bits) ℓ) : Prop :=
  True

def Pre_OddInWeightGradRefIdeal (m : (ℓ : Loc Cert.OddInWeightGradRefIdeal.nD Cert.OddInWeightGradRefIdeal.τ Cert.OddInWeightGradRefIdeal.sig) → Buf (Elt Ideal) ℓ) : Prop :=
  True

def Pre_EvenInWeightGrad (m : (ℓ : Loc Cert.EvenInWeightGrad.nD Cert.EvenInWeightGrad.τ Cert.EvenInWeightGrad.sig) → Buf (Elt Bits) ℓ) : Prop :=
  True

def Pre_EvenInWeightGradIdeal (m : (ℓ : Loc Cert.EvenInWeightGradIdeal.nD Cert.EvenInWeightGradIdeal.τ Cert.EvenInWeightGradIdeal.sig) → Buf (Elt Ideal) ℓ) : Prop :=
  True

def Pre_EvenInWeightGradRef (m : (ℓ : Loc Cert.EvenInWeightGradRef.nD Cert.EvenInWeightGradRef.τ Cert.EvenInWeightGradRef.sig) → Buf (Elt Bits) ℓ) : Prop :=
  True

def Pre_EvenInWeightGradRefIdeal (m : (ℓ : Loc Cert.EvenInWeightGradRefIdeal.nD Cert.EvenInWeightGradRefIdeal.τ Cert.EvenInWeightGradRefIdeal.sig) → Buf (Elt Ideal) ℓ) : Prop :=
  True

def quiescent_Exchange [hExchange : Cert.Exchange.Facts] : Prop :=
  ∀ (m : (ℓ : Loc Cert.Exchange.nD Cert.Exchange.τ Cert.Exchange.sig) → Buf (Elt Bits) ℓ) (g : Dev Cert.Exchange.nD → PrngReg), Pre_Exchange m →
    θ_run (Cert.Exchange.defs (F := Bits)) (onTc (τ := Cert.Exchange.τ) (Cert.Exchange.main (F := Bits))) ⟨m, fun _ => 0, g⟩ (fun r => (∀ c : Dev Cert.Exchange.nD,
      r.2.mem ((c.tc : Thread Cert.Exchange.nD Cert.Exchange.τ).loc Cert.Exchange.main_arg0) = m ((c.tc : Thread Cert.Exchange.nD Cert.Exchange.τ).loc Cert.Exchange.main_arg0)
      ∧ r.2.mem ((c.tc : Thread Cert.Exchange.nD Cert.Exchange.τ).loc Cert.Exchange.main_arg1) = m ((c.tc : Thread Cert.Exchange.nD Cert.Exchange.τ).loc Cert.Exchange.main_arg1)
      ∧ r.2.mem ((c.tc : Thread Cert.Exchange.nD Cert.Exchange.τ).loc Cert.Exchange.main_arg2) = m ((c.tc : Thread Cert.Exchange.nD Cert.Exchange.τ).loc Cert.Exchange.main_arg2)
      ∧ r.2.mem ((c.tc : Thread Cert.Exchange.nD Cert.Exchange.τ).loc Cert.Exchange.main_arg3) = m ((c.tc : Thread Cert.Exchange.nD Cert.Exchange.τ).loc Cert.Exchange.main_arg3))
      ∧ r.2.sem = fun _ => 0)

def quiescent_ExchangeIdeal [hExchangeIdeal : Cert.ExchangeIdeal.Facts] : Prop :=
  ∀ (m : (ℓ : Loc Cert.ExchangeIdeal.nD Cert.ExchangeIdeal.τ Cert.ExchangeIdeal.sig) → Buf (Elt Ideal) ℓ) (g : Dev Cert.ExchangeIdeal.nD → PrngReg), Pre_ExchangeIdeal m →
    θ_run (Cert.ExchangeIdeal.defs (F := Ideal)) (onTc (τ := Cert.ExchangeIdeal.τ) (Cert.ExchangeIdeal.main (F := Ideal))) ⟨m, fun _ => 0, g⟩ (fun r => (∀ c : Dev Cert.ExchangeIdeal.nD,
      r.2.mem ((c.tc : Thread Cert.ExchangeIdeal.nD Cert.ExchangeIdeal.τ).loc Cert.ExchangeIdeal.main_arg0) = m ((c.tc : Thread Cert.ExchangeIdeal.nD Cert.ExchangeIdeal.τ).loc Cert.ExchangeIdeal.main_arg0)
      ∧ r.2.mem ((c.tc : Thread Cert.ExchangeIdeal.nD Cert.ExchangeIdeal.τ).loc Cert.ExchangeIdeal.main_arg1) = m ((c.tc : Thread Cert.ExchangeIdeal.nD Cert.ExchangeIdeal.τ).loc Cert.ExchangeIdeal.main_arg1)
      ∧ r.2.mem ((c.tc : Thread Cert.ExchangeIdeal.nD Cert.ExchangeIdeal.τ).loc Cert.ExchangeIdeal.main_arg2) = m ((c.tc : Thread Cert.ExchangeIdeal.nD Cert.ExchangeIdeal.τ).loc Cert.ExchangeIdeal.main_arg2)
      ∧ r.2.mem ((c.tc : Thread Cert.ExchangeIdeal.nD Cert.ExchangeIdeal.τ).loc Cert.ExchangeIdeal.main_arg3) = m ((c.tc : Thread Cert.ExchangeIdeal.nD Cert.ExchangeIdeal.τ).loc Cert.ExchangeIdeal.main_arg3))
      ∧ r.2.sem = fun _ => 0)

def quiescent_ExchangeRef [hExchangeRef : Cert.ExchangeRef.Facts] : Prop :=
  ∀ (m : (ℓ : Loc Cert.ExchangeRef.nD Cert.ExchangeRef.τ Cert.ExchangeRef.sig) → Buf (Elt Bits) ℓ) (g : Dev Cert.ExchangeRef.nD → PrngReg), Pre_ExchangeRef m →
    θ_run (Cert.ExchangeRef.defs (F := Bits)) (onTc (τ := Cert.ExchangeRef.τ) (Cert.ExchangeRef.main (F := Bits))) ⟨m, fun _ => 0, g⟩ (fun r => (∀ c : Dev Cert.ExchangeRef.nD,
      r.2.mem ((c.tc : Thread Cert.ExchangeRef.nD Cert.ExchangeRef.τ).loc Cert.ExchangeRef.main_arg0) = m ((c.tc : Thread Cert.ExchangeRef.nD Cert.ExchangeRef.τ).loc Cert.ExchangeRef.main_arg0)
      ∧ r.2.mem ((c.tc : Thread Cert.ExchangeRef.nD Cert.ExchangeRef.τ).loc Cert.ExchangeRef.main_arg1) = m ((c.tc : Thread Cert.ExchangeRef.nD Cert.ExchangeRef.τ).loc Cert.ExchangeRef.main_arg1)
      ∧ r.2.mem ((c.tc : Thread Cert.ExchangeRef.nD Cert.ExchangeRef.τ).loc Cert.ExchangeRef.main_arg2) = m ((c.tc : Thread Cert.ExchangeRef.nD Cert.ExchangeRef.τ).loc Cert.ExchangeRef.main_arg2)
      ∧ r.2.mem ((c.tc : Thread Cert.ExchangeRef.nD Cert.ExchangeRef.τ).loc Cert.ExchangeRef.main_arg3) = m ((c.tc : Thread Cert.ExchangeRef.nD Cert.ExchangeRef.τ).loc Cert.ExchangeRef.main_arg3))
      ∧ r.2.sem = fun _ => 0)

def quiescent_ExchangeRefIdeal [hExchangeRefIdeal : Cert.ExchangeRefIdeal.Facts] : Prop :=
  ∀ (m : (ℓ : Loc Cert.ExchangeRefIdeal.nD Cert.ExchangeRefIdeal.τ Cert.ExchangeRefIdeal.sig) → Buf (Elt Ideal) ℓ) (g : Dev Cert.ExchangeRefIdeal.nD → PrngReg), Pre_ExchangeRefIdeal m →
    θ_run (Cert.ExchangeRefIdeal.defs (F := Ideal)) (onTc (τ := Cert.ExchangeRefIdeal.τ) (Cert.ExchangeRefIdeal.main (F := Ideal))) ⟨m, fun _ => 0, g⟩ (fun r => (∀ c : Dev Cert.ExchangeRefIdeal.nD,
      r.2.mem ((c.tc : Thread Cert.ExchangeRefIdeal.nD Cert.ExchangeRefIdeal.τ).loc Cert.ExchangeRefIdeal.main_arg0) = m ((c.tc : Thread Cert.ExchangeRefIdeal.nD Cert.ExchangeRefIdeal.τ).loc Cert.ExchangeRefIdeal.main_arg0)
      ∧ r.2.mem ((c.tc : Thread Cert.ExchangeRefIdeal.nD Cert.ExchangeRefIdeal.τ).loc Cert.ExchangeRefIdeal.main_arg1) = m ((c.tc : Thread Cert.ExchangeRefIdeal.nD Cert.ExchangeRefIdeal.τ).loc Cert.ExchangeRefIdeal.main_arg1)
      ∧ r.2.mem ((c.tc : Thread Cert.ExchangeRefIdeal.nD Cert.ExchangeRefIdeal.τ).loc Cert.ExchangeRefIdeal.main_arg2) = m ((c.tc : Thread Cert.ExchangeRefIdeal.nD Cert.ExchangeRefIdeal.τ).loc Cert.ExchangeRefIdeal.main_arg2)
      ∧ r.2.mem ((c.tc : Thread Cert.ExchangeRefIdeal.nD Cert.ExchangeRefIdeal.τ).loc Cert.ExchangeRefIdeal.main_arg3) = m ((c.tc : Thread Cert.ExchangeRefIdeal.nD Cert.ExchangeRefIdeal.τ).loc Cert.ExchangeRefIdeal.main_arg3))
      ∧ r.2.sem = fun _ => 0)

def quiescent_Scatter [hScatter : Cert.Scatter.Facts] : Prop :=
  ∀ (m : (ℓ : Loc Cert.Scatter.nD Cert.Scatter.τ Cert.Scatter.sig) → Buf (Elt Bits) ℓ) (g : Dev Cert.Scatter.nD → PrngReg), Pre_Scatter m →
    θ_run (Cert.Scatter.defs (F := Bits)) (onTc (τ := Cert.Scatter.τ) (Cert.Scatter.main (F := Bits))) ⟨m, fun _ => 0, g⟩ (fun r => (∀ c : Dev Cert.Scatter.nD,
      r.2.mem ((c.tc : Thread Cert.Scatter.nD Cert.Scatter.τ).loc Cert.Scatter.main_arg0) = m ((c.tc : Thread Cert.Scatter.nD Cert.Scatter.τ).loc Cert.Scatter.main_arg0)
      ∧ r.2.mem ((c.tc : Thread Cert.Scatter.nD Cert.Scatter.τ).loc Cert.Scatter.main_arg1) = m ((c.tc : Thread Cert.Scatter.nD Cert.Scatter.τ).loc Cert.Scatter.main_arg1)
      ∧ r.2.mem ((c.tc : Thread Cert.Scatter.nD Cert.Scatter.τ).loc Cert.Scatter.main_arg2) = m ((c.tc : Thread Cert.Scatter.nD Cert.Scatter.τ).loc Cert.Scatter.main_arg2)
      ∧ r.2.mem ((c.tc : Thread Cert.Scatter.nD Cert.Scatter.τ).loc Cert.Scatter.main_arg3) = m ((c.tc : Thread Cert.Scatter.nD Cert.Scatter.τ).loc Cert.Scatter.main_arg3))
      ∧ r.2.sem = fun _ => 0)

def quiescent_ScatterIdeal [hScatterIdeal : Cert.ScatterIdeal.Facts] : Prop :=
  ∀ (m : (ℓ : Loc Cert.ScatterIdeal.nD Cert.ScatterIdeal.τ Cert.ScatterIdeal.sig) → Buf (Elt Ideal) ℓ) (g : Dev Cert.ScatterIdeal.nD → PrngReg), Pre_ScatterIdeal m →
    θ_run (Cert.ScatterIdeal.defs (F := Ideal)) (onTc (τ := Cert.ScatterIdeal.τ) (Cert.ScatterIdeal.main (F := Ideal))) ⟨m, fun _ => 0, g⟩ (fun r => (∀ c : Dev Cert.ScatterIdeal.nD,
      r.2.mem ((c.tc : Thread Cert.ScatterIdeal.nD Cert.ScatterIdeal.τ).loc Cert.ScatterIdeal.main_arg0) = m ((c.tc : Thread Cert.ScatterIdeal.nD Cert.ScatterIdeal.τ).loc Cert.ScatterIdeal.main_arg0)
      ∧ r.2.mem ((c.tc : Thread Cert.ScatterIdeal.nD Cert.ScatterIdeal.τ).loc Cert.ScatterIdeal.main_arg1) = m ((c.tc : Thread Cert.ScatterIdeal.nD Cert.ScatterIdeal.τ).loc Cert.ScatterIdeal.main_arg1)
      ∧ r.2.mem ((c.tc : Thread Cert.ScatterIdeal.nD Cert.ScatterIdeal.τ).loc Cert.ScatterIdeal.main_arg2) = m ((c.tc : Thread Cert.ScatterIdeal.nD Cert.ScatterIdeal.τ).loc Cert.ScatterIdeal.main_arg2)
      ∧ r.2.mem ((c.tc : Thread Cert.ScatterIdeal.nD Cert.ScatterIdeal.τ).loc Cert.ScatterIdeal.main_arg3) = m ((c.tc : Thread Cert.ScatterIdeal.nD Cert.ScatterIdeal.τ).loc Cert.ScatterIdeal.main_arg3))
      ∧ r.2.sem = fun _ => 0)

def quiescent_ScatterRef [hScatterRef : Cert.ScatterRef.Facts] : Prop :=
  ∀ (m : (ℓ : Loc Cert.ScatterRef.nD Cert.ScatterRef.τ Cert.ScatterRef.sig) → Buf (Elt Bits) ℓ) (g : Dev Cert.ScatterRef.nD → PrngReg), Pre_ScatterRef m →
    θ_run (Cert.ScatterRef.defs (F := Bits)) (onTc (τ := Cert.ScatterRef.τ) (Cert.ScatterRef.main (F := Bits))) ⟨m, fun _ => 0, g⟩ (fun r => (∀ c : Dev Cert.ScatterRef.nD,
      r.2.mem ((c.tc : Thread Cert.ScatterRef.nD Cert.ScatterRef.τ).loc Cert.ScatterRef.main_arg0) = m ((c.tc : Thread Cert.ScatterRef.nD Cert.ScatterRef.τ).loc Cert.ScatterRef.main_arg0)
      ∧ r.2.mem ((c.tc : Thread Cert.ScatterRef.nD Cert.ScatterRef.τ).loc Cert.ScatterRef.main_arg1) = m ((c.tc : Thread Cert.ScatterRef.nD Cert.ScatterRef.τ).loc Cert.ScatterRef.main_arg1)
      ∧ r.2.mem ((c.tc : Thread Cert.ScatterRef.nD Cert.ScatterRef.τ).loc Cert.ScatterRef.main_arg2) = m ((c.tc : Thread Cert.ScatterRef.nD Cert.ScatterRef.τ).loc Cert.ScatterRef.main_arg2)
      ∧ r.2.mem ((c.tc : Thread Cert.ScatterRef.nD Cert.ScatterRef.τ).loc Cert.ScatterRef.main_arg3) = m ((c.tc : Thread Cert.ScatterRef.nD Cert.ScatterRef.τ).loc Cert.ScatterRef.main_arg3))
      ∧ r.2.sem = fun _ => 0)

def quiescent_ScatterRefIdeal [hScatterRefIdeal : Cert.ScatterRefIdeal.Facts] : Prop :=
  ∀ (m : (ℓ : Loc Cert.ScatterRefIdeal.nD Cert.ScatterRefIdeal.τ Cert.ScatterRefIdeal.sig) → Buf (Elt Ideal) ℓ) (g : Dev Cert.ScatterRefIdeal.nD → PrngReg), Pre_ScatterRefIdeal m →
    θ_run (Cert.ScatterRefIdeal.defs (F := Ideal)) (onTc (τ := Cert.ScatterRefIdeal.τ) (Cert.ScatterRefIdeal.main (F := Ideal))) ⟨m, fun _ => 0, g⟩ (fun r => (∀ c : Dev Cert.ScatterRefIdeal.nD,
      r.2.mem ((c.tc : Thread Cert.ScatterRefIdeal.nD Cert.ScatterRefIdeal.τ).loc Cert.ScatterRefIdeal.main_arg0) = m ((c.tc : Thread Cert.ScatterRefIdeal.nD Cert.ScatterRefIdeal.τ).loc Cert.ScatterRefIdeal.main_arg0)
      ∧ r.2.mem ((c.tc : Thread Cert.ScatterRefIdeal.nD Cert.ScatterRefIdeal.τ).loc Cert.ScatterRefIdeal.main_arg1) = m ((c.tc : Thread Cert.ScatterRefIdeal.nD Cert.ScatterRefIdeal.τ).loc Cert.ScatterRefIdeal.main_arg1)
      ∧ r.2.mem ((c.tc : Thread Cert.ScatterRefIdeal.nD Cert.ScatterRefIdeal.τ).loc Cert.ScatterRefIdeal.main_arg2) = m ((c.tc : Thread Cert.ScatterRefIdeal.nD Cert.ScatterRefIdeal.τ).loc Cert.ScatterRefIdeal.main_arg2)
      ∧ r.2.mem ((c.tc : Thread Cert.ScatterRefIdeal.nD Cert.ScatterRefIdeal.τ).loc Cert.ScatterRefIdeal.main_arg3) = m ((c.tc : Thread Cert.ScatterRefIdeal.nD Cert.ScatterRefIdeal.τ).loc Cert.ScatterRefIdeal.main_arg3))
      ∧ r.2.sem = fun _ => 0)

def quiescent_Share [hShare : Cert.Share.Facts] : Prop :=
  ∀ (m : (ℓ : Loc Cert.Share.nD Cert.Share.τ Cert.Share.sig) → Buf (Elt Bits) ℓ) (g : Dev Cert.Share.nD → PrngReg), Pre_Share m →
    θ_run (Cert.Share.defs (F := Bits)) (onTc (τ := Cert.Share.τ) (Cert.Share.main (F := Bits))) ⟨m, fun _ => 0, g⟩ (fun r => (∀ c : Dev Cert.Share.nD,
      r.2.mem ((c.tc : Thread Cert.Share.nD Cert.Share.τ).loc Cert.Share.main_arg0) = m ((c.tc : Thread Cert.Share.nD Cert.Share.τ).loc Cert.Share.main_arg0)
      ∧ r.2.mem ((c.tc : Thread Cert.Share.nD Cert.Share.τ).loc Cert.Share.main_arg1) = m ((c.tc : Thread Cert.Share.nD Cert.Share.τ).loc Cert.Share.main_arg1)
      ∧ r.2.mem ((c.tc : Thread Cert.Share.nD Cert.Share.τ).loc Cert.Share.main_arg2) = m ((c.tc : Thread Cert.Share.nD Cert.Share.τ).loc Cert.Share.main_arg2)
      ∧ r.2.mem ((c.tc : Thread Cert.Share.nD Cert.Share.τ).loc Cert.Share.main_arg3) = m ((c.tc : Thread Cert.Share.nD Cert.Share.τ).loc Cert.Share.main_arg3))
      ∧ r.2.sem = fun _ => 0)

def quiescent_ShareIdeal [hShareIdeal : Cert.ShareIdeal.Facts] : Prop :=
  ∀ (m : (ℓ : Loc Cert.ShareIdeal.nD Cert.ShareIdeal.τ Cert.ShareIdeal.sig) → Buf (Elt Ideal) ℓ) (g : Dev Cert.ShareIdeal.nD → PrngReg), Pre_ShareIdeal m →
    θ_run (Cert.ShareIdeal.defs (F := Ideal)) (onTc (τ := Cert.ShareIdeal.τ) (Cert.ShareIdeal.main (F := Ideal))) ⟨m, fun _ => 0, g⟩ (fun r => (∀ c : Dev Cert.ShareIdeal.nD,
      r.2.mem ((c.tc : Thread Cert.ShareIdeal.nD Cert.ShareIdeal.τ).loc Cert.ShareIdeal.main_arg0) = m ((c.tc : Thread Cert.ShareIdeal.nD Cert.ShareIdeal.τ).loc Cert.ShareIdeal.main_arg0)
      ∧ r.2.mem ((c.tc : Thread Cert.ShareIdeal.nD Cert.ShareIdeal.τ).loc Cert.ShareIdeal.main_arg1) = m ((c.tc : Thread Cert.ShareIdeal.nD Cert.ShareIdeal.τ).loc Cert.ShareIdeal.main_arg1)
      ∧ r.2.mem ((c.tc : Thread Cert.ShareIdeal.nD Cert.ShareIdeal.τ).loc Cert.ShareIdeal.main_arg2) = m ((c.tc : Thread Cert.ShareIdeal.nD Cert.ShareIdeal.τ).loc Cert.ShareIdeal.main_arg2)
      ∧ r.2.mem ((c.tc : Thread Cert.ShareIdeal.nD Cert.ShareIdeal.τ).loc Cert.ShareIdeal.main_arg3) = m ((c.tc : Thread Cert.ShareIdeal.nD Cert.ShareIdeal.τ).loc Cert.ShareIdeal.main_arg3))
      ∧ r.2.sem = fun _ => 0)

def quiescent_ShareRef [hShareRef : Cert.ShareRef.Facts] : Prop :=
  ∀ (m : (ℓ : Loc Cert.ShareRef.nD Cert.ShareRef.τ Cert.ShareRef.sig) → Buf (Elt Bits) ℓ) (g : Dev Cert.ShareRef.nD → PrngReg), Pre_ShareRef m →
    θ_run (Cert.ShareRef.defs (F := Bits)) (onTc (τ := Cert.ShareRef.τ) (Cert.ShareRef.main (F := Bits))) ⟨m, fun _ => 0, g⟩ (fun r => (∀ c : Dev Cert.ShareRef.nD,
      r.2.mem ((c.tc : Thread Cert.ShareRef.nD Cert.ShareRef.τ).loc Cert.ShareRef.main_arg0) = m ((c.tc : Thread Cert.ShareRef.nD Cert.ShareRef.τ).loc Cert.ShareRef.main_arg0)
      ∧ r.2.mem ((c.tc : Thread Cert.ShareRef.nD Cert.ShareRef.τ).loc Cert.ShareRef.main_arg1) = m ((c.tc : Thread Cert.ShareRef.nD Cert.ShareRef.τ).loc Cert.ShareRef.main_arg1)
      ∧ r.2.mem ((c.tc : Thread Cert.ShareRef.nD Cert.ShareRef.τ).loc Cert.ShareRef.main_arg2) = m ((c.tc : Thread Cert.ShareRef.nD Cert.ShareRef.τ).loc Cert.ShareRef.main_arg2)
      ∧ r.2.mem ((c.tc : Thread Cert.ShareRef.nD Cert.ShareRef.τ).loc Cert.ShareRef.main_arg3) = m ((c.tc : Thread Cert.ShareRef.nD Cert.ShareRef.τ).loc Cert.ShareRef.main_arg3))
      ∧ r.2.sem = fun _ => 0)

def quiescent_ShareRefIdeal [hShareRefIdeal : Cert.ShareRefIdeal.Facts] : Prop :=
  ∀ (m : (ℓ : Loc Cert.ShareRefIdeal.nD Cert.ShareRefIdeal.τ Cert.ShareRefIdeal.sig) → Buf (Elt Ideal) ℓ) (g : Dev Cert.ShareRefIdeal.nD → PrngReg), Pre_ShareRefIdeal m →
    θ_run (Cert.ShareRefIdeal.defs (F := Ideal)) (onTc (τ := Cert.ShareRefIdeal.τ) (Cert.ShareRefIdeal.main (F := Ideal))) ⟨m, fun _ => 0, g⟩ (fun r => (∀ c : Dev Cert.ShareRefIdeal.nD,
      r.2.mem ((c.tc : Thread Cert.ShareRefIdeal.nD Cert.ShareRefIdeal.τ).loc Cert.ShareRefIdeal.main_arg0) = m ((c.tc : Thread Cert.ShareRefIdeal.nD Cert.ShareRefIdeal.τ).loc Cert.ShareRefIdeal.main_arg0)
      ∧ r.2.mem ((c.tc : Thread Cert.ShareRefIdeal.nD Cert.ShareRefIdeal.τ).loc Cert.ShareRefIdeal.main_arg1) = m ((c.tc : Thread Cert.ShareRefIdeal.nD Cert.ShareRefIdeal.τ).loc Cert.ShareRefIdeal.main_arg1)
      ∧ r.2.mem ((c.tc : Thread Cert.ShareRefIdeal.nD Cert.ShareRefIdeal.τ).loc Cert.ShareRefIdeal.main_arg2) = m ((c.tc : Thread Cert.ShareRefIdeal.nD Cert.ShareRefIdeal.τ).loc Cert.ShareRefIdeal.main_arg2)
      ∧ r.2.mem ((c.tc : Thread Cert.ShareRefIdeal.nD Cert.ShareRefIdeal.τ).loc Cert.ShareRefIdeal.main_arg3) = m ((c.tc : Thread Cert.ShareRefIdeal.nD Cert.ShareRefIdeal.τ).loc Cert.ShareRefIdeal.main_arg3))
      ∧ r.2.sem = fun _ => 0)

def quiescent_Gather [hGather : Cert.Gather.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (onTc (τ := Cert.Gather.τ) (Cert.Gather.main (F := Bits))) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1)
      ∧ r.2.mem ((c.tc : Thread Cert.Gather.nD Cert.Gather.τ).loc Cert.Gather.main_arg2) = m ((c.tc : Thread Cert.Gather.nD Cert.Gather.τ).loc Cert.Gather.main_arg2)
      ∧ r.2.mem ((c.tc : Thread Cert.Gather.nD Cert.Gather.τ).loc Cert.Gather.main_arg3) = m ((c.tc : Thread Cert.Gather.nD Cert.Gather.τ).loc Cert.Gather.main_arg3)
      ∧ r.2.mem ((c.tc : Thread Cert.Gather.nD Cert.Gather.τ).loc Cert.Gather.main_arg4) = m ((c.tc : Thread Cert.Gather.nD Cert.Gather.τ).loc Cert.Gather.main_arg4))
      ∧ r.2.sem = fun _ => 0)

def quiescent_GatherIdeal [hGatherIdeal : Cert.GatherIdeal.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (onTc (τ := Cert.GatherIdeal.τ) (Cert.GatherIdeal.main (F := Ideal))) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
      ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2)
      ∧ r.2.mem ((c.tc : Thread Cert.GatherIdeal.nD Cert.GatherIdeal.τ).loc Cert.GatherIdeal.main_arg3) = m ((c.tc : Thread Cert.GatherIdeal.nD Cert.GatherIdeal.τ).loc Cert.GatherIdeal.main_arg3)
      ∧ r.2.mem ((c.tc : Thread Cert.GatherIdeal.nD Cert.GatherIdeal.τ).loc Cert.GatherIdeal.main_arg4) = m ((c.tc : Thread Cert.GatherIdeal.nD Cert.GatherIdeal.τ).loc Cert.GatherIdeal.main_arg4))
      ∧ r.2.sem = fun _ => 0)

def quiescent_GatherRef [hGatherRef : Cert.GatherRef.Facts] : Prop :=
  ∀ (m : (ℓ : Loc Cert.GatherRef.nD Cert.GatherRef.τ Cert.GatherRef.sig) → Buf (Elt Bits) ℓ) (g : Dev Cert.GatherRef.nD → PrngReg), Pre_GatherRef m →
    θ_run (Cert.GatherRef.defs (F := Bits)) (onTc (τ := Cert.GatherRef.τ) (Cert.GatherRef.main (F := Bits))) ⟨m, fun _ => 0, g⟩ (fun r => (∀ c : Dev Cert.GatherRef.nD,
      r.2.mem ((c.tc : Thread Cert.GatherRef.nD Cert.GatherRef.τ).loc Cert.GatherRef.main_arg0) = m ((c.tc : Thread Cert.GatherRef.nD Cert.GatherRef.τ).loc Cert.GatherRef.main_arg0)
      ∧ r.2.mem ((c.tc : Thread Cert.GatherRef.nD Cert.GatherRef.τ).loc Cert.GatherRef.main_arg1) = m ((c.tc : Thread Cert.GatherRef.nD Cert.GatherRef.τ).loc Cert.GatherRef.main_arg1)
      ∧ r.2.mem ((c.tc : Thread Cert.GatherRef.nD Cert.GatherRef.τ).loc Cert.GatherRef.main_arg2) = m ((c.tc : Thread Cert.GatherRef.nD Cert.GatherRef.τ).loc Cert.GatherRef.main_arg2)
      ∧ r.2.mem ((c.tc : Thread Cert.GatherRef.nD Cert.GatherRef.τ).loc Cert.GatherRef.main_arg3) = m ((c.tc : Thread Cert.GatherRef.nD Cert.GatherRef.τ).loc Cert.GatherRef.main_arg3)
      ∧ r.2.mem ((c.tc : Thread Cert.GatherRef.nD Cert.GatherRef.τ).loc Cert.GatherRef.main_arg4) = m ((c.tc : Thread Cert.GatherRef.nD Cert.GatherRef.τ).loc Cert.GatherRef.main_arg4))
      ∧ r.2.sem = fun _ => 0)

def quiescent_GatherRefIdeal [hGatherRefIdeal : Cert.GatherRefIdeal.Facts] : Prop :=
  ∀ (m : (ℓ : Loc Cert.GatherRefIdeal.nD Cert.GatherRefIdeal.τ Cert.GatherRefIdeal.sig) → Buf (Elt Ideal) ℓ) (g : Dev Cert.GatherRefIdeal.nD → PrngReg), Pre_GatherRefIdeal m →
    θ_run (Cert.GatherRefIdeal.defs (F := Ideal)) (onTc (τ := Cert.GatherRefIdeal.τ) (Cert.GatherRefIdeal.main (F := Ideal))) ⟨m, fun _ => 0, g⟩ (fun r => (∀ c : Dev Cert.GatherRefIdeal.nD,
      r.2.mem ((c.tc : Thread Cert.GatherRefIdeal.nD Cert.GatherRefIdeal.τ).loc Cert.GatherRefIdeal.main_arg0) = m ((c.tc : Thread Cert.GatherRefIdeal.nD Cert.GatherRefIdeal.τ).loc Cert.GatherRefIdeal.main_arg0)
      ∧ r.2.mem ((c.tc : Thread Cert.GatherRefIdeal.nD Cert.GatherRefIdeal.τ).loc Cert.GatherRefIdeal.main_arg1) = m ((c.tc : Thread Cert.GatherRefIdeal.nD Cert.GatherRefIdeal.τ).loc Cert.GatherRefIdeal.main_arg1)
      ∧ r.2.mem ((c.tc : Thread Cert.GatherRefIdeal.nD Cert.GatherRefIdeal.τ).loc Cert.GatherRefIdeal.main_arg2) = m ((c.tc : Thread Cert.GatherRefIdeal.nD Cert.GatherRefIdeal.τ).loc Cert.GatherRefIdeal.main_arg2)
      ∧ r.2.mem ((c.tc : Thread Cert.GatherRefIdeal.nD Cert.GatherRefIdeal.τ).loc Cert.GatherRefIdeal.main_arg3) = m ((c.tc : Thread Cert.GatherRefIdeal.nD Cert.GatherRefIdeal.τ).loc Cert.GatherRefIdeal.main_arg3)
      ∧ r.2.mem ((c.tc : Thread Cert.GatherRefIdeal.nD Cert.GatherRefIdeal.τ).loc Cert.GatherRefIdeal.main_arg4) = m ((c.tc : Thread Cert.GatherRefIdeal.nD Cert.GatherRefIdeal.τ).loc Cert.GatherRefIdeal.main_arg4))
      ∧ r.2.sem = fun _ => 0)

def quiescent_AdamEvenIn [hAdamEvenIn : Cert.AdamEvenIn.Facts] : Prop :=
  ∀ (m : (ℓ : Loc Cert.AdamEvenIn.nD Cert.AdamEvenIn.τ Cert.AdamEvenIn.sig) → Buf (Elt Bits) ℓ) (g : Dev Cert.AdamEvenIn.nD → PrngReg), Pre_AdamEvenIn m →
    θ_run (Cert.AdamEvenIn.defs (F := Bits)) (onTc (τ := Cert.AdamEvenIn.τ) (Cert.AdamEvenIn.main (F := Bits))) ⟨m, fun _ => 0, g⟩ (fun r => (∀ c : Dev Cert.AdamEvenIn.nD,
      r.2.mem ((c.tc : Thread Cert.AdamEvenIn.nD Cert.AdamEvenIn.τ).loc Cert.AdamEvenIn.main_arg0) = m ((c.tc : Thread Cert.AdamEvenIn.nD Cert.AdamEvenIn.τ).loc Cert.AdamEvenIn.main_arg0)
      ∧ r.2.mem ((c.tc : Thread Cert.AdamEvenIn.nD Cert.AdamEvenIn.τ).loc Cert.AdamEvenIn.main_arg1) = m ((c.tc : Thread Cert.AdamEvenIn.nD Cert.AdamEvenIn.τ).loc Cert.AdamEvenIn.main_arg1)
      ∧ r.2.mem ((c.tc : Thread Cert.AdamEvenIn.nD Cert.AdamEvenIn.τ).loc Cert.AdamEvenIn.main_arg2) = m ((c.tc : Thread Cert.AdamEvenIn.nD Cert.AdamEvenIn.τ).loc Cert.AdamEvenIn.main_arg2)
      ∧ r.2.mem ((c.tc : Thread Cert.AdamEvenIn.nD Cert.AdamEvenIn.τ).loc Cert.AdamEvenIn.main_arg3) = m ((c.tc : Thread Cert.AdamEvenIn.nD Cert.AdamEvenIn.τ).loc Cert.AdamEvenIn.main_arg3))
      ∧ r.2.sem = fun _ => 0)

def quiescent_AdamEvenInIdeal [hAdamEvenInIdeal : Cert.AdamEvenInIdeal.Facts] : Prop :=
  ∀ (m : (ℓ : Loc Cert.AdamEvenInIdeal.nD Cert.AdamEvenInIdeal.τ Cert.AdamEvenInIdeal.sig) → Buf (Elt Ideal) ℓ) (g : Dev Cert.AdamEvenInIdeal.nD → PrngReg), Pre_AdamEvenInIdeal m →
    θ_run (Cert.AdamEvenInIdeal.defs (F := Ideal)) (onTc (τ := Cert.AdamEvenInIdeal.τ) (Cert.AdamEvenInIdeal.main (F := Ideal))) ⟨m, fun _ => 0, g⟩ (fun r => (∀ c : Dev Cert.AdamEvenInIdeal.nD,
      r.2.mem ((c.tc : Thread Cert.AdamEvenInIdeal.nD Cert.AdamEvenInIdeal.τ).loc Cert.AdamEvenInIdeal.main_arg0) = m ((c.tc : Thread Cert.AdamEvenInIdeal.nD Cert.AdamEvenInIdeal.τ).loc Cert.AdamEvenInIdeal.main_arg0)
      ∧ r.2.mem ((c.tc : Thread Cert.AdamEvenInIdeal.nD Cert.AdamEvenInIdeal.τ).loc Cert.AdamEvenInIdeal.main_arg1) = m ((c.tc : Thread Cert.AdamEvenInIdeal.nD Cert.AdamEvenInIdeal.τ).loc Cert.AdamEvenInIdeal.main_arg1)
      ∧ r.2.mem ((c.tc : Thread Cert.AdamEvenInIdeal.nD Cert.AdamEvenInIdeal.τ).loc Cert.AdamEvenInIdeal.main_arg2) = m ((c.tc : Thread Cert.AdamEvenInIdeal.nD Cert.AdamEvenInIdeal.τ).loc Cert.AdamEvenInIdeal.main_arg2)
      ∧ r.2.mem ((c.tc : Thread Cert.AdamEvenInIdeal.nD Cert.AdamEvenInIdeal.τ).loc Cert.AdamEvenInIdeal.main_arg3) = m ((c.tc : Thread Cert.AdamEvenInIdeal.nD Cert.AdamEvenInIdeal.τ).loc Cert.AdamEvenInIdeal.main_arg3))
      ∧ r.2.sem = fun _ => 0)

def quiescent_AdamEvenInRef [hAdamEvenInRef : Cert.AdamEvenInRef.Facts] : Prop :=
  ∀ (m : (ℓ : Loc Cert.AdamEvenInRef.nD Cert.AdamEvenInRef.τ Cert.AdamEvenInRef.sig) → Buf (Elt Bits) ℓ) (g : Dev Cert.AdamEvenInRef.nD → PrngReg), Pre_AdamEvenInRef m →
    θ_run (Cert.AdamEvenInRef.defs (F := Bits)) (onTc (τ := Cert.AdamEvenInRef.τ) (Cert.AdamEvenInRef.main (F := Bits))) ⟨m, fun _ => 0, g⟩ (fun r => (∀ c : Dev Cert.AdamEvenInRef.nD,
      r.2.mem ((c.tc : Thread Cert.AdamEvenInRef.nD Cert.AdamEvenInRef.τ).loc Cert.AdamEvenInRef.main_arg0) = m ((c.tc : Thread Cert.AdamEvenInRef.nD Cert.AdamEvenInRef.τ).loc Cert.AdamEvenInRef.main_arg0)
      ∧ r.2.mem ((c.tc : Thread Cert.AdamEvenInRef.nD Cert.AdamEvenInRef.τ).loc Cert.AdamEvenInRef.main_arg1) = m ((c.tc : Thread Cert.AdamEvenInRef.nD Cert.AdamEvenInRef.τ).loc Cert.AdamEvenInRef.main_arg1)
      ∧ r.2.mem ((c.tc : Thread Cert.AdamEvenInRef.nD Cert.AdamEvenInRef.τ).loc Cert.AdamEvenInRef.main_arg2) = m ((c.tc : Thread Cert.AdamEvenInRef.nD Cert.AdamEvenInRef.τ).loc Cert.AdamEvenInRef.main_arg2)
      ∧ r.2.mem ((c.tc : Thread Cert.AdamEvenInRef.nD Cert.AdamEvenInRef.τ).loc Cert.AdamEvenInRef.main_arg3) = m ((c.tc : Thread Cert.AdamEvenInRef.nD Cert.AdamEvenInRef.τ).loc Cert.AdamEvenInRef.main_arg3))
      ∧ r.2.sem = fun _ => 0)

def quiescent_AdamEvenInRefIdeal [hAdamEvenInRefIdeal : Cert.AdamEvenInRefIdeal.Facts] : Prop :=
  ∀ (m : (ℓ : Loc Cert.AdamEvenInRefIdeal.nD Cert.AdamEvenInRefIdeal.τ Cert.AdamEvenInRefIdeal.sig) → Buf (Elt Ideal) ℓ) (g : Dev Cert.AdamEvenInRefIdeal.nD → PrngReg), Pre_AdamEvenInRefIdeal m →
    θ_run (Cert.AdamEvenInRefIdeal.defs (F := Ideal)) (onTc (τ := Cert.AdamEvenInRefIdeal.τ) (Cert.AdamEvenInRefIdeal.main (F := Ideal))) ⟨m, fun _ => 0, g⟩ (fun r => (∀ c : Dev Cert.AdamEvenInRefIdeal.nD,
      r.2.mem ((c.tc : Thread Cert.AdamEvenInRefIdeal.nD Cert.AdamEvenInRefIdeal.τ).loc Cert.AdamEvenInRefIdeal.main_arg0) = m ((c.tc : Thread Cert.AdamEvenInRefIdeal.nD Cert.AdamEvenInRefIdeal.τ).loc Cert.AdamEvenInRefIdeal.main_arg0)
      ∧ r.2.mem ((c.tc : Thread Cert.AdamEvenInRefIdeal.nD Cert.AdamEvenInRefIdeal.τ).loc Cert.AdamEvenInRefIdeal.main_arg1) = m ((c.tc : Thread Cert.AdamEvenInRefIdeal.nD Cert.AdamEvenInRefIdeal.τ).loc Cert.AdamEvenInRefIdeal.main_arg1)
      ∧ r.2.mem ((c.tc : Thread Cert.AdamEvenInRefIdeal.nD Cert.AdamEvenInRefIdeal.τ).loc Cert.AdamEvenInRefIdeal.main_arg2) = m ((c.tc : Thread Cert.AdamEvenInRefIdeal.nD Cert.AdamEvenInRefIdeal.τ).loc Cert.AdamEvenInRefIdeal.main_arg2)
      ∧ r.2.mem ((c.tc : Thread Cert.AdamEvenInRefIdeal.nD Cert.AdamEvenInRefIdeal.τ).loc Cert.AdamEvenInRefIdeal.main_arg3) = m ((c.tc : Thread Cert.AdamEvenInRefIdeal.nD Cert.AdamEvenInRefIdeal.τ).loc Cert.AdamEvenInRefIdeal.main_arg3))
      ∧ r.2.sem = fun _ => 0)

def quiescent_AdamOddIn [hAdamOddIn : Cert.AdamOddIn.Facts] : Prop :=
  ∀ (m : (ℓ : Loc Cert.AdamOddIn.nD Cert.AdamOddIn.τ Cert.AdamOddIn.sig) → Buf (Elt Bits) ℓ) (g : Dev Cert.AdamOddIn.nD → PrngReg), Pre_AdamOddIn m →
    θ_run (Cert.AdamOddIn.defs (F := Bits)) (onTc (τ := Cert.AdamOddIn.τ) (Cert.AdamOddIn.main (F := Bits))) ⟨m, fun _ => 0, g⟩ (fun r => (∀ c : Dev Cert.AdamOddIn.nD,
      r.2.mem ((c.tc : Thread Cert.AdamOddIn.nD Cert.AdamOddIn.τ).loc Cert.AdamOddIn.main_arg0) = m ((c.tc : Thread Cert.AdamOddIn.nD Cert.AdamOddIn.τ).loc Cert.AdamOddIn.main_arg0)
      ∧ r.2.mem ((c.tc : Thread Cert.AdamOddIn.nD Cert.AdamOddIn.τ).loc Cert.AdamOddIn.main_arg1) = m ((c.tc : Thread Cert.AdamOddIn.nD Cert.AdamOddIn.τ).loc Cert.AdamOddIn.main_arg1)
      ∧ r.2.mem ((c.tc : Thread Cert.AdamOddIn.nD Cert.AdamOddIn.τ).loc Cert.AdamOddIn.main_arg2) = m ((c.tc : Thread Cert.AdamOddIn.nD Cert.AdamOddIn.τ).loc Cert.AdamOddIn.main_arg2)
      ∧ r.2.mem ((c.tc : Thread Cert.AdamOddIn.nD Cert.AdamOddIn.τ).loc Cert.AdamOddIn.main_arg3) = m ((c.tc : Thread Cert.AdamOddIn.nD Cert.AdamOddIn.τ).loc Cert.AdamOddIn.main_arg3))
      ∧ r.2.sem = fun _ => 0)

def quiescent_AdamOddInIdeal [hAdamOddInIdeal : Cert.AdamOddInIdeal.Facts] : Prop :=
  ∀ (m : (ℓ : Loc Cert.AdamOddInIdeal.nD Cert.AdamOddInIdeal.τ Cert.AdamOddInIdeal.sig) → Buf (Elt Ideal) ℓ) (g : Dev Cert.AdamOddInIdeal.nD → PrngReg), Pre_AdamOddInIdeal m →
    θ_run (Cert.AdamOddInIdeal.defs (F := Ideal)) (onTc (τ := Cert.AdamOddInIdeal.τ) (Cert.AdamOddInIdeal.main (F := Ideal))) ⟨m, fun _ => 0, g⟩ (fun r => (∀ c : Dev Cert.AdamOddInIdeal.nD,
      r.2.mem ((c.tc : Thread Cert.AdamOddInIdeal.nD Cert.AdamOddInIdeal.τ).loc Cert.AdamOddInIdeal.main_arg0) = m ((c.tc : Thread Cert.AdamOddInIdeal.nD Cert.AdamOddInIdeal.τ).loc Cert.AdamOddInIdeal.main_arg0)
      ∧ r.2.mem ((c.tc : Thread Cert.AdamOddInIdeal.nD Cert.AdamOddInIdeal.τ).loc Cert.AdamOddInIdeal.main_arg1) = m ((c.tc : Thread Cert.AdamOddInIdeal.nD Cert.AdamOddInIdeal.τ).loc Cert.AdamOddInIdeal.main_arg1)
      ∧ r.2.mem ((c.tc : Thread Cert.AdamOddInIdeal.nD Cert.AdamOddInIdeal.τ).loc Cert.AdamOddInIdeal.main_arg2) = m ((c.tc : Thread Cert.AdamOddInIdeal.nD Cert.AdamOddInIdeal.τ).loc Cert.AdamOddInIdeal.main_arg2)
      ∧ r.2.mem ((c.tc : Thread Cert.AdamOddInIdeal.nD Cert.AdamOddInIdeal.τ).loc Cert.AdamOddInIdeal.main_arg3) = m ((c.tc : Thread Cert.AdamOddInIdeal.nD Cert.AdamOddInIdeal.τ).loc Cert.AdamOddInIdeal.main_arg3))
      ∧ r.2.sem = fun _ => 0)

def quiescent_AdamOddInRef [hAdamOddInRef : Cert.AdamOddInRef.Facts] : Prop :=
  ∀ (m : (ℓ : Loc Cert.AdamOddInRef.nD Cert.AdamOddInRef.τ Cert.AdamOddInRef.sig) → Buf (Elt Bits) ℓ) (g : Dev Cert.AdamOddInRef.nD → PrngReg), Pre_AdamOddInRef m →
    θ_run (Cert.AdamOddInRef.defs (F := Bits)) (onTc (τ := Cert.AdamOddInRef.τ) (Cert.AdamOddInRef.main (F := Bits))) ⟨m, fun _ => 0, g⟩ (fun r => (∀ c : Dev Cert.AdamOddInRef.nD,
      r.2.mem ((c.tc : Thread Cert.AdamOddInRef.nD Cert.AdamOddInRef.τ).loc Cert.AdamOddInRef.main_arg0) = m ((c.tc : Thread Cert.AdamOddInRef.nD Cert.AdamOddInRef.τ).loc Cert.AdamOddInRef.main_arg0)
      ∧ r.2.mem ((c.tc : Thread Cert.AdamOddInRef.nD Cert.AdamOddInRef.τ).loc Cert.AdamOddInRef.main_arg1) = m ((c.tc : Thread Cert.AdamOddInRef.nD Cert.AdamOddInRef.τ).loc Cert.AdamOddInRef.main_arg1)
      ∧ r.2.mem ((c.tc : Thread Cert.AdamOddInRef.nD Cert.AdamOddInRef.τ).loc Cert.AdamOddInRef.main_arg2) = m ((c.tc : Thread Cert.AdamOddInRef.nD Cert.AdamOddInRef.τ).loc Cert.AdamOddInRef.main_arg2)
      ∧ r.2.mem ((c.tc : Thread Cert.AdamOddInRef.nD Cert.AdamOddInRef.τ).loc Cert.AdamOddInRef.main_arg3) = m ((c.tc : Thread Cert.AdamOddInRef.nD Cert.AdamOddInRef.τ).loc Cert.AdamOddInRef.main_arg3))
      ∧ r.2.sem = fun _ => 0)

def quiescent_AdamOddInRefIdeal [hAdamOddInRefIdeal : Cert.AdamOddInRefIdeal.Facts] : Prop :=
  ∀ (m : (ℓ : Loc Cert.AdamOddInRefIdeal.nD Cert.AdamOddInRefIdeal.τ Cert.AdamOddInRefIdeal.sig) → Buf (Elt Ideal) ℓ) (g : Dev Cert.AdamOddInRefIdeal.nD → PrngReg), Pre_AdamOddInRefIdeal m →
    θ_run (Cert.AdamOddInRefIdeal.defs (F := Ideal)) (onTc (τ := Cert.AdamOddInRefIdeal.τ) (Cert.AdamOddInRefIdeal.main (F := Ideal))) ⟨m, fun _ => 0, g⟩ (fun r => (∀ c : Dev Cert.AdamOddInRefIdeal.nD,
      r.2.mem ((c.tc : Thread Cert.AdamOddInRefIdeal.nD Cert.AdamOddInRefIdeal.τ).loc Cert.AdamOddInRefIdeal.main_arg0) = m ((c.tc : Thread Cert.AdamOddInRefIdeal.nD Cert.AdamOddInRefIdeal.τ).loc Cert.AdamOddInRefIdeal.main_arg0)
      ∧ r.2.mem ((c.tc : Thread Cert.AdamOddInRefIdeal.nD Cert.AdamOddInRefIdeal.τ).loc Cert.AdamOddInRefIdeal.main_arg1) = m ((c.tc : Thread Cert.AdamOddInRefIdeal.nD Cert.AdamOddInRefIdeal.τ).loc Cert.AdamOddInRefIdeal.main_arg1)
      ∧ r.2.mem ((c.tc : Thread Cert.AdamOddInRefIdeal.nD Cert.AdamOddInRefIdeal.τ).loc Cert.AdamOddInRefIdeal.main_arg2) = m ((c.tc : Thread Cert.AdamOddInRefIdeal.nD Cert.AdamOddInRefIdeal.τ).loc Cert.AdamOddInRefIdeal.main_arg2)
      ∧ r.2.mem ((c.tc : Thread Cert.AdamOddInRefIdeal.nD Cert.AdamOddInRefIdeal.τ).loc Cert.AdamOddInRefIdeal.main_arg3) = m ((c.tc : Thread Cert.AdamOddInRefIdeal.nD Cert.AdamOddInRefIdeal.τ).loc Cert.AdamOddInRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRef [hAdamOutRef : Cert.AdamOutRef.Facts] : Prop :=
  ∀ (m : (ℓ : Loc Cert.AdamOutRef.nD Cert.AdamOutRef.τ Cert.AdamOutRef.sig) → Buf (Elt Bits) ℓ) (g : Dev Cert.AdamOutRef.nD → PrngReg), Pre_AdamOutRef m →
    θ_run (Cert.AdamOutRef.defs (F := Bits)) (onTc (τ := Cert.AdamOutRef.τ) (Cert.AdamOutRef.main (F := Bits))) ⟨m, fun _ => 0, g⟩ (fun r => (∀ c : Dev Cert.AdamOutRef.nD,
      r.2.mem ((c.tc : Thread Cert.AdamOutRef.nD Cert.AdamOutRef.τ).loc Cert.AdamOutRef.main_arg0) = m ((c.tc : Thread Cert.AdamOutRef.nD Cert.AdamOutRef.τ).loc Cert.AdamOutRef.main_arg0)
      ∧ r.2.mem ((c.tc : Thread Cert.AdamOutRef.nD Cert.AdamOutRef.τ).loc Cert.AdamOutRef.main_arg1) = m ((c.tc : Thread Cert.AdamOutRef.nD Cert.AdamOutRef.τ).loc Cert.AdamOutRef.main_arg1)
      ∧ r.2.mem ((c.tc : Thread Cert.AdamOutRef.nD Cert.AdamOutRef.τ).loc Cert.AdamOutRef.main_arg2) = m ((c.tc : Thread Cert.AdamOutRef.nD Cert.AdamOutRef.τ).loc Cert.AdamOutRef.main_arg2)
      ∧ r.2.mem ((c.tc : Thread Cert.AdamOutRef.nD Cert.AdamOutRef.τ).loc Cert.AdamOutRef.main_arg3) = m ((c.tc : Thread Cert.AdamOutRef.nD Cert.AdamOutRef.τ).loc Cert.AdamOutRef.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3)
      ∧ r.2.mem ((c.tc : Thread Cert.AdamSmall.nD Cert.AdamSmall.τ).loc Cert.AdamSmall.main_arg4) = m ((c.tc : Thread Cert.AdamSmall.nD Cert.AdamSmall.τ).loc Cert.AdamSmall.main_arg4)
      ∧ r.2.mem ((c.tc : Thread Cert.AdamSmall.nD Cert.AdamSmall.τ).loc Cert.AdamSmall.main_arg5) = m ((c.tc : Thread Cert.AdamSmall.nD Cert.AdamSmall.τ).loc Cert.AdamSmall.main_arg5)
      ∧ r.2.mem ((c.tc : Thread Cert.AdamSmall.nD Cert.AdamSmall.τ).loc Cert.AdamSmall.main_arg6) = m ((c.tc : Thread Cert.AdamSmall.nD Cert.AdamSmall.τ).loc Cert.AdamSmall.main_arg6)
      ∧ r.2.mem ((c.tc : Thread Cert.AdamSmall.nD Cert.AdamSmall.τ).loc Cert.AdamSmall.main_arg7) = m ((c.tc : Thread Cert.AdamSmall.nD Cert.AdamSmall.τ).loc Cert.AdamSmall.main_arg7)
      ∧ r.2.mem ((c.tc : Thread Cert.AdamSmall.nD Cert.AdamSmall.τ).loc Cert.AdamSmall.main_arg8) = m ((c.tc : Thread Cert.AdamSmall.nD Cert.AdamSmall.τ).loc Cert.AdamSmall.main_arg8)
      ∧ r.2.mem ((c.tc : Thread Cert.AdamSmall.nD Cert.AdamSmall.τ).loc Cert.AdamSmall.main_arg9) = m ((c.tc : Thread Cert.AdamSmall.nD Cert.AdamSmall.τ).loc Cert.AdamSmall.main_arg9)
      ∧ r.2.mem ((c.tc : Thread Cert.AdamSmall.nD Cert.AdamSmall.τ).loc Cert.AdamSmall.main_arg10) = m ((c.tc : Thread Cert.AdamSmall.nD Cert.AdamSmall.τ).loc Cert.AdamSmall.main_arg10)
      ∧ r.2.mem ((c.tc : Thread Cert.AdamSmall.nD Cert.AdamSmall.τ).loc Cert.AdamSmall.main_arg11) = m ((c.tc : Thread Cert.AdamSmall.nD Cert.AdamSmall.τ).loc Cert.AdamSmall.main_arg11)
      ∧ r.2.mem ((c.tc : Thread Cert.AdamSmall.nD Cert.AdamSmall.τ).loc Cert.AdamSmall.main_arg12) = m ((c.tc : Thread Cert.AdamSmall.nD Cert.AdamSmall.τ).loc Cert.AdamSmall.main_arg12)
      ∧ r.2.mem ((c.tc : Thread Cert.AdamSmall.nD Cert.AdamSmall.τ).loc Cert.AdamSmall.main_arg13) = m ((c.tc : Thread Cert.AdamSmall.nD Cert.AdamSmall.τ).loc Cert.AdamSmall.main_arg13)
      ∧ r.2.mem ((c.tc : Thread Cert.AdamSmall.nD Cert.AdamSmall.τ).loc Cert.AdamSmall.main_arg14) = m ((c.tc : Thread Cert.AdamSmall.nD Cert.AdamSmall.τ).loc Cert.AdamSmall.main_arg14)
      ∧ r.2.mem ((c.tc : Thread Cert.AdamSmall.nD Cert.AdamSmall.τ).loc Cert.AdamSmall.main_arg15) = m ((c.tc : Thread Cert.AdamSmall.nD Cert.AdamSmall.τ).loc Cert.AdamSmall.main_arg15)
      ∧ r.2.mem ((c.tc : Thread Cert.AdamSmall.nD Cert.AdamSmall.τ).loc Cert.AdamSmall.main_arg16) = m ((c.tc : Thread Cert.AdamSmall.nD Cert.AdamSmall.τ).loc Cert.AdamSmall.main_arg16)
      ∧ r.2.mem ((c.tc : Thread Cert.AdamSmall.nD Cert.AdamSmall.τ).loc Cert.AdamSmall.main_arg17) = m ((c.tc : Thread Cert.AdamSmall.nD Cert.AdamSmall.τ).loc Cert.AdamSmall.main_arg17)
      ∧ r.2.mem ((c.tc : Thread Cert.AdamSmall.nD Cert.AdamSmall.τ).loc Cert.AdamSmall.main_arg18) = m ((c.tc : Thread Cert.AdamSmall.nD Cert.AdamSmall.τ).loc Cert.AdamSmall.main_arg18)
      ∧ r.2.mem ((c.tc : Thread Cert.AdamSmall.nD Cert.AdamSmall.τ).loc Cert.AdamSmall.main_arg19) = m ((c.tc : Thread Cert.AdamSmall.nD Cert.AdamSmall.τ).loc Cert.AdamSmall.main_arg19)
      ∧ r.2.mem ((c.tc : Thread Cert.AdamSmall.nD Cert.AdamSmall.τ).loc Cert.AdamSmall.main_arg20) = m ((c.tc : Thread Cert.AdamSmall.nD Cert.AdamSmall.τ).loc Cert.AdamSmall.main_arg20)
      ∧ r.2.mem ((c.tc : Thread Cert.AdamSmall.nD Cert.AdamSmall.τ).loc Cert.AdamSmall.main_arg21) = m ((c.tc : Thread Cert.AdamSmall.nD Cert.AdamSmall.τ).loc Cert.AdamSmall.main_arg21)
      ∧ r.2.mem ((c.tc : Thread Cert.AdamSmall.nD Cert.AdamSmall.τ).loc Cert.AdamSmall.main_arg22) = m ((c.tc : Thread Cert.AdamSmall.nD Cert.AdamSmall.τ).loc Cert.AdamSmall.main_arg22)
      ∧ r.2.mem ((c.tc : Thread Cert.AdamSmall.nD Cert.AdamSmall.τ).loc Cert.AdamSmall.main_arg23) = m ((c.tc : Thread Cert.AdamSmall.nD Cert.AdamSmall.τ).loc Cert.AdamSmall.main_arg23))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
      ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
      ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
      ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
      ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
      ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
      ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
      ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
      ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
      ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
      ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
      ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
      ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
      ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
      ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
      ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
      ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
      ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
      ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21)
      ∧ r.2.mem ((c.tc : Thread Cert.AdamSmallIdeal.nD Cert.AdamSmallIdeal.τ).loc Cert.AdamSmallIdeal.main_arg22) = m ((c.tc : Thread Cert.AdamSmallIdeal.nD Cert.AdamSmallIdeal.τ).loc Cert.AdamSmallIdeal.main_arg22)
      ∧ r.2.mem ((c.tc : Thread Cert.AdamSmallIdeal.nD Cert.AdamSmallIdeal.τ).loc Cert.AdamSmallIdeal.main_arg23) = m ((c.tc : Thread Cert.AdamSmallIdeal.nD Cert.AdamSmallIdeal.τ).loc Cert.AdamSmallIdeal.main_arg23))
      ∧ r.2.sem = fun _ => 0)

def quiescent_AdamSmallRef [hAdamSmallRef : Cert.AdamSmallRef.Facts] : Prop :=
  ∀ (m : (ℓ : Loc Cert.AdamSmallRef.nD Cert.AdamSmallRef.τ Cert.AdamSmallRef.sig) → Buf (Elt Bits) ℓ) (g : Dev Cert.AdamSmallRef.nD → PrngReg), Pre_AdamSmallRef m →
    θ_run (Cert.AdamSmallRef.defs (F := Bits)) (onTc (τ := Cert.AdamSmallRef.τ) (Cert.AdamSmallRef.main (F := Bits))) ⟨m, fun _ => 0, g⟩ (fun r => (∀ c : Dev Cert.AdamSmallRef.nD,
      r.2.mem ((c.tc : Thread Cert.AdamSmallRef.nD Cert.AdamSmallRef.τ).loc Cert.AdamSmallRef.main_arg0) = m ((c.tc : Thread Cert.AdamSmallRef.nD Cert.AdamSmallRef.τ).loc Cert.AdamSmallRef.main_arg0)
      ∧ r.2.mem ((c.tc : Thread Cert.AdamSmallRef.nD Cert.AdamSmallRef.τ).loc Cert.AdamSmallRef.main_arg1) = m ((c.tc : Thread Cert.AdamSmallRef.nD Cert.AdamSmallRef.τ).loc Cert.AdamSmallRef.main_arg1)
      ∧ r.2.mem ((c.tc : Thread Cert.AdamSmallRef.nD Cert.AdamSmallRef.τ).loc Cert.AdamSmallRef.main_arg2) = m ((c.tc : Thread Cert.AdamSmallRef.nD Cert.AdamSmallRef.τ).loc Cert.AdamSmallRef.main_arg2)
      ∧ r.2.mem ((c.tc : Thread Cert.AdamSmallRef.nD Cert.AdamSmallRef.τ).loc Cert.AdamSmallRef.main_arg3) = m ((c.tc : Thread Cert.AdamSmallRef.nD Cert.AdamSmallRef.τ).loc Cert.AdamSmallRef.main_arg3)
      ∧ r.2.mem ((c.tc : Thread Cert.AdamSmallRef.nD Cert.AdamSmallRef.τ).loc Cert.AdamSmallRef.main_arg4) = m ((c.tc : Thread Cert.AdamSmallRef.nD Cert.AdamSmallRef.τ).loc Cert.AdamSmallRef.main_arg4)
      ∧ r.2.mem ((c.tc : Thread Cert.AdamSmallRef.nD Cert.AdamSmallRef.τ).loc Cert.AdamSmallRef.main_arg5) = m ((c.tc : Thread Cert.AdamSmallRef.nD Cert.AdamSmallRef.τ).loc Cert.AdamSmallRef.main_arg5)
      ∧ r.2.mem ((c.tc : Thread Cert.AdamSmallRef.nD Cert.AdamSmallRef.τ).loc Cert.AdamSmallRef.main_arg6) = m ((c.tc : Thread Cert.AdamSmallRef.nD Cert.AdamSmallRef.τ).loc Cert.AdamSmallRef.main_arg6)
      ∧ r.2.mem ((c.tc : Thread Cert.AdamSmallRef.nD Cert.AdamSmallRef.τ).loc Cert.AdamSmallRef.main_arg7) = m ((c.tc : Thread Cert.AdamSmallRef.nD Cert.AdamSmallRef.τ).loc Cert.AdamSmallRef.main_arg7)
      ∧ r.2.mem ((c.tc : Thread Cert.AdamSmallRef.nD Cert.AdamSmallRef.τ).loc Cert.AdamSmallRef.main_arg8) = m ((c.tc : Thread Cert.AdamSmallRef.nD Cert.AdamSmallRef.τ).loc Cert.AdamSmallRef.main_arg8)
      ∧ r.2.mem ((c.tc : Thread Cert.AdamSmallRef.nD Cert.AdamSmallRef.τ).loc Cert.AdamSmallRef.main_arg9) = m ((c.tc : Thread Cert.AdamSmallRef.nD Cert.AdamSmallRef.τ).loc Cert.AdamSmallRef.main_arg9)
      ∧ r.2.mem ((c.tc : Thread Cert.AdamSmallRef.nD Cert.AdamSmallRef.τ).loc Cert.AdamSmallRef.main_arg10) = m ((c.tc : Thread Cert.AdamSmallRef.nD Cert.AdamSmallRef.τ).loc Cert.AdamSmallRef.main_arg10)
      ∧ r.2.mem ((c.tc : Thread Cert.AdamSmallRef.nD Cert.AdamSmallRef.τ).loc Cert.AdamSmallRef.main_arg11) = m ((c.tc : Thread Cert.AdamSmallRef.nD Cert.AdamSmallRef.τ).loc Cert.AdamSmallRef.main_arg11)
      ∧ r.2.mem ((c.tc : Thread Cert.AdamSmallRef.nD Cert.AdamSmallRef.τ).loc Cert.AdamSmallRef.main_arg12) = m ((c.tc : Thread Cert.AdamSmallRef.nD Cert.AdamSmallRef.τ).loc Cert.AdamSmallRef.main_arg12)
      ∧ r.2.mem ((c.tc : Thread Cert.AdamSmallRef.nD Cert.AdamSmallRef.τ).loc Cert.AdamSmallRef.main_arg13) = m ((c.tc : Thread Cert.AdamSmallRef.nD Cert.AdamSmallRef.τ).loc Cert.AdamSmallRef.main_arg13)
      ∧ r.2.mem ((c.tc : Thread Cert.AdamSmallRef.nD Cert.AdamSmallRef.τ).loc Cert.AdamSmallRef.main_arg14) = m ((c.tc : Thread Cert.AdamSmallRef.nD Cert.AdamSmallRef.τ).loc Cert.AdamSmallRef.main_arg14)
      ∧ r.2.mem ((c.tc : Thread Cert.AdamSmallRef.nD Cert.AdamSmallRef.τ).loc Cert.AdamSmallRef.main_arg15) = m ((c.tc : Thread Cert.AdamSmallRef.nD Cert.AdamSmallRef.τ).loc Cert.AdamSmallRef.main_arg15)
      ∧ r.2.mem ((c.tc : Thread Cert.AdamSmallRef.nD Cert.AdamSmallRef.τ).loc Cert.AdamSmallRef.main_arg16) = m ((c.tc : Thread Cert.AdamSmallRef.nD Cert.AdamSmallRef.τ).loc Cert.AdamSmallRef.main_arg16)
      ∧ r.2.mem ((c.tc : Thread Cert.AdamSmallRef.nD Cert.AdamSmallRef.τ).loc Cert.AdamSmallRef.main_arg17) = m ((c.tc : Thread Cert.AdamSmallRef.nD Cert.AdamSmallRef.τ).loc Cert.AdamSmallRef.main_arg17)
      ∧ r.2.mem ((c.tc : Thread Cert.AdamSmallRef.nD Cert.AdamSmallRef.τ).loc Cert.AdamSmallRef.main_arg18) = m ((c.tc : Thread Cert.AdamSmallRef.nD Cert.AdamSmallRef.τ).loc Cert.AdamSmallRef.main_arg18)
      ∧ r.2.mem ((c.tc : Thread Cert.AdamSmallRef.nD Cert.AdamSmallRef.τ).loc Cert.AdamSmallRef.main_arg19) = m ((c.tc : Thread Cert.AdamSmallRef.nD Cert.AdamSmallRef.τ).loc Cert.AdamSmallRef.main_arg19)
      ∧ r.2.mem ((c.tc : Thread Cert.AdamSmallRef.nD Cert.AdamSmallRef.τ).loc Cert.AdamSmallRef.main_arg20) = m ((c.tc : Thread Cert.AdamSmallRef.nD Cert.AdamSmallRef.τ).loc Cert.AdamSmallRef.main_arg20)
      ∧ r.2.mem ((c.tc : Thread Cert.AdamSmallRef.nD Cert.AdamSmallRef.τ).loc Cert.AdamSmallRef.main_arg21) = m ((c.tc : Thread Cert.AdamSmallRef.nD Cert.AdamSmallRef.τ).loc Cert.AdamSmallRef.main_arg21)
      ∧ r.2.mem ((c.tc : Thread Cert.AdamSmallRef.nD Cert.AdamSmallRef.τ).loc Cert.AdamSmallRef.main_arg22) = m ((c.tc : Thread Cert.AdamSmallRef.nD Cert.AdamSmallRef.τ).loc Cert.AdamSmallRef.main_arg22)
      ∧ r.2.mem ((c.tc : Thread Cert.AdamSmallRef.nD Cert.AdamSmallRef.τ).loc Cert.AdamSmallRef.main_arg23) = m ((c.tc : Thread Cert.AdamSmallRef.nD Cert.AdamSmallRef.τ).loc Cert.AdamSmallRef.main_arg23))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3)
      ∧ r.2.mem ((c.tc : Thread Cert.AdamSmallRefIdeal.nD Cert.AdamSmallRefIdeal.τ).loc Cert.AdamSmallRefIdeal.main_arg4) = m ((c.tc : Thread Cert.AdamSmallRefIdeal.nD Cert.AdamSmallRefIdeal.τ).loc Cert.AdamSmallRefIdeal.main_arg4)
      ∧ r.2.mem ((c.tc : Thread Cert.AdamSmallRefIdeal.nD Cert.AdamSmallRefIdeal.τ).loc Cert.AdamSmallRefIdeal.main_arg5) = m ((c.tc : Thread Cert.AdamSmallRefIdeal.nD Cert.AdamSmallRefIdeal.τ).loc Cert.AdamSmallRefIdeal.main_arg5)
      ∧ r.2.mem ((c.tc : Thread Cert.AdamSmallRefIdeal.nD Cert.AdamSmallRefIdeal.τ).loc Cert.AdamSmallRefIdeal.main_arg6) = m ((c.tc : Thread Cert.AdamSmallRefIdeal.nD Cert.AdamSmallRefIdeal.τ).loc Cert.AdamSmallRefIdeal.main_arg6)
      ∧ r.2.mem ((c.tc : Thread Cert.AdamSmallRefIdeal.nD Cert.AdamSmallRefIdeal.τ).loc Cert.AdamSmallRefIdeal.main_arg7) = m ((c.tc : Thread Cert.AdamSmallRefIdeal.nD Cert.AdamSmallRefIdeal.τ).loc Cert.AdamSmallRefIdeal.main_arg7)
      ∧ r.2.mem ((c.tc : Thread Cert.AdamSmallRefIdeal.nD Cert.AdamSmallRefIdeal.τ).loc Cert.AdamSmallRefIdeal.main_arg8) = m ((c.tc : Thread Cert.AdamSmallRefIdeal.nD Cert.AdamSmallRefIdeal.τ).loc Cert.AdamSmallRefIdeal.main_arg8)
      ∧ r.2.mem ((c.tc : Thread Cert.AdamSmallRefIdeal.nD Cert.AdamSmallRefIdeal.τ).loc Cert.AdamSmallRefIdeal.main_arg9) = m ((c.tc : Thread Cert.AdamSmallRefIdeal.nD Cert.AdamSmallRefIdeal.τ).loc Cert.AdamSmallRefIdeal.main_arg9)
      ∧ r.2.mem ((c.tc : Thread Cert.AdamSmallRefIdeal.nD Cert.AdamSmallRefIdeal.τ).loc Cert.AdamSmallRefIdeal.main_arg10) = m ((c.tc : Thread Cert.AdamSmallRefIdeal.nD Cert.AdamSmallRefIdeal.τ).loc Cert.AdamSmallRefIdeal.main_arg10)
      ∧ r.2.mem ((c.tc : Thread Cert.AdamSmallRefIdeal.nD Cert.AdamSmallRefIdeal.τ).loc Cert.AdamSmallRefIdeal.main_arg11) = m ((c.tc : Thread Cert.AdamSmallRefIdeal.nD Cert.AdamSmallRefIdeal.τ).loc Cert.AdamSmallRefIdeal.main_arg11)
      ∧ r.2.mem ((c.tc : Thread Cert.AdamSmallRefIdeal.nD Cert.AdamSmallRefIdeal.τ).loc Cert.AdamSmallRefIdeal.main_arg12) = m ((c.tc : Thread Cert.AdamSmallRefIdeal.nD Cert.AdamSmallRefIdeal.τ).loc Cert.AdamSmallRefIdeal.main_arg12)
      ∧ r.2.mem ((c.tc : Thread Cert.AdamSmallRefIdeal.nD Cert.AdamSmallRefIdeal.τ).loc Cert.AdamSmallRefIdeal.main_arg13) = m ((c.tc : Thread Cert.AdamSmallRefIdeal.nD Cert.AdamSmallRefIdeal.τ).loc Cert.AdamSmallRefIdeal.main_arg13)
      ∧ r.2.mem ((c.tc : Thread Cert.AdamSmallRefIdeal.nD Cert.AdamSmallRefIdeal.τ).loc Cert.AdamSmallRefIdeal.main_arg14) = m ((c.tc : Thread Cert.AdamSmallRefIdeal.nD Cert.AdamSmallRefIdeal.τ).loc Cert.AdamSmallRefIdeal.main_arg14)
      ∧ r.2.mem ((c.tc : Thread Cert.AdamSmallRefIdeal.nD Cert.AdamSmallRefIdeal.τ).loc Cert.AdamSmallRefIdeal.main_arg15) = m ((c.tc : Thread Cert.AdamSmallRefIdeal.nD Cert.AdamSmallRefIdeal.τ).loc Cert.AdamSmallRefIdeal.main_arg15)
      ∧ r.2.mem ((c.tc : Thread Cert.AdamSmallRefIdeal.nD Cert.AdamSmallRefIdeal.τ).loc Cert.AdamSmallRefIdeal.main_arg16) = m ((c.tc : Thread Cert.AdamSmallRefIdeal.nD Cert.AdamSmallRefIdeal.τ).loc Cert.AdamSmallRefIdeal.main_arg16)
      ∧ r.2.mem ((c.tc : Thread Cert.AdamSmallRefIdeal.nD Cert.AdamSmallRefIdeal.τ).loc Cert.AdamSmallRefIdeal.main_arg17) = m ((c.tc : Thread Cert.AdamSmallRefIdeal.nD Cert.AdamSmallRefIdeal.τ).loc Cert.AdamSmallRefIdeal.main_arg17)
      ∧ r.2.mem ((c.tc : Thread Cert.AdamSmallRefIdeal.nD Cert.AdamSmallRefIdeal.τ).loc Cert.AdamSmallRefIdeal.main_arg18) = m ((c.tc : Thread Cert.AdamSmallRefIdeal.nD Cert.AdamSmallRefIdeal.τ).loc Cert.AdamSmallRefIdeal.main_arg18)
      ∧ r.2.mem ((c.tc : Thread Cert.AdamSmallRefIdeal.nD Cert.AdamSmallRefIdeal.τ).loc Cert.AdamSmallRefIdeal.main_arg19) = m ((c.tc : Thread Cert.AdamSmallRefIdeal.nD Cert.AdamSmallRefIdeal.τ).loc Cert.AdamSmallRefIdeal.main_arg19)
      ∧ r.2.mem ((c.tc : Thread Cert.AdamSmallRefIdeal.nD Cert.AdamSmallRefIdeal.τ).loc Cert.AdamSmallRefIdeal.main_arg20) = m ((c.tc : Thread Cert.AdamSmallRefIdeal.nD Cert.AdamSmallRefIdeal.τ).loc Cert.AdamSmallRefIdeal.main_arg20)
      ∧ r.2.mem ((c.tc : Thread Cert.AdamSmallRefIdeal.nD Cert.AdamSmallRefIdeal.τ).loc Cert.AdamSmallRefIdeal.main_arg21) = m ((c.tc : Thread Cert.AdamSmallRefIdeal.nD Cert.AdamSmallRefIdeal.τ).loc Cert.AdamSmallRefIdeal.main_arg21)
      ∧ r.2.mem ((c.tc : Thread Cert.AdamSmallRefIdeal.nD Cert.AdamSmallRefIdeal.τ).loc Cert.AdamSmallRefIdeal.main_arg22) = m ((c.tc : Thread Cert.AdamSmallRefIdeal.nD Cert.AdamSmallRefIdeal.τ).loc Cert.AdamSmallRefIdeal.main_arg22)
      ∧ r.2.mem ((c.tc : Thread Cert.AdamSmallRefIdeal.nD Cert.AdamSmallRefIdeal.τ).loc Cert.AdamSmallRefIdeal.main_arg23) = m ((c.tc : Thread Cert.AdamSmallRefIdeal.nD Cert.AdamSmallRefIdeal.τ).loc Cert.AdamSmallRefIdeal.main_arg23))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormRef [hNormRef : Cert.NormRef.Facts] : Prop :=
  ∀ (m : (ℓ : Loc Cert.NormRef.nD Cert.NormRef.τ Cert.NormRef.sig) → Buf (Elt Bits) ℓ) (g : Dev Cert.NormRef.nD → PrngReg), Pre_NormRef m →
    θ_run (Cert.NormRef.defs (F := Bits)) (onTc (τ := Cert.NormRef.τ) (Cert.NormRef.main (F := Bits))) ⟨m, fun _ => 0, g⟩ (fun r => (∀ c : Dev Cert.NormRef.nD,
      r.2.mem ((c.tc : Thread Cert.NormRef.nD Cert.NormRef.τ).loc Cert.NormRef.main_arg0) = m ((c.tc : Thread Cert.NormRef.nD Cert.NormRef.τ).loc Cert.NormRef.main_arg0)
      ∧ r.2.mem ((c.tc : Thread Cert.NormRef.nD Cert.NormRef.τ).loc Cert.NormRef.main_arg1) = m ((c.tc : Thread Cert.NormRef.nD Cert.NormRef.τ).loc Cert.NormRef.main_arg1)
      ∧ r.2.mem ((c.tc : Thread Cert.NormRef.nD Cert.NormRef.τ).loc Cert.NormRef.main_arg2) = m ((c.tc : Thread Cert.NormRef.nD Cert.NormRef.τ).loc Cert.NormRef.main_arg2)
      ∧ r.2.mem ((c.tc : Thread Cert.NormRef.nD Cert.NormRef.τ).loc Cert.NormRef.main_arg3) = m ((c.tc : Thread Cert.NormRef.nD Cert.NormRef.τ).loc Cert.NormRef.main_arg3))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossRef [hLossRef : Cert.LossRef.Facts] : Prop :=
  ∀ (m : (ℓ : Loc Cert.LossRef.nD Cert.LossRef.τ Cert.LossRef.sig) → Buf (Elt Bits) ℓ) (g : Dev Cert.LossRef.nD → PrngReg), Pre_LossRef m →
    θ_run (Cert.LossRef.defs (F := Bits)) (onTc (τ := Cert.LossRef.τ) (Cert.LossRef.main (F := Bits))) ⟨m, fun _ => 0, g⟩ (fun r => (∀ c : Dev Cert.LossRef.nD,
      r.2.mem ((c.tc : Thread Cert.LossRef.nD Cert.LossRef.τ).loc Cert.LossRef.main_arg0) = m ((c.tc : Thread Cert.LossRef.nD Cert.LossRef.τ).loc Cert.LossRef.main_arg0)
      ∧ r.2.mem ((c.tc : Thread Cert.LossRef.nD Cert.LossRef.τ).loc Cert.LossRef.main_arg1) = m ((c.tc : Thread Cert.LossRef.nD Cert.LossRef.τ).loc Cert.LossRef.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def quiescent_TotalLoss [hTotalLoss : Cert.TotalLoss.Facts] : Prop :=
  ∀ (m : (ℓ : Loc Cert.TotalLoss.nD Cert.TotalLoss.τ Cert.TotalLoss.sig) → Buf (Elt Bits) ℓ) (g : Dev Cert.TotalLoss.nD → PrngReg), Pre_TotalLoss m →
    θ_run (Cert.TotalLoss.defs (F := Bits)) (onTc (τ := Cert.TotalLoss.τ) (Cert.TotalLoss.main (F := Bits))) ⟨m, fun _ => 0, g⟩ (fun r => (∀ c : Dev Cert.TotalLoss.nD,
      r.2.mem ((c.tc : Thread Cert.TotalLoss.nD Cert.TotalLoss.τ).loc Cert.TotalLoss.main_arg0) = m ((c.tc : Thread Cert.TotalLoss.nD Cert.TotalLoss.τ).loc Cert.TotalLoss.main_arg0)
      ∧ r.2.mem ((c.tc : Thread Cert.TotalLoss.nD Cert.TotalLoss.τ).loc Cert.TotalLoss.main_arg1) = m ((c.tc : Thread Cert.TotalLoss.nD Cert.TotalLoss.τ).loc Cert.TotalLoss.main_arg1))
      ∧ r.2.sem = fun _ => 0)

def quiescent_TotalLossIdeal [hTotalLossIdeal : Cert.TotalLossIdeal.Facts] : Prop :=
  ∀ (m : (ℓ : Loc Cert.TotalLossIdeal.nD Cert.TotalLossIdeal.τ Cert.TotalLossIdeal.sig) → Buf (Elt Ideal) ℓ) (g : Dev Cert.TotalLossIdeal.nD → PrngReg), Pre_TotalLossIdeal m →
    θ_run (Cert.TotalLossIdeal.defs (F := Ideal)) (onTc (τ := Cert.TotalLossIdeal.τ) (Cert.TotalLossIdeal.main (F := Ideal))) ⟨m, fun _ => 0, g⟩ (fun r => (∀ c : Dev Cert.TotalLossIdeal.nD,
      r.2.mem ((c.tc : Thread Cert.TotalLossIdeal.nD Cert.TotalLossIdeal.τ).loc Cert.TotalLossIdeal.main_arg0) = m ((c.tc : Thread Cert.TotalLossIdeal.nD Cert.TotalLossIdeal.τ).loc Cert.TotalLossIdeal.main_arg0)
      ∧ r.2.mem ((c.tc : Thread Cert.TotalLossIdeal.nD Cert.TotalLossIdeal.τ).loc Cert.TotalLossIdeal.main_arg1) = m ((c.tc : Thread Cert.TotalLossIdeal.nD Cert.TotalLossIdeal.τ).loc Cert.TotalLossIdeal.main_arg1))
      ∧ r.2.sem = fun _ => 0)

def quiescent_TotalLossRef [hTotalLossRef : Cert.TotalLossRef.Facts] : Prop :=
  ∀ (m : (ℓ : Loc Cert.TotalLossRef.nD Cert.TotalLossRef.τ Cert.TotalLossRef.sig) → Buf (Elt Bits) ℓ) (g : Dev Cert.TotalLossRef.nD → PrngReg), Pre_TotalLossRef m →
    θ_run (Cert.TotalLossRef.defs (F := Bits)) (onTc (τ := Cert.TotalLossRef.τ) (Cert.TotalLossRef.main (F := Bits))) ⟨m, fun _ => 0, g⟩ (fun r => (∀ c : Dev Cert.TotalLossRef.nD,
      r.2.mem ((c.tc : Thread Cert.TotalLossRef.nD Cert.TotalLossRef.τ).loc Cert.TotalLossRef.main_arg0) = m ((c.tc : Thread Cert.TotalLossRef.nD Cert.TotalLossRef.τ).loc Cert.TotalLossRef.main_arg0)
      ∧ r.2.mem ((c.tc : Thread Cert.TotalLossRef.nD Cert.TotalLossRef.τ).loc Cert.TotalLossRef.main_arg1) = m ((c.tc : Thread Cert.TotalLossRef.nD Cert.TotalLossRef.τ).loc Cert.TotalLossRef.main_arg1))
      ∧ r.2.sem = fun _ => 0)

def quiescent_TotalLossRefIdeal [hTotalLossRefIdeal : Cert.TotalLossRefIdeal.Facts] : Prop :=
  ∀ (m : (ℓ : Loc Cert.TotalLossRefIdeal.nD Cert.TotalLossRefIdeal.τ Cert.TotalLossRefIdeal.sig) → Buf (Elt Ideal) ℓ) (g : Dev Cert.TotalLossRefIdeal.nD → PrngReg), Pre_TotalLossRefIdeal m →
    θ_run (Cert.TotalLossRefIdeal.defs (F := Ideal)) (onTc (τ := Cert.TotalLossRefIdeal.τ) (Cert.TotalLossRefIdeal.main (F := Ideal))) ⟨m, fun _ => 0, g⟩ (fun r => (∀ c : Dev Cert.TotalLossRefIdeal.nD,
      r.2.mem ((c.tc : Thread Cert.TotalLossRefIdeal.nD Cert.TotalLossRefIdeal.τ).loc Cert.TotalLossRefIdeal.main_arg0) = m ((c.tc : Thread Cert.TotalLossRefIdeal.nD Cert.TotalLossRefIdeal.τ).loc Cert.TotalLossRefIdeal.main_arg0)
      ∧ r.2.mem ((c.tc : Thread Cert.TotalLossRefIdeal.nD Cert.TotalLossRefIdeal.τ).loc Cert.TotalLossRefIdeal.main_arg1) = m ((c.tc : Thread Cert.TotalLossRefIdeal.nD Cert.TotalLossRefIdeal.τ).loc Cert.TotalLossRefIdeal.main_arg1))
      ∧ r.2.sem = fun _ => 0)

def quiescent_PairEvenIn [hPairEvenIn : Cert.PairEvenIn.Facts] : Prop :=
  ∀ (m : (ℓ : Loc Cert.PairEvenIn.nD Cert.PairEvenIn.τ Cert.PairEvenIn.sig) → Buf (Elt Bits) ℓ) (g : Dev Cert.PairEvenIn.nD → PrngReg), Pre_PairEvenIn m →
    θ_run (Cert.PairEvenIn.defs (F := Bits)) (onTc (τ := Cert.PairEvenIn.τ) (Cert.PairEvenIn.main (F := Bits))) ⟨m, fun _ => 0, g⟩ (fun r => (∀ c : Dev Cert.PairEvenIn.nD,
      r.2.mem ((c.tc : Thread Cert.PairEvenIn.nD Cert.PairEvenIn.τ).loc Cert.PairEvenIn.main_arg0) = m ((c.tc : Thread Cert.PairEvenIn.nD Cert.PairEvenIn.τ).loc Cert.PairEvenIn.main_arg0)
      ∧ r.2.mem ((c.tc : Thread Cert.PairEvenIn.nD Cert.PairEvenIn.τ).loc Cert.PairEvenIn.main_arg1) = m ((c.tc : Thread Cert.PairEvenIn.nD Cert.PairEvenIn.τ).loc Cert.PairEvenIn.main_arg1))
      ∧ r.2.sem = fun _ => 0)

def quiescent_PairEvenInIdeal [hPairEvenInIdeal : Cert.PairEvenInIdeal.Facts] : Prop :=
  ∀ (m : (ℓ : Loc Cert.PairEvenInIdeal.nD Cert.PairEvenInIdeal.τ Cert.PairEvenInIdeal.sig) → Buf (Elt Ideal) ℓ) (g : Dev Cert.PairEvenInIdeal.nD → PrngReg), Pre_PairEvenInIdeal m →
    θ_run (Cert.PairEvenInIdeal.defs (F := Ideal)) (onTc (τ := Cert.PairEvenInIdeal.τ) (Cert.PairEvenInIdeal.main (F := Ideal))) ⟨m, fun _ => 0, g⟩ (fun r => (∀ c : Dev Cert.PairEvenInIdeal.nD,
      r.2.mem ((c.tc : Thread Cert.PairEvenInIdeal.nD Cert.PairEvenInIdeal.τ).loc Cert.PairEvenInIdeal.main_arg0) = m ((c.tc : Thread Cert.PairEvenInIdeal.nD Cert.PairEvenInIdeal.τ).loc Cert.PairEvenInIdeal.main_arg0)
      ∧ r.2.mem ((c.tc : Thread Cert.PairEvenInIdeal.nD Cert.PairEvenInIdeal.τ).loc Cert.PairEvenInIdeal.main_arg1) = m ((c.tc : Thread Cert.PairEvenInIdeal.nD Cert.PairEvenInIdeal.τ).loc Cert.PairEvenInIdeal.main_arg1))
      ∧ r.2.sem = fun _ => 0)

def quiescent_PairEvenInRef [hPairEvenInRef : Cert.PairEvenInRef.Facts] : Prop :=
  ∀ (m : (ℓ : Loc Cert.PairEvenInRef.nD Cert.PairEvenInRef.τ Cert.PairEvenInRef.sig) → Buf (Elt Bits) ℓ) (g : Dev Cert.PairEvenInRef.nD → PrngReg), Pre_PairEvenInRef m →
    θ_run (Cert.PairEvenInRef.defs (F := Bits)) (onTc (τ := Cert.PairEvenInRef.τ) (Cert.PairEvenInRef.main (F := Bits))) ⟨m, fun _ => 0, g⟩ (fun r => (∀ c : Dev Cert.PairEvenInRef.nD,
      r.2.mem ((c.tc : Thread Cert.PairEvenInRef.nD Cert.PairEvenInRef.τ).loc Cert.PairEvenInRef.main_arg0) = m ((c.tc : Thread Cert.PairEvenInRef.nD Cert.PairEvenInRef.τ).loc Cert.PairEvenInRef.main_arg0)
      ∧ r.2.mem ((c.tc : Thread Cert.PairEvenInRef.nD Cert.PairEvenInRef.τ).loc Cert.PairEvenInRef.main_arg1) = m ((c.tc : Thread Cert.PairEvenInRef.nD Cert.PairEvenInRef.τ).loc Cert.PairEvenInRef.main_arg1))
      ∧ r.2.sem = fun _ => 0)

def quiescent_PairEvenInRefIdeal [hPairEvenInRefIdeal : Cert.PairEvenInRefIdeal.Facts] : Prop :=
  ∀ (m : (ℓ : Loc Cert.PairEvenInRefIdeal.nD Cert.PairEvenInRefIdeal.τ Cert.PairEvenInRefIdeal.sig) → Buf (Elt Ideal) ℓ) (g : Dev Cert.PairEvenInRefIdeal.nD → PrngReg), Pre_PairEvenInRefIdeal m →
    θ_run (Cert.PairEvenInRefIdeal.defs (F := Ideal)) (onTc (τ := Cert.PairEvenInRefIdeal.τ) (Cert.PairEvenInRefIdeal.main (F := Ideal))) ⟨m, fun _ => 0, g⟩ (fun r => (∀ c : Dev Cert.PairEvenInRefIdeal.nD,
      r.2.mem ((c.tc : Thread Cert.PairEvenInRefIdeal.nD Cert.PairEvenInRefIdeal.τ).loc Cert.PairEvenInRefIdeal.main_arg0) = m ((c.tc : Thread Cert.PairEvenInRefIdeal.nD Cert.PairEvenInRefIdeal.τ).loc Cert.PairEvenInRefIdeal.main_arg0)
      ∧ r.2.mem ((c.tc : Thread Cert.PairEvenInRefIdeal.nD Cert.PairEvenInRefIdeal.τ).loc Cert.PairEvenInRefIdeal.main_arg1) = m ((c.tc : Thread Cert.PairEvenInRefIdeal.nD Cert.PairEvenInRefIdeal.τ).loc Cert.PairEvenInRefIdeal.main_arg1))
      ∧ r.2.sem = fun _ => 0)

def quiescent_PairOddIn [hPairOddIn : Cert.PairOddIn.Facts] : Prop :=
  ∀ (m : (ℓ : Loc Cert.PairOddIn.nD Cert.PairOddIn.τ Cert.PairOddIn.sig) → Buf (Elt Bits) ℓ) (g : Dev Cert.PairOddIn.nD → PrngReg), Pre_PairOddIn m →
    θ_run (Cert.PairOddIn.defs (F := Bits)) (onTc (τ := Cert.PairOddIn.τ) (Cert.PairOddIn.main (F := Bits))) ⟨m, fun _ => 0, g⟩ (fun r => (∀ c : Dev Cert.PairOddIn.nD,
      r.2.mem ((c.tc : Thread Cert.PairOddIn.nD Cert.PairOddIn.τ).loc Cert.PairOddIn.main_arg0) = m ((c.tc : Thread Cert.PairOddIn.nD Cert.PairOddIn.τ).loc Cert.PairOddIn.main_arg0)
      ∧ r.2.mem ((c.tc : Thread Cert.PairOddIn.nD Cert.PairOddIn.τ).loc Cert.PairOddIn.main_arg1) = m ((c.tc : Thread Cert.PairOddIn.nD Cert.PairOddIn.τ).loc Cert.PairOddIn.main_arg1))
      ∧ r.2.sem = fun _ => 0)

def quiescent_PairOddInIdeal [hPairOddInIdeal : Cert.PairOddInIdeal.Facts] : Prop :=
  ∀ (m : (ℓ : Loc Cert.PairOddInIdeal.nD Cert.PairOddInIdeal.τ Cert.PairOddInIdeal.sig) → Buf (Elt Ideal) ℓ) (g : Dev Cert.PairOddInIdeal.nD → PrngReg), Pre_PairOddInIdeal m →
    θ_run (Cert.PairOddInIdeal.defs (F := Ideal)) (onTc (τ := Cert.PairOddInIdeal.τ) (Cert.PairOddInIdeal.main (F := Ideal))) ⟨m, fun _ => 0, g⟩ (fun r => (∀ c : Dev Cert.PairOddInIdeal.nD,
      r.2.mem ((c.tc : Thread Cert.PairOddInIdeal.nD Cert.PairOddInIdeal.τ).loc Cert.PairOddInIdeal.main_arg0) = m ((c.tc : Thread Cert.PairOddInIdeal.nD Cert.PairOddInIdeal.τ).loc Cert.PairOddInIdeal.main_arg0)
      ∧ r.2.mem ((c.tc : Thread Cert.PairOddInIdeal.nD Cert.PairOddInIdeal.τ).loc Cert.PairOddInIdeal.main_arg1) = m ((c.tc : Thread Cert.PairOddInIdeal.nD Cert.PairOddInIdeal.τ).loc Cert.PairOddInIdeal.main_arg1))
      ∧ r.2.sem = fun _ => 0)

def quiescent_PairOddInRef [hPairOddInRef : Cert.PairOddInRef.Facts] : Prop :=
  ∀ (m : (ℓ : Loc Cert.PairOddInRef.nD Cert.PairOddInRef.τ Cert.PairOddInRef.sig) → Buf (Elt Bits) ℓ) (g : Dev Cert.PairOddInRef.nD → PrngReg), Pre_PairOddInRef m →
    θ_run (Cert.PairOddInRef.defs (F := Bits)) (onTc (τ := Cert.PairOddInRef.τ) (Cert.PairOddInRef.main (F := Bits))) ⟨m, fun _ => 0, g⟩ (fun r => (∀ c : Dev Cert.PairOddInRef.nD,
      r.2.mem ((c.tc : Thread Cert.PairOddInRef.nD Cert.PairOddInRef.τ).loc Cert.PairOddInRef.main_arg0) = m ((c.tc : Thread Cert.PairOddInRef.nD Cert.PairOddInRef.τ).loc Cert.PairOddInRef.main_arg0)
      ∧ r.2.mem ((c.tc : Thread Cert.PairOddInRef.nD Cert.PairOddInRef.τ).loc Cert.PairOddInRef.main_arg1) = m ((c.tc : Thread Cert.PairOddInRef.nD Cert.PairOddInRef.τ).loc Cert.PairOddInRef.main_arg1))
      ∧ r.2.sem = fun _ => 0)

def quiescent_PairOddInRefIdeal [hPairOddInRefIdeal : Cert.PairOddInRefIdeal.Facts] : Prop :=
  ∀ (m : (ℓ : Loc Cert.PairOddInRefIdeal.nD Cert.PairOddInRefIdeal.τ Cert.PairOddInRefIdeal.sig) → Buf (Elt Ideal) ℓ) (g : Dev Cert.PairOddInRefIdeal.nD → PrngReg), Pre_PairOddInRefIdeal m →
    θ_run (Cert.PairOddInRefIdeal.defs (F := Ideal)) (onTc (τ := Cert.PairOddInRefIdeal.τ) (Cert.PairOddInRefIdeal.main (F := Ideal))) ⟨m, fun _ => 0, g⟩ (fun r => (∀ c : Dev Cert.PairOddInRefIdeal.nD,
      r.2.mem ((c.tc : Thread Cert.PairOddInRefIdeal.nD Cert.PairOddInRefIdeal.τ).loc Cert.PairOddInRefIdeal.main_arg0) = m ((c.tc : Thread Cert.PairOddInRefIdeal.nD Cert.PairOddInRefIdeal.τ).loc Cert.PairOddInRefIdeal.main_arg0)
      ∧ r.2.mem ((c.tc : Thread Cert.PairOddInRefIdeal.nD Cert.PairOddInRefIdeal.τ).loc Cert.PairOddInRefIdeal.main_arg1) = m ((c.tc : Thread Cert.PairOddInRefIdeal.nD Cert.PairOddInRefIdeal.τ).loc Cert.PairOddInRefIdeal.main_arg1))
      ∧ r.2.sem = fun _ => 0)

def quiescent_PairOut [hPairOut : Cert.PairOut.Facts] : Prop :=
  ∀ (m : (ℓ : Loc Cert.PairOut.nD Cert.PairOut.τ Cert.PairOut.sig) → Buf (Elt Bits) ℓ) (g : Dev Cert.PairOut.nD → PrngReg), Pre_PairOut m →
    θ_run (Cert.PairOut.defs (F := Bits)) (onTc (τ := Cert.PairOut.τ) (Cert.PairOut.main (F := Bits))) ⟨m, fun _ => 0, g⟩ (fun r => (∀ c : Dev Cert.PairOut.nD,
      r.2.mem ((c.tc : Thread Cert.PairOut.nD Cert.PairOut.τ).loc Cert.PairOut.main_arg0) = m ((c.tc : Thread Cert.PairOut.nD Cert.PairOut.τ).loc Cert.PairOut.main_arg0)
      ∧ r.2.mem ((c.tc : Thread Cert.PairOut.nD Cert.PairOut.τ).loc Cert.PairOut.main_arg1) = m ((c.tc : Thread Cert.PairOut.nD Cert.PairOut.τ).loc Cert.PairOut.main_arg1))
      ∧ r.2.sem = fun _ => 0)

def quiescent_PairOutIdeal [hPairOutIdeal : Cert.PairOutIdeal.Facts] : Prop :=
  ∀ (m : (ℓ : Loc Cert.PairOutIdeal.nD Cert.PairOutIdeal.τ Cert.PairOutIdeal.sig) → Buf (Elt Ideal) ℓ) (g : Dev Cert.PairOutIdeal.nD → PrngReg), Pre_PairOutIdeal m →
    θ_run (Cert.PairOutIdeal.defs (F := Ideal)) (onTc (τ := Cert.PairOutIdeal.τ) (Cert.PairOutIdeal.main (F := Ideal))) ⟨m, fun _ => 0, g⟩ (fun r => (∀ c : Dev Cert.PairOutIdeal.nD,
      r.2.mem ((c.tc : Thread Cert.PairOutIdeal.nD Cert.PairOutIdeal.τ).loc Cert.PairOutIdeal.main_arg0) = m ((c.tc : Thread Cert.PairOutIdeal.nD Cert.PairOutIdeal.τ).loc Cert.PairOutIdeal.main_arg0)
      ∧ r.2.mem ((c.tc : Thread Cert.PairOutIdeal.nD Cert.PairOutIdeal.τ).loc Cert.PairOutIdeal.main_arg1) = m ((c.tc : Thread Cert.PairOutIdeal.nD Cert.PairOutIdeal.τ).loc Cert.PairOutIdeal.main_arg1))
      ∧ r.2.sem = fun _ => 0)

def quiescent_PairOutRef [hPairOutRef : Cert.PairOutRef.Facts] : Prop :=
  ∀ (m : (ℓ : Loc Cert.PairOutRef.nD Cert.PairOutRef.τ Cert.PairOutRef.sig) → Buf (Elt Bits) ℓ) (g : Dev Cert.PairOutRef.nD → PrngReg), Pre_PairOutRef m →
    θ_run (Cert.PairOutRef.defs (F := Bits)) (onTc (τ := Cert.PairOutRef.τ) (Cert.PairOutRef.main (F := Bits))) ⟨m, fun _ => 0, g⟩ (fun r => (∀ c : Dev Cert.PairOutRef.nD,
      r.2.mem ((c.tc : Thread Cert.PairOutRef.nD Cert.PairOutRef.τ).loc Cert.PairOutRef.main_arg0) = m ((c.tc : Thread Cert.PairOutRef.nD Cert.PairOutRef.τ).loc Cert.PairOutRef.main_arg0)
      ∧ r.2.mem ((c.tc : Thread Cert.PairOutRef.nD Cert.PairOutRef.τ).loc Cert.PairOutRef.main_arg1) = m ((c.tc : Thread Cert.PairOutRef.nD Cert.PairOutRef.τ).loc Cert.PairOutRef.main_arg1))
      ∧ r.2.sem = fun _ => 0)

def quiescent_PairOutRefIdeal [hPairOutRefIdeal : Cert.PairOutRefIdeal.Facts] : Prop :=
  ∀ (m : (ℓ : Loc Cert.PairOutRefIdeal.nD Cert.PairOutRefIdeal.τ Cert.PairOutRefIdeal.sig) → Buf (Elt Ideal) ℓ) (g : Dev Cert.PairOutRefIdeal.nD → PrngReg), Pre_PairOutRefIdeal m →
    θ_run (Cert.PairOutRefIdeal.defs (F := Ideal)) (onTc (τ := Cert.PairOutRefIdeal.τ) (Cert.PairOutRefIdeal.main (F := Ideal))) ⟨m, fun _ => 0, g⟩ (fun r => (∀ c : Dev Cert.PairOutRefIdeal.nD,
      r.2.mem ((c.tc : Thread Cert.PairOutRefIdeal.nD Cert.PairOutRefIdeal.τ).loc Cert.PairOutRefIdeal.main_arg0) = m ((c.tc : Thread Cert.PairOutRefIdeal.nD Cert.PairOutRefIdeal.τ).loc Cert.PairOutRefIdeal.main_arg0)
      ∧ r.2.mem ((c.tc : Thread Cert.PairOutRefIdeal.nD Cert.PairOutRefIdeal.τ).loc Cert.PairOutRefIdeal.main_arg1) = m ((c.tc : Thread Cert.PairOutRefIdeal.nD Cert.PairOutRefIdeal.τ).loc Cert.PairOutRefIdeal.main_arg1))
      ∧ r.2.sem = fun _ => 0)

def quiescent_ChipsEvenIn [hChipsEvenIn : Cert.ChipsEvenIn.Facts] : Prop :=
  ∀ (m : (ℓ : Loc Cert.ChipsEvenIn.nD Cert.ChipsEvenIn.τ Cert.ChipsEvenIn.sig) → Buf (Elt Bits) ℓ) (g : Dev Cert.ChipsEvenIn.nD → PrngReg), Pre_ChipsEvenIn m →
    θ_run (Cert.ChipsEvenIn.defs (F := Bits)) (onTc (τ := Cert.ChipsEvenIn.τ) (Cert.ChipsEvenIn.main (F := Bits))) ⟨m, fun _ => 0, g⟩ (fun r => (∀ c : Dev Cert.ChipsEvenIn.nD,
      r.2.mem ((c.tc : Thread Cert.ChipsEvenIn.nD Cert.ChipsEvenIn.τ).loc Cert.ChipsEvenIn.main_arg0) = m ((c.tc : Thread Cert.ChipsEvenIn.nD Cert.ChipsEvenIn.τ).loc Cert.ChipsEvenIn.main_arg0))
      ∧ r.2.sem = fun _ => 0)

def quiescent_ChipsEvenInIdeal [hChipsEvenInIdeal : Cert.ChipsEvenInIdeal.Facts] : Prop :=
  ∀ (m : (ℓ : Loc Cert.ChipsEvenInIdeal.nD Cert.ChipsEvenInIdeal.τ Cert.ChipsEvenInIdeal.sig) → Buf (Elt Ideal) ℓ) (g : Dev Cert.ChipsEvenInIdeal.nD → PrngReg), Pre_ChipsEvenInIdeal m →
    θ_run (Cert.ChipsEvenInIdeal.defs (F := Ideal)) (onTc (τ := Cert.ChipsEvenInIdeal.τ) (Cert.ChipsEvenInIdeal.main (F := Ideal))) ⟨m, fun _ => 0, g⟩ (fun r => (∀ c : Dev Cert.ChipsEvenInIdeal.nD,
      r.2.mem ((c.tc : Thread Cert.ChipsEvenInIdeal.nD Cert.ChipsEvenInIdeal.τ).loc Cert.ChipsEvenInIdeal.main_arg0) = m ((c.tc : Thread Cert.ChipsEvenInIdeal.nD Cert.ChipsEvenInIdeal.τ).loc Cert.ChipsEvenInIdeal.main_arg0))
      ∧ r.2.sem = fun _ => 0)

def quiescent_ChipsEvenInRef [hChipsEvenInRef : Cert.ChipsEvenInRef.Facts] : Prop :=
  ∀ (m : (ℓ : Loc Cert.ChipsEvenInRef.nD Cert.ChipsEvenInRef.τ Cert.ChipsEvenInRef.sig) → Buf (Elt Bits) ℓ) (g : Dev Cert.ChipsEvenInRef.nD → PrngReg), Pre_ChipsEvenInRef m →
    θ_run (Cert.ChipsEvenInRef.defs (F := Bits)) (onTc (τ := Cert.ChipsEvenInRef.τ) (Cert.ChipsEvenInRef.main (F := Bits))) ⟨m, fun _ => 0, g⟩ (fun r => (∀ c : Dev Cert.ChipsEvenInRef.nD,
      r.2.mem ((c.tc : Thread Cert.ChipsEvenInRef.nD Cert.ChipsEvenInRef.τ).loc Cert.ChipsEvenInRef.main_arg0) = m ((c.tc : Thread Cert.ChipsEvenInRef.nD Cert.ChipsEvenInRef.τ).loc Cert.ChipsEvenInRef.main_arg0))
      ∧ r.2.sem = fun _ => 0)

def quiescent_ChipsEvenInRefIdeal [hChipsEvenInRefIdeal : Cert.ChipsEvenInRefIdeal.Facts] : Prop :=
  ∀ (m : (ℓ : Loc Cert.ChipsEvenInRefIdeal.nD Cert.ChipsEvenInRefIdeal.τ Cert.ChipsEvenInRefIdeal.sig) → Buf (Elt Ideal) ℓ) (g : Dev Cert.ChipsEvenInRefIdeal.nD → PrngReg), Pre_ChipsEvenInRefIdeal m →
    θ_run (Cert.ChipsEvenInRefIdeal.defs (F := Ideal)) (onTc (τ := Cert.ChipsEvenInRefIdeal.τ) (Cert.ChipsEvenInRefIdeal.main (F := Ideal))) ⟨m, fun _ => 0, g⟩ (fun r => (∀ c : Dev Cert.ChipsEvenInRefIdeal.nD,
      r.2.mem ((c.tc : Thread Cert.ChipsEvenInRefIdeal.nD Cert.ChipsEvenInRefIdeal.τ).loc Cert.ChipsEvenInRefIdeal.main_arg0) = m ((c.tc : Thread Cert.ChipsEvenInRefIdeal.nD Cert.ChipsEvenInRefIdeal.τ).loc Cert.ChipsEvenInRefIdeal.main_arg0))
      ∧ r.2.sem = fun _ => 0)

def quiescent_ChipsOddIn [hChipsOddIn : Cert.ChipsOddIn.Facts] : Prop :=
  ∀ (m : (ℓ : Loc Cert.ChipsOddIn.nD Cert.ChipsOddIn.τ Cert.ChipsOddIn.sig) → Buf (Elt Bits) ℓ) (g : Dev Cert.ChipsOddIn.nD → PrngReg), Pre_ChipsOddIn m →
    θ_run (Cert.ChipsOddIn.defs (F := Bits)) (onTc (τ := Cert.ChipsOddIn.τ) (Cert.ChipsOddIn.main (F := Bits))) ⟨m, fun _ => 0, g⟩ (fun r => (∀ c : Dev Cert.ChipsOddIn.nD,
      r.2.mem ((c.tc : Thread Cert.ChipsOddIn.nD Cert.ChipsOddIn.τ).loc Cert.ChipsOddIn.main_arg0) = m ((c.tc : Thread Cert.ChipsOddIn.nD Cert.ChipsOddIn.τ).loc Cert.ChipsOddIn.main_arg0))
      ∧ r.2.sem = fun _ => 0)

def quiescent_ChipsOddInIdeal [hChipsOddInIdeal : Cert.ChipsOddInIdeal.Facts] : Prop :=
  ∀ (m : (ℓ : Loc Cert.ChipsOddInIdeal.nD Cert.ChipsOddInIdeal.τ Cert.ChipsOddInIdeal.sig) → Buf (Elt Ideal) ℓ) (g : Dev Cert.ChipsOddInIdeal.nD → PrngReg), Pre_ChipsOddInIdeal m →
    θ_run (Cert.ChipsOddInIdeal.defs (F := Ideal)) (onTc (τ := Cert.ChipsOddInIdeal.τ) (Cert.ChipsOddInIdeal.main (F := Ideal))) ⟨m, fun _ => 0, g⟩ (fun r => (∀ c : Dev Cert.ChipsOddInIdeal.nD,
      r.2.mem ((c.tc : Thread Cert.ChipsOddInIdeal.nD Cert.ChipsOddInIdeal.τ).loc Cert.ChipsOddInIdeal.main_arg0) = m ((c.tc : Thread Cert.ChipsOddInIdeal.nD Cert.ChipsOddInIdeal.τ).loc Cert.ChipsOddInIdeal.main_arg0))
      ∧ r.2.sem = fun _ => 0)

def quiescent_ChipsOddInRef [hChipsOddInRef : Cert.ChipsOddInRef.Facts] : Prop :=
  ∀ (m : (ℓ : Loc Cert.ChipsOddInRef.nD Cert.ChipsOddInRef.τ Cert.ChipsOddInRef.sig) → Buf (Elt Bits) ℓ) (g : Dev Cert.ChipsOddInRef.nD → PrngReg), Pre_ChipsOddInRef m →
    θ_run (Cert.ChipsOddInRef.defs (F := Bits)) (onTc (τ := Cert.ChipsOddInRef.τ) (Cert.ChipsOddInRef.main (F := Bits))) ⟨m, fun _ => 0, g⟩ (fun r => (∀ c : Dev Cert.ChipsOddInRef.nD,
      r.2.mem ((c.tc : Thread Cert.ChipsOddInRef.nD Cert.ChipsOddInRef.τ).loc Cert.ChipsOddInRef.main_arg0) = m ((c.tc : Thread Cert.ChipsOddInRef.nD Cert.ChipsOddInRef.τ).loc Cert.ChipsOddInRef.main_arg0))
      ∧ r.2.sem = fun _ => 0)

def quiescent_ChipsOddInRefIdeal [hChipsOddInRefIdeal : Cert.ChipsOddInRefIdeal.Facts] : Prop :=
  ∀ (m : (ℓ : Loc Cert.ChipsOddInRefIdeal.nD Cert.ChipsOddInRefIdeal.τ Cert.ChipsOddInRefIdeal.sig) → Buf (Elt Ideal) ℓ) (g : Dev Cert.ChipsOddInRefIdeal.nD → PrngReg), Pre_ChipsOddInRefIdeal m →
    θ_run (Cert.ChipsOddInRefIdeal.defs (F := Ideal)) (onTc (τ := Cert.ChipsOddInRefIdeal.τ) (Cert.ChipsOddInRefIdeal.main (F := Ideal))) ⟨m, fun _ => 0, g⟩ (fun r => (∀ c : Dev Cert.ChipsOddInRefIdeal.nD,
      r.2.mem ((c.tc : Thread Cert.ChipsOddInRefIdeal.nD Cert.ChipsOddInRefIdeal.τ).loc Cert.ChipsOddInRefIdeal.main_arg0) = m ((c.tc : Thread Cert.ChipsOddInRefIdeal.nD Cert.ChipsOddInRefIdeal.τ).loc Cert.ChipsOddInRefIdeal.main_arg0))
      ∧ r.2.sem = fun _ => 0)

def quiescent_ChipsOut [hChipsOut : Cert.ChipsOut.Facts] : Prop :=
  ∀ (m : (ℓ : Loc Cert.ChipsOut.nD Cert.ChipsOut.τ Cert.ChipsOut.sig) → Buf (Elt Bits) ℓ) (g : Dev Cert.ChipsOut.nD → PrngReg), Pre_ChipsOut m →
    θ_run (Cert.ChipsOut.defs (F := Bits)) (onTc (τ := Cert.ChipsOut.τ) (Cert.ChipsOut.main (F := Bits))) ⟨m, fun _ => 0, g⟩ (fun r => (∀ c : Dev Cert.ChipsOut.nD,
      r.2.mem ((c.tc : Thread Cert.ChipsOut.nD Cert.ChipsOut.τ).loc Cert.ChipsOut.main_arg0) = m ((c.tc : Thread Cert.ChipsOut.nD Cert.ChipsOut.τ).loc Cert.ChipsOut.main_arg0))
      ∧ r.2.sem = fun _ => 0)

def quiescent_ChipsOutIdeal [hChipsOutIdeal : Cert.ChipsOutIdeal.Facts] : Prop :=
  ∀ (m : (ℓ : Loc Cert.ChipsOutIdeal.nD Cert.ChipsOutIdeal.τ Cert.ChipsOutIdeal.sig) → Buf (Elt Ideal) ℓ) (g : Dev Cert.ChipsOutIdeal.nD → PrngReg), Pre_ChipsOutIdeal m →
    θ_run (Cert.ChipsOutIdeal.defs (F := Ideal)) (onTc (τ := Cert.ChipsOutIdeal.τ) (Cert.ChipsOutIdeal.main (F := Ideal))) ⟨m, fun _ => 0, g⟩ (fun r => (∀ c : Dev Cert.ChipsOutIdeal.nD,
      r.2.mem ((c.tc : Thread Cert.ChipsOutIdeal.nD Cert.ChipsOutIdeal.τ).loc Cert.ChipsOutIdeal.main_arg0) = m ((c.tc : Thread Cert.ChipsOutIdeal.nD Cert.ChipsOutIdeal.τ).loc Cert.ChipsOutIdeal.main_arg0))
      ∧ r.2.sem = fun _ => 0)

def quiescent_ChipsOutRef [hChipsOutRef : Cert.ChipsOutRef.Facts] : Prop :=
  ∀ (m : (ℓ : Loc Cert.ChipsOutRef.nD Cert.ChipsOutRef.τ Cert.ChipsOutRef.sig) → Buf (Elt Bits) ℓ) (g : Dev Cert.ChipsOutRef.nD → PrngReg), Pre_ChipsOutRef m →
    θ_run (Cert.ChipsOutRef.defs (F := Bits)) (onTc (τ := Cert.ChipsOutRef.τ) (Cert.ChipsOutRef.main (F := Bits))) ⟨m, fun _ => 0, g⟩ (fun r => (∀ c : Dev Cert.ChipsOutRef.nD,
      r.2.mem ((c.tc : Thread Cert.ChipsOutRef.nD Cert.ChipsOutRef.τ).loc Cert.ChipsOutRef.main_arg0) = m ((c.tc : Thread Cert.ChipsOutRef.nD Cert.ChipsOutRef.τ).loc Cert.ChipsOutRef.main_arg0))
      ∧ r.2.sem = fun _ => 0)

def quiescent_ChipsOutRefIdeal [hChipsOutRefIdeal : Cert.ChipsOutRefIdeal.Facts] : Prop :=
  ∀ (m : (ℓ : Loc Cert.ChipsOutRefIdeal.nD Cert.ChipsOutRefIdeal.τ Cert.ChipsOutRefIdeal.sig) → Buf (Elt Ideal) ℓ) (g : Dev Cert.ChipsOutRefIdeal.nD → PrngReg), Pre_ChipsOutRefIdeal m →
    θ_run (Cert.ChipsOutRefIdeal.defs (F := Ideal)) (onTc (τ := Cert.ChipsOutRefIdeal.τ) (Cert.ChipsOutRefIdeal.main (F := Ideal))) ⟨m, fun _ => 0, g⟩ (fun r => (∀ c : Dev Cert.ChipsOutRefIdeal.nD,
      r.2.mem ((c.tc : Thread Cert.ChipsOutRefIdeal.nD Cert.ChipsOutRefIdeal.τ).loc Cert.ChipsOutRefIdeal.main_arg0) = m ((c.tc : Thread Cert.ChipsOutRefIdeal.nD Cert.ChipsOutRefIdeal.τ).loc Cert.ChipsOutRefIdeal.main_arg0))
      ∧ r.2.sem = fun _ => 0)

def quiescent_NormForward [hNormForward : Cert.NormForward.Facts] : Prop :=
  ∀ (m : (ℓ : Loc Cert.NormForward.nD Cert.NormForward.τ Cert.NormForward.sig) → Buf (Elt Bits) ℓ) (g : Dev Cert.NormForward.nD → PrngReg), Pre_NormForward m →
    θ_run (Cert.NormForward.defs (F := Bits)) (onTc (τ := Cert.NormForward.τ) (Cert.NormForward.main (F := Bits))) ⟨m, fun _ => 0, g⟩ (fun r => (∀ c : Dev Cert.NormForward.nD,
      r.2.mem ((c.tc : Thread Cert.NormForward.nD Cert.NormForward.τ).loc Cert.NormForward.main_arg0) = m ((c.tc : Thread Cert.NormForward.nD Cert.NormForward.τ).loc Cert.NormForward.main_arg0)
      ∧ r.2.mem ((c.tc : Thread Cert.NormForward.nD Cert.NormForward.τ).loc Cert.NormForward.main_arg1) = m ((c.tc : Thread Cert.NormForward.nD Cert.NormForward.τ).loc Cert.NormForward.main_arg1))
      ∧ r.2.sem = fun _ => 0)

def quiescent_NormForwardIdeal [hNormForwardIdeal : Cert.NormForwardIdeal.Facts] : Prop :=
  ∀ (m : (ℓ : Loc Cert.NormForwardIdeal.nD Cert.NormForwardIdeal.τ Cert.NormForwardIdeal.sig) → Buf (Elt Ideal) ℓ) (g : Dev Cert.NormForwardIdeal.nD → PrngReg), Pre_NormForwardIdeal m →
    θ_run (Cert.NormForwardIdeal.defs (F := Ideal)) (onTc (τ := Cert.NormForwardIdeal.τ) (Cert.NormForwardIdeal.main (F := Ideal))) ⟨m, fun _ => 0, g⟩ (fun r => (∀ c : Dev Cert.NormForwardIdeal.nD,
      r.2.mem ((c.tc : Thread Cert.NormForwardIdeal.nD Cert.NormForwardIdeal.τ).loc Cert.NormForwardIdeal.main_arg0) = m ((c.tc : Thread Cert.NormForwardIdeal.nD Cert.NormForwardIdeal.τ).loc Cert.NormForwardIdeal.main_arg0)
      ∧ r.2.mem ((c.tc : Thread Cert.NormForwardIdeal.nD Cert.NormForwardIdeal.τ).loc Cert.NormForwardIdeal.main_arg1) = m ((c.tc : Thread Cert.NormForwardIdeal.nD Cert.NormForwardIdeal.τ).loc Cert.NormForwardIdeal.main_arg1))
      ∧ r.2.sem = fun _ => 0)

def quiescent_NormForwardRef [hNormForwardRef : Cert.NormForwardRef.Facts] : Prop :=
  ∀ (m : (ℓ : Loc Cert.NormForwardRef.nD Cert.NormForwardRef.τ Cert.NormForwardRef.sig) → Buf (Elt Bits) ℓ) (g : Dev Cert.NormForwardRef.nD → PrngReg), Pre_NormForwardRef m →
    θ_run (Cert.NormForwardRef.defs (F := Bits)) (onTc (τ := Cert.NormForwardRef.τ) (Cert.NormForwardRef.main (F := Bits))) ⟨m, fun _ => 0, g⟩ (fun r => (∀ c : Dev Cert.NormForwardRef.nD,
      r.2.mem ((c.tc : Thread Cert.NormForwardRef.nD Cert.NormForwardRef.τ).loc Cert.NormForwardRef.main_arg0) = m ((c.tc : Thread Cert.NormForwardRef.nD Cert.NormForwardRef.τ).loc Cert.NormForwardRef.main_arg0)
      ∧ r.2.mem ((c.tc : Thread Cert.NormForwardRef.nD Cert.NormForwardRef.τ).loc Cert.NormForwardRef.main_arg1) = m ((c.tc : Thread Cert.NormForwardRef.nD Cert.NormForwardRef.τ).loc Cert.NormForwardRef.main_arg1))
      ∧ r.2.sem = fun _ => 0)

def quiescent_NormForwardRefIdeal [hNormForwardRefIdeal : Cert.NormForwardRefIdeal.Facts] : Prop :=
  ∀ (m : (ℓ : Loc Cert.NormForwardRefIdeal.nD Cert.NormForwardRefIdeal.τ Cert.NormForwardRefIdeal.sig) → Buf (Elt Ideal) ℓ) (g : Dev Cert.NormForwardRefIdeal.nD → PrngReg), Pre_NormForwardRefIdeal m →
    θ_run (Cert.NormForwardRefIdeal.defs (F := Ideal)) (onTc (τ := Cert.NormForwardRefIdeal.τ) (Cert.NormForwardRefIdeal.main (F := Ideal))) ⟨m, fun _ => 0, g⟩ (fun r => (∀ c : Dev Cert.NormForwardRefIdeal.nD,
      r.2.mem ((c.tc : Thread Cert.NormForwardRefIdeal.nD Cert.NormForwardRefIdeal.τ).loc Cert.NormForwardRefIdeal.main_arg0) = m ((c.tc : Thread Cert.NormForwardRefIdeal.nD Cert.NormForwardRefIdeal.τ).loc Cert.NormForwardRefIdeal.main_arg0)
      ∧ r.2.mem ((c.tc : Thread Cert.NormForwardRefIdeal.nD Cert.NormForwardRefIdeal.τ).loc Cert.NormForwardRefIdeal.main_arg1) = m ((c.tc : Thread Cert.NormForwardRefIdeal.nD Cert.NormForwardRefIdeal.τ).loc Cert.NormForwardRefIdeal.main_arg1))
      ∧ r.2.sem = fun _ => 0)

def quiescent_EvenIn [hEvenIn : Cert.EvenIn.Facts] : Prop :=
  ∀ (m : (ℓ : Loc Cert.EvenIn.nD Cert.EvenIn.τ Cert.EvenIn.sig) → Buf (Elt Bits) ℓ) (g : Dev Cert.EvenIn.nD → PrngReg), Pre_EvenIn m →
    θ_run (Cert.EvenIn.defs (F := Bits)) (onTc (τ := Cert.EvenIn.τ) (Cert.EvenIn.main (F := Bits))) ⟨m, fun _ => 0, g⟩ (fun r => (∀ c : Dev Cert.EvenIn.nD,
      r.2.mem ((c.tc : Thread Cert.EvenIn.nD Cert.EvenIn.τ).loc Cert.EvenIn.main_arg0) = m ((c.tc : Thread Cert.EvenIn.nD Cert.EvenIn.τ).loc Cert.EvenIn.main_arg0)
      ∧ r.2.mem ((c.tc : Thread Cert.EvenIn.nD Cert.EvenIn.τ).loc Cert.EvenIn.main_arg1) = m ((c.tc : Thread Cert.EvenIn.nD Cert.EvenIn.τ).loc Cert.EvenIn.main_arg1))
      ∧ r.2.sem = fun _ => 0)

def quiescent_EvenInIdeal [hEvenInIdeal : Cert.EvenInIdeal.Facts] : Prop :=
  ∀ (m : (ℓ : Loc Cert.EvenInIdeal.nD Cert.EvenInIdeal.τ Cert.EvenInIdeal.sig) → Buf (Elt Ideal) ℓ) (g : Dev Cert.EvenInIdeal.nD → PrngReg), Pre_EvenInIdeal m →
    θ_run (Cert.EvenInIdeal.defs (F := Ideal)) (onTc (τ := Cert.EvenInIdeal.τ) (Cert.EvenInIdeal.main (F := Ideal))) ⟨m, fun _ => 0, g⟩ (fun r => (∀ c : Dev Cert.EvenInIdeal.nD,
      r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
      ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1))
      ∧ r.2.sem = fun _ => 0)

def quiescent_EvenInRef [hEvenInRef : Cert.EvenInRef.Facts] : Prop :=
  ∀ (m : (ℓ : Loc Cert.EvenInRef.nD Cert.EvenInRef.τ Cert.EvenInRef.sig) → Buf (Elt Bits) ℓ) (g : Dev Cert.EvenInRef.nD → PrngReg), Pre_EvenInRef m →
    θ_run (Cert.EvenInRef.defs (F := Bits)) (onTc (τ := Cert.EvenInRef.τ) (Cert.EvenInRef.main (F := Bits))) ⟨m, fun _ => 0, g⟩ (fun r => (∀ c : Dev Cert.EvenInRef.nD,
      r.2.mem ((c.tc : Thread Cert.EvenInRef.nD Cert.EvenInRef.τ).loc Cert.EvenInRef.main_arg0) = m ((c.tc : Thread Cert.EvenInRef.nD Cert.EvenInRef.τ).loc Cert.EvenInRef.main_arg0)
      ∧ r.2.mem ((c.tc : Thread Cert.EvenInRef.nD Cert.EvenInRef.τ).loc Cert.EvenInRef.main_arg1) = m ((c.tc : Thread Cert.EvenInRef.nD Cert.EvenInRef.τ).loc Cert.EvenInRef.main_arg1))
      ∧ r.2.sem = fun _ => 0)

def quiescent_EvenInRefIdeal [hEvenInRefIdeal : Cert.EvenInRefIdeal.Facts] : Prop :=
  ∀ (m : (ℓ : Loc Cert.EvenInRefIdeal.nD Cert.EvenInRefIdeal.τ Cert.EvenInRefIdeal.sig) → Buf (Elt Ideal) ℓ) (g : Dev Cert.EvenInRefIdeal.nD → PrngReg), Pre_EvenInRefIdeal m →
    θ_run (Cert.EvenInRefIdeal.defs (F := Ideal)) (onTc (τ := Cert.EvenInRefIdeal.τ) (Cert.EvenInRefIdeal.main (F := Ideal))) ⟨m, fun _ => 0, g⟩ (fun r => (∀ c : Dev Cert.EvenInRefIdeal.nD,
      r.2.mem ((c.tc : Thread Cert.EvenInRefIdeal.nD Cert.EvenInRefIdeal.τ).loc Cert.EvenInRefIdeal.main_arg0) = m ((c.tc : Thread Cert.EvenInRefIdeal.nD Cert.EvenInRefIdeal.τ).loc Cert.EvenInRefIdeal.main_arg0)
      ∧ r.2.mem ((c.tc : Thread Cert.EvenInRefIdeal.nD Cert.EvenInRefIdeal.τ).loc Cert.EvenInRefIdeal.main_arg1) = m ((c.tc : Thread Cert.EvenInRefIdeal.nD Cert.EvenInRefIdeal.τ).loc Cert.EvenInRefIdeal.main_arg1))
      ∧ r.2.sem = fun _ => 0)

def quiescent_OddIn [hOddIn : Cert.OddIn.Facts] : Prop :=
  ∀ (m : (ℓ : Loc Cert.OddIn.nD Cert.OddIn.τ Cert.OddIn.sig) → Buf (Elt Bits) ℓ) (g : Dev Cert.OddIn.nD → PrngReg), Pre_OddIn m →
    θ_run (Cert.OddIn.defs (F := Bits)) (onTc (τ := Cert.OddIn.τ) (Cert.OddIn.main (F := Bits))) ⟨m, fun _ => 0, g⟩ (fun r => (∀ c : Dev Cert.OddIn.nD,
      r.2.mem ((c.tc : Thread Cert.OddIn.nD Cert.OddIn.τ).loc Cert.OddIn.main_arg0) = m ((c.tc : Thread Cert.OddIn.nD Cert.OddIn.τ).loc Cert.OddIn.main_arg0)
      ∧ r.2.mem ((c.tc : Thread Cert.OddIn.nD Cert.OddIn.τ).loc Cert.OddIn.main_arg1) = m ((c.tc : Thread Cert.OddIn.nD Cert.OddIn.τ).loc Cert.OddIn.main_arg1))
      ∧ r.2.sem = fun _ => 0)

def quiescent_OddInIdeal [hOddInIdeal : Cert.OddInIdeal.Facts] : Prop :=
  ∀ (m : (ℓ : Loc Cert.OddInIdeal.nD Cert.OddInIdeal.τ Cert.OddInIdeal.sig) → Buf (Elt Ideal) ℓ) (g : Dev Cert.OddInIdeal.nD → PrngReg), Pre_OddInIdeal m →
    θ_run (Cert.OddInIdeal.defs (F := Ideal)) (onTc (τ := Cert.OddInIdeal.τ) (Cert.OddInIdeal.main (F := Ideal))) ⟨m, fun _ => 0, g⟩ (fun r => (∀ c : Dev Cert.OddInIdeal.nD,
      r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
      ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1))
      ∧ r.2.sem = fun _ => 0)

def quiescent_OddInRef [hOddInRef : Cert.OddInRef.Facts] : Prop :=
  ∀ (m : (ℓ : Loc Cert.OddInRef.nD Cert.OddInRef.τ Cert.OddInRef.sig) → Buf (Elt Bits) ℓ) (g : Dev Cert.OddInRef.nD → PrngReg), Pre_OddInRef m →
    θ_run (Cert.OddInRef.defs (F := Bits)) (onTc (τ := Cert.OddInRef.τ) (Cert.OddInRef.main (F := Bits))) ⟨m, fun _ => 0, g⟩ (fun r => (∀ c : Dev Cert.OddInRef.nD,
      r.2.mem ((c.tc : Thread Cert.OddInRef.nD Cert.OddInRef.τ).loc Cert.OddInRef.main_arg0) = m ((c.tc : Thread Cert.OddInRef.nD Cert.OddInRef.τ).loc Cert.OddInRef.main_arg0)
      ∧ r.2.mem ((c.tc : Thread Cert.OddInRef.nD Cert.OddInRef.τ).loc Cert.OddInRef.main_arg1) = m ((c.tc : Thread Cert.OddInRef.nD Cert.OddInRef.τ).loc Cert.OddInRef.main_arg1))
      ∧ r.2.sem = fun _ => 0)

def quiescent_OddInRefIdeal [hOddInRefIdeal : Cert.OddInRefIdeal.Facts] : Prop :=
  ∀ (m : (ℓ : Loc Cert.OddInRefIdeal.nD Cert.OddInRefIdeal.τ Cert.OddInRefIdeal.sig) → Buf (Elt Ideal) ℓ) (g : Dev Cert.OddInRefIdeal.nD → PrngReg), Pre_OddInRefIdeal m →
    θ_run (Cert.OddInRefIdeal.defs (F := Ideal)) (onTc (τ := Cert.OddInRefIdeal.τ) (Cert.OddInRefIdeal.main (F := Ideal))) ⟨m, fun _ => 0, g⟩ (fun r => (∀ c : Dev Cert.OddInRefIdeal.nD,
      r.2.mem ((c.tc : Thread Cert.OddInRefIdeal.nD Cert.OddInRefIdeal.τ).loc Cert.OddInRefIdeal.main_arg0) = m ((c.tc : Thread Cert.OddInRefIdeal.nD Cert.OddInRefIdeal.τ).loc Cert.OddInRefIdeal.main_arg0)
      ∧ r.2.mem ((c.tc : Thread Cert.OddInRefIdeal.nD Cert.OddInRefIdeal.τ).loc Cert.OddInRefIdeal.main_arg1) = m ((c.tc : Thread Cert.OddInRefIdeal.nD Cert.OddInRefIdeal.τ).loc Cert.OddInRefIdeal.main_arg1))
      ∧ r.2.sem = fun _ => 0)

def quiescent_LayerOut [hLayerOut : Cert.LayerOut.Facts] : Prop :=
  ∀ (m : (ℓ : Loc Cert.LayerOut.nD Cert.LayerOut.τ Cert.LayerOut.sig) → Buf (Elt Bits) ℓ) (g : Dev Cert.LayerOut.nD → PrngReg), Pre_LayerOut m →
    θ_run (Cert.LayerOut.defs (F := Bits)) (onTc (τ := Cert.LayerOut.τ) (Cert.LayerOut.main (F := Bits))) ⟨m, fun _ => 0, g⟩ (fun r => (∀ c : Dev Cert.LayerOut.nD,
      r.2.mem ((c.tc : Thread Cert.LayerOut.nD Cert.LayerOut.τ).loc Cert.LayerOut.main_arg0) = m ((c.tc : Thread Cert.LayerOut.nD Cert.LayerOut.τ).loc Cert.LayerOut.main_arg0)
      ∧ r.2.mem ((c.tc : Thread Cert.LayerOut.nD Cert.LayerOut.τ).loc Cert.LayerOut.main_arg1) = m ((c.tc : Thread Cert.LayerOut.nD Cert.LayerOut.τ).loc Cert.LayerOut.main_arg1)
      ∧ r.2.mem ((c.tc : Thread Cert.LayerOut.nD Cert.LayerOut.τ).loc Cert.LayerOut.main_arg2) = m ((c.tc : Thread Cert.LayerOut.nD Cert.LayerOut.τ).loc Cert.LayerOut.main_arg2))
      ∧ r.2.sem = fun _ => 0)

def quiescent_LayerOutIdeal [hLayerOutIdeal : Cert.LayerOutIdeal.Facts] : Prop :=
  ∀ (m : (ℓ : Loc Cert.LayerOutIdeal.nD Cert.LayerOutIdeal.τ Cert.LayerOutIdeal.sig) → Buf (Elt Ideal) ℓ) (g : Dev Cert.LayerOutIdeal.nD → PrngReg), Pre_LayerOutIdeal m →
    θ_run (Cert.LayerOutIdeal.defs (F := Ideal)) (onTc (τ := Cert.LayerOutIdeal.τ) (Cert.LayerOutIdeal.main (F := Ideal))) ⟨m, fun _ => 0, g⟩ (fun r => (∀ c : Dev Cert.LayerOutIdeal.nD,
      r.2.mem ((c.tc : Thread Cert.LayerOutIdeal.nD Cert.LayerOutIdeal.τ).loc Cert.LayerOutIdeal.main_arg0) = m ((c.tc : Thread Cert.LayerOutIdeal.nD Cert.LayerOutIdeal.τ).loc Cert.LayerOutIdeal.main_arg0)
      ∧ r.2.mem ((c.tc : Thread Cert.LayerOutIdeal.nD Cert.LayerOutIdeal.τ).loc Cert.LayerOutIdeal.main_arg1) = m ((c.tc : Thread Cert.LayerOutIdeal.nD Cert.LayerOutIdeal.τ).loc Cert.LayerOutIdeal.main_arg1)
      ∧ r.2.mem ((c.tc : Thread Cert.LayerOutIdeal.nD Cert.LayerOutIdeal.τ).loc Cert.LayerOutIdeal.main_arg2) = m ((c.tc : Thread Cert.LayerOutIdeal.nD Cert.LayerOutIdeal.τ).loc Cert.LayerOutIdeal.main_arg2))
      ∧ r.2.sem = fun _ => 0)

def quiescent_LayerOutRef [hLayerOutRef : Cert.LayerOutRef.Facts] : Prop :=
  ∀ (m : (ℓ : Loc Cert.LayerOutRef.nD Cert.LayerOutRef.τ Cert.LayerOutRef.sig) → Buf (Elt Bits) ℓ) (g : Dev Cert.LayerOutRef.nD → PrngReg), Pre_LayerOutRef m →
    θ_run (Cert.LayerOutRef.defs (F := Bits)) (onTc (τ := Cert.LayerOutRef.τ) (Cert.LayerOutRef.main (F := Bits))) ⟨m, fun _ => 0, g⟩ (fun r => (∀ c : Dev Cert.LayerOutRef.nD,
      r.2.mem ((c.tc : Thread Cert.LayerOutRef.nD Cert.LayerOutRef.τ).loc Cert.LayerOutRef.main_arg0) = m ((c.tc : Thread Cert.LayerOutRef.nD Cert.LayerOutRef.τ).loc Cert.LayerOutRef.main_arg0)
      ∧ r.2.mem ((c.tc : Thread Cert.LayerOutRef.nD Cert.LayerOutRef.τ).loc Cert.LayerOutRef.main_arg1) = m ((c.tc : Thread Cert.LayerOutRef.nD Cert.LayerOutRef.τ).loc Cert.LayerOutRef.main_arg1)
      ∧ r.2.mem ((c.tc : Thread Cert.LayerOutRef.nD Cert.LayerOutRef.τ).loc Cert.LayerOutRef.main_arg2) = m ((c.tc : Thread Cert.LayerOutRef.nD Cert.LayerOutRef.τ).loc Cert.LayerOutRef.main_arg2))
      ∧ r.2.sem = fun _ => 0)

def quiescent_LayerOutRefIdeal [hLayerOutRefIdeal : Cert.LayerOutRefIdeal.Facts] : Prop :=
  ∀ (m : (ℓ : Loc Cert.LayerOutRefIdeal.nD Cert.LayerOutRefIdeal.τ Cert.LayerOutRefIdeal.sig) → Buf (Elt Ideal) ℓ) (g : Dev Cert.LayerOutRefIdeal.nD → PrngReg), Pre_LayerOutRefIdeal m →
    θ_run (Cert.LayerOutRefIdeal.defs (F := Ideal)) (onTc (τ := Cert.LayerOutRefIdeal.τ) (Cert.LayerOutRefIdeal.main (F := Ideal))) ⟨m, fun _ => 0, g⟩ (fun r => (∀ c : Dev Cert.LayerOutRefIdeal.nD,
      r.2.mem ((c.tc : Thread Cert.LayerOutRefIdeal.nD Cert.LayerOutRefIdeal.τ).loc Cert.LayerOutRefIdeal.main_arg0) = m ((c.tc : Thread Cert.LayerOutRefIdeal.nD Cert.LayerOutRefIdeal.τ).loc Cert.LayerOutRefIdeal.main_arg0)
      ∧ r.2.mem ((c.tc : Thread Cert.LayerOutRefIdeal.nD Cert.LayerOutRefIdeal.τ).loc Cert.LayerOutRefIdeal.main_arg1) = m ((c.tc : Thread Cert.LayerOutRefIdeal.nD Cert.LayerOutRefIdeal.τ).loc Cert.LayerOutRefIdeal.main_arg1)
      ∧ r.2.mem ((c.tc : Thread Cert.LayerOutRefIdeal.nD Cert.LayerOutRefIdeal.τ).loc Cert.LayerOutRefIdeal.main_arg2) = m ((c.tc : Thread Cert.LayerOutRefIdeal.nD Cert.LayerOutRefIdeal.τ).loc Cert.LayerOutRefIdeal.main_arg2))
      ∧ r.2.sem = fun _ => 0)

def quiescent_OutGrad [hOutGrad : Cert.OutGrad.Facts] : Prop :=
  ∀ (m : (ℓ : Loc Cert.OutGrad.nD Cert.OutGrad.τ Cert.OutGrad.sig) → Buf (Elt Bits) ℓ) (g : Dev Cert.OutGrad.nD → PrngReg), Pre_OutGrad m →
    θ_run (Cert.OutGrad.defs (F := Bits)) (onTc (τ := Cert.OutGrad.τ) (Cert.OutGrad.main (F := Bits))) ⟨m, fun _ => 0, g⟩ (fun r => (∀ c : Dev Cert.OutGrad.nD,
      r.2.mem ((c.tc : Thread Cert.OutGrad.nD Cert.OutGrad.τ).loc Cert.OutGrad.main_arg0) = m ((c.tc : Thread Cert.OutGrad.nD Cert.OutGrad.τ).loc Cert.OutGrad.main_arg0)
      ∧ r.2.mem ((c.tc : Thread Cert.OutGrad.nD Cert.OutGrad.τ).loc Cert.OutGrad.main_arg1) = m ((c.tc : Thread Cert.OutGrad.nD Cert.OutGrad.τ).loc Cert.OutGrad.main_arg1))
      ∧ r.2.sem = fun _ => 0)

def quiescent_OutGradIdeal [hOutGradIdeal : Cert.OutGradIdeal.Facts] : Prop :=
  ∀ (m : (ℓ : Loc Cert.OutGradIdeal.nD Cert.OutGradIdeal.τ Cert.OutGradIdeal.sig) → Buf (Elt Ideal) ℓ) (g : Dev Cert.OutGradIdeal.nD → PrngReg), Pre_OutGradIdeal m →
    θ_run (Cert.OutGradIdeal.defs (F := Ideal)) (onTc (τ := Cert.OutGradIdeal.τ) (Cert.OutGradIdeal.main (F := Ideal))) ⟨m, fun _ => 0, g⟩ (fun r => (∀ c : Dev Cert.OutGradIdeal.nD,
      r.2.mem ((c.tc : Thread Cert.OutGradIdeal.nD Cert.OutGradIdeal.τ).loc Cert.OutGradIdeal.main_arg0) = m ((c.tc : Thread Cert.OutGradIdeal.nD Cert.OutGradIdeal.τ).loc Cert.OutGradIdeal.main_arg0)
      ∧ r.2.mem ((c.tc : Thread Cert.OutGradIdeal.nD Cert.OutGradIdeal.τ).loc Cert.OutGradIdeal.main_arg1) = m ((c.tc : Thread Cert.OutGradIdeal.nD Cert.OutGradIdeal.τ).loc Cert.OutGradIdeal.main_arg1))
      ∧ r.2.sem = fun _ => 0)

def quiescent_OutGradRef [hOutGradRef : Cert.OutGradRef.Facts] : Prop :=
  ∀ (m : (ℓ : Loc Cert.OutGradRef.nD Cert.OutGradRef.τ Cert.OutGradRef.sig) → Buf (Elt Bits) ℓ) (g : Dev Cert.OutGradRef.nD → PrngReg), Pre_OutGradRef m →
    θ_run (Cert.OutGradRef.defs (F := Bits)) (onTc (τ := Cert.OutGradRef.τ) (Cert.OutGradRef.main (F := Bits))) ⟨m, fun _ => 0, g⟩ (fun r => (∀ c : Dev Cert.OutGradRef.nD,
      r.2.mem ((c.tc : Thread Cert.OutGradRef.nD Cert.OutGradRef.τ).loc Cert.OutGradRef.main_arg0) = m ((c.tc : Thread Cert.OutGradRef.nD Cert.OutGradRef.τ).loc Cert.OutGradRef.main_arg0)
      ∧ r.2.mem ((c.tc : Thread Cert.OutGradRef.nD Cert.OutGradRef.τ).loc Cert.OutGradRef.main_arg1) = m ((c.tc : Thread Cert.OutGradRef.nD Cert.OutGradRef.τ).loc Cert.OutGradRef.main_arg1))
      ∧ r.2.sem = fun _ => 0)

def quiescent_OutGradRefIdeal [hOutGradRefIdeal : Cert.OutGradRefIdeal.Facts] : Prop :=
  ∀ (m : (ℓ : Loc Cert.OutGradRefIdeal.nD Cert.OutGradRefIdeal.τ Cert.OutGradRefIdeal.sig) → Buf (Elt Ideal) ℓ) (g : Dev Cert.OutGradRefIdeal.nD → PrngReg), Pre_OutGradRefIdeal m →
    θ_run (Cert.OutGradRefIdeal.defs (F := Ideal)) (onTc (τ := Cert.OutGradRefIdeal.τ) (Cert.OutGradRefIdeal.main (F := Ideal))) ⟨m, fun _ => 0, g⟩ (fun r => (∀ c : Dev Cert.OutGradRefIdeal.nD,
      r.2.mem ((c.tc : Thread Cert.OutGradRefIdeal.nD Cert.OutGradRefIdeal.τ).loc Cert.OutGradRefIdeal.main_arg0) = m ((c.tc : Thread Cert.OutGradRefIdeal.nD Cert.OutGradRefIdeal.τ).loc Cert.OutGradRefIdeal.main_arg0)
      ∧ r.2.mem ((c.tc : Thread Cert.OutGradRefIdeal.nD Cert.OutGradRefIdeal.τ).loc Cert.OutGradRefIdeal.main_arg1) = m ((c.tc : Thread Cert.OutGradRefIdeal.nD Cert.OutGradRefIdeal.τ).loc Cert.OutGradRefIdeal.main_arg1))
      ∧ r.2.sem = fun _ => 0)

def quiescent_OddInGrad [hOddInGrad : Cert.OddInGrad.Facts] : Prop :=
  ∀ (m : (ℓ : Loc Cert.OddInGrad.nD Cert.OddInGrad.τ Cert.OddInGrad.sig) → Buf (Elt Bits) ℓ) (g : Dev Cert.OddInGrad.nD → PrngReg), Pre_OddInGrad m →
    θ_run (Cert.OddInGrad.defs (F := Bits)) (onTc (τ := Cert.OddInGrad.τ) (Cert.OddInGrad.main (F := Bits))) ⟨m, fun _ => 0, g⟩ (fun r => (∀ c : Dev Cert.OddInGrad.nD,
      r.2.mem ((c.tc : Thread Cert.OddInGrad.nD Cert.OddInGrad.τ).loc Cert.OddInGrad.main_arg0) = m ((c.tc : Thread Cert.OddInGrad.nD Cert.OddInGrad.τ).loc Cert.OddInGrad.main_arg0)
      ∧ r.2.mem ((c.tc : Thread Cert.OddInGrad.nD Cert.OddInGrad.τ).loc Cert.OddInGrad.main_arg1) = m ((c.tc : Thread Cert.OddInGrad.nD Cert.OddInGrad.τ).loc Cert.OddInGrad.main_arg1))
      ∧ r.2.sem = fun _ => 0)

def quiescent_OddInGradIdeal [hOddInGradIdeal : Cert.OddInGradIdeal.Facts] : Prop :=
  ∀ (m : (ℓ : Loc Cert.OddInGradIdeal.nD Cert.OddInGradIdeal.τ Cert.OddInGradIdeal.sig) → Buf (Elt Ideal) ℓ) (g : Dev Cert.OddInGradIdeal.nD → PrngReg), Pre_OddInGradIdeal m →
    θ_run (Cert.OddInGradIdeal.defs (F := Ideal)) (onTc (τ := Cert.OddInGradIdeal.τ) (Cert.OddInGradIdeal.main (F := Ideal))) ⟨m, fun _ => 0, g⟩ (fun r => (∀ c : Dev Cert.OddInGradIdeal.nD,
      r.2.mem ((c.tc : Thread Cert.OddInGradIdeal.nD Cert.OddInGradIdeal.τ).loc Cert.OddInGradIdeal.main_arg0) = m ((c.tc : Thread Cert.OddInGradIdeal.nD Cert.OddInGradIdeal.τ).loc Cert.OddInGradIdeal.main_arg0)
      ∧ r.2.mem ((c.tc : Thread Cert.OddInGradIdeal.nD Cert.OddInGradIdeal.τ).loc Cert.OddInGradIdeal.main_arg1) = m ((c.tc : Thread Cert.OddInGradIdeal.nD Cert.OddInGradIdeal.τ).loc Cert.OddInGradIdeal.main_arg1))
      ∧ r.2.sem = fun _ => 0)

def quiescent_OddInGradRef [hOddInGradRef : Cert.OddInGradRef.Facts] : Prop :=
  ∀ (m : (ℓ : Loc Cert.OddInGradRef.nD Cert.OddInGradRef.τ Cert.OddInGradRef.sig) → Buf (Elt Bits) ℓ) (g : Dev Cert.OddInGradRef.nD → PrngReg), Pre_OddInGradRef m →
    θ_run (Cert.OddInGradRef.defs (F := Bits)) (onTc (τ := Cert.OddInGradRef.τ) (Cert.OddInGradRef.main (F := Bits))) ⟨m, fun _ => 0, g⟩ (fun r => (∀ c : Dev Cert.OddInGradRef.nD,
      r.2.mem ((c.tc : Thread Cert.OddInGradRef.nD Cert.OddInGradRef.τ).loc Cert.OddInGradRef.main_arg0) = m ((c.tc : Thread Cert.OddInGradRef.nD Cert.OddInGradRef.τ).loc Cert.OddInGradRef.main_arg0)
      ∧ r.2.mem ((c.tc : Thread Cert.OddInGradRef.nD Cert.OddInGradRef.τ).loc Cert.OddInGradRef.main_arg1) = m ((c.tc : Thread Cert.OddInGradRef.nD Cert.OddInGradRef.τ).loc Cert.OddInGradRef.main_arg1))
      ∧ r.2.sem = fun _ => 0)

def quiescent_OddInGradRefIdeal [hOddInGradRefIdeal : Cert.OddInGradRefIdeal.Facts] : Prop :=
  ∀ (m : (ℓ : Loc Cert.OddInGradRefIdeal.nD Cert.OddInGradRefIdeal.τ Cert.OddInGradRefIdeal.sig) → Buf (Elt Ideal) ℓ) (g : Dev Cert.OddInGradRefIdeal.nD → PrngReg), Pre_OddInGradRefIdeal m →
    θ_run (Cert.OddInGradRefIdeal.defs (F := Ideal)) (onTc (τ := Cert.OddInGradRefIdeal.τ) (Cert.OddInGradRefIdeal.main (F := Ideal))) ⟨m, fun _ => 0, g⟩ (fun r => (∀ c : Dev Cert.OddInGradRefIdeal.nD,
      r.2.mem ((c.tc : Thread Cert.OddInGradRefIdeal.nD Cert.OddInGradRefIdeal.τ).loc Cert.OddInGradRefIdeal.main_arg0) = m ((c.tc : Thread Cert.OddInGradRefIdeal.nD Cert.OddInGradRefIdeal.τ).loc Cert.OddInGradRefIdeal.main_arg0)
      ∧ r.2.mem ((c.tc : Thread Cert.OddInGradRefIdeal.nD Cert.OddInGradRefIdeal.τ).loc Cert.OddInGradRefIdeal.main_arg1) = m ((c.tc : Thread Cert.OddInGradRefIdeal.nD Cert.OddInGradRefIdeal.τ).loc Cert.OddInGradRefIdeal.main_arg1))
      ∧ r.2.sem = fun _ => 0)

def quiescent_EvenInGrad [hEvenInGrad : Cert.EvenInGrad.Facts] : Prop :=
  ∀ (m : (ℓ : Loc Cert.EvenInGrad.nD Cert.EvenInGrad.τ Cert.EvenInGrad.sig) → Buf (Elt Bits) ℓ) (g : Dev Cert.EvenInGrad.nD → PrngReg), Pre_EvenInGrad m →
    θ_run (Cert.EvenInGrad.defs (F := Bits)) (onTc (τ := Cert.EvenInGrad.τ) (Cert.EvenInGrad.main (F := Bits))) ⟨m, fun _ => 0, g⟩ (fun r => (∀ c : Dev Cert.EvenInGrad.nD,
      r.2.mem ((c.tc : Thread Cert.EvenInGrad.nD Cert.EvenInGrad.τ).loc Cert.EvenInGrad.main_arg0) = m ((c.tc : Thread Cert.EvenInGrad.nD Cert.EvenInGrad.τ).loc Cert.EvenInGrad.main_arg0)
      ∧ r.2.mem ((c.tc : Thread Cert.EvenInGrad.nD Cert.EvenInGrad.τ).loc Cert.EvenInGrad.main_arg1) = m ((c.tc : Thread Cert.EvenInGrad.nD Cert.EvenInGrad.τ).loc Cert.EvenInGrad.main_arg1))
      ∧ r.2.sem = fun _ => 0)

def quiescent_EvenInGradIdeal [hEvenInGradIdeal : Cert.EvenInGradIdeal.Facts] : Prop :=
  ∀ (m : (ℓ : Loc Cert.EvenInGradIdeal.nD Cert.EvenInGradIdeal.τ Cert.EvenInGradIdeal.sig) → Buf (Elt Ideal) ℓ) (g : Dev Cert.EvenInGradIdeal.nD → PrngReg), Pre_EvenInGradIdeal m →
    θ_run (Cert.EvenInGradIdeal.defs (F := Ideal)) (onTc (τ := Cert.EvenInGradIdeal.τ) (Cert.EvenInGradIdeal.main (F := Ideal))) ⟨m, fun _ => 0, g⟩ (fun r => (∀ c : Dev Cert.EvenInGradIdeal.nD,
      r.2.mem ((c.tc : Thread Cert.EvenInGradIdeal.nD Cert.EvenInGradIdeal.τ).loc Cert.EvenInGradIdeal.main_arg0) = m ((c.tc : Thread Cert.EvenInGradIdeal.nD Cert.EvenInGradIdeal.τ).loc Cert.EvenInGradIdeal.main_arg0)
      ∧ r.2.mem ((c.tc : Thread Cert.EvenInGradIdeal.nD Cert.EvenInGradIdeal.τ).loc Cert.EvenInGradIdeal.main_arg1) = m ((c.tc : Thread Cert.EvenInGradIdeal.nD Cert.EvenInGradIdeal.τ).loc Cert.EvenInGradIdeal.main_arg1))
      ∧ r.2.sem = fun _ => 0)

def quiescent_EvenInGradRef [hEvenInGradRef : Cert.EvenInGradRef.Facts] : Prop :=
  ∀ (m : (ℓ : Loc Cert.EvenInGradRef.nD Cert.EvenInGradRef.τ Cert.EvenInGradRef.sig) → Buf (Elt Bits) ℓ) (g : Dev Cert.EvenInGradRef.nD → PrngReg), Pre_EvenInGradRef m →
    θ_run (Cert.EvenInGradRef.defs (F := Bits)) (onTc (τ := Cert.EvenInGradRef.τ) (Cert.EvenInGradRef.main (F := Bits))) ⟨m, fun _ => 0, g⟩ (fun r => (∀ c : Dev Cert.EvenInGradRef.nD,
      r.2.mem ((c.tc : Thread Cert.EvenInGradRef.nD Cert.EvenInGradRef.τ).loc Cert.EvenInGradRef.main_arg0) = m ((c.tc : Thread Cert.EvenInGradRef.nD Cert.EvenInGradRef.τ).loc Cert.EvenInGradRef.main_arg0)
      ∧ r.2.mem ((c.tc : Thread Cert.EvenInGradRef.nD Cert.EvenInGradRef.τ).loc Cert.EvenInGradRef.main_arg1) = m ((c.tc : Thread Cert.EvenInGradRef.nD Cert.EvenInGradRef.τ).loc Cert.EvenInGradRef.main_arg1))
      ∧ r.2.sem = fun _ => 0)

def quiescent_EvenInGradRefIdeal [hEvenInGradRefIdeal : Cert.EvenInGradRefIdeal.Facts] : Prop :=
  ∀ (m : (ℓ : Loc Cert.EvenInGradRefIdeal.nD Cert.EvenInGradRefIdeal.τ Cert.EvenInGradRefIdeal.sig) → Buf (Elt Ideal) ℓ) (g : Dev Cert.EvenInGradRefIdeal.nD → PrngReg), Pre_EvenInGradRefIdeal m →
    θ_run (Cert.EvenInGradRefIdeal.defs (F := Ideal)) (onTc (τ := Cert.EvenInGradRefIdeal.τ) (Cert.EvenInGradRefIdeal.main (F := Ideal))) ⟨m, fun _ => 0, g⟩ (fun r => (∀ c : Dev Cert.EvenInGradRefIdeal.nD,
      r.2.mem ((c.tc : Thread Cert.EvenInGradRefIdeal.nD Cert.EvenInGradRefIdeal.τ).loc Cert.EvenInGradRefIdeal.main_arg0) = m ((c.tc : Thread Cert.EvenInGradRefIdeal.nD Cert.EvenInGradRefIdeal.τ).loc Cert.EvenInGradRefIdeal.main_arg0)
      ∧ r.2.mem ((c.tc : Thread Cert.EvenInGradRefIdeal.nD Cert.EvenInGradRefIdeal.τ).loc Cert.EvenInGradRefIdeal.main_arg1) = m ((c.tc : Thread Cert.EvenInGradRefIdeal.nD Cert.EvenInGradRefIdeal.τ).loc Cert.EvenInGradRefIdeal.main_arg1))
      ∧ r.2.sem = fun _ => 0)

def quiescent_OutWeightGrad [hOutWeightGrad : Cert.OutWeightGrad.Facts] : Prop :=
  ∀ (m : (ℓ : Loc Cert.OutWeightGrad.nD Cert.OutWeightGrad.τ Cert.OutWeightGrad.sig) → Buf (Elt Bits) ℓ) (g : Dev Cert.OutWeightGrad.nD → PrngReg), Pre_OutWeightGrad m →
    θ_run (Cert.OutWeightGrad.defs (F := Bits)) (onTc (τ := Cert.OutWeightGrad.τ) (Cert.OutWeightGrad.main (F := Bits))) ⟨m, fun _ => 0, g⟩ (fun r => (∀ c : Dev Cert.OutWeightGrad.nD,
      r.2.mem ((c.tc : Thread Cert.OutWeightGrad.nD Cert.OutWeightGrad.τ).loc Cert.OutWeightGrad.main_arg0) = m ((c.tc : Thread Cert.OutWeightGrad.nD Cert.OutWeightGrad.τ).loc Cert.OutWeightGrad.main_arg0)
      ∧ r.2.mem ((c.tc : Thread Cert.OutWeightGrad.nD Cert.OutWeightGrad.τ).loc Cert.OutWeightGrad.main_arg1) = m ((c.tc : Thread Cert.OutWeightGrad.nD Cert.OutWeightGrad.τ).loc Cert.OutWeightGrad.main_arg1))
      ∧ r.2.sem = fun _ => 0)

def quiescent_OutWeightGradIdeal [hOutWeightGradIdeal : Cert.OutWeightGradIdeal.Facts] : Prop :=
  ∀ (m : (ℓ : Loc Cert.OutWeightGradIdeal.nD Cert.OutWeightGradIdeal.τ Cert.OutWeightGradIdeal.sig) → Buf (Elt Ideal) ℓ) (g : Dev Cert.OutWeightGradIdeal.nD → PrngReg), Pre_OutWeightGradIdeal m →
    θ_run (Cert.OutWeightGradIdeal.defs (F := Ideal)) (onTc (τ := Cert.OutWeightGradIdeal.τ) (Cert.OutWeightGradIdeal.main (F := Ideal))) ⟨m, fun _ => 0, g⟩ (fun r => (∀ c : Dev Cert.OutWeightGradIdeal.nD,
      r.2.mem ((c.tc : Thread Cert.OutWeightGradIdeal.nD Cert.OutWeightGradIdeal.τ).loc Cert.OutWeightGradIdeal.main_arg0) = m ((c.tc : Thread Cert.OutWeightGradIdeal.nD Cert.OutWeightGradIdeal.τ).loc Cert.OutWeightGradIdeal.main_arg0)
      ∧ r.2.mem ((c.tc : Thread Cert.OutWeightGradIdeal.nD Cert.OutWeightGradIdeal.τ).loc Cert.OutWeightGradIdeal.main_arg1) = m ((c.tc : Thread Cert.OutWeightGradIdeal.nD Cert.OutWeightGradIdeal.τ).loc Cert.OutWeightGradIdeal.main_arg1))
      ∧ r.2.sem = fun _ => 0)

def quiescent_OutWeightGradRef [hOutWeightGradRef : Cert.OutWeightGradRef.Facts] : Prop :=
  ∀ (m : (ℓ : Loc Cert.OutWeightGradRef.nD Cert.OutWeightGradRef.τ Cert.OutWeightGradRef.sig) → Buf (Elt Bits) ℓ) (g : Dev Cert.OutWeightGradRef.nD → PrngReg), Pre_OutWeightGradRef m →
    θ_run (Cert.OutWeightGradRef.defs (F := Bits)) (onTc (τ := Cert.OutWeightGradRef.τ) (Cert.OutWeightGradRef.main (F := Bits))) ⟨m, fun _ => 0, g⟩ (fun r => (∀ c : Dev Cert.OutWeightGradRef.nD,
      r.2.mem ((c.tc : Thread Cert.OutWeightGradRef.nD Cert.OutWeightGradRef.τ).loc Cert.OutWeightGradRef.main_arg0) = m ((c.tc : Thread Cert.OutWeightGradRef.nD Cert.OutWeightGradRef.τ).loc Cert.OutWeightGradRef.main_arg0)
      ∧ r.2.mem ((c.tc : Thread Cert.OutWeightGradRef.nD Cert.OutWeightGradRef.τ).loc Cert.OutWeightGradRef.main_arg1) = m ((c.tc : Thread Cert.OutWeightGradRef.nD Cert.OutWeightGradRef.τ).loc Cert.OutWeightGradRef.main_arg1))
      ∧ r.2.sem = fun _ => 0)

def quiescent_OutWeightGradRefIdeal [hOutWeightGradRefIdeal : Cert.OutWeightGradRefIdeal.Facts] : Prop :=
  ∀ (m : (ℓ : Loc Cert.OutWeightGradRefIdeal.nD Cert.OutWeightGradRefIdeal.τ Cert.OutWeightGradRefIdeal.sig) → Buf (Elt Ideal) ℓ) (g : Dev Cert.OutWeightGradRefIdeal.nD → PrngReg), Pre_OutWeightGradRefIdeal m →
    θ_run (Cert.OutWeightGradRefIdeal.defs (F := Ideal)) (onTc (τ := Cert.OutWeightGradRefIdeal.τ) (Cert.OutWeightGradRefIdeal.main (F := Ideal))) ⟨m, fun _ => 0, g⟩ (fun r => (∀ c : Dev Cert.OutWeightGradRefIdeal.nD,
      r.2.mem ((c.tc : Thread Cert.OutWeightGradRefIdeal.nD Cert.OutWeightGradRefIdeal.τ).loc Cert.OutWeightGradRefIdeal.main_arg0) = m ((c.tc : Thread Cert.OutWeightGradRefIdeal.nD Cert.OutWeightGradRefIdeal.τ).loc Cert.OutWeightGradRefIdeal.main_arg0)
      ∧ r.2.mem ((c.tc : Thread Cert.OutWeightGradRefIdeal.nD Cert.OutWeightGradRefIdeal.τ).loc Cert.OutWeightGradRefIdeal.main_arg1) = m ((c.tc : Thread Cert.OutWeightGradRefIdeal.nD Cert.OutWeightGradRefIdeal.τ).loc Cert.OutWeightGradRefIdeal.main_arg1))
      ∧ r.2.sem = fun _ => 0)

def quiescent_OddInWeightGrad [hOddInWeightGrad : Cert.OddInWeightGrad.Facts] : Prop :=
  ∀ (m : (ℓ : Loc Cert.OddInWeightGrad.nD Cert.OddInWeightGrad.τ Cert.OddInWeightGrad.sig) → Buf (Elt Bits) ℓ) (g : Dev Cert.OddInWeightGrad.nD → PrngReg), Pre_OddInWeightGrad m →
    θ_run (Cert.OddInWeightGrad.defs (F := Bits)) (onTc (τ := Cert.OddInWeightGrad.τ) (Cert.OddInWeightGrad.main (F := Bits))) ⟨m, fun _ => 0, g⟩ (fun r => (∀ c : Dev Cert.OddInWeightGrad.nD,
      r.2.mem ((c.tc : Thread Cert.OddInWeightGrad.nD Cert.OddInWeightGrad.τ).loc Cert.OddInWeightGrad.main_arg0) = m ((c.tc : Thread Cert.OddInWeightGrad.nD Cert.OddInWeightGrad.τ).loc Cert.OddInWeightGrad.main_arg0)
      ∧ r.2.mem ((c.tc : Thread Cert.OddInWeightGrad.nD Cert.OddInWeightGrad.τ).loc Cert.OddInWeightGrad.main_arg1) = m ((c.tc : Thread Cert.OddInWeightGrad.nD Cert.OddInWeightGrad.τ).loc Cert.OddInWeightGrad.main_arg1))
      ∧ r.2.sem = fun _ => 0)

def quiescent_OddInWeightGradIdeal [hOddInWeightGradIdeal : Cert.OddInWeightGradIdeal.Facts] : Prop :=
  ∀ (m : (ℓ : Loc Cert.OddInWeightGradIdeal.nD Cert.OddInWeightGradIdeal.τ Cert.OddInWeightGradIdeal.sig) → Buf (Elt Ideal) ℓ) (g : Dev Cert.OddInWeightGradIdeal.nD → PrngReg), Pre_OddInWeightGradIdeal m →
    θ_run (Cert.OddInWeightGradIdeal.defs (F := Ideal)) (onTc (τ := Cert.OddInWeightGradIdeal.τ) (Cert.OddInWeightGradIdeal.main (F := Ideal))) ⟨m, fun _ => 0, g⟩ (fun r => (∀ c : Dev Cert.OddInWeightGradIdeal.nD,
      r.2.mem ((c.tc : Thread Cert.OddInWeightGradIdeal.nD Cert.OddInWeightGradIdeal.τ).loc Cert.OddInWeightGradIdeal.main_arg0) = m ((c.tc : Thread Cert.OddInWeightGradIdeal.nD Cert.OddInWeightGradIdeal.τ).loc Cert.OddInWeightGradIdeal.main_arg0)
      ∧ r.2.mem ((c.tc : Thread Cert.OddInWeightGradIdeal.nD Cert.OddInWeightGradIdeal.τ).loc Cert.OddInWeightGradIdeal.main_arg1) = m ((c.tc : Thread Cert.OddInWeightGradIdeal.nD Cert.OddInWeightGradIdeal.τ).loc Cert.OddInWeightGradIdeal.main_arg1))
      ∧ r.2.sem = fun _ => 0)

def quiescent_OddInWeightGradRef [hOddInWeightGradRef : Cert.OddInWeightGradRef.Facts] : Prop :=
  ∀ (m : (ℓ : Loc Cert.OddInWeightGradRef.nD Cert.OddInWeightGradRef.τ Cert.OddInWeightGradRef.sig) → Buf (Elt Bits) ℓ) (g : Dev Cert.OddInWeightGradRef.nD → PrngReg), Pre_OddInWeightGradRef m →
    θ_run (Cert.OddInWeightGradRef.defs (F := Bits)) (onTc (τ := Cert.OddInWeightGradRef.τ) (Cert.OddInWeightGradRef.main (F := Bits))) ⟨m, fun _ => 0, g⟩ (fun r => (∀ c : Dev Cert.OddInWeightGradRef.nD,
      r.2.mem ((c.tc : Thread Cert.OddInWeightGradRef.nD Cert.OddInWeightGradRef.τ).loc Cert.OddInWeightGradRef.main_arg0) = m ((c.tc : Thread Cert.OddInWeightGradRef.nD Cert.OddInWeightGradRef.τ).loc Cert.OddInWeightGradRef.main_arg0)
      ∧ r.2.mem ((c.tc : Thread Cert.OddInWeightGradRef.nD Cert.OddInWeightGradRef.τ).loc Cert.OddInWeightGradRef.main_arg1) = m ((c.tc : Thread Cert.OddInWeightGradRef.nD Cert.OddInWeightGradRef.τ).loc Cert.OddInWeightGradRef.main_arg1))
      ∧ r.2.sem = fun _ => 0)

def quiescent_OddInWeightGradRefIdeal [hOddInWeightGradRefIdeal : Cert.OddInWeightGradRefIdeal.Facts] : Prop :=
  ∀ (m : (ℓ : Loc Cert.OddInWeightGradRefIdeal.nD Cert.OddInWeightGradRefIdeal.τ Cert.OddInWeightGradRefIdeal.sig) → Buf (Elt Ideal) ℓ) (g : Dev Cert.OddInWeightGradRefIdeal.nD → PrngReg), Pre_OddInWeightGradRefIdeal m →
    θ_run (Cert.OddInWeightGradRefIdeal.defs (F := Ideal)) (onTc (τ := Cert.OddInWeightGradRefIdeal.τ) (Cert.OddInWeightGradRefIdeal.main (F := Ideal))) ⟨m, fun _ => 0, g⟩ (fun r => (∀ c : Dev Cert.OddInWeightGradRefIdeal.nD,
      r.2.mem ((c.tc : Thread Cert.OddInWeightGradRefIdeal.nD Cert.OddInWeightGradRefIdeal.τ).loc Cert.OddInWeightGradRefIdeal.main_arg0) = m ((c.tc : Thread Cert.OddInWeightGradRefIdeal.nD Cert.OddInWeightGradRefIdeal.τ).loc Cert.OddInWeightGradRefIdeal.main_arg0)
      ∧ r.2.mem ((c.tc : Thread Cert.OddInWeightGradRefIdeal.nD Cert.OddInWeightGradRefIdeal.τ).loc Cert.OddInWeightGradRefIdeal.main_arg1) = m ((c.tc : Thread Cert.OddInWeightGradRefIdeal.nD Cert.OddInWeightGradRefIdeal.τ).loc Cert.OddInWeightGradRefIdeal.main_arg1))
      ∧ r.2.sem = fun _ => 0)

def quiescent_EvenInWeightGrad [hEvenInWeightGrad : Cert.EvenInWeightGrad.Facts] : Prop :=
  ∀ (m : (ℓ : Loc Cert.EvenInWeightGrad.nD Cert.EvenInWeightGrad.τ Cert.EvenInWeightGrad.sig) → Buf (Elt Bits) ℓ) (g : Dev Cert.EvenInWeightGrad.nD → PrngReg), Pre_EvenInWeightGrad m →
    θ_run (Cert.EvenInWeightGrad.defs (F := Bits)) (onTc (τ := Cert.EvenInWeightGrad.τ) (Cert.EvenInWeightGrad.main (F := Bits))) ⟨m, fun _ => 0, g⟩ (fun r => (∀ c : Dev Cert.EvenInWeightGrad.nD,
      r.2.mem ((c.tc : Thread Cert.EvenInWeightGrad.nD Cert.EvenInWeightGrad.τ).loc Cert.EvenInWeightGrad.main_arg0) = m ((c.tc : Thread Cert.EvenInWeightGrad.nD Cert.EvenInWeightGrad.τ).loc Cert.EvenInWeightGrad.main_arg0)
      ∧ r.2.mem ((c.tc : Thread Cert.EvenInWeightGrad.nD Cert.EvenInWeightGrad.τ).loc Cert.EvenInWeightGrad.main_arg1) = m ((c.tc : Thread Cert.EvenInWeightGrad.nD Cert.EvenInWeightGrad.τ).loc Cert.EvenInWeightGrad.main_arg1))
      ∧ r.2.sem = fun _ => 0)

def quiescent_EvenInWeightGradIdeal [hEvenInWeightGradIdeal : Cert.EvenInWeightGradIdeal.Facts] : Prop :=
  ∀ (m : (ℓ : Loc Cert.EvenInWeightGradIdeal.nD Cert.EvenInWeightGradIdeal.τ Cert.EvenInWeightGradIdeal.sig) → Buf (Elt Ideal) ℓ) (g : Dev Cert.EvenInWeightGradIdeal.nD → PrngReg), Pre_EvenInWeightGradIdeal m →
    θ_run (Cert.EvenInWeightGradIdeal.defs (F := Ideal)) (onTc (τ := Cert.EvenInWeightGradIdeal.τ) (Cert.EvenInWeightGradIdeal.main (F := Ideal))) ⟨m, fun _ => 0, g⟩ (fun r => (∀ c : Dev Cert.EvenInWeightGradIdeal.nD,
      r.2.mem ((c.tc : Thread Cert.EvenInWeightGradIdeal.nD Cert.EvenInWeightGradIdeal.τ).loc Cert.EvenInWeightGradIdeal.main_arg0) = m ((c.tc : Thread Cert.EvenInWeightGradIdeal.nD Cert.EvenInWeightGradIdeal.τ).loc Cert.EvenInWeightGradIdeal.main_arg0)
      ∧ r.2.mem ((c.tc : Thread Cert.EvenInWeightGradIdeal.nD Cert.EvenInWeightGradIdeal.τ).loc Cert.EvenInWeightGradIdeal.main_arg1) = m ((c.tc : Thread Cert.EvenInWeightGradIdeal.nD Cert.EvenInWeightGradIdeal.τ).loc Cert.EvenInWeightGradIdeal.main_arg1))
      ∧ r.2.sem = fun _ => 0)

def quiescent_EvenInWeightGradRef [hEvenInWeightGradRef : Cert.EvenInWeightGradRef.Facts] : Prop :=
  ∀ (m : (ℓ : Loc Cert.EvenInWeightGradRef.nD Cert.EvenInWeightGradRef.τ Cert.EvenInWeightGradRef.sig) → Buf (Elt Bits) ℓ) (g : Dev Cert.EvenInWeightGradRef.nD → PrngReg), Pre_EvenInWeightGradRef m →
    θ_run (Cert.EvenInWeightGradRef.defs (F := Bits)) (onTc (τ := Cert.EvenInWeightGradRef.τ) (Cert.EvenInWeightGradRef.main (F := Bits))) ⟨m, fun _ => 0, g⟩ (fun r => (∀ c : Dev Cert.EvenInWeightGradRef.nD,
      r.2.mem ((c.tc : Thread Cert.EvenInWeightGradRef.nD Cert.EvenInWeightGradRef.τ).loc Cert.EvenInWeightGradRef.main_arg0) = m ((c.tc : Thread Cert.EvenInWeightGradRef.nD Cert.EvenInWeightGradRef.τ).loc Cert.EvenInWeightGradRef.main_arg0)
      ∧ r.2.mem ((c.tc : Thread Cert.EvenInWeightGradRef.nD Cert.EvenInWeightGradRef.τ).loc Cert.EvenInWeightGradRef.main_arg1) = m ((c.tc : Thread Cert.EvenInWeightGradRef.nD Cert.EvenInWeightGradRef.τ).loc Cert.EvenInWeightGradRef.main_arg1))
      ∧ r.2.sem = fun _ => 0)

def quiescent_EvenInWeightGradRefIdeal [hEvenInWeightGradRefIdeal : Cert.EvenInWeightGradRefIdeal.Facts] : Prop :=
  ∀ (m : (ℓ : Loc Cert.EvenInWeightGradRefIdeal.nD Cert.EvenInWeightGradRefIdeal.τ Cert.EvenInWeightGradRefIdeal.sig) → Buf (Elt Ideal) ℓ) (g : Dev Cert.EvenInWeightGradRefIdeal.nD → PrngReg), Pre_EvenInWeightGradRefIdeal m →
    θ_run (Cert.EvenInWeightGradRefIdeal.defs (F := Ideal)) (onTc (τ := Cert.EvenInWeightGradRefIdeal.τ) (Cert.EvenInWeightGradRefIdeal.main (F := Ideal))) ⟨m, fun _ => 0, g⟩ (fun r => (∀ c : Dev Cert.EvenInWeightGradRefIdeal.nD,
      r.2.mem ((c.tc : Thread Cert.EvenInWeightGradRefIdeal.nD Cert.EvenInWeightGradRefIdeal.τ).loc Cert.EvenInWeightGradRefIdeal.main_arg0) = m ((c.tc : Thread Cert.EvenInWeightGradRefIdeal.nD Cert.EvenInWeightGradRefIdeal.τ).loc Cert.EvenInWeightGradRefIdeal.main_arg0)
      ∧ r.2.mem ((c.tc : Thread Cert.EvenInWeightGradRefIdeal.nD Cert.EvenInWeightGradRefIdeal.τ).loc Cert.EvenInWeightGradRefIdeal.main_arg1) = m ((c.tc : Thread Cert.EvenInWeightGradRefIdeal.nD Cert.EvenInWeightGradRefIdeal.τ).loc Cert.EvenInWeightGradRefIdeal.main_arg1))
      ∧ r.2.sem = fun _ => 0)

def preserves_Exchange_ExchangeIdeal : Prop :=
  True

def algebraic_ExchangeIdeal_ExchangeRefIdeal [hExchangeIdeal : Cert.ExchangeIdeal.Facts] [hExchangeRefIdeal : Cert.ExchangeRefIdeal.Facts] : Prop :=
  ∀ (m : (ℓ : Loc Cert.ExchangeIdeal.nD Cert.ExchangeIdeal.τ Cert.ExchangeIdeal.sig) → Buf (Elt Ideal) ℓ) (g : Dev Cert.ExchangeIdeal.nD → PrngReg)
    (m' : (ℓ : Loc Cert.ExchangeRefIdeal.nD Cert.ExchangeRefIdeal.τ Cert.ExchangeRefIdeal.sig) → Buf (Elt Ideal) ℓ) (g' : Dev Cert.ExchangeRefIdeal.nD → PrngReg), Pre_ExchangeIdeal m →
    (∀ c : Dev Cert.ExchangeIdeal.nD,
      m ((c.tc : Thread Cert.ExchangeIdeal.nD Cert.ExchangeIdeal.τ).loc Cert.ExchangeIdeal.main_arg0) = Layout.block ⟨2, ![2048, 8192]⟩ ⟨2, ![16384, 8192]⟩ 0 8 c (m' (((0 : Dev Cert.ExchangeRefIdeal.nD).tc : Thread Cert.ExchangeRefIdeal.nD Cert.ExchangeRefIdeal.τ).loc Cert.ExchangeRefIdeal.main_arg0))
      ∧ m ((c.tc : Thread Cert.ExchangeIdeal.nD Cert.ExchangeIdeal.τ).loc Cert.ExchangeIdeal.main_arg1) = Layout.block ⟨3, ![4, 512, 2048]⟩ ⟨3, ![32, 512, 2048]⟩ 0 8 c (m' (((0 : Dev Cert.ExchangeRefIdeal.nD).tc : Thread Cert.ExchangeRefIdeal.nD Cert.ExchangeRefIdeal.τ).loc Cert.ExchangeRefIdeal.main_arg1))
      ∧ m ((c.tc : Thread Cert.ExchangeIdeal.nD Cert.ExchangeIdeal.τ).loc Cert.ExchangeIdeal.main_arg2) = Layout.block ⟨2, ![2048, 4608]⟩ ⟨2, ![16384, 4608]⟩ 0 8 c (m' (((0 : Dev Cert.ExchangeRefIdeal.nD).tc : Thread Cert.ExchangeRefIdeal.nD Cert.ExchangeRefIdeal.τ).loc Cert.ExchangeRefIdeal.main_arg2))
      ∧ m ((c.tc : Thread Cert.ExchangeIdeal.nD Cert.ExchangeIdeal.τ).loc Cert.ExchangeIdeal.main_arg3) = Layout.block ⟨3, ![4, 512, 2048]⟩ ⟨3, ![32, 512, 2048]⟩ 0 8 c (m' (((0 : Dev Cert.ExchangeRefIdeal.nD).tc : Thread Cert.ExchangeRefIdeal.nD Cert.ExchangeRefIdeal.τ).loc Cert.ExchangeRefIdeal.main_arg3))) →
    ∃ (v0 : Buf (Elt Ideal) (((0 : Dev Cert.ExchangeRefIdeal.nD).tc : Thread Cert.ExchangeRefIdeal.nD Cert.ExchangeRefIdeal.τ).loc Cert.ExchangeRefIdeal.main_v8)) (v1 : Buf (Elt Ideal) (((0 : Dev Cert.ExchangeRefIdeal.nD).tc : Thread Cert.ExchangeRefIdeal.nD Cert.ExchangeRefIdeal.τ).loc Cert.ExchangeRefIdeal.main_v26)) (v2 : Buf (Elt Ideal) (((0 : Dev Cert.ExchangeRefIdeal.nD).tc : Thread Cert.ExchangeRefIdeal.nD Cert.ExchangeRefIdeal.τ).loc Cert.ExchangeRefIdeal.main_v44)) (v3 : Buf (Elt Ideal) (((0 : Dev Cert.ExchangeRefIdeal.nD).tc : Thread Cert.ExchangeRefIdeal.nD Cert.ExchangeRefIdeal.τ).loc Cert.ExchangeRefIdeal.main_v62)) (v4 : Buf (Elt Ideal) (((0 : Dev Cert.ExchangeRefIdeal.nD).tc : Thread Cert.ExchangeRefIdeal.nD Cert.ExchangeRefIdeal.τ).loc Cert.ExchangeRefIdeal.main_v17)) (v5 : Buf (Elt Ideal) (((0 : Dev Cert.ExchangeRefIdeal.nD).tc : Thread Cert.ExchangeRefIdeal.nD Cert.ExchangeRefIdeal.τ).loc Cert.ExchangeRefIdeal.main_v35)) (v6 : Buf (Elt Ideal) (((0 : Dev Cert.ExchangeRefIdeal.nD).tc : Thread Cert.ExchangeRefIdeal.nD Cert.ExchangeRefIdeal.τ).loc Cert.ExchangeRefIdeal.main_v53)) (v7 : Buf (Elt Ideal) (((0 : Dev Cert.ExchangeRefIdeal.nD).tc : Thread Cert.ExchangeRefIdeal.nD Cert.ExchangeRefIdeal.τ).loc Cert.ExchangeRefIdeal.main_v71)),
      θ_run (Cert.ExchangeIdeal.defs (F := Ideal)) (onTc (τ := Cert.ExchangeIdeal.τ) (Cert.ExchangeIdeal.main (F := Ideal))) ⟨m, fun _ => 0, g⟩ (fun r => ∀ c : Dev Cert.ExchangeIdeal.nD,
          r.2.mem ((c.tc : Thread Cert.ExchangeIdeal.nD Cert.ExchangeIdeal.τ).loc Cert.ExchangeIdeal.main_v1_0) = Layout.block ⟨2, ![1024, 8192]⟩ ⟨2, ![8192, 8192]⟩ 0 8 c v0
          ∧ r.2.mem ((c.tc : Thread Cert.ExchangeIdeal.nD Cert.ExchangeIdeal.τ).loc Cert.ExchangeIdeal.main_v1_1) = Layout.block ⟨3, ![4, 256, 2048]⟩ ⟨3, ![32, 256, 2048]⟩ 0 8 c v1
          ∧ r.2.mem ((c.tc : Thread Cert.ExchangeIdeal.nD Cert.ExchangeIdeal.τ).loc Cert.ExchangeIdeal.main_v1_2) = Layout.block ⟨2, ![1024, 4608]⟩ ⟨2, ![8192, 4608]⟩ 0 8 c v2
          ∧ r.2.mem ((c.tc : Thread Cert.ExchangeIdeal.nD Cert.ExchangeIdeal.τ).loc Cert.ExchangeIdeal.main_v1_3) = Layout.block ⟨3, ![4, 256, 2048]⟩ ⟨3, ![32, 256, 2048]⟩ 0 8 c v3
          ∧ r.2.mem ((c.tc : Thread Cert.ExchangeIdeal.nD Cert.ExchangeIdeal.τ).loc Cert.ExchangeIdeal.main_v1_4) = Layout.block ⟨2, ![1024, 8192]⟩ ⟨2, ![8192, 8192]⟩ 0 8 c v4
          ∧ r.2.mem ((c.tc : Thread Cert.ExchangeIdeal.nD Cert.ExchangeIdeal.τ).loc Cert.ExchangeIdeal.main_v1_5) = Layout.block ⟨3, ![4, 256, 2048]⟩ ⟨3, ![32, 256, 2048]⟩ 0 8 c v5
          ∧ r.2.mem ((c.tc : Thread Cert.ExchangeIdeal.nD Cert.ExchangeIdeal.τ).loc Cert.ExchangeIdeal.main_v1_6) = Layout.block ⟨2, ![1024, 4608]⟩ ⟨2, ![8192, 4608]⟩ 0 8 c v6
          ∧ r.2.mem ((c.tc : Thread Cert.ExchangeIdeal.nD Cert.ExchangeIdeal.τ).loc Cert.ExchangeIdeal.main_v1_7) = Layout.block ⟨3, ![4, 256, 2048]⟩ ⟨3, ![32, 256, 2048]⟩ 0 8 c v7
          ∧ r.2.mem ((c.tc : Thread Cert.ExchangeIdeal.nD Cert.ExchangeIdeal.τ).loc Cert.ExchangeIdeal.main_arg0) = m ((c.tc : Thread Cert.ExchangeIdeal.nD Cert.ExchangeIdeal.τ).loc Cert.ExchangeIdeal.main_arg0)
          ∧ r.2.mem ((c.tc : Thread Cert.ExchangeIdeal.nD Cert.ExchangeIdeal.τ).loc Cert.ExchangeIdeal.main_arg1) = m ((c.tc : Thread Cert.ExchangeIdeal.nD Cert.ExchangeIdeal.τ).loc Cert.ExchangeIdeal.main_arg1)
          ∧ r.2.mem ((c.tc : Thread Cert.ExchangeIdeal.nD Cert.ExchangeIdeal.τ).loc Cert.ExchangeIdeal.main_arg2) = m ((c.tc : Thread Cert.ExchangeIdeal.nD Cert.ExchangeIdeal.τ).loc Cert.ExchangeIdeal.main_arg2)
          ∧ r.2.mem ((c.tc : Thread Cert.ExchangeIdeal.nD Cert.ExchangeIdeal.τ).loc Cert.ExchangeIdeal.main_arg3) = m ((c.tc : Thread Cert.ExchangeIdeal.nD Cert.ExchangeIdeal.τ).loc Cert.ExchangeIdeal.main_arg3))
      ∧ θ_run (Cert.ExchangeRefIdeal.defs (F := Ideal)) (onTc (τ := Cert.ExchangeRefIdeal.τ) (Cert.ExchangeRefIdeal.main (F := Ideal))) ⟨m', fun _ => 0, g'⟩ (fun r =>
          r.2.mem (((0 : Dev Cert.ExchangeRefIdeal.nD).tc : Thread Cert.ExchangeRefIdeal.nD Cert.ExchangeRefIdeal.τ).loc Cert.ExchangeRefIdeal.main_v8) = v0
          ∧ r.2.mem (((0 : Dev Cert.ExchangeRefIdeal.nD).tc : Thread Cert.ExchangeRefIdeal.nD Cert.ExchangeRefIdeal.τ).loc Cert.ExchangeRefIdeal.main_v26) = v1
          ∧ r.2.mem (((0 : Dev Cert.ExchangeRefIdeal.nD).tc : Thread Cert.ExchangeRefIdeal.nD Cert.ExchangeRefIdeal.τ).loc Cert.ExchangeRefIdeal.main_v44) = v2
          ∧ r.2.mem (((0 : Dev Cert.ExchangeRefIdeal.nD).tc : Thread Cert.ExchangeRefIdeal.nD Cert.ExchangeRefIdeal.τ).loc Cert.ExchangeRefIdeal.main_v62) = v3
          ∧ r.2.mem (((0 : Dev Cert.ExchangeRefIdeal.nD).tc : Thread Cert.ExchangeRefIdeal.nD Cert.ExchangeRefIdeal.τ).loc Cert.ExchangeRefIdeal.main_v17) = v4
          ∧ r.2.mem (((0 : Dev Cert.ExchangeRefIdeal.nD).tc : Thread Cert.ExchangeRefIdeal.nD Cert.ExchangeRefIdeal.τ).loc Cert.ExchangeRefIdeal.main_v35) = v5
          ∧ r.2.mem (((0 : Dev Cert.ExchangeRefIdeal.nD).tc : Thread Cert.ExchangeRefIdeal.nD Cert.ExchangeRefIdeal.τ).loc Cert.ExchangeRefIdeal.main_v53) = v6
          ∧ r.2.mem (((0 : Dev Cert.ExchangeRefIdeal.nD).tc : Thread Cert.ExchangeRefIdeal.nD Cert.ExchangeRefIdeal.τ).loc Cert.ExchangeRefIdeal.main_v71) = v7
          ∧ r.2.mem (((0 : Dev Cert.ExchangeRefIdeal.nD).tc : Thread Cert.ExchangeRefIdeal.nD Cert.ExchangeRefIdeal.τ).loc Cert.ExchangeRefIdeal.main_arg0) = m' (((0 : Dev Cert.ExchangeRefIdeal.nD).tc : Thread Cert.ExchangeRefIdeal.nD Cert.ExchangeRefIdeal.τ).loc Cert.ExchangeRefIdeal.main_arg0)
          ∧ r.2.mem (((0 : Dev Cert.ExchangeRefIdeal.nD).tc : Thread Cert.ExchangeRefIdeal.nD Cert.ExchangeRefIdeal.τ).loc Cert.ExchangeRefIdeal.main_arg1) = m' (((0 : Dev Cert.ExchangeRefIdeal.nD).tc : Thread Cert.ExchangeRefIdeal.nD Cert.ExchangeRefIdeal.τ).loc Cert.ExchangeRefIdeal.main_arg1)
          ∧ r.2.mem (((0 : Dev Cert.ExchangeRefIdeal.nD).tc : Thread Cert.ExchangeRefIdeal.nD Cert.ExchangeRefIdeal.τ).loc Cert.ExchangeRefIdeal.main_arg2) = m' (((0 : Dev Cert.ExchangeRefIdeal.nD).tc : Thread Cert.ExchangeRefIdeal.nD Cert.ExchangeRefIdeal.τ).loc Cert.ExchangeRefIdeal.main_arg2)
          ∧ r.2.mem (((0 : Dev Cert.ExchangeRefIdeal.nD).tc : Thread Cert.ExchangeRefIdeal.nD Cert.ExchangeRefIdeal.τ).loc Cert.ExchangeRefIdeal.main_arg3) = m' (((0 : Dev Cert.ExchangeRefIdeal.nD).tc : Thread Cert.ExchangeRefIdeal.nD Cert.ExchangeRefIdeal.τ).loc Cert.ExchangeRefIdeal.main_arg3))

def bitexact_Exchange_ExchangeRef [hExchange : Cert.Exchange.Facts] [hExchangeRef : Cert.ExchangeRef.Facts] : Prop :=
  ∀ (m : (ℓ : Loc Cert.Exchange.nD Cert.Exchange.τ Cert.Exchange.sig) → Buf (Elt Bits) ℓ) (g : Dev Cert.Exchange.nD → PrngReg)
    (m' : (ℓ : Loc Cert.ExchangeRef.nD Cert.ExchangeRef.τ Cert.ExchangeRef.sig) → Buf (Elt Bits) ℓ) (g' : Dev Cert.ExchangeRef.nD → PrngReg), Pre_Exchange m →
    (∀ c : Dev Cert.Exchange.nD,
      m ((c.tc : Thread Cert.Exchange.nD Cert.Exchange.τ).loc Cert.Exchange.main_arg0) = Layout.block ⟨2, ![2048, 8192]⟩ ⟨2, ![16384, 8192]⟩ 0 8 c (m' (((0 : Dev Cert.ExchangeRef.nD).tc : Thread Cert.ExchangeRef.nD Cert.ExchangeRef.τ).loc Cert.ExchangeRef.main_arg0))
      ∧ m ((c.tc : Thread Cert.Exchange.nD Cert.Exchange.τ).loc Cert.Exchange.main_arg1) = Layout.block ⟨3, ![4, 512, 2048]⟩ ⟨3, ![32, 512, 2048]⟩ 0 8 c (m' (((0 : Dev Cert.ExchangeRef.nD).tc : Thread Cert.ExchangeRef.nD Cert.ExchangeRef.τ).loc Cert.ExchangeRef.main_arg1))
      ∧ m ((c.tc : Thread Cert.Exchange.nD Cert.Exchange.τ).loc Cert.Exchange.main_arg2) = Layout.block ⟨2, ![2048, 4608]⟩ ⟨2, ![16384, 4608]⟩ 0 8 c (m' (((0 : Dev Cert.ExchangeRef.nD).tc : Thread Cert.ExchangeRef.nD Cert.ExchangeRef.τ).loc Cert.ExchangeRef.main_arg2))
      ∧ m ((c.tc : Thread Cert.Exchange.nD Cert.Exchange.τ).loc Cert.Exchange.main_arg3) = Layout.block ⟨3, ![4, 512, 2048]⟩ ⟨3, ![32, 512, 2048]⟩ 0 8 c (m' (((0 : Dev Cert.ExchangeRef.nD).tc : Thread Cert.ExchangeRef.nD Cert.ExchangeRef.τ).loc Cert.ExchangeRef.main_arg3))) →
    ∃ (v0 : Buf (Elt Bits) (((0 : Dev Cert.ExchangeRef.nD).tc : Thread Cert.ExchangeRef.nD Cert.ExchangeRef.τ).loc Cert.ExchangeRef.main_v8)) (v1 : Buf (Elt Bits) (((0 : Dev Cert.ExchangeRef.nD).tc : Thread Cert.ExchangeRef.nD Cert.ExchangeRef.τ).loc Cert.ExchangeRef.main_v26)) (v2 : Buf (Elt Bits) (((0 : Dev Cert.ExchangeRef.nD).tc : Thread Cert.ExchangeRef.nD Cert.ExchangeRef.τ).loc Cert.ExchangeRef.main_v44)) (v3 : Buf (Elt Bits) (((0 : Dev Cert.ExchangeRef.nD).tc : Thread Cert.ExchangeRef.nD Cert.ExchangeRef.τ).loc Cert.ExchangeRef.main_v62)) (v4 : Buf (Elt Bits) (((0 : Dev Cert.ExchangeRef.nD).tc : Thread Cert.ExchangeRef.nD Cert.ExchangeRef.τ).loc Cert.ExchangeRef.main_v17)) (v5 : Buf (Elt Bits) (((0 : Dev Cert.ExchangeRef.nD).tc : Thread Cert.ExchangeRef.nD Cert.ExchangeRef.τ).loc Cert.ExchangeRef.main_v35)) (v6 : Buf (Elt Bits) (((0 : Dev Cert.ExchangeRef.nD).tc : Thread Cert.ExchangeRef.nD Cert.ExchangeRef.τ).loc Cert.ExchangeRef.main_v53)) (v7 : Buf (Elt Bits) (((0 : Dev Cert.ExchangeRef.nD).tc : Thread Cert.ExchangeRef.nD Cert.ExchangeRef.τ).loc Cert.ExchangeRef.main_v71)),
      θ_run (Cert.Exchange.defs (F := Bits)) (onTc (τ := Cert.Exchange.τ) (Cert.Exchange.main (F := Bits))) ⟨m, fun _ => 0, g⟩ (fun r => ∀ c : Dev Cert.Exchange.nD,
          r.2.mem ((c.tc : Thread Cert.Exchange.nD Cert.Exchange.τ).loc Cert.Exchange.main_v1_0) = Layout.block ⟨2, ![1024, 8192]⟩ ⟨2, ![8192, 8192]⟩ 0 8 c v0
          ∧ r.2.mem ((c.tc : Thread Cert.Exchange.nD Cert.Exchange.τ).loc Cert.Exchange.main_v1_1) = Layout.block ⟨3, ![4, 256, 2048]⟩ ⟨3, ![32, 256, 2048]⟩ 0 8 c v1
          ∧ r.2.mem ((c.tc : Thread Cert.Exchange.nD Cert.Exchange.τ).loc Cert.Exchange.main_v1_2) = Layout.block ⟨2, ![1024, 4608]⟩ ⟨2, ![8192, 4608]⟩ 0 8 c v2
          ∧ r.2.mem ((c.tc : Thread Cert.Exchange.nD Cert.Exchange.τ).loc Cert.Exchange.main_v1_3) = Layout.block ⟨3, ![4, 256, 2048]⟩ ⟨3, ![32, 256, 2048]⟩ 0 8 c v3
          ∧ r.2.mem ((c.tc : Thread Cert.Exchange.nD Cert.Exchange.τ).loc Cert.Exchange.main_v1_4) = Layout.block ⟨2, ![1024, 8192]⟩ ⟨2, ![8192, 8192]⟩ 0 8 c v4
          ∧ r.2.mem ((c.tc : Thread Cert.Exchange.nD Cert.Exchange.τ).loc Cert.Exchange.main_v1_5) = Layout.block ⟨3, ![4, 256, 2048]⟩ ⟨3, ![32, 256, 2048]⟩ 0 8 c v5
          ∧ r.2.mem ((c.tc : Thread Cert.Exchange.nD Cert.Exchange.τ).loc Cert.Exchange.main_v1_6) = Layout.block ⟨2, ![1024, 4608]⟩ ⟨2, ![8192, 4608]⟩ 0 8 c v6
          ∧ r.2.mem ((c.tc : Thread Cert.Exchange.nD Cert.Exchange.τ).loc Cert.Exchange.main_v1_7) = Layout.block ⟨3, ![4, 256, 2048]⟩ ⟨3, ![32, 256, 2048]⟩ 0 8 c v7
          ∧ r.2.mem ((c.tc : Thread Cert.Exchange.nD Cert.Exchange.τ).loc Cert.Exchange.main_arg0) = m ((c.tc : Thread Cert.Exchange.nD Cert.Exchange.τ).loc Cert.Exchange.main_arg0)
          ∧ r.2.mem ((c.tc : Thread Cert.Exchange.nD Cert.Exchange.τ).loc Cert.Exchange.main_arg1) = m ((c.tc : Thread Cert.Exchange.nD Cert.Exchange.τ).loc Cert.Exchange.main_arg1)
          ∧ r.2.mem ((c.tc : Thread Cert.Exchange.nD Cert.Exchange.τ).loc Cert.Exchange.main_arg2) = m ((c.tc : Thread Cert.Exchange.nD Cert.Exchange.τ).loc Cert.Exchange.main_arg2)
          ∧ r.2.mem ((c.tc : Thread Cert.Exchange.nD Cert.Exchange.τ).loc Cert.Exchange.main_arg3) = m ((c.tc : Thread Cert.Exchange.nD Cert.Exchange.τ).loc Cert.Exchange.main_arg3))
      ∧ θ_run (Cert.ExchangeRef.defs (F := Bits)) (onTc (τ := Cert.ExchangeRef.τ) (Cert.ExchangeRef.main (F := Bits))) ⟨m', fun _ => 0, g'⟩ (fun r =>
          r.2.mem (((0 : Dev Cert.ExchangeRef.nD).tc : Thread Cert.ExchangeRef.nD Cert.ExchangeRef.τ).loc Cert.ExchangeRef.main_v8) = v0
          ∧ r.2.mem (((0 : Dev Cert.ExchangeRef.nD).tc : Thread Cert.ExchangeRef.nD Cert.ExchangeRef.τ).loc Cert.ExchangeRef.main_v26) = v1
          ∧ r.2.mem (((0 : Dev Cert.ExchangeRef.nD).tc : Thread Cert.ExchangeRef.nD Cert.ExchangeRef.τ).loc Cert.ExchangeRef.main_v44) = v2
          ∧ r.2.mem (((0 : Dev Cert.ExchangeRef.nD).tc : Thread Cert.ExchangeRef.nD Cert.ExchangeRef.τ).loc Cert.ExchangeRef.main_v62) = v3
          ∧ r.2.mem (((0 : Dev Cert.ExchangeRef.nD).tc : Thread Cert.ExchangeRef.nD Cert.ExchangeRef.τ).loc Cert.ExchangeRef.main_v17) = v4
          ∧ r.2.mem (((0 : Dev Cert.ExchangeRef.nD).tc : Thread Cert.ExchangeRef.nD Cert.ExchangeRef.τ).loc Cert.ExchangeRef.main_v35) = v5
          ∧ r.2.mem (((0 : Dev Cert.ExchangeRef.nD).tc : Thread Cert.ExchangeRef.nD Cert.ExchangeRef.τ).loc Cert.ExchangeRef.main_v53) = v6
          ∧ r.2.mem (((0 : Dev Cert.ExchangeRef.nD).tc : Thread Cert.ExchangeRef.nD Cert.ExchangeRef.τ).loc Cert.ExchangeRef.main_v71) = v7
          ∧ r.2.mem (((0 : Dev Cert.ExchangeRef.nD).tc : Thread Cert.ExchangeRef.nD Cert.ExchangeRef.τ).loc Cert.ExchangeRef.main_arg0) = m' (((0 : Dev Cert.ExchangeRef.nD).tc : Thread Cert.ExchangeRef.nD Cert.ExchangeRef.τ).loc Cert.ExchangeRef.main_arg0)
          ∧ r.2.mem (((0 : Dev Cert.ExchangeRef.nD).tc : Thread Cert.ExchangeRef.nD Cert.ExchangeRef.τ).loc Cert.ExchangeRef.main_arg1) = m' (((0 : Dev Cert.ExchangeRef.nD).tc : Thread Cert.ExchangeRef.nD Cert.ExchangeRef.τ).loc Cert.ExchangeRef.main_arg1)
          ∧ r.2.mem (((0 : Dev Cert.ExchangeRef.nD).tc : Thread Cert.ExchangeRef.nD Cert.ExchangeRef.τ).loc Cert.ExchangeRef.main_arg2) = m' (((0 : Dev Cert.ExchangeRef.nD).tc : Thread Cert.ExchangeRef.nD Cert.ExchangeRef.τ).loc Cert.ExchangeRef.main_arg2)
          ∧ r.2.mem (((0 : Dev Cert.ExchangeRef.nD).tc : Thread Cert.ExchangeRef.nD Cert.ExchangeRef.τ).loc Cert.ExchangeRef.main_arg3) = m' (((0 : Dev Cert.ExchangeRef.nD).tc : Thread Cert.ExchangeRef.nD Cert.ExchangeRef.τ).loc Cert.ExchangeRef.main_arg3))

def preserves_Scatter_ScatterIdeal : Prop :=
  True

def algebraic_ScatterIdeal_ScatterRefIdeal [hScatterIdeal : Cert.ScatterIdeal.Facts] [hScatterRefIdeal : Cert.ScatterRefIdeal.Facts] : Prop :=
  ∀ (m : (ℓ : Loc Cert.ScatterIdeal.nD Cert.ScatterIdeal.τ Cert.ScatterIdeal.sig) → Buf (Elt Ideal) ℓ) (g : Dev Cert.ScatterIdeal.nD → PrngReg)
    (m' : (ℓ : Loc Cert.ScatterRefIdeal.nD Cert.ScatterRefIdeal.τ Cert.ScatterRefIdeal.sig) → Buf (Elt Ideal) ℓ) (g' : Dev Cert.ScatterRefIdeal.nD → PrngReg), Pre_ScatterIdeal m →
    (∀ c : Dev Cert.ScatterIdeal.nD,
      m ((c.tc : Thread Cert.ScatterIdeal.nD Cert.ScatterIdeal.τ).loc Cert.ScatterIdeal.main_arg0) = Layout.block ⟨2, ![1024, 8192]⟩ ⟨2, ![8192, 8192]⟩ 0 8 c (m' (((0 : Dev Cert.ScatterRefIdeal.nD).tc : Thread Cert.ScatterRefIdeal.nD Cert.ScatterRefIdeal.τ).loc Cert.ScatterRefIdeal.main_arg0))
      ∧ m ((c.tc : Thread Cert.ScatterIdeal.nD Cert.ScatterIdeal.τ).loc Cert.ScatterIdeal.main_arg1) = Layout.block ⟨3, ![4, 256, 2048]⟩ ⟨3, ![32, 256, 2048]⟩ 0 8 c (m' (((0 : Dev Cert.ScatterRefIdeal.nD).tc : Thread Cert.ScatterRefIdeal.nD Cert.ScatterRefIdeal.τ).loc Cert.ScatterRefIdeal.main_arg1))
      ∧ m ((c.tc : Thread Cert.ScatterIdeal.nD Cert.ScatterIdeal.τ).loc Cert.ScatterIdeal.main_arg2) = Layout.block ⟨2, ![1024, 4608]⟩ ⟨2, ![8192, 4608]⟩ 0 8 c (m' (((0 : Dev Cert.ScatterRefIdeal.nD).tc : Thread Cert.ScatterRefIdeal.nD Cert.ScatterRefIdeal.τ).loc Cert.ScatterRefIdeal.main_arg2))
      ∧ m ((c.tc : Thread Cert.ScatterIdeal.nD Cert.ScatterIdeal.τ).loc Cert.ScatterIdeal.main_arg3) = Layout.block ⟨3, ![4, 256, 2048]⟩ ⟨3, ![32, 256, 2048]⟩ 0 8 c (m' (((0 : Dev Cert.ScatterRefIdeal.nD).tc : Thread Cert.ScatterRefIdeal.nD Cert.ScatterRefIdeal.τ).loc Cert.ScatterRefIdeal.main_arg3))) →
    ∃ (v0 : Buf (Elt Ideal) (((0 : Dev Cert.ScatterRefIdeal.nD).tc : Thread Cert.ScatterRefIdeal.nD Cert.ScatterRefIdeal.τ).loc Cert.ScatterRefIdeal.main_v2)) (v1 : Buf (Elt Ideal) (((0 : Dev Cert.ScatterRefIdeal.nD).tc : Thread Cert.ScatterRefIdeal.nD Cert.ScatterRefIdeal.τ).loc Cert.ScatterRefIdeal.main_v5)) (v2 : Buf (Elt Ideal) (((0 : Dev Cert.ScatterRefIdeal.nD).tc : Thread Cert.ScatterRefIdeal.nD Cert.ScatterRefIdeal.τ).loc Cert.ScatterRefIdeal.main_v8)) (v3 : Buf (Elt Ideal) (((0 : Dev Cert.ScatterRefIdeal.nD).tc : Thread Cert.ScatterRefIdeal.nD Cert.ScatterRefIdeal.τ).loc Cert.ScatterRefIdeal.main_v11)),
      θ_run (Cert.ScatterIdeal.defs (F := Ideal)) (onTc (τ := Cert.ScatterIdeal.τ) (Cert.ScatterIdeal.main (F := Ideal))) ⟨m, fun _ => 0, g⟩ (fun r => ∀ c : Dev Cert.ScatterIdeal.nD,
          r.2.mem ((c.tc : Thread Cert.ScatterIdeal.nD Cert.ScatterIdeal.τ).loc Cert.ScatterIdeal.main_v1_0) = Layout.block ⟨3, ![4, 1024, 2048]⟩ ⟨3, ![32, 1024, 2048]⟩ 0 8 c v0
          ∧ r.2.mem ((c.tc : Thread Cert.ScatterIdeal.nD Cert.ScatterIdeal.τ).loc Cert.ScatterIdeal.main_v1_1) = Layout.block ⟨3, ![4, 256, 2048]⟩ ⟨3, ![32, 256, 2048]⟩ 0 8 c v1
          ∧ r.2.mem ((c.tc : Thread Cert.ScatterIdeal.nD Cert.ScatterIdeal.τ).loc Cert.ScatterIdeal.main_v1_2) = Layout.block ⟨3, ![4, 1024, 1152]⟩ ⟨3, ![32, 1024, 1152]⟩ 0 8 c v2
          ∧ r.2.mem ((c.tc : Thread Cert.ScatterIdeal.nD Cert.ScatterIdeal.τ).loc Cert.ScatterIdeal.main_v1_3) = Layout.block ⟨3, ![4, 256, 2048]⟩ ⟨3, ![32, 256, 2048]⟩ 0 8 c v3
          ∧ r.2.mem ((c.tc : Thread Cert.ScatterIdeal.nD Cert.ScatterIdeal.τ).loc Cert.ScatterIdeal.main_arg0) = m ((c.tc : Thread Cert.ScatterIdeal.nD Cert.ScatterIdeal.τ).loc Cert.ScatterIdeal.main_arg0)
          ∧ r.2.mem ((c.tc : Thread Cert.ScatterIdeal.nD Cert.ScatterIdeal.τ).loc Cert.ScatterIdeal.main_arg1) = m ((c.tc : Thread Cert.ScatterIdeal.nD Cert.ScatterIdeal.τ).loc Cert.ScatterIdeal.main_arg1)
          ∧ r.2.mem ((c.tc : Thread Cert.ScatterIdeal.nD Cert.ScatterIdeal.τ).loc Cert.ScatterIdeal.main_arg2) = m ((c.tc : Thread Cert.ScatterIdeal.nD Cert.ScatterIdeal.τ).loc Cert.ScatterIdeal.main_arg2)
          ∧ r.2.mem ((c.tc : Thread Cert.ScatterIdeal.nD Cert.ScatterIdeal.τ).loc Cert.ScatterIdeal.main_arg3) = m ((c.tc : Thread Cert.ScatterIdeal.nD Cert.ScatterIdeal.τ).loc Cert.ScatterIdeal.main_arg3))
      ∧ θ_run (Cert.ScatterRefIdeal.defs (F := Ideal)) (onTc (τ := Cert.ScatterRefIdeal.τ) (Cert.ScatterRefIdeal.main (F := Ideal))) ⟨m', fun _ => 0, g'⟩ (fun r =>
          r.2.mem (((0 : Dev Cert.ScatterRefIdeal.nD).tc : Thread Cert.ScatterRefIdeal.nD Cert.ScatterRefIdeal.τ).loc Cert.ScatterRefIdeal.main_v2) = v0
          ∧ r.2.mem (((0 : Dev Cert.ScatterRefIdeal.nD).tc : Thread Cert.ScatterRefIdeal.nD Cert.ScatterRefIdeal.τ).loc Cert.ScatterRefIdeal.main_v5) = v1
          ∧ r.2.mem (((0 : Dev Cert.ScatterRefIdeal.nD).tc : Thread Cert.ScatterRefIdeal.nD Cert.ScatterRefIdeal.τ).loc Cert.ScatterRefIdeal.main_v8) = v2
          ∧ r.2.mem (((0 : Dev Cert.ScatterRefIdeal.nD).tc : Thread Cert.ScatterRefIdeal.nD Cert.ScatterRefIdeal.τ).loc Cert.ScatterRefIdeal.main_v11) = v3
          ∧ r.2.mem (((0 : Dev Cert.ScatterRefIdeal.nD).tc : Thread Cert.ScatterRefIdeal.nD Cert.ScatterRefIdeal.τ).loc Cert.ScatterRefIdeal.main_arg0) = m' (((0 : Dev Cert.ScatterRefIdeal.nD).tc : Thread Cert.ScatterRefIdeal.nD Cert.ScatterRefIdeal.τ).loc Cert.ScatterRefIdeal.main_arg0)
          ∧ r.2.mem (((0 : Dev Cert.ScatterRefIdeal.nD).tc : Thread Cert.ScatterRefIdeal.nD Cert.ScatterRefIdeal.τ).loc Cert.ScatterRefIdeal.main_arg1) = m' (((0 : Dev Cert.ScatterRefIdeal.nD).tc : Thread Cert.ScatterRefIdeal.nD Cert.ScatterRefIdeal.τ).loc Cert.ScatterRefIdeal.main_arg1)
          ∧ r.2.mem (((0 : Dev Cert.ScatterRefIdeal.nD).tc : Thread Cert.ScatterRefIdeal.nD Cert.ScatterRefIdeal.τ).loc Cert.ScatterRefIdeal.main_arg2) = m' (((0 : Dev Cert.ScatterRefIdeal.nD).tc : Thread Cert.ScatterRefIdeal.nD Cert.ScatterRefIdeal.τ).loc Cert.ScatterRefIdeal.main_arg2)
          ∧ r.2.mem (((0 : Dev Cert.ScatterRefIdeal.nD).tc : Thread Cert.ScatterRefIdeal.nD Cert.ScatterRefIdeal.τ).loc Cert.ScatterRefIdeal.main_arg3) = m' (((0 : Dev Cert.ScatterRefIdeal.nD).tc : Thread Cert.ScatterRefIdeal.nD Cert.ScatterRefIdeal.τ).loc Cert.ScatterRefIdeal.main_arg3))

def bitexact_Scatter_ScatterRef [hScatter : Cert.Scatter.Facts] [hScatterRef : Cert.ScatterRef.Facts] : Prop :=
  ∀ (m : (ℓ : Loc Cert.Scatter.nD Cert.Scatter.τ Cert.Scatter.sig) → Buf (Elt Bits) ℓ) (g : Dev Cert.Scatter.nD → PrngReg)
    (m' : (ℓ : Loc Cert.ScatterRef.nD Cert.ScatterRef.τ Cert.ScatterRef.sig) → Buf (Elt Bits) ℓ) (g' : Dev Cert.ScatterRef.nD → PrngReg), Pre_Scatter m →
    (∀ c : Dev Cert.Scatter.nD,
      m ((c.tc : Thread Cert.Scatter.nD Cert.Scatter.τ).loc Cert.Scatter.main_arg0) = Layout.block ⟨2, ![1024, 8192]⟩ ⟨2, ![8192, 8192]⟩ 0 8 c (m' (((0 : Dev Cert.ScatterRef.nD).tc : Thread Cert.ScatterRef.nD Cert.ScatterRef.τ).loc Cert.ScatterRef.main_arg0))
      ∧ m ((c.tc : Thread Cert.Scatter.nD Cert.Scatter.τ).loc Cert.Scatter.main_arg1) = Layout.block ⟨3, ![4, 256, 2048]⟩ ⟨3, ![32, 256, 2048]⟩ 0 8 c (m' (((0 : Dev Cert.ScatterRef.nD).tc : Thread Cert.ScatterRef.nD Cert.ScatterRef.τ).loc Cert.ScatterRef.main_arg1))
      ∧ m ((c.tc : Thread Cert.Scatter.nD Cert.Scatter.τ).loc Cert.Scatter.main_arg2) = Layout.block ⟨2, ![1024, 4608]⟩ ⟨2, ![8192, 4608]⟩ 0 8 c (m' (((0 : Dev Cert.ScatterRef.nD).tc : Thread Cert.ScatterRef.nD Cert.ScatterRef.τ).loc Cert.ScatterRef.main_arg2))
      ∧ m ((c.tc : Thread Cert.Scatter.nD Cert.Scatter.τ).loc Cert.Scatter.main_arg3) = Layout.block ⟨3, ![4, 256, 2048]⟩ ⟨3, ![32, 256, 2048]⟩ 0 8 c (m' (((0 : Dev Cert.ScatterRef.nD).tc : Thread Cert.ScatterRef.nD Cert.ScatterRef.τ).loc Cert.ScatterRef.main_arg3))) →
    ∃ (v0 : Buf (Elt Bits) (((0 : Dev Cert.ScatterRef.nD).tc : Thread Cert.ScatterRef.nD Cert.ScatterRef.τ).loc Cert.ScatterRef.main_v2)) (v1 : Buf (Elt Bits) (((0 : Dev Cert.ScatterRef.nD).tc : Thread Cert.ScatterRef.nD Cert.ScatterRef.τ).loc Cert.ScatterRef.main_v5)) (v2 : Buf (Elt Bits) (((0 : Dev Cert.ScatterRef.nD).tc : Thread Cert.ScatterRef.nD Cert.ScatterRef.τ).loc Cert.ScatterRef.main_v8)) (v3 : Buf (Elt Bits) (((0 : Dev Cert.ScatterRef.nD).tc : Thread Cert.ScatterRef.nD Cert.ScatterRef.τ).loc Cert.ScatterRef.main_v11)),
      θ_run (Cert.Scatter.defs (F := Bits)) (onTc (τ := Cert.Scatter.τ) (Cert.Scatter.main (F := Bits))) ⟨m, fun _ => 0, g⟩ (fun r => ∀ c : Dev Cert.Scatter.nD,
          r.2.mem ((c.tc : Thread Cert.Scatter.nD Cert.Scatter.τ).loc Cert.Scatter.main_v1_0) = Layout.block ⟨3, ![4, 1024, 2048]⟩ ⟨3, ![32, 1024, 2048]⟩ 0 8 c v0
          ∧ r.2.mem ((c.tc : Thread Cert.Scatter.nD Cert.Scatter.τ).loc Cert.Scatter.main_v1_1) = Layout.block ⟨3, ![4, 256, 2048]⟩ ⟨3, ![32, 256, 2048]⟩ 0 8 c v1
          ∧ r.2.mem ((c.tc : Thread Cert.Scatter.nD Cert.Scatter.τ).loc Cert.Scatter.main_v1_2) = Layout.block ⟨3, ![4, 1024, 1152]⟩ ⟨3, ![32, 1024, 1152]⟩ 0 8 c v2
          ∧ r.2.mem ((c.tc : Thread Cert.Scatter.nD Cert.Scatter.τ).loc Cert.Scatter.main_v1_3) = Layout.block ⟨3, ![4, 256, 2048]⟩ ⟨3, ![32, 256, 2048]⟩ 0 8 c v3
          ∧ r.2.mem ((c.tc : Thread Cert.Scatter.nD Cert.Scatter.τ).loc Cert.Scatter.main_arg0) = m ((c.tc : Thread Cert.Scatter.nD Cert.Scatter.τ).loc Cert.Scatter.main_arg0)
          ∧ r.2.mem ((c.tc : Thread Cert.Scatter.nD Cert.Scatter.τ).loc Cert.Scatter.main_arg1) = m ((c.tc : Thread Cert.Scatter.nD Cert.Scatter.τ).loc Cert.Scatter.main_arg1)
          ∧ r.2.mem ((c.tc : Thread Cert.Scatter.nD Cert.Scatter.τ).loc Cert.Scatter.main_arg2) = m ((c.tc : Thread Cert.Scatter.nD Cert.Scatter.τ).loc Cert.Scatter.main_arg2)
          ∧ r.2.mem ((c.tc : Thread Cert.Scatter.nD Cert.Scatter.τ).loc Cert.Scatter.main_arg3) = m ((c.tc : Thread Cert.Scatter.nD Cert.Scatter.τ).loc Cert.Scatter.main_arg3))
      ∧ θ_run (Cert.ScatterRef.defs (F := Bits)) (onTc (τ := Cert.ScatterRef.τ) (Cert.ScatterRef.main (F := Bits))) ⟨m', fun _ => 0, g'⟩ (fun r =>
          r.2.mem (((0 : Dev Cert.ScatterRef.nD).tc : Thread Cert.ScatterRef.nD Cert.ScatterRef.τ).loc Cert.ScatterRef.main_v2) = v0
          ∧ r.2.mem (((0 : Dev Cert.ScatterRef.nD).tc : Thread Cert.ScatterRef.nD Cert.ScatterRef.τ).loc Cert.ScatterRef.main_v5) = v1
          ∧ r.2.mem (((0 : Dev Cert.ScatterRef.nD).tc : Thread Cert.ScatterRef.nD Cert.ScatterRef.τ).loc Cert.ScatterRef.main_v8) = v2
          ∧ r.2.mem (((0 : Dev Cert.ScatterRef.nD).tc : Thread Cert.ScatterRef.nD Cert.ScatterRef.τ).loc Cert.ScatterRef.main_v11) = v3
          ∧ r.2.mem (((0 : Dev Cert.ScatterRef.nD).tc : Thread Cert.ScatterRef.nD Cert.ScatterRef.τ).loc Cert.ScatterRef.main_arg0) = m' (((0 : Dev Cert.ScatterRef.nD).tc : Thread Cert.ScatterRef.nD Cert.ScatterRef.τ).loc Cert.ScatterRef.main_arg0)
          ∧ r.2.mem (((0 : Dev Cert.ScatterRef.nD).tc : Thread Cert.ScatterRef.nD Cert.ScatterRef.τ).loc Cert.ScatterRef.main_arg1) = m' (((0 : Dev Cert.ScatterRef.nD).tc : Thread Cert.ScatterRef.nD Cert.ScatterRef.τ).loc Cert.ScatterRef.main_arg1)
          ∧ r.2.mem (((0 : Dev Cert.ScatterRef.nD).tc : Thread Cert.ScatterRef.nD Cert.ScatterRef.τ).loc Cert.ScatterRef.main_arg2) = m' (((0 : Dev Cert.ScatterRef.nD).tc : Thread Cert.ScatterRef.nD Cert.ScatterRef.τ).loc Cert.ScatterRef.main_arg2)
          ∧ r.2.mem (((0 : Dev Cert.ScatterRef.nD).tc : Thread Cert.ScatterRef.nD Cert.ScatterRef.τ).loc Cert.ScatterRef.main_arg3) = m' (((0 : Dev Cert.ScatterRef.nD).tc : Thread Cert.ScatterRef.nD Cert.ScatterRef.τ).loc Cert.ScatterRef.main_arg3))

def preserves_Share_ShareIdeal : Prop :=
  True

def algebraic_ShareIdeal_ShareRefIdeal [hShareIdeal : Cert.ShareIdeal.Facts] [hShareRefIdeal : Cert.ShareRefIdeal.Facts] : Prop :=
  ∀ (m : (ℓ : Loc Cert.ShareIdeal.nD Cert.ShareIdeal.τ Cert.ShareIdeal.sig) → Buf (Elt Ideal) ℓ) (g : Dev Cert.ShareIdeal.nD → PrngReg)
    (m' : (ℓ : Loc Cert.ShareRefIdeal.nD Cert.ShareRefIdeal.τ Cert.ShareRefIdeal.sig) → Buf (Elt Ideal) ℓ) (g' : Dev Cert.ShareRefIdeal.nD → PrngReg), Pre_ShareIdeal m →
    (∀ c : Dev Cert.ShareIdeal.nD,
      m ((c.tc : Thread Cert.ShareIdeal.nD Cert.ShareIdeal.τ).loc Cert.ShareIdeal.main_arg0) = Layout.block ⟨2, ![1024, 2048]⟩ ⟨2, ![8192, 2048]⟩ 0 8 c (m' (((0 : Dev Cert.ShareRefIdeal.nD).tc : Thread Cert.ShareRefIdeal.nD Cert.ShareRefIdeal.τ).loc Cert.ShareRefIdeal.main_arg0))
      ∧ m ((c.tc : Thread Cert.ShareIdeal.nD Cert.ShareIdeal.τ).loc Cert.ShareIdeal.main_arg1) = Layout.block ⟨2, ![256, 2048]⟩ ⟨2, ![2048, 2048]⟩ 0 8 c (m' (((0 : Dev Cert.ShareRefIdeal.nD).tc : Thread Cert.ShareRefIdeal.nD Cert.ShareRefIdeal.τ).loc Cert.ShareRefIdeal.main_arg1))
      ∧ m ((c.tc : Thread Cert.ShareIdeal.nD Cert.ShareIdeal.τ).loc Cert.ShareIdeal.main_arg2) = Layout.block ⟨2, ![1024, 1152]⟩ ⟨2, ![8192, 1152]⟩ 0 8 c (m' (((0 : Dev Cert.ShareRefIdeal.nD).tc : Thread Cert.ShareRefIdeal.nD Cert.ShareRefIdeal.τ).loc Cert.ShareRefIdeal.main_arg2))
      ∧ m ((c.tc : Thread Cert.ShareIdeal.nD Cert.ShareIdeal.τ).loc Cert.ShareIdeal.main_arg3) = Layout.block ⟨2, ![256, 2048]⟩ ⟨2, ![2048, 2048]⟩ 0 8 c (m' (((0 : Dev Cert.ShareRefIdeal.nD).tc : Thread Cert.ShareRefIdeal.nD Cert.ShareRefIdeal.τ).loc Cert.ShareRefIdeal.main_arg3))) →
    ∃ (v0 : Buf (Elt Ideal) (((0 : Dev Cert.ShareRefIdeal.nD).tc : Thread Cert.ShareRefIdeal.nD Cert.ShareRefIdeal.τ).loc Cert.ShareRefIdeal.main_arg0)) (v1 : Buf (Elt Ideal) (((0 : Dev Cert.ShareRefIdeal.nD).tc : Thread Cert.ShareRefIdeal.nD Cert.ShareRefIdeal.τ).loc Cert.ShareRefIdeal.main_arg1)) (v2 : Buf (Elt Ideal) (((0 : Dev Cert.ShareRefIdeal.nD).tc : Thread Cert.ShareRefIdeal.nD Cert.ShareRefIdeal.τ).loc Cert.ShareRefIdeal.main_arg2)) (v3 : Buf (Elt Ideal) (((0 : Dev Cert.ShareRefIdeal.nD).tc : Thread Cert.ShareRefIdeal.nD Cert.ShareRefIdeal.τ).loc Cert.ShareRefIdeal.main_arg3)),
      θ_run (Cert.ShareIdeal.defs (F := Ideal)) (onTc (τ := Cert.ShareIdeal.τ) (Cert.ShareIdeal.main (F := Ideal))) ⟨m, fun _ => 0, g⟩ (fun r => ∀ c : Dev Cert.ShareIdeal.nD,
          r.2.mem ((c.tc : Thread Cert.ShareIdeal.nD Cert.ShareIdeal.τ).loc Cert.ShareIdeal.main_v1_0) = Layout.blockN ⟨2, ![2048, 2048]⟩ ⟨2, ![8192, 2048]⟩ (Layout.meshBlock [2, 2, 2] ![[0, 1], []] c) v0
          ∧ r.2.mem ((c.tc : Thread Cert.ShareIdeal.nD Cert.ShareIdeal.τ).loc Cert.ShareIdeal.main_v1_1) = Layout.blockN ⟨2, ![512, 2048]⟩ ⟨2, ![2048, 2048]⟩ (Layout.meshBlock [2, 2, 2] ![[0, 1], []] c) v1
          ∧ r.2.mem ((c.tc : Thread Cert.ShareIdeal.nD Cert.ShareIdeal.τ).loc Cert.ShareIdeal.main_v1_2) = Layout.blockN ⟨2, ![2048, 1152]⟩ ⟨2, ![8192, 1152]⟩ (Layout.meshBlock [2, 2, 2] ![[0, 1], []] c) v2
          ∧ r.2.mem ((c.tc : Thread Cert.ShareIdeal.nD Cert.ShareIdeal.τ).loc Cert.ShareIdeal.main_v1_3) = Layout.blockN ⟨2, ![512, 2048]⟩ ⟨2, ![2048, 2048]⟩ (Layout.meshBlock [2, 2, 2] ![[0, 1], []] c) v3
          ∧ r.2.mem ((c.tc : Thread Cert.ShareIdeal.nD Cert.ShareIdeal.τ).loc Cert.ShareIdeal.main_arg0) = m ((c.tc : Thread Cert.ShareIdeal.nD Cert.ShareIdeal.τ).loc Cert.ShareIdeal.main_arg0)
          ∧ r.2.mem ((c.tc : Thread Cert.ShareIdeal.nD Cert.ShareIdeal.τ).loc Cert.ShareIdeal.main_arg1) = m ((c.tc : Thread Cert.ShareIdeal.nD Cert.ShareIdeal.τ).loc Cert.ShareIdeal.main_arg1)
          ∧ r.2.mem ((c.tc : Thread Cert.ShareIdeal.nD Cert.ShareIdeal.τ).loc Cert.ShareIdeal.main_arg2) = m ((c.tc : Thread Cert.ShareIdeal.nD Cert.ShareIdeal.τ).loc Cert.ShareIdeal.main_arg2)
          ∧ r.2.mem ((c.tc : Thread Cert.ShareIdeal.nD Cert.ShareIdeal.τ).loc Cert.ShareIdeal.main_arg3) = m ((c.tc : Thread Cert.ShareIdeal.nD Cert.ShareIdeal.τ).loc Cert.ShareIdeal.main_arg3))
      ∧ θ_run (Cert.ShareRefIdeal.defs (F := Ideal)) (onTc (τ := Cert.ShareRefIdeal.τ) (Cert.ShareRefIdeal.main (F := Ideal))) ⟨m', fun _ => 0, g'⟩ (fun r =>
          r.2.mem (((0 : Dev Cert.ShareRefIdeal.nD).tc : Thread Cert.ShareRefIdeal.nD Cert.ShareRefIdeal.τ).loc Cert.ShareRefIdeal.main_arg0) = v0
          ∧ r.2.mem (((0 : Dev Cert.ShareRefIdeal.nD).tc : Thread Cert.ShareRefIdeal.nD Cert.ShareRefIdeal.τ).loc Cert.ShareRefIdeal.main_arg1) = v1
          ∧ r.2.mem (((0 : Dev Cert.ShareRefIdeal.nD).tc : Thread Cert.ShareRefIdeal.nD Cert.ShareRefIdeal.τ).loc Cert.ShareRefIdeal.main_arg2) = v2
          ∧ r.2.mem (((0 : Dev Cert.ShareRefIdeal.nD).tc : Thread Cert.ShareRefIdeal.nD Cert.ShareRefIdeal.τ).loc Cert.ShareRefIdeal.main_arg3) = v3
          ∧ r.2.mem (((0 : Dev Cert.ShareRefIdeal.nD).tc : Thread Cert.ShareRefIdeal.nD Cert.ShareRefIdeal.τ).loc Cert.ShareRefIdeal.main_arg0) = m' (((0 : Dev Cert.ShareRefIdeal.nD).tc : Thread Cert.ShareRefIdeal.nD Cert.ShareRefIdeal.τ).loc Cert.ShareRefIdeal.main_arg0)
          ∧ r.2.mem (((0 : Dev Cert.ShareRefIdeal.nD).tc : Thread Cert.ShareRefIdeal.nD Cert.ShareRefIdeal.τ).loc Cert.ShareRefIdeal.main_arg1) = m' (((0 : Dev Cert.ShareRefIdeal.nD).tc : Thread Cert.ShareRefIdeal.nD Cert.ShareRefIdeal.τ).loc Cert.ShareRefIdeal.main_arg1)
          ∧ r.2.mem (((0 : Dev Cert.ShareRefIdeal.nD).tc : Thread Cert.ShareRefIdeal.nD Cert.ShareRefIdeal.τ).loc Cert.ShareRefIdeal.main_arg2) = m' (((0 : Dev Cert.ShareRefIdeal.nD).tc : Thread Cert.ShareRefIdeal.nD Cert.ShareRefIdeal.τ).loc Cert.ShareRefIdeal.main_arg2)
          ∧ r.2.mem (((0 : Dev Cert.ShareRefIdeal.nD).tc : Thread Cert.ShareRefIdeal.nD Cert.ShareRefIdeal.τ).loc Cert.ShareRefIdeal.main_arg3) = m' (((0 : Dev Cert.ShareRefIdeal.nD).tc : Thread Cert.ShareRefIdeal.nD Cert.ShareRefIdeal.τ).loc Cert.ShareRefIdeal.main_arg3))

def bitexact_Share_ShareRef [hShare : Cert.Share.Facts] [hShareRef : Cert.ShareRef.Facts] : Prop :=
  ∀ (m : (ℓ : Loc Cert.Share.nD Cert.Share.τ Cert.Share.sig) → Buf (Elt Bits) ℓ) (g : Dev Cert.Share.nD → PrngReg)
    (m' : (ℓ : Loc Cert.ShareRef.nD Cert.ShareRef.τ Cert.ShareRef.sig) → Buf (Elt Bits) ℓ) (g' : Dev Cert.ShareRef.nD → PrngReg), Pre_Share m →
    (∀ c : Dev Cert.Share.nD,
      m ((c.tc : Thread Cert.Share.nD Cert.Share.τ).loc Cert.Share.main_arg0) = Layout.block ⟨2, ![1024, 2048]⟩ ⟨2, ![8192, 2048]⟩ 0 8 c (m' (((0 : Dev Cert.ShareRef.nD).tc : Thread Cert.ShareRef.nD Cert.ShareRef.τ).loc Cert.ShareRef.main_arg0))
      ∧ m ((c.tc : Thread Cert.Share.nD Cert.Share.τ).loc Cert.Share.main_arg1) = Layout.block ⟨2, ![256, 2048]⟩ ⟨2, ![2048, 2048]⟩ 0 8 c (m' (((0 : Dev Cert.ShareRef.nD).tc : Thread Cert.ShareRef.nD Cert.ShareRef.τ).loc Cert.ShareRef.main_arg1))
      ∧ m ((c.tc : Thread Cert.Share.nD Cert.Share.τ).loc Cert.Share.main_arg2) = Layout.block ⟨2, ![1024, 1152]⟩ ⟨2, ![8192, 1152]⟩ 0 8 c (m' (((0 : Dev Cert.ShareRef.nD).tc : Thread Cert.ShareRef.nD Cert.ShareRef.τ).loc Cert.ShareRef.main_arg2))
      ∧ m ((c.tc : Thread Cert.Share.nD Cert.Share.τ).loc Cert.Share.main_arg3) = Layout.block ⟨2, ![256, 2048]⟩ ⟨2, ![2048, 2048]⟩ 0 8 c (m' (((0 : Dev Cert.ShareRef.nD).tc : Thread Cert.ShareRef.nD Cert.ShareRef.τ).loc Cert.ShareRef.main_arg3))) →
    ∃ (v0 : Buf (Elt Bits) (((0 : Dev Cert.ShareRef.nD).tc : Thread Cert.ShareRef.nD Cert.ShareRef.τ).loc Cert.ShareRef.main_arg0)) (v1 : Buf (Elt Bits) (((0 : Dev Cert.ShareRef.nD).tc : Thread Cert.ShareRef.nD Cert.ShareRef.τ).loc Cert.ShareRef.main_arg1)) (v2 : Buf (Elt Bits) (((0 : Dev Cert.ShareRef.nD).tc : Thread Cert.ShareRef.nD Cert.ShareRef.τ).loc Cert.ShareRef.main_arg2)) (v3 : Buf (Elt Bits) (((0 : Dev Cert.ShareRef.nD).tc : Thread Cert.ShareRef.nD Cert.ShareRef.τ).loc Cert.ShareRef.main_arg3)),
      θ_run (Cert.Share.defs (F := Bits)) (onTc (τ := Cert.Share.τ) (Cert.Share.main (F := Bits))) ⟨m, fun _ => 0, g⟩ (fun r => ∀ c : Dev Cert.Share.nD,
          r.2.mem ((c.tc : Thread Cert.Share.nD Cert.Share.τ).loc Cert.Share.main_v1_0) = Layout.blockN ⟨2, ![2048, 2048]⟩ ⟨2, ![8192, 2048]⟩ (Layout.meshBlock [2, 2, 2] ![[0, 1], []] c) v0
          ∧ r.2.mem ((c.tc : Thread Cert.Share.nD Cert.Share.τ).loc Cert.Share.main_v1_1) = Layout.blockN ⟨2, ![512, 2048]⟩ ⟨2, ![2048, 2048]⟩ (Layout.meshBlock [2, 2, 2] ![[0, 1], []] c) v1
          ∧ r.2.mem ((c.tc : Thread Cert.Share.nD Cert.Share.τ).loc Cert.Share.main_v1_2) = Layout.blockN ⟨2, ![2048, 1152]⟩ ⟨2, ![8192, 1152]⟩ (Layout.meshBlock [2, 2, 2] ![[0, 1], []] c) v2
          ∧ r.2.mem ((c.tc : Thread Cert.Share.nD Cert.Share.τ).loc Cert.Share.main_v1_3) = Layout.blockN ⟨2, ![512, 2048]⟩ ⟨2, ![2048, 2048]⟩ (Layout.meshBlock [2, 2, 2] ![[0, 1], []] c) v3
          ∧ r.2.mem ((c.tc : Thread Cert.Share.nD Cert.Share.τ).loc Cert.Share.main_arg0) = m ((c.tc : Thread Cert.Share.nD Cert.Share.τ).loc Cert.Share.main_arg0)
          ∧ r.2.mem ((c.tc : Thread Cert.Share.nD Cert.Share.τ).loc Cert.Share.main_arg1) = m ((c.tc : Thread Cert.Share.nD Cert.Share.τ).loc Cert.Share.main_arg1)
          ∧ r.2.mem ((c.tc : Thread Cert.Share.nD Cert.Share.τ).loc Cert.Share.main_arg2) = m ((c.tc : Thread Cert.Share.nD Cert.Share.τ).loc Cert.Share.main_arg2)
          ∧ r.2.mem ((c.tc : Thread Cert.Share.nD Cert.Share.τ).loc Cert.Share.main_arg3) = m ((c.tc : Thread Cert.Share.nD Cert.Share.τ).loc Cert.Share.main_arg3))
      ∧ θ_run (Cert.ShareRef.defs (F := Bits)) (onTc (τ := Cert.ShareRef.τ) (Cert.ShareRef.main (F := Bits))) ⟨m', fun _ => 0, g'⟩ (fun r =>
          r.2.mem (((0 : Dev Cert.ShareRef.nD).tc : Thread Cert.ShareRef.nD Cert.ShareRef.τ).loc Cert.ShareRef.main_arg0) = v0
          ∧ r.2.mem (((0 : Dev Cert.ShareRef.nD).tc : Thread Cert.ShareRef.nD Cert.ShareRef.τ).loc Cert.ShareRef.main_arg1) = v1
          ∧ r.2.mem (((0 : Dev Cert.ShareRef.nD).tc : Thread Cert.ShareRef.nD Cert.ShareRef.τ).loc Cert.ShareRef.main_arg2) = v2
          ∧ r.2.mem (((0 : Dev Cert.ShareRef.nD).tc : Thread Cert.ShareRef.nD Cert.ShareRef.τ).loc Cert.ShareRef.main_arg3) = v3
          ∧ r.2.mem (((0 : Dev Cert.ShareRef.nD).tc : Thread Cert.ShareRef.nD Cert.ShareRef.τ).loc Cert.ShareRef.main_arg0) = m' (((0 : Dev Cert.ShareRef.nD).tc : Thread Cert.ShareRef.nD Cert.ShareRef.τ).loc Cert.ShareRef.main_arg0)
          ∧ r.2.mem (((0 : Dev Cert.ShareRef.nD).tc : Thread Cert.ShareRef.nD Cert.ShareRef.τ).loc Cert.ShareRef.main_arg1) = m' (((0 : Dev Cert.ShareRef.nD).tc : Thread Cert.ShareRef.nD Cert.ShareRef.τ).loc Cert.ShareRef.main_arg1)
          ∧ r.2.mem (((0 : Dev Cert.ShareRef.nD).tc : Thread Cert.ShareRef.nD Cert.ShareRef.τ).loc Cert.ShareRef.main_arg2) = m' (((0 : Dev Cert.ShareRef.nD).tc : Thread Cert.ShareRef.nD Cert.ShareRef.τ).loc Cert.ShareRef.main_arg2)
          ∧ r.2.mem (((0 : Dev Cert.ShareRef.nD).tc : Thread Cert.ShareRef.nD Cert.ShareRef.τ).loc Cert.ShareRef.main_arg3) = m' (((0 : Dev Cert.ShareRef.nD).tc : Thread Cert.ShareRef.nD Cert.ShareRef.τ).loc Cert.ShareRef.main_arg3))

def preserves_Gather_GatherIdeal : Prop :=
  True

def algebraic_GatherIdeal_GatherRefIdeal [hGatherIdeal : Cert.GatherIdeal.Facts] [hGatherRefIdeal : Cert.GatherRefIdeal.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherRefIdeal.nD Cert.GatherRefIdeal.τ Cert.GatherRefIdeal.sig) → Buf (Elt Ideal) ℓ) (g' : Dev Cert.GatherRefIdeal.nD → PrngReg), Pre_GatherIdeal m →
    (∀ c : Dev Cert.GatherIdeal.nD,
      m ((c.tc : Thread Cert.GatherIdeal.nD Cert.GatherIdeal.τ).loc Cert.GatherIdeal.main_arg0) = Layout.blockN ⟨2, ![2048, 2048]⟩ ⟨2, ![2048, 8192]⟩ (Layout.meshBlock [2, 2, 2] ![[], [0, 1]] c) (m' (((0 : Dev Cert.GatherRefIdeal.nD).tc : Thread Cert.GatherRefIdeal.nD Cert.GatherRefIdeal.τ).loc Cert.GatherRefIdeal.main_arg0))
      ∧ m ((c.tc : Thread Cert.GatherIdeal.nD Cert.GatherIdeal.τ).loc Cert.GatherIdeal.main_arg1) = Layout.blockN ⟨2, ![512, 2048]⟩ ⟨2, ![2048, 2048]⟩ (Layout.meshBlock [2, 2, 2] ![[0, 1], []] c) (m' (((0 : Dev Cert.GatherRefIdeal.nD).tc : Thread Cert.GatherRefIdeal.nD Cert.GatherRefIdeal.τ).loc Cert.GatherRefIdeal.main_arg1))
      ∧ m ((c.tc : Thread Cert.GatherIdeal.nD Cert.GatherIdeal.τ).loc Cert.GatherIdeal.main_arg2) = Layout.blockN ⟨2, ![2048, 1152]⟩ ⟨2, ![2048, 4608]⟩ (Layout.meshBlock [2, 2, 2] ![[], [0, 1]] c) (m' (((0 : Dev Cert.GatherRefIdeal.nD).tc : Thread Cert.GatherRefIdeal.nD Cert.GatherRefIdeal.τ).loc Cert.GatherRefIdeal.main_arg2))
      ∧ m ((c.tc : Thread Cert.GatherIdeal.nD Cert.GatherIdeal.τ).loc Cert.GatherIdeal.main_arg3) = Layout.blockN ⟨2, ![512, 2048]⟩ ⟨2, ![2048, 2048]⟩ (Layout.meshBlock [2, 2, 2] ![[0, 1], []] c) (m' (((0 : Dev Cert.GatherRefIdeal.nD).tc : Thread Cert.GatherRefIdeal.nD Cert.GatherRefIdeal.τ).loc Cert.GatherRefIdeal.main_arg3))
      ∧ m ((c.tc : Thread Cert.GatherIdeal.nD Cert.GatherIdeal.τ).loc Cert.GatherIdeal.main_arg4) = Layout.blockN ⟨2, ![8, 512]⟩ ⟨2, ![32, 512]⟩ (Layout.meshBlock [2, 2, 2] ![[0, 1], []] c) (m' (((0 : Dev Cert.GatherRefIdeal.nD).tc : Thread Cert.GatherRefIdeal.nD Cert.GatherRefIdeal.τ).loc Cert.GatherRefIdeal.main_arg4))) →
    ∃ (v0 : Buf (Elt Ideal) (((0 : Dev Cert.GatherRefIdeal.nD).tc : Thread Cert.GatherRefIdeal.nD Cert.GatherRefIdeal.τ).loc Cert.GatherRefIdeal.main_arg0)) (v1 : Buf (Elt Ideal) (((0 : Dev Cert.GatherRefIdeal.nD).tc : Thread Cert.GatherRefIdeal.nD Cert.GatherRefIdeal.τ).loc Cert.GatherRefIdeal.main_arg1)) (v2 : Buf (Elt Ideal) (((0 : Dev Cert.GatherRefIdeal.nD).tc : Thread Cert.GatherRefIdeal.nD Cert.GatherRefIdeal.τ).loc Cert.GatherRefIdeal.main_arg2)) (v3 : Buf (Elt Ideal) (((0 : Dev Cert.GatherRefIdeal.nD).tc : Thread Cert.GatherRefIdeal.nD Cert.GatherRefIdeal.τ).loc Cert.GatherRefIdeal.main_arg3)) (v4 : Buf (Elt Ideal) (((0 : Dev Cert.GatherRefIdeal.nD).tc : Thread Cert.GatherRefIdeal.nD Cert.GatherRefIdeal.τ).loc Cert.GatherRefIdeal.main_v0)),
      θ_run (Cert.GatherIdeal.defs (F := Ideal)) (onTc (τ := Cert.GatherIdeal.τ) (Cert.GatherIdeal.main (F := Ideal))) ⟨m, fun _ => 0, g⟩ (fun r => ∀ c : Dev Cert.GatherIdeal.nD,
          r.2.mem ((c.tc : Thread Cert.GatherIdeal.nD Cert.GatherIdeal.τ).loc Cert.GatherIdeal.main_v1_0) = v0
          ∧ r.2.mem ((c.tc : Thread Cert.GatherIdeal.nD Cert.GatherIdeal.τ).loc Cert.GatherIdeal.main_v1_1) = v1
          ∧ r.2.mem ((c.tc : Thread Cert.GatherIdeal.nD Cert.GatherIdeal.τ).loc Cert.GatherIdeal.main_v1_2) = v2
          ∧ r.2.mem ((c.tc : Thread Cert.GatherIdeal.nD Cert.GatherIdeal.τ).loc Cert.GatherIdeal.main_v1_3) = v3
          ∧ r.2.mem ((c.tc : Thread Cert.GatherIdeal.nD Cert.GatherIdeal.τ).loc Cert.GatherIdeal.main_v1_4) = v4
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
          ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2)
          ∧ r.2.mem ((c.tc : Thread Cert.GatherIdeal.nD Cert.GatherIdeal.τ).loc Cert.GatherIdeal.main_arg3) = m ((c.tc : Thread Cert.GatherIdeal.nD Cert.GatherIdeal.τ).loc Cert.GatherIdeal.main_arg3)
          ∧ r.2.mem ((c.tc : Thread Cert.GatherIdeal.nD Cert.GatherIdeal.τ).loc Cert.GatherIdeal.main_arg4) = m ((c.tc : Thread Cert.GatherIdeal.nD Cert.GatherIdeal.τ).loc Cert.GatherIdeal.main_arg4))
      ∧ θ_run (Cert.GatherRefIdeal.defs (F := Ideal)) (onTc (τ := Cert.GatherRefIdeal.τ) (Cert.GatherRefIdeal.main (F := Ideal))) ⟨m', fun _ => 0, g'⟩ (fun r =>
          r.2.mem (((0 : Dev Cert.GatherRefIdeal.nD).tc : Thread Cert.GatherRefIdeal.nD Cert.GatherRefIdeal.τ).loc Cert.GatherRefIdeal.main_arg0) = v0
          ∧ r.2.mem (((0 : Dev Cert.GatherRefIdeal.nD).tc : Thread Cert.GatherRefIdeal.nD Cert.GatherRefIdeal.τ).loc Cert.GatherRefIdeal.main_arg1) = v1
          ∧ r.2.mem (((0 : Dev Cert.GatherRefIdeal.nD).tc : Thread Cert.GatherRefIdeal.nD Cert.GatherRefIdeal.τ).loc Cert.GatherRefIdeal.main_arg2) = v2
          ∧ r.2.mem (((0 : Dev Cert.GatherRefIdeal.nD).tc : Thread Cert.GatherRefIdeal.nD Cert.GatherRefIdeal.τ).loc Cert.GatherRefIdeal.main_arg3) = v3
          ∧ r.2.mem (((0 : Dev Cert.GatherRefIdeal.nD).tc : Thread Cert.GatherRefIdeal.nD Cert.GatherRefIdeal.τ).loc Cert.GatherRefIdeal.main_v0) = v4
          ∧ r.2.mem (((0 : Dev Cert.GatherRefIdeal.nD).tc : Thread Cert.GatherRefIdeal.nD Cert.GatherRefIdeal.τ).loc Cert.GatherRefIdeal.main_arg0) = m' (((0 : Dev Cert.GatherRefIdeal.nD).tc : Thread Cert.GatherRefIdeal.nD Cert.GatherRefIdeal.τ).loc Cert.GatherRefIdeal.main_arg0)
          ∧ r.2.mem (((0 : Dev Cert.GatherRefIdeal.nD).tc : Thread Cert.GatherRefIdeal.nD Cert.GatherRefIdeal.τ).loc Cert.GatherRefIdeal.main_arg1) = m' (((0 : Dev Cert.GatherRefIdeal.nD).tc : Thread Cert.GatherRefIdeal.nD Cert.GatherRefIdeal.τ).loc Cert.GatherRefIdeal.main_arg1)
          ∧ r.2.mem (((0 : Dev Cert.GatherRefIdeal.nD).tc : Thread Cert.GatherRefIdeal.nD Cert.GatherRefIdeal.τ).loc Cert.GatherRefIdeal.main_arg2) = m' (((0 : Dev Cert.GatherRefIdeal.nD).tc : Thread Cert.GatherRefIdeal.nD Cert.GatherRefIdeal.τ).loc Cert.GatherRefIdeal.main_arg2)
          ∧ r.2.mem (((0 : Dev Cert.GatherRefIdeal.nD).tc : Thread Cert.GatherRefIdeal.nD Cert.GatherRefIdeal.τ).loc Cert.GatherRefIdeal.main_arg3) = m' (((0 : Dev Cert.GatherRefIdeal.nD).tc : Thread Cert.GatherRefIdeal.nD Cert.GatherRefIdeal.τ).loc Cert.GatherRefIdeal.main_arg3)
          ∧ r.2.mem (((0 : Dev Cert.GatherRefIdeal.nD).tc : Thread Cert.GatherRefIdeal.nD Cert.GatherRefIdeal.τ).loc Cert.GatherRefIdeal.main_arg4) = m' (((0 : Dev Cert.GatherRefIdeal.nD).tc : Thread Cert.GatherRefIdeal.nD Cert.GatherRefIdeal.τ).loc Cert.GatherRefIdeal.main_arg4))

def bitexact_Gather_GatherRef [hGather : Cert.Gather.Facts] [hGatherRef : Cert.GatherRef.Facts] : Prop :=
  ∀ (m : (ℓ : Loc Cert.Gather.nD Cert.Gather.τ Cert.Gather.sig) → Buf (Elt Bits) ℓ) (g : Dev Cert.Gather.nD → PrngReg)
    (m' : (ℓ : Loc Cert.GatherRef.nD Cert.GatherRef.τ Cert.GatherRef.sig) → Buf (Elt Bits) ℓ) (g' : Dev Cert.GatherRef.nD → PrngReg), Pre_Gather m →
    (∀ c : Dev Cert.Gather.nD,
      m ((c.tc : Thread Cert.Gather.nD Cert.Gather.τ).loc Cert.Gather.main_arg0) = Layout.blockN ⟨2, ![2048, 2048]⟩ ⟨2, ![2048, 8192]⟩ (Layout.meshBlock [2, 2, 2] ![[], [0, 1]] c) (m' (((0 : Dev Cert.GatherRef.nD).tc : Thread Cert.GatherRef.nD Cert.GatherRef.τ).loc Cert.GatherRef.main_arg0))
      ∧ m ((c.tc : Thread Cert.Gather.nD Cert.Gather.τ).loc Cert.Gather.main_arg1) = Layout.blockN ⟨2, ![512, 2048]⟩ ⟨2, ![2048, 2048]⟩ (Layout.meshBlock [2, 2, 2] ![[0, 1], []] c) (m' (((0 : Dev Cert.GatherRef.nD).tc : Thread Cert.GatherRef.nD Cert.GatherRef.τ).loc Cert.GatherRef.main_arg1))
      ∧ m ((c.tc : Thread Cert.Gather.nD Cert.Gather.τ).loc Cert.Gather.main_arg2) = Layout.blockN ⟨2, ![2048, 1152]⟩ ⟨2, ![2048, 4608]⟩ (Layout.meshBlock [2, 2, 2] ![[], [0, 1]] c) (m' (((0 : Dev Cert.GatherRef.nD).tc : Thread Cert.GatherRef.nD Cert.GatherRef.τ).loc Cert.GatherRef.main_arg2))
      ∧ m ((c.tc : Thread Cert.Gather.nD Cert.Gather.τ).loc Cert.Gather.main_arg3) = Layout.blockN ⟨2, ![512, 2048]⟩ ⟨2, ![2048, 2048]⟩ (Layout.meshBlock [2, 2, 2] ![[0, 1], []] c) (m' (((0 : Dev Cert.GatherRef.nD).tc : Thread Cert.GatherRef.nD Cert.GatherRef.τ).loc Cert.GatherRef.main_arg3))
      ∧ m ((c.tc : Thread Cert.Gather.nD Cert.Gather.τ).loc Cert.Gather.main_arg4) = Layout.blockN ⟨2, ![8, 512]⟩ ⟨2, ![32, 512]⟩ (Layout.meshBlock [2, 2, 2] ![[0, 1], []] c) (m' (((0 : Dev Cert.GatherRef.nD).tc : Thread Cert.GatherRef.nD Cert.GatherRef.τ).loc Cert.GatherRef.main_arg4))) →
    ∃ (v0 : Buf (Elt Bits) (((0 : Dev Cert.GatherRef.nD).tc : Thread Cert.GatherRef.nD Cert.GatherRef.τ).loc Cert.GatherRef.main_arg0)) (v1 : Buf (Elt Bits) (((0 : Dev Cert.GatherRef.nD).tc : Thread Cert.GatherRef.nD Cert.GatherRef.τ).loc Cert.GatherRef.main_arg1)) (v2 : Buf (Elt Bits) (((0 : Dev Cert.GatherRef.nD).tc : Thread Cert.GatherRef.nD Cert.GatherRef.τ).loc Cert.GatherRef.main_arg2)) (v3 : Buf (Elt Bits) (((0 : Dev Cert.GatherRef.nD).tc : Thread Cert.GatherRef.nD Cert.GatherRef.τ).loc Cert.GatherRef.main_arg3)) (v4 : Buf (Elt Bits) (((0 : Dev Cert.GatherRef.nD).tc : Thread Cert.GatherRef.nD Cert.GatherRef.τ).loc Cert.GatherRef.main_v0)),
      θ_run (Cert.Gather.defs (F := Bits)) (onTc (τ := Cert.Gather.τ) (Cert.Gather.main (F := Bits))) ⟨m, fun _ => 0, g⟩ (fun r => ∀ c : Dev Cert.Gather.nD,
          r.2.mem ((c.tc : Thread Cert.Gather.nD Cert.Gather.τ).loc Cert.Gather.main_v1_0) = v0
          ∧ r.2.mem ((c.tc : Thread Cert.Gather.nD Cert.Gather.τ).loc Cert.Gather.main_v1_1) = v1
          ∧ r.2.mem ((c.tc : Thread Cert.Gather.nD Cert.Gather.τ).loc Cert.Gather.main_v1_2) = v2
          ∧ r.2.mem ((c.tc : Thread Cert.Gather.nD Cert.Gather.τ).loc Cert.Gather.main_v1_3) = v3
          ∧ r.2.mem ((c.tc : Thread Cert.Gather.nD Cert.Gather.τ).loc Cert.Gather.main_v1_4) = v4
          ∧ r.2.mem ((c.tc : Thread Cert.Gather.nD Cert.Gather.τ).loc Cert.Gather.main_arg0) = m ((c.tc : Thread Cert.Gather.nD Cert.Gather.τ).loc Cert.Gather.main_arg0)
          ∧ r.2.mem ((c.tc : Thread Cert.Gather.nD Cert.Gather.τ).loc Cert.Gather.main_arg1) = m ((c.tc : Thread Cert.Gather.nD Cert.Gather.τ).loc Cert.Gather.main_arg1)
          ∧ r.2.mem ((c.tc : Thread Cert.Gather.nD Cert.Gather.τ).loc Cert.Gather.main_arg2) = m ((c.tc : Thread Cert.Gather.nD Cert.Gather.τ).loc Cert.Gather.main_arg2)
          ∧ r.2.mem ((c.tc : Thread Cert.Gather.nD Cert.Gather.τ).loc Cert.Gather.main_arg3) = m ((c.tc : Thread Cert.Gather.nD Cert.Gather.τ).loc Cert.Gather.main_arg3)
          ∧ r.2.mem ((c.tc : Thread Cert.Gather.nD Cert.Gather.τ).loc Cert.Gather.main_arg4) = m ((c.tc : Thread Cert.Gather.nD Cert.Gather.τ).loc Cert.Gather.main_arg4))
      ∧ θ_run (Cert.GatherRef.defs (F := Bits)) (onTc (τ := Cert.GatherRef.τ) (Cert.GatherRef.main (F := Bits))) ⟨m', fun _ => 0, g'⟩ (fun r =>
          r.2.mem (((0 : Dev Cert.GatherRef.nD).tc : Thread Cert.GatherRef.nD Cert.GatherRef.τ).loc Cert.GatherRef.main_arg0) = v0
          ∧ r.2.mem (((0 : Dev Cert.GatherRef.nD).tc : Thread Cert.GatherRef.nD Cert.GatherRef.τ).loc Cert.GatherRef.main_arg1) = v1
          ∧ r.2.mem (((0 : Dev Cert.GatherRef.nD).tc : Thread Cert.GatherRef.nD Cert.GatherRef.τ).loc Cert.GatherRef.main_arg2) = v2
          ∧ r.2.mem (((0 : Dev Cert.GatherRef.nD).tc : Thread Cert.GatherRef.nD Cert.GatherRef.τ).loc Cert.GatherRef.main_arg3) = v3
          ∧ r.2.mem (((0 : Dev Cert.GatherRef.nD).tc : Thread Cert.GatherRef.nD Cert.GatherRef.τ).loc Cert.GatherRef.main_v0) = v4
          ∧ r.2.mem (((0 : Dev Cert.GatherRef.nD).tc : Thread Cert.GatherRef.nD Cert.GatherRef.τ).loc Cert.GatherRef.main_arg0) = m' (((0 : Dev Cert.GatherRef.nD).tc : Thread Cert.GatherRef.nD Cert.GatherRef.τ).loc Cert.GatherRef.main_arg0)
          ∧ r.2.mem (((0 : Dev Cert.GatherRef.nD).tc : Thread Cert.GatherRef.nD Cert.GatherRef.τ).loc Cert.GatherRef.main_arg1) = m' (((0 : Dev Cert.GatherRef.nD).tc : Thread Cert.GatherRef.nD Cert.GatherRef.τ).loc Cert.GatherRef.main_arg1)
          ∧ r.2.mem (((0 : Dev Cert.GatherRef.nD).tc : Thread Cert.GatherRef.nD Cert.GatherRef.τ).loc Cert.GatherRef.main_arg2) = m' (((0 : Dev Cert.GatherRef.nD).tc : Thread Cert.GatherRef.nD Cert.GatherRef.τ).loc Cert.GatherRef.main_arg2)
          ∧ r.2.mem (((0 : Dev Cert.GatherRef.nD).tc : Thread Cert.GatherRef.nD Cert.GatherRef.τ).loc Cert.GatherRef.main_arg3) = m' (((0 : Dev Cert.GatherRef.nD).tc : Thread Cert.GatherRef.nD Cert.GatherRef.τ).loc Cert.GatherRef.main_arg3)
          ∧ r.2.mem (((0 : Dev Cert.GatherRef.nD).tc : Thread Cert.GatherRef.nD Cert.GatherRef.τ).loc Cert.GatherRef.main_arg4) = m' (((0 : Dev Cert.GatherRef.nD).tc : Thread Cert.GatherRef.nD Cert.GatherRef.τ).loc Cert.GatherRef.main_arg4))

def preserves_AdamEvenIn_AdamEvenInIdeal : Prop :=
  True

def algebraic_AdamEvenInIdeal_AdamEvenInRefIdeal [hAdamEvenInIdeal : Cert.AdamEvenInIdeal.Facts] [hAdamEvenInRefIdeal : Cert.AdamEvenInRefIdeal.Facts] : Prop :=
  ∀ (m : (ℓ : Loc Cert.AdamEvenInIdeal.nD Cert.AdamEvenInIdeal.τ Cert.AdamEvenInIdeal.sig) → Buf (Elt Ideal) ℓ) (g : Dev Cert.AdamEvenInIdeal.nD → PrngReg)
    (m' : (ℓ : Loc Cert.AdamEvenInRefIdeal.nD Cert.AdamEvenInRefIdeal.τ Cert.AdamEvenInRefIdeal.sig) → Buf (Elt Ideal) ℓ) (g' : Dev Cert.AdamEvenInRefIdeal.nD → PrngReg), Pre_AdamEvenInIdeal m →
    (∀ c : Dev Cert.AdamEvenInIdeal.nD,
      m' ((c.tc : Thread Cert.AdamEvenInRefIdeal.nD Cert.AdamEvenInRefIdeal.τ).loc Cert.AdamEvenInRefIdeal.main_arg0) = m ((c.tc : Thread Cert.AdamEvenInIdeal.nD Cert.AdamEvenInIdeal.τ).loc Cert.AdamEvenInIdeal.main_arg0)
      ∧ m' ((c.tc : Thread Cert.AdamEvenInRefIdeal.nD Cert.AdamEvenInRefIdeal.τ).loc Cert.AdamEvenInRefIdeal.main_arg1) = m ((c.tc : Thread Cert.AdamEvenInIdeal.nD Cert.AdamEvenInIdeal.τ).loc Cert.AdamEvenInIdeal.main_arg1)
      ∧ m' ((c.tc : Thread Cert.AdamEvenInRefIdeal.nD Cert.AdamEvenInRefIdeal.τ).loc Cert.AdamEvenInRefIdeal.main_arg2) = m ((c.tc : Thread Cert.AdamEvenInIdeal.nD Cert.AdamEvenInIdeal.τ).loc Cert.AdamEvenInIdeal.main_arg2)
      ∧ m' ((c.tc : Thread Cert.AdamEvenInRefIdeal.nD Cert.AdamEvenInRefIdeal.τ).loc Cert.AdamEvenInRefIdeal.main_arg3) = m ((c.tc : Thread Cert.AdamEvenInIdeal.nD Cert.AdamEvenInIdeal.τ).loc Cert.AdamEvenInIdeal.main_arg3)) →
    ∃ (v0 : (c : Dev Cert.AdamEvenInIdeal.nD) → Buf (Elt Ideal) ((c.tc : Thread Cert.AdamEvenInIdeal.nD Cert.AdamEvenInIdeal.τ).loc Cert.AdamEvenInIdeal.main_v0_0)) (v1 : (c : Dev Cert.AdamEvenInIdeal.nD) → Buf (Elt Ideal) ((c.tc : Thread Cert.AdamEvenInIdeal.nD Cert.AdamEvenInIdeal.τ).loc Cert.AdamEvenInIdeal.main_v0_1)) (v2 : (c : Dev Cert.AdamEvenInIdeal.nD) → Buf (Elt Ideal) ((c.tc : Thread Cert.AdamEvenInIdeal.nD Cert.AdamEvenInIdeal.τ).loc Cert.AdamEvenInIdeal.main_v0_2)),
      θ_run (Cert.AdamEvenInIdeal.defs (F := Ideal)) (onTc (τ := Cert.AdamEvenInIdeal.τ) (Cert.AdamEvenInIdeal.main (F := Ideal))) ⟨m, fun _ => 0, g⟩ (fun r => ∀ c : Dev Cert.AdamEvenInIdeal.nD,
          r.2.mem ((c.tc : Thread Cert.AdamEvenInIdeal.nD Cert.AdamEvenInIdeal.τ).loc Cert.AdamEvenInIdeal.main_v0_0) = v0 c
          ∧ r.2.mem ((c.tc : Thread Cert.AdamEvenInIdeal.nD Cert.AdamEvenInIdeal.τ).loc Cert.AdamEvenInIdeal.main_v0_1) = v1 c
          ∧ r.2.mem ((c.tc : Thread Cert.AdamEvenInIdeal.nD Cert.AdamEvenInIdeal.τ).loc Cert.AdamEvenInIdeal.main_v0_2) = v2 c
          ∧ r.2.mem ((c.tc : Thread Cert.AdamEvenInIdeal.nD Cert.AdamEvenInIdeal.τ).loc Cert.AdamEvenInIdeal.main_arg0) = m ((c.tc : Thread Cert.AdamEvenInIdeal.nD Cert.AdamEvenInIdeal.τ).loc Cert.AdamEvenInIdeal.main_arg0)
          ∧ r.2.mem ((c.tc : Thread Cert.AdamEvenInIdeal.nD Cert.AdamEvenInIdeal.τ).loc Cert.AdamEvenInIdeal.main_arg1) = m ((c.tc : Thread Cert.AdamEvenInIdeal.nD Cert.AdamEvenInIdeal.τ).loc Cert.AdamEvenInIdeal.main_arg1)
          ∧ r.2.mem ((c.tc : Thread Cert.AdamEvenInIdeal.nD Cert.AdamEvenInIdeal.τ).loc Cert.AdamEvenInIdeal.main_arg2) = m ((c.tc : Thread Cert.AdamEvenInIdeal.nD Cert.AdamEvenInIdeal.τ).loc Cert.AdamEvenInIdeal.main_arg2)
          ∧ r.2.mem ((c.tc : Thread Cert.AdamEvenInIdeal.nD Cert.AdamEvenInIdeal.τ).loc Cert.AdamEvenInIdeal.main_arg3) = m ((c.tc : Thread Cert.AdamEvenInIdeal.nD Cert.AdamEvenInIdeal.τ).loc Cert.AdamEvenInIdeal.main_arg3))
      ∧ θ_run (Cert.AdamEvenInRefIdeal.defs (F := Ideal)) (onTc (τ := Cert.AdamEvenInRefIdeal.τ) (Cert.AdamEvenInRefIdeal.main (F := Ideal))) ⟨m', fun _ => 0, g'⟩ (fun r => ∀ c : Dev Cert.AdamEvenInRefIdeal.nD,
          r.2.mem ((c.tc : Thread Cert.AdamEvenInRefIdeal.nD Cert.AdamEvenInRefIdeal.τ).loc Cert.AdamEvenInRefIdeal.main_v23) = v0 c
          ∧ r.2.mem ((c.tc : Thread Cert.AdamEvenInRefIdeal.nD Cert.AdamEvenInRefIdeal.τ).loc Cert.AdamEvenInRefIdeal.main_v4) = v1 c
          ∧ r.2.mem ((c.tc : Thread Cert.AdamEvenInRefIdeal.nD Cert.AdamEvenInRefIdeal.τ).loc Cert.AdamEvenInRefIdeal.main_v10) = v2 c
          ∧ r.2.mem ((c.tc : Thread Cert.AdamEvenInRefIdeal.nD Cert.AdamEvenInRefIdeal.τ).loc Cert.AdamEvenInRefIdeal.main_arg0) = m' ((c.tc : Thread Cert.AdamEvenInRefIdeal.nD Cert.AdamEvenInRefIdeal.τ).loc Cert.AdamEvenInRefIdeal.main_arg0)
          ∧ r.2.mem ((c.tc : Thread Cert.AdamEvenInRefIdeal.nD Cert.AdamEvenInRefIdeal.τ).loc Cert.AdamEvenInRefIdeal.main_arg1) = m' ((c.tc : Thread Cert.AdamEvenInRefIdeal.nD Cert.AdamEvenInRefIdeal.τ).loc Cert.AdamEvenInRefIdeal.main_arg1)
          ∧ r.2.mem ((c.tc : Thread Cert.AdamEvenInRefIdeal.nD Cert.AdamEvenInRefIdeal.τ).loc Cert.AdamEvenInRefIdeal.main_arg2) = m' ((c.tc : Thread Cert.AdamEvenInRefIdeal.nD Cert.AdamEvenInRefIdeal.τ).loc Cert.AdamEvenInRefIdeal.main_arg2)
          ∧ r.2.mem ((c.tc : Thread Cert.AdamEvenInRefIdeal.nD Cert.AdamEvenInRefIdeal.τ).loc Cert.AdamEvenInRefIdeal.main_arg3) = m' ((c.tc : Thread Cert.AdamEvenInRefIdeal.nD Cert.AdamEvenInRefIdeal.τ).loc Cert.AdamEvenInRefIdeal.main_arg3))

def preserves_AdamOddIn_AdamOddInIdeal : Prop :=
  True

def algebraic_AdamOddInIdeal_AdamOddInRefIdeal [hAdamOddInIdeal : Cert.AdamOddInIdeal.Facts] [hAdamOddInRefIdeal : Cert.AdamOddInRefIdeal.Facts] : Prop :=
  ∀ (m : (ℓ : Loc Cert.AdamOddInIdeal.nD Cert.AdamOddInIdeal.τ Cert.AdamOddInIdeal.sig) → Buf (Elt Ideal) ℓ) (g : Dev Cert.AdamOddInIdeal.nD → PrngReg)
    (m' : (ℓ : Loc Cert.AdamOddInRefIdeal.nD Cert.AdamOddInRefIdeal.τ Cert.AdamOddInRefIdeal.sig) → Buf (Elt Ideal) ℓ) (g' : Dev Cert.AdamOddInRefIdeal.nD → PrngReg), Pre_AdamOddInIdeal m →
    (∀ c : Dev Cert.AdamOddInIdeal.nD,
      m' ((c.tc : Thread Cert.AdamOddInRefIdeal.nD Cert.AdamOddInRefIdeal.τ).loc Cert.AdamOddInRefIdeal.main_arg0) = m ((c.tc : Thread Cert.AdamOddInIdeal.nD Cert.AdamOddInIdeal.τ).loc Cert.AdamOddInIdeal.main_arg0)
      ∧ m' ((c.tc : Thread Cert.AdamOddInRefIdeal.nD Cert.AdamOddInRefIdeal.τ).loc Cert.AdamOddInRefIdeal.main_arg1) = m ((c.tc : Thread Cert.AdamOddInIdeal.nD Cert.AdamOddInIdeal.τ).loc Cert.AdamOddInIdeal.main_arg1)
      ∧ m' ((c.tc : Thread Cert.AdamOddInRefIdeal.nD Cert.AdamOddInRefIdeal.τ).loc Cert.AdamOddInRefIdeal.main_arg2) = m ((c.tc : Thread Cert.AdamOddInIdeal.nD Cert.AdamOddInIdeal.τ).loc Cert.AdamOddInIdeal.main_arg2)
      ∧ m' ((c.tc : Thread Cert.AdamOddInRefIdeal.nD Cert.AdamOddInRefIdeal.τ).loc Cert.AdamOddInRefIdeal.main_arg3) = m ((c.tc : Thread Cert.AdamOddInIdeal.nD Cert.AdamOddInIdeal.τ).loc Cert.AdamOddInIdeal.main_arg3)) →
    ∃ (v0 : (c : Dev Cert.AdamOddInIdeal.nD) → Buf (Elt Ideal) ((c.tc : Thread Cert.AdamOddInIdeal.nD Cert.AdamOddInIdeal.τ).loc Cert.AdamOddInIdeal.main_v0_0)) (v1 : (c : Dev Cert.AdamOddInIdeal.nD) → Buf (Elt Ideal) ((c.tc : Thread Cert.AdamOddInIdeal.nD Cert.AdamOddInIdeal.τ).loc Cert.AdamOddInIdeal.main_v0_1)) (v2 : (c : Dev Cert.AdamOddInIdeal.nD) → Buf (Elt Ideal) ((c.tc : Thread Cert.AdamOddInIdeal.nD Cert.AdamOddInIdeal.τ).loc Cert.AdamOddInIdeal.main_v0_2)),
      θ_run (Cert.AdamOddInIdeal.defs (F := Ideal)) (onTc (τ := Cert.AdamOddInIdeal.τ) (Cert.AdamOddInIdeal.main (F := Ideal))) ⟨m, fun _ => 0, g⟩ (fun r => ∀ c : Dev Cert.AdamOddInIdeal.nD,
          r.2.mem ((c.tc : Thread Cert.AdamOddInIdeal.nD Cert.AdamOddInIdeal.τ).loc Cert.AdamOddInIdeal.main_v0_0) = v0 c
          ∧ r.2.mem ((c.tc : Thread Cert.AdamOddInIdeal.nD Cert.AdamOddInIdeal.τ).loc Cert.AdamOddInIdeal.main_v0_1) = v1 c
          ∧ r.2.mem ((c.tc : Thread Cert.AdamOddInIdeal.nD Cert.AdamOddInIdeal.τ).loc Cert.AdamOddInIdeal.main_v0_2) = v2 c
          ∧ r.2.mem ((c.tc : Thread Cert.AdamOddInIdeal.nD Cert.AdamOddInIdeal.τ).loc Cert.AdamOddInIdeal.main_arg0) = m ((c.tc : Thread Cert.AdamOddInIdeal.nD Cert.AdamOddInIdeal.τ).loc Cert.AdamOddInIdeal.main_arg0)
          ∧ r.2.mem ((c.tc : Thread Cert.AdamOddInIdeal.nD Cert.AdamOddInIdeal.τ).loc Cert.AdamOddInIdeal.main_arg1) = m ((c.tc : Thread Cert.AdamOddInIdeal.nD Cert.AdamOddInIdeal.τ).loc Cert.AdamOddInIdeal.main_arg1)
          ∧ r.2.mem ((c.tc : Thread Cert.AdamOddInIdeal.nD Cert.AdamOddInIdeal.τ).loc Cert.AdamOddInIdeal.main_arg2) = m ((c.tc : Thread Cert.AdamOddInIdeal.nD Cert.AdamOddInIdeal.τ).loc Cert.AdamOddInIdeal.main_arg2)
          ∧ r.2.mem ((c.tc : Thread Cert.AdamOddInIdeal.nD Cert.AdamOddInIdeal.τ).loc Cert.AdamOddInIdeal.main_arg3) = m ((c.tc : Thread Cert.AdamOddInIdeal.nD Cert.AdamOddInIdeal.τ).loc Cert.AdamOddInIdeal.main_arg3))
      ∧ θ_run (Cert.AdamOddInRefIdeal.defs (F := Ideal)) (onTc (τ := Cert.AdamOddInRefIdeal.τ) (Cert.AdamOddInRefIdeal.main (F := Ideal))) ⟨m', fun _ => 0, g'⟩ (fun r => ∀ c : Dev Cert.AdamOddInRefIdeal.nD,
          r.2.mem ((c.tc : Thread Cert.AdamOddInRefIdeal.nD Cert.AdamOddInRefIdeal.τ).loc Cert.AdamOddInRefIdeal.main_v23) = v0 c
          ∧ r.2.mem ((c.tc : Thread Cert.AdamOddInRefIdeal.nD Cert.AdamOddInRefIdeal.τ).loc Cert.AdamOddInRefIdeal.main_v4) = v1 c
          ∧ r.2.mem ((c.tc : Thread Cert.AdamOddInRefIdeal.nD Cert.AdamOddInRefIdeal.τ).loc Cert.AdamOddInRefIdeal.main_v10) = v2 c
          ∧ r.2.mem ((c.tc : Thread Cert.AdamOddInRefIdeal.nD Cert.AdamOddInRefIdeal.τ).loc Cert.AdamOddInRefIdeal.main_arg0) = m' ((c.tc : Thread Cert.AdamOddInRefIdeal.nD Cert.AdamOddInRefIdeal.τ).loc Cert.AdamOddInRefIdeal.main_arg0)
          ∧ r.2.mem ((c.tc : Thread Cert.AdamOddInRefIdeal.nD Cert.AdamOddInRefIdeal.τ).loc Cert.AdamOddInRefIdeal.main_arg1) = m' ((c.tc : Thread Cert.AdamOddInRefIdeal.nD Cert.AdamOddInRefIdeal.τ).loc Cert.AdamOddInRefIdeal.main_arg1)
          ∧ r.2.mem ((c.tc : Thread Cert.AdamOddInRefIdeal.nD Cert.AdamOddInRefIdeal.τ).loc Cert.AdamOddInRefIdeal.main_arg2) = m' ((c.tc : Thread Cert.AdamOddInRefIdeal.nD Cert.AdamOddInRefIdeal.τ).loc Cert.AdamOddInRefIdeal.main_arg2)
          ∧ r.2.mem ((c.tc : Thread Cert.AdamOddInRefIdeal.nD Cert.AdamOddInRefIdeal.τ).loc Cert.AdamOddInRefIdeal.main_arg3) = m' ((c.tc : Thread Cert.AdamOddInRefIdeal.nD Cert.AdamOddInRefIdeal.τ).loc Cert.AdamOddInRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v23) = v0 c
          ∧ r.2.mem ((c.tc : Thread Cert.AdamOutRefIdeal.nD Cert.AdamOutRefIdeal.τ).loc Cert.AdamOutRefIdeal.main_v4) = v1 c
          ∧ r.2.mem ((c.tc : Thread Cert.AdamOutRefIdeal.nD Cert.AdamOutRefIdeal.τ).loc Cert.AdamOutRefIdeal.main_v10) = v2 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)
      ∧ m' ((c.tc : Thread Cert.AdamSmallRefIdeal.nD Cert.AdamSmallRefIdeal.τ).loc Cert.AdamSmallRefIdeal.main_arg4) = m ((c.tc : Thread Cert.AdamSmallIdeal.nD Cert.AdamSmallIdeal.τ).loc Cert.AdamSmallIdeal.main_arg4)
      ∧ m' ((c.tc : Thread Cert.AdamSmallRefIdeal.nD Cert.AdamSmallRefIdeal.τ).loc Cert.AdamSmallRefIdeal.main_arg5) = m ((c.tc : Thread Cert.AdamSmallIdeal.nD Cert.AdamSmallIdeal.τ).loc Cert.AdamSmallIdeal.main_arg5)
      ∧ m' ((c.tc : Thread Cert.AdamSmallRefIdeal.nD Cert.AdamSmallRefIdeal.τ).loc Cert.AdamSmallRefIdeal.main_arg6) = m ((c.tc : Thread Cert.AdamSmallIdeal.nD Cert.AdamSmallIdeal.τ).loc Cert.AdamSmallIdeal.main_arg6)
      ∧ m' ((c.tc : Thread Cert.AdamSmallRefIdeal.nD Cert.AdamSmallRefIdeal.τ).loc Cert.AdamSmallRefIdeal.main_arg7) = m ((c.tc : Thread Cert.AdamSmallIdeal.nD Cert.AdamSmallIdeal.τ).loc Cert.AdamSmallIdeal.main_arg7)
      ∧ m' ((c.tc : Thread Cert.AdamSmallRefIdeal.nD Cert.AdamSmallRefIdeal.τ).loc Cert.AdamSmallRefIdeal.main_arg8) = m ((c.tc : Thread Cert.AdamSmallIdeal.nD Cert.AdamSmallIdeal.τ).loc Cert.AdamSmallIdeal.main_arg8)
      ∧ m' ((c.tc : Thread Cert.AdamSmallRefIdeal.nD Cert.AdamSmallRefIdeal.τ).loc Cert.AdamSmallRefIdeal.main_arg9) = m ((c.tc : Thread Cert.AdamSmallIdeal.nD Cert.AdamSmallIdeal.τ).loc Cert.AdamSmallIdeal.main_arg9)
      ∧ m' ((c.tc : Thread Cert.AdamSmallRefIdeal.nD Cert.AdamSmallRefIdeal.τ).loc Cert.AdamSmallRefIdeal.main_arg10) = m ((c.tc : Thread Cert.AdamSmallIdeal.nD Cert.AdamSmallIdeal.τ).loc Cert.AdamSmallIdeal.main_arg10)
      ∧ m' ((c.tc : Thread Cert.AdamSmallRefIdeal.nD Cert.AdamSmallRefIdeal.τ).loc Cert.AdamSmallRefIdeal.main_arg11) = m ((c.tc : Thread Cert.AdamSmallIdeal.nD Cert.AdamSmallIdeal.τ).loc Cert.AdamSmallIdeal.main_arg11)
      ∧ m' ((c.tc : Thread Cert.AdamSmallRefIdeal.nD Cert.AdamSmallRefIdeal.τ).loc Cert.AdamSmallRefIdeal.main_arg12) = m ((c.tc : Thread Cert.AdamSmallIdeal.nD Cert.AdamSmallIdeal.τ).loc Cert.AdamSmallIdeal.main_arg12)
      ∧ m' ((c.tc : Thread Cert.AdamSmallRefIdeal.nD Cert.AdamSmallRefIdeal.τ).loc Cert.AdamSmallRefIdeal.main_arg13) = m ((c.tc : Thread Cert.AdamSmallIdeal.nD Cert.AdamSmallIdeal.τ).loc Cert.AdamSmallIdeal.main_arg13)
      ∧ m' ((c.tc : Thread Cert.AdamSmallRefIdeal.nD Cert.AdamSmallRefIdeal.τ).loc Cert.AdamSmallRefIdeal.main_arg14) = m ((c.tc : Thread Cert.AdamSmallIdeal.nD Cert.AdamSmallIdeal.τ).loc Cert.AdamSmallIdeal.main_arg14)
      ∧ m' ((c.tc : Thread Cert.AdamSmallRefIdeal.nD Cert.AdamSmallRefIdeal.τ).loc Cert.AdamSmallRefIdeal.main_arg15) = m ((c.tc : Thread Cert.AdamSmallIdeal.nD Cert.AdamSmallIdeal.τ).loc Cert.AdamSmallIdeal.main_arg15)
      ∧ m' ((c.tc : Thread Cert.AdamSmallRefIdeal.nD Cert.AdamSmallRefIdeal.τ).loc Cert.AdamSmallRefIdeal.main_arg16) = m ((c.tc : Thread Cert.AdamSmallIdeal.nD Cert.AdamSmallIdeal.τ).loc Cert.AdamSmallIdeal.main_arg16)
      ∧ m' ((c.tc : Thread Cert.AdamSmallRefIdeal.nD Cert.AdamSmallRefIdeal.τ).loc Cert.AdamSmallRefIdeal.main_arg17) = m ((c.tc : Thread Cert.AdamSmallIdeal.nD Cert.AdamSmallIdeal.τ).loc Cert.AdamSmallIdeal.main_arg17)
      ∧ m' ((c.tc : Thread Cert.AdamSmallRefIdeal.nD Cert.AdamSmallRefIdeal.τ).loc Cert.AdamSmallRefIdeal.main_arg18) = m ((c.tc : Thread Cert.AdamSmallIdeal.nD Cert.AdamSmallIdeal.τ).loc Cert.AdamSmallIdeal.main_arg18)
      ∧ m' ((c.tc : Thread Cert.AdamSmallRefIdeal.nD Cert.AdamSmallRefIdeal.τ).loc Cert.AdamSmallRefIdeal.main_arg19) = m ((c.tc : Thread Cert.AdamSmallIdeal.nD Cert.AdamSmallIdeal.τ).loc Cert.AdamSmallIdeal.main_arg19)
      ∧ m' ((c.tc : Thread Cert.AdamSmallRefIdeal.nD Cert.AdamSmallRefIdeal.τ).loc Cert.AdamSmallRefIdeal.main_arg20) = m ((c.tc : Thread Cert.AdamSmallIdeal.nD Cert.AdamSmallIdeal.τ).loc Cert.AdamSmallIdeal.main_arg20)
      ∧ m' ((c.tc : Thread Cert.AdamSmallRefIdeal.nD Cert.AdamSmallRefIdeal.τ).loc Cert.AdamSmallRefIdeal.main_arg21) = m ((c.tc : Thread Cert.AdamSmallIdeal.nD Cert.AdamSmallIdeal.τ).loc Cert.AdamSmallIdeal.main_arg21)
      ∧ m' ((c.tc : Thread Cert.AdamSmallRefIdeal.nD Cert.AdamSmallRefIdeal.τ).loc Cert.AdamSmallRefIdeal.main_arg22) = m ((c.tc : Thread Cert.AdamSmallIdeal.nD Cert.AdamSmallIdeal.τ).loc Cert.AdamSmallIdeal.main_arg22)
      ∧ m' ((c.tc : Thread Cert.AdamSmallRefIdeal.nD Cert.AdamSmallRefIdeal.τ).loc Cert.AdamSmallRefIdeal.main_arg23) = m ((c.tc : Thread Cert.AdamSmallIdeal.nD Cert.AdamSmallIdeal.τ).loc Cert.AdamSmallIdeal.main_arg23)) →
    ∃ (v0 : (c : Dev Cert.AdamSmallIdeal.nD) → Buf (Elt Ideal) ((c.tc : Thread Cert.AdamSmallIdeal.nD Cert.AdamSmallIdeal.τ).loc Cert.AdamSmallIdeal.main_v39)) (v1 : (c : Dev Cert.AdamSmallIdeal.nD) → Buf (Elt Ideal) ((c.tc : Thread Cert.AdamSmallIdeal.nD Cert.AdamSmallIdeal.τ).loc Cert.AdamSmallIdeal.main_v48)) (v2 : (c : Dev Cert.AdamSmallIdeal.nD) → Buf (Elt Ideal) ((c.tc : Thread Cert.AdamSmallIdeal.nD Cert.AdamSmallIdeal.τ).loc Cert.AdamSmallIdeal.main_v57)) (v3 : (c : Dev Cert.AdamSmallIdeal.nD) → Buf (Elt Ideal) ((c.tc : Thread Cert.AdamSmallIdeal.nD Cert.AdamSmallIdeal.τ).loc Cert.AdamSmallIdeal.main_v66)) (v4 : (c : Dev Cert.AdamSmallIdeal.nD) → Buf (Elt Ideal) ((c.tc : Thread Cert.AdamSmallIdeal.nD Cert.AdamSmallIdeal.τ).loc Cert.AdamSmallIdeal.main_v75)) (v5 : (c : Dev Cert.AdamSmallIdeal.nD) → Buf (Elt Ideal) ((c.tc : Thread Cert.AdamSmallIdeal.nD Cert.AdamSmallIdeal.τ).loc Cert.AdamSmallIdeal.main_v84)) (v6 : (c : Dev Cert.AdamSmallIdeal.nD) → Buf (Elt Ideal) ((c.tc : Thread Cert.AdamSmallIdeal.nD Cert.AdamSmallIdeal.τ).loc Cert.AdamSmallIdeal.main_v42)) (v7 : (c : Dev Cert.AdamSmallIdeal.nD) → Buf (Elt Ideal) ((c.tc : Thread Cert.AdamSmallIdeal.nD Cert.AdamSmallIdeal.τ).loc Cert.AdamSmallIdeal.main_v51)) (v8 : (c : Dev Cert.AdamSmallIdeal.nD) → Buf (Elt Ideal) ((c.tc : Thread Cert.AdamSmallIdeal.nD Cert.AdamSmallIdeal.τ).loc Cert.AdamSmallIdeal.main_v60)) (v9 : (c : Dev Cert.AdamSmallIdeal.nD) → Buf (Elt Ideal) ((c.tc : Thread Cert.AdamSmallIdeal.nD Cert.AdamSmallIdeal.τ).loc Cert.AdamSmallIdeal.main_v69)) (v10 : (c : Dev Cert.AdamSmallIdeal.nD) → Buf (Elt Ideal) ((c.tc : Thread Cert.AdamSmallIdeal.nD Cert.AdamSmallIdeal.τ).loc Cert.AdamSmallIdeal.main_v78)) (v11 : (c : Dev Cert.AdamSmallIdeal.nD) → Buf (Elt Ideal) ((c.tc : Thread Cert.AdamSmallIdeal.nD Cert.AdamSmallIdeal.τ).loc Cert.AdamSmallIdeal.main_v87)) (v12 : (c : Dev Cert.AdamSmallIdeal.nD) → Buf (Elt Ideal) ((c.tc : Thread Cert.AdamSmallIdeal.nD Cert.AdamSmallIdeal.τ).loc Cert.AdamSmallIdeal.main_v45)) (v13 : (c : Dev Cert.AdamSmallIdeal.nD) → Buf (Elt Ideal) ((c.tc : Thread Cert.AdamSmallIdeal.nD Cert.AdamSmallIdeal.τ).loc Cert.AdamSmallIdeal.main_v54)) (v14 : (c : Dev Cert.AdamSmallIdeal.nD) → Buf (Elt Ideal) ((c.tc : Thread Cert.AdamSmallIdeal.nD Cert.AdamSmallIdeal.τ).loc Cert.AdamSmallIdeal.main_v63)) (v15 : (c : Dev Cert.AdamSmallIdeal.nD) → Buf (Elt Ideal) ((c.tc : Thread Cert.AdamSmallIdeal.nD Cert.AdamSmallIdeal.τ).loc Cert.AdamSmallIdeal.main_v72)) (v16 : (c : Dev Cert.AdamSmallIdeal.nD) → Buf (Elt Ideal) ((c.tc : Thread Cert.AdamSmallIdeal.nD Cert.AdamSmallIdeal.τ).loc Cert.AdamSmallIdeal.main_v81)) (v17 : (c : Dev Cert.AdamSmallIdeal.nD) → Buf (Elt Ideal) ((c.tc : Thread Cert.AdamSmallIdeal.nD Cert.AdamSmallIdeal.τ).loc Cert.AdamSmallIdeal.main_v90)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v39) = v0 c
          ∧ r.2.mem ((c.tc : Thread Cert.AdamSmallIdeal.nD Cert.AdamSmallIdeal.τ).loc Cert.AdamSmallIdeal.main_v48) = v1 c
          ∧ r.2.mem ((c.tc : Thread Cert.AdamSmallIdeal.nD Cert.AdamSmallIdeal.τ).loc Cert.AdamSmallIdeal.main_v57) = v2 c
          ∧ r.2.mem ((c.tc : Thread Cert.AdamSmallIdeal.nD Cert.AdamSmallIdeal.τ).loc Cert.AdamSmallIdeal.main_v66) = v3 c
          ∧ r.2.mem ((c.tc : Thread Cert.AdamSmallIdeal.nD Cert.AdamSmallIdeal.τ).loc Cert.AdamSmallIdeal.main_v75) = v4 c
          ∧ r.2.mem ((c.tc : Thread Cert.AdamSmallIdeal.nD Cert.AdamSmallIdeal.τ).loc Cert.AdamSmallIdeal.main_v84) = v5 c
          ∧ r.2.mem ((c.tc : Thread Cert.AdamSmallIdeal.nD Cert.AdamSmallIdeal.τ).loc Cert.AdamSmallIdeal.main_v42) = v6 c
          ∧ r.2.mem ((c.tc : Thread Cert.AdamSmallIdeal.nD Cert.AdamSmallIdeal.τ).loc Cert.AdamSmallIdeal.main_v51) = v7 c
          ∧ r.2.mem ((c.tc : Thread Cert.AdamSmallIdeal.nD Cert.AdamSmallIdeal.τ).loc Cert.AdamSmallIdeal.main_v60) = v8 c
          ∧ r.2.mem ((c.tc : Thread Cert.AdamSmallIdeal.nD Cert.AdamSmallIdeal.τ).loc Cert.AdamSmallIdeal.main_v69) = v9 c
          ∧ r.2.mem ((c.tc : Thread Cert.AdamSmallIdeal.nD Cert.AdamSmallIdeal.τ).loc Cert.AdamSmallIdeal.main_v78) = v10 c
          ∧ r.2.mem ((c.tc : Thread Cert.AdamSmallIdeal.nD Cert.AdamSmallIdeal.τ).loc Cert.AdamSmallIdeal.main_v87) = v11 c
          ∧ r.2.mem ((c.tc : Thread Cert.AdamSmallIdeal.nD Cert.AdamSmallIdeal.τ).loc Cert.AdamSmallIdeal.main_v45) = v12 c
          ∧ r.2.mem ((c.tc : Thread Cert.AdamSmallIdeal.nD Cert.AdamSmallIdeal.τ).loc Cert.AdamSmallIdeal.main_v54) = v13 c
          ∧ r.2.mem ((c.tc : Thread Cert.AdamSmallIdeal.nD Cert.AdamSmallIdeal.τ).loc Cert.AdamSmallIdeal.main_v63) = v14 c
          ∧ r.2.mem ((c.tc : Thread Cert.AdamSmallIdeal.nD Cert.AdamSmallIdeal.τ).loc Cert.AdamSmallIdeal.main_v72) = v15 c
          ∧ r.2.mem ((c.tc : Thread Cert.AdamSmallIdeal.nD Cert.AdamSmallIdeal.τ).loc Cert.AdamSmallIdeal.main_v81) = v16 c
          ∧ r.2.mem ((c.tc : Thread Cert.AdamSmallIdeal.nD Cert.AdamSmallIdeal.τ).loc Cert.AdamSmallIdeal.main_v90) = v17 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
          ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
          ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
          ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
          ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
          ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
          ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
          ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
          ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
          ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
          ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
          ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
          ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
          ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
          ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
          ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
          ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
          ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
          ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21)
          ∧ r.2.mem ((c.tc : Thread Cert.AdamSmallIdeal.nD Cert.AdamSmallIdeal.τ).loc Cert.AdamSmallIdeal.main_arg22) = m ((c.tc : Thread Cert.AdamSmallIdeal.nD Cert.AdamSmallIdeal.τ).loc Cert.AdamSmallIdeal.main_arg22)
          ∧ r.2.mem ((c.tc : Thread Cert.AdamSmallIdeal.nD Cert.AdamSmallIdeal.τ).loc Cert.AdamSmallIdeal.main_arg23) = m ((c.tc : Thread Cert.AdamSmallIdeal.nD Cert.AdamSmallIdeal.τ).loc Cert.AdamSmallIdeal.main_arg23))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v47) = v1 c
          ∧ r.2.mem ((c.tc : Thread Cert.AdamSmallRefIdeal.nD Cert.AdamSmallRefIdeal.τ).loc Cert.AdamSmallRefIdeal.main_v71) = v2 c
          ∧ r.2.mem ((c.tc : Thread Cert.AdamSmallRefIdeal.nD Cert.AdamSmallRefIdeal.τ).loc Cert.AdamSmallRefIdeal.main_v95) = v3 c
          ∧ r.2.mem ((c.tc : Thread Cert.AdamSmallRefIdeal.nD Cert.AdamSmallRefIdeal.τ).loc Cert.AdamSmallRefIdeal.main_v119) = v4 c
          ∧ r.2.mem ((c.tc : Thread Cert.AdamSmallRefIdeal.nD Cert.AdamSmallRefIdeal.τ).loc Cert.AdamSmallRefIdeal.main_v143) = v5 c
          ∧ r.2.mem ((c.tc : Thread Cert.AdamSmallRefIdeal.nD Cert.AdamSmallRefIdeal.τ).loc Cert.AdamSmallRefIdeal.main_v4) = v6 c
          ∧ r.2.mem ((c.tc : Thread Cert.AdamSmallRefIdeal.nD Cert.AdamSmallRefIdeal.τ).loc Cert.AdamSmallRefIdeal.main_v28) = v7 c
          ∧ r.2.mem ((c.tc : Thread Cert.AdamSmallRefIdeal.nD Cert.AdamSmallRefIdeal.τ).loc Cert.AdamSmallRefIdeal.main_v52) = v8 c
          ∧ r.2.mem ((c.tc : Thread Cert.AdamSmallRefIdeal.nD Cert.AdamSmallRefIdeal.τ).loc Cert.AdamSmallRefIdeal.main_v76) = v9 c
          ∧ r.2.mem ((c.tc : Thread Cert.AdamSmallRefIdeal.nD Cert.AdamSmallRefIdeal.τ).loc Cert.AdamSmallRefIdeal.main_v100) = v10 c
          ∧ r.2.mem ((c.tc : Thread Cert.AdamSmallRefIdeal.nD Cert.AdamSmallRefIdeal.τ).loc Cert.AdamSmallRefIdeal.main_v124) = v11 c
          ∧ r.2.mem ((c.tc : Thread Cert.AdamSmallRefIdeal.nD Cert.AdamSmallRefIdeal.τ).loc Cert.AdamSmallRefIdeal.main_v10) = v12 c
          ∧ r.2.mem ((c.tc : Thread Cert.AdamSmallRefIdeal.nD Cert.AdamSmallRefIdeal.τ).loc Cert.AdamSmallRefIdeal.main_v34) = v13 c
          ∧ r.2.mem ((c.tc : Thread Cert.AdamSmallRefIdeal.nD Cert.AdamSmallRefIdeal.τ).loc Cert.AdamSmallRefIdeal.main_v58) = v14 c
          ∧ r.2.mem ((c.tc : Thread Cert.AdamSmallRefIdeal.nD Cert.AdamSmallRefIdeal.τ).loc Cert.AdamSmallRefIdeal.main_v82) = v15 c
          ∧ r.2.mem ((c.tc : Thread Cert.AdamSmallRefIdeal.nD Cert.AdamSmallRefIdeal.τ).loc Cert.AdamSmallRefIdeal.main_v106) = v16 c
          ∧ r.2.mem ((c.tc : Thread Cert.AdamSmallRefIdeal.nD Cert.AdamSmallRefIdeal.τ).loc Cert.AdamSmallRefIdeal.main_v130) = v17 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3)
          ∧ r.2.mem ((c.tc : Thread Cert.AdamSmallRefIdeal.nD Cert.AdamSmallRefIdeal.τ).loc Cert.AdamSmallRefIdeal.main_arg4) = m' ((c.tc : Thread Cert.AdamSmallRefIdeal.nD Cert.AdamSmallRefIdeal.τ).loc Cert.AdamSmallRefIdeal.main_arg4)
          ∧ r.2.mem ((c.tc : Thread Cert.AdamSmallRefIdeal.nD Cert.AdamSmallRefIdeal.τ).loc Cert.AdamSmallRefIdeal.main_arg5) = m' ((c.tc : Thread Cert.AdamSmallRefIdeal.nD Cert.AdamSmallRefIdeal.τ).loc Cert.AdamSmallRefIdeal.main_arg5)
          ∧ r.2.mem ((c.tc : Thread Cert.AdamSmallRefIdeal.nD Cert.AdamSmallRefIdeal.τ).loc Cert.AdamSmallRefIdeal.main_arg6) = m' ((c.tc : Thread Cert.AdamSmallRefIdeal.nD Cert.AdamSmallRefIdeal.τ).loc Cert.AdamSmallRefIdeal.main_arg6)
          ∧ r.2.mem ((c.tc : Thread Cert.AdamSmallRefIdeal.nD Cert.AdamSmallRefIdeal.τ).loc Cert.AdamSmallRefIdeal.main_arg7) = m' ((c.tc : Thread Cert.AdamSmallRefIdeal.nD Cert.AdamSmallRefIdeal.τ).loc Cert.AdamSmallRefIdeal.main_arg7)
          ∧ r.2.mem ((c.tc : Thread Cert.AdamSmallRefIdeal.nD Cert.AdamSmallRefIdeal.τ).loc Cert.AdamSmallRefIdeal.main_arg8) = m' ((c.tc : Thread Cert.AdamSmallRefIdeal.nD Cert.AdamSmallRefIdeal.τ).loc Cert.AdamSmallRefIdeal.main_arg8)
          ∧ r.2.mem ((c.tc : Thread Cert.AdamSmallRefIdeal.nD Cert.AdamSmallRefIdeal.τ).loc Cert.AdamSmallRefIdeal.main_arg9) = m' ((c.tc : Thread Cert.AdamSmallRefIdeal.nD Cert.AdamSmallRefIdeal.τ).loc Cert.AdamSmallRefIdeal.main_arg9)
          ∧ r.2.mem ((c.tc : Thread Cert.AdamSmallRefIdeal.nD Cert.AdamSmallRefIdeal.τ).loc Cert.AdamSmallRefIdeal.main_arg10) = m' ((c.tc : Thread Cert.AdamSmallRefIdeal.nD Cert.AdamSmallRefIdeal.τ).loc Cert.AdamSmallRefIdeal.main_arg10)
          ∧ r.2.mem ((c.tc : Thread Cert.AdamSmallRefIdeal.nD Cert.AdamSmallRefIdeal.τ).loc Cert.AdamSmallRefIdeal.main_arg11) = m' ((c.tc : Thread Cert.AdamSmallRefIdeal.nD Cert.AdamSmallRefIdeal.τ).loc Cert.AdamSmallRefIdeal.main_arg11)
          ∧ r.2.mem ((c.tc : Thread Cert.AdamSmallRefIdeal.nD Cert.AdamSmallRefIdeal.τ).loc Cert.AdamSmallRefIdeal.main_arg12) = m' ((c.tc : Thread Cert.AdamSmallRefIdeal.nD Cert.AdamSmallRefIdeal.τ).loc Cert.AdamSmallRefIdeal.main_arg12)
          ∧ r.2.mem ((c.tc : Thread Cert.AdamSmallRefIdeal.nD Cert.AdamSmallRefIdeal.τ).loc Cert.AdamSmallRefIdeal.main_arg13) = m' ((c.tc : Thread Cert.AdamSmallRefIdeal.nD Cert.AdamSmallRefIdeal.τ).loc Cert.AdamSmallRefIdeal.main_arg13)
          ∧ r.2.mem ((c.tc : Thread Cert.AdamSmallRefIdeal.nD Cert.AdamSmallRefIdeal.τ).loc Cert.AdamSmallRefIdeal.main_arg14) = m' ((c.tc : Thread Cert.AdamSmallRefIdeal.nD Cert.AdamSmallRefIdeal.τ).loc Cert.AdamSmallRefIdeal.main_arg14)
          ∧ r.2.mem ((c.tc : Thread Cert.AdamSmallRefIdeal.nD Cert.AdamSmallRefIdeal.τ).loc Cert.AdamSmallRefIdeal.main_arg15) = m' ((c.tc : Thread Cert.AdamSmallRefIdeal.nD Cert.AdamSmallRefIdeal.τ).loc Cert.AdamSmallRefIdeal.main_arg15)
          ∧ r.2.mem ((c.tc : Thread Cert.AdamSmallRefIdeal.nD Cert.AdamSmallRefIdeal.τ).loc Cert.AdamSmallRefIdeal.main_arg16) = m' ((c.tc : Thread Cert.AdamSmallRefIdeal.nD Cert.AdamSmallRefIdeal.τ).loc Cert.AdamSmallRefIdeal.main_arg16)
          ∧ r.2.mem ((c.tc : Thread Cert.AdamSmallRefIdeal.nD Cert.AdamSmallRefIdeal.τ).loc Cert.AdamSmallRefIdeal.main_arg17) = m' ((c.tc : Thread Cert.AdamSmallRefIdeal.nD Cert.AdamSmallRefIdeal.τ).loc Cert.AdamSmallRefIdeal.main_arg17)
          ∧ r.2.mem ((c.tc : Thread Cert.AdamSmallRefIdeal.nD Cert.AdamSmallRefIdeal.τ).loc Cert.AdamSmallRefIdeal.main_arg18) = m' ((c.tc : Thread Cert.AdamSmallRefIdeal.nD Cert.AdamSmallRefIdeal.τ).loc Cert.AdamSmallRefIdeal.main_arg18)
          ∧ r.2.mem ((c.tc : Thread Cert.AdamSmallRefIdeal.nD Cert.AdamSmallRefIdeal.τ).loc Cert.AdamSmallRefIdeal.main_arg19) = m' ((c.tc : Thread Cert.AdamSmallRefIdeal.nD Cert.AdamSmallRefIdeal.τ).loc Cert.AdamSmallRefIdeal.main_arg19)
          ∧ r.2.mem ((c.tc : Thread Cert.AdamSmallRefIdeal.nD Cert.AdamSmallRefIdeal.τ).loc Cert.AdamSmallRefIdeal.main_arg20) = m' ((c.tc : Thread Cert.AdamSmallRefIdeal.nD Cert.AdamSmallRefIdeal.τ).loc Cert.AdamSmallRefIdeal.main_arg20)
          ∧ r.2.mem ((c.tc : Thread Cert.AdamSmallRefIdeal.nD Cert.AdamSmallRefIdeal.τ).loc Cert.AdamSmallRefIdeal.main_arg21) = m' ((c.tc : Thread Cert.AdamSmallRefIdeal.nD Cert.AdamSmallRefIdeal.τ).loc Cert.AdamSmallRefIdeal.main_arg21)
          ∧ r.2.mem ((c.tc : Thread Cert.AdamSmallRefIdeal.nD Cert.AdamSmallRefIdeal.τ).loc Cert.AdamSmallRefIdeal.main_arg22) = m' ((c.tc : Thread Cert.AdamSmallRefIdeal.nD Cert.AdamSmallRefIdeal.τ).loc Cert.AdamSmallRefIdeal.main_arg22)
          ∧ r.2.mem ((c.tc : Thread Cert.AdamSmallRefIdeal.nD Cert.AdamSmallRefIdeal.τ).loc Cert.AdamSmallRefIdeal.main_arg23) = m' ((c.tc : Thread Cert.AdamSmallRefIdeal.nD Cert.AdamSmallRefIdeal.τ).loc Cert.AdamSmallRefIdeal.main_arg23))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)) →
    ∃ (v0 : (c : Dev Cert.NormIdeal.nD) → Buf (Elt Ideal) ((c.tc : Thread Cert.NormIdeal.nD Cert.NormIdeal.τ).loc Cert.NormIdeal.main_v0_0)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0_0) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v32) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v4)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v4) = v0 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v6) = v0 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def preserves_TotalLoss_TotalLossIdeal : Prop :=
  True

def algebraic_TotalLossIdeal_TotalLossRefIdeal [hTotalLossIdeal : Cert.TotalLossIdeal.Facts] [hTotalLossRefIdeal : Cert.TotalLossRefIdeal.Facts] : Prop :=
  ∀ (m : (ℓ : Loc Cert.TotalLossIdeal.nD Cert.TotalLossIdeal.τ Cert.TotalLossIdeal.sig) → Buf (Elt Ideal) ℓ) (g : Dev Cert.TotalLossIdeal.nD → PrngReg)
    (m' : (ℓ : Loc Cert.TotalLossRefIdeal.nD Cert.TotalLossRefIdeal.τ Cert.TotalLossRefIdeal.sig) → Buf (Elt Ideal) ℓ) (g' : Dev Cert.TotalLossRefIdeal.nD → PrngReg), Pre_TotalLossIdeal m →
    (∀ c : Dev Cert.TotalLossIdeal.nD,
      m ((c.tc : Thread Cert.TotalLossIdeal.nD Cert.TotalLossIdeal.τ).loc Cert.TotalLossIdeal.main_arg0) = Layout.block ⟨3, ![1, 8192, 2048]⟩ ⟨3, ![8, 8192, 2048]⟩ 0 8 c (m' (((0 : Dev Cert.TotalLossRefIdeal.nD).tc : Thread Cert.TotalLossRefIdeal.nD Cert.TotalLossRefIdeal.τ).loc Cert.TotalLossRefIdeal.main_arg0))
      ∧ m ((c.tc : Thread Cert.TotalLossIdeal.nD Cert.TotalLossIdeal.τ).loc Cert.TotalLossIdeal.main_arg1) = Layout.block ⟨3, ![1, 8192, 2048]⟩ ⟨3, ![8, 8192, 2048]⟩ 0 8 c (m' (((0 : Dev Cert.TotalLossRefIdeal.nD).tc : Thread Cert.TotalLossRefIdeal.nD Cert.TotalLossRefIdeal.τ).loc Cert.TotalLossRefIdeal.main_arg1))) →
    ∃ (v0 : Buf (Elt Ideal) (((0 : Dev Cert.TotalLossRefIdeal.nD).tc : Thread Cert.TotalLossRefIdeal.nD Cert.TotalLossRefIdeal.τ).loc Cert.TotalLossRefIdeal.main_v6)),
      θ_run (Cert.TotalLossIdeal.defs (F := Ideal)) (onTc (τ := Cert.TotalLossIdeal.τ) (Cert.TotalLossIdeal.main (F := Ideal))) ⟨m, fun _ => 0, g⟩ (fun r => ∀ c : Dev Cert.TotalLossIdeal.nD,
          r.2.mem ((c.tc : Thread Cert.TotalLossIdeal.nD Cert.TotalLossIdeal.τ).loc Cert.TotalLossIdeal.main_v8) = v0
          ∧ r.2.mem ((c.tc : Thread Cert.TotalLossIdeal.nD Cert.TotalLossIdeal.τ).loc Cert.TotalLossIdeal.main_arg0) = m ((c.tc : Thread Cert.TotalLossIdeal.nD Cert.TotalLossIdeal.τ).loc Cert.TotalLossIdeal.main_arg0)
          ∧ r.2.mem ((c.tc : Thread Cert.TotalLossIdeal.nD Cert.TotalLossIdeal.τ).loc Cert.TotalLossIdeal.main_arg1) = m ((c.tc : Thread Cert.TotalLossIdeal.nD Cert.TotalLossIdeal.τ).loc Cert.TotalLossIdeal.main_arg1))
      ∧ θ_run (Cert.TotalLossRefIdeal.defs (F := Ideal)) (onTc (τ := Cert.TotalLossRefIdeal.τ) (Cert.TotalLossRefIdeal.main (F := Ideal))) ⟨m', fun _ => 0, g'⟩ (fun r =>
          r.2.mem (((0 : Dev Cert.TotalLossRefIdeal.nD).tc : Thread Cert.TotalLossRefIdeal.nD Cert.TotalLossRefIdeal.τ).loc Cert.TotalLossRefIdeal.main_v6) = v0
          ∧ r.2.mem (((0 : Dev Cert.TotalLossRefIdeal.nD).tc : Thread Cert.TotalLossRefIdeal.nD Cert.TotalLossRefIdeal.τ).loc Cert.TotalLossRefIdeal.main_arg0) = m' (((0 : Dev Cert.TotalLossRefIdeal.nD).tc : Thread Cert.TotalLossRefIdeal.nD Cert.TotalLossRefIdeal.τ).loc Cert.TotalLossRefIdeal.main_arg0)
          ∧ r.2.mem (((0 : Dev Cert.TotalLossRefIdeal.nD).tc : Thread Cert.TotalLossRefIdeal.nD Cert.TotalLossRefIdeal.τ).loc Cert.TotalLossRefIdeal.main_arg1) = m' (((0 : Dev Cert.TotalLossRefIdeal.nD).tc : Thread Cert.TotalLossRefIdeal.nD Cert.TotalLossRefIdeal.τ).loc Cert.TotalLossRefIdeal.main_arg1))

def preserves_PairEvenIn_PairEvenInIdeal : Prop :=
  True

def algebraic_PairEvenInIdeal_PairEvenInRefIdeal [hPairEvenInIdeal : Cert.PairEvenInIdeal.Facts] [hPairEvenInRefIdeal : Cert.PairEvenInRefIdeal.Facts] : Prop :=
  ∀ (m : (ℓ : Loc Cert.PairEvenInIdeal.nD Cert.PairEvenInIdeal.τ Cert.PairEvenInIdeal.sig) → Buf (Elt Ideal) ℓ) (g : Dev Cert.PairEvenInIdeal.nD → PrngReg)
    (m' : (ℓ : Loc Cert.PairEvenInRefIdeal.nD Cert.PairEvenInRefIdeal.τ Cert.PairEvenInRefIdeal.sig) → Buf (Elt Ideal) ℓ) (g' : Dev Cert.PairEvenInRefIdeal.nD → PrngReg), Pre_PairEvenInIdeal m →
    (∀ c : Dev Cert.PairEvenInIdeal.nD,
      m' ((c.tc : Thread Cert.PairEvenInRefIdeal.nD Cert.PairEvenInRefIdeal.τ).loc Cert.PairEvenInRefIdeal.main_arg0) = m ((c.tc : Thread Cert.PairEvenInIdeal.nD Cert.PairEvenInIdeal.τ).loc Cert.PairEvenInIdeal.main_arg0)
      ∧ m' ((c.tc : Thread Cert.PairEvenInRefIdeal.nD Cert.PairEvenInRefIdeal.τ).loc Cert.PairEvenInRefIdeal.main_arg1) = m ((c.tc : Thread Cert.PairEvenInIdeal.nD Cert.PairEvenInIdeal.τ).loc Cert.PairEvenInIdeal.main_arg1)) →
    ∃ (v0 : (c : Dev Cert.PairEvenInIdeal.nD) → Buf (Elt Ideal) ((c.tc : Thread Cert.PairEvenInIdeal.nD Cert.PairEvenInIdeal.τ).loc Cert.PairEvenInIdeal.main_v0)),
      θ_run (Cert.PairEvenInIdeal.defs (F := Ideal)) (onTc (τ := Cert.PairEvenInIdeal.τ) (Cert.PairEvenInIdeal.main (F := Ideal))) ⟨m, fun _ => 0, g⟩ (fun r => ∀ c : Dev Cert.PairEvenInIdeal.nD,
          r.2.mem ((c.tc : Thread Cert.PairEvenInIdeal.nD Cert.PairEvenInIdeal.τ).loc Cert.PairEvenInIdeal.main_v0) = v0 c
          ∧ r.2.mem ((c.tc : Thread Cert.PairEvenInIdeal.nD Cert.PairEvenInIdeal.τ).loc Cert.PairEvenInIdeal.main_arg0) = m ((c.tc : Thread Cert.PairEvenInIdeal.nD Cert.PairEvenInIdeal.τ).loc Cert.PairEvenInIdeal.main_arg0)
          ∧ r.2.mem ((c.tc : Thread Cert.PairEvenInIdeal.nD Cert.PairEvenInIdeal.τ).loc Cert.PairEvenInIdeal.main_arg1) = m ((c.tc : Thread Cert.PairEvenInIdeal.nD Cert.PairEvenInIdeal.τ).loc Cert.PairEvenInIdeal.main_arg1))
      ∧ θ_run (Cert.PairEvenInRefIdeal.defs (F := Ideal)) (onTc (τ := Cert.PairEvenInRefIdeal.τ) (Cert.PairEvenInRefIdeal.main (F := Ideal))) ⟨m', fun _ => 0, g'⟩ (fun r => ∀ c : Dev Cert.PairEvenInRefIdeal.nD,
          r.2.mem ((c.tc : Thread Cert.PairEvenInRefIdeal.nD Cert.PairEvenInRefIdeal.τ).loc Cert.PairEvenInRefIdeal.main_v3) = v0 c
          ∧ r.2.mem ((c.tc : Thread Cert.PairEvenInRefIdeal.nD Cert.PairEvenInRefIdeal.τ).loc Cert.PairEvenInRefIdeal.main_arg0) = m' ((c.tc : Thread Cert.PairEvenInRefIdeal.nD Cert.PairEvenInRefIdeal.τ).loc Cert.PairEvenInRefIdeal.main_arg0)
          ∧ r.2.mem ((c.tc : Thread Cert.PairEvenInRefIdeal.nD Cert.PairEvenInRefIdeal.τ).loc Cert.PairEvenInRefIdeal.main_arg1) = m' ((c.tc : Thread Cert.PairEvenInRefIdeal.nD Cert.PairEvenInRefIdeal.τ).loc Cert.PairEvenInRefIdeal.main_arg1))

def preserves_PairOddIn_PairOddInIdeal : Prop :=
  True

def algebraic_PairOddInIdeal_PairOddInRefIdeal [hPairOddInIdeal : Cert.PairOddInIdeal.Facts] [hPairOddInRefIdeal : Cert.PairOddInRefIdeal.Facts] : Prop :=
  ∀ (m : (ℓ : Loc Cert.PairOddInIdeal.nD Cert.PairOddInIdeal.τ Cert.PairOddInIdeal.sig) → Buf (Elt Ideal) ℓ) (g : Dev Cert.PairOddInIdeal.nD → PrngReg)
    (m' : (ℓ : Loc Cert.PairOddInRefIdeal.nD Cert.PairOddInRefIdeal.τ Cert.PairOddInRefIdeal.sig) → Buf (Elt Ideal) ℓ) (g' : Dev Cert.PairOddInRefIdeal.nD → PrngReg), Pre_PairOddInIdeal m →
    (∀ c : Dev Cert.PairOddInIdeal.nD,
      m' ((c.tc : Thread Cert.PairOddInRefIdeal.nD Cert.PairOddInRefIdeal.τ).loc Cert.PairOddInRefIdeal.main_arg0) = m ((c.tc : Thread Cert.PairOddInIdeal.nD Cert.PairOddInIdeal.τ).loc Cert.PairOddInIdeal.main_arg0)
      ∧ m' ((c.tc : Thread Cert.PairOddInRefIdeal.nD Cert.PairOddInRefIdeal.τ).loc Cert.PairOddInRefIdeal.main_arg1) = m ((c.tc : Thread Cert.PairOddInIdeal.nD Cert.PairOddInIdeal.τ).loc Cert.PairOddInIdeal.main_arg1)) →
    ∃ (v0 : (c : Dev Cert.PairOddInIdeal.nD) → Buf (Elt Ideal) ((c.tc : Thread Cert.PairOddInIdeal.nD Cert.PairOddInIdeal.τ).loc Cert.PairOddInIdeal.main_v0)),
      θ_run (Cert.PairOddInIdeal.defs (F := Ideal)) (onTc (τ := Cert.PairOddInIdeal.τ) (Cert.PairOddInIdeal.main (F := Ideal))) ⟨m, fun _ => 0, g⟩ (fun r => ∀ c : Dev Cert.PairOddInIdeal.nD,
          r.2.mem ((c.tc : Thread Cert.PairOddInIdeal.nD Cert.PairOddInIdeal.τ).loc Cert.PairOddInIdeal.main_v0) = v0 c
          ∧ r.2.mem ((c.tc : Thread Cert.PairOddInIdeal.nD Cert.PairOddInIdeal.τ).loc Cert.PairOddInIdeal.main_arg0) = m ((c.tc : Thread Cert.PairOddInIdeal.nD Cert.PairOddInIdeal.τ).loc Cert.PairOddInIdeal.main_arg0)
          ∧ r.2.mem ((c.tc : Thread Cert.PairOddInIdeal.nD Cert.PairOddInIdeal.τ).loc Cert.PairOddInIdeal.main_arg1) = m ((c.tc : Thread Cert.PairOddInIdeal.nD Cert.PairOddInIdeal.τ).loc Cert.PairOddInIdeal.main_arg1))
      ∧ θ_run (Cert.PairOddInRefIdeal.defs (F := Ideal)) (onTc (τ := Cert.PairOddInRefIdeal.τ) (Cert.PairOddInRefIdeal.main (F := Ideal))) ⟨m', fun _ => 0, g'⟩ (fun r => ∀ c : Dev Cert.PairOddInRefIdeal.nD,
          r.2.mem ((c.tc : Thread Cert.PairOddInRefIdeal.nD Cert.PairOddInRefIdeal.τ).loc Cert.PairOddInRefIdeal.main_v3) = v0 c
          ∧ r.2.mem ((c.tc : Thread Cert.PairOddInRefIdeal.nD Cert.PairOddInRefIdeal.τ).loc Cert.PairOddInRefIdeal.main_arg0) = m' ((c.tc : Thread Cert.PairOddInRefIdeal.nD Cert.PairOddInRefIdeal.τ).loc Cert.PairOddInRefIdeal.main_arg0)
          ∧ r.2.mem ((c.tc : Thread Cert.PairOddInRefIdeal.nD Cert.PairOddInRefIdeal.τ).loc Cert.PairOddInRefIdeal.main_arg1) = m' ((c.tc : Thread Cert.PairOddInRefIdeal.nD Cert.PairOddInRefIdeal.τ).loc Cert.PairOddInRefIdeal.main_arg1))

def preserves_PairOut_PairOutIdeal : Prop :=
  True

def algebraic_PairOutIdeal_PairOutRefIdeal [hPairOutIdeal : Cert.PairOutIdeal.Facts] [hPairOutRefIdeal : Cert.PairOutRefIdeal.Facts] : Prop :=
  ∀ (m : (ℓ : Loc Cert.PairOutIdeal.nD Cert.PairOutIdeal.τ Cert.PairOutIdeal.sig) → Buf (Elt Ideal) ℓ) (g : Dev Cert.PairOutIdeal.nD → PrngReg)
    (m' : (ℓ : Loc Cert.PairOutRefIdeal.nD Cert.PairOutRefIdeal.τ Cert.PairOutRefIdeal.sig) → Buf (Elt Ideal) ℓ) (g' : Dev Cert.PairOutRefIdeal.nD → PrngReg), Pre_PairOutIdeal m →
    (∀ c : Dev Cert.PairOutIdeal.nD,
      m' ((c.tc : Thread Cert.PairOutRefIdeal.nD Cert.PairOutRefIdeal.τ).loc Cert.PairOutRefIdeal.main_arg0) = m ((c.tc : Thread Cert.PairOutIdeal.nD Cert.PairOutIdeal.τ).loc Cert.PairOutIdeal.main_arg0)
      ∧ m' ((c.tc : Thread Cert.PairOutRefIdeal.nD Cert.PairOutRefIdeal.τ).loc Cert.PairOutRefIdeal.main_arg1) = m ((c.tc : Thread Cert.PairOutIdeal.nD Cert.PairOutIdeal.τ).loc Cert.PairOutIdeal.main_arg1)) →
    ∃ (v0 : (c : Dev Cert.PairOutIdeal.nD) → Buf (Elt Ideal) ((c.tc : Thread Cert.PairOutIdeal.nD Cert.PairOutIdeal.τ).loc Cert.PairOutIdeal.main_v0)),
      θ_run (Cert.PairOutIdeal.defs (F := Ideal)) (onTc (τ := Cert.PairOutIdeal.τ) (Cert.PairOutIdeal.main (F := Ideal))) ⟨m, fun _ => 0, g⟩ (fun r => ∀ c : Dev Cert.PairOutIdeal.nD,
          r.2.mem ((c.tc : Thread Cert.PairOutIdeal.nD Cert.PairOutIdeal.τ).loc Cert.PairOutIdeal.main_v0) = v0 c
          ∧ r.2.mem ((c.tc : Thread Cert.PairOutIdeal.nD Cert.PairOutIdeal.τ).loc Cert.PairOutIdeal.main_arg0) = m ((c.tc : Thread Cert.PairOutIdeal.nD Cert.PairOutIdeal.τ).loc Cert.PairOutIdeal.main_arg0)
          ∧ r.2.mem ((c.tc : Thread Cert.PairOutIdeal.nD Cert.PairOutIdeal.τ).loc Cert.PairOutIdeal.main_arg1) = m ((c.tc : Thread Cert.PairOutIdeal.nD Cert.PairOutIdeal.τ).loc Cert.PairOutIdeal.main_arg1))
      ∧ θ_run (Cert.PairOutRefIdeal.defs (F := Ideal)) (onTc (τ := Cert.PairOutRefIdeal.τ) (Cert.PairOutRefIdeal.main (F := Ideal))) ⟨m', fun _ => 0, g'⟩ (fun r => ∀ c : Dev Cert.PairOutRefIdeal.nD,
          r.2.mem ((c.tc : Thread Cert.PairOutRefIdeal.nD Cert.PairOutRefIdeal.τ).loc Cert.PairOutRefIdeal.main_v3) = v0 c
          ∧ r.2.mem ((c.tc : Thread Cert.PairOutRefIdeal.nD Cert.PairOutRefIdeal.τ).loc Cert.PairOutRefIdeal.main_arg0) = m' ((c.tc : Thread Cert.PairOutRefIdeal.nD Cert.PairOutRefIdeal.τ).loc Cert.PairOutRefIdeal.main_arg0)
          ∧ r.2.mem ((c.tc : Thread Cert.PairOutRefIdeal.nD Cert.PairOutRefIdeal.τ).loc Cert.PairOutRefIdeal.main_arg1) = m' ((c.tc : Thread Cert.PairOutRefIdeal.nD Cert.PairOutRefIdeal.τ).loc Cert.PairOutRefIdeal.main_arg1))

def preserves_ChipsEvenIn_ChipsEvenInIdeal : Prop :=
  True

def algebraic_ChipsEvenInIdeal_ChipsEvenInRefIdeal [hChipsEvenInIdeal : Cert.ChipsEvenInIdeal.Facts] [hChipsEvenInRefIdeal : Cert.ChipsEvenInRefIdeal.Facts] : Prop :=
  ∀ (m : (ℓ : Loc Cert.ChipsEvenInIdeal.nD Cert.ChipsEvenInIdeal.τ Cert.ChipsEvenInIdeal.sig) → Buf (Elt Ideal) ℓ) (g : Dev Cert.ChipsEvenInIdeal.nD → PrngReg)
    (m' : (ℓ : Loc Cert.ChipsEvenInRefIdeal.nD Cert.ChipsEvenInRefIdeal.τ Cert.ChipsEvenInRefIdeal.sig) → Buf (Elt Ideal) ℓ) (g' : Dev Cert.ChipsEvenInRefIdeal.nD → PrngReg), Pre_ChipsEvenInIdeal m →
    (∀ c : Dev Cert.ChipsEvenInIdeal.nD,
      m' ((c.tc : Thread Cert.ChipsEvenInRefIdeal.nD Cert.ChipsEvenInRefIdeal.τ).loc Cert.ChipsEvenInRefIdeal.main_arg0) = m ((c.tc : Thread Cert.ChipsEvenInIdeal.nD Cert.ChipsEvenInIdeal.τ).loc Cert.ChipsEvenInIdeal.main_arg0)) →
    ∃ (v0 : (c : Dev Cert.ChipsEvenInIdeal.nD) → Buf (Elt Ideal) ((c.tc : Thread Cert.ChipsEvenInIdeal.nD Cert.ChipsEvenInIdeal.τ).loc Cert.ChipsEvenInIdeal.main_v0)),
      θ_run (Cert.ChipsEvenInIdeal.defs (F := Ideal)) (onTc (τ := Cert.ChipsEvenInIdeal.τ) (Cert.ChipsEvenInIdeal.main (F := Ideal))) ⟨m, fun _ => 0, g⟩ (fun r => ∀ c : Dev Cert.ChipsEvenInIdeal.nD,
          r.2.mem ((c.tc : Thread Cert.ChipsEvenInIdeal.nD Cert.ChipsEvenInIdeal.τ).loc Cert.ChipsEvenInIdeal.main_v0) = v0 c
          ∧ r.2.mem ((c.tc : Thread Cert.ChipsEvenInIdeal.nD Cert.ChipsEvenInIdeal.τ).loc Cert.ChipsEvenInIdeal.main_arg0) = m ((c.tc : Thread Cert.ChipsEvenInIdeal.nD Cert.ChipsEvenInIdeal.τ).loc Cert.ChipsEvenInIdeal.main_arg0))
      ∧ θ_run (Cert.ChipsEvenInRefIdeal.defs (F := Ideal)) (onTc (τ := Cert.ChipsEvenInRefIdeal.τ) (Cert.ChipsEvenInRefIdeal.main (F := Ideal))) ⟨m', fun _ => 0, g'⟩ (fun r => ∀ c : Dev Cert.ChipsEvenInRefIdeal.nD,
          r.2.mem ((c.tc : Thread Cert.ChipsEvenInRefIdeal.nD Cert.ChipsEvenInRefIdeal.τ).loc Cert.ChipsEvenInRefIdeal.main_v1) = v0 c
          ∧ r.2.mem ((c.tc : Thread Cert.ChipsEvenInRefIdeal.nD Cert.ChipsEvenInRefIdeal.τ).loc Cert.ChipsEvenInRefIdeal.main_arg0) = m' ((c.tc : Thread Cert.ChipsEvenInRefIdeal.nD Cert.ChipsEvenInRefIdeal.τ).loc Cert.ChipsEvenInRefIdeal.main_arg0))

def preserves_ChipsOddIn_ChipsOddInIdeal : Prop :=
  True

def algebraic_ChipsOddInIdeal_ChipsOddInRefIdeal [hChipsOddInIdeal : Cert.ChipsOddInIdeal.Facts] [hChipsOddInRefIdeal : Cert.ChipsOddInRefIdeal.Facts] : Prop :=
  ∀ (m : (ℓ : Loc Cert.ChipsOddInIdeal.nD Cert.ChipsOddInIdeal.τ Cert.ChipsOddInIdeal.sig) → Buf (Elt Ideal) ℓ) (g : Dev Cert.ChipsOddInIdeal.nD → PrngReg)
    (m' : (ℓ : Loc Cert.ChipsOddInRefIdeal.nD Cert.ChipsOddInRefIdeal.τ Cert.ChipsOddInRefIdeal.sig) → Buf (Elt Ideal) ℓ) (g' : Dev Cert.ChipsOddInRefIdeal.nD → PrngReg), Pre_ChipsOddInIdeal m →
    (∀ c : Dev Cert.ChipsOddInIdeal.nD,
      m' ((c.tc : Thread Cert.ChipsOddInRefIdeal.nD Cert.ChipsOddInRefIdeal.τ).loc Cert.ChipsOddInRefIdeal.main_arg0) = m ((c.tc : Thread Cert.ChipsOddInIdeal.nD Cert.ChipsOddInIdeal.τ).loc Cert.ChipsOddInIdeal.main_arg0)) →
    ∃ (v0 : (c : Dev Cert.ChipsOddInIdeal.nD) → Buf (Elt Ideal) ((c.tc : Thread Cert.ChipsOddInIdeal.nD Cert.ChipsOddInIdeal.τ).loc Cert.ChipsOddInIdeal.main_v0)),
      θ_run (Cert.ChipsOddInIdeal.defs (F := Ideal)) (onTc (τ := Cert.ChipsOddInIdeal.τ) (Cert.ChipsOddInIdeal.main (F := Ideal))) ⟨m, fun _ => 0, g⟩ (fun r => ∀ c : Dev Cert.ChipsOddInIdeal.nD,
          r.2.mem ((c.tc : Thread Cert.ChipsOddInIdeal.nD Cert.ChipsOddInIdeal.τ).loc Cert.ChipsOddInIdeal.main_v0) = v0 c
          ∧ r.2.mem ((c.tc : Thread Cert.ChipsOddInIdeal.nD Cert.ChipsOddInIdeal.τ).loc Cert.ChipsOddInIdeal.main_arg0) = m ((c.tc : Thread Cert.ChipsOddInIdeal.nD Cert.ChipsOddInIdeal.τ).loc Cert.ChipsOddInIdeal.main_arg0))
      ∧ θ_run (Cert.ChipsOddInRefIdeal.defs (F := Ideal)) (onTc (τ := Cert.ChipsOddInRefIdeal.τ) (Cert.ChipsOddInRefIdeal.main (F := Ideal))) ⟨m', fun _ => 0, g'⟩ (fun r => ∀ c : Dev Cert.ChipsOddInRefIdeal.nD,
          r.2.mem ((c.tc : Thread Cert.ChipsOddInRefIdeal.nD Cert.ChipsOddInRefIdeal.τ).loc Cert.ChipsOddInRefIdeal.main_v1) = v0 c
          ∧ r.2.mem ((c.tc : Thread Cert.ChipsOddInRefIdeal.nD Cert.ChipsOddInRefIdeal.τ).loc Cert.ChipsOddInRefIdeal.main_arg0) = m' ((c.tc : Thread Cert.ChipsOddInRefIdeal.nD Cert.ChipsOddInRefIdeal.τ).loc Cert.ChipsOddInRefIdeal.main_arg0))

def preserves_ChipsOut_ChipsOutIdeal : Prop :=
  True

def algebraic_ChipsOutIdeal_ChipsOutRefIdeal [hChipsOutIdeal : Cert.ChipsOutIdeal.Facts] [hChipsOutRefIdeal : Cert.ChipsOutRefIdeal.Facts] : Prop :=
  ∀ (m : (ℓ : Loc Cert.ChipsOutIdeal.nD Cert.ChipsOutIdeal.τ Cert.ChipsOutIdeal.sig) → Buf (Elt Ideal) ℓ) (g : Dev Cert.ChipsOutIdeal.nD → PrngReg)
    (m' : (ℓ : Loc Cert.ChipsOutRefIdeal.nD Cert.ChipsOutRefIdeal.τ Cert.ChipsOutRefIdeal.sig) → Buf (Elt Ideal) ℓ) (g' : Dev Cert.ChipsOutRefIdeal.nD → PrngReg), Pre_ChipsOutIdeal m →
    (∀ c : Dev Cert.ChipsOutIdeal.nD,
      m' ((c.tc : Thread Cert.ChipsOutRefIdeal.nD Cert.ChipsOutRefIdeal.τ).loc Cert.ChipsOutRefIdeal.main_arg0) = m ((c.tc : Thread Cert.ChipsOutIdeal.nD Cert.ChipsOutIdeal.τ).loc Cert.ChipsOutIdeal.main_arg0)) →
    ∃ (v0 : (c : Dev Cert.ChipsOutIdeal.nD) → Buf (Elt Ideal) ((c.tc : Thread Cert.ChipsOutIdeal.nD Cert.ChipsOutIdeal.τ).loc Cert.ChipsOutIdeal.main_v0)),
      θ_run (Cert.ChipsOutIdeal.defs (F := Ideal)) (onTc (τ := Cert.ChipsOutIdeal.τ) (Cert.ChipsOutIdeal.main (F := Ideal))) ⟨m, fun _ => 0, g⟩ (fun r => ∀ c : Dev Cert.ChipsOutIdeal.nD,
          r.2.mem ((c.tc : Thread Cert.ChipsOutIdeal.nD Cert.ChipsOutIdeal.τ).loc Cert.ChipsOutIdeal.main_v0) = v0 c
          ∧ r.2.mem ((c.tc : Thread Cert.ChipsOutIdeal.nD Cert.ChipsOutIdeal.τ).loc Cert.ChipsOutIdeal.main_arg0) = m ((c.tc : Thread Cert.ChipsOutIdeal.nD Cert.ChipsOutIdeal.τ).loc Cert.ChipsOutIdeal.main_arg0))
      ∧ θ_run (Cert.ChipsOutRefIdeal.defs (F := Ideal)) (onTc (τ := Cert.ChipsOutRefIdeal.τ) (Cert.ChipsOutRefIdeal.main (F := Ideal))) ⟨m', fun _ => 0, g'⟩ (fun r => ∀ c : Dev Cert.ChipsOutRefIdeal.nD,
          r.2.mem ((c.tc : Thread Cert.ChipsOutRefIdeal.nD Cert.ChipsOutRefIdeal.τ).loc Cert.ChipsOutRefIdeal.main_v1) = v0 c
          ∧ r.2.mem ((c.tc : Thread Cert.ChipsOutRefIdeal.nD Cert.ChipsOutRefIdeal.τ).loc Cert.ChipsOutRefIdeal.main_arg0) = m' ((c.tc : Thread Cert.ChipsOutRefIdeal.nD Cert.ChipsOutRefIdeal.τ).loc Cert.ChipsOutRefIdeal.main_arg0))

def preserves_NormForward_NormForwardIdeal : Prop :=
  True

def algebraic_NormForwardIdeal_NormForwardRefIdeal [hNormForwardIdeal : Cert.NormForwardIdeal.Facts] [hNormForwardRefIdeal : Cert.NormForwardRefIdeal.Facts] : Prop :=
  ∀ (m : (ℓ : Loc Cert.NormForwardIdeal.nD Cert.NormForwardIdeal.τ Cert.NormForwardIdeal.sig) → Buf (Elt Ideal) ℓ) (g : Dev Cert.NormForwardIdeal.nD → PrngReg)
    (m' : (ℓ : Loc Cert.NormForwardRefIdeal.nD Cert.NormForwardRefIdeal.τ Cert.NormForwardRefIdeal.sig) → Buf (Elt Ideal) ℓ) (g' : Dev Cert.NormForwardRefIdeal.nD → PrngReg), Pre_NormForwardIdeal m →
    (∀ c : Dev Cert.NormForwardIdeal.nD,
      m' ((c.tc : Thread Cert.NormForwardRefIdeal.nD Cert.NormForwardRefIdeal.τ).loc Cert.NormForwardRefIdeal.main_arg0) = m ((c.tc : Thread Cert.NormForwardIdeal.nD Cert.NormForwardIdeal.τ).loc Cert.NormForwardIdeal.main_arg0)
      ∧ m' ((c.tc : Thread Cert.NormForwardRefIdeal.nD Cert.NormForwardRefIdeal.τ).loc Cert.NormForwardRefIdeal.main_arg1) = m ((c.tc : Thread Cert.NormForwardIdeal.nD Cert.NormForwardIdeal.τ).loc Cert.NormForwardIdeal.main_arg1)) →
    ∃ (v0 : (c : Dev Cert.NormForwardIdeal.nD) → Buf (Elt Ideal) ((c.tc : Thread Cert.NormForwardIdeal.nD Cert.NormForwardIdeal.τ).loc Cert.NormForwardIdeal.main_v0)),
      θ_run (Cert.NormForwardIdeal.defs (F := Ideal)) (onTc (τ := Cert.NormForwardIdeal.τ) (Cert.NormForwardIdeal.main (F := Ideal))) ⟨m, fun _ => 0, g⟩ (fun r => ∀ c : Dev Cert.NormForwardIdeal.nD,
          r.2.mem ((c.tc : Thread Cert.NormForwardIdeal.nD Cert.NormForwardIdeal.τ).loc Cert.NormForwardIdeal.main_v0) = v0 c
          ∧ r.2.mem ((c.tc : Thread Cert.NormForwardIdeal.nD Cert.NormForwardIdeal.τ).loc Cert.NormForwardIdeal.main_arg0) = m ((c.tc : Thread Cert.NormForwardIdeal.nD Cert.NormForwardIdeal.τ).loc Cert.NormForwardIdeal.main_arg0)
          ∧ r.2.mem ((c.tc : Thread Cert.NormForwardIdeal.nD Cert.NormForwardIdeal.τ).loc Cert.NormForwardIdeal.main_arg1) = m ((c.tc : Thread Cert.NormForwardIdeal.nD Cert.NormForwardIdeal.τ).loc Cert.NormForwardIdeal.main_arg1))
      ∧ θ_run (Cert.NormForwardRefIdeal.defs (F := Ideal)) (onTc (τ := Cert.NormForwardRefIdeal.τ) (Cert.NormForwardRefIdeal.main (F := Ideal))) ⟨m', fun _ => 0, g'⟩ (fun r => ∀ c : Dev Cert.NormForwardRefIdeal.nD,
          r.2.mem ((c.tc : Thread Cert.NormForwardRefIdeal.nD Cert.NormForwardRefIdeal.τ).loc Cert.NormForwardRefIdeal.main_v12) = v0 c
          ∧ r.2.mem ((c.tc : Thread Cert.NormForwardRefIdeal.nD Cert.NormForwardRefIdeal.τ).loc Cert.NormForwardRefIdeal.main_arg0) = m' ((c.tc : Thread Cert.NormForwardRefIdeal.nD Cert.NormForwardRefIdeal.τ).loc Cert.NormForwardRefIdeal.main_arg0)
          ∧ r.2.mem ((c.tc : Thread Cert.NormForwardRefIdeal.nD Cert.NormForwardRefIdeal.τ).loc Cert.NormForwardRefIdeal.main_arg1) = m' ((c.tc : Thread Cert.NormForwardRefIdeal.nD Cert.NormForwardRefIdeal.τ).loc Cert.NormForwardRefIdeal.main_arg1))

def preserves_EvenIn_EvenInIdeal : Prop :=
  True

def algebraic_EvenInIdeal_EvenInRefIdeal [hEvenInIdeal : Cert.EvenInIdeal.Facts] [hEvenInRefIdeal : Cert.EvenInRefIdeal.Facts] : Prop :=
  ∀ (m : (ℓ : Loc Cert.EvenInIdeal.nD Cert.EvenInIdeal.τ Cert.EvenInIdeal.sig) → Buf (Elt Ideal) ℓ) (g : Dev Cert.EvenInIdeal.nD → PrngReg)
    (m' : (ℓ : Loc Cert.EvenInRefIdeal.nD Cert.EvenInRefIdeal.τ Cert.EvenInRefIdeal.sig) → Buf (Elt Ideal) ℓ) (g' : Dev Cert.EvenInRefIdeal.nD → PrngReg), Pre_EvenInIdeal m →
    (∀ c : Dev Cert.EvenInIdeal.nD,
      m' ((c.tc : Thread Cert.EvenInRefIdeal.nD Cert.EvenInRefIdeal.τ).loc Cert.EvenInRefIdeal.main_arg0) = m ((c.tc : Thread Cert.EvenInIdeal.nD Cert.EvenInIdeal.τ).loc Cert.EvenInIdeal.main_arg0)
      ∧ m' ((c.tc : Thread Cert.EvenInRefIdeal.nD Cert.EvenInRefIdeal.τ).loc Cert.EvenInRefIdeal.main_arg1) = m ((c.tc : Thread Cert.EvenInIdeal.nD Cert.EvenInIdeal.τ).loc Cert.EvenInIdeal.main_arg1)) →
    ∃ (v0 : (c : Dev Cert.EvenInIdeal.nD) → Buf (Elt Ideal) ((c.tc : Thread Cert.EvenInIdeal.nD Cert.EvenInIdeal.τ).loc Cert.EvenInIdeal.main_v0)),
      θ_run (Cert.EvenInIdeal.defs (F := Ideal)) (onTc (τ := Cert.EvenInIdeal.τ) (Cert.EvenInIdeal.main (F := Ideal))) ⟨m, fun _ => 0, g⟩ (fun r => ∀ c : Dev Cert.EvenInIdeal.nD,
          r.2.mem ((c.tc : Thread Cert.EvenInIdeal.nD Cert.EvenInIdeal.τ).loc Cert.EvenInIdeal.main_v0) = v0 c
          ∧ r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
          ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1))
      ∧ θ_run (Cert.EvenInRefIdeal.defs (F := Ideal)) (onTc (τ := Cert.EvenInRefIdeal.τ) (Cert.EvenInRefIdeal.main (F := Ideal))) ⟨m', fun _ => 0, g'⟩ (fun r => ∀ c : Dev Cert.EvenInRefIdeal.nD,
          r.2.mem ((c.tc : Thread Cert.EvenInRefIdeal.nD Cert.EvenInRefIdeal.τ).loc Cert.EvenInRefIdeal.main_v3) = v0 c
          ∧ r.2.mem ((c.tc : Thread Cert.EvenInRefIdeal.nD Cert.EvenInRefIdeal.τ).loc Cert.EvenInRefIdeal.main_arg0) = m' ((c.tc : Thread Cert.EvenInRefIdeal.nD Cert.EvenInRefIdeal.τ).loc Cert.EvenInRefIdeal.main_arg0)
          ∧ r.2.mem ((c.tc : Thread Cert.EvenInRefIdeal.nD Cert.EvenInRefIdeal.τ).loc Cert.EvenInRefIdeal.main_arg1) = m' ((c.tc : Thread Cert.EvenInRefIdeal.nD Cert.EvenInRefIdeal.τ).loc Cert.EvenInRefIdeal.main_arg1))

def preserves_OddIn_OddInIdeal : Prop :=
  True

def algebraic_OddInIdeal_OddInRefIdeal [hOddInIdeal : Cert.OddInIdeal.Facts] [hOddInRefIdeal : Cert.OddInRefIdeal.Facts] : Prop :=
  ∀ (m : (ℓ : Loc Cert.OddInIdeal.nD Cert.OddInIdeal.τ Cert.OddInIdeal.sig) → Buf (Elt Ideal) ℓ) (g : Dev Cert.OddInIdeal.nD → PrngReg)
    (m' : (ℓ : Loc Cert.OddInRefIdeal.nD Cert.OddInRefIdeal.τ Cert.OddInRefIdeal.sig) → Buf (Elt Ideal) ℓ) (g' : Dev Cert.OddInRefIdeal.nD → PrngReg), Pre_OddInIdeal m →
    (∀ c : Dev Cert.OddInIdeal.nD,
      m' ((c.tc : Thread Cert.OddInRefIdeal.nD Cert.OddInRefIdeal.τ).loc Cert.OddInRefIdeal.main_arg0) = m ((c.tc : Thread Cert.OddInIdeal.nD Cert.OddInIdeal.τ).loc Cert.OddInIdeal.main_arg0)
      ∧ m' ((c.tc : Thread Cert.OddInRefIdeal.nD Cert.OddInRefIdeal.τ).loc Cert.OddInRefIdeal.main_arg1) = m ((c.tc : Thread Cert.OddInIdeal.nD Cert.OddInIdeal.τ).loc Cert.OddInIdeal.main_arg1)) →
    ∃ (v0 : (c : Dev Cert.OddInIdeal.nD) → Buf (Elt Ideal) ((c.tc : Thread Cert.OddInIdeal.nD Cert.OddInIdeal.τ).loc Cert.OddInIdeal.main_v0)),
      θ_run (Cert.OddInIdeal.defs (F := Ideal)) (onTc (τ := Cert.OddInIdeal.τ) (Cert.OddInIdeal.main (F := Ideal))) ⟨m, fun _ => 0, g⟩ (fun r => ∀ c : Dev Cert.OddInIdeal.nD,
          r.2.mem ((c.tc : Thread Cert.OddInIdeal.nD Cert.OddInIdeal.τ).loc Cert.OddInIdeal.main_v0) = v0 c
          ∧ r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
          ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1))
      ∧ θ_run (Cert.OddInRefIdeal.defs (F := Ideal)) (onTc (τ := Cert.OddInRefIdeal.τ) (Cert.OddInRefIdeal.main (F := Ideal))) ⟨m', fun _ => 0, g'⟩ (fun r => ∀ c : Dev Cert.OddInRefIdeal.nD,
          r.2.mem ((c.tc : Thread Cert.OddInRefIdeal.nD Cert.OddInRefIdeal.τ).loc Cert.OddInRefIdeal.main_v3) = v0 c
          ∧ r.2.mem ((c.tc : Thread Cert.OddInRefIdeal.nD Cert.OddInRefIdeal.τ).loc Cert.OddInRefIdeal.main_arg0) = m' ((c.tc : Thread Cert.OddInRefIdeal.nD Cert.OddInRefIdeal.τ).loc Cert.OddInRefIdeal.main_arg0)
          ∧ r.2.mem ((c.tc : Thread Cert.OddInRefIdeal.nD Cert.OddInRefIdeal.τ).loc Cert.OddInRefIdeal.main_arg1) = m' ((c.tc : Thread Cert.OddInRefIdeal.nD Cert.OddInRefIdeal.τ).loc Cert.OddInRefIdeal.main_arg1))

def preserves_LayerOut_LayerOutIdeal : Prop :=
  True

def algebraic_LayerOutIdeal_LayerOutRefIdeal [hLayerOutIdeal : Cert.LayerOutIdeal.Facts] [hLayerOutRefIdeal : Cert.LayerOutRefIdeal.Facts] : Prop :=
  ∀ (m : (ℓ : Loc Cert.LayerOutIdeal.nD Cert.LayerOutIdeal.τ Cert.LayerOutIdeal.sig) → Buf (Elt Ideal) ℓ) (g : Dev Cert.LayerOutIdeal.nD → PrngReg)
    (m' : (ℓ : Loc Cert.LayerOutRefIdeal.nD Cert.LayerOutRefIdeal.τ Cert.LayerOutRefIdeal.sig) → Buf (Elt Ideal) ℓ) (g' : Dev Cert.LayerOutRefIdeal.nD → PrngReg), Pre_LayerOutIdeal m →
    (∀ c : Dev Cert.LayerOutIdeal.nD,
      m' ((c.tc : Thread Cert.LayerOutRefIdeal.nD Cert.LayerOutRefIdeal.τ).loc Cert.LayerOutRefIdeal.main_arg0) = m ((c.tc : Thread Cert.LayerOutIdeal.nD Cert.LayerOutIdeal.τ).loc Cert.LayerOutIdeal.main_arg0)
      ∧ m' ((c.tc : Thread Cert.LayerOutRefIdeal.nD Cert.LayerOutRefIdeal.τ).loc Cert.LayerOutRefIdeal.main_arg1) = m ((c.tc : Thread Cert.LayerOutIdeal.nD Cert.LayerOutIdeal.τ).loc Cert.LayerOutIdeal.main_arg1)
      ∧ m' ((c.tc : Thread Cert.LayerOutRefIdeal.nD Cert.LayerOutRefIdeal.τ).loc Cert.LayerOutRefIdeal.main_arg2) = m ((c.tc : Thread Cert.LayerOutIdeal.nD Cert.LayerOutIdeal.τ).loc Cert.LayerOutIdeal.main_arg2)) →
    ∃ (v0 : (c : Dev Cert.LayerOutIdeal.nD) → Buf (Elt Ideal) ((c.tc : Thread Cert.LayerOutIdeal.nD Cert.LayerOutIdeal.τ).loc Cert.LayerOutIdeal.main_v0)),
      θ_run (Cert.LayerOutIdeal.defs (F := Ideal)) (onTc (τ := Cert.LayerOutIdeal.τ) (Cert.LayerOutIdeal.main (F := Ideal))) ⟨m, fun _ => 0, g⟩ (fun r => ∀ c : Dev Cert.LayerOutIdeal.nD,
          r.2.mem ((c.tc : Thread Cert.LayerOutIdeal.nD Cert.LayerOutIdeal.τ).loc Cert.LayerOutIdeal.main_v0) = v0 c
          ∧ r.2.mem ((c.tc : Thread Cert.LayerOutIdeal.nD Cert.LayerOutIdeal.τ).loc Cert.LayerOutIdeal.main_arg0) = m ((c.tc : Thread Cert.LayerOutIdeal.nD Cert.LayerOutIdeal.τ).loc Cert.LayerOutIdeal.main_arg0)
          ∧ r.2.mem ((c.tc : Thread Cert.LayerOutIdeal.nD Cert.LayerOutIdeal.τ).loc Cert.LayerOutIdeal.main_arg1) = m ((c.tc : Thread Cert.LayerOutIdeal.nD Cert.LayerOutIdeal.τ).loc Cert.LayerOutIdeal.main_arg1)
          ∧ r.2.mem ((c.tc : Thread Cert.LayerOutIdeal.nD Cert.LayerOutIdeal.τ).loc Cert.LayerOutIdeal.main_arg2) = m ((c.tc : Thread Cert.LayerOutIdeal.nD Cert.LayerOutIdeal.τ).loc Cert.LayerOutIdeal.main_arg2))
      ∧ θ_run (Cert.LayerOutRefIdeal.defs (F := Ideal)) (onTc (τ := Cert.LayerOutRefIdeal.τ) (Cert.LayerOutRefIdeal.main (F := Ideal))) ⟨m', fun _ => 0, g'⟩ (fun r => ∀ c : Dev Cert.LayerOutRefIdeal.nD,
          r.2.mem ((c.tc : Thread Cert.LayerOutRefIdeal.nD Cert.LayerOutRefIdeal.τ).loc Cert.LayerOutRefIdeal.main_v3) = v0 c
          ∧ r.2.mem ((c.tc : Thread Cert.LayerOutRefIdeal.nD Cert.LayerOutRefIdeal.τ).loc Cert.LayerOutRefIdeal.main_arg0) = m' ((c.tc : Thread Cert.LayerOutRefIdeal.nD Cert.LayerOutRefIdeal.τ).loc Cert.LayerOutRefIdeal.main_arg0)
          ∧ r.2.mem ((c.tc : Thread Cert.LayerOutRefIdeal.nD Cert.LayerOutRefIdeal.τ).loc Cert.LayerOutRefIdeal.main_arg1) = m' ((c.tc : Thread Cert.LayerOutRefIdeal.nD Cert.LayerOutRefIdeal.τ).loc Cert.LayerOutRefIdeal.main_arg1)
          ∧ r.2.mem ((c.tc : Thread Cert.LayerOutRefIdeal.nD Cert.LayerOutRefIdeal.τ).loc Cert.LayerOutRefIdeal.main_arg2) = m' ((c.tc : Thread Cert.LayerOutRefIdeal.nD Cert.LayerOutRefIdeal.τ).loc Cert.LayerOutRefIdeal.main_arg2))

def preserves_OutGrad_OutGradIdeal : Prop :=
  True

def algebraic_OutGradIdeal_OutGradRefIdeal [hOutGradIdeal : Cert.OutGradIdeal.Facts] [hOutGradRefIdeal : Cert.OutGradRefIdeal.Facts] : Prop :=
  ∀ (m : (ℓ : Loc Cert.OutGradIdeal.nD Cert.OutGradIdeal.τ Cert.OutGradIdeal.sig) → Buf (Elt Ideal) ℓ) (g : Dev Cert.OutGradIdeal.nD → PrngReg)
    (m' : (ℓ : Loc Cert.OutGradRefIdeal.nD Cert.OutGradRefIdeal.τ Cert.OutGradRefIdeal.sig) → Buf (Elt Ideal) ℓ) (g' : Dev Cert.OutGradRefIdeal.nD → PrngReg), Pre_OutGradIdeal m →
    (∀ c : Dev Cert.OutGradIdeal.nD,
      m' ((c.tc : Thread Cert.OutGradRefIdeal.nD Cert.OutGradRefIdeal.τ).loc Cert.OutGradRefIdeal.main_arg0) = m ((c.tc : Thread Cert.OutGradIdeal.nD Cert.OutGradIdeal.τ).loc Cert.OutGradIdeal.main_arg0)
      ∧ m' ((c.tc : Thread Cert.OutGradRefIdeal.nD Cert.OutGradRefIdeal.τ).loc Cert.OutGradRefIdeal.main_arg1) = m ((c.tc : Thread Cert.OutGradIdeal.nD Cert.OutGradIdeal.τ).loc Cert.OutGradIdeal.main_arg1)) →
    ∃ (v0 : (c : Dev Cert.OutGradIdeal.nD) → Buf (Elt Ideal) ((c.tc : Thread Cert.OutGradIdeal.nD Cert.OutGradIdeal.τ).loc Cert.OutGradIdeal.main_v0)),
      θ_run (Cert.OutGradIdeal.defs (F := Ideal)) (onTc (τ := Cert.OutGradIdeal.τ) (Cert.OutGradIdeal.main (F := Ideal))) ⟨m, fun _ => 0, g⟩ (fun r => ∀ c : Dev Cert.OutGradIdeal.nD,
          r.2.mem ((c.tc : Thread Cert.OutGradIdeal.nD Cert.OutGradIdeal.τ).loc Cert.OutGradIdeal.main_v0) = v0 c
          ∧ r.2.mem ((c.tc : Thread Cert.OutGradIdeal.nD Cert.OutGradIdeal.τ).loc Cert.OutGradIdeal.main_arg0) = m ((c.tc : Thread Cert.OutGradIdeal.nD Cert.OutGradIdeal.τ).loc Cert.OutGradIdeal.main_arg0)
          ∧ r.2.mem ((c.tc : Thread Cert.OutGradIdeal.nD Cert.OutGradIdeal.τ).loc Cert.OutGradIdeal.main_arg1) = m ((c.tc : Thread Cert.OutGradIdeal.nD Cert.OutGradIdeal.τ).loc Cert.OutGradIdeal.main_arg1))
      ∧ θ_run (Cert.OutGradRefIdeal.defs (F := Ideal)) (onTc (τ := Cert.OutGradRefIdeal.τ) (Cert.OutGradRefIdeal.main (F := Ideal))) ⟨m', fun _ => 0, g'⟩ (fun r => ∀ c : Dev Cert.OutGradRefIdeal.nD,
          r.2.mem ((c.tc : Thread Cert.OutGradRefIdeal.nD Cert.OutGradRefIdeal.τ).loc Cert.OutGradRefIdeal.main_v4) = v0 c
          ∧ r.2.mem ((c.tc : Thread Cert.OutGradRefIdeal.nD Cert.OutGradRefIdeal.τ).loc Cert.OutGradRefIdeal.main_arg0) = m' ((c.tc : Thread Cert.OutGradRefIdeal.nD Cert.OutGradRefIdeal.τ).loc Cert.OutGradRefIdeal.main_arg0)
          ∧ r.2.mem ((c.tc : Thread Cert.OutGradRefIdeal.nD Cert.OutGradRefIdeal.τ).loc Cert.OutGradRefIdeal.main_arg1) = m' ((c.tc : Thread Cert.OutGradRefIdeal.nD Cert.OutGradRefIdeal.τ).loc Cert.OutGradRefIdeal.main_arg1))

def preserves_OddInGrad_OddInGradIdeal : Prop :=
  True

def algebraic_OddInGradIdeal_OddInGradRefIdeal [hOddInGradIdeal : Cert.OddInGradIdeal.Facts] [hOddInGradRefIdeal : Cert.OddInGradRefIdeal.Facts] : Prop :=
  ∀ (m : (ℓ : Loc Cert.OddInGradIdeal.nD Cert.OddInGradIdeal.τ Cert.OddInGradIdeal.sig) → Buf (Elt Ideal) ℓ) (g : Dev Cert.OddInGradIdeal.nD → PrngReg)
    (m' : (ℓ : Loc Cert.OddInGradRefIdeal.nD Cert.OddInGradRefIdeal.τ Cert.OddInGradRefIdeal.sig) → Buf (Elt Ideal) ℓ) (g' : Dev Cert.OddInGradRefIdeal.nD → PrngReg), Pre_OddInGradIdeal m →
    (∀ c : Dev Cert.OddInGradIdeal.nD,
      m' ((c.tc : Thread Cert.OddInGradRefIdeal.nD Cert.OddInGradRefIdeal.τ).loc Cert.OddInGradRefIdeal.main_arg0) = m ((c.tc : Thread Cert.OddInGradIdeal.nD Cert.OddInGradIdeal.τ).loc Cert.OddInGradIdeal.main_arg0)
      ∧ m' ((c.tc : Thread Cert.OddInGradRefIdeal.nD Cert.OddInGradRefIdeal.τ).loc Cert.OddInGradRefIdeal.main_arg1) = m ((c.tc : Thread Cert.OddInGradIdeal.nD Cert.OddInGradIdeal.τ).loc Cert.OddInGradIdeal.main_arg1)) →
    ∃ (v0 : (c : Dev Cert.OddInGradIdeal.nD) → Buf (Elt Ideal) ((c.tc : Thread Cert.OddInGradIdeal.nD Cert.OddInGradIdeal.τ).loc Cert.OddInGradIdeal.main_v0)),
      θ_run (Cert.OddInGradIdeal.defs (F := Ideal)) (onTc (τ := Cert.OddInGradIdeal.τ) (Cert.OddInGradIdeal.main (F := Ideal))) ⟨m, fun _ => 0, g⟩ (fun r => ∀ c : Dev Cert.OddInGradIdeal.nD,
          r.2.mem ((c.tc : Thread Cert.OddInGradIdeal.nD Cert.OddInGradIdeal.τ).loc Cert.OddInGradIdeal.main_v0) = v0 c
          ∧ r.2.mem ((c.tc : Thread Cert.OddInGradIdeal.nD Cert.OddInGradIdeal.τ).loc Cert.OddInGradIdeal.main_arg0) = m ((c.tc : Thread Cert.OddInGradIdeal.nD Cert.OddInGradIdeal.τ).loc Cert.OddInGradIdeal.main_arg0)
          ∧ r.2.mem ((c.tc : Thread Cert.OddInGradIdeal.nD Cert.OddInGradIdeal.τ).loc Cert.OddInGradIdeal.main_arg1) = m ((c.tc : Thread Cert.OddInGradIdeal.nD Cert.OddInGradIdeal.τ).loc Cert.OddInGradIdeal.main_arg1))
      ∧ θ_run (Cert.OddInGradRefIdeal.defs (F := Ideal)) (onTc (τ := Cert.OddInGradRefIdeal.τ) (Cert.OddInGradRefIdeal.main (F := Ideal))) ⟨m', fun _ => 0, g'⟩ (fun r => ∀ c : Dev Cert.OddInGradRefIdeal.nD,
          r.2.mem ((c.tc : Thread Cert.OddInGradRefIdeal.nD Cert.OddInGradRefIdeal.τ).loc Cert.OddInGradRefIdeal.main_v4) = v0 c
          ∧ r.2.mem ((c.tc : Thread Cert.OddInGradRefIdeal.nD Cert.OddInGradRefIdeal.τ).loc Cert.OddInGradRefIdeal.main_arg0) = m' ((c.tc : Thread Cert.OddInGradRefIdeal.nD Cert.OddInGradRefIdeal.τ).loc Cert.OddInGradRefIdeal.main_arg0)
          ∧ r.2.mem ((c.tc : Thread Cert.OddInGradRefIdeal.nD Cert.OddInGradRefIdeal.τ).loc Cert.OddInGradRefIdeal.main_arg1) = m' ((c.tc : Thread Cert.OddInGradRefIdeal.nD Cert.OddInGradRefIdeal.τ).loc Cert.OddInGradRefIdeal.main_arg1))

def preserves_EvenInGrad_EvenInGradIdeal : Prop :=
  True

def algebraic_EvenInGradIdeal_EvenInGradRefIdeal [hEvenInGradIdeal : Cert.EvenInGradIdeal.Facts] [hEvenInGradRefIdeal : Cert.EvenInGradRefIdeal.Facts] : Prop :=
  ∀ (m : (ℓ : Loc Cert.EvenInGradIdeal.nD Cert.EvenInGradIdeal.τ Cert.EvenInGradIdeal.sig) → Buf (Elt Ideal) ℓ) (g : Dev Cert.EvenInGradIdeal.nD → PrngReg)
    (m' : (ℓ : Loc Cert.EvenInGradRefIdeal.nD Cert.EvenInGradRefIdeal.τ Cert.EvenInGradRefIdeal.sig) → Buf (Elt Ideal) ℓ) (g' : Dev Cert.EvenInGradRefIdeal.nD → PrngReg), Pre_EvenInGradIdeal m →
    (∀ c : Dev Cert.EvenInGradIdeal.nD,
      m' ((c.tc : Thread Cert.EvenInGradRefIdeal.nD Cert.EvenInGradRefIdeal.τ).loc Cert.EvenInGradRefIdeal.main_arg0) = m ((c.tc : Thread Cert.EvenInGradIdeal.nD Cert.EvenInGradIdeal.τ).loc Cert.EvenInGradIdeal.main_arg0)
      ∧ m' ((c.tc : Thread Cert.EvenInGradRefIdeal.nD Cert.EvenInGradRefIdeal.τ).loc Cert.EvenInGradRefIdeal.main_arg1) = m ((c.tc : Thread Cert.EvenInGradIdeal.nD Cert.EvenInGradIdeal.τ).loc Cert.EvenInGradIdeal.main_arg1)) →
    ∃ (v0 : (c : Dev Cert.EvenInGradIdeal.nD) → Buf (Elt Ideal) ((c.tc : Thread Cert.EvenInGradIdeal.nD Cert.EvenInGradIdeal.τ).loc Cert.EvenInGradIdeal.main_v0)),
      θ_run (Cert.EvenInGradIdeal.defs (F := Ideal)) (onTc (τ := Cert.EvenInGradIdeal.τ) (Cert.EvenInGradIdeal.main (F := Ideal))) ⟨m, fun _ => 0, g⟩ (fun r => ∀ c : Dev Cert.EvenInGradIdeal.nD,
          r.2.mem ((c.tc : Thread Cert.EvenInGradIdeal.nD Cert.EvenInGradIdeal.τ).loc Cert.EvenInGradIdeal.main_v0) = v0 c
          ∧ r.2.mem ((c.tc : Thread Cert.EvenInGradIdeal.nD Cert.EvenInGradIdeal.τ).loc Cert.EvenInGradIdeal.main_arg0) = m ((c.tc : Thread Cert.EvenInGradIdeal.nD Cert.EvenInGradIdeal.τ).loc Cert.EvenInGradIdeal.main_arg0)
          ∧ r.2.mem ((c.tc : Thread Cert.EvenInGradIdeal.nD Cert.EvenInGradIdeal.τ).loc Cert.EvenInGradIdeal.main_arg1) = m ((c.tc : Thread Cert.EvenInGradIdeal.nD Cert.EvenInGradIdeal.τ).loc Cert.EvenInGradIdeal.main_arg1))
      ∧ θ_run (Cert.EvenInGradRefIdeal.defs (F := Ideal)) (onTc (τ := Cert.EvenInGradRefIdeal.τ) (Cert.EvenInGradRefIdeal.main (F := Ideal))) ⟨m', fun _ => 0, g'⟩ (fun r => ∀ c : Dev Cert.EvenInGradRefIdeal.nD,
          r.2.mem ((c.tc : Thread Cert.EvenInGradRefIdeal.nD Cert.EvenInGradRefIdeal.τ).loc Cert.EvenInGradRefIdeal.main_v4) = v0 c
          ∧ r.2.mem ((c.tc : Thread Cert.EvenInGradRefIdeal.nD Cert.EvenInGradRefIdeal.τ).loc Cert.EvenInGradRefIdeal.main_arg0) = m' ((c.tc : Thread Cert.EvenInGradRefIdeal.nD Cert.EvenInGradRefIdeal.τ).loc Cert.EvenInGradRefIdeal.main_arg0)
          ∧ r.2.mem ((c.tc : Thread Cert.EvenInGradRefIdeal.nD Cert.EvenInGradRefIdeal.τ).loc Cert.EvenInGradRefIdeal.main_arg1) = m' ((c.tc : Thread Cert.EvenInGradRefIdeal.nD Cert.EvenInGradRefIdeal.τ).loc Cert.EvenInGradRefIdeal.main_arg1))

def preserves_OutWeightGrad_OutWeightGradIdeal : Prop :=
  True

def algebraic_OutWeightGradIdeal_OutWeightGradRefIdeal [hOutWeightGradIdeal : Cert.OutWeightGradIdeal.Facts] [hOutWeightGradRefIdeal : Cert.OutWeightGradRefIdeal.Facts] : Prop :=
  ∀ (m : (ℓ : Loc Cert.OutWeightGradIdeal.nD Cert.OutWeightGradIdeal.τ Cert.OutWeightGradIdeal.sig) → Buf (Elt Ideal) ℓ) (g : Dev Cert.OutWeightGradIdeal.nD → PrngReg)
    (m' : (ℓ : Loc Cert.OutWeightGradRefIdeal.nD Cert.OutWeightGradRefIdeal.τ Cert.OutWeightGradRefIdeal.sig) → Buf (Elt Ideal) ℓ) (g' : Dev Cert.OutWeightGradRefIdeal.nD → PrngReg), Pre_OutWeightGradIdeal m →
    (∀ c : Dev Cert.OutWeightGradIdeal.nD,
      m' ((c.tc : Thread Cert.OutWeightGradRefIdeal.nD Cert.OutWeightGradRefIdeal.τ).loc Cert.OutWeightGradRefIdeal.main_arg0) = m ((c.tc : Thread Cert.OutWeightGradIdeal.nD Cert.OutWeightGradIdeal.τ).loc Cert.OutWeightGradIdeal.main_arg0)
      ∧ m' ((c.tc : Thread Cert.OutWeightGradRefIdeal.nD Cert.OutWeightGradRefIdeal.τ).loc Cert.OutWeightGradRefIdeal.main_arg1) = m ((c.tc : Thread Cert.OutWeightGradIdeal.nD Cert.OutWeightGradIdeal.τ).loc Cert.OutWeightGradIdeal.main_arg1)) →
    ∃ (v0 : (c : Dev Cert.OutWeightGradIdeal.nD) → Buf (Elt Ideal) ((c.tc : Thread Cert.OutWeightGradIdeal.nD Cert.OutWeightGradIdeal.τ).loc Cert.OutWeightGradIdeal.main_v0)),
      θ_run (Cert.OutWeightGradIdeal.defs (F := Ideal)) (onTc (τ := Cert.OutWeightGradIdeal.τ) (Cert.OutWeightGradIdeal.main (F := Ideal))) ⟨m, fun _ => 0, g⟩ (fun r => ∀ c : Dev Cert.OutWeightGradIdeal.nD,
          r.2.mem ((c.tc : Thread Cert.OutWeightGradIdeal.nD Cert.OutWeightGradIdeal.τ).loc Cert.OutWeightGradIdeal.main_v0) = v0 c
          ∧ r.2.mem ((c.tc : Thread Cert.OutWeightGradIdeal.nD Cert.OutWeightGradIdeal.τ).loc Cert.OutWeightGradIdeal.main_arg0) = m ((c.tc : Thread Cert.OutWeightGradIdeal.nD Cert.OutWeightGradIdeal.τ).loc Cert.OutWeightGradIdeal.main_arg0)
          ∧ r.2.mem ((c.tc : Thread Cert.OutWeightGradIdeal.nD Cert.OutWeightGradIdeal.τ).loc Cert.OutWeightGradIdeal.main_arg1) = m ((c.tc : Thread Cert.OutWeightGradIdeal.nD Cert.OutWeightGradIdeal.τ).loc Cert.OutWeightGradIdeal.main_arg1))
      ∧ θ_run (Cert.OutWeightGradRefIdeal.defs (F := Ideal)) (onTc (τ := Cert.OutWeightGradRefIdeal.τ) (Cert.OutWeightGradRefIdeal.main (F := Ideal))) ⟨m', fun _ => 0, g'⟩ (fun r => ∀ c : Dev Cert.OutWeightGradRefIdeal.nD,
          r.2.mem ((c.tc : Thread Cert.OutWeightGradRefIdeal.nD Cert.OutWeightGradRefIdeal.τ).loc Cert.OutWeightGradRefIdeal.main_v4) = v0 c
          ∧ r.2.mem ((c.tc : Thread Cert.OutWeightGradRefIdeal.nD Cert.OutWeightGradRefIdeal.τ).loc Cert.OutWeightGradRefIdeal.main_arg0) = m' ((c.tc : Thread Cert.OutWeightGradRefIdeal.nD Cert.OutWeightGradRefIdeal.τ).loc Cert.OutWeightGradRefIdeal.main_arg0)
          ∧ r.2.mem ((c.tc : Thread Cert.OutWeightGradRefIdeal.nD Cert.OutWeightGradRefIdeal.τ).loc Cert.OutWeightGradRefIdeal.main_arg1) = m' ((c.tc : Thread Cert.OutWeightGradRefIdeal.nD Cert.OutWeightGradRefIdeal.τ).loc Cert.OutWeightGradRefIdeal.main_arg1))

def preserves_OddInWeightGrad_OddInWeightGradIdeal : Prop :=
  True

def algebraic_OddInWeightGradIdeal_OddInWeightGradRefIdeal [hOddInWeightGradIdeal : Cert.OddInWeightGradIdeal.Facts] [hOddInWeightGradRefIdeal : Cert.OddInWeightGradRefIdeal.Facts] : Prop :=
  ∀ (m : (ℓ : Loc Cert.OddInWeightGradIdeal.nD Cert.OddInWeightGradIdeal.τ Cert.OddInWeightGradIdeal.sig) → Buf (Elt Ideal) ℓ) (g : Dev Cert.OddInWeightGradIdeal.nD → PrngReg)
    (m' : (ℓ : Loc Cert.OddInWeightGradRefIdeal.nD Cert.OddInWeightGradRefIdeal.τ Cert.OddInWeightGradRefIdeal.sig) → Buf (Elt Ideal) ℓ) (g' : Dev Cert.OddInWeightGradRefIdeal.nD → PrngReg), Pre_OddInWeightGradIdeal m →
    (∀ c : Dev Cert.OddInWeightGradIdeal.nD,
      m' ((c.tc : Thread Cert.OddInWeightGradRefIdeal.nD Cert.OddInWeightGradRefIdeal.τ).loc Cert.OddInWeightGradRefIdeal.main_arg0) = m ((c.tc : Thread Cert.OddInWeightGradIdeal.nD Cert.OddInWeightGradIdeal.τ).loc Cert.OddInWeightGradIdeal.main_arg0)
      ∧ m' ((c.tc : Thread Cert.OddInWeightGradRefIdeal.nD Cert.OddInWeightGradRefIdeal.τ).loc Cert.OddInWeightGradRefIdeal.main_arg1) = m ((c.tc : Thread Cert.OddInWeightGradIdeal.nD Cert.OddInWeightGradIdeal.τ).loc Cert.OddInWeightGradIdeal.main_arg1)) →
    ∃ (v0 : (c : Dev Cert.OddInWeightGradIdeal.nD) → Buf (Elt Ideal) ((c.tc : Thread Cert.OddInWeightGradIdeal.nD Cert.OddInWeightGradIdeal.τ).loc Cert.OddInWeightGradIdeal.main_v0)),
      θ_run (Cert.OddInWeightGradIdeal.defs (F := Ideal)) (onTc (τ := Cert.OddInWeightGradIdeal.τ) (Cert.OddInWeightGradIdeal.main (F := Ideal))) ⟨m, fun _ => 0, g⟩ (fun r => ∀ c : Dev Cert.OddInWeightGradIdeal.nD,
          r.2.mem ((c.tc : Thread Cert.OddInWeightGradIdeal.nD Cert.OddInWeightGradIdeal.τ).loc Cert.OddInWeightGradIdeal.main_v0) = v0 c
          ∧ r.2.mem ((c.tc : Thread Cert.OddInWeightGradIdeal.nD Cert.OddInWeightGradIdeal.τ).loc Cert.OddInWeightGradIdeal.main_arg0) = m ((c.tc : Thread Cert.OddInWeightGradIdeal.nD Cert.OddInWeightGradIdeal.τ).loc Cert.OddInWeightGradIdeal.main_arg0)
          ∧ r.2.mem ((c.tc : Thread Cert.OddInWeightGradIdeal.nD Cert.OddInWeightGradIdeal.τ).loc Cert.OddInWeightGradIdeal.main_arg1) = m ((c.tc : Thread Cert.OddInWeightGradIdeal.nD Cert.OddInWeightGradIdeal.τ).loc Cert.OddInWeightGradIdeal.main_arg1))
      ∧ θ_run (Cert.OddInWeightGradRefIdeal.defs (F := Ideal)) (onTc (τ := Cert.OddInWeightGradRefIdeal.τ) (Cert.OddInWeightGradRefIdeal.main (F := Ideal))) ⟨m', fun _ => 0, g'⟩ (fun r => ∀ c : Dev Cert.OddInWeightGradRefIdeal.nD,
          r.2.mem ((c.tc : Thread Cert.OddInWeightGradRefIdeal.nD Cert.OddInWeightGradRefIdeal.τ).loc Cert.OddInWeightGradRefIdeal.main_v4) = v0 c
          ∧ r.2.mem ((c.tc : Thread Cert.OddInWeightGradRefIdeal.nD Cert.OddInWeightGradRefIdeal.τ).loc Cert.OddInWeightGradRefIdeal.main_arg0) = m' ((c.tc : Thread Cert.OddInWeightGradRefIdeal.nD Cert.OddInWeightGradRefIdeal.τ).loc Cert.OddInWeightGradRefIdeal.main_arg0)
          ∧ r.2.mem ((c.tc : Thread Cert.OddInWeightGradRefIdeal.nD Cert.OddInWeightGradRefIdeal.τ).loc Cert.OddInWeightGradRefIdeal.main_arg1) = m' ((c.tc : Thread Cert.OddInWeightGradRefIdeal.nD Cert.OddInWeightGradRefIdeal.τ).loc Cert.OddInWeightGradRefIdeal.main_arg1))

def preserves_EvenInWeightGrad_EvenInWeightGradIdeal : Prop :=
  True

def algebraic_EvenInWeightGradIdeal_EvenInWeightGradRefIdeal [hEvenInWeightGradIdeal : Cert.EvenInWeightGradIdeal.Facts] [hEvenInWeightGradRefIdeal : Cert.EvenInWeightGradRefIdeal.Facts] : Prop :=
  ∀ (m : (ℓ : Loc Cert.EvenInWeightGradIdeal.nD Cert.EvenInWeightGradIdeal.τ Cert.EvenInWeightGradIdeal.sig) → Buf (Elt Ideal) ℓ) (g : Dev Cert.EvenInWeightGradIdeal.nD → PrngReg)
    (m' : (ℓ : Loc Cert.EvenInWeightGradRefIdeal.nD Cert.EvenInWeightGradRefIdeal.τ Cert.EvenInWeightGradRefIdeal.sig) → Buf (Elt Ideal) ℓ) (g' : Dev Cert.EvenInWeightGradRefIdeal.nD → PrngReg), Pre_EvenInWeightGradIdeal m →
    (∀ c : Dev Cert.EvenInWeightGradIdeal.nD,
      m' ((c.tc : Thread Cert.EvenInWeightGradRefIdeal.nD Cert.EvenInWeightGradRefIdeal.τ).loc Cert.EvenInWeightGradRefIdeal.main_arg0) = m ((c.tc : Thread Cert.EvenInWeightGradIdeal.nD Cert.EvenInWeightGradIdeal.τ).loc Cert.EvenInWeightGradIdeal.main_arg0)
      ∧ m' ((c.tc : Thread Cert.EvenInWeightGradRefIdeal.nD Cert.EvenInWeightGradRefIdeal.τ).loc Cert.EvenInWeightGradRefIdeal.main_arg1) = m ((c.tc : Thread Cert.EvenInWeightGradIdeal.nD Cert.EvenInWeightGradIdeal.τ).loc Cert.EvenInWeightGradIdeal.main_arg1)) →
    ∃ (v0 : (c : Dev Cert.EvenInWeightGradIdeal.nD) → Buf (Elt Ideal) ((c.tc : Thread Cert.EvenInWeightGradIdeal.nD Cert.EvenInWeightGradIdeal.τ).loc Cert.EvenInWeightGradIdeal.main_v0)),
      θ_run (Cert.EvenInWeightGradIdeal.defs (F := Ideal)) (onTc (τ := Cert.EvenInWeightGradIdeal.τ) (Cert.EvenInWeightGradIdeal.main (F := Ideal))) ⟨m, fun _ => 0, g⟩ (fun r => ∀ c : Dev Cert.EvenInWeightGradIdeal.nD,
          r.2.mem ((c.tc : Thread Cert.EvenInWeightGradIdeal.nD Cert.EvenInWeightGradIdeal.τ).loc Cert.EvenInWeightGradIdeal.main_v0) = v0 c
          ∧ r.2.mem ((c.tc : Thread Cert.EvenInWeightGradIdeal.nD Cert.EvenInWeightGradIdeal.τ).loc Cert.EvenInWeightGradIdeal.main_arg0) = m ((c.tc : Thread Cert.EvenInWeightGradIdeal.nD Cert.EvenInWeightGradIdeal.τ).loc Cert.EvenInWeightGradIdeal.main_arg0)
          ∧ r.2.mem ((c.tc : Thread Cert.EvenInWeightGradIdeal.nD Cert.EvenInWeightGradIdeal.τ).loc Cert.EvenInWeightGradIdeal.main_arg1) = m ((c.tc : Thread Cert.EvenInWeightGradIdeal.nD Cert.EvenInWeightGradIdeal.τ).loc Cert.EvenInWeightGradIdeal.main_arg1))
      ∧ θ_run (Cert.EvenInWeightGradRefIdeal.defs (F := Ideal)) (onTc (τ := Cert.EvenInWeightGradRefIdeal.τ) (Cert.EvenInWeightGradRefIdeal.main (F := Ideal))) ⟨m', fun _ => 0, g'⟩ (fun r => ∀ c : Dev Cert.EvenInWeightGradRefIdeal.nD,
          r.2.mem ((c.tc : Thread Cert.EvenInWeightGradRefIdeal.nD Cert.EvenInWeightGradRefIdeal.τ).loc Cert.EvenInWeightGradRefIdeal.main_v4) = v0 c
          ∧ r.2.mem ((c.tc : Thread Cert.EvenInWeightGradRefIdeal.nD Cert.EvenInWeightGradRefIdeal.τ).loc Cert.EvenInWeightGradRefIdeal.main_arg0) = m' ((c.tc : Thread Cert.EvenInWeightGradRefIdeal.nD Cert.EvenInWeightGradRefIdeal.τ).loc Cert.EvenInWeightGradRefIdeal.main_arg0)
          ∧ r.2.mem ((c.tc : Thread Cert.EvenInWeightGradRefIdeal.nD Cert.EvenInWeightGradRefIdeal.τ).loc Cert.EvenInWeightGradRefIdeal.main_arg1) = m' ((c.tc : Thread Cert.EvenInWeightGradRefIdeal.nD Cert.EvenInWeightGradRefIdeal.τ).loc Cert.EvenInWeightGradRefIdeal.main_arg1))

def Claim : Prop :=
  ∃ (hExchange : Cert.Exchange.Facts) (hExchangeIdeal : Cert.ExchangeIdeal.Facts) (hExchangeRef : Cert.ExchangeRef.Facts) (hExchangeRefIdeal : Cert.ExchangeRefIdeal.Facts) (hScatter : Cert.Scatter.Facts) (hScatterIdeal : Cert.ScatterIdeal.Facts) (hScatterRef : Cert.ScatterRef.Facts) (hScatterRefIdeal : Cert.ScatterRefIdeal.Facts) (hShare : Cert.Share.Facts) (hShareIdeal : Cert.ShareIdeal.Facts) (hShareRef : Cert.ShareRef.Facts) (hShareRefIdeal : Cert.ShareRefIdeal.Facts) (hGather : Cert.Gather.Facts) (hGatherIdeal : Cert.GatherIdeal.Facts) (hGatherRef : Cert.GatherRef.Facts) (hGatherRefIdeal : Cert.GatherRefIdeal.Facts) (hAdamEvenIn : Cert.AdamEvenIn.Facts) (hAdamEvenInIdeal : Cert.AdamEvenInIdeal.Facts) (hAdamEvenInRef : Cert.AdamEvenInRef.Facts) (hAdamEvenInRefIdeal : Cert.AdamEvenInRefIdeal.Facts) (hAdamOddIn : Cert.AdamOddIn.Facts) (hAdamOddInIdeal : Cert.AdamOddInIdeal.Facts) (hAdamOddInRef : Cert.AdamOddInRef.Facts) (hAdamOddInRefIdeal : Cert.AdamOddInRefIdeal.Facts) (hAdamOut : Cert.AdamOut.Facts) (hAdamOutIdeal : Cert.AdamOutIdeal.Facts) (hAdamOutRef : Cert.AdamOutRef.Facts) (hAdamOutRefIdeal : Cert.AdamOutRefIdeal.Facts) (hAdamSmall : Cert.AdamSmall.Facts) (hAdamSmallIdeal : Cert.AdamSmallIdeal.Facts) (hAdamSmallRef : Cert.AdamSmallRef.Facts) (hAdamSmallRefIdeal : Cert.AdamSmallRefIdeal.Facts) (hNorm : Cert.Norm.Facts) (hNormIdeal : Cert.NormIdeal.Facts) (hNormRef : Cert.NormRef.Facts) (hNormRefIdeal : Cert.NormRefIdeal.Facts) (hLoss : Cert.Loss.Facts) (hLossIdeal : Cert.LossIdeal.Facts) (hLossRef : Cert.LossRef.Facts) (hLossRefIdeal : Cert.LossRefIdeal.Facts) (hTotalLoss : Cert.TotalLoss.Facts) (hTotalLossIdeal : Cert.TotalLossIdeal.Facts) (hTotalLossRef : Cert.TotalLossRef.Facts) (hTotalLossRefIdeal : Cert.TotalLossRefIdeal.Facts) (hPairEvenIn : Cert.PairEvenIn.Facts) (hPairEvenInIdeal : Cert.PairEvenInIdeal.Facts) (hPairEvenInRef : Cert.PairEvenInRef.Facts) (hPairEvenInRefIdeal : Cert.PairEvenInRefIdeal.Facts) (hPairOddIn : Cert.PairOddIn.Facts) (hPairOddInIdeal : Cert.PairOddInIdeal.Facts) (hPairOddInRef : Cert.PairOddInRef.Facts) (hPairOddInRefIdeal : Cert.PairOddInRefIdeal.Facts) (hPairOut : Cert.PairOut.Facts) (hPairOutIdeal : Cert.PairOutIdeal.Facts) (hPairOutRef : Cert.PairOutRef.Facts) (hPairOutRefIdeal : Cert.PairOutRefIdeal.Facts) (hChipsEvenIn : Cert.ChipsEvenIn.Facts) (hChipsEvenInIdeal : Cert.ChipsEvenInIdeal.Facts) (hChipsEvenInRef : Cert.ChipsEvenInRef.Facts) (hChipsEvenInRefIdeal : Cert.ChipsEvenInRefIdeal.Facts) (hChipsOddIn : Cert.ChipsOddIn.Facts) (hChipsOddInIdeal : Cert.ChipsOddInIdeal.Facts) (hChipsOddInRef : Cert.ChipsOddInRef.Facts) (hChipsOddInRefIdeal : Cert.ChipsOddInRefIdeal.Facts) (hChipsOut : Cert.ChipsOut.Facts) (hChipsOutIdeal : Cert.ChipsOutIdeal.Facts) (hChipsOutRef : Cert.ChipsOutRef.Facts) (hChipsOutRefIdeal : Cert.ChipsOutRefIdeal.Facts) (hNormForward : Cert.NormForward.Facts) (hNormForwardIdeal : Cert.NormForwardIdeal.Facts) (hNormForwardRef : Cert.NormForwardRef.Facts) (hNormForwardRefIdeal : Cert.NormForwardRefIdeal.Facts) (hEvenIn : Cert.EvenIn.Facts) (hEvenInIdeal : Cert.EvenInIdeal.Facts) (hEvenInRef : Cert.EvenInRef.Facts) (hEvenInRefIdeal : Cert.EvenInRefIdeal.Facts) (hOddIn : Cert.OddIn.Facts) (hOddInIdeal : Cert.OddInIdeal.Facts) (hOddInRef : Cert.OddInRef.Facts) (hOddInRefIdeal : Cert.OddInRefIdeal.Facts) (hLayerOut : Cert.LayerOut.Facts) (hLayerOutIdeal : Cert.LayerOutIdeal.Facts) (hLayerOutRef : Cert.LayerOutRef.Facts) (hLayerOutRefIdeal : Cert.LayerOutRefIdeal.Facts) (hOutGrad : Cert.OutGrad.Facts) (hOutGradIdeal : Cert.OutGradIdeal.Facts) (hOutGradRef : Cert.OutGradRef.Facts) (hOutGradRefIdeal : Cert.OutGradRefIdeal.Facts) (hOddInGrad : Cert.OddInGrad.Facts) (hOddInGradIdeal : Cert.OddInGradIdeal.Facts) (hOddInGradRef : Cert.OddInGradRef.Facts) (hOddInGradRefIdeal : Cert.OddInGradRefIdeal.Facts) (hEvenInGrad : Cert.EvenInGrad.Facts) (hEvenInGradIdeal : Cert.EvenInGradIdeal.Facts) (hEvenInGradRef : Cert.EvenInGradRef.Facts) (hEvenInGradRefIdeal : Cert.EvenInGradRefIdeal.Facts) (hOutWeightGrad : Cert.OutWeightGrad.Facts) (hOutWeightGradIdeal : Cert.OutWeightGradIdeal.Facts) (hOutWeightGradRef : Cert.OutWeightGradRef.Facts) (hOutWeightGradRefIdeal : Cert.OutWeightGradRefIdeal.Facts) (hOddInWeightGrad : Cert.OddInWeightGrad.Facts) (hOddInWeightGradIdeal : Cert.OddInWeightGradIdeal.Facts) (hOddInWeightGradRef : Cert.OddInWeightGradRef.Facts) (hOddInWeightGradRefIdeal : Cert.OddInWeightGradRefIdeal.Facts) (hEvenInWeightGrad : Cert.EvenInWeightGrad.Facts) (hEvenInWeightGradIdeal : Cert.EvenInWeightGradIdeal.Facts) (hEvenInWeightGradRef : Cert.EvenInWeightGradRef.Facts) (hEvenInWeightGradRefIdeal : Cert.EvenInWeightGradRefIdeal.Facts),
    quiescent_Exchange (hExchange := hExchange)
    ∧ quiescent_ExchangeIdeal (hExchangeIdeal := hExchangeIdeal)
    ∧ quiescent_ExchangeRef (hExchangeRef := hExchangeRef)
    ∧ quiescent_ExchangeRefIdeal (hExchangeRefIdeal := hExchangeRefIdeal)
    ∧ quiescent_Scatter (hScatter := hScatter)
    ∧ quiescent_ScatterIdeal (hScatterIdeal := hScatterIdeal)
    ∧ quiescent_ScatterRef (hScatterRef := hScatterRef)
    ∧ quiescent_ScatterRefIdeal (hScatterRefIdeal := hScatterRefIdeal)
    ∧ quiescent_Share (hShare := hShare)
    ∧ quiescent_ShareIdeal (hShareIdeal := hShareIdeal)
    ∧ quiescent_ShareRef (hShareRef := hShareRef)
    ∧ quiescent_ShareRefIdeal (hShareRefIdeal := hShareRefIdeal)
    ∧ quiescent_Gather (hGather := hGather)
    ∧ quiescent_GatherIdeal (hGatherIdeal := hGatherIdeal)
    ∧ quiescent_GatherRef (hGatherRef := hGatherRef)
    ∧ quiescent_GatherRefIdeal (hGatherRefIdeal := hGatherRefIdeal)
    ∧ quiescent_AdamEvenIn (hAdamEvenIn := hAdamEvenIn)
    ∧ quiescent_AdamEvenInIdeal (hAdamEvenInIdeal := hAdamEvenInIdeal)
    ∧ quiescent_AdamEvenInRef (hAdamEvenInRef := hAdamEvenInRef)
    ∧ quiescent_AdamEvenInRefIdeal (hAdamEvenInRefIdeal := hAdamEvenInRefIdeal)
    ∧ quiescent_AdamOddIn (hAdamOddIn := hAdamOddIn)
    ∧ quiescent_AdamOddInIdeal (hAdamOddInIdeal := hAdamOddInIdeal)
    ∧ quiescent_AdamOddInRef (hAdamOddInRef := hAdamOddInRef)
    ∧ quiescent_AdamOddInRefIdeal (hAdamOddInRefIdeal := hAdamOddInRefIdeal)
    ∧ quiescent_AdamOut (hAdamOut := hAdamOut)
    ∧ quiescent_AdamOutIdeal (hAdamOutIdeal := hAdamOutIdeal)
    ∧ quiescent_AdamOutRef (hAdamOutRef := hAdamOutRef)
    ∧ quiescent_AdamOutRefIdeal (hAdamOutRefIdeal := hAdamOutRefIdeal)
    ∧ quiescent_AdamSmall (hAdamSmall := hAdamSmall)
    ∧ quiescent_AdamSmallIdeal (hAdamSmallIdeal := hAdamSmallIdeal)
    ∧ quiescent_AdamSmallRef (hAdamSmallRef := hAdamSmallRef)
    ∧ quiescent_AdamSmallRefIdeal (hAdamSmallRefIdeal := hAdamSmallRefIdeal)
    ∧ quiescent_Norm (hNorm := hNorm)
    ∧ quiescent_NormIdeal (hNormIdeal := hNormIdeal)
    ∧ quiescent_NormRef (hNormRef := hNormRef)
    ∧ quiescent_NormRefIdeal (hNormRefIdeal := hNormRefIdeal)
    ∧ quiescent_Loss (hLoss := hLoss)
    ∧ quiescent_LossIdeal (hLossIdeal := hLossIdeal)
    ∧ quiescent_LossRef (hLossRef := hLossRef)
    ∧ quiescent_LossRefIdeal (hLossRefIdeal := hLossRefIdeal)
    ∧ quiescent_TotalLoss (hTotalLoss := hTotalLoss)
    ∧ quiescent_TotalLossIdeal (hTotalLossIdeal := hTotalLossIdeal)
    ∧ quiescent_TotalLossRef (hTotalLossRef := hTotalLossRef)
    ∧ quiescent_TotalLossRefIdeal (hTotalLossRefIdeal := hTotalLossRefIdeal)
    ∧ quiescent_PairEvenIn (hPairEvenIn := hPairEvenIn)
    ∧ quiescent_PairEvenInIdeal (hPairEvenInIdeal := hPairEvenInIdeal)
    ∧ quiescent_PairEvenInRef (hPairEvenInRef := hPairEvenInRef)
    ∧ quiescent_PairEvenInRefIdeal (hPairEvenInRefIdeal := hPairEvenInRefIdeal)
    ∧ quiescent_PairOddIn (hPairOddIn := hPairOddIn)
    ∧ quiescent_PairOddInIdeal (hPairOddInIdeal := hPairOddInIdeal)
    ∧ quiescent_PairOddInRef (hPairOddInRef := hPairOddInRef)
    ∧ quiescent_PairOddInRefIdeal (hPairOddInRefIdeal := hPairOddInRefIdeal)
    ∧ quiescent_PairOut (hPairOut := hPairOut)
    ∧ quiescent_PairOutIdeal (hPairOutIdeal := hPairOutIdeal)
    ∧ quiescent_PairOutRef (hPairOutRef := hPairOutRef)
    ∧ quiescent_PairOutRefIdeal (hPairOutRefIdeal := hPairOutRefIdeal)
    ∧ quiescent_ChipsEvenIn (hChipsEvenIn := hChipsEvenIn)
    ∧ quiescent_ChipsEvenInIdeal (hChipsEvenInIdeal := hChipsEvenInIdeal)
    ∧ quiescent_ChipsEvenInRef (hChipsEvenInRef := hChipsEvenInRef)
    ∧ quiescent_ChipsEvenInRefIdeal (hChipsEvenInRefIdeal := hChipsEvenInRefIdeal)
    ∧ quiescent_ChipsOddIn (hChipsOddIn := hChipsOddIn)
    ∧ quiescent_ChipsOddInIdeal (hChipsOddInIdeal := hChipsOddInIdeal)
    ∧ quiescent_ChipsOddInRef (hChipsOddInRef := hChipsOddInRef)
    ∧ quiescent_ChipsOddInRefIdeal (hChipsOddInRefIdeal := hChipsOddInRefIdeal)
    ∧ quiescent_ChipsOut (hChipsOut := hChipsOut)
    ∧ quiescent_ChipsOutIdeal (hChipsOutIdeal := hChipsOutIdeal)
    ∧ quiescent_ChipsOutRef (hChipsOutRef := hChipsOutRef)
    ∧ quiescent_ChipsOutRefIdeal (hChipsOutRefIdeal := hChipsOutRefIdeal)
    ∧ quiescent_NormForward (hNormForward := hNormForward)
    ∧ quiescent_NormForwardIdeal (hNormForwardIdeal := hNormForwardIdeal)
    ∧ quiescent_NormForwardRef (hNormForwardRef := hNormForwardRef)
    ∧ quiescent_NormForwardRefIdeal (hNormForwardRefIdeal := hNormForwardRefIdeal)
    ∧ quiescent_EvenIn (hEvenIn := hEvenIn)
    ∧ quiescent_EvenInIdeal (hEvenInIdeal := hEvenInIdeal)
    ∧ quiescent_EvenInRef (hEvenInRef := hEvenInRef)
    ∧ quiescent_EvenInRefIdeal (hEvenInRefIdeal := hEvenInRefIdeal)
    ∧ quiescent_OddIn (hOddIn := hOddIn)
    ∧ quiescent_OddInIdeal (hOddInIdeal := hOddInIdeal)
    ∧ quiescent_OddInRef (hOddInRef := hOddInRef)
    ∧ quiescent_OddInRefIdeal (hOddInRefIdeal := hOddInRefIdeal)
    ∧ quiescent_LayerOut (hLayerOut := hLayerOut)
    ∧ quiescent_LayerOutIdeal (hLayerOutIdeal := hLayerOutIdeal)
    ∧ quiescent_LayerOutRef (hLayerOutRef := hLayerOutRef)
    ∧ quiescent_LayerOutRefIdeal (hLayerOutRefIdeal := hLayerOutRefIdeal)
    ∧ quiescent_OutGrad (hOutGrad := hOutGrad)
    ∧ quiescent_OutGradIdeal (hOutGradIdeal := hOutGradIdeal)
    ∧ quiescent_OutGradRef (hOutGradRef := hOutGradRef)
    ∧ quiescent_OutGradRefIdeal (hOutGradRefIdeal := hOutGradRefIdeal)
    ∧ quiescent_OddInGrad (hOddInGrad := hOddInGrad)
    ∧ quiescent_OddInGradIdeal (hOddInGradIdeal := hOddInGradIdeal)
    ∧ quiescent_OddInGradRef (hOddInGradRef := hOddInGradRef)
    ∧ quiescent_OddInGradRefIdeal (hOddInGradRefIdeal := hOddInGradRefIdeal)
    ∧ quiescent_EvenInGrad (hEvenInGrad := hEvenInGrad)
    ∧ quiescent_EvenInGradIdeal (hEvenInGradIdeal := hEvenInGradIdeal)
    ∧ quiescent_EvenInGradRef (hEvenInGradRef := hEvenInGradRef)
    ∧ quiescent_EvenInGradRefIdeal (hEvenInGradRefIdeal := hEvenInGradRefIdeal)
    ∧ quiescent_OutWeightGrad (hOutWeightGrad := hOutWeightGrad)
    ∧ quiescent_OutWeightGradIdeal (hOutWeightGradIdeal := hOutWeightGradIdeal)
    ∧ quiescent_OutWeightGradRef (hOutWeightGradRef := hOutWeightGradRef)
    ∧ quiescent_OutWeightGradRefIdeal (hOutWeightGradRefIdeal := hOutWeightGradRefIdeal)
    ∧ quiescent_OddInWeightGrad (hOddInWeightGrad := hOddInWeightGrad)
    ∧ quiescent_OddInWeightGradIdeal (hOddInWeightGradIdeal := hOddInWeightGradIdeal)
    ∧ quiescent_OddInWeightGradRef (hOddInWeightGradRef := hOddInWeightGradRef)
    ∧ quiescent_OddInWeightGradRefIdeal (hOddInWeightGradRefIdeal := hOddInWeightGradRefIdeal)
    ∧ quiescent_EvenInWeightGrad (hEvenInWeightGrad := hEvenInWeightGrad)
    ∧ quiescent_EvenInWeightGradIdeal (hEvenInWeightGradIdeal := hEvenInWeightGradIdeal)
    ∧ quiescent_EvenInWeightGradRef (hEvenInWeightGradRef := hEvenInWeightGradRef)
    ∧ quiescent_EvenInWeightGradRefIdeal (hEvenInWeightGradRefIdeal := hEvenInWeightGradRefIdeal)
    ∧ preserves_Exchange_ExchangeIdeal
    ∧ algebraic_ExchangeIdeal_ExchangeRefIdeal (hExchangeIdeal := hExchangeIdeal) (hExchangeRefIdeal := hExchangeRefIdeal)
    ∧ bitexact_Exchange_ExchangeRef (hExchange := hExchange) (hExchangeRef := hExchangeRef)
    ∧ preserves_Scatter_ScatterIdeal
    ∧ algebraic_ScatterIdeal_ScatterRefIdeal (hScatterIdeal := hScatterIdeal) (hScatterRefIdeal := hScatterRefIdeal)
    ∧ bitexact_Scatter_ScatterRef (hScatter := hScatter) (hScatterRef := hScatterRef)
    ∧ preserves_Share_ShareIdeal
    ∧ algebraic_ShareIdeal_ShareRefIdeal (hShareIdeal := hShareIdeal) (hShareRefIdeal := hShareRefIdeal)
    ∧ bitexact_Share_ShareRef (hShare := hShare) (hShareRef := hShareRef)
    ∧ preserves_Gather_GatherIdeal
    ∧ algebraic_GatherIdeal_GatherRefIdeal (hGatherIdeal := hGatherIdeal) (hGatherRefIdeal := hGatherRefIdeal)
    ∧ bitexact_Gather_GatherRef (hGather := hGather) (hGatherRef := hGatherRef)
    ∧ preserves_AdamEvenIn_AdamEvenInIdeal
    ∧ algebraic_AdamEvenInIdeal_AdamEvenInRefIdeal (hAdamEvenInIdeal := hAdamEvenInIdeal) (hAdamEvenInRefIdeal := hAdamEvenInRefIdeal)
    ∧ preserves_AdamOddIn_AdamOddInIdeal
    ∧ algebraic_AdamOddInIdeal_AdamOddInRefIdeal (hAdamOddInIdeal := hAdamOddInIdeal) (hAdamOddInRefIdeal := hAdamOddInRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_Norm_NormIdeal
    ∧ algebraic_NormIdeal_NormRefIdeal (hNormIdeal := hNormIdeal) (hNormRefIdeal := hNormRefIdeal)
    ∧ preserves_Loss_LossIdeal
    ∧ algebraic_LossIdeal_LossRefIdeal (hLossIdeal := hLossIdeal) (hLossRefIdeal := hLossRefIdeal)
    ∧ preserves_TotalLoss_TotalLossIdeal
    ∧ algebraic_TotalLossIdeal_TotalLossRefIdeal (hTotalLossIdeal := hTotalLossIdeal) (hTotalLossRefIdeal := hTotalLossRefIdeal)
    ∧ preserves_PairEvenIn_PairEvenInIdeal
    ∧ algebraic_PairEvenInIdeal_PairEvenInRefIdeal (hPairEvenInIdeal := hPairEvenInIdeal) (hPairEvenInRefIdeal := hPairEvenInRefIdeal)
    ∧ preserves_PairOddIn_PairOddInIdeal
    ∧ algebraic_PairOddInIdeal_PairOddInRefIdeal (hPairOddInIdeal := hPairOddInIdeal) (hPairOddInRefIdeal := hPairOddInRefIdeal)
    ∧ preserves_PairOut_PairOutIdeal
    ∧ algebraic_PairOutIdeal_PairOutRefIdeal (hPairOutIdeal := hPairOutIdeal) (hPairOutRefIdeal := hPairOutRefIdeal)
    ∧ preserves_ChipsEvenIn_ChipsEvenInIdeal
    ∧ algebraic_ChipsEvenInIdeal_ChipsEvenInRefIdeal (hChipsEvenInIdeal := hChipsEvenInIdeal) (hChipsEvenInRefIdeal := hChipsEvenInRefIdeal)
    ∧ preserves_ChipsOddIn_ChipsOddInIdeal
    ∧ algebraic_ChipsOddInIdeal_ChipsOddInRefIdeal (hChipsOddInIdeal := hChipsOddInIdeal) (hChipsOddInRefIdeal := hChipsOddInRefIdeal)
    ∧ preserves_ChipsOut_ChipsOutIdeal
    ∧ algebraic_ChipsOutIdeal_ChipsOutRefIdeal (hChipsOutIdeal := hChipsOutIdeal) (hChipsOutRefIdeal := hChipsOutRefIdeal)
    ∧ preserves_NormForward_NormForwardIdeal
    ∧ algebraic_NormForwardIdeal_NormForwardRefIdeal (hNormForwardIdeal := hNormForwardIdeal) (hNormForwardRefIdeal := hNormForwardRefIdeal)
    ∧ preserves_EvenIn_EvenInIdeal
    ∧ algebraic_EvenInIdeal_EvenInRefIdeal (hEvenInIdeal := hEvenInIdeal) (hEvenInRefIdeal := hEvenInRefIdeal)
    ∧ preserves_OddIn_OddInIdeal
    ∧ algebraic_OddInIdeal_OddInRefIdeal (hOddInIdeal := hOddInIdeal) (hOddInRefIdeal := hOddInRefIdeal)
    ∧ preserves_LayerOut_LayerOutIdeal
    ∧ algebraic_LayerOutIdeal_LayerOutRefIdeal (hLayerOutIdeal := hLayerOutIdeal) (hLayerOutRefIdeal := hLayerOutRefIdeal)
    ∧ preserves_OutGrad_OutGradIdeal
    ∧ algebraic_OutGradIdeal_OutGradRefIdeal (hOutGradIdeal := hOutGradIdeal) (hOutGradRefIdeal := hOutGradRefIdeal)
    ∧ preserves_OddInGrad_OddInGradIdeal
    ∧ algebraic_OddInGradIdeal_OddInGradRefIdeal (hOddInGradIdeal := hOddInGradIdeal) (hOddInGradRefIdeal := hOddInGradRefIdeal)
    ∧ preserves_EvenInGrad_EvenInGradIdeal
    ∧ algebraic_EvenInGradIdeal_EvenInGradRefIdeal (hEvenInGradIdeal := hEvenInGradIdeal) (hEvenInGradRefIdeal := hEvenInGradRefIdeal)
    ∧ preserves_OutWeightGrad_OutWeightGradIdeal
    ∧ algebraic_OutWeightGradIdeal_OutWeightGradRefIdeal (hOutWeightGradIdeal := hOutWeightGradIdeal) (hOutWeightGradRefIdeal := hOutWeightGradRefIdeal)
    ∧ preserves_OddInWeightGrad_OddInWeightGradIdeal
    ∧ algebraic_OddInWeightGradIdeal_OddInWeightGradRefIdeal (hOddInWeightGradIdeal := hOddInWeightGradIdeal) (hOddInWeightGradRefIdeal := hOddInWeightGradRefIdeal)
    ∧ preserves_EvenInWeightGrad_EvenInWeightGradIdeal
    ∧ algebraic_EvenInWeightGradIdeal_EvenInWeightGradRefIdeal (hEvenInWeightGradIdeal := hEvenInWeightGradIdeal) (hEvenInWeightGradRefIdeal := hEvenInWeightGradRefIdeal)
-- ==== Exchange.lean ====
abbrev S2048x8192 : Shape := ⟨2, ![2048, 8192]⟩
abbrev S4x512x2048 : Shape := ⟨3, ![4, 512, 2048]⟩
abbrev S2048x4608 : Shape := ⟨2, ![2048, 4608]⟩
abbrev S1024x8192 : Shape := ⟨2, ![1024, 8192]⟩
abbrev S4x256x2048 : Shape := ⟨3, ![4, 256, 2048]⟩
abbrev S1024x4608 : Shape := ⟨2, ![1024, 4608]⟩
abbrev S4 : Shape := ⟨1, ![4]⟩
abbrev S1 : Shape := ⟨1, ![1]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S4x512x2048, .bf16⟩
  | .hbm, ⟨2, _⟩ => ⟨S2048x4608, .bf16⟩
  | .hbm, ⟨3, _⟩ => ⟨S4x512x2048, .bf16⟩
  | .hbm, ⟨4, _⟩ => ⟨S1024x8192, .bf16⟩
  | .hbm, ⟨5, _⟩ => ⟨S4x256x2048, .bf16⟩
  | .hbm, ⟨6, _⟩ => ⟨S1024x4608, .bf16⟩
  | .hbm, ⟨7, _⟩ => ⟨S4x256x2048, .bf16⟩
  | .hbm, ⟨8, _⟩ => ⟨S1024x8192, .bf16⟩
  | .hbm, ⟨9, _⟩ => ⟨S4x256x2048, .bf16⟩
  | .hbm, ⟨10, _⟩ => ⟨S1024x4608, .bf16⟩
  | .hbm, ⟨11, _⟩ => ⟨S4x256x2048, .bf16⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev main_v1_4 : Ref sig .tc := ⟨.hbm, 8, rfl⟩
abbrev main_v1_5 : Ref sig .tc := ⟨.hbm, 9, rfl⟩
abbrev main_v1_6 : Ref sig .tc := ⟨.hbm, 10, rfl⟩
abbrev main_v1_7 : Ref sig .tc := ⟨.hbm, 11, rfl⟩

abbrev nD : Nat := 8
abbrev τ : Topo := Topo.v7x

variable {F : FTy → Type} [FloatOps F]

abbrev grid0 : Pipeline.Grid := .none

def k0_mult1 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v10 : BitVec 32 := Scalar.muli v8 c1024_i32
  v10
def k0_off1 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v10 : BitVec 32 := Scalar.muli v8 c1024_i32
  let v11 : BitVec 32 := v10
  let c0_i32_4 : BitVec 32 := 0#32
  ![v11.toNat, 0]
def k0_mult2 (d0 : Dev nD) : BitVec 32 :=
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_5 v8
  let c1024_i32_6 : BitVec 32 := 1024#32
  let v16 : BitVec 32 := Scalar.muli v15 c1024_i32_6
  v16
def k0_off2 (d0 : Dev nD) : Fin 2 → Nat :=
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_5 v8
  let c1024_i32_6 : BitVec 32 := 1024#32
  let v16 : BitVec 32 := Scalar.muli v15 c1024_i32_6
  let v17 : BitVec 32 := v16
  let c0_i32_13 : BitVec 32 := 0#32
  ![v17.toNat, 0]
def k0_dev1 (d0 : Dev nD) : Nat :=
  let c0_i32_10 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_9 : BitVec 32 := 4#32
  let v18 : BitVec 32 := Scalar.muli v2 c4_i32_9
  let v19 : BitVec 32 := Scalar.addi c0_i32_10 v18
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_11 : BitVec 32 := 2#32
  let v20 : BitVec 32 := Scalar.muli v5 c2_i32_11
  let v21 : BitVec 32 := Scalar.addi v19 v20
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_12 : BitVec 32 := 1#32
  let v22 : BitVec 32 := Scalar.muli v9 c1_i32_12
  let v23 : BitVec 32 := Scalar.addi v21 v22
  v23.toNat
def k0_mult3 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32 : BitVec 32 := 256#32
  let v29 : BitVec 32 := Scalar.muli v8 c256_i32
  v29
def k0_off3 (d0 : Dev nD) : Fin 3 → Nat :=
  let c0_i32_15 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32 : BitVec 32 := 256#32
  let v29 : BitVec 32 := Scalar.muli v8 c256_i32
  let v30 : BitVec 32 := v29
  let c0_i32_16 : BitVec 32 := 0#32
  ![0, v30.toNat, 0]
def k0_mult4 (d0 : Dev nD) : BitVec 32 :=
  let c1_i32_17 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v34 : BitVec 32 := Scalar.subi c1_i32_17 v8
  let c256_i32_18 : BitVec 32 := 256#32
  let v35 : BitVec 32 := Scalar.muli v34 c256_i32_18
  v35
def k0_off4 (d0 : Dev nD) : Fin 3 → Nat :=
  let c0_i32_25 : BitVec 32 := 0#32
  let c1_i32_17 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v34 : BitVec 32 := Scalar.subi c1_i32_17 v8
  let c256_i32_18 : BitVec 32 := 256#32
  let v35 : BitVec 32 := Scalar.muli v34 c256_i32_18
  let v36 : BitVec 32 := v35
  let c0_i32_26 : BitVec 32 := 0#32
  ![0, v36.toNat, 0]
def k0_dev2 (d0 : Dev nD) : Nat :=
  let c0_i32_22 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_21 : BitVec 32 := 4#32
  let v37 : BitVec 32 := Scalar.muli v2 c4_i32_21
  let v38 : BitVec 32 := Scalar.addi c0_i32_22 v37
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_23 : BitVec 32 := 2#32
  let v39 : BitVec 32 := Scalar.muli v5 c2_i32_23
  let v40 : BitVec 32 := Scalar.addi v38 v39
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_24 : BitVec 32 := 1#32
  let v41 : BitVec 32 := Scalar.muli v9 c1_i32_24
  let v42 : BitVec 32 := Scalar.addi v40 v41
  v42.toNat
def k0_mult5 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_27 : BitVec 32 := 1024#32
  let v48 : BitVec 32 := Scalar.muli v8 c1024_i32_27
  v48
def k0_off5 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_27 : BitVec 32 := 1024#32
  let v48 : BitVec 32 := Scalar.muli v8 c1024_i32_27
  let v49 : BitVec 32 := v48
  let c0_i32_29 : BitVec 32 := 0#32
  ![v49.toNat, 0]
def k0_mult6 (d0 : Dev nD) : BitVec 32 :=
  let c1_i32_30 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v53 : BitVec 32 := Scalar.subi c1_i32_30 v8
  let c1024_i32_31 : BitVec 32 := 1024#32
  let v54 : BitVec 32 := Scalar.muli v53 c1024_i32_31
  v54
def k0_off6 (d0 : Dev nD) : Fin 2 → Nat :=
  let c1_i32_30 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v53 : BitVec 32 := Scalar.subi c1_i32_30 v8
  let c1024_i32_31 : BitVec 32 := 1024#32
  let v54 : BitVec 32 := Scalar.muli v53 c1024_i32_31
  let v55 : BitVec 32 := v54
  let c0_i32_38 : BitVec 32 := 0#32
  ![v55.toNat, 0]
def k0_dev3 (d0 : Dev nD) : Nat :=
  let c0_i32_35 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_34 : BitVec 32 := 4#32
  let v56 : BitVec 32 := Scalar.muli v2 c4_i32_34
  let v57 : BitVec 32 := Scalar.addi c0_i32_35 v56
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_36 : BitVec 32 := 2#32
  let v58 : BitVec 32 := Scalar.muli v5 c2_i32_36
  let v59 : BitVec 32 := Scalar.addi v57 v58
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_37 : BitVec 32 := 1#32
  let v60 : BitVec 32 := Scalar.muli v9 c1_i32_37
  let v61 : BitVec 32 := Scalar.addi v59 v60
  v61.toNat
def k0_mult7 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_39 : BitVec 32 := 256#32
  let v67 : BitVec 32 := Scalar.muli v8 c256_i32_39
  v67
def k0_mult8 (d0 : Dev nD) : BitVec 32 :=
  let c1_i32_42 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v72 : BitVec 32 := Scalar.subi c1_i32_42 v8
  let c256_i32_43 : BitVec 32 := 256#32
  let v73 : BitVec 32 := Scalar.muli v72 c256_i32_43
  v73
def k0_dev4 (d0 : Dev nD) : Nat :=
  let c0_i32_47 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_46 : BitVec 32 := 4#32
  let v75 : BitVec 32 := Scalar.muli v2 c4_i32_46
  let v76 : BitVec 32 := Scalar.addi c0_i32_47 v75
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_48 : BitVec 32 := 2#32
  let v77 : BitVec 32 := Scalar.muli v5 c2_i32_48
  let v78 : BitVec 32 := Scalar.addi v76 v77
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_49 : BitVec 32 := 1#32
  let v79 : BitVec 32 := Scalar.muli v9 c1_i32_49
  let v80 : BitVec 32 := Scalar.addi v78 v79
  v80.toNat
-- ==== ExchangeRef.lean ====
abbrev S16384x8192 : Shape := ⟨2, ![16384, 8192]⟩
abbrev S32x512x2048 : Shape := ⟨3, ![32, 512, 2048]⟩
abbrev S16384x4608 : Shape := ⟨2, ![16384, 4608]⟩
abbrev S1024x8192 : Shape := ⟨2, ![1024, 8192]⟩
abbrev S8192x8192 : Shape := ⟨2, ![8192, 8192]⟩
abbrev S4x256x2048 : Shape := ⟨3, ![4, 256, 2048]⟩
abbrev S32x256x2048 : Shape := ⟨3, ![32, 256, 2048]⟩
abbrev S1024x4608 : Shape := ⟨2, ![1024, 4608]⟩
abbrev S8192x4608 : Shape := ⟨2, ![8192, 4608]⟩

abbrev nBuf : Space → Nat
  | .hbm => 76
  | .vmem => 0
  | .smem => 0
  | _ => 0

abbrev bufTy : (tb : Table) → Fin (tcTables nBuf tb) → BufTy
  | .hbm, ⟨0, _⟩ => ⟨S16384x8192, .bf16⟩
  | .hbm, ⟨1, _⟩ => ⟨S32x512x2048, .bf16⟩
  | .hbm, ⟨2, _⟩ => ⟨S16384x4608, .bf16⟩
  | .hbm, ⟨3, _⟩ => ⟨S32x512x2048, .bf16⟩
  | .hbm, ⟨4, _⟩ => ⟨S1024x8192, .bf16⟩
  | .hbm, ⟨5, _⟩ => ⟨S1024x8192, .bf16⟩
  | .hbm, ⟨6, _⟩ => ⟨S1024x8192, .bf16⟩
  | .hbm, ⟨7, _⟩ => ⟨S1024x8192, .bf16⟩
  | .hbm, ⟨8, _⟩ => ⟨S1024x8192, .bf16⟩
  | .hbm, ⟨9, _⟩ => ⟨S1024x8192, .bf16⟩
  | .hbm, ⟨10, _⟩ => ⟨S1024x8192, .bf16⟩
  | .hbm, ⟨11, _⟩ => ⟨S1024x8192, .bf16⟩
  | .hbm, ⟨12, _⟩ => ⟨S8192x8192, .bf16⟩
  | .hbm, ⟨13, _⟩ => ⟨S1024x8192, .bf16⟩
  | .hbm, ⟨14, _⟩ => ⟨S1024x8192, .bf16⟩
  | .hbm, ⟨15, _⟩ => ⟨S1024x8192, .bf16⟩
  | .hbm, ⟨16, _⟩ => ⟨S1024x8192, .bf16⟩
  | .hbm, ⟨17, _⟩ => ⟨S1024x8192, .bf16⟩
  | .hbm, ⟨18, _⟩ => ⟨S1024x8192, .bf16⟩
  | .hbm, ⟨19, _⟩ => ⟨S1024x8192, .bf16⟩
  | .hbm, ⟨20, _⟩ => ⟨S1024x8192, .bf16⟩
  | .hbm, ⟨21, _⟩ => ⟨S8192x8192, .bf16⟩
  | .hbm, ⟨22, _⟩ => ⟨S4x256x2048, .bf16⟩
  | .hbm, ⟨23, _⟩ => ⟨S4x256x2048, .bf16⟩
  | .hbm, ⟨24, _⟩ => ⟨S4x256x2048, .bf16⟩
  | .hbm, ⟨25, _⟩ => ⟨S4x256x2048, .bf16⟩
  | .hbm, ⟨26, _⟩ => ⟨S4x256x2048, .bf16⟩
  | .hbm, ⟨27, _⟩ => ⟨S4x256x2048, .bf16⟩
  | .hbm, ⟨28, _⟩ => ⟨S4x256x2048, .bf16⟩
  | .hbm, ⟨29, _⟩ => ⟨S4x256x2048, .bf16⟩
  | .hbm, ⟨30, _⟩ => ⟨S32x256x2048, .bf16⟩
  | .hbm, ⟨31, _⟩ => ⟨S4x256x2048, .bf16⟩
  | .hbm, ⟨32, _⟩ => ⟨S4x256x2048, .bf16⟩
  | .hbm, ⟨33, _⟩ => ⟨S4x256x2048, .bf16⟩
  | .hbm, ⟨34, _⟩ => ⟨S4x256x2048, .bf16⟩
  | .hbm, ⟨35, _⟩ => ⟨S4x256x2048, .bf16⟩
  | .hbm, ⟨36, _⟩ => ⟨S4x256x2048, .bf16⟩
  | .hbm, ⟨37, _⟩ => ⟨S4x256x2048, .bf16⟩
  | .hbm, ⟨38, _⟩ => ⟨S4x256x2048, .bf16⟩
  | .hbm, ⟨39, _⟩ => ⟨S32x256x2048, .bf16⟩
  | .hbm, ⟨40, _⟩ => ⟨S1024x4608, .bf16⟩
  | .hbm, ⟨41, _⟩ => ⟨S1024x4608, .bf16⟩
  | .hbm, ⟨42, _⟩ => ⟨S1024x4608, .bf16⟩
  | .hbm, ⟨43, _⟩ => ⟨S1024x4608, .bf16⟩
  | .hbm, ⟨44, _⟩ => ⟨S1024x4608, .bf16⟩
  | .hbm, ⟨45, _⟩ => ⟨S1024x4608, .bf16⟩
  | .hbm, ⟨46, _⟩ => ⟨S1024x4608, .bf16⟩
  | .hbm, ⟨47, _⟩ => ⟨S1024x4608, .bf16⟩
  | .hbm, ⟨48, _⟩ => ⟨S8192x4608, .bf16⟩
  | .hbm, ⟨49, _⟩ => ⟨S1024x4608, .bf16⟩
  | .hbm, ⟨50, _⟩ => ⟨S1024x4608, .bf16⟩
  | .hbm, ⟨51, _⟩ => ⟨S1024x4608, .bf16⟩
  | .hbm, ⟨52, _⟩ => ⟨S1024x4608, .bf16⟩
  | .hbm, ⟨53, _⟩ => ⟨S1024x4608, .bf16⟩
  | .hbm, ⟨54, _⟩ => ⟨S1024x4608, .bf16⟩
  | .hbm, ⟨55, _⟩ => ⟨S1024x4608, .bf16⟩
  | .hbm, ⟨56, _⟩ => ⟨S1024x4608, .bf16⟩
  | .hbm, ⟨57, _⟩ => ⟨S8192x4608, .bf16⟩
  | .hbm, ⟨58, _⟩ => ⟨S4x256x2048, .bf16⟩
  | .hbm, ⟨59, _⟩ => ⟨S4x256x2048, .bf16⟩
  | .hbm, ⟨60, _⟩ => ⟨S4x256x2048, .bf16⟩
  | .hbm, ⟨61, _⟩ => ⟨S4x256x2048, .bf16⟩
  | .hbm, ⟨62, _⟩ => ⟨S4x256x2048, .bf16⟩
  | .hbm, ⟨63, _⟩ => ⟨S4x256x2048, .bf16⟩
  | .hbm, ⟨64, _⟩ => ⟨S4x256x2048, .bf16⟩
  | .hbm, ⟨65, _⟩ => ⟨S4x256x2048, .bf16⟩
  | .hbm, ⟨66, _⟩ => ⟨S32x256x2048, .bf16⟩
  | .hbm, ⟨67, _⟩ => ⟨S4x256x2048, .bf16⟩
  | .hbm, ⟨68, _⟩ => ⟨S4x256x2048, .bf16⟩
  | .hbm, ⟨69, _⟩ => ⟨S4x256x2048, .bf16⟩
  | .hbm, ⟨70, _⟩ => ⟨S4x256x2048, .bf16⟩
  | .hbm, ⟨71, _⟩ => ⟨S4x256x2048, .bf16⟩
  | .hbm, ⟨72, _⟩ => ⟨S4x256x2048, .bf16⟩
  | .hbm, ⟨73, _⟩ => ⟨S4x256x2048, .bf16⟩
  | .hbm, ⟨74, _⟩ => ⟨S4x256x2048, .bf16⟩
  | .hbm, ⟨75, _⟩ => ⟨S32x256x2048, .bf16⟩
  | _, _ => ⟨S16384x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_v56 : Ref sig .tc := ⟨.hbm, 60, rfl⟩
abbrev main_v57 : Ref sig .tc := ⟨.hbm, 61, rfl⟩
abbrev main_v58 : Ref sig .tc := ⟨.hbm, 62, rfl⟩
abbrev main_v59 : Ref sig .tc := ⟨.hbm, 63, rfl⟩
abbrev main_v60 : Ref sig .tc := ⟨.hbm, 64, rfl⟩
abbrev main_v61 : Ref sig .tc := ⟨.hbm, 65, rfl⟩
abbrev main_v62 : Ref sig .tc := ⟨.hbm, 66, rfl⟩
abbrev main_v63 : Ref sig .tc := ⟨.hbm, 67, rfl⟩
abbrev main_v64 : Ref sig .tc := ⟨.hbm, 68, rfl⟩
abbrev main_v65 : Ref sig .tc := ⟨.hbm, 69, rfl⟩
abbrev main_v66 : Ref sig .tc := ⟨.hbm, 70, rfl⟩
abbrev main_v67 : Ref sig .tc := ⟨.hbm, 71, rfl⟩
abbrev main_v68 : Ref sig .tc := ⟨.hbm, 72, rfl⟩
abbrev main_v69 : Ref sig .tc := ⟨.hbm, 73, rfl⟩
abbrev main_v70 : Ref sig .tc := ⟨.hbm, 74, rfl⟩
abbrev main_v71 : Ref sig .tc := ⟨.hbm, 75, rfl⟩

abbrev nD : Nat := 1
abbrev τ : Topo := Topo.v7x

variable {F : FTy → Type} [FloatOps F]
-- ==== Scatter.lean ====
abbrev S1024x8192 : Shape := ⟨2, ![1024, 8192]⟩
abbrev S4x256x2048 : Shape := ⟨3, ![4, 256, 2048]⟩
abbrev S1024x4608 : Shape := ⟨2, ![1024, 4608]⟩
abbrev S4x1024x2048 : Shape := ⟨3, ![4, 1024, 2048]⟩
abbrev S4x1024x1152 : Shape := ⟨3, ![4, 1024, 1152]⟩
abbrev S12 : Shape := ⟨1, ![12]⟩
abbrev S4 : Shape := ⟨1, ![4]⟩
abbrev S1 : Shape := ⟨1, ![1]⟩
abbrev S_ : Shape := ⟨0, ![]⟩
abbrev S1x1024x2048 : Shape := ⟨3, ![1, 1024, 2048]⟩
abbrev S1024x2048 : Shape := ⟨2, ![1024, 2048]⟩
abbrev S1x256x2048 : Shape := ⟨3, ![1, 256, 2048]⟩
abbrev S256x2048 : Shape := ⟨2, ![256, 2048]⟩
abbrev S1x1024x1152 : Shape := ⟨3, ![1, 1024, 1152]⟩
abbrev S1024x1152 : Shape := ⟨2, ![1024, 1152]⟩

abbrev nBuf : Space → Nat
  | .hbm => 8
  | .vmem => 0
  | .smem => 0
  | _ => 0

abbrev bufTy : (tb : Table) → Fin (tcTables nBuf tb) → BufTy
  | .hbm, ⟨0, _⟩ => ⟨S1024x8192, .bf16⟩
  | .hbm, ⟨1, _⟩ => ⟨S4x256x2048, .bf16⟩
  | .hbm, ⟨2, _⟩ => ⟨S1024x4608, .bf16⟩
  | .hbm, ⟨3, _⟩ => ⟨S4x256x2048, .bf16⟩
  | .hbm, ⟨4, _⟩ => ⟨S4x1024x2048, .bf16⟩
  | .hbm, ⟨5, _⟩ => ⟨S4x256x2048, .bf16⟩
  | .hbm, ⟨6, _⟩ => ⟨S4x1024x1152, .bf16⟩
  | .hbm, ⟨7, _⟩ => ⟨S4x256x2048, .bf16⟩
  | _, _ => ⟨S1024x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩

abbrev nD : Nat := 8
abbrev τ : Topo := Topo.v7x

variable {F : FTy → Type} [FloatOps F]

abbrev grid0 : Pipeline.Grid := .none

def k0_mult1 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c2048_i32 : BitVec 32 := 2048#32
  let v11 : BitVec 32 := Scalar.muli v10 c2048_i32
  v11
def k0_off1 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_4 : BitVec 32 := 0#32
  let c0_i32_5 : BitVec 32 := 0#32
  ![v10.toNat, 0, 0]
def k0_off2 (d0 : Dev nD) : Fin 2 → Nat :=
  let c0_i32_6 : BitVec 32 := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c2048_i32 : BitVec 32 := 2048#32
  let v11 : BitVec 32 := Scalar.muli v10 c2048_i32
  let v12 : BitVec 32 := v11
  ![0, v12.toNat]
def k0_off3 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_8 : BitVec 32 := 0#32
  let c0_i32_9 : BitVec 32 := 0#32
  ![v10.toNat, 0, 0]
def k0_mult2 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c1152_i32 : BitVec 32 := 1152#32
  let v24 : BitVec 32 := Scalar.muli v10 c1152_i32
  v24
def k0_off4 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_13 : BitVec 32 := 0#32
  let c0_i32_14 : BitVec 32 := 0#32
  ![v10.toNat, 0, 0]
def k0_off5 (d0 : Dev nD) : Fin 2 → Nat :=
  let c0_i32_15 : BitVec 32 := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c1152_i32 : BitVec 32 := 1152#32
  let v24 : BitVec 32 := Scalar.muli v10 c1152_i32
  let v25 : BitVec 32 := v24
  ![0, v25.toNat]
def k0_mult3 (d0 : Dev nD) : BitVec 32 :=
  let c2_i32_21 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_20 : BitVec 32 := 1#32
  let v37 : BitVec 32 := Scalar.xori v2 c1_i32_20
  let v38 : BitVec 32 := Scalar.muli c2_i32_21 v37
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_22 : BitVec 32 := 0#32
  let v39 : BitVec 32 := Scalar.xori v5 c0_i32_22
  let v40 : BitVec 32 := Scalar.addi v38 v39
  let c2048_i32_23 : BitVec 32 := 2048#32
  let v41 : BitVec 32 := Scalar.muli v40 c2048_i32_23
  v41
def k0_off6 (d0 : Dev nD) (c1_i32_20 : BitVec 32) (c0_i32_22 : BitVec 32) : Fin 2 → Nat :=
  let c0_i32_34 : BitVec 32 := 0#32
  let c2_i32_21 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v37 : BitVec 32 := Scalar.xori v2 c1_i32_20
  let v38 : BitVec 32 := Scalar.muli c2_i32_21 v37
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v39 : BitVec 32 := Scalar.xori v5 c0_i32_22
  let v40 : BitVec 32 := Scalar.addi v38 v39
  let c2048_i32_23 : BitVec 32 := 2048#32
  let v41 : BitVec 32 := Scalar.muli v40 c2048_i32_23
  let v42 : BitVec 32 := v41
  ![0, v42.toNat]
def k0_off6_at (r : Fin 3) : BitVec 32 × BitVec 32 :=
  if r.val < 1 then
    (1#32, 0#32)
  else
    if r.val < 2 then
      (0#32, 1#32)
    else
      (1#32, 1#32)
def k0_dev1 (d0 : Dev nD) : Nat :=
  let c0_i32_29 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_24 : BitVec 32 := 1#32
  let v43 : BitVec 32 := Scalar.xori v2 c1_i32_24
  let c4_i32_28 : BitVec 32 := 4#32
  let v45 : BitVec 32 := Scalar.muli v43 c4_i32_28
  let v46 : BitVec 32 := Scalar.addi c0_i32_29 v45
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_25 : BitVec 32 := 0#32
  let v44 : BitVec 32 := Scalar.xori v5 c0_i32_25
  let c2_i32_30 : BitVec 32 := 2#32
  let v47 : BitVec 32 := Scalar.muli v44 c2_i32_30
  let v48 : BitVec 32 := Scalar.addi v46 v47
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_31 : BitVec 32 := 1#32
  let v49 : BitVec 32 := Scalar.muli v8 c1_i32_31
  let v50 : BitVec 32 := Scalar.addi v48 v49
  v50.toNat
def k0_off7 (d0 : Dev nD) (c1_i32_20 : BitVec 32) (c0_i32_22 : BitVec 32) : Fin 3 → Nat :=
  let c2_i32_21 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v37 : BitVec 32 := Scalar.xori v2 c1_i32_20
  let v38 : BitVec 32 := Scalar.muli c2_i32_21 v37
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v39 : BitVec 32 := Scalar.xori v5 c0_i32_22
  let v40 : BitVec 32 := Scalar.addi v38 v39
  let c0_i32_45 : BitVec 32 := 0#32
  let c0_i32_46 : BitVec 32 := 0#32
  ![v40.toNat, 0, 0]
def k0_off7_at (r : Fin 3) : BitVec 32 × BitVec 32 :=
  if r.val < 1 then
    (1#32, 0#32)
  else
    if r.val < 2 then
      (0#32, 1#32)
    else
      (1#32, 1#32)
def k0_dev2 (d0 : Dev nD) : Nat :=
  let c0_i32_40 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_35 : BitVec 32 := 1#32
  let v58 : BitVec 32 := Scalar.xori v2 c1_i32_35
  let c4_i32_39 : BitVec 32 := 4#32
  let v60 : BitVec 32 := Scalar.muli v58 c4_i32_39
  let v61 : BitVec 32 := Scalar.addi c0_i32_40 v60
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_36 : BitVec 32 := 0#32
  let v59 : BitVec 32 := Scalar.xori v5 c0_i32_36
  let c2_i32_41 : BitVec 32 := 2#32
  let v62 : BitVec 32 := Scalar.muli v59 c2_i32_41
  let v63 : BitVec 32 := Scalar.addi v61 v62
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_42 : BitVec 32 := 1#32
  let v64 : BitVec 32 := Scalar.muli v8 c1_i32_42
  let v65 : BitVec 32 := Scalar.addi v63 v64
  v65.toNat
def k0_mult4 (d0 : Dev nD) : BitVec 32 :=
  let c2_i32_21 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_20 : BitVec 32 := 1#32
  let v37 : BitVec 32 := Scalar.xori v2 c1_i32_20
  let v38 : BitVec 32 := Scalar.muli c2_i32_21 v37
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_22 : BitVec 32 := 0#32
  let v39 : BitVec 32 := Scalar.xori v5 c0_i32_22
  let v40 : BitVec 32 := Scalar.addi v38 v39
  let c1152_i32_47 : BitVec 32 := 1152#32
  let v74 : BitVec 32 := Scalar.muli v40 c1152_i32_47
  v74
def k0_off8 (d0 : Dev nD) (c1_i32_20 : BitVec 32) (c0_i32_22 : BitVec 32) : Fin 2 → Nat :=
  let c0_i32_58 : BitVec 32 := 0#32
  let c2_i32_21 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v37 : BitVec 32 := Scalar.xori v2 c1_i32_20
  let v38 : BitVec 32 := Scalar.muli c2_i32_21 v37
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v39 : BitVec 32 := Scalar.xori v5 c0_i32_22
  let v40 : BitVec 32 := Scalar.addi v38 v39
  let c1152_i32_47 : BitVec 32 := 1152#32
  let v74 : BitVec 32 := Scalar.muli v40 c1152_i32_47
  let v75 : BitVec 32 := v74
  ![0, v75.toNat]
def k0_off8_at (r : Fin 3) : BitVec 32 × BitVec 32 :=
  if r.val < 1 then
    (1#32, 0#32)
  else
    if r.val < 2 then
      (0#32, 1#32)
    else
      (1#32, 1#32)
def k0_dev3 (d0 : Dev nD) : Nat :=
  let c0_i32_53 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_48 : BitVec 32 := 1#32
  let v76 : BitVec 32 := Scalar.xori v2 c1_i32_48
  let c4_i32_52 : BitVec 32 := 4#32
  let v78 : BitVec 32 := Scalar.muli v76 c4_i32_52
  let v79 : BitVec 32 := Scalar.addi c0_i32_53 v78
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_49 : BitVec 32 := 0#32
  let v77 : BitVec 32 := Scalar.xori v5 c0_i32_49
  let c2_i32_54 : BitVec 32 := 2#32
  let v80 : BitVec 32 := Scalar.muli v77 c2_i32_54
  let v81 : BitVec 32 := Scalar.addi v79 v80
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_55 : BitVec 32 := 1#32
  let v82 : BitVec 32 := Scalar.muli v8 c1_i32_55
  let v83 : BitVec 32 := Scalar.addi v81 v82
  v83.toNat
def k0_dev4 (d0 : Dev nD) : Nat :=
  let c0_i32_64 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_59 : BitVec 32 := 1#32
  let v91 : BitVec 32 := Scalar.xori v2 c1_i32_59
  let c4_i32_63 : BitVec 32 := 4#32
  let v93 : BitVec 32 := Scalar.muli v91 c4_i32_63
  let v94 : BitVec 32 := Scalar.addi c0_i32_64 v93
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_60 : BitVec 32 := 0#32
  let v92 : BitVec 32 := Scalar.xori v5 c0_i32_60
  let c2_i32_65 : BitVec 32 := 2#32
  let v95 : BitVec 32 := Scalar.muli v92 c2_i32_65
  let v96 : BitVec 32 := Scalar.addi v94 v95
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_66 : BitVec 32 := 1#32
  let v97 : BitVec 32 := Scalar.muli v8 c1_i32_66
  let v98 : BitVec 32 := Scalar.addi v96 v97
  v98.toNat
def k0_mult5 (d0 : Dev nD) : BitVec 32 :=
  let c2_i32_72 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_71 : BitVec 32 := 0#32
  let v107 : BitVec 32 := Scalar.xori v2 c0_i32_71
  let v108 : BitVec 32 := Scalar.muli c2_i32_72 v107
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_73 : BitVec 32 := 1#32
  let v109 : BitVec 32 := Scalar.xori v5 c1_i32_73
  let v110 : BitVec 32 := Scalar.addi v108 v109
  let c2048_i32_74 : BitVec 32 := 2048#32
  let v111 : BitVec 32 := Scalar.muli v110 c2048_i32_74
  v111
def k0_dev5 (d0 : Dev nD) : Nat :=
  let c0_i32_80 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_75 : BitVec 32 := 0#32
  let v113 : BitVec 32 := Scalar.xori v2 c0_i32_75
  let c4_i32_79 : BitVec 32 := 4#32
  let v115 : BitVec 32 := Scalar.muli v113 c4_i32_79
  let v116 : BitVec 32 := Scalar.addi c0_i32_80 v115
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_76 : BitVec 32 := 1#32
  let v114 : BitVec 32 := Scalar.xori v5 c1_i32_76
  let c2_i32_81 : BitVec 32 := 2#32
  let v117 : BitVec 32 := Scalar.muli v114 c2_i32_81
  let v118 : BitVec 32 := Scalar.addi v116 v117
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_82 : BitVec 32 := 1#32
  let v119 : BitVec 32 := Scalar.muli v8 c1_i32_82
  let v120 : BitVec 32 := Scalar.addi v118 v119
  v120.toNat
def k0_dev6 (d0 : Dev nD) : Nat :=
  let c0_i32_90 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_86 : BitVec 32 := 0#32
  let v128 : BitVec 32 := Scalar.xori v2 c0_i32_86
  let c4_i32_89 : BitVec 32 := 4#32
  let v130 : BitVec 32 := Scalar.muli v128 c4_i32_89
  let v131 : BitVec 32 := Scalar.addi c0_i32_90 v130
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_87 : BitVec 32 := 1#32
  let v129 : BitVec 32 := Scalar.xori v5 c1_i32_87
  let c2_i32_91 : BitVec 32 := 2#32
  let v132 : BitVec 32 := Scalar.muli v129 c2_i32_91
  let v133 : BitVec 32 := Scalar.addi v131 v132
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_92 : BitVec 32 := 1#32
  let v134 : BitVec 32 := Scalar.muli v8 c1_i32_92
  let v135 : BitVec 32 := Scalar.addi v133 v134
  v135.toNat
def k0_mult6 (d0 : Dev nD) : BitVec 32 :=
  let c2_i32_72 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_71 : BitVec 32 := 0#32
  let v107 : BitVec 32 := Scalar.xori v2 c0_i32_71
  let v108 : BitVec 32 := Scalar.muli c2_i32_72 v107
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_73 : BitVec 32 := 1#32
  let v109 : BitVec 32 := Scalar.xori v5 c1_i32_73
  let v110 : BitVec 32 := Scalar.addi v108 v109
  let c1152_i32_97 : BitVec 32 := 1152#32
  let v144 : BitVec 32 := Scalar.muli v110 c1152_i32_97
  v144
def k0_dev7 (d0 : Dev nD) : Nat :=
  let c0_i32_102 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_98 : BitVec 32 := 0#32
  let v146 : BitVec 32 := Scalar.xori v2 c0_i32_98
  let c4_i32_101 : BitVec 32 := 4#32
  let v148 : BitVec 32 := Scalar.muli v146 c4_i32_101
  let v149 : BitVec 32 := Scalar.addi c0_i32_102 v148
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_99 : BitVec 32 := 1#32
  let v147 : BitVec 32 := Scalar.xori v5 c1_i32_99
  let c2_i32_103 : BitVec 32 := 2#32
  let v150 : BitVec 32 := Scalar.muli v147 c2_i32_103
  let v151 : BitVec 32 := Scalar.addi v149 v150
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_104 : BitVec 32 := 1#32
  let v152 : BitVec 32 := Scalar.muli v8 c1_i32_104
  let v153 : BitVec 32 := Scalar.addi v151 v152
  v153.toNat
def k0_dev8 (d0 : Dev nD) : Nat :=
  let c0_i32_112 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_108 : BitVec 32 := 0#32
  let v161 : BitVec 32 := Scalar.xori v2 c0_i32_108
  let c4_i32_111 : BitVec 32 := 4#32
  let v163 : BitVec 32 := Scalar.muli v161 c4_i32_111
  let v164 : BitVec 32 := Scalar.addi c0_i32_112 v163
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_109 : BitVec 32 := 1#32
  let v162 : BitVec 32 := Scalar.xori v5 c1_i32_109
  let c2_i32_113 : BitVec 32 := 2#32
  let v165 : BitVec 32 := Scalar.muli v162 c2_i32_113
  let v166 : BitVec 32 := Scalar.addi v164 v165
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_114 : BitVec 32 := 1#32
  let v167 : BitVec 32 := Scalar.muli v8 c1_i32_114
  let v168 : BitVec 32 := Scalar.addi v166 v167
  v168.toNat
def k0_mult7 (d0 : Dev nD) : BitVec 32 :=
  let c2_i32_120 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_119 : BitVec 32 := 1#32
  let v177 : BitVec 32 := Scalar.xori v2 c1_i32_119
  let v178 : BitVec 32 := Scalar.muli c2_i32_120 v177
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_121 : BitVec 32 := 1#32
  let v179 : BitVec 32 := Scalar.xori v5 c1_i32_121
  let v180 : BitVec 32 := Scalar.addi v178 v179
  let c2048_i32_122 : BitVec 32 := 2048#32
  let v181 : BitVec 32 := Scalar.muli v180 c2048_i32_122
  v181
def k0_dev9 (d0 : Dev nD) : Nat :=
  let c0_i32_127 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_123 : BitVec 32 := 1#32
  let v183 : BitVec 32 := Scalar.xori v2 c1_i32_123
  let c4_i32_126 : BitVec 32 := 4#32
  let v185 : BitVec 32 := Scalar.muli v183 c4_i32_126
  let v186 : BitVec 32 := Scalar.addi c0_i32_127 v185
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_124 : BitVec 32 := 1#32
  let v184 : BitVec 32 := Scalar.xori v5 c1_i32_124
  let c2_i32_128 : BitVec 32 := 2#32
  let v187 : BitVec 32 := Scalar.muli v184 c2_i32_128
  let v188 : BitVec 32 := Scalar.addi v186 v187
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_129 : BitVec 32 := 1#32
  let v189 : BitVec 32 := Scalar.muli v8 c1_i32_129
  let v190 : BitVec 32 := Scalar.addi v188 v189
  v190.toNat
def k0_dev10 (d0 : Dev nD) : Nat :=
  let c0_i32_137 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_133 : BitVec 32 := 1#32
  let v198 : BitVec 32 := Scalar.xori v2 c1_i32_133
  let c4_i32_136 : BitVec 32 := 4#32
  let v200 : BitVec 32 := Scalar.muli v198 c4_i32_136
  let v201 : BitVec 32 := Scalar.addi c0_i32_137 v200
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_134 : BitVec 32 := 1#32
  let v199 : BitVec 32 := Scalar.xori v5 c1_i32_134
  let c2_i32_138 : BitVec 32 := 2#32
  let v202 : BitVec 32 := Scalar.muli v199 c2_i32_138
  let v203 : BitVec 32 := Scalar.addi v201 v202
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_139 : BitVec 32 := 1#32
  let v204 : BitVec 32 := Scalar.muli v8 c1_i32_139
  let v205 : BitVec 32 := Scalar.addi v203 v204
  v205.toNat
def k0_mult8 (d0 : Dev nD) : BitVec 32 :=
  let c2_i32_120 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_119 : BitVec 32 := 1#32
  let v177 : BitVec 32 := Scalar.xori v2 c1_i32_119
  let v178 : BitVec 32 := Scalar.muli c2_i32_120 v177
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_121 : BitVec 32 := 1#32
  let v179 : BitVec 32 := Scalar.xori v5 c1_i32_121
  let v180 : BitVec 32 := Scalar.addi v178 v179
  let c1152_i32_144 : BitVec 32 := 1152#32
  let v214 : BitVec 32 := Scalar.muli v180 c1152_i32_144
  v214
def k0_dev11 (d0 : Dev nD) : Nat :=
  let c0_i32_149 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_145 : BitVec 32 := 1#32
  let v216 : BitVec 32 := Scalar.xori v2 c1_i32_145
  let c4_i32_148 : BitVec 32 := 4#32
  let v218 : BitVec 32 := Scalar.muli v216 c4_i32_148
  let v219 : BitVec 32 := Scalar.addi c0_i32_149 v218
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_146 : BitVec 32 := 1#32
  let v217 : BitVec 32 := Scalar.xori v5 c1_i32_146
  let c2_i32_150 : BitVec 32 := 2#32
  let v220 : BitVec 32 := Scalar.muli v217 c2_i32_150
  let v221 : BitVec 32 := Scalar.addi v219 v220
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_151 : BitVec 32 := 1#32
  let v222 : BitVec 32 := Scalar.muli v8 c1_i32_151
  let v223 : BitVec 32 := Scalar.addi v221 v222
  v223.toNat
def k0_dev12 (d0 : Dev nD) : Nat :=
  let c0_i32_159 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_155 : BitVec 32 := 1#32
  let v231 : BitVec 32 := Scalar.xori v2 c1_i32_155
  let c4_i32_158 : BitVec 32 := 4#32
  let v233 : BitVec 32 := Scalar.muli v231 c4_i32_158
  let v234 : BitVec 32 := Scalar.addi c0_i32_159 v233
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_156 : BitVec 32 := 1#32
  let v232 : BitVec 32 := Scalar.xori v5 c1_i32_156
  let c2_i32_160 : BitVec 32 := 2#32
  let v235 : BitVec 32 := Scalar.muli v232 c2_i32_160
  let v236 : BitVec 32 := Scalar.addi v234 v235
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_161 : BitVec 32 := 1#32
  let v237 : BitVec 32 := Scalar.muli v8 c1_i32_161
  let v238 : BitVec 32 := Scalar.addi v236 v237
  v238.toNat
-- ==== ScatterRef.lean ====
abbrev S8192x8192 : Shape := ⟨2, ![8192, 8192]⟩
abbrev S32x256x2048 : Shape := ⟨3, ![32, 256, 2048]⟩
abbrev S8192x4608 : Shape := ⟨2, ![8192, 4608]⟩
abbrev S4x2x1024x4x2048 : Shape := ⟨5, ![4, 2, 1024, 4, 2048]⟩
abbrev S4x2x4x1024x2048 : Shape := ⟨5, ![4, 2, 4, 1024, 2048]⟩
abbrev S32x1024x2048 : Shape := ⟨3, ![32, 1024, 2048]⟩
abbrev S4x2x4x256x2048 : Shape := ⟨5, ![4, 2, 4, 256, 2048]⟩
abbrev S4x2x1024x4x1152 : Shape := ⟨5, ![4, 2, 1024, 4, 1152]⟩
abbrev S4x2x4x1024x1152 : Shape := ⟨5, ![4, 2, 4, 1024, 1152]⟩
abbrev S32x1024x1152 : Shape := ⟨3, ![32, 1024, 1152]⟩

abbrev nBuf : Space → Nat
  | .hbm => 16
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S32x256x2048, .bf16⟩
  | .hbm, ⟨2, _⟩ => ⟨S8192x4608, .bf16⟩
  | .hbm, ⟨3, _⟩ => ⟨S32x256x2048, .bf16⟩
  | .hbm, ⟨4, _⟩ => ⟨S4x2x1024x4x2048, .bf16⟩
  | .hbm, ⟨5, _⟩ => ⟨S4x2x4x1024x2048, .bf16⟩
  | .hbm, ⟨6, _⟩ => ⟨S32x1024x2048, .bf16⟩
  | .hbm, ⟨7, _⟩ => ⟨S4x2x4x256x2048, .bf16⟩
  | .hbm, ⟨8, _⟩ => ⟨S4x2x4x256x2048, .bf16⟩
  | .hbm, ⟨9, _⟩ => ⟨S32x256x2048, .bf16⟩
  | .hbm, ⟨10, _⟩ => ⟨S4x2x1024x4x1152, .bf16⟩
  | .hbm, ⟨11, _⟩ => ⟨S4x2x4x1024x1152, .bf16⟩
  | .hbm, ⟨12, _⟩ => ⟨S32x1024x1152, .bf16⟩
  | .hbm, ⟨13, _⟩ => ⟨S4x2x4x256x2048, .bf16⟩
  | .hbm, ⟨14, _⟩ => ⟨S4x2x4x256x2048, .bf16⟩
  | .hbm, ⟨15, _⟩ => ⟨S32x256x2048, .bf16⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Share.lean ====
abbrev S1024x2048 : Shape := ⟨2, ![1024, 2048]⟩
abbrev S256x2048 : Shape := ⟨2, ![256, 2048]⟩
abbrev S1024x1152 : Shape := ⟨2, ![1024, 1152]⟩
abbrev S2048x2048 : Shape := ⟨2, ![2048, 2048]⟩
abbrev S512x2048 : Shape := ⟨2, ![512, 2048]⟩
abbrev S2048x1152 : Shape := ⟨2, ![2048, 1152]⟩
abbrev S4 : Shape := ⟨1, ![4]⟩
abbrev S1 : Shape := ⟨1, ![1]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S256x2048, .f32⟩
  | .hbm, ⟨2, _⟩ => ⟨S1024x1152, .f32⟩
  | .hbm, ⟨3, _⟩ => ⟨S256x2048, .f32⟩
  | .hbm, ⟨4, _⟩ => ⟨S2048x2048, .f32⟩
  | .hbm, ⟨5, _⟩ => ⟨S512x2048, .f32⟩
  | .hbm, ⟨6, _⟩ => ⟨S2048x1152, .f32⟩
  | .hbm, ⟨7, _⟩ => ⟨S512x2048, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩

abbrev nD : Nat := 8
abbrev τ : Topo := Topo.v7x

variable {F : FTy → Type} [FloatOps F]

abbrev grid0 : Pipeline.Grid := .none

def k0_mult1 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v9 : BitVec 32 := Scalar.muli v8 c1024_i32
  v9
def k0_off1 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v9 : BitVec 32 := Scalar.muli v8 c1024_i32
  let v10 : BitVec 32 := v9
  let c0_i32_3 : BitVec 32 := 0#32
  ![v10.toNat, 0]
def k0_mult2 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_4 : BitVec 32 := 1024#32
  let v14 : BitVec 32 := Scalar.muli v8 c1024_i32_4
  v14
def k0_dev1 (d0 : Dev nD) : Nat :=
  let c0_i32_9 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_8 : BitVec 32 := 4#32
  let v17 : BitVec 32 := Scalar.muli v2 c4_i32_8
  let v18 : BitVec 32 := Scalar.addi c0_i32_9 v17
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_10 : BitVec 32 := 2#32
  let v19 : BitVec 32 := Scalar.muli v5 c2_i32_10
  let v20 : BitVec 32 := Scalar.addi v18 v19
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.subi c1_i32_5 v8
  let c1_i32_11 : BitVec 32 := 1#32
  let v21 : BitVec 32 := Scalar.muli v16 c1_i32_11
  let v22 : BitVec 32 := Scalar.addi v20 v21
  v22.toNat
def k0_mult3 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32 : BitVec 32 := 256#32
  let v28 : BitVec 32 := Scalar.muli v8 c256_i32
  v28
def k0_off2 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32 : BitVec 32 := 256#32
  let v28 : BitVec 32 := Scalar.muli v8 c256_i32
  let v29 : BitVec 32 := v28
  let c0_i32_14 : BitVec 32 := 0#32
  ![v29.toNat, 0]
def k0_mult4 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_15 : BitVec 32 := 256#32
  let v33 : BitVec 32 := Scalar.muli v8 c256_i32_15
  v33
def k0_dev2 (d0 : Dev nD) : Nat :=
  let c0_i32_20 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_19 : BitVec 32 := 4#32
  let v36 : BitVec 32 := Scalar.muli v2 c4_i32_19
  let v37 : BitVec 32 := Scalar.addi c0_i32_20 v36
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_21 : BitVec 32 := 2#32
  let v38 : BitVec 32 := Scalar.muli v5 c2_i32_21
  let v39 : BitVec 32 := Scalar.addi v37 v38
  let c1_i32_16 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.subi c1_i32_16 v8
  let c1_i32_22 : BitVec 32 := 1#32
  let v40 : BitVec 32 := Scalar.muli v35 c1_i32_22
  let v41 : BitVec 32 := Scalar.addi v39 v40
  v41.toNat
def k0_mult5 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_24 : BitVec 32 := 1024#32
  let v47 : BitVec 32 := Scalar.muli v8 c1024_i32_24
  v47
def k0_off3 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_24 : BitVec 32 := 1024#32
  let v47 : BitVec 32 := Scalar.muli v8 c1024_i32_24
  let v48 : BitVec 32 := v47
  let c0_i32_26 : BitVec 32 := 0#32
  ![v48.toNat, 0]
def k0_mult6 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_27 : BitVec 32 := 1024#32
  let v52 : BitVec 32 := Scalar.muli v8 c1024_i32_27
  v52
def k0_dev3 (d0 : Dev nD) : Nat :=
  let c0_i32_32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_31 : BitVec 32 := 4#32
  let v55 : BitVec 32 := Scalar.muli v2 c4_i32_31
  let v56 : BitVec 32 := Scalar.addi c0_i32_32 v55
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_33 : BitVec 32 := 2#32
  let v57 : BitVec 32 := Scalar.muli v5 c2_i32_33
  let v58 : BitVec 32 := Scalar.addi v56 v57
  let c1_i32_28 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v54 : BitVec 32 := Scalar.subi c1_i32_28 v8
  let c1_i32_34 : BitVec 32 := 1#32
  let v59 : BitVec 32 := Scalar.muli v54 c1_i32_34
  let v60 : BitVec 32 := Scalar.addi v58 v59
  v60.toNat
def k0_mult7 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_36 : BitVec 32 := 256#32
  let v66 : BitVec 32 := Scalar.muli v8 c256_i32_36
  v66
def k0_mult8 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_38 : BitVec 32 := 256#32
  let v71 : BitVec 32 := Scalar.muli v8 c256_i32_38
  v71
def k0_dev4 (d0 : Dev nD) : Nat :=
  let c0_i32_43 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_42 : BitVec 32 := 4#32
  let v74 : BitVec 32 := Scalar.muli v2 c4_i32_42
  let v75 : BitVec 32 := Scalar.addi c0_i32_43 v74
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_44 : BitVec 32 := 2#32
  let v76 : BitVec 32 := Scalar.muli v5 c2_i32_44
  let v77 : BitVec 32 := Scalar.addi v75 v76
  let c1_i32_39 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v73 : BitVec 32 := Scalar.subi c1_i32_39 v8
  let c1_i32_45 : BitVec 32 := 1#32
  let v78 : BitVec 32 := Scalar.muli v73 c1_i32_45
  let v79 : BitVec 32 := Scalar.addi v77 v78
  v79.toNat
-- ==== ShareRef.lean ====
abbrev S8192x2048 : Shape := ⟨2, ![8192, 2048]⟩
abbrev S2048x2048 : Shape := ⟨2, ![2048, 2048]⟩
abbrev S8192x1152 : Shape := ⟨2, ![8192, 1152]⟩

abbrev nBuf : Space → Nat
  | .hbm => 4
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x1152, .f32⟩
  | .hbm, ⟨3, _⟩ => ⟨S2048x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩

abbrev nD : Nat := 1
abbrev τ : Topo := Topo.v7x

variable {F : FTy → Type} [FloatOps F]
-- ==== Gather.lean ====
abbrev S2048x2048 : Shape := ⟨2, ![2048, 2048]⟩
abbrev S512x2048 : Shape := ⟨2, ![512, 2048]⟩
abbrev S2048x1152 : Shape := ⟨2, ![2048, 1152]⟩
abbrev S8x512 : Shape := ⟨2, ![8, 512]⟩
abbrev S2048x8192 : Shape := ⟨2, ![2048, 8192]⟩
abbrev S2048x4608 : Shape := ⟨2, ![2048, 4608]⟩
abbrev S4x8x512 : Shape := ⟨3, ![4, 8, 512]⟩
abbrev S12 : Shape := ⟨1, ![12]⟩
abbrev S3 : Shape := ⟨1, ![3]⟩
abbrev S5 : Shape := ⟨1, ![5]⟩
abbrev S1 : Shape := ⟨1, ![1]⟩
abbrev S_ : Shape := ⟨0, ![]⟩
abbrev S1x8x512 : Shape := ⟨3, ![1, 8, 512]⟩
abbrev S1024x2048 : Shape := ⟨2, ![1024, 2048]⟩
abbrev S256x2048 : Shape := ⟨2, ![256, 2048]⟩
abbrev S1024x1152 : Shape := ⟨2, ![1024, 1152]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S512x2048, .bf16⟩
  | .hbm, ⟨2, _⟩ => ⟨S2048x1152, .bf16⟩
  | .hbm, ⟨3, _⟩ => ⟨S512x2048, .bf16⟩
  | .hbm, ⟨4, _⟩ => ⟨S8x512, .f32⟩
  | .hbm, ⟨5, _⟩ => ⟨S2048x8192, .bf16⟩
  | .hbm, ⟨6, _⟩ => ⟨S2048x2048, .bf16⟩
  | .hbm, ⟨7, _⟩ => ⟨S2048x4608, .bf16⟩
  | .hbm, ⟨8, _⟩ => ⟨S2048x2048, .bf16⟩
  | .hbm, ⟨9, _⟩ => ⟨S4x8x512, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 59 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | _ => false

abbrev sig : RefSig :=
  ofTc nBuf bufTy 0 59 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v1_4 : Ref sig .tc := ⟨.hbm, 9, rfl⟩

abbrev nD : Nat := 8
abbrev τ : Topo := Topo.v7x

variable {F : FTy → Type} [FloatOps F]

abbrev grid0 : Pipeline.Grid := .none

def k0_mult1 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c2048_i32 : BitVec 32 := 2048#32
  let v11 : BitVec 32 := Scalar.muli v10 c2048_i32
  v11
def k0_mult2 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c512_i32 : BitVec 32 := 512#32
  let v13 : BitVec 32 := Scalar.muli v10 c512_i32
  v13
def k0_mult3 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c1152_i32 : BitVec 32 := 1152#32
  let v15 : BitVec 32 := Scalar.muli v10 c1152_i32
  v15
def k0_mult4 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c512_i32_4 : BitVec 32 := 512#32
  let v17 : BitVec 32 := Scalar.muli v10 c512_i32_4
  v17
def k0_off1 (d0 : Dev nD) : Fin 2 → Nat :=
  let c0_i32_5 : BitVec 32 := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c2048_i32 : BitVec 32 := 2048#32
  let v11 : BitVec 32 := Scalar.muli v10 c2048_i32
  let v12 : BitVec 32 := v11
  ![0, v12.toNat]
def k0_off2 (d0 : Dev nD) : Fin 2 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c512_i32 : BitVec 32 := 512#32
  let v13 : BitVec 32 := Scalar.muli v10 c512_i32
  let v14 : BitVec 32 := v13
  let c0_i32_7 : BitVec 32 := 0#32
  ![v14.toNat, 0]
def k0_off3 (d0 : Dev nD) : Fin 2 → Nat :=
  let c0_i32_9 : BitVec 32 := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c1152_i32 : BitVec 32 := 1152#32
  let v15 : BitVec 32 := Scalar.muli v10 c1152_i32
  let v16 : BitVec 32 := v15
  ![0, v16.toNat]
def k0_off4 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_12 : BitVec 32 := 0#32
  let c0_i32_13 : BitVec 32 := 0#32
  ![v10.toNat, 0, 0]
def k0_mult5 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v37 : BitVec 32 := Scalar.muli v8 c1024_i32
  v37
def k0_mult6 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c2048_i32_16 : BitVec 32 := 2048#32
  let v39 : BitVec 32 := Scalar.muli v10 c2048_i32_16
  v39
def k0_mult7 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_17 : BitVec 32 := 1024#32
  let v41 : BitVec 32 := Scalar.muli v8 c1024_i32_17
  v41
def k0_off5 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_17 : BitVec 32 := 1024#32
  let v41 : BitVec 32 := Scalar.muli v8 c1024_i32_17
  let v42 : BitVec 32 := v41
  let c0_i32_25 : BitVec 32 := 0#32
  ![v42.toNat, 0]
def k0_off6 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_17 : BitVec 32 := 1024#32
  let v41 : BitVec 32 := Scalar.muli v8 c1024_i32_17
  let v42 : BitVec 32 := v41
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c2048_i32_16 : BitVec 32 := 2048#32
  let v39 : BitVec 32 := Scalar.muli v10 c2048_i32_16
  let v40 : BitVec 32 := v39
  ![v42.toNat, v40.toNat]
def k0_dev1 (d0 : Dev nD) : Nat :=
  let c0_i32_21 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_14 : BitVec 32 := 1#32
  let v35 : BitVec 32 := Scalar.xori v2 c1_i32_14
  let c4_i32_20 : BitVec 32 := 4#32
  let v43 : BitVec 32 := Scalar.muli v35 c4_i32_20
  let v44 : BitVec 32 := Scalar.addi c0_i32_21 v43
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_15 : BitVec 32 := 0#32
  let v36 : BitVec 32 := Scalar.xori v5 c0_i32_15
  let c2_i32_22 : BitVec 32 := 2#32
  let v45 : BitVec 32 := Scalar.muli v36 c2_i32_22
  let v46 : BitVec 32 := Scalar.addi v44 v45
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_23 : BitVec 32 := 1#32
  let v47 : BitVec 32 := Scalar.muli v8 c1_i32_23
  let v48 : BitVec 32 := Scalar.addi v46 v47
  v48.toNat
def k0_mult8 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32 : BitVec 32 := 256#32
  let v56 : BitVec 32 := Scalar.muli v8 c256_i32
  v56
def k0_mult9 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c512_i32_27 : BitVec 32 := 512#32
  let v58 : BitVec 32 := Scalar.muli v10 c512_i32_27
  v58
def k0_mult10 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_28 : BitVec 32 := 256#32
  let v60 : BitVec 32 := Scalar.muli v8 c256_i32_28
  v60
def k0_off7 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_28 : BitVec 32 := 256#32
  let v60 : BitVec 32 := Scalar.muli v8 c256_i32_28
  let v61 : BitVec 32 := v60
  let c0_i32_36 : BitVec 32 := 0#32
  ![v61.toNat, 0]
def k0_off8 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_28 : BitVec 32 := 256#32
  let v60 : BitVec 32 := Scalar.muli v8 c256_i32_28
  let v61 : BitVec 32 := v60
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c512_i32_27 : BitVec 32 := 512#32
  let v58 : BitVec 32 := Scalar.muli v10 c512_i32_27
  let v59 : BitVec 32 := v58
  let c0_i32_35 : BitVec 32 := 0#32
  ![Nat.add v61.toNat v59.toNat, 0]
def k0_dev2 (d0 : Dev nD) : Nat :=
  let c0_i32_32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_14 : BitVec 32 := 1#32
  let v35 : BitVec 32 := Scalar.xori v2 c1_i32_14
  let c4_i32_31 : BitVec 32 := 4#32
  let v62 : BitVec 32 := Scalar.muli v35 c4_i32_31
  let v63 : BitVec 32 := Scalar.addi c0_i32_32 v62
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_15 : BitVec 32 := 0#32
  let v36 : BitVec 32 := Scalar.xori v5 c0_i32_15
  let c2_i32_33 : BitVec 32 := 2#32
  let v64 : BitVec 32 := Scalar.muli v36 c2_i32_33
  let v65 : BitVec 32 := Scalar.addi v63 v64
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_34 : BitVec 32 := 1#32
  let v66 : BitVec 32 := Scalar.muli v8 c1_i32_34
  let v67 : BitVec 32 := Scalar.addi v65 v66
  v67.toNat
def k0_mult11 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_38 : BitVec 32 := 1024#32
  let v75 : BitVec 32 := Scalar.muli v8 c1024_i32_38
  v75
def k0_mult12 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c1152_i32_39 : BitVec 32 := 1152#32
  let v77 : BitVec 32 := Scalar.muli v10 c1152_i32_39
  v77
def k0_mult13 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_40 : BitVec 32 := 1024#32
  let v79 : BitVec 32 := Scalar.muli v8 c1024_i32_40
  v79
def k0_off9 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_40 : BitVec 32 := 1024#32
  let v79 : BitVec 32 := Scalar.muli v8 c1024_i32_40
  let v80 : BitVec 32 := v79
  let c0_i32_48 : BitVec 32 := 0#32
  ![v80.toNat, 0]
def k0_off10 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_40 : BitVec 32 := 1024#32
  let v79 : BitVec 32 := Scalar.muli v8 c1024_i32_40
  let v80 : BitVec 32 := v79
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c1152_i32_39 : BitVec 32 := 1152#32
  let v77 : BitVec 32 := Scalar.muli v10 c1152_i32_39
  let v78 : BitVec 32 := v77
  ![v80.toNat, v78.toNat]
def k0_dev3 (d0 : Dev nD) : Nat :=
  let c0_i32_44 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_14 : BitVec 32 := 1#32
  let v35 : BitVec 32 := Scalar.xori v2 c1_i32_14
  let c4_i32_43 : BitVec 32 := 4#32
  let v81 : BitVec 32 := Scalar.muli v35 c4_i32_43
  let v82 : BitVec 32 := Scalar.addi c0_i32_44 v81
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_15 : BitVec 32 := 0#32
  let v36 : BitVec 32 := Scalar.xori v5 c0_i32_15
  let c2_i32_45 : BitVec 32 := 2#32
  let v83 : BitVec 32 := Scalar.muli v36 c2_i32_45
  let v84 : BitVec 32 := Scalar.addi v82 v83
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_46 : BitVec 32 := 1#32
  let v85 : BitVec 32 := Scalar.muli v8 c1_i32_46
  let v86 : BitVec 32 := Scalar.addi v84 v85
  v86.toNat
def k0_mult14 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_50 : BitVec 32 := 256#32
  let v94 : BitVec 32 := Scalar.muli v8 c256_i32_50
  v94
def k0_mult15 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c512_i32_51 : BitVec 32 := 512#32
  let v96 : BitVec 32 := Scalar.muli v10 c512_i32_51
  v96
def k0_mult16 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_52 : BitVec 32 := 256#32
  let v98 : BitVec 32 := Scalar.muli v8 c256_i32_52
  v98
def k0_dev4 (d0 : Dev nD) : Nat :=
  let c0_i32_56 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_14 : BitVec 32 := 1#32
  let v35 : BitVec 32 := Scalar.xori v2 c1_i32_14
  let c4_i32_55 : BitVec 32 := 4#32
  let v100 : BitVec 32 := Scalar.muli v35 c4_i32_55
  let v101 : BitVec 32 := Scalar.addi c0_i32_56 v100
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_15 : BitVec 32 := 0#32
  let v36 : BitVec 32 := Scalar.xori v5 c0_i32_15
  let c2_i32_57 : BitVec 32 := 2#32
  let v102 : BitVec 32 := Scalar.muli v36 c2_i32_57
  let v103 : BitVec 32 := Scalar.addi v101 v102
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_58 : BitVec 32 := 1#32
  let v104 : BitVec 32 := Scalar.muli v8 c1_i32_58
  let v105 : BitVec 32 := Scalar.addi v103 v104
  v105.toNat
def k0_dev5 (d0 : Dev nD) : Nat :=
  let c0_i32_65 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_14 : BitVec 32 := 1#32
  let v35 : BitVec 32 := Scalar.xori v2 c1_i32_14
  let c4_i32_64 : BitVec 32 := 4#32
  let v113 : BitVec 32 := Scalar.muli v35 c4_i32_64
  let v114 : BitVec 32 := Scalar.addi c0_i32_65 v113
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_15 : BitVec 32 := 0#32
  let v36 : BitVec 32 := Scalar.xori v5 c0_i32_15
  let c2_i32_66 : BitVec 32 := 2#32
  let v115 : BitVec 32 := Scalar.muli v36 c2_i32_66
  let v116 : BitVec 32 := Scalar.addi v114 v115
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_67 : BitVec 32 := 1#32
  let v117 : BitVec 32 := Scalar.muli v8 c1_i32_67
  let v118 : BitVec 32 := Scalar.addi v116 v117
  v118.toNat
def k0_mult17 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_72 : BitVec 32 := 1024#32
  let v127 : BitVec 32 := Scalar.muli v8 c1024_i32_72
  v127
def k0_mult18 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c2048_i32_73 : BitVec 32 := 2048#32
  let v129 : BitVec 32 := Scalar.muli v10 c2048_i32_73
  v129
def k0_mult19 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_74 : BitVec 32 := 1024#32
  let v131 : BitVec 32 := Scalar.muli v8 c1024_i32_74
  v131
def k0_dev6 (d0 : Dev nD) : Nat :=
  let c0_i32_78 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_70 : BitVec 32 := 0#32
  let v125 : BitVec 32 := Scalar.xori v2 c0_i32_70
  let c4_i32_77 : BitVec 32 := 4#32
  let v133 : BitVec 32 := Scalar.muli v125 c4_i32_77
  let v134 : BitVec 32 := Scalar.addi c0_i32_78 v133
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_71 : BitVec 32 := 1#32
  let v126 : BitVec 32 := Scalar.xori v5 c1_i32_71
  let c2_i32_79 : BitVec 32 := 2#32
  let v135 : BitVec 32 := Scalar.muli v126 c2_i32_79
  let v136 : BitVec 32 := Scalar.addi v134 v135
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_80 : BitVec 32 := 1#32
  let v137 : BitVec 32 := Scalar.muli v8 c1_i32_80
  let v138 : BitVec 32 := Scalar.addi v136 v137
  v138.toNat
def k0_mult20 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_84 : BitVec 32 := 256#32
  let v146 : BitVec 32 := Scalar.muli v8 c256_i32_84
  v146
def k0_mult21 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c512_i32_85 : BitVec 32 := 512#32
  let v148 : BitVec 32 := Scalar.muli v10 c512_i32_85
  v148
def k0_mult22 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_86 : BitVec 32 := 256#32
  let v150 : BitVec 32 := Scalar.muli v8 c256_i32_86
  v150
def k0_dev7 (d0 : Dev nD) : Nat :=
  let c0_i32_89 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_70 : BitVec 32 := 0#32
  let v125 : BitVec 32 := Scalar.xori v2 c0_i32_70
  let c4_i32_88 : BitVec 32 := 4#32
  let v152 : BitVec 32 := Scalar.muli v125 c4_i32_88
  let v153 : BitVec 32 := Scalar.addi c0_i32_89 v152
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_71 : BitVec 32 := 1#32
  let v126 : BitVec 32 := Scalar.xori v5 c1_i32_71
  let c2_i32_90 : BitVec 32 := 2#32
  let v154 : BitVec 32 := Scalar.muli v126 c2_i32_90
  let v155 : BitVec 32 := Scalar.addi v153 v154
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_91 : BitVec 32 := 1#32
  let v156 : BitVec 32 := Scalar.muli v8 c1_i32_91
  let v157 : BitVec 32 := Scalar.addi v155 v156
  v157.toNat
def k0_mult23 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_95 : BitVec 32 := 1024#32
  let v165 : BitVec 32 := Scalar.muli v8 c1024_i32_95
  v165
def k0_mult24 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c1152_i32_96 : BitVec 32 := 1152#32
  let v167 : BitVec 32 := Scalar.muli v10 c1152_i32_96
  v167
def k0_mult25 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_97 : BitVec 32 := 1024#32
  let v169 : BitVec 32 := Scalar.muli v8 c1024_i32_97
  v169
def k0_dev8 (d0 : Dev nD) : Nat :=
  let c0_i32_100 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_70 : BitVec 32 := 0#32
  let v125 : BitVec 32 := Scalar.xori v2 c0_i32_70
  let c4_i32_99 : BitVec 32 := 4#32
  let v171 : BitVec 32 := Scalar.muli v125 c4_i32_99
  let v172 : BitVec 32 := Scalar.addi c0_i32_100 v171
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_71 : BitVec 32 := 1#32
  let v126 : BitVec 32 := Scalar.xori v5 c1_i32_71
  let c2_i32_101 : BitVec 32 := 2#32
  let v173 : BitVec 32 := Scalar.muli v126 c2_i32_101
  let v174 : BitVec 32 := Scalar.addi v172 v173
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_102 : BitVec 32 := 1#32
  let v175 : BitVec 32 := Scalar.muli v8 c1_i32_102
  let v176 : BitVec 32 := Scalar.addi v174 v175
  v176.toNat
def k0_mult26 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_106 : BitVec 32 := 256#32
  let v184 : BitVec 32 := Scalar.muli v8 c256_i32_106
  v184
def k0_mult27 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c512_i32_107 : BitVec 32 := 512#32
  let v186 : BitVec 32 := Scalar.muli v10 c512_i32_107
  v186
def k0_mult28 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_108 : BitVec 32 := 256#32
  let v188 : BitVec 32 := Scalar.muli v8 c256_i32_108
  v188
def k0_dev9 (d0 : Dev nD) : Nat :=
  let c0_i32_111 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_70 : BitVec 32 := 0#32
  let v125 : BitVec 32 := Scalar.xori v2 c0_i32_70
  let c4_i32_110 : BitVec 32 := 4#32
  let v190 : BitVec 32 := Scalar.muli v125 c4_i32_110
  let v191 : BitVec 32 := Scalar.addi c0_i32_111 v190
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_71 : BitVec 32 := 1#32
  let v126 : BitVec 32 := Scalar.xori v5 c1_i32_71
  let c2_i32_112 : BitVec 32 := 2#32
  let v192 : BitVec 32 := Scalar.muli v126 c2_i32_112
  let v193 : BitVec 32 := Scalar.addi v191 v192
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_113 : BitVec 32 := 1#32
  let v194 : BitVec 32 := Scalar.muli v8 c1_i32_113
  let v195 : BitVec 32 := Scalar.addi v193 v194
  v195.toNat
def k0_dev10 (d0 : Dev nD) : Nat :=
  let c0_i32_120 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_70 : BitVec 32 := 0#32
  let v125 : BitVec 32 := Scalar.xori v2 c0_i32_70
  let c4_i32_119 : BitVec 32 := 4#32
  let v203 : BitVec 32 := Scalar.muli v125 c4_i32_119
  let v204 : BitVec 32 := Scalar.addi c0_i32_120 v203
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_71 : BitVec 32 := 1#32
  let v126 : BitVec 32 := Scalar.xori v5 c1_i32_71
  let c2_i32_121 : BitVec 32 := 2#32
  let v205 : BitVec 32 := Scalar.muli v126 c2_i32_121
  let v206 : BitVec 32 := Scalar.addi v204 v205
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_122 : BitVec 32 := 1#32
  let v207 : BitVec 32 := Scalar.muli v8 c1_i32_122
  let v208 : BitVec 32 := Scalar.addi v206 v207
  v208.toNat
def k0_mult29 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_127 : BitVec 32 := 1024#32
  let v217 : BitVec 32 := Scalar.muli v8 c1024_i32_127
  v217
def k0_mult30 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c2048_i32_128 : BitVec 32 := 2048#32
  let v219 : BitVec 32 := Scalar.muli v10 c2048_i32_128
  v219
def k0_mult31 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_129 : BitVec 32 := 1024#32
  let v221 : BitVec 32 := Scalar.muli v8 c1024_i32_129
  v221
def k0_dev11 (d0 : Dev nD) : Nat :=
  let c0_i32_132 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_125 : BitVec 32 := 1#32
  let v215 : BitVec 32 := Scalar.xori v2 c1_i32_125
  let c4_i32_131 : BitVec 32 := 4#32
  let v223 : BitVec 32 := Scalar.muli v215 c4_i32_131
  let v224 : BitVec 32 := Scalar.addi c0_i32_132 v223
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_126 : BitVec 32 := 1#32
  let v216 : BitVec 32 := Scalar.xori v5 c1_i32_126
  let c2_i32_133 : BitVec 32 := 2#32
  let v225 : BitVec 32 := Scalar.muli v216 c2_i32_133
  let v226 : BitVec 32 := Scalar.addi v224 v225
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_134 : BitVec 32 := 1#32
  let v227 : BitVec 32 := Scalar.muli v8 c1_i32_134
  let v228 : BitVec 32 := Scalar.addi v226 v227
  v228.toNat
def k0_mult32 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_138 : BitVec 32 := 256#32
  let v236 : BitVec 32 := Scalar.muli v8 c256_i32_138
  v236
def k0_mult33 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c512_i32_139 : BitVec 32 := 512#32
  let v238 : BitVec 32 := Scalar.muli v10 c512_i32_139
  v238
def k0_mult34 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_140 : BitVec 32 := 256#32
  let v240 : BitVec 32 := Scalar.muli v8 c256_i32_140
  v240
def k0_dev12 (d0 : Dev nD) : Nat :=
  let c0_i32_143 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_125 : BitVec 32 := 1#32
  let v215 : BitVec 32 := Scalar.xori v2 c1_i32_125
  let c4_i32_142 : BitVec 32 := 4#32
  let v242 : BitVec 32 := Scalar.muli v215 c4_i32_142
  let v243 : BitVec 32 := Scalar.addi c0_i32_143 v242
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_126 : BitVec 32 := 1#32
  let v216 : BitVec 32 := Scalar.xori v5 c1_i32_126
  let c2_i32_144 : BitVec 32 := 2#32
  let v244 : BitVec 32 := Scalar.muli v216 c2_i32_144
  let v245 : BitVec 32 := Scalar.addi v243 v244
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_145 : BitVec 32 := 1#32
  let v246 : BitVec 32 := Scalar.muli v8 c1_i32_145
  let v247 : BitVec 32 := Scalar.addi v245 v246
  v247.toNat
def k0_mult35 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_149 : BitVec 32 := 1024#32
  let v255 : BitVec 32 := Scalar.muli v8 c1024_i32_149
  v255
def k0_mult36 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c1152_i32_150 : BitVec 32 := 1152#32
  let v257 : BitVec 32 := Scalar.muli v10 c1152_i32_150
  v257
def k0_mult37 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_151 : BitVec 32 := 1024#32
  let v259 : BitVec 32 := Scalar.muli v8 c1024_i32_151
  v259
def k0_dev13 (d0 : Dev nD) : Nat :=
  let c0_i32_154 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_125 : BitVec 32 := 1#32
  let v215 : BitVec 32 := Scalar.xori v2 c1_i32_125
  let c4_i32_153 : BitVec 32 := 4#32
  let v261 : BitVec 32 := Scalar.muli v215 c4_i32_153
  let v262 : BitVec 32 := Scalar.addi c0_i32_154 v261
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_126 : BitVec 32 := 1#32
  let v216 : BitVec 32 := Scalar.xori v5 c1_i32_126
  let c2_i32_155 : BitVec 32 := 2#32
  let v263 : BitVec 32 := Scalar.muli v216 c2_i32_155
  let v264 : BitVec 32 := Scalar.addi v262 v263
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_156 : BitVec 32 := 1#32
  let v265 : BitVec 32 := Scalar.muli v8 c1_i32_156
  let v266 : BitVec 32 := Scalar.addi v264 v265
  v266.toNat
def k0_mult38 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_160 : BitVec 32 := 256#32
  let v274 : BitVec 32 := Scalar.muli v8 c256_i32_160
  v274
def k0_mult39 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c512_i32_161 : BitVec 32 := 512#32
  let v276 : BitVec 32 := Scalar.muli v10 c512_i32_161
  v276
def k0_mult40 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_162 : BitVec 32 := 256#32
  let v278 : BitVec 32 := Scalar.muli v8 c256_i32_162
  v278
def k0_dev14 (d0 : Dev nD) : Nat :=
  let c0_i32_165 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_125 : BitVec 32 := 1#32
  let v215 : BitVec 32 := Scalar.xori v2 c1_i32_125
  let c4_i32_164 : BitVec 32 := 4#32
  let v280 : BitVec 32 := Scalar.muli v215 c4_i32_164
  let v281 : BitVec 32 := Scalar.addi c0_i32_165 v280
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_126 : BitVec 32 := 1#32
  let v216 : BitVec 32 := Scalar.xori v5 c1_i32_126
  let c2_i32_166 : BitVec 32 := 2#32
  let v282 : BitVec 32 := Scalar.muli v216 c2_i32_166
  let v283 : BitVec 32 := Scalar.addi v281 v282
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_167 : BitVec 32 := 1#32
  let v284 : BitVec 32 := Scalar.muli v8 c1_i32_167
  let v285 : BitVec 32 := Scalar.addi v283 v284
  v285.toNat
def k0_dev15 (d0 : Dev nD) : Nat :=
  let c0_i32_174 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_125 : BitVec 32 := 1#32
  let v215 : BitVec 32 := Scalar.xori v2 c1_i32_125
  let c4_i32_173 : BitVec 32 := 4#32
  let v293 : BitVec 32 := Scalar.muli v215 c4_i32_173
  let v294 : BitVec 32 := Scalar.addi c0_i32_174 v293
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_126 : BitVec 32 := 1#32
  let v216 : BitVec 32 := Scalar.xori v5 c1_i32_126
  let c2_i32_175 : BitVec 32 := 2#32
  let v295 : BitVec 32 := Scalar.muli v216 c2_i32_175
  let v296 : BitVec 32 := Scalar.addi v294 v295
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_176 : BitVec 32 := 1#32
  let v297 : BitVec 32 := Scalar.muli v8 c1_i32_176
  let v298 : BitVec 32 := Scalar.addi v296 v297
  v298.toNat
def k0_mult41 (d0 : Dev nD) : BitVec 32 :=
  let c2_i32_181 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_180 : BitVec 32 := 1#32
  let v306 : BitVec 32 := Scalar.xori v2 c1_i32_180
  let v307 : BitVec 32 := Scalar.muli c2_i32_181 v306
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_182 : BitVec 32 := 0#32
  let v308 : BitVec 32 := Scalar.xori v5 c0_i32_182
  let v309 : BitVec 32 := Scalar.addi v307 v308
  let c2048_i32_183 : BitVec 32 := 2048#32
  let v310 : BitVec 32 := Scalar.muli v309 c2048_i32_183
  v310
def k0_mult42 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_184 : BitVec 32 := 1024#32
  let v312 : BitVec 32 := Scalar.muli v8 c1024_i32_184
  v312
def k0_off11 (d0 : Dev nD) (c1_i32_180 : BitVec 32) (c0_i32_182 : BitVec 32) : Fin 2 → Nat :=
  let c0_i32_191 : BitVec 32 := 0#32
  let c2_i32_181 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v306 : BitVec 32 := Scalar.xori v2 c1_i32_180
  let v307 : BitVec 32 := Scalar.muli c2_i32_181 v306
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v308 : BitVec 32 := Scalar.xori v5 c0_i32_182
  let v309 : BitVec 32 := Scalar.addi v307 v308
  let c2048_i32_183 : BitVec 32 := 2048#32
  let v310 : BitVec 32 := Scalar.muli v309 c2048_i32_183
  let v311 : BitVec 32 := v310
  ![0, v311.toNat]
def k0_off11_at (r : Fin 3) : BitVec 32 × BitVec 32 :=
  if r.val < 1 then
    (1#32, 0#32)
  else
    if r.val < 2 then
      (0#32, 1#32)
    else
      (1#32, 1#32)
def k0_off12 (d0 : Dev nD) (c1_i32_180 : BitVec 32) (c0_i32_182 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_184 : BitVec 32 := 1024#32
  let v312 : BitVec 32 := Scalar.muli v8 c1024_i32_184
  let v313 : BitVec 32 := v312
  let c2_i32_181 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v306 : BitVec 32 := Scalar.xori v2 c1_i32_180
  let v307 : BitVec 32 := Scalar.muli c2_i32_181 v306
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v308 : BitVec 32 := Scalar.xori v5 c0_i32_182
  let v309 : BitVec 32 := Scalar.addi v307 v308
  let c2048_i32_183 : BitVec 32 := 2048#32
  let v310 : BitVec 32 := Scalar.muli v309 c2048_i32_183
  let v311 : BitVec 32 := v310
  ![v313.toNat, v311.toNat]
def k0_off12_at (r : Fin 3) : BitVec 32 × BitVec 32 :=
  if r.val < 1 then
    (1#32, 0#32)
  else
    if r.val < 2 then
      (0#32, 1#32)
    else
      (1#32, 1#32)
def k0_dev16 (d0 : Dev nD) : Nat :=
  let c0_i32_198 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_197 : BitVec 32 := 4#32
  let v326 : BitVec 32 := Scalar.muli v2 c4_i32_197
  let v327 : BitVec 32 := Scalar.addi c0_i32_198 v326
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_199 : BitVec 32 := 2#32
  let v328 : BitVec 32 := Scalar.muli v5 c2_i32_199
  let v329 : BitVec 32 := Scalar.addi v327 v328
  let c1_i32_179 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v305 : BitVec 32 := Scalar.subi c1_i32_179 v8
  let c1_i32_200 : BitVec 32 := 1#32
  let v330 : BitVec 32 := Scalar.muli v305 c1_i32_200
  let v331 : BitVec 32 := Scalar.addi v329 v330
  v331.toNat
def k0_mult43 (d0 : Dev nD) : BitVec 32 :=
  let c2_i32_181 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_180 : BitVec 32 := 1#32
  let v306 : BitVec 32 := Scalar.xori v2 c1_i32_180
  let v307 : BitVec 32 := Scalar.muli c2_i32_181 v306
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_182 : BitVec 32 := 0#32
  let v308 : BitVec 32 := Scalar.xori v5 c0_i32_182
  let v309 : BitVec 32 := Scalar.addi v307 v308
  let c512_i32_205 : BitVec 32 := 512#32
  let v340 : BitVec 32 := Scalar.muli v309 c512_i32_205
  v340
def k0_mult44 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_206 : BitVec 32 := 256#32
  let v342 : BitVec 32 := Scalar.muli v8 c256_i32_206
  v342
def k0_off13 (d0 : Dev nD) (c1_i32_180 : BitVec 32) (c0_i32_182 : BitVec 32) : Fin 2 → Nat :=
  let c2_i32_181 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v306 : BitVec 32 := Scalar.xori v2 c1_i32_180
  let v307 : BitVec 32 := Scalar.muli c2_i32_181 v306
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v308 : BitVec 32 := Scalar.xori v5 c0_i32_182
  let v309 : BitVec 32 := Scalar.addi v307 v308
  let c512_i32_205 : BitVec 32 := 512#32
  let v340 : BitVec 32 := Scalar.muli v309 c512_i32_205
  let v341 : BitVec 32 := v340
  let c0_i32_213 : BitVec 32 := 0#32
  ![v341.toNat, 0]
def k0_off13_at (r : Fin 3) : BitVec 32 × BitVec 32 :=
  if r.val < 1 then
    (1#32, 0#32)
  else
    if r.val < 2 then
      (0#32, 1#32)
    else
      (1#32, 1#32)
def k0_off14 (d0 : Dev nD) (c1_i32_180 : BitVec 32) (c0_i32_182 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_206 : BitVec 32 := 256#32
  let v342 : BitVec 32 := Scalar.muli v8 c256_i32_206
  let v343 : BitVec 32 := v342
  let c2_i32_181 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v306 : BitVec 32 := Scalar.xori v2 c1_i32_180
  let v307 : BitVec 32 := Scalar.muli c2_i32_181 v306
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v308 : BitVec 32 := Scalar.xori v5 c0_i32_182
  let v309 : BitVec 32 := Scalar.addi v307 v308
  let c512_i32_205 : BitVec 32 := 512#32
  let v340 : BitVec 32 := Scalar.muli v309 c512_i32_205
  let v341 : BitVec 32 := v340
  let c0_i32_215 : BitVec 32 := 0#32
  ![Nat.add v343.toNat v341.toNat, 0]
def k0_off14_at (r : Fin 3) : BitVec 32 × BitVec 32 :=
  if r.val < 1 then
    (1#32, 0#32)
  else
    if r.val < 2 then
      (0#32, 1#32)
    else
      (1#32, 1#32)
def k0_dev17 (d0 : Dev nD) : Nat :=
  let c0_i32_220 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_219 : BitVec 32 := 4#32
  let v356 : BitVec 32 := Scalar.muli v2 c4_i32_219
  let v357 : BitVec 32 := Scalar.addi c0_i32_220 v356
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_221 : BitVec 32 := 2#32
  let v358 : BitVec 32 := Scalar.muli v5 c2_i32_221
  let v359 : BitVec 32 := Scalar.addi v357 v358
  let c1_i32_179 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v305 : BitVec 32 := Scalar.subi c1_i32_179 v8
  let c1_i32_222 : BitVec 32 := 1#32
  let v360 : BitVec 32 := Scalar.muli v305 c1_i32_222
  let v361 : BitVec 32 := Scalar.addi v359 v360
  v361.toNat
def k0_mult45 (d0 : Dev nD) : BitVec 32 :=
  let c2_i32_181 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_180 : BitVec 32 := 1#32
  let v306 : BitVec 32 := Scalar.xori v2 c1_i32_180
  let v307 : BitVec 32 := Scalar.muli c2_i32_181 v306
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_182 : BitVec 32 := 0#32
  let v308 : BitVec 32 := Scalar.xori v5 c0_i32_182
  let v309 : BitVec 32 := Scalar.addi v307 v308
  let c1152_i32_227 : BitVec 32 := 1152#32
  let v370 : BitVec 32 := Scalar.muli v309 c1152_i32_227
  v370
def k0_mult46 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_228 : BitVec 32 := 1024#32
  let v372 : BitVec 32 := Scalar.muli v8 c1024_i32_228
  v372
def k0_off15 (d0 : Dev nD) (c1_i32_180 : BitVec 32) (c0_i32_182 : BitVec 32) : Fin 2 → Nat :=
  let c0_i32_235 : BitVec 32 := 0#32
  let c2_i32_181 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v306 : BitVec 32 := Scalar.xori v2 c1_i32_180
  let v307 : BitVec 32 := Scalar.muli c2_i32_181 v306
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v308 : BitVec 32 := Scalar.xori v5 c0_i32_182
  let v309 : BitVec 32 := Scalar.addi v307 v308
  let c1152_i32_227 : BitVec 32 := 1152#32
  let v370 : BitVec 32 := Scalar.muli v309 c1152_i32_227
  let v371 : BitVec 32 := v370
  ![0, v371.toNat]
def k0_off15_at (r : Fin 3) : BitVec 32 × BitVec 32 :=
  if r.val < 1 then
    (1#32, 0#32)
  else
    if r.val < 2 then
      (0#32, 1#32)
    else
      (1#32, 1#32)
def k0_off16 (d0 : Dev nD) (c1_i32_180 : BitVec 32) (c0_i32_182 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_228 : BitVec 32 := 1024#32
  let v372 : BitVec 32 := Scalar.muli v8 c1024_i32_228
  let v373 : BitVec 32 := v372
  let c2_i32_181 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v306 : BitVec 32 := Scalar.xori v2 c1_i32_180
  let v307 : BitVec 32 := Scalar.muli c2_i32_181 v306
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v308 : BitVec 32 := Scalar.xori v5 c0_i32_182
  let v309 : BitVec 32 := Scalar.addi v307 v308
  let c1152_i32_227 : BitVec 32 := 1152#32
  let v370 : BitVec 32 := Scalar.muli v309 c1152_i32_227
  let v371 : BitVec 32 := v370
  ![v373.toNat, v371.toNat]
def k0_off16_at (r : Fin 3) : BitVec 32 × BitVec 32 :=
  if r.val < 1 then
    (1#32, 0#32)
  else
    if r.val < 2 then
      (0#32, 1#32)
    else
      (1#32, 1#32)
def k0_dev18 (d0 : Dev nD) : Nat :=
  let c0_i32_242 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_241 : BitVec 32 := 4#32
  let v386 : BitVec 32 := Scalar.muli v2 c4_i32_241
  let v387 : BitVec 32 := Scalar.addi c0_i32_242 v386
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_243 : BitVec 32 := 2#32
  let v388 : BitVec 32 := Scalar.muli v5 c2_i32_243
  let v389 : BitVec 32 := Scalar.addi v387 v388
  let c1_i32_179 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v305 : BitVec 32 := Scalar.subi c1_i32_179 v8
  let c1_i32_244 : BitVec 32 := 1#32
  let v390 : BitVec 32 := Scalar.muli v305 c1_i32_244
  let v391 : BitVec 32 := Scalar.addi v389 v390
  v391.toNat
def k0_mult47 (d0 : Dev nD) : BitVec 32 :=
  let c2_i32_181 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_180 : BitVec 32 := 1#32
  let v306 : BitVec 32 := Scalar.xori v2 c1_i32_180
  let v307 : BitVec 32 := Scalar.muli c2_i32_181 v306
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_182 : BitVec 32 := 0#32
  let v308 : BitVec 32 := Scalar.xori v5 c0_i32_182
  let v309 : BitVec 32 := Scalar.addi v307 v308
  let c512_i32_249 : BitVec 32 := 512#32
  let v400 : BitVec 32 := Scalar.muli v309 c512_i32_249
  v400
def k0_mult48 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_250 : BitVec 32 := 256#32
  let v402 : BitVec 32 := Scalar.muli v8 c256_i32_250
  v402
def k0_dev19 (d0 : Dev nD) : Nat :=
  let c0_i32_264 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_263 : BitVec 32 := 4#32
  let v416 : BitVec 32 := Scalar.muli v2 c4_i32_263
  let v417 : BitVec 32 := Scalar.addi c0_i32_264 v416
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_265 : BitVec 32 := 2#32
  let v418 : BitVec 32 := Scalar.muli v5 c2_i32_265
  let v419 : BitVec 32 := Scalar.addi v417 v418
  let c1_i32_179 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v305 : BitVec 32 := Scalar.subi c1_i32_179 v8
  let c1_i32_266 : BitVec 32 := 1#32
  let v420 : BitVec 32 := Scalar.muli v305 c1_i32_266
  let v421 : BitVec 32 := Scalar.addi v419 v420
  v421.toNat
def k0_off17 (d0 : Dev nD) (c1_i32_180 : BitVec 32) (c0_i32_182 : BitVec 32) : Fin 3 → Nat :=
  let c2_i32_181 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v306 : BitVec 32 := Scalar.xori v2 c1_i32_180
  let v307 : BitVec 32 := Scalar.muli c2_i32_181 v306
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v308 : BitVec 32 := Scalar.xori v5 c0_i32_182
  let v309 : BitVec 32 := Scalar.addi v307 v308
  let c0_i32_277 : BitVec 32 := 0#32
  let c0_i32_278 : BitVec 32 := 0#32
  ![v309.toNat, 0, 0]
def k0_off17_at (r : Fin 3) : BitVec 32 × BitVec 32 :=
  if r.val < 1 then
    (1#32, 0#32)
  else
    if r.val < 2 then
      (0#32, 1#32)
    else
      (1#32, 1#32)
def k0_mult49 (d0 : Dev nD) : BitVec 32 :=
  let c2_i32_280 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_279 : BitVec 32 := 0#32
  let v440 : BitVec 32 := Scalar.xori v2 c0_i32_279
  let v441 : BitVec 32 := Scalar.muli c2_i32_280 v440
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_281 : BitVec 32 := 1#32
  let v442 : BitVec 32 := Scalar.xori v5 c1_i32_281
  let v443 : BitVec 32 := Scalar.addi v441 v442
  let c2048_i32_282 : BitVec 32 := 2048#32
  let v444 : BitVec 32 := Scalar.muli v443 c2048_i32_282
  v444
def k0_mult50 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_283 : BitVec 32 := 1024#32
  let v446 : BitVec 32 := Scalar.muli v8 c1024_i32_283
  v446
def k0_dev20 (d0 : Dev nD) : Nat :=
  let c0_i32_297 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_296 : BitVec 32 := 4#32
  let v460 : BitVec 32 := Scalar.muli v2 c4_i32_296
  let v461 : BitVec 32 := Scalar.addi c0_i32_297 v460
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_298 : BitVec 32 := 2#32
  let v462 : BitVec 32 := Scalar.muli v5 c2_i32_298
  let v463 : BitVec 32 := Scalar.addi v461 v462
  let c1_i32_179 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v305 : BitVec 32 := Scalar.subi c1_i32_179 v8
  let c1_i32_299 : BitVec 32 := 1#32
  let v464 : BitVec 32 := Scalar.muli v305 c1_i32_299
  let v465 : BitVec 32 := Scalar.addi v463 v464
  v465.toNat
def k0_mult51 (d0 : Dev nD) : BitVec 32 :=
  let c2_i32_280 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_279 : BitVec 32 := 0#32
  let v440 : BitVec 32 := Scalar.xori v2 c0_i32_279
  let v441 : BitVec 32 := Scalar.muli c2_i32_280 v440
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_281 : BitVec 32 := 1#32
  let v442 : BitVec 32 := Scalar.xori v5 c1_i32_281
  let v443 : BitVec 32 := Scalar.addi v441 v442
  let c512_i32_304 : BitVec 32 := 512#32
  let v474 : BitVec 32 := Scalar.muli v443 c512_i32_304
  v474
def k0_mult52 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_305 : BitVec 32 := 256#32
  let v476 : BitVec 32 := Scalar.muli v8 c256_i32_305
  v476
def k0_dev21 (d0 : Dev nD) : Nat :=
  let c0_i32_319 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_318 : BitVec 32 := 4#32
  let v490 : BitVec 32 := Scalar.muli v2 c4_i32_318
  let v491 : BitVec 32 := Scalar.addi c0_i32_319 v490
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_320 : BitVec 32 := 2#32
  let v492 : BitVec 32 := Scalar.muli v5 c2_i32_320
  let v493 : BitVec 32 := Scalar.addi v491 v492
  let c1_i32_179 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v305 : BitVec 32 := Scalar.subi c1_i32_179 v8
  let c1_i32_321 : BitVec 32 := 1#32
  let v494 : BitVec 32 := Scalar.muli v305 c1_i32_321
  let v495 : BitVec 32 := Scalar.addi v493 v494
  v495.toNat
def k0_mult53 (d0 : Dev nD) : BitVec 32 :=
  let c2_i32_280 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_279 : BitVec 32 := 0#32
  let v440 : BitVec 32 := Scalar.xori v2 c0_i32_279
  let v441 : BitVec 32 := Scalar.muli c2_i32_280 v440
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_281 : BitVec 32 := 1#32
  let v442 : BitVec 32 := Scalar.xori v5 c1_i32_281
  let v443 : BitVec 32 := Scalar.addi v441 v442
  let c1152_i32_326 : BitVec 32 := 1152#32
  let v504 : BitVec 32 := Scalar.muli v443 c1152_i32_326
  v504
def k0_mult54 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_327 : BitVec 32 := 1024#32
  let v506 : BitVec 32 := Scalar.muli v8 c1024_i32_327
  v506
def k0_dev22 (d0 : Dev nD) : Nat :=
  let c0_i32_341 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_340 : BitVec 32 := 4#32
  let v520 : BitVec 32 := Scalar.muli v2 c4_i32_340
  let v521 : BitVec 32 := Scalar.addi c0_i32_341 v520
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_342 : BitVec 32 := 2#32
  let v522 : BitVec 32 := Scalar.muli v5 c2_i32_342
  let v523 : BitVec 32 := Scalar.addi v521 v522
  let c1_i32_179 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v305 : BitVec 32 := Scalar.subi c1_i32_179 v8
  let c1_i32_343 : BitVec 32 := 1#32
  let v524 : BitVec 32 := Scalar.muli v305 c1_i32_343
  let v525 : BitVec 32 := Scalar.addi v523 v524
  v525.toNat
def k0_mult55 (d0 : Dev nD) : BitVec 32 :=
  let c2_i32_280 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_279 : BitVec 32 := 0#32
  let v440 : BitVec 32 := Scalar.xori v2 c0_i32_279
  let v441 : BitVec 32 := Scalar.muli c2_i32_280 v440
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_281 : BitVec 32 := 1#32
  let v442 : BitVec 32 := Scalar.xori v5 c1_i32_281
  let v443 : BitVec 32 := Scalar.addi v441 v442
  let c512_i32_348 : BitVec 32 := 512#32
  let v534 : BitVec 32 := Scalar.muli v443 c512_i32_348
  v534
def k0_mult56 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_349 : BitVec 32 := 256#32
  let v536 : BitVec 32 := Scalar.muli v8 c256_i32_349
  v536
def k0_dev23 (d0 : Dev nD) : Nat :=
  let c0_i32_363 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_362 : BitVec 32 := 4#32
  let v550 : BitVec 32 := Scalar.muli v2 c4_i32_362
  let v551 : BitVec 32 := Scalar.addi c0_i32_363 v550
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_364 : BitVec 32 := 2#32
  let v552 : BitVec 32 := Scalar.muli v5 c2_i32_364
  let v553 : BitVec 32 := Scalar.addi v551 v552
  let c1_i32_179 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v305 : BitVec 32 := Scalar.subi c1_i32_179 v8
  let c1_i32_365 : BitVec 32 := 1#32
  let v554 : BitVec 32 := Scalar.muli v305 c1_i32_365
  let v555 : BitVec 32 := Scalar.addi v553 v554
  v555.toNat
def k0_mult57 (d0 : Dev nD) : BitVec 32 :=
  let c2_i32_379 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_378 : BitVec 32 := 1#32
  let v574 : BitVec 32 := Scalar.xori v2 c1_i32_378
  let v575 : BitVec 32 := Scalar.muli c2_i32_379 v574
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_380 : BitVec 32 := 1#32
  let v576 : BitVec 32 := Scalar.xori v5 c1_i32_380
  let v577 : BitVec 32 := Scalar.addi v575 v576
  let c2048_i32_381 : BitVec 32 := 2048#32
  let v578 : BitVec 32 := Scalar.muli v577 c2048_i32_381
  v578
def k0_mult58 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_382 : BitVec 32 := 1024#32
  let v580 : BitVec 32 := Scalar.muli v8 c1024_i32_382
  v580
def k0_dev24 (d0 : Dev nD) : Nat :=
  let c0_i32_396 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_395 : BitVec 32 := 4#32
  let v594 : BitVec 32 := Scalar.muli v2 c4_i32_395
  let v595 : BitVec 32 := Scalar.addi c0_i32_396 v594
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_397 : BitVec 32 := 2#32
  let v596 : BitVec 32 := Scalar.muli v5 c2_i32_397
  let v597 : BitVec 32 := Scalar.addi v595 v596
  let c1_i32_179 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v305 : BitVec 32 := Scalar.subi c1_i32_179 v8
  let c1_i32_398 : BitVec 32 := 1#32
  let v598 : BitVec 32 := Scalar.muli v305 c1_i32_398
  let v599 : BitVec 32 := Scalar.addi v597 v598
  v599.toNat
def k0_mult59 (d0 : Dev nD) : BitVec 32 :=
  let c2_i32_379 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_378 : BitVec 32 := 1#32
  let v574 : BitVec 32 := Scalar.xori v2 c1_i32_378
  let v575 : BitVec 32 := Scalar.muli c2_i32_379 v574
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_380 : BitVec 32 := 1#32
  let v576 : BitVec 32 := Scalar.xori v5 c1_i32_380
  let v577 : BitVec 32 := Scalar.addi v575 v576
  let c512_i32_403 : BitVec 32 := 512#32
  let v608 : BitVec 32 := Scalar.muli v577 c512_i32_403
  v608
def k0_mult60 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_404 : BitVec 32 := 256#32
  let v610 : BitVec 32 := Scalar.muli v8 c256_i32_404
  v610
def k0_dev25 (d0 : Dev nD) : Nat :=
  let c0_i32_418 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_417 : BitVec 32 := 4#32
  let v624 : BitVec 32 := Scalar.muli v2 c4_i32_417
  let v625 : BitVec 32 := Scalar.addi c0_i32_418 v624
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_419 : BitVec 32 := 2#32
  let v626 : BitVec 32 := Scalar.muli v5 c2_i32_419
  let v627 : BitVec 32 := Scalar.addi v625 v626
  let c1_i32_179 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v305 : BitVec 32 := Scalar.subi c1_i32_179 v8
  let c1_i32_420 : BitVec 32 := 1#32
  let v628 : BitVec 32 := Scalar.muli v305 c1_i32_420
  let v629 : BitVec 32 := Scalar.addi v627 v628
  v629.toNat
def k0_mult61 (d0 : Dev nD) : BitVec 32 :=
  let c2_i32_379 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_378 : BitVec 32 := 1#32
  let v574 : BitVec 32 := Scalar.xori v2 c1_i32_378
  let v575 : BitVec 32 := Scalar.muli c2_i32_379 v574
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_380 : BitVec 32 := 1#32
  let v576 : BitVec 32 := Scalar.xori v5 c1_i32_380
  let v577 : BitVec 32 := Scalar.addi v575 v576
  let c1152_i32_425 : BitVec 32 := 1152#32
  let v638 : BitVec 32 := Scalar.muli v577 c1152_i32_425
  v638
def k0_mult62 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_426 : BitVec 32 := 1024#32
  let v640 : BitVec 32 := Scalar.muli v8 c1024_i32_426
  v640
def k0_dev26 (d0 : Dev nD) : Nat :=
  let c0_i32_440 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_439 : BitVec 32 := 4#32
  let v654 : BitVec 32 := Scalar.muli v2 c4_i32_439
  let v655 : BitVec 32 := Scalar.addi c0_i32_440 v654
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_441 : BitVec 32 := 2#32
  let v656 : BitVec 32 := Scalar.muli v5 c2_i32_441
  let v657 : BitVec 32 := Scalar.addi v655 v656
  let c1_i32_179 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v305 : BitVec 32 := Scalar.subi c1_i32_179 v8
  let c1_i32_442 : BitVec 32 := 1#32
  let v658 : BitVec 32 := Scalar.muli v305 c1_i32_442
  let v659 : BitVec 32 := Scalar.addi v657 v658
  v659.toNat
def k0_mult63 (d0 : Dev nD) : BitVec 32 :=
  let c2_i32_379 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_378 : BitVec 32 := 1#32
  let v574 : BitVec 32 := Scalar.xori v2 c1_i32_378
  let v575 : BitVec 32 := Scalar.muli c2_i32_379 v574
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_380 : BitVec 32 := 1#32
  let v576 : BitVec 32 := Scalar.xori v5 c1_i32_380
  let v577 : BitVec 32 := Scalar.addi v575 v576
  let c512_i32_447 : BitVec 32 := 512#32
  let v668 : BitVec 32 := Scalar.muli v577 c512_i32_447
  v668
def k0_mult64 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_448 : BitVec 32 := 256#32
  let v670 : BitVec 32 := Scalar.muli v8 c256_i32_448
  v670
def k0_dev27 (d0 : Dev nD) : Nat :=
  let c0_i32_462 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_461 : BitVec 32 := 4#32
  let v684 : BitVec 32 := Scalar.muli v2 c4_i32_461
  let v685 : BitVec 32 := Scalar.addi c0_i32_462 v684
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_463 : BitVec 32 := 2#32
  let v686 : BitVec 32 := Scalar.muli v5 c2_i32_463
  let v687 : BitVec 32 := Scalar.addi v685 v686
  let c1_i32_179 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v305 : BitVec 32 := Scalar.subi c1_i32_179 v8
  let c1_i32_464 : BitVec 32 := 1#32
  let v688 : BitVec 32 := Scalar.muli v305 c1_i32_464
  let v689 : BitVec 32 := Scalar.addi v687 v688
  v689.toNat
def k0_mult65 (d0 : Dev nD) : BitVec 32 :=
  let c2_i32_478 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_477 : BitVec 32 := 1#32
  let v708 : BitVec 32 := Scalar.xori v2 c1_i32_477
  let v709 : BitVec 32 := Scalar.muli c2_i32_478 v708
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_479 : BitVec 32 := 0#32
  let v710 : BitVec 32 := Scalar.xori v5 c0_i32_479
  let v711 : BitVec 32 := Scalar.addi v709 v710
  let c2048_i32_481 : BitVec 32 := 2048#32
  let v713 : BitVec 32 := Scalar.muli v711 c2048_i32_481
  v713
def k0_mult66 (d0 : Dev nD) : BitVec 32 :=
  let c1_i32_480 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v712 : BitVec 32 := Scalar.subi c1_i32_480 v8
  let c1024_i32_482 : BitVec 32 := 1024#32
  let v715 : BitVec 32 := Scalar.muli v712 c1024_i32_482
  v715
def k0_off18 (d0 : Dev nD) : Fin 2 → Nat :=
  let c1_i32_480 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v712 : BitVec 32 := Scalar.subi c1_i32_480 v8
  let c1024_i32_482 : BitVec 32 := 1024#32
  let v715 : BitVec 32 := Scalar.muli v712 c1024_i32_482
  let v716 : BitVec 32 := v715
  let c0_i32_490 : BitVec 32 := 0#32
  ![v716.toNat, 0]
def k0_off19 (d0 : Dev nD) (c1_i32_477 : BitVec 32) (c0_i32_479 : BitVec 32) : Fin 2 → Nat :=
  let c1_i32_480 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v712 : BitVec 32 := Scalar.subi c1_i32_480 v8
  let c1024_i32_482 : BitVec 32 := 1024#32
  let v715 : BitVec 32 := Scalar.muli v712 c1024_i32_482
  let v716 : BitVec 32 := v715
  let c2_i32_478 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v708 : BitVec 32 := Scalar.xori v2 c1_i32_477
  let v709 : BitVec 32 := Scalar.muli c2_i32_478 v708
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v710 : BitVec 32 := Scalar.xori v5 c0_i32_479
  let v711 : BitVec 32 := Scalar.addi v709 v710
  let c2048_i32_481 : BitVec 32 := 2048#32
  let v713 : BitVec 32 := Scalar.muli v711 c2048_i32_481
  let v714 : BitVec 32 := v713
  ![v716.toNat, v714.toNat]
def k0_off19_at (r : Fin 3) : BitVec 32 × BitVec 32 :=
  if r.val < 1 then
    (1#32, 0#32)
  else
    if r.val < 2 then
      (0#32, 1#32)
    else
      (1#32, 1#32)
def k0_mult67 (d0 : Dev nD) : BitVec 32 :=
  let c2_i32_478 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_477 : BitVec 32 := 1#32
  let v708 : BitVec 32 := Scalar.xori v2 c1_i32_477
  let v709 : BitVec 32 := Scalar.muli c2_i32_478 v708
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_479 : BitVec 32 := 0#32
  let v710 : BitVec 32 := Scalar.xori v5 c0_i32_479
  let v711 : BitVec 32 := Scalar.addi v709 v710
  let c512_i32_494 : BitVec 32 := 512#32
  let v730 : BitVec 32 := Scalar.muli v711 c512_i32_494
  v730
def k0_mult68 (d0 : Dev nD) : BitVec 32 :=
  let c1_i32_493 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v729 : BitVec 32 := Scalar.subi c1_i32_493 v8
  let c256_i32_495 : BitVec 32 := 256#32
  let v732 : BitVec 32 := Scalar.muli v729 c256_i32_495
  v732
def k0_off20 (d0 : Dev nD) : Fin 2 → Nat :=
  let c1_i32_493 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v729 : BitVec 32 := Scalar.subi c1_i32_493 v8
  let c256_i32_495 : BitVec 32 := 256#32
  let v732 : BitVec 32 := Scalar.muli v729 c256_i32_495
  let v733 : BitVec 32 := v732
  let c0_i32_503 : BitVec 32 := 0#32
  ![v733.toNat, 0]
def k0_off21 (d0 : Dev nD) (c1_i32_477 : BitVec 32) (c0_i32_479 : BitVec 32) : Fin 2 → Nat :=
  let c1_i32_493 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v729 : BitVec 32 := Scalar.subi c1_i32_493 v8
  let c256_i32_495 : BitVec 32 := 256#32
  let v732 : BitVec 32 := Scalar.muli v729 c256_i32_495
  let v733 : BitVec 32 := v732
  let c2_i32_478 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v708 : BitVec 32 := Scalar.xori v2 c1_i32_477
  let v709 : BitVec 32 := Scalar.muli c2_i32_478 v708
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v710 : BitVec 32 := Scalar.xori v5 c0_i32_479
  let v711 : BitVec 32 := Scalar.addi v709 v710
  let c512_i32_494 : BitVec 32 := 512#32
  let v730 : BitVec 32 := Scalar.muli v711 c512_i32_494
  let v731 : BitVec 32 := v730
  let c0_i32_504 : BitVec 32 := 0#32
  ![Nat.add v733.toNat v731.toNat, 0]
def k0_off21_at (r : Fin 3) : BitVec 32 × BitVec 32 :=
  if r.val < 1 then
    (1#32, 0#32)
  else
    if r.val < 2 then
      (0#32, 1#32)
    else
      (1#32, 1#32)
def k0_mult69 (d0 : Dev nD) : BitVec 32 :=
  let c2_i32_478 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_477 : BitVec 32 := 1#32
  let v708 : BitVec 32 := Scalar.xori v2 c1_i32_477
  let v709 : BitVec 32 := Scalar.muli c2_i32_478 v708
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_479 : BitVec 32 := 0#32
  let v710 : BitVec 32 := Scalar.xori v5 c0_i32_479
  let v711 : BitVec 32 := Scalar.addi v709 v710
  let c1152_i32_507 : BitVec 32 := 1152#32
  let v747 : BitVec 32 := Scalar.muli v711 c1152_i32_507
  v747
def k0_mult70 (d0 : Dev nD) : BitVec 32 :=
  let c1_i32_506 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v746 : BitVec 32 := Scalar.subi c1_i32_506 v8
  let c1024_i32_508 : BitVec 32 := 1024#32
  let v749 : BitVec 32 := Scalar.muli v746 c1024_i32_508
  v749
def k0_off22 (d0 : Dev nD) : Fin 2 → Nat :=
  let c1_i32_506 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v746 : BitVec 32 := Scalar.subi c1_i32_506 v8
  let c1024_i32_508 : BitVec 32 := 1024#32
  let v749 : BitVec 32 := Scalar.muli v746 c1024_i32_508
  let v750 : BitVec 32 := v749
  let c0_i32_516 : BitVec 32 := 0#32
  ![v750.toNat, 0]
def k0_off23 (d0 : Dev nD) (c1_i32_477 : BitVec 32) (c0_i32_479 : BitVec 32) : Fin 2 → Nat :=
  let c1_i32_506 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v746 : BitVec 32 := Scalar.subi c1_i32_506 v8
  let c1024_i32_508 : BitVec 32 := 1024#32
  let v749 : BitVec 32 := Scalar.muli v746 c1024_i32_508
  let v750 : BitVec 32 := v749
  let c2_i32_478 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v708 : BitVec 32 := Scalar.xori v2 c1_i32_477
  let v709 : BitVec 32 := Scalar.muli c2_i32_478 v708
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v710 : BitVec 32 := Scalar.xori v5 c0_i32_479
  let v711 : BitVec 32 := Scalar.addi v709 v710
  let c1152_i32_507 : BitVec 32 := 1152#32
  let v747 : BitVec 32 := Scalar.muli v711 c1152_i32_507
  let v748 : BitVec 32 := v747
  ![v750.toNat, v748.toNat]
def k0_off23_at (r : Fin 3) : BitVec 32 × BitVec 32 :=
  if r.val < 1 then
    (1#32, 0#32)
  else
    if r.val < 2 then
      (0#32, 1#32)
    else
      (1#32, 1#32)
def k0_mult71 (d0 : Dev nD) : BitVec 32 :=
  let c2_i32_478 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_477 : BitVec 32 := 1#32
  let v708 : BitVec 32 := Scalar.xori v2 c1_i32_477
  let v709 : BitVec 32 := Scalar.muli c2_i32_478 v708
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_479 : BitVec 32 := 0#32
  let v710 : BitVec 32 := Scalar.xori v5 c0_i32_479
  let v711 : BitVec 32 := Scalar.addi v709 v710
  let c512_i32_520 : BitVec 32 := 512#32
  let v764 : BitVec 32 := Scalar.muli v711 c512_i32_520
  v764
def k0_mult72 (d0 : Dev nD) : BitVec 32 :=
  let c1_i32_519 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v763 : BitVec 32 := Scalar.subi c1_i32_519 v8
  let c256_i32_521 : BitVec 32 := 256#32
  let v766 : BitVec 32 := Scalar.muli v763 c256_i32_521
  v766
def k0_mult73 (d0 : Dev nD) : BitVec 32 :=
  let c2_i32_533 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_532 : BitVec 32 := 0#32
  let v780 : BitVec 32 := Scalar.xori v2 c0_i32_532
  let v781 : BitVec 32 := Scalar.muli c2_i32_533 v780
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_534 : BitVec 32 := 1#32
  let v782 : BitVec 32 := Scalar.xori v5 c1_i32_534
  let v783 : BitVec 32 := Scalar.addi v781 v782
  let c2048_i32_536 : BitVec 32 := 2048#32
  let v785 : BitVec 32 := Scalar.muli v783 c2048_i32_536
  v785
def k0_mult74 (d0 : Dev nD) : BitVec 32 :=
  let c1_i32_535 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v784 : BitVec 32 := Scalar.subi c1_i32_535 v8
  let c1024_i32_537 : BitVec 32 := 1024#32
  let v787 : BitVec 32 := Scalar.muli v784 c1024_i32_537
  v787
def k0_mult75 (d0 : Dev nD) : BitVec 32 :=
  let c2_i32_533 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_532 : BitVec 32 := 0#32
  let v780 : BitVec 32 := Scalar.xori v2 c0_i32_532
  let v781 : BitVec 32 := Scalar.muli c2_i32_533 v780
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_534 : BitVec 32 := 1#32
  let v782 : BitVec 32 := Scalar.xori v5 c1_i32_534
  let v783 : BitVec 32 := Scalar.addi v781 v782
  let c512_i32_549 : BitVec 32 := 512#32
  let v802 : BitVec 32 := Scalar.muli v783 c512_i32_549
  v802
def k0_mult76 (d0 : Dev nD) : BitVec 32 :=
  let c1_i32_548 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v801 : BitVec 32 := Scalar.subi c1_i32_548 v8
  let c256_i32_550 : BitVec 32 := 256#32
  let v804 : BitVec 32 := Scalar.muli v801 c256_i32_550
  v804
def k0_mult77 (d0 : Dev nD) : BitVec 32 :=
  let c2_i32_533 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_532 : BitVec 32 := 0#32
  let v780 : BitVec 32 := Scalar.xori v2 c0_i32_532
  let v781 : BitVec 32 := Scalar.muli c2_i32_533 v780
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_534 : BitVec 32 := 1#32
  let v782 : BitVec 32 := Scalar.xori v5 c1_i32_534
  let v783 : BitVec 32 := Scalar.addi v781 v782
  let c1152_i32_562 : BitVec 32 := 1152#32
  let v819 : BitVec 32 := Scalar.muli v783 c1152_i32_562
  v819
def k0_mult78 (d0 : Dev nD) : BitVec 32 :=
  let c1_i32_561 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v818 : BitVec 32 := Scalar.subi c1_i32_561 v8
  let c1024_i32_563 : BitVec 32 := 1024#32
  let v821 : BitVec 32 := Scalar.muli v818 c1024_i32_563
  v821
def k0_mult79 (d0 : Dev nD) : BitVec 32 :=
  let c2_i32_533 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_532 : BitVec 32 := 0#32
  let v780 : BitVec 32 := Scalar.xori v2 c0_i32_532
  let v781 : BitVec 32 := Scalar.muli c2_i32_533 v780
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_534 : BitVec 32 := 1#32
  let v782 : BitVec 32 := Scalar.xori v5 c1_i32_534
  let v783 : BitVec 32 := Scalar.addi v781 v782
  let c512_i32_575 : BitVec 32 := 512#32
  let v836 : BitVec 32 := Scalar.muli v783 c512_i32_575
  v836
def k0_mult80 (d0 : Dev nD) : BitVec 32 :=
  let c1_i32_574 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v835 : BitVec 32 := Scalar.subi c1_i32_574 v8
  let c256_i32_576 : BitVec 32 := 256#32
  let v838 : BitVec 32 := Scalar.muli v835 c256_i32_576
  v838
def k0_mult81 (d0 : Dev nD) : BitVec 32 :=
  let c2_i32_588 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_587 : BitVec 32 := 1#32
  let v852 : BitVec 32 := Scalar.xori v2 c1_i32_587
  let v853 : BitVec 32 := Scalar.muli c2_i32_588 v852
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_589 : BitVec 32 := 1#32
  let v854 : BitVec 32 := Scalar.xori v5 c1_i32_589
  let v855 : BitVec 32 := Scalar.addi v853 v854
  let c2048_i32_591 : BitVec 32 := 2048#32
  let v857 : BitVec 32 := Scalar.muli v855 c2048_i32_591
  v857
def k0_mult82 (d0 : Dev nD) : BitVec 32 :=
  let c1_i32_590 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v856 : BitVec 32 := Scalar.subi c1_i32_590 v8
  let c1024_i32_592 : BitVec 32 := 1024#32
  let v859 : BitVec 32 := Scalar.muli v856 c1024_i32_592
  v859
def k0_mult83 (d0 : Dev nD) : BitVec 32 :=
  let c2_i32_588 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_587 : BitVec 32 := 1#32
  let v852 : BitVec 32 := Scalar.xori v2 c1_i32_587
  let v853 : BitVec 32 := Scalar.muli c2_i32_588 v852
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_589 : BitVec 32 := 1#32
  let v854 : BitVec 32 := Scalar.xori v5 c1_i32_589
  let v855 : BitVec 32 := Scalar.addi v853 v854
  let c512_i32_604 : BitVec 32 := 512#32
  let v874 : BitVec 32 := Scalar.muli v855 c512_i32_604
  v874
def k0_mult84 (d0 : Dev nD) : BitVec 32 :=
  let c1_i32_603 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v873 : BitVec 32 := Scalar.subi c1_i32_603 v8
  let c256_i32_605 : BitVec 32 := 256#32
  let v876 : BitVec 32 := Scalar.muli v873 c256_i32_605
  v876
def k0_mult85 (d0 : Dev nD) : BitVec 32 :=
  let c2_i32_588 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_587 : BitVec 32 := 1#32
  let v852 : BitVec 32 := Scalar.xori v2 c1_i32_587
  let v853 : BitVec 32 := Scalar.muli c2_i32_588 v852
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_589 : BitVec 32 := 1#32
  let v854 : BitVec 32 := Scalar.xori v5 c1_i32_589
  let v855 : BitVec 32 := Scalar.addi v853 v854
  let c1152_i32_617 : BitVec 32 := 1152#32
  let v891 : BitVec 32 := Scalar.muli v855 c1152_i32_617
  v891
def k0_mult86 (d0 : Dev nD) : BitVec 32 :=
  let c1_i32_616 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v890 : BitVec 32 := Scalar.subi c1_i32_616 v8
  let c1024_i32_618 : BitVec 32 := 1024#32
  let v893 : BitVec 32 := Scalar.muli v890 c1024_i32_618
  v893
def k0_mult87 (d0 : Dev nD) : BitVec 32 :=
  let c2_i32_588 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_587 : BitVec 32 := 1#32
  let v852 : BitVec 32 := Scalar.xori v2 c1_i32_587
  let v853 : BitVec 32 := Scalar.muli c2_i32_588 v852
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_589 : BitVec 32 := 1#32
  let v854 : BitVec 32 := Scalar.xori v5 c1_i32_589
  let v855 : BitVec 32 := Scalar.addi v853 v854
  let c512_i32_630 : BitVec 32 := 512#32
  let v908 : BitVec 32 := Scalar.muli v855 c512_i32_630
  v908
def k0_mult88 (d0 : Dev nD) : BitVec 32 :=
  let c1_i32_629 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v907 : BitVec 32 := Scalar.subi c1_i32_629 v8
  let c256_i32_631 : BitVec 32 := 256#32
  let v910 : BitVec 32 := Scalar.muli v907 c256_i32_631
  v910
-- ==== GatherRef.lean ====
abbrev S2048x8192 : Shape := ⟨2, ![2048, 8192]⟩
abbrev S2048x2048 : Shape := ⟨2, ![2048, 2048]⟩
abbrev S2048x4608 : Shape := ⟨2, ![2048, 4608]⟩
abbrev S32x512 : Shape := ⟨2, ![32, 512]⟩
abbrev S4x8x512 : Shape := ⟨3, ![4, 8, 512]⟩

abbrev nBuf : Space → Nat
  | .hbm => 6
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S2048x2048, .bf16⟩
  | .hbm, ⟨2, _⟩ => ⟨S2048x4608, .bf16⟩
  | .hbm, ⟨3, _⟩ => ⟨S2048x2048, .bf16⟩
  | .hbm, ⟨4, _⟩ => ⟨S32x512, .f32⟩
  | .hbm, ⟨5, _⟩ => ⟨S4x8x512, .f32⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩

abbrev nD : Nat := 1
abbrev τ : Topo := Topo.v7x

variable {F : FTy → Type} [FloatOps F]
-- ==== AdamEvenIn.lean ====
abbrev S2048x2048 : Shape := ⟨2, ![2048, 2048]⟩
abbrev S256x2048 : Shape := ⟨2, ![256, 2048]⟩

abbrev nBuf : Space → Nat
  | .hbm => 7
  | .vmem => 14
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamEvenInRef.lean ====
abbrev S2048x2048 : Shape := ⟨2, ![2048, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S_, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S2048x2048, .f32⟩
  | .hbm, ⟨21, _⟩ => ⟨S2048x2048, .f32⟩
  | .hbm, ⟨22, _⟩ => ⟨S_, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S_, .f32⟩
  | .hbm, ⟨35, _⟩ => ⟨S2048x2048, .f32⟩
  | .hbm, ⟨36, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamEvenInRefIdeal.lean ====
abbrev S2048x2048 : Shape := ⟨2, ![2048, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S_, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S2048x2048, .f32⟩
  | .hbm, ⟨21, _⟩ => ⟨S2048x2048, .f32⟩
  | .hbm, ⟨22, _⟩ => ⟨S_, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S_, .f32⟩
  | .hbm, ⟨35, _⟩ => ⟨S2048x2048, .f32⟩
  | .hbm, ⟨36, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOddIn.lean ====
abbrev S2048x1152 : Shape := ⟨2, ![2048, 1152]⟩
abbrev S256x1152 : Shape := ⟨2, ![256, 1152]⟩

abbrev nBuf : Space → Nat
  | .hbm => 7
  | .vmem => 14
  | .smem => 0
  | _ => 0

abbrev bufTy : (tb : Table) → Fin (tcTables nBuf tb) → BufTy
  | .hbm, ⟨0, _⟩ => ⟨S2048x1152, .f32⟩
  | .hbm, ⟨1, _⟩ => ⟨S2048x1152, .f32⟩
  | .hbm, ⟨2, _⟩ => ⟨S2048x1152, .f32⟩
  | .hbm, ⟨3, _⟩ => ⟨S2048x1152, .f32⟩
  | .hbm, ⟨4, _⟩ => ⟨S2048x1152, .f32⟩
  | .hbm, ⟨5, _⟩ => ⟨S2048x1152, .f32⟩
  | .hbm, ⟨6, _⟩ => ⟨S2048x1152, .f32⟩
  | .local _ .vmem, ⟨0, _⟩ => ⟨S256x1152, .f32⟩
  | .local _ .vmem, ⟨1, _⟩ => ⟨S256x1152, .f32⟩
  | .local _ .vmem, ⟨2, _⟩ => ⟨S256x1152, .f32⟩
  | .local _ .vmem, ⟨3, _⟩ => ⟨S256x1152, .f32⟩
  | .local _ .vmem, ⟨4, _⟩ => ⟨S256x1152, .f32⟩
  | .local _ .vmem, ⟨5, _⟩ => ⟨S256x1152, .f32⟩
  | .local _ .vmem, ⟨6, _⟩ => ⟨S256x1152, .f32⟩
  | .local _ .vmem, ⟨7, _⟩ => ⟨S256x1152, .f32⟩
  | .local _ .vmem, ⟨8, _⟩ => ⟨S256x1152, .f32⟩
  | .local _ .vmem, ⟨9, _⟩ => ⟨S256x1152, .f32⟩
  | .local _ .vmem, ⟨10, _⟩ => ⟨S256x1152, .f32⟩
  | .local _ .vmem, ⟨11, _⟩ => ⟨S256x1152, .f32⟩
  | .local _ .vmem, ⟨12, _⟩ => ⟨S256x1152, .f32⟩
  | .local _ .vmem, ⟨13, _⟩ => ⟨S256x1152, .f32⟩
  | _, _ => ⟨S2048x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1152 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1152 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1152 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamOddInRef.lean ====
abbrev S2048x1152 : Shape := ⟨2, ![2048, 1152]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1152, .f32⟩
  | .hbm, ⟨1, _⟩ => ⟨S2048x1152, .f32⟩
  | .hbm, ⟨2, _⟩ => ⟨S2048x1152, .f32⟩
  | .hbm, ⟨3, _⟩ => ⟨S2048x1152, .f32⟩
  | .hbm, ⟨4, _⟩ => ⟨S_, .f32⟩
  | .hbm, ⟨5, _⟩ => ⟨S2048x1152, .f32⟩
  | .hbm, ⟨6, _⟩ => ⟨S2048x1152, .f32⟩
  | .hbm, ⟨7, _⟩ => ⟨S_, .f32⟩
  | .hbm, ⟨8, _⟩ => ⟨S2048x1152, .f32⟩
  | .hbm, ⟨9, _⟩ => ⟨S2048x1152, .f32⟩
  | .hbm, ⟨10, _⟩ => ⟨S2048x1152, .f32⟩
  | .hbm, ⟨11, _⟩ => ⟨S_, .f32⟩
  | .hbm, ⟨12, _⟩ => ⟨S2048x1152, .f32⟩
  | .hbm, ⟨13, _⟩ => ⟨S2048x1152, .f32⟩
  | .hbm, ⟨14, _⟩ => ⟨S2048x1152, .f32⟩
  | .hbm, ⟨15, _⟩ => ⟨S_, .f32⟩
  | .hbm, ⟨16, _⟩ => ⟨S2048x1152, .f32⟩
  | .hbm, ⟨17, _⟩ => ⟨S2048x1152, .f32⟩
  | .hbm, ⟨18, _⟩ => ⟨S2048x1152, .f32⟩
  | .hbm, ⟨19, _⟩ => ⟨S_, .f32⟩
  | .hbm, ⟨20, _⟩ => ⟨S2048x1152, .f32⟩
  | .hbm, ⟨21, _⟩ => ⟨S2048x1152, .f32⟩
  | .hbm, ⟨22, _⟩ => ⟨S_, .f32⟩
  | .hbm, ⟨23, _⟩ => ⟨S2048x1152, .f32⟩
  | .hbm, ⟨24, _⟩ => ⟨S2048x1152, .f32⟩
  | .hbm, ⟨25, _⟩ => ⟨S2048x1152, .f32⟩
  | .hbm, ⟨26, _⟩ => ⟨S_, .f32⟩
  | .hbm, ⟨27, _⟩ => ⟨S2048x1152, .f32⟩
  | .hbm, ⟨28, _⟩ => ⟨S2048x1152, .f32⟩
  | .hbm, ⟨29, _⟩ => ⟨S2048x1152, .f32⟩
  | .hbm, ⟨30, _⟩ => ⟨S_, .f32⟩
  | .hbm, ⟨31, _⟩ => ⟨S2048x1152, .f32⟩
  | .hbm, ⟨32, _⟩ => ⟨S2048x1152, .f32⟩
  | .hbm, ⟨33, _⟩ => ⟨S2048x1152, .f32⟩
  | .hbm, ⟨34, _⟩ => ⟨S_, .f32⟩
  | .hbm, ⟨35, _⟩ => ⟨S2048x1152, .f32⟩
  | .hbm, ⟨36, _⟩ => ⟨S2048x1152, .f32⟩
  | _, _ => ⟨S2048x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOddInRefIdeal.lean ====
abbrev S2048x1152 : Shape := ⟨2, ![2048, 1152]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1152, .f32⟩
  | .hbm, ⟨1, _⟩ => ⟨S2048x1152, .f32⟩
  | .hbm, ⟨2, _⟩ => ⟨S2048x1152, .f32⟩
  | .hbm, ⟨3, _⟩ => ⟨S2048x1152, .f32⟩
  | .hbm, ⟨4, _⟩ => ⟨S_, .f32⟩
  | .hbm, ⟨5, _⟩ => ⟨S2048x1152, .f32⟩
  | .hbm, ⟨6, _⟩ => ⟨S2048x1152, .f32⟩
  | .hbm, ⟨7, _⟩ => ⟨S_, .f32⟩
  | .hbm, ⟨8, _⟩ => ⟨S2048x1152, .f32⟩
  | .hbm, ⟨9, _⟩ => ⟨S2048x1152, .f32⟩
  | .hbm, ⟨10, _⟩ => ⟨S2048x1152, .f32⟩
  | .hbm, ⟨11, _⟩ => ⟨S_, .f32⟩
  | .hbm, ⟨12, _⟩ => ⟨S2048x1152, .f32⟩
  | .hbm, ⟨13, _⟩ => ⟨S2048x1152, .f32⟩
  | .hbm, ⟨14, _⟩ => ⟨S2048x1152, .f32⟩
  | .hbm, ⟨15, _⟩ => ⟨S_, .f32⟩
  | .hbm, ⟨16, _⟩ => ⟨S2048x1152, .f32⟩
  | .hbm, ⟨17, _⟩ => ⟨S2048x1152, .f32⟩
  | .hbm, ⟨18, _⟩ => ⟨S2048x1152, .f32⟩
  | .hbm, ⟨19, _⟩ => ⟨S_, .f32⟩
  | .hbm, ⟨20, _⟩ => ⟨S2048x1152, .f32⟩
  | .hbm, ⟨21, _⟩ => ⟨S2048x1152, .f32⟩
  | .hbm, ⟨22, _⟩ => ⟨S_, .f32⟩
  | .hbm, ⟨23, _⟩ => ⟨S2048x1152, .f32⟩
  | .hbm, ⟨24, _⟩ => ⟨S2048x1152, .f32⟩
  | .hbm, ⟨25, _⟩ => ⟨S2048x1152, .f32⟩
  | .hbm, ⟨26, _⟩ => ⟨S_, .f32⟩
  | .hbm, ⟨27, _⟩ => ⟨S2048x1152, .f32⟩
  | .hbm, ⟨28, _⟩ => ⟨S2048x1152, .f32⟩
  | .hbm, ⟨29, _⟩ => ⟨S2048x1152, .f32⟩
  | .hbm, ⟨30, _⟩ => ⟨S_, .f32⟩
  | .hbm, ⟨31, _⟩ => ⟨S2048x1152, .f32⟩
  | .hbm, ⟨32, _⟩ => ⟨S2048x1152, .f32⟩
  | .hbm, ⟨33, _⟩ => ⟨S2048x1152, .f32⟩
  | .hbm, ⟨34, _⟩ => ⟨S_, .f32⟩
  | .hbm, ⟨35, _⟩ => ⟨S2048x1152, .f32⟩
  | .hbm, ⟨36, _⟩ => ⟨S2048x1152, .f32⟩
  | _, _ => ⟨S2048x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOut.lean ====
abbrev S512x2048 : Shape := ⟨2, ![512, 2048]⟩
abbrev S256x2048 : Shape := ⟨2, ![256, 2048]⟩

abbrev nBuf : Space → Nat
  | .hbm => 7
  | .vmem => 14
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamOutRef.lean ====
abbrev S512x2048 : Shape := ⟨2, ![512, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S_, .f32⟩
  | .hbm, ⟨5, _⟩ => ⟨S512x2048, .f32⟩
  | .hbm, ⟨6, _⟩ => ⟨S512x2048, .f32⟩
  | .hbm, ⟨7, _⟩ => ⟨S_, .f32⟩
  | .hbm, ⟨8, _⟩ => ⟨S512x2048, .f32⟩
  | .hbm, ⟨9, _⟩ => ⟨S512x2048, .f32⟩
  | .hbm, ⟨10, _⟩ => ⟨S512x2048, .f32⟩
  | .hbm, ⟨11, _⟩ => ⟨S_, .f32⟩
  | .hbm, ⟨12, _⟩ => ⟨S512x2048, .f32⟩
  | .hbm, ⟨13, _⟩ => ⟨S512x2048, .f32⟩
  | .hbm, ⟨14, _⟩ => ⟨S512x2048, .f32⟩
  | .hbm, ⟨15, _⟩ => ⟨S_, .f32⟩
  | .hbm, ⟨16, _⟩ => ⟨S512x2048, .f32⟩
  | .hbm, ⟨17, _⟩ => ⟨S512x2048, .f32⟩
  | .hbm, ⟨18, _⟩ => ⟨S512x2048, .f32⟩
  | .hbm, ⟨19, _⟩ => ⟨S_, .f32⟩
  | .hbm, ⟨20, _⟩ => ⟨S512x2048, .f32⟩
  | .hbm, ⟨21, _⟩ => ⟨S512x2048, .f32⟩
  | .hbm, ⟨22, _⟩ => ⟨S_, .f32⟩
  | .hbm, ⟨23, _⟩ => ⟨S512x2048, .f32⟩
  | .hbm, ⟨24, _⟩ => ⟨S512x2048, .f32⟩
  | .hbm, ⟨25, _⟩ => ⟨S512x2048, .f32⟩
  | .hbm, ⟨26, _⟩ => ⟨S_, .f32⟩
  | .hbm, ⟨27, _⟩ => ⟨S512x2048, .f32⟩
  | .hbm, ⟨28, _⟩ => ⟨S512x2048, .f32⟩
  | .hbm, ⟨29, _⟩ => ⟨S512x2048, .f32⟩
  | .hbm, ⟨30, _⟩ => ⟨S_, .f32⟩
  | .hbm, ⟨31, _⟩ => ⟨S512x2048, .f32⟩
  | .hbm, ⟨32, _⟩ => ⟨S512x2048, .f32⟩
  | .hbm, ⟨33, _⟩ => ⟨S512x2048, .f32⟩
  | .hbm, ⟨34, _⟩ => ⟨S_, .f32⟩
  | .hbm, ⟨35, _⟩ => ⟨S512x2048, .f32⟩
  | .hbm, ⟨36, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSmall.lean ====
abbrev S1x2048 : Shape := ⟨2, ![1, 2048]⟩
abbrev S1x3x256 : Shape := ⟨3, ![1, 3, 256]⟩
abbrev S1x512 : Shape := ⟨2, ![1, 512]⟩
abbrev S1x64 : Shape := ⟨2, ![1, 64]⟩
abbrev S1x32 : Shape := ⟨2, ![1, 32]⟩
abbrev S2048 : Shape := ⟨1, ![2048]⟩
abbrev S768 : Shape := ⟨1, ![768]⟩
abbrev S512 : Shape := ⟨1, ![512]⟩
abbrev S64 : Shape := ⟨1, ![64]⟩
abbrev S32 : Shape := ⟨1, ![32]⟩
abbrev S_ : Shape := ⟨0, ![]⟩
abbrev S608 : Shape := ⟨1, ![608]⟩
abbrev S4096 : Shape := ⟨1, ![4096]⟩
abbrev S8x512 : Shape := ⟨2, ![8, 512]⟩

abbrev nBuf : Space → Nat
  | .hbm => 121
  | .vmem => 7
  | .smem => 0
  | _ => 0

abbrev bufTy : (tb : Table) → Fin (tcTables nBuf tb) → BufTy
  | .hbm, ⟨0, _⟩ => ⟨S1x2048, .f32⟩
  | .hbm, ⟨1, _⟩ => ⟨S1x3x256, .f32⟩
  | .hbm, ⟨2, _⟩ => ⟨S1x512, .f32⟩
  | .hbm, ⟨3, _⟩ => ⟨S1x64, .f32⟩
  | .hbm, ⟨4, _⟩ => ⟨S1x64, .f32⟩
  | .hbm, ⟨5, _⟩ => ⟨S1x32, .f32⟩
  | .hbm, ⟨6, _⟩ => ⟨S1x2048, .f32⟩
  | .hbm, ⟨7, _⟩ => ⟨S1x3x256, .f32⟩
  | .hbm, ⟨8, _⟩ => ⟨S1x512, .f32⟩
  | .hbm, ⟨9, _⟩ => ⟨S1x64, .f32⟩
  | .hbm, ⟨10, _⟩ => ⟨S1x64, .f32⟩
  | .hbm, ⟨11, _⟩ => ⟨S1x32, .f32⟩
  | .hbm, ⟨12, _⟩ => ⟨S1x2048, .f32⟩
  | .hbm, ⟨13, _⟩ => ⟨S1x3x256, .f32⟩
  | .hbm, ⟨14, _⟩ => ⟨S1x512, .f32⟩
  | .hbm, ⟨15, _⟩ => ⟨S1x64, .f32⟩
  | .hbm, ⟨16, _⟩ => ⟨S1x64, .f32⟩
  | .hbm, ⟨17, _⟩ => ⟨S1x32, .f32⟩
  | .hbm, ⟨18, _⟩ => ⟨S1x2048, .f32⟩
  | .hbm, ⟨19, _⟩ => ⟨S1x3x256, .f32⟩
  | .hbm, ⟨20, _⟩ => ⟨S1x512, .f32⟩
  | .hbm, ⟨21, _⟩ => ⟨S1x64, .f32⟩
  | .hbm, ⟨22, _⟩ => ⟨S1x64, .f32⟩
  | .hbm, ⟨23, _⟩ => ⟨S1x32, .f32⟩
  | .hbm, ⟨24, _⟩ => ⟨S2048, .f32⟩
  | .hbm, ⟨25, _⟩ => ⟨S768, .f32⟩
  | .hbm, ⟨26, _⟩ => ⟨S512, .f32⟩
  | .hbm, ⟨27, _⟩ => ⟨S64, .f32⟩
  | .hbm, ⟨28, _⟩ => ⟨S64, .f32⟩
  | .hbm, ⟨29, _⟩ => ⟨S32, .f32⟩
  | .hbm, ⟨30, _⟩ => ⟨S_, .f32⟩
  | .hbm, ⟨31, _⟩ => ⟨S608, .f32⟩
  | .hbm, ⟨32, _⟩ => ⟨S4096, .f32⟩
  | .hbm, ⟨33, _⟩ => ⟨S8x512, .f32⟩
  | .hbm, ⟨34, _⟩ => ⟨S2048, .f32⟩
  | .hbm, ⟨35, _⟩ => ⟨S768, .f32⟩
  | .hbm, ⟨36, _⟩ => ⟨S512, .f32⟩
  | .hbm, ⟨37, _⟩ => ⟨S64, .f32⟩
  | .hbm, ⟨38, _⟩ => ⟨S64, .f32⟩
  | .hbm, ⟨39, _⟩ => ⟨S32, .f32⟩
  | .hbm, ⟨40, _⟩ => ⟨S_, .f32⟩
  | .hbm, ⟨41, _⟩ => ⟨S608, .f32⟩
  | .hbm, ⟨42, _⟩ => ⟨S4096, .f32⟩
  | .hbm, ⟨43, _⟩ => ⟨S8x512, .f32⟩
  | .hbm, ⟨44, _⟩ => ⟨S2048, .f32⟩
  | .hbm, ⟨45, _⟩ => ⟨S768, .f32⟩
  | .hbm, ⟨46, _⟩ => ⟨S512, .f32⟩
  | .hbm, ⟨47, _⟩ => ⟨S64, .f32⟩
  | .hbm, ⟨48, _⟩ => ⟨S64, .f32⟩
  | .hbm, ⟨49, _⟩ => ⟨S32, .f32⟩
  | .hbm, ⟨50, _⟩ => ⟨S_, .f32⟩
  | .hbm, ⟨51, _⟩ => ⟨S608, .f32⟩
  | .hbm, ⟨52, _⟩ => ⟨S4096, .f32⟩
  | .hbm, ⟨53, _⟩ => ⟨S8x512, .f32⟩
  | .hbm, ⟨54, _⟩ => ⟨S2048, .f32⟩
  | .hbm, ⟨55, _⟩ => ⟨S768, .f32⟩
  | .hbm, ⟨56, _⟩ => ⟨S512, .f32⟩
  | .hbm, ⟨57, _⟩ => ⟨S64, .f32⟩
  | .hbm, ⟨58, _⟩ => ⟨S64, .f32⟩
  | .hbm, ⟨59, _⟩ => ⟨S32, .f32⟩
  | .hbm, ⟨60, _⟩ => ⟨S_, .f32⟩
  | .hbm, ⟨61, _⟩ => ⟨S608, .f32⟩
  | .hbm, ⟨62, _⟩ => ⟨S4096, .f32⟩
  | .hbm, ⟨63, _⟩ => ⟨S8x512, .f32⟩
  | .hbm, ⟨64, _⟩ => ⟨S8x512, .f32⟩
  | .hbm, ⟨65, _⟩ => ⟨S8x512, .f32⟩
  | .hbm, ⟨66, _⟩ => ⟨S8x512, .f32⟩
  | .hbm, ⟨67, _⟩ => ⟨S4096, .f32⟩
  | .hbm, ⟨68, _⟩ => ⟨S2048, .f32⟩
  | .hbm, ⟨69, _⟩ => ⟨S1x2048, .f32⟩
  | .hbm, ⟨70, _⟩ => ⟨S4096, .f32⟩
  | .hbm, ⟨71, _⟩ => ⟨S2048, .f32⟩
  | .hbm, ⟨72, _⟩ => ⟨S1x2048, .f32⟩
  | .hbm, ⟨73, _⟩ => ⟨S4096, .f32⟩
  | .hbm, ⟨74, _⟩ => ⟨S2048, .f32⟩
  | .hbm, ⟨75, _⟩ => ⟨S1x2048, .f32⟩
  | .hbm, ⟨76, _⟩ => ⟨S4096, .f32⟩
  | .hbm, ⟨77, _⟩ => ⟨S768, .f32⟩
  | .hbm, ⟨78, _⟩ => ⟨S1x3x256, .f32⟩
  | .hbm, ⟨79, _⟩ => ⟨S4096, .f32⟩
  | .hbm, ⟨80, _⟩ => ⟨S768, .f32⟩
  | .hbm, ⟨81, _⟩ => ⟨S1x3x256, .f32⟩
  | .hbm, ⟨82, _⟩ => ⟨S4096, .f32⟩
  | .hbm, ⟨83, _⟩ => ⟨S768, .f32⟩
  | .hbm, ⟨84, _⟩ => ⟨S1x3x256, .f32⟩
  | .hbm, ⟨85, _⟩ => ⟨S4096, .f32⟩
  | .hbm, ⟨86, _⟩ => ⟨S512, .f32⟩
  | .hbm, ⟨87, _⟩ => ⟨S1x512, .f32⟩
  | .hbm, ⟨88, _⟩ => ⟨S4096, .f32⟩
  | .hbm, ⟨89, _⟩ => ⟨S512, .f32⟩
  | .hbm, ⟨90, _⟩ => ⟨S1x512, .f32⟩
  | .hbm, ⟨91, _⟩ => ⟨S4096, .f32⟩
  | .hbm, ⟨92, _⟩ => ⟨S512, .f32⟩
  | .hbm, ⟨93, _⟩ => ⟨S1x512, .f32⟩
  | .hbm, ⟨94, _⟩ => ⟨S4096, .f32⟩
  | .hbm, ⟨95, _⟩ => ⟨S64, .f32⟩
  | .hbm, ⟨96, _⟩ => ⟨S1x64, .f32⟩
  | .hbm, ⟨97, _⟩ => ⟨S4096, .f32⟩
  | .hbm, ⟨98, _⟩ => ⟨S64, .f32⟩
  | .hbm, ⟨99, _⟩ => ⟨S1x64, .f32⟩
  | .hbm, ⟨100, _⟩ => ⟨S4096, .f32⟩
  | .hbm, ⟨101, _⟩ => ⟨S64, .f32⟩
  | .hbm, ⟨102, _⟩ => ⟨S1x64, .f32⟩
  | .hbm, ⟨103, _⟩ => ⟨S4096, .f32⟩
  | .hbm, ⟨104, _⟩ => ⟨S64, .f32⟩
  | .hbm, ⟨105, _⟩ => ⟨S1x64, .f32⟩
  | .hbm, ⟨106, _⟩ => ⟨S4096, .f32⟩
  | .hbm, ⟨107, _⟩ => ⟨S64, .f32⟩
  | .hbm, ⟨108, _⟩ => ⟨S1x64, .f32⟩
  | .hbm, ⟨109, _⟩ => ⟨S4096, .f32⟩
  | .hbm, ⟨110, _⟩ => ⟨S64, .f32⟩
  | .hbm, ⟨111, _⟩ => ⟨S1x64, .f32⟩
  | .hbm, ⟨112, _⟩ => ⟨S4096, .f32⟩
  | .hbm, ⟨113, _⟩ => ⟨S32, .f32⟩
  | .hbm, ⟨114, _⟩ => ⟨S1x32, .f32⟩
  | .hbm, ⟨115, _⟩ => ⟨S4096, .f32⟩
  | .hbm, ⟨116, _⟩ => ⟨S32, .f32⟩
  | .hbm, ⟨117, _⟩ => ⟨S1x32, .f32⟩
  | .hbm, ⟨118, _⟩ => ⟨S4096, .f32⟩
  | .hbm, ⟨119, _⟩ => ⟨S32, .f32⟩
  | .hbm, ⟨120, _⟩ => ⟨S1x32, .f32⟩
  | .local _ .vmem, ⟨0, _⟩ => ⟨S8x512, .f32⟩
  | .local _ .vmem, ⟨1, _⟩ => ⟨S8x512, .f32⟩
  | .local _ .vmem, ⟨2, _⟩ => ⟨S8x512, .f32⟩
  | .local _ .vmem, ⟨3, _⟩ => ⟨S8x512, .f32⟩
  | .local _ .vmem, ⟨4, _⟩ => ⟨S8x512, .f32⟩
  | .local _ .vmem, ⟨5, _⟩ => ⟨S8x512, .f32⟩
  | .local _ .vmem, ⟨6, _⟩ => ⟨S8x512, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_cst : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_cst_0 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_cst_1 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_cst_2 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36_0 : Ref sig .tc := ⟨.hbm, 64, rfl⟩
abbrev main_v36_1 : Ref sig .tc := ⟨.hbm, 65, rfl⟩
abbrev main_v36_2 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSmallRef.lean ====
abbrev S1x2048 : Shape := ⟨2, ![1, 2048]⟩
abbrev S1x3x256 : Shape := ⟨3, ![1, 3, 256]⟩
abbrev S1x512 : Shape := ⟨2, ![1, 512]⟩
abbrev S1x64 : Shape := ⟨2, ![1, 64]⟩
abbrev S1x32 : Shape := ⟨2, ![1, 32]⟩
abbrev S_ : Shape := ⟨0, ![]⟩

abbrev nBuf : Space → Nat
  | .hbm => 222
  | .vmem => 0
  | .smem => 0
  | _ => 0

abbrev hbmTy0_0 (i : Nat) : BufTy := match i % 128 with
  | 0 => ⟨S1x2048, .f32⟩
  | 1 => ⟨S1x3x256, .f32⟩
  | 2 => ⟨S1x512, .f32⟩
  | 3 => ⟨S1x64, .f32⟩
  | 4 => ⟨S1x64, .f32⟩
  | 5 => ⟨S1x32, .f32⟩
  | 6 => ⟨S1x2048, .f32⟩
  | 7 => ⟨S1x3x256, .f32⟩
  | 8 => ⟨S1x512, .f32⟩
  | 9 => ⟨S1x64, .f32⟩
  | 10 => ⟨S1x64, .f32⟩
  | 11 => ⟨S1x32, .f32⟩
  | 12 => ⟨S1x2048, .f32⟩
  | 13 => ⟨S1x3x256, .f32⟩
  | 14 => ⟨S1x512, .f32⟩
  | 15 => ⟨S1x64, .f32⟩
  | 16 => ⟨S1x64, .f32⟩
  | 17 => ⟨S1x32, .f32⟩
  | 18 => ⟨S1x2048, .f32⟩
  | 19 => ⟨S1x3x256, .f32⟩
  | 20 => ⟨S1x512, .f32⟩
  | 21 => ⟨S1x64, .f32⟩
  | 22 => ⟨S1x64, .f32⟩
  | 23 => ⟨S1x32, .f32⟩
  | 24 => ⟨S_, .f32⟩
  | 25 => ⟨S1x2048, .f32⟩
  | 26 => ⟨S1x2048, .f32⟩
  | 27 => ⟨S_, .f32⟩
  | 28 => ⟨S1x2048, .f32⟩
  | 29 => ⟨S1x2048, .f32⟩
  | 30 => ⟨S1x2048, .f32⟩
  | 31 => ⟨S_, .f32⟩
  | 32 => ⟨S1x2048, .f32⟩
  | 33 => ⟨S1x2048, .f32⟩
  | 34 => ⟨S1x2048, .f32⟩
  | 35 => ⟨S_, .f32⟩
  | 36 => ⟨S1x2048, .f32⟩
  | 37 => ⟨S1x2048, .f32⟩
  | 38 => ⟨S1x2048, .f32⟩
  | 39 => ⟨S_, .f32⟩
  | 40 => ⟨S1x2048, .f32⟩
  | 41 => ⟨S1x2048, .f32⟩
  | 42 => ⟨S_, .f32⟩
  | 43 => ⟨S1x2048, .f32⟩
  | 44 => ⟨S1x2048, .f32⟩
  | 45 => ⟨S1x2048, .f32⟩
  | 46 => ⟨S_, .f32⟩
  | 47 => ⟨S1x2048, .f32⟩
  | 48 => ⟨S1x2048, .f32⟩
  | 49 => ⟨S1x2048, .f32⟩
  | 50 => ⟨S_, .f32⟩
  | 51 => ⟨S1x2048, .f32⟩
  | 52 => ⟨S1x2048, .f32⟩
  | 53 => ⟨S1x2048, .f32⟩
  | 54 => ⟨S_, .f32⟩
  | 55 => ⟨S1x2048, .f32⟩
  | 56 => ⟨S1x2048, .f32⟩
  | 57 => ⟨S_, .f32⟩
  | 58 => ⟨S1x3x256, .f32⟩
  | 59 => ⟨S1x3x256, .f32⟩
  | 60 => ⟨S_, .f32⟩
  | 61 => ⟨S1x3x256, .f32⟩
  | 62 => ⟨S1x3x256, .f32⟩
  | 63 => ⟨S1x3x256, .f32⟩
  | 64 => ⟨S_, .f32⟩
  | 65 => ⟨S1x3x256, .f32⟩
  | 66 => ⟨S1x3x256, .f32⟩
  | 67 => ⟨S1x3x256, .f32⟩
  | 68 => ⟨S_, .f32⟩
  | 69 => ⟨S1x3x256, .f32⟩
  | 70 => ⟨S1x3x256, .f32⟩
  | 71 => ⟨S1x3x256, .f32⟩
  | 72 => ⟨S_, .f32⟩
  | 73 => ⟨S1x3x256, .f32⟩
  | 74 => ⟨S1x3x256, .f32⟩
  | 75 => ⟨S_, .f32⟩
  | 76 => ⟨S1x3x256, .f32⟩
  | 77 => ⟨S1x3x256, .f32⟩
  | 78 => ⟨S1x3x256, .f32⟩
  | 79 => ⟨S_, .f32⟩
  | 80 => ⟨S1x3x256, .f32⟩
  | 81 => ⟨S1x3x256, .f32⟩
  | 82 => ⟨S1x3x256, .f32⟩
  | 83 => ⟨S_, .f32⟩
  | 84 => ⟨S1x3x256, .f32⟩
  | 85 => ⟨S1x3x256, .f32⟩
  | 86 => ⟨S1x3x256, .f32⟩
  | 87 => ⟨S_, .f32⟩
  | 88 => ⟨S1x3x256, .f32⟩
  | 89 => ⟨S1x3x256, .f32⟩
  | 90 => ⟨S_, .f32⟩
  | 91 => ⟨S1x512, .f32⟩
  | 92 => ⟨S1x512, .f32⟩
  | 93 => ⟨S_, .f32⟩
  | 94 => ⟨S1x512, .f32⟩
  | 95 => ⟨S1x512, .f32⟩
  | 96 => ⟨S1x512, .f32⟩
  | 97 => ⟨S_, .f32⟩
  | 98 => ⟨S1x512, .f32⟩
  | 99 => ⟨S1x512, .f32⟩
  | 100 => ⟨S1x512, .f32⟩
  | 101 => ⟨S_, .f32⟩
  | 102 => ⟨S1x512, .f32⟩
  | 103 => ⟨S1x512, .f32⟩
  | 104 => ⟨S1x512, .f32⟩
  | 105 => ⟨S_, .f32⟩
  | 106 => ⟨S1x512, .f32⟩
  | 107 => ⟨S1x512, .f32⟩
  | 108 => ⟨S_, .f32⟩
  | 109 => ⟨S1x512, .f32⟩
  | 110 => ⟨S1x512, .f32⟩
  | 111 => ⟨S1x512, .f32⟩
  | 112 => ⟨S_, .f32⟩
  | 113 => ⟨S1x512, .f32⟩
  | 114 => ⟨S1x512, .f32⟩
  | 115 => ⟨S1x512, .f32⟩
  | 116 => ⟨S_, .f32⟩
  | 117 => ⟨S1x512, .f32⟩
  | 118 => ⟨S1x512, .f32⟩
  | 119 => ⟨S1x512, .f32⟩
  | 120 => ⟨S_, .f32⟩
  | 121 => ⟨S1x512, .f32⟩
  | 122 => ⟨S1x512, .f32⟩
  | 123 => ⟨S_, .f32⟩
  | 124 => ⟨S1x64, .f32⟩
  | 125 => ⟨S1x64, .f32⟩
  | 126 => ⟨S_, .f32⟩
  | 127 => ⟨S1x64, .f32⟩
  | _ => ⟨S1x2048, .f32⟩

abbrev hbmTy0_1 (i : Nat) : BufTy := match i % 128 with
  | 0 => ⟨S1x64, .f32⟩
  | 1 => ⟨S1x64, .f32⟩
  | 2 => ⟨S_, .f32⟩
  | 3 => ⟨S1x64, .f32⟩
  | 4 => ⟨S1x64, .f32⟩
  | 5 => ⟨S1x64, .f32⟩
  | 6 => ⟨S_, .f32⟩
  | 7 => ⟨S1x64, .f32⟩
  | 8 => ⟨S1x64, .f32⟩
  | 9 => ⟨S1x64, .f32⟩
  | 10 => ⟨S_, .f32⟩
  | 11 => ⟨S1x64, .f32⟩
  | 12 => ⟨S1x64, .f32⟩
  | 13 => ⟨S_, .f32⟩
  | 14 => ⟨S1x64, .f32⟩
  | 15 => ⟨S1x64, .f32⟩
  | 16 => ⟨S1x64, .f32⟩
  | 17 => ⟨S_, .f32⟩
  | 18 => ⟨S1x64, .f32⟩
  | 19 => ⟨S1x64, .f32⟩
  | 20 => ⟨S1x64, .f32⟩
  | 21 => ⟨S_, .f32⟩
  | 22 => ⟨S1x64, .f32⟩
  | 23 => ⟨S1x64, .f32⟩
  | 24 => ⟨S1x64, .f32⟩
  | 25 => ⟨S_, .f32⟩
  | 26 => ⟨S1x64, .f32⟩
  | 27 => ⟨S1x64, .f32⟩
  | 28 => ⟨S_, .f32⟩
  | 29 => ⟨S1x64, .f32⟩
  | 30 => ⟨S1x64, .f32⟩
  | 31 => ⟨S_, .f32⟩
  | 32 => ⟨S1x64, .f32⟩
  | 33 => ⟨S1x64, .f32⟩
  | 34 => ⟨S1x64, .f32⟩
  | 35 => ⟨S_, .f32⟩
  | 36 => ⟨S1x64, .f32⟩
  | 37 => ⟨S1x64, .f32⟩
  | 38 => ⟨S1x64, .f32⟩
  | 39 => ⟨S_, .f32⟩
  | 40 => ⟨S1x64, .f32⟩
  | 41 => ⟨S1x64, .f32⟩
  | 42 => ⟨S1x64, .f32⟩
  | 43 => ⟨S_, .f32⟩
  | 44 => ⟨S1x64, .f32⟩
  | 45 => ⟨S1x64, .f32⟩
  | 46 => ⟨S_, .f32⟩
  | 47 => ⟨S1x64, .f32⟩
  | 48 => ⟨S1x64, .f32⟩
  | 49 => ⟨S1x64, .f32⟩
  | 50 => ⟨S_, .f32⟩
  | 51 => ⟨S1x64, .f32⟩
  | 52 => ⟨S1x64, .f32⟩
  | 53 => ⟨S1x64, .f32⟩
  | 54 => ⟨S_, .f32⟩
  | 55 => ⟨S1x64, .f32⟩
  | 56 => ⟨S1x64, .f32⟩
  | 57 => ⟨S1x64, .f32⟩
  | 58 => ⟨S_, .f32⟩
  | 59 => ⟨S1x64, .f32⟩
  | 60 => ⟨S1x64, .f32⟩
  | 61 => ⟨S_, .f32⟩
  | 62 => ⟨S1x32, .f32⟩
  | 63 => ⟨S1x32, .f32⟩
  | 64 => ⟨S_, .f32⟩
  | 65 => ⟨S1x32, .f32⟩
  | 66 => ⟨S1x32, .f32⟩
  | 67 => ⟨S1x32, .f32⟩
  | 68 => ⟨S_, .f32⟩
  | 69 => ⟨S1x32, .f32⟩
  | 70 => ⟨S1x32, .f32⟩
  | 71 => ⟨S1x32, .f32⟩
  | 72 => ⟨S_, .f32⟩
  | 73 => ⟨S1x32, .f32⟩
  | 74 => ⟨S1x32, .f32⟩
  | 75 => ⟨S1x32, .f32⟩
  | 76 => ⟨S_, .f32⟩
  | 77 => ⟨S1x32, .f32⟩
  | 78 => ⟨S1x32, .f32⟩
  | 79 => ⟨S_, .f32⟩
  | 80 => ⟨S1x32, .f32⟩
  | 81 => ⟨S1x32, .f32⟩
  | 82 => ⟨S1x32, .f32⟩
  | 83 => ⟨S_, .f32⟩
  | 84 => ⟨S1x32, .f32⟩
  | 85 => ⟨S1x32, .f32⟩
  | 86 => ⟨S1x32, .f32⟩
  | 87 => ⟨S_, .f32⟩
  | 88 => ⟨S1x32, .f32⟩
  | 89 => ⟨S1x32, .f32⟩
  | 90 => ⟨S1x32, .f32⟩
  | 91 => ⟨S_, .f32⟩
  | 92 => ⟨S1x32, .f32⟩
  | 93 => ⟨S1x32, .f32⟩
  | _ => ⟨S1x2048, .f32⟩

abbrev hbmTy (i : Nat) : BufTy := match i / 128 with
  | 0 => hbmTy0_0 i
  | 1 => hbmTy0_1 i
  | _ => ⟨S1x2048, .f32⟩

abbrev bufTy : (tb : Table) → Fin (tcTables nBuf tb) → BufTy
  | .hbm, ⟨i, _⟩ => hbmTy i
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_cst : Ref sig .tc := ⟨.hbm, 24, rfl⟩
abbrev main_v0 : Ref sig .tc := ⟨.hbm, 25, rfl⟩
abbrev main_v1 : Ref sig .tc := ⟨.hbm, 26, rfl⟩
abbrev main_cst_0 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_cst_1 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_cst_2 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_cst_3 : Ref sig .tc := ⟨.hbm, 39, rfl⟩
abbrev main_v11 : Ref sig .tc := ⟨.hbm, 40, rfl⟩
abbrev main_v12 : Ref sig .tc := ⟨.hbm, 41, rfl⟩
abbrev main_cst_4 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_cst_5 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_cst_6 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_cst_7 : Ref sig .tc := ⟨.hbm, 54, rfl⟩
abbrev main_v22 : Ref sig .tc := ⟨.hbm, 55, rfl⟩
abbrev main_v23 : Ref sig .tc := ⟨.hbm, 56, rfl⟩
abbrev main_cst_8 : Ref sig .tc := ⟨.hbm, 57, rfl⟩
abbrev main_v24 : Ref sig .tc := ⟨.hbm, 58, rfl⟩
abbrev main_v25 : Ref sig .tc := ⟨.hbm, 59, rfl⟩
abbrev main_cst_9 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_cst_10 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_cst_11 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_cst_12 : Ref sig .tc := ⟨.hbm, 72, rfl⟩
abbrev main_v35 : Ref sig .tc := ⟨.hbm, 73, rfl⟩
abbrev main_v36 : Ref sig .tc := ⟨.hbm, 74, rfl⟩
abbrev main_cst_13 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_cst_14 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_cst_15 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_cst_16 : Ref sig .tc := ⟨.hbm, 87, rfl⟩
abbrev main_v46 : Ref sig .tc := ⟨.hbm, 88, rfl⟩
abbrev main_v47 : Ref sig .tc := ⟨.hbm, 89, rfl⟩
abbrev main_cst_17 : Ref sig .tc := ⟨.hbm, 90, rfl⟩
abbrev main_v48 : Ref sig .tc := ⟨.hbm, 91, rfl⟩
abbrev main_v49 : Ref sig .tc := ⟨.hbm, 92, rfl⟩
abbrev main_cst_18 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_cst_19 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_cst_20 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_cst_21 : Ref sig .tc := ⟨.hbm, 105, rfl⟩
abbrev main_v59 : Ref sig .tc := ⟨.hbm, 106, rfl⟩
abbrev main_v60 : Ref sig .tc := ⟨.hbm, 107, rfl⟩
abbrev main_cst_22 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_cst_23 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_cst_24 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_cst_25 : Ref sig .tc := ⟨.hbm, 120, rfl⟩
abbrev main_v70 : Ref sig .tc := ⟨.hbm, 121, rfl⟩
abbrev main_v71 : Ref sig .tc := ⟨.hbm, 122, rfl⟩
abbrev main_cst_26 : Ref sig .tc := ⟨.hbm, 123, rfl⟩
abbrev main_v72 : Ref sig .tc := ⟨.hbm, 124, rfl⟩
abbrev main_v73 : Ref sig .tc := ⟨.hbm, 125, rfl⟩
abbrev main_cst_27 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_cst_28 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_cst_29 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_cst_30 : Ref sig .tc := ⟨.hbm, 138, rfl⟩
abbrev main_v83 : Ref sig .tc := ⟨.hbm, 139, rfl⟩
abbrev main_v84 : Ref sig .tc := ⟨.hbm, 140, rfl⟩
abbrev main_cst_31 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_cst_32 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_cst_33 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_cst_34 : Ref sig .tc := ⟨.hbm, 153, rfl⟩
abbrev main_v94 : Ref sig .tc := ⟨.hbm, 154, rfl⟩
abbrev main_v95 : Ref sig .tc := ⟨.hbm, 155, rfl⟩
abbrev main_cst_35 : Ref sig .tc := ⟨.hbm, 156, rfl⟩
abbrev main_v96 : Ref sig .tc := ⟨.hbm, 157, rfl⟩
abbrev main_v97 : Ref sig .tc := ⟨.hbm, 158, rfl⟩
abbrev main_cst_36 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_cst_37 : Ref sig .tc := ⟨.hbm, 163, rfl⟩
abbrev main_v101 : Ref sig .tc := ⟨.hbm, 164, rfl⟩
abbrev main_v102 : Ref sig .tc := ⟨.hbm, 165, rfl⟩
abbrev main_v103 : Ref sig .tc := ⟨.hbm, 166, rfl⟩
abbrev main_cst_38 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_cst_39 : Ref sig .tc := ⟨.hbm, 171, rfl⟩
abbrev main_v107 : Ref sig .tc := ⟨.hbm, 172, rfl⟩
abbrev main_v108 : Ref sig .tc := ⟨.hbm, 173, rfl⟩
abbrev main_cst_40 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_cst_41 : Ref sig .tc := ⟨.hbm, 178, rfl⟩
abbrev main_v112 : Ref sig .tc := ⟨.hbm, 179, rfl⟩
abbrev main_v113 : Ref sig .tc := ⟨.hbm, 180, rfl⟩
abbrev main_v114 : Ref sig .tc := ⟨.hbm, 181, rfl⟩
abbrev main_cst_42 : Ref sig .tc := ⟨.hbm, 182, rfl⟩
abbrev main_v115 : Ref sig .tc := ⟨.hbm, 183, rfl⟩
abbrev main_v116 : Ref sig .tc := ⟨.hbm, 184, rfl⟩
abbrev main_v117 : Ref sig .tc := ⟨.hbm, 185, rfl⟩
abbrev main_cst_43 : Ref sig .tc := ⟨.hbm, 186, rfl⟩
abbrev main_v118 : Ref sig .tc := ⟨.hbm, 187, rfl⟩
abbrev main_v119 : Ref sig .tc := ⟨.hbm, 188, rfl⟩
abbrev main_cst_44 : Ref sig .tc := ⟨.hbm, 189, rfl⟩
abbrev main_v120 : Ref sig .tc := ⟨.hbm, 190, rfl⟩
abbrev main_v121 : Ref sig .tc := ⟨.hbm, 191, rfl⟩
abbrev main_cst_45 : Ref sig .tc := ⟨.hbm, 192, rfl⟩
abbrev main_v122 : Ref sig .tc := ⟨.hbm, 193, rfl⟩
abbrev main_v123 : Ref sig .tc := ⟨.hbm, 194, rfl⟩
abbrev main_v124 : Ref sig .tc := ⟨.hbm, 195, rfl⟩
abbrev main_cst_46 : Ref sig .tc := ⟨.hbm, 196, rfl⟩
abbrev main_v125 : Ref sig .tc := ⟨.hbm, 197, rfl⟩
abbrev main_v126 : Ref sig .tc := ⟨.hbm, 198, rfl⟩
abbrev main_v127 : Ref sig .tc := ⟨.hbm, 199, rfl⟩
abbrev main_cst_47 : Ref sig .tc := ⟨.hbm, 200, rfl⟩
abbrev main_v128 : Ref sig .tc := ⟨.hbm, 201, rfl⟩
abbrev main_v129 : Ref sig .tc := ⟨.hbm, 202, rfl⟩
abbrev main_v130 : Ref sig .tc := ⟨.hbm, 203, rfl⟩
abbrev main_cst_48 : Ref sig .tc := ⟨.hbm, 204, rfl⟩
abbrev main_v131 : Ref sig .tc := ⟨.hbm, 205, rfl⟩
abbrev main_v132 : Ref sig .tc := ⟨.hbm, 206, rfl⟩
abbrev main_cst_49 : Ref sig .tc := ⟨.hbm, 207, rfl⟩
abbrev main_v133 : Ref sig .tc := ⟨.hbm, 208, rfl⟩
abbrev main_v134 : Ref sig .tc := ⟨.hbm, 209, rfl⟩
abbrev main_v135 : Ref sig .tc := ⟨.hbm, 210, rfl⟩
abbrev main_cst_50 : Ref sig .tc := ⟨.hbm, 211, rfl⟩
abbrev main_v136 : Ref sig .tc := ⟨.hbm, 212, rfl⟩
abbrev main_v137 : Ref sig .tc := ⟨.hbm, 213, rfl⟩
abbrev main_v138 : Ref sig .tc := ⟨.hbm, 214, rfl⟩
abbrev main_cst_51 : Ref sig .tc := ⟨.hbm, 215, rfl⟩
abbrev main_v139 : Ref sig .tc := ⟨.hbm, 216, rfl⟩
abbrev main_v140 : Ref sig .tc := ⟨.hbm, 217, rfl⟩
abbrev main_v141 : Ref sig .tc := ⟨.hbm, 218, rfl⟩
abbrev main_cst_52 : Ref sig .tc := ⟨.hbm, 219, rfl⟩
abbrev main_v142 : Ref sig .tc := ⟨.hbm, 220, rfl⟩
abbrev main_v143 : Ref sig .tc := ⟨.hbm, 221, rfl⟩

abbrev nD : Nat := 1
abbrev τ : Topo := Topo.v7x

variable {F : FTy → Type} [FloatOps F]
-- ==== Norm.lean ====
abbrev S8192x2048 : Shape := ⟨2, ![8192, 2048]⟩
abbrev S1x2048 : Shape := ⟨2, ![1, 2048]⟩
abbrev S8x2048 : Shape := ⟨2, ![8, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .bf16⟩
  | .hbm, ⟨3, _⟩ => ⟨S8192x2048, .f32⟩
  | .hbm, ⟨4, _⟩ => ⟨S8192x2048, .f32⟩
  | .hbm, ⟨5, _⟩ => ⟨S8x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S8x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormRef.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 44
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .bf16⟩
  | .hbm, ⟨3, _⟩ => ⟨S8192x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S8192x2048, .f32⟩
  | .hbm, ⟨31, _⟩ => ⟨S8192x2048, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S_, .f32⟩
  | .hbm, ⟨37, _⟩ => ⟨S8192, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== Loss.lean ====
abbrev S8192x2048 : Shape := ⟨2, ![8192, 2048]⟩
abbrev S8x128 : Shape := ⟨2, ![8, 128]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩
abbrev S_ : Shape := ⟨0, ![]⟩

abbrev nBuf : Space → Nat
  | .hbm => 11
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .bf16⟩
  | .hbm, ⟨4, _⟩ => ⟨S8x128, .f32⟩
  | .hbm, ⟨5, _⟩ => ⟨S1x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .bf16⟩
  | .local _ .vmem, ⟨7, _⟩ => ⟨S256x2048, .bf16⟩
  | .local _ .vmem, ⟨8, _⟩ => ⟨S8x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== LossRef.lean ====
abbrev S8192x2048 : Shape := ⟨2, ![8192, 2048]⟩
abbrev S_ : Shape := ⟨0, ![]⟩
abbrev S8192 : Shape := ⟨1, ![8192]⟩

abbrev nBuf : Space → Nat
  | .hbm => 13
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S_, .f32⟩
  | .hbm, ⟨7, _⟩ => ⟨S8192, .f32⟩
  | .hbm, ⟨8, _⟩ => ⟨S8192, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== LossRefIdeal.lean ====
abbrev S8192x2048 : Shape := ⟨2, ![8192, 2048]⟩
abbrev S_ : Shape := ⟨0, ![]⟩
abbrev S8192 : Shape := ⟨1, ![8192]⟩

abbrev nBuf : Space → Nat
  | .hbm => 13
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S_, .f32⟩
  | .hbm, ⟨7, _⟩ => ⟨S8192, .f32⟩
  | .hbm, ⟨8, _⟩ => ⟨S8192, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== TotalLoss.lean ====
abbrev S1x8192x2048 : Shape := ⟨3, ![1, 8192, 2048]⟩
abbrev S8192x2048 : Shape := ⟨2, ![8192, 2048]⟩
abbrev S8x128 : Shape := ⟨2, ![8, 128]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩
abbrev S_ : Shape := ⟨0, ![]⟩

abbrev nBuf : Space → Nat
  | .hbm => 22
  | .vmem => 9
  | .smem => 0
  | _ => 0

abbrev bufTy : (tb : Table) → Fin (tcTables nBuf tb) → BufTy
  | .hbm, ⟨0, _⟩ => ⟨S1x8192x2048, .f32⟩
  | .hbm, ⟨1, _⟩ => ⟨S1x8192x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .bf16⟩
  | .hbm, ⟨6, _⟩ => ⟨S8x128, .f32⟩
  | .hbm, ⟨7, _⟩ => ⟨S1x1, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .bf16⟩
  | .local _ .vmem, ⟨7, _⟩ => ⟨S256x2048, .bf16⟩
  | .local _ .vmem, ⟨8, _⟩ => ⟨S8x128, .f32⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => false
  | ⟨10, _⟩ => false
  | _ => false

abbrev sig : RefSig :=
  ofTc nBuf bufTy 1 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev main_v3_0 : Ref sig .tc := ⟨.hbm, 4, rfl⟩
abbrev main_v3_1 : Ref sig .tc := ⟨.hbm, 5, rfl⟩
abbrev main_v3_2 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v8_s0 : Ref sig .tc := ⟨.hbm, 14, rfl⟩
abbrev main_v8_s1 : Ref sig .tc := ⟨.hbm, 15, rfl⟩
abbrev main_v8_s2 : Ref sig .tc := ⟨.hbm, 16, rfl⟩
abbrev main_v8_s3 : Ref sig .tc := ⟨.hbm, 17, rfl⟩
abbrev main_v8_s4 : Ref sig .tc := ⟨.hbm, 18, rfl⟩
abbrev main_v8_s5 : Ref sig .tc := ⟨.hbm, 19, rfl⟩
abbrev main_v8_s6 : Ref sig .tc := ⟨.hbm, 20, rfl⟩
abbrev main_v8_s7 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev ar0_recv : DmaSem sig := 9
abbrev ar0_send : DmaSem sig := 10
abbrev ar0_barrier : Sem sig := 0

abbrev nD : Nat := 8
abbrev τ : Topo := Topo.v7x

variable {F : FTy → Type} [FloatOps F]

abbrev ar0_mem : Fin 1 × Fin 8 → Dev nD := fun q => (![![0, 1, 2, 3, 4, 5, 6, 7]] : Fin 1 → Fin 8 → Dev nD) q.1 q.2
abbrev ar0_pos : Dev nD → Fin 1 × Fin 8 := fun c => ((![0, 0, 0, 0, 0, 0, 0, 0] : Fin 8 → Fin 1) c, (![0, 1, 2, 3, 4, 5, 6, 7] : Fin 8 → Fin 8) c)
abbrev ar0_stage : Fin 8 → Ref sig .tc := fun | 0 => main_v8_s0 | 1 => main_v8_s1 | 2 => main_v8_s2 | 3 => main_v8_s3 | 4 => main_v8_s4 | 5 => main_v8_s5 | 6 => main_v8_s6 | 7 => main_v8_s7 | ⟨_ + 8, h⟩ => absurd h (Nat.not_lt.2 (Nat.le_add_left _ _))

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== TotalLossRef.lean ====
abbrev S8x8192x2048 : Shape := ⟨3, ![8, 8192, 2048]⟩
abbrev S_ : Shape := ⟨0, ![]⟩
abbrev S8x8192 : Shape := ⟨2, ![8, 8192]⟩

abbrev nBuf : Space → Nat
  | .hbm => 13
  | .vmem => 0
  | .smem => 0
  | _ => 0

abbrev bufTy : (tb : Table) → Fin (tcTables nBuf tb) → BufTy
  | .hbm, ⟨0, _⟩ => ⟨S8x8192x2048, .f32⟩
  | .hbm, ⟨1, _⟩ => ⟨S8x8192x2048, .f32⟩
  | .hbm, ⟨2, _⟩ => ⟨S8x8192x2048, .f32⟩
  | .hbm, ⟨3, _⟩ => ⟨S8x8192x2048, .f32⟩
  | .hbm, ⟨4, _⟩ => ⟨S_, .f32⟩
  | .hbm, ⟨5, _⟩ => ⟨S8x8192, .f32⟩
  | .hbm, ⟨6, _⟩ => ⟨S_, .f32⟩
  | .hbm, ⟨7, _⟩ => ⟨S8x8192, .f32⟩
  | .hbm, ⟨8, _⟩ => ⟨S8x8192, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | _, _ => ⟨S8x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== PairEvenIn.lean ====
abbrev S1024x8192 : Shape := ⟨2, ![1024, 8192]⟩
abbrev S256x8192 : Shape := ⟨2, ![256, 8192]⟩

abbrev nBuf : Space → Nat
  | .hbm => 3
  | .vmem => 6
  | .smem => 0
  | _ => 0

abbrev bufTy : (tb : Table) → Fin (tcTables nBuf tb) → BufTy
  | .hbm, ⟨0, _⟩ => ⟨S1024x8192, .bf16⟩
  | .hbm, ⟨1, _⟩ => ⟨S1024x8192, .bf16⟩
  | .hbm, ⟨2, _⟩ => ⟨S1024x8192, .bf16⟩
  | .local _ .vmem, ⟨0, _⟩ => ⟨S256x8192, .bf16⟩
  | .local _ .vmem, ⟨1, _⟩ => ⟨S256x8192, .bf16⟩
  | .local _ .vmem, ⟨2, _⟩ => ⟨S256x8192, .bf16⟩
  | .local _ .vmem, ⟨3, _⟩ => ⟨S256x8192, .bf16⟩
  | .local _ .vmem, ⟨4, _⟩ => ⟨S256x8192, .bf16⟩
  | .local _ .vmem, ⟨5, _⟩ => ⟨S256x8192, .bf16⟩
  | _, _ => ⟨S1024x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PairEvenInIdeal.lean ====
abbrev S1024x8192 : Shape := ⟨2, ![1024, 8192]⟩
abbrev S256x8192 : Shape := ⟨2, ![256, 8192]⟩

abbrev nBuf : Space → Nat
  | .hbm => 3
  | .vmem => 6
  | .smem => 0
  | _ => 0

abbrev bufTy : (tb : Table) → Fin (tcTables nBuf tb) → BufTy
  | .hbm, ⟨0, _⟩ => ⟨S1024x8192, .bf16⟩
  | .hbm, ⟨1, _⟩ => ⟨S1024x8192, .bf16⟩
  | .hbm, ⟨2, _⟩ => ⟨S1024x8192, .bf16⟩
  | .local _ .vmem, ⟨0, _⟩ => ⟨S256x8192, .bf16⟩
  | .local _ .vmem, ⟨1, _⟩ => ⟨S256x8192, .bf16⟩
  | .local _ .vmem, ⟨2, _⟩ => ⟨S256x8192, .bf16⟩
  | .local _ .vmem, ⟨3, _⟩ => ⟨S256x8192, .bf16⟩
  | .local _ .vmem, ⟨4, _⟩ => ⟨S256x8192, .bf16⟩
  | .local _ .vmem, ⟨5, _⟩ => ⟨S256x8192, .bf16⟩
  | _, _ => ⟨S1024x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PairEvenInRef.lean ====
abbrev S1024x8192 : Shape := ⟨2, ![1024, 8192]⟩

abbrev nBuf : Space → Nat
  | .hbm => 6
  | .vmem => 0
  | .smem => 0
  | _ => 0

abbrev bufTy : (tb : Table) → Fin (tcTables nBuf tb) → BufTy
  | .hbm, ⟨0, _⟩ => ⟨S1024x8192, .bf16⟩
  | .hbm, ⟨1, _⟩ => ⟨S1024x8192, .bf16⟩
  | .hbm, ⟨2, _⟩ => ⟨S1024x8192, .f32⟩
  | .hbm, ⟨3, _⟩ => ⟨S1024x8192, .f32⟩
  | .hbm, ⟨4, _⟩ => ⟨S1024x8192, .f32⟩
  | .hbm, ⟨5, _⟩ => ⟨S1024x8192, .bf16⟩
  | _, _ => ⟨S1024x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== PairEvenInRefIdeal.lean ====
abbrev S1024x8192 : Shape := ⟨2, ![1024, 8192]⟩

abbrev nBuf : Space → Nat
  | .hbm => 6
  | .vmem => 0
  | .smem => 0
  | _ => 0

abbrev bufTy : (tb : Table) → Fin (tcTables nBuf tb) → BufTy
  | .hbm, ⟨0, _⟩ => ⟨S1024x8192, .bf16⟩
  | .hbm, ⟨1, _⟩ => ⟨S1024x8192, .bf16⟩
  | .hbm, ⟨2, _⟩ => ⟨S1024x8192, .f32⟩
  | .hbm, ⟨3, _⟩ => ⟨S1024x8192, .f32⟩
  | .hbm, ⟨4, _⟩ => ⟨S1024x8192, .f32⟩
  | .hbm, ⟨5, _⟩ => ⟨S1024x8192, .bf16⟩
  | _, _ => ⟨S1024x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== PairOddIn.lean ====
abbrev S1024x4608 : Shape := ⟨2, ![1024, 4608]⟩
abbrev S256x4608 : Shape := ⟨2, ![256, 4608]⟩

abbrev nBuf : Space → Nat
  | .hbm => 3
  | .vmem => 6
  | .smem => 0
  | _ => 0

abbrev bufTy : (tb : Table) → Fin (tcTables nBuf tb) → BufTy
  | .hbm, ⟨0, _⟩ => ⟨S1024x4608, .bf16⟩
  | .hbm, ⟨1, _⟩ => ⟨S1024x4608, .bf16⟩
  | .hbm, ⟨2, _⟩ => ⟨S1024x4608, .bf16⟩
  | .local _ .vmem, ⟨0, _⟩ => ⟨S256x4608, .bf16⟩
  | .local _ .vmem, ⟨1, _⟩ => ⟨S256x4608, .bf16⟩
  | .local _ .vmem, ⟨2, _⟩ => ⟨S256x4608, .bf16⟩
  | .local _ .vmem, ⟨3, _⟩ => ⟨S256x4608, .bf16⟩
  | .local _ .vmem, ⟨4, _⟩ => ⟨S256x4608, .bf16⟩
  | .local _ .vmem, ⟨5, _⟩ => ⟨S256x4608, .bf16⟩
  | _, _ => ⟨S1024x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4608 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4608 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4608 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PairOddInIdeal.lean ====
abbrev S1024x4608 : Shape := ⟨2, ![1024, 4608]⟩
abbrev S256x4608 : Shape := ⟨2, ![256, 4608]⟩

abbrev nBuf : Space → Nat
  | .hbm => 3
  | .vmem => 6
  | .smem => 0
  | _ => 0

abbrev bufTy : (tb : Table) → Fin (tcTables nBuf tb) → BufTy
  | .hbm, ⟨0, _⟩ => ⟨S1024x4608, .bf16⟩
  | .hbm, ⟨1, _⟩ => ⟨S1024x4608, .bf16⟩
  | .hbm, ⟨2, _⟩ => ⟨S1024x4608, .bf16⟩
  | .local _ .vmem, ⟨0, _⟩ => ⟨S256x4608, .bf16⟩
  | .local _ .vmem, ⟨1, _⟩ => ⟨S256x4608, .bf16⟩
  | .local _ .vmem, ⟨2, _⟩ => ⟨S256x4608, .bf16⟩
  | .local _ .vmem, ⟨3, _⟩ => ⟨S256x4608, .bf16⟩
  | .local _ .vmem, ⟨4, _⟩ => ⟨S256x4608, .bf16⟩
  | .local _ .vmem, ⟨5, _⟩ => ⟨S256x4608, .bf16⟩
  | _, _ => ⟨S1024x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4608 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4608 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4608 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PairOddInRef.lean ====
abbrev S1024x4608 : Shape := ⟨2, ![1024, 4608]⟩

abbrev nBuf : Space → Nat
  | .hbm => 6
  | .vmem => 0
  | .smem => 0
  | _ => 0

abbrev bufTy : (tb : Table) → Fin (tcTables nBuf tb) → BufTy
  | .hbm, ⟨0, _⟩ => ⟨S1024x4608, .bf16⟩
  | .hbm, ⟨1, _⟩ => ⟨S1024x4608, .bf16⟩
  | .hbm, ⟨2, _⟩ => ⟨S1024x4608, .f32⟩
  | .hbm, ⟨3, _⟩ => ⟨S1024x4608, .f32⟩
  | .hbm, ⟨4, _⟩ => ⟨S1024x4608, .f32⟩
  | .hbm, ⟨5, _⟩ => ⟨S1024x4608, .bf16⟩
  | _, _ => ⟨S1024x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== PairOddInRefIdeal.lean ====
abbrev S1024x4608 : Shape := ⟨2, ![1024, 4608]⟩

abbrev nBuf : Space → Nat
  | .hbm => 6
  | .vmem => 0
  | .smem => 0
  | _ => 0

abbrev bufTy : (tb : Table) → Fin (tcTables nBuf tb) → BufTy
  | .hbm, ⟨0, _⟩ => ⟨S1024x4608, .bf16⟩
  | .hbm, ⟨1, _⟩ => ⟨S1024x4608, .bf16⟩
  | .hbm, ⟨2, _⟩ => ⟨S1024x4608, .f32⟩
  | .hbm, ⟨3, _⟩ => ⟨S1024x4608, .f32⟩
  | .hbm, ⟨4, _⟩ => ⟨S1024x4608, .f32⟩
  | .hbm, ⟨5, _⟩ => ⟨S1024x4608, .bf16⟩
  | _, _ => ⟨S1024x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== PairOut.lean ====
abbrev S1024x2048 : Shape := ⟨2, ![1024, 2048]⟩
abbrev S256x2048 : Shape := ⟨2, ![256, 2048]⟩

abbrev nBuf : Space → Nat
  | .hbm => 3
  | .vmem => 6
  | .smem => 0
  | _ => 0

abbrev bufTy : (tb : Table) → Fin (tcTables nBuf tb) → BufTy
  | .hbm, ⟨0, _⟩ => ⟨S1024x2048, .bf16⟩
  | .hbm, ⟨1, _⟩ => ⟨S1024x2048, .bf16⟩
  | .hbm, ⟨2, _⟩ => ⟨S1024x2048, .bf16⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | _, _ => ⟨S1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PairOutRef.lean ====
abbrev S1024x2048 : Shape := ⟨2, ![1024, 2048]⟩

abbrev nBuf : Space → Nat
  | .hbm => 6
  | .vmem => 0
  | .smem => 0
  | _ => 0

abbrev bufTy : (tb : Table) → Fin (tcTables nBuf tb) → BufTy
  | .hbm, ⟨0, _⟩ => ⟨S1024x2048, .bf16⟩
  | .hbm, ⟨1, _⟩ => ⟨S1024x2048, .bf16⟩
  | .hbm, ⟨2, _⟩ => ⟨S1024x2048, .f32⟩
  | .hbm, ⟨3, _⟩ => ⟨S1024x2048, .f32⟩
  | .hbm, ⟨4, _⟩ => ⟨S1024x2048, .f32⟩
  | .hbm, ⟨5, _⟩ => ⟨S1024x2048, .bf16⟩
  | _, _ => ⟨S1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ChipsEvenIn.lean ====
abbrev S4x1024x2048 : Shape := ⟨3, ![4, 1024, 2048]⟩
abbrev S1024x2048 : Shape := ⟨2, ![1024, 2048]⟩
abbrev S4x256x2048 : Shape := ⟨3, ![4, 256, 2048]⟩
abbrev S256x2048 : Shape := ⟨2, ![256, 2048]⟩
abbrev S1x256x2048 : Shape := ⟨3, ![1, 256, 2048]⟩

abbrev nBuf : Space → Nat
  | .hbm => 2
  | .vmem => 4
  | .smem => 0
  | _ => 0

abbrev bufTy : (tb : Table) → Fin (tcTables nBuf tb) → BufTy
  | .hbm, ⟨0, _⟩ => ⟨S4x1024x2048, .bf16⟩
  | .hbm, ⟨1, _⟩ => ⟨S1024x2048, .f32⟩
  | .local _ .vmem, ⟨0, _⟩ => ⟨S4x256x2048, .bf16⟩
  | .local _ .vmem, ⟨1, _⟩ => ⟨S4x256x2048, .bf16⟩
  | .local _ .vmem, ⟨2, _⟩ => ⟨S256x2048, .f32⟩
  | .local _ .vmem, ⟨3, _⟩ => ⟨S256x2048, .f32⟩
  | _, _ => ⟨S4x1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ChipsEvenInIdeal.lean ====
abbrev S4x1024x2048 : Shape := ⟨3, ![4, 1024, 2048]⟩
abbrev S1024x2048 : Shape := ⟨2, ![1024, 2048]⟩
abbrev S4x256x2048 : Shape := ⟨3, ![4, 256, 2048]⟩
abbrev S256x2048 : Shape := ⟨2, ![256, 2048]⟩
abbrev S1x256x2048 : Shape := ⟨3, ![1, 256, 2048]⟩

abbrev nBuf : Space → Nat
  | .hbm => 2
  | .vmem => 4
  | .smem => 0
  | _ => 0

abbrev bufTy : (tb : Table) → Fin (tcTables nBuf tb) → BufTy
  | .hbm, ⟨0, _⟩ => ⟨S4x1024x2048, .bf16⟩
  | .hbm, ⟨1, _⟩ => ⟨S1024x2048, .f32⟩
  | .local _ .vmem, ⟨0, _⟩ => ⟨S4x256x2048, .bf16⟩
  | .local _ .vmem, ⟨1, _⟩ => ⟨S4x256x2048, .bf16⟩
  | .local _ .vmem, ⟨2, _⟩ => ⟨S256x2048, .f32⟩
  | .local _ .vmem, ⟨3, _⟩ => ⟨S256x2048, .f32⟩
  | _, _ => ⟨S4x1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ChipsEvenInRef.lean ====
abbrev S4x1024x2048 : Shape := ⟨3, ![4, 1024, 2048]⟩
abbrev S_ : Shape := ⟨0, ![]⟩
abbrev S1024x2048 : Shape := ⟨2, ![1024, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4x1024x2048, .bf16⟩
  | .hbm, ⟨1, _⟩ => ⟨S4x1024x2048, .f32⟩
  | .hbm, ⟨2, _⟩ => ⟨S_, .f32⟩
  | .hbm, ⟨3, _⟩ => ⟨S1024x2048, .f32⟩
  | _, _ => ⟨S4x1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== ChipsEvenInRefIdeal.lean ====
abbrev S4x1024x2048 : Shape := ⟨3, ![4, 1024, 2048]⟩
abbrev S_ : Shape := ⟨0, ![]⟩
abbrev S1024x2048 : Shape := ⟨2, ![1024, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4x1024x2048, .bf16⟩
  | .hbm, ⟨1, _⟩ => ⟨S4x1024x2048, .f32⟩
  | .hbm, ⟨2, _⟩ => ⟨S_, .f32⟩
  | .hbm, ⟨3, _⟩ => ⟨S1024x2048, .f32⟩
  | _, _ => ⟨S4x1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== ChipsOddIn.lean ====
abbrev S4x1024x1152 : Shape := ⟨3, ![4, 1024, 1152]⟩
abbrev S1024x1152 : Shape := ⟨2, ![1024, 1152]⟩
abbrev S4x256x1152 : Shape := ⟨3, ![4, 256, 1152]⟩
abbrev S256x1152 : Shape := ⟨2, ![256, 1152]⟩
abbrev S1x256x1152 : Shape := ⟨3, ![1, 256, 1152]⟩

abbrev nBuf : Space → Nat
  | .hbm => 2
  | .vmem => 4
  | .smem => 0
  | _ => 0

abbrev bufTy : (tb : Table) → Fin (tcTables nBuf tb) → BufTy
  | .hbm, ⟨0, _⟩ => ⟨S4x1024x1152, .bf16⟩
  | .hbm, ⟨1, _⟩ => ⟨S1024x1152, .f32⟩
  | .local _ .vmem, ⟨0, _⟩ => ⟨S4x256x1152, .bf16⟩
  | .local _ .vmem, ⟨1, _⟩ => ⟨S4x256x1152, .bf16⟩
  | .local _ .vmem, ⟨2, _⟩ => ⟨S256x1152, .f32⟩
  | .local _ .vmem, ⟨3, _⟩ => ⟨S256x1152, .f32⟩
  | _, _ => ⟨S4x1024x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ChipsOddInIdeal.lean ====
abbrev S4x1024x1152 : Shape := ⟨3, ![4, 1024, 1152]⟩
abbrev S1024x1152 : Shape := ⟨2, ![1024, 1152]⟩
abbrev S4x256x1152 : Shape := ⟨3, ![4, 256, 1152]⟩
abbrev S256x1152 : Shape := ⟨2, ![256, 1152]⟩
abbrev S1x256x1152 : Shape := ⟨3, ![1, 256, 1152]⟩

abbrev nBuf : Space → Nat
  | .hbm => 2
  | .vmem => 4
  | .smem => 0
  | _ => 0

abbrev bufTy : (tb : Table) → Fin (tcTables nBuf tb) → BufTy
  | .hbm, ⟨0, _⟩ => ⟨S4x1024x1152, .bf16⟩
  | .hbm, ⟨1, _⟩ => ⟨S1024x1152, .f32⟩
  | .local _ .vmem, ⟨0, _⟩ => ⟨S4x256x1152, .bf16⟩
  | .local _ .vmem, ⟨1, _⟩ => ⟨S4x256x1152, .bf16⟩
  | .local _ .vmem, ⟨2, _⟩ => ⟨S256x1152, .f32⟩
  | .local _ .vmem, ⟨3, _⟩ => ⟨S256x1152, .f32⟩
  | _, _ => ⟨S4x1024x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ChipsOddInRef.lean ====
abbrev S4x1024x1152 : Shape := ⟨3, ![4, 1024, 1152]⟩
abbrev S_ : Shape := ⟨0, ![]⟩
abbrev S1024x1152 : Shape := ⟨2, ![1024, 1152]⟩

abbrev nBuf : Space → Nat
  | .hbm => 4
  | .vmem => 0
  | .smem => 0
  | _ => 0

abbrev bufTy : (tb : Table) → Fin (tcTables nBuf tb) → BufTy
  | .hbm, ⟨0, _⟩ => ⟨S4x1024x1152, .bf16⟩
  | .hbm, ⟨1, _⟩ => ⟨S4x1024x1152, .f32⟩
  | .hbm, ⟨2, _⟩ => ⟨S_, .f32⟩
  | .hbm, ⟨3, _⟩ => ⟨S1024x1152, .f32⟩
  | _, _ => ⟨S4x1024x1152, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== ChipsOddInRefIdeal.lean ====
abbrev S4x1024x1152 : Shape := ⟨3, ![4, 1024, 1152]⟩
abbrev S_ : Shape := ⟨0, ![]⟩
abbrev S1024x1152 : Shape := ⟨2, ![1024, 1152]⟩

abbrev nBuf : Space → Nat
  | .hbm => 4
  | .vmem => 0
  | .smem => 0
  | _ => 0

abbrev bufTy : (tb : Table) → Fin (tcTables nBuf tb) → BufTy
  | .hbm, ⟨0, _⟩ => ⟨S4x1024x1152, .bf16⟩
  | .hbm, ⟨1, _⟩ => ⟨S4x1024x1152, .f32⟩
  | .hbm, ⟨2, _⟩ => ⟨S_, .f32⟩
  | .hbm, ⟨3, _⟩ => ⟨S1024x1152, .f32⟩
  | _, _ => ⟨S4x1024x1152, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== ChipsOut.lean ====
abbrev S4x256x2048 : Shape := ⟨3, ![4, 256, 2048]⟩
abbrev S256x2048 : Shape := ⟨2, ![256, 2048]⟩
abbrev S1x256x2048 : Shape := ⟨3, ![1, 256, 2048]⟩

abbrev nBuf : Space → Nat
  | .hbm => 2
  | .vmem => 2
  | .smem => 0
  | _ => 0

abbrev bufTy : (tb : Table) → Fin (tcTables nBuf tb) → BufTy
  | .hbm, ⟨0, _⟩ => ⟨S4x256x2048, .bf16⟩
  | .hbm, ⟨1, _⟩ => ⟨S256x2048, .f32⟩
  | .local _ .vmem, ⟨0, _⟩ => ⟨S4x256x2048, .bf16⟩
  | .local _ .vmem, ⟨1, _⟩ => ⟨S256x2048, .f32⟩
  | _, _ => ⟨S4x256x2048, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== ChipsOutRef.lean ====
abbrev S4x256x2048 : Shape := ⟨3, ![4, 256, 2048]⟩
abbrev S_ : Shape := ⟨0, ![]⟩
abbrev S256x2048 : Shape := ⟨2, ![256, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4x256x2048, .bf16⟩
  | .hbm, ⟨1, _⟩ => ⟨S4x256x2048, .f32⟩
  | .hbm, ⟨2, _⟩ => ⟨S_, .f32⟩
  | .hbm, ⟨3, _⟩ => ⟨S256x2048, .f32⟩
  | _, _ => ⟨S4x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== NormForward.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormForwardRef.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== EvenIn.lean ====
abbrev S8192x2048 : Shape := ⟨2, ![8192, 2048]⟩
abbrev S2048x8192 : Shape := ⟨2, ![2048, 8192]⟩
abbrev S8192x8192 : Shape := ⟨2, ![8192, 8192]⟩
abbrev S1024x2048 : Shape := ⟨2, ![1024, 2048]⟩
abbrev S2048x1024 : Shape := ⟨2, ![2048, 1024]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .bf16⟩
  | .hbm, ⟨2, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S8x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvenInRef.lean ====
abbrev S8192x2048 : Shape := ⟨2, ![8192, 2048]⟩
abbrev S2048x8192 : Shape := ⟨2, ![2048, 8192]⟩
abbrev S8192x8192 : Shape := ⟨2, ![8192, 8192]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .bf16⟩
  | .hbm, ⟨2, _⟩ => ⟨S8192x2048, .f32⟩
  | .hbm, ⟨3, _⟩ => ⟨S2048x8192, .f32⟩
  | .hbm, ⟨4, _⟩ => ⟨S8192x8192, .f32⟩
  | .hbm, ⟨5, _⟩ => ⟨S8192x8192, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== EvenInRefIdeal.lean ====
abbrev S8192x2048 : Shape := ⟨2, ![8192, 2048]⟩
abbrev S2048x8192 : Shape := ⟨2, ![2048, 8192]⟩
abbrev S8192x8192 : Shape := ⟨2, ![8192, 8192]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .bf16⟩
  | .hbm, ⟨2, _⟩ => ⟨S8192x2048, .f32⟩
  | .hbm, ⟨3, _⟩ => ⟨S2048x8192, .f32⟩
  | .hbm, ⟨4, _⟩ => ⟨S8192x8192, .f32⟩
  | .hbm, ⟨5, _⟩ => ⟨S8192x8192, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== OddIn.lean ====
abbrev S8192x2048 : Shape := ⟨2, ![8192, 2048]⟩
abbrev S2048x4608 : Shape := ⟨2, ![2048, 4608]⟩
abbrev S8192x4608 : Shape := ⟨2, ![8192, 4608]⟩
abbrev S1024x2048 : Shape := ⟨2, ![1024, 2048]⟩
abbrev S2048x1152 : Shape := ⟨2, ![2048, 1152]⟩
abbrev S1024x1152 : Shape := ⟨2, ![1024, 1152]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x4608, .bf16⟩
  | .hbm, ⟨2, _⟩ => ⟨S8192x4608, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1152, .bf16⟩
  | .local _ .vmem, ⟨3, _⟩ => ⟨S2048x1152, .bf16⟩
  | .local _ .vmem, ⟨4, _⟩ => ⟨S1024x1152, .bf16⟩
  | .local _ .vmem, ⟨5, _⟩ => ⟨S1024x1152, .bf16⟩
  | .local _ .vmem, ⟨6, _⟩ => ⟨S8x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OddInRef.lean ====
abbrev S8192x2048 : Shape := ⟨2, ![8192, 2048]⟩
abbrev S2048x4608 : Shape := ⟨2, ![2048, 4608]⟩
abbrev S8192x4608 : Shape := ⟨2, ![8192, 4608]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x4608, .bf16⟩
  | .hbm, ⟨2, _⟩ => ⟨S8192x2048, .f32⟩
  | .hbm, ⟨3, _⟩ => ⟨S2048x4608, .f32⟩
  | .hbm, ⟨4, _⟩ => ⟨S8192x4608, .f32⟩
  | .hbm, ⟨5, _⟩ => ⟨S8192x4608, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== LayerOut.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩
abbrev S8x128 : Shape := ⟨2, ![8, 128]⟩

abbrev nBuf : Space → Nat
  | .hbm => 4
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S8x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== LayerOutRef.lean ====
abbrev S8192x2048 : Shape := ⟨2, ![8192, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutGrad.lean ====
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S8x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutGradRef.lean ====
abbrev S8192x2048 : Shape := ⟨2, ![8192, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S2048x2048, .f32⟩
  | .hbm, ⟨4, _⟩ => ⟨S2048x2048, .f32⟩
  | .hbm, ⟨5, _⟩ => ⟨S8192x2048, .f32⟩
  | .hbm, ⟨6, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== OutGradRefIdeal.lean ====
abbrev S8192x2048 : Shape := ⟨2, ![8192, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S2048x2048, .f32⟩
  | .hbm, ⟨4, _⟩ => ⟨S2048x2048, .f32⟩
  | .hbm, ⟨5, _⟩ => ⟨S8192x2048, .f32⟩
  | .hbm, ⟨6, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== OddInGrad.lean ====
abbrev S8192x4608 : Shape := ⟨2, ![8192, 4608]⟩
abbrev S2048x4608 : Shape := ⟨2, ![2048, 4608]⟩
abbrev S8192x2048 : Shape := ⟨2, ![8192, 2048]⟩
abbrev S1024x1152 : Shape := ⟨2, ![1024, 1152]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4608, .bf16⟩
  | .hbm, ⟨1, _⟩ => ⟨S2048x4608, .bf16⟩
  | .hbm, ⟨2, _⟩ => ⟨S8192x2048, .bf16⟩
  | .local _ .vmem, ⟨0, _⟩ => ⟨S1024x1152, .bf16⟩
  | .local _ .vmem, ⟨1, _⟩ => ⟨S1024x1152, .bf16⟩
  | .local _ .vmem, ⟨2, _⟩ => ⟨S1024x1152, .bf16⟩
  | .local _ .vmem, ⟨3, _⟩ => ⟨S1024x1152, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OddInGradRef.lean ====
abbrev S8192x4608 : Shape := ⟨2, ![8192, 4608]⟩
abbrev S2048x4608 : Shape := ⟨2, ![2048, 4608]⟩
abbrev S4608x2048 : Shape := ⟨2, ![4608, 2048]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x4608, .bf16⟩
  | .hbm, ⟨1, _⟩ => ⟨S2048x4608, .bf16⟩
  | .hbm, ⟨2, _⟩ => ⟨S8192x4608, .f32⟩
  | .hbm, ⟨3, _⟩ => ⟨S2048x4608, .f32⟩
  | .hbm, ⟨4, _⟩ => ⟨S4608x2048, .f32⟩
  | .hbm, ⟨5, _⟩ => ⟨S8192x2048, .f32⟩
  | .hbm, ⟨6, _⟩ => ⟨S8192x2048, .bf16⟩
  | _, _ => ⟨S8192x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== OddInGradRefIdeal.lean ====
abbrev S8192x4608 : Shape := ⟨2, ![8192, 4608]⟩
abbrev S2048x4608 : Shape := ⟨2, ![2048, 4608]⟩
abbrev S4608x2048 : Shape := ⟨2, ![4608, 2048]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x4608, .bf16⟩
  | .hbm, ⟨1, _⟩ => ⟨S2048x4608, .bf16⟩
  | .hbm, ⟨2, _⟩ => ⟨S8192x4608, .f32⟩
  | .hbm, ⟨3, _⟩ => ⟨S2048x4608, .f32⟩
  | .hbm, ⟨4, _⟩ => ⟨S4608x2048, .f32⟩
  | .hbm, ⟨5, _⟩ => ⟨S8192x2048, .f32⟩
  | .hbm, ⟨6, _⟩ => ⟨S8192x2048, .bf16⟩
  | _, _ => ⟨S8192x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== EvenInGrad.lean ====
abbrev S8192x8192 : Shape := ⟨2, ![8192, 8192]⟩
abbrev S2048x8192 : Shape := ⟨2, ![2048, 8192]⟩
abbrev S8192x2048 : Shape := ⟨2, ![8192, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x8192, .bf16⟩
  | .hbm, ⟨1, _⟩ => ⟨S2048x8192, .bf16⟩
  | .hbm, ⟨2, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvenInGradRef.lean ====
abbrev S8192x8192 : Shape := ⟨2, ![8192, 8192]⟩
abbrev S2048x8192 : Shape := ⟨2, ![2048, 8192]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S2048x8192, .bf16⟩
  | .hbm, ⟨2, _⟩ => ⟨S8192x8192, .f32⟩
  | .hbm, ⟨3, _⟩ => ⟨S2048x8192, .f32⟩
  | .hbm, ⟨4, _⟩ => ⟨S8192x2048, .f32⟩
  | .hbm, ⟨5, _⟩ => ⟨S8192x2048, .f32⟩
  | .hbm, ⟨6, _⟩ => ⟨S8192x2048, .bf16⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== OutWeightGrad.lean ====
abbrev S8192x2048 : Shape := ⟨2, ![8192, 2048]⟩
abbrev S2048x2048 : Shape := ⟨2, ![2048, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 8], ![false, false, false]⟩

def k0_cond3 (i : grid0.Coords) : BitVec 1 :=
  let arg2 : BitVec 32 := BitVec.ofNat 32 (i 2).val
  let c7_i32_6 : BitVec 32 := 7#32
  let v11 : BitVec 1 := Scalar.cmpi .eq arg2 c7_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutWeightGradRef.lean ====
abbrev S8192x2048 : Shape := ⟨2, ![8192, 2048]⟩
abbrev S2048x8192 : Shape := ⟨2, ![2048, 8192]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x2048, .f32⟩
  | .hbm, ⟨3, _⟩ => ⟨S2048x8192, .f32⟩
  | .hbm, ⟨4, _⟩ => ⟨S8192x2048, .f32⟩
  | .hbm, ⟨5, _⟩ => ⟨S2048x2048, .f32⟩
  | .hbm, ⟨6, _⟩ => ⟨S2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== OutWeightGradRefIdeal.lean ====
abbrev S8192x2048 : Shape := ⟨2, ![8192, 2048]⟩
abbrev S2048x8192 : Shape := ⟨2, ![2048, 8192]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x2048, .f32⟩
  | .hbm, ⟨3, _⟩ => ⟨S2048x8192, .f32⟩
  | .hbm, ⟨4, _⟩ => ⟨S8192x2048, .f32⟩
  | .hbm, ⟨5, _⟩ => ⟨S2048x2048, .f32⟩
  | .hbm, ⟨6, _⟩ => ⟨S2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== OddInWeightGrad.lean ====
abbrev S8192x2048 : Shape := ⟨2, ![8192, 2048]⟩
abbrev S8192x4608 : Shape := ⟨2, ![8192, 4608]⟩
abbrev S2048x4608 : Shape := ⟨2, ![2048, 4608]⟩
abbrev S1024x1024 : Shape := ⟨2, ![1024, 1024]⟩
abbrev S1024x1152 : Shape := ⟨2, ![1024, 1152]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x4608, .bf16⟩
  | .hbm, ⟨2, _⟩ => ⟨S2048x4608, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1152, .bf16⟩
  | .local _ .vmem, ⟨3, _⟩ => ⟨S1024x1152, .bf16⟩
  | .local _ .vmem, ⟨4, _⟩ => ⟨S1024x1152, .bf16⟩
  | .local _ .vmem, ⟨5, _⟩ => ⟨S1024x1152, .bf16⟩
  | .local _ .vmem, ⟨6, _⟩ => ⟨S1024x1152, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 8], ![false, false, false]⟩

def k0_cond3 (i : grid0.Coords) : BitVec 1 :=
  let arg2 : BitVec 32 := BitVec.ofNat 32 (i 2).val
  let c7_i32_6 : BitVec 32 := 7#32
  let v11 : BitVec 1 := Scalar.cmpi .eq arg2 c7_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OddInWeightGradRef.lean ====
abbrev S8192x2048 : Shape := ⟨2, ![8192, 2048]⟩
abbrev S8192x4608 : Shape := ⟨2, ![8192, 4608]⟩
abbrev S2048x8192 : Shape := ⟨2, ![2048, 8192]⟩
abbrev S2048x4608 : Shape := ⟨2, ![2048, 4608]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x4608, .bf16⟩
  | .hbm, ⟨2, _⟩ => ⟨S8192x2048, .f32⟩
  | .hbm, ⟨3, _⟩ => ⟨S2048x8192, .f32⟩
  | .hbm, ⟨4, _⟩ => ⟨S8192x4608, .f32⟩
  | .hbm, ⟨5, _⟩ => ⟨S2048x4608, .f32⟩
  | .hbm, ⟨6, _⟩ => ⟨S2048x4608, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== OddInWeightGradRefIdeal.lean ====
abbrev S8192x2048 : Shape := ⟨2, ![8192, 2048]⟩
abbrev S8192x4608 : Shape := ⟨2, ![8192, 4608]⟩
abbrev S2048x8192 : Shape := ⟨2, ![2048, 8192]⟩
abbrev S2048x4608 : Shape := ⟨2, ![2048, 4608]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x4608, .bf16⟩
  | .hbm, ⟨2, _⟩ => ⟨S8192x2048, .f32⟩
  | .hbm, ⟨3, _⟩ => ⟨S2048x8192, .f32⟩
  | .hbm, ⟨4, _⟩ => ⟨S8192x4608, .f32⟩
  | .hbm, ⟨5, _⟩ => ⟨S2048x4608, .f32⟩
  | .hbm, ⟨6, _⟩ => ⟨S2048x4608, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== EvenInWeightGrad.lean ====
abbrev S8192x2048 : Shape := ⟨2, ![8192, 2048]⟩
abbrev S8192x8192 : Shape := ⟨2, ![8192, 8192]⟩
abbrev S2048x8192 : Shape := ⟨2, ![2048, 8192]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x8192, .bf16⟩
  | .hbm, ⟨2, _⟩ => ⟨S2048x8192, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 8], ![false, false, false]⟩

def k0_cond3 (i : grid0.Coords) : BitVec 1 :=
  let arg2 : BitVec 32 := BitVec.ofNat 32 (i 2).val
  let c7_i32_6 : BitVec 32 := 7#32
  let v11 : BitVec 1 := Scalar.cmpi .eq arg2 c7_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvenInWeightGradRef.lean ====
abbrev S8192x2048 : Shape := ⟨2, ![8192, 2048]⟩
abbrev S8192x8192 : Shape := ⟨2, ![8192, 8192]⟩
abbrev S2048x8192 : Shape := ⟨2, ![2048, 8192]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x8192, .bf16⟩
  | .hbm, ⟨2, _⟩ => ⟨S8192x2048, .f32⟩
  | .hbm, ⟨3, _⟩ => ⟨S2048x8192, .f32⟩
  | .hbm, ⟨4, _⟩ => ⟨S8192x8192, .f32⟩
  | .hbm, ⟨5, _⟩ => ⟨S2048x8192, .f32⟩
  | .hbm, ⟨6, _⟩ => ⟨S2048x8192, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Proof.AdamClaims.lean ====
/- The optimiser's step of the four large weights: what the three calls (one for the even input weight, one for the odd input
   weight, one that serves both output weights) leave is, entry by entry, the step that the plain formula takes. -/
module

public import proofs.«01_k».proof.Defs
public import proofs.«01_k».proof.Proof.Gen.AdamEvenInIdeal.Value
public import proofs.«01_k».proof.Proof.Gen.AdamOddInIdeal.Value
public import proofs.«01_k».proof.Proof.Gen.AdamOutIdeal.Value
public import proofs.«01_k».proof.Proof.Gen.AdamEvenInRefIdeal.Run
public import proofs.«01_k».proof.Proof.Gen.AdamOddInRefIdeal.Run
public import proofs.«01_k».proof.Proof.Gen.AdamOutRefIdeal.Run
public import proofs.«01_k».proof.Proof.Gen.AdamEvenIn.Frame
public import proofs.«01_k».proof.Proof.Gen.AdamOddIn.Frame
public import proofs.«01_k».proof.Proof.Gen.AdamOut.Frame
public import proofs.«01_k».proof.Proof.Gen.AdamEvenInRef
public import proofs.«01_k».proof.Proof.Gen.AdamOddInRef
public import proofs.«01_k».proof.Proof.Gen.AdamOutRef
public import Idealize.ShloMosaic.Lib.Quiescent

@[expose] public section

noncomputable section

open Idealize.ShloMosaic Idealize.ShloMosaic.TcCoe Idealize.SL.Sem

/-! ## The step of the even input weight -/

namespace Cert.Proof.AdamEvenIn

/-- The call ends, its arguments unchanged and its counters at zero. -/
theorem frame_kernel : Cert.quiescent_AdamEvenIn := fun m ρ _ => Cert.AdamEvenIn.Gen.frame m ρ

theorem frame_ideal : Cert.quiescent_AdamEvenInIdeal := fun m ρ _ => Cert.AdamEvenInIdeal.Gen.frame m ρ

/-- The reference ends with its arguments unchanged; it has no counter. -/
theorem frame_ref_ideal : Cert.quiescent_AdamEvenInRefIdeal := fun m ρ _ =>
  (θ_run Cert.AdamEvenInRefIdeal.defs _ _).mono
    (fun r h => ⟨fun c => (h c).2.2.2, sem_eq_zero_of_no_sems (by decide) r.2⟩)
    (Cert.AdamEvenInRefIdeal.Value.run (F := Ideal) m ρ)

theorem frame_ref : Cert.quiescent_AdamEvenInRef := fun m ρ _ =>
  (θ_run Cert.AdamEvenInRefIdeal.defs _ _).mono
    (fun r h => ⟨fun c => (h c).2.2.2, sem_eq_zero_of_no_sems (by decide) r.2⟩)
    (Cert.AdamEvenInRefIdeal.Value.run (F := Bits) m ρ)

/-- Over the reals the call's three results are the update, the first moment and the second moment of the plain formula. -/
theorem algebraic : Cert.algebraic_AdamEvenInIdeal_AdamEvenInRefIdeal := by
  intro m ρ m' ρ' _ same
  refine ⟨_, _, _, Cert.AdamEvenInIdeal.Value.run (F := Ideal) m ρ, ?_⟩
  refine (θ_run Cert.AdamEvenInRefIdeal.defs _ _).mono (fun _ h c => ?_) (Cert.AdamEvenInRefIdeal.Value.run (F := Ideal) m' ρ')
  obtain ⟨hw, hg, hm, hv⟩ := same c
  obtain ⟨h1, h2, h3, kept⟩ := h c
  rw [hw, hg, hm, hv] at h1
  rw [hg, hm] at h2
  rw [hg, hv] at h3
  exact ⟨h1, h2, h3, kept⟩

end Cert.Proof.AdamEvenIn

/-! ## The step of the odd input weight -/

namespace Cert.Proof.AdamOddIn

/-- The call ends, its arguments unchanged and its counters at zero. -/
theorem frame_kernel : Cert.quiescent_AdamOddIn := fun m ρ _ => Cert.AdamOddIn.Gen.frame m ρ

theorem frame_ideal : Cert.quiescent_AdamOddInIdeal := fun m ρ _ => Cert.AdamOddInIdeal.Gen.frame m ρ

/-- The reference ends with its arguments unchanged; it has no counter. -/
theorem frame_ref_ideal : Cert.quiescent_AdamOddInRefIdeal := fun m ρ _ =>
  (θ_run Cert.AdamOddInRefIdeal.defs _ _).mono
    (fun r h => ⟨fun c => (h c).2.2.2, sem_eq_zero_of_no_sems (by decide) r.2⟩)
    (Cert.AdamOddInRefIdeal.Value.run (F := Ideal) m ρ)

theorem frame_ref : Cert.quiescent_AdamOddInRef := fun m ρ _ =>
  (θ_run Cert.AdamOddInRefIdeal.defs _ _).mono
    (fun r h => ⟨fun c => (h c).2.2.2, sem_eq_zero_of_no_sems (by decide) r.2⟩)
    (Cert.AdamOddInRefIdeal.Value.run (F := Bits) m ρ)

/-- Over the reals the call's three results are the update, the first moment and the second moment of the plain formula. -/
theorem algebraic : Cert.algebraic_AdamOddInIdeal_AdamOddInRefIdeal := by
  intro m ρ m' ρ' _ same
  refine ⟨_, _, _, Cert.AdamOddInIdeal.Value.run (F := Ideal) m ρ, ?_⟩
  refine (θ_run Cert.AdamOddInRefIdeal.defs _ _).mono (fun _ h c => ?_) (Cert.AdamOddInRefIdeal.Value.run (F := Ideal) m' ρ')
  obtain ⟨hw, hg, hm, hv⟩ := same c
  obtain ⟨h1, h2, h3, kept⟩ := h c
  rw [hw, hg, hm, hv] at h1
  rw [hg, hm] at h2
  rw [hg, hv] at h3
  exact ⟨h1, h2, h3, kept⟩

end Cert.Proof.AdamOddIn

/-! ## The step of an output weight -/

namespace Cert.Proof.AdamOut

/-- The call ends, its arguments unchanged and its counters at zero. -/
theorem frame_kernel : Cert.quiescent_AdamOut := fun m ρ _ => Cert.AdamOut.Gen.frame m ρ

theorem frame_ideal : Cert.quiescent_AdamOutIdeal := fun m ρ _ => Cert.AdamOutIdeal.Gen.frame m ρ

/-- The reference ends with its arguments unchanged; it has no counter. -/
theorem frame_ref_ideal : Cert.quiescent_AdamOutRefIdeal := fun m ρ _ =>
  (θ_run Cert.AdamOutRefIdeal.defs _ _).mono
    (fun r h => ⟨fun c => (h c).2.2.2, sem_eq_zero_of_no_sems (by decide) r.2⟩)
    (Cert.AdamOutRefIdeal.Value.run (F := Ideal) m ρ)

theorem frame_ref : Cert.quiescent_AdamOutRef := fun m ρ _ =>
  (θ_run Cert.AdamOutRefIdeal.defs _ _).mono
    (fun r h => ⟨fun c => (h c).2.2.2, sem_eq_zero_of_no_sems (by decide) r.2⟩)
    (Cert.AdamOutRefIdeal.Value.run (F := Bits) m ρ)

/-- Over the reals the call's three results are the update, the first moment and the second moment of the plain formula. -/
theorem algebraic : Cert.algebraic_AdamOutIdeal_AdamOutRefIdeal := by
  intro m ρ m' ρ' _ same
  refine ⟨_, _, _, Cert.AdamOutIdeal.Value.run (F := Ideal) m ρ, ?_⟩
  refine (θ_run Cert.AdamOutRefIdeal.defs _ _).mono (fun _ h c => ?_) (Cert.AdamOutRefIdeal.Value.run (F := Ideal) m' ρ')
  obtain ⟨hw, hg, hm, hv⟩ := same c
  obtain ⟨h1, h2, h3, kept⟩ := h c
  rw [hw, hg, hm, hv] at h1
  rw [hg, hm] at h2
  rw [hg, hv] at h3
  exact ⟨h1, h2, h3, kept⟩

end Cert.Proof.AdamOut

end
-- ==== Proof.AdamSmallValue.lean ====
/- The optimiser's step of the six small weights, which one call takes packed together: each weight's entries laid out in a row, the
   rows end to end, padded to 4096 entries and read as an (8, 512) array. What the call leaves in its three (8, 512) arrays, and what
   the host's slices of them are: entry by entry the plain step of each weight. -/
module

public import proofs.«01_k».proof.Defs
public import proofs.«01_k».proof.Proof.Gen.AdamSmallIdeal.Frame
public import Idealize.ShloMosaic.Lib.Pipeline.Value
public import Idealize.ShloMosaic.Lib.StableHlo.Run

@[expose] public section

noncomputable section

namespace Cert.Proof.AdamSmallValue

open Cert.AdamSmallIdeal Cert.AdamSmallIdeal.Gen
open Idealize.ShloMosaic Idealize.ShloMosaic.TcCoe Idealize.SL.Sem

variable {F : FTy → Type} [FloatOps F]

/-! ## The plain step of one weight -/

/-- The new first moment. -/
def first {s : Shape} (g a : Vec F s .f32) : Vec F s .f32 := fun i =>
  FloatOps.addf (FloatOps.mulf (Scalar.ofBits .f32 0x3F666666#32) (a i)) (FloatOps.mulf (Scalar.ofBits .f32 0x3DCCCCCD#32) (g i))

/-- The new second moment. -/
def second {s : Shape} (g b : Vec F s .f32) : Vec F s .f32 := fun i =>
  FloatOps.addf (FloatOps.mulf (Scalar.ofBits .f32 0x3F7FBE77#32) (b i))
    (FloatOps.mulf (Scalar.ofBits .f32 0x3A83126F#32) (FloatOps.mulf (g i) (g i)))

/-- The update of the weight. -/
def update {s : Shape} (w g a b : Vec F s .f32) : Vec F s .f32 := fun i =>
  FloatOps.mulf (Scalar.ofBits .f32 0xBA83126F#32)
    (FloatOps.addf
      (FloatOps.divf (FloatOps.divf (first g a i) (Scalar.ofBits .f32 0x3F26BD02#32))
        (FloatOps.addf (FloatOps.sqrt (FloatOps.divf (second g b i) (Scalar.ofBits .f32 0x3C231ACC#32))) (Scalar.ofBits .f32 0x322BCC77#32)))
      (FloatOps.mulf (Scalar.ofBits .f32 0x3C23D70A#32) (w i)))

/-! ## Packing six arrays into one, and cutting one out again -/

section Packing

variable {α : Type}

/-- Six arrays flattened, laid end to end, padded, and read as an (8, 512) array. -/
def pack (x0 : S1x2048.Idx → α) (x1 : S1x3x256.Idx → α) (x2 : S1x512.Idx → α) (x3 x4 : S1x64.Idx → α) (x5 : S1x32.Idx → α)
    (pad : S608.Idx → α) : S8x512.Idx → α :=
  shapeCast S8x512
    (concatenate S4096 0
      [⟨S2048, shapeCast S2048 x0 shapeCasts_S1x2048_S2048⟩, ⟨S768, shapeCast S768 x1 shapeCasts_S1x3x256_S768⟩,
        ⟨S512, shapeCast S512 x2 shapeCasts_S1x512_S512⟩, ⟨S64, shapeCast S64 x3 shapeCasts_S1x64_S64⟩,
        ⟨S64, shapeCast S64 x4 shapeCasts_S1x64_S64⟩, ⟨S32, shapeCast S32 x5 shapeCasts_S1x32_S32⟩, ⟨S608, pad⟩]
      concatenates_S2048_S768_S512_S64_S64_S32_S608_S4096_d0)
    shapeCasts_S4096_S8x512

/-- The array of weight 0 cut out of a packed array. -/
def cut0 (y : S8x512.Idx → α) : S1x2048.Idx → α :=
  shapeCast S1x2048 (extractStridedSlice S2048 ![0] (shapeCast S4096 y shapeCasts_S8x512_S4096) slices_S4096_S2048_0)
    shapeCasts_S2048_S1x2048

/-- The array of weight 1 cut out of a packed array. -/
def cut1 (y : S8x512.Idx → α) : S1x3x256.Idx → α :=
  shapeCast S1x3x256 (extractStridedSlice S768 ![2048] (shapeCast S4096 y shapeCasts_S8x512_S4096) slices_S4096_S768_2048)
    shapeCasts_S768_S1x3x256

/-- The array of weight 2 cut out of a packed array. -/
def cut2 (y : S8x512.Idx → α) : S1x512.Idx → α :=
  shapeCast S1x512 (extractStridedSlice S512 ![2816] (shapeCast S4096 y shapeCasts_S8x512_S4096) slices_S4096_S512_2816)
    shapeCasts_S512_S1x512

/-- The array of weight 3 cut out of a packed array. -/
def cut3 (y : S8x512.Idx → α) : S1x64.Idx → α :=
  shapeCast S1x64 (extractStridedSlice S64 ![3328] (shapeCast S4096 y shapeCasts_S8x512_S4096) slices_S4096_S64_3328)
    shapeCasts_S64_S1x64

/-- The array of weight 4 cut out of a packed array. -/
def cut4 (y : S8x512.Idx → α) : S1x64.Idx → α :=
  shapeCast S1x64 (extractStridedSlice S64 ![3392] (shapeCast S4096 y shapeCasts_S8x512_S4096) slices_S4096_S64_3392)
    shapeCasts_S64_S1x64

/-- The array of weight 5 cut out of a packed array. -/
def cut5 (y : S8x512.Idx → α) : S1x32.Idx → α :=
  shapeCast S1x32 (extractStridedSlice S32 ![3456] (shapeCast S4096 y shapeCasts_S8x512_S4096) slices_S4096_S32_3456)
    shapeCasts_S32_S1x32

variable (x0 : S1x2048.Idx → α) (x1 : S1x3x256.Idx → α) (x2 : S1x512.Idx → α) (x3 x4 : S1x64.Idx → α) (x5 : S1x32.Idx → α)
    (pad : S608.Idx → α)

/-- What is cut out of a packing is what was packed: weight 0. -/
theorem cut0_pack : cut0 (pack x0 x1 x2 x3 x4 x5 pad) = x0 := by
  unfold cut0 pack
  rw [shapeCast_shapeCast]
  refine Eq.trans (congrArg (fun y => shapeCast S1x2048 y shapeCasts_S2048_S1x2048) ?_)
    (shapeCast_shapeCast x0 shapeCasts_S1x2048_S2048 shapeCasts_S2048_S1x2048)
  funext j
  have hj : (j 0).val < 2048 := (j 0).isLt
  rw [extractStridedSlice_apply _ _ _ j (fun a => match a with | ⟨0, _⟩ => ⟨0 + (j 0).val, by show 0 + (j 0).val < 4096; omega⟩)
    (fun a => match a with | ⟨0, _⟩ => rfl)]
  exact concatenate_apply_piece (t := S4096) 0 _ _ _ 0 (by show 0 < 7; omega) S2048 _ rfl rfl 0 rfl j
    (fun b hb => absurd (Fin.ext (by show b.val = 0; have hb1 : b.val < 1 := b.isLt; omega)) hb) rfl

/-- The same of weight 1. -/
theorem cut1_pack : cut1 (pack x0 x1 x2 x3 x4 x5 pad) = x1 := by
  unfold cut1 pack
  rw [shapeCast_shapeCast]
  refine Eq.trans (congrArg (fun y => shapeCast S1x3x256 y shapeCasts_S768_S1x3x256) ?_)
    (shapeCast_shapeCast x1 shapeCasts_S1x3x256_S768 shapeCasts_S768_S1x3x256)
  funext j
  have hj : (j 0).val < 768 := (j 0).isLt
  rw [extractStridedSlice_apply _ _ _ j (fun a => match a with | ⟨0, _⟩ => ⟨2048 + (j 0).val, by show 2048 + (j 0).val < 4096; omega⟩)
    (fun a => match a with | ⟨0, _⟩ => rfl)]
  exact concatenate_apply_piece (t := S4096) 0 _ _ _ 1 (by show 1 < 7; omega) S768 _ rfl rfl 2048 rfl j
    (fun b hb => absurd (Fin.ext (by show b.val = 0; have hb1 : b.val < 1 := b.isLt; omega)) hb) rfl

/-- The same of weight 2. -/
theorem cut2_pack : cut2 (pack x0 x1 x2 x3 x4 x5 pad) = x2 := by
  unfold cut2 pack
  rw [shapeCast_shapeCast]
  refine Eq.trans (congrArg (fun y => shapeCast S1x512 y shapeCasts_S512_S1x512) ?_)
    (shapeCast_shapeCast x2 shapeCasts_S1x512_S512 shapeCasts_S512_S1x512)
  funext j
  have hj : (j 0).val < 512 := (j 0).isLt
  rw [extractStridedSlice_apply _ _ _ j (fun a => match a with | ⟨0, _⟩ => ⟨2816 + (j 0).val, by show 2816 + (j 0).val < 4096; omega⟩)
    (fun a => match a with | ⟨0, _⟩ => rfl)]
  exact concatenate_apply_piece (t := S4096) 0 _ _ _ 2 (by show 2 < 7; omega) S512 _ rfl rfl 2816 rfl j
    (fun b hb => absurd (Fin.ext (by show b.val = 0; have hb1 : b.val < 1 := b.isLt; omega)) hb) rfl

/-- The same of weight 3. -/
theorem cut3_pack : cut3 (pack x0 x1 x2 x3 x4 x5 pad) = x3 := by
  unfold cut3 pack
  rw [shapeCast_shapeCast]
  refine Eq.trans (congrArg (fun y => shapeCast S1x64 y shapeCasts_S64_S1x64) ?_)
    (shapeCast_shapeCast x3 shapeCasts_S1x64_S64 shapeCasts_S64_S1x64)
  funext j
  have hj : (j 0).val < 64 := (j 0).isLt
  rw [extractStridedSlice_apply _ _ _ j (fun a => match a with | ⟨0, _⟩ => ⟨3328 + (j 0).val, by show 3328 + (j 0).val < 4096; omega⟩)
    (fun a => match a with | ⟨0, _⟩ => rfl)]
  exact concatenate_apply_piece (t := S4096) 0 _ _ _ 3 (by show 3 < 7; omega) S64 _ rfl rfl 3328 rfl j
    (fun b hb => absurd (Fin.ext (by show b.val = 0; have hb1 : b.val < 1 := b.isLt; omega)) hb) rfl

/-- The same of weight 4. -/
theorem cut4_pack : cut4 (pack x0 x1 x2 x3 x4 x5 pad) = x4 := by
  unfold cut4 pack
  rw [shapeCast_shapeCast]
  refine Eq.trans (congrArg (fun y => shapeCast S1x64 y shapeCasts_S64_S1x64) ?_)
    (shapeCast_shapeCast x4 shapeCasts_S1x64_S64 shapeCasts_S64_S1x64)
  funext j
  have hj : (j 0).val < 64 := (j 0).isLt
  rw [extractStridedSlice_apply _ _ _ j (fun a => match a with | ⟨0, _⟩ => ⟨3392 + (j 0).val, by show 3392 + (j 0).val < 4096; omega⟩)
    (fun a => match a with | ⟨0, _⟩ => rfl)]
  exact concatenate_apply_piece (t := S4096) 0 _ _ _ 4 (by show 4 < 7; omega) S64 _ rfl rfl 3392 rfl j
    (fun b hb => absurd (Fin.ext (by show b.val = 0; have hb1 : b.val < 1 := b.isLt; omega)) hb) rfl

/-- The same of weight 5. -/
theorem cut5_pack : cut5 (pack x0 x1 x2 x3 x4 x5 pad) = x5 := by
  unfold cut5 pack
  rw [shapeCast_shapeCast]
  refine Eq.trans (congrArg (fun y => shapeCast S1x32 y shapeCasts_S32_S1x32) ?_)
    (shapeCast_shapeCast x5 shapeCasts_S1x32_S32 shapeCasts_S32_S1x32)
  funext j
  have hj : (j 0).val < 32 := (j 0).isLt
  rw [extractStridedSlice_apply _ _ _ j (fun a => match a with | ⟨0, _⟩ => ⟨3456 + (j 0).val, by show 3456 + (j 0).val < 4096; omega⟩)
    (fun a => match a with | ⟨0, _⟩ => rfl)]
  exact concatenate_apply_piece (t := S4096) 0 _ _ _ 5 (by show 5 < 7; omega) S32 _ rfl rfl 3456 rfl j
    (fun b hb => absurd (Fin.ext (by show b.val = 0; have hb1 : b.val < 1 := b.isLt; omega)) hb) rfl

end Packing

/-! ## The call's three arrays -/

variable (m : (ℓ : Loc nD τ sig) → Buf (Elt F) ℓ) (ρ : Dev nD → PrngReg)

theorem hz : (![0, 0] : Fin 2 → Nat) = fun _ => 0 := funext fun a => by fin_cases a <;> rfl

/-- What the call computes from its loads is the plain step. -/
theorem pay1_eq (g : Vec F S8x512 .f32) : k0_pay1 g = g := shapeCast_self g _

theorem pay2_eq (g a : Vec F S8x512 .f32) : k0_pay2 g a = first g a := by
  unfold k0_pay2; rw [pay1_eq, shapeCast_self]; rfl

theorem pay3_eq (g b : Vec F S8x512 .f32) : k0_pay3 g b = second g b := by
  unfold k0_pay3; rw [pay1_eq, shapeCast_self]; rfl

theorem pay4_eq (g a b w : Vec F S8x512 .f32) : k0_pay4 g a b w = update w g a b := by
  unfold k0_pay4; rw [pay2_eq, pay3_eq, shapeCast_self]; rfl

/-- Each block the call loads is cut from its array as the block it writes back is. -/
theorem block0 (c : Dev nD) (t : Fin cfg0.N) : iblk m c 0 t = fun j => V m c main_v8 (((cfg0.win 4).blk t).view.emb j) := rfl
theorem block1 (c : Dev nD) (t : Fin cfg0.N) : iblk m c 1 t = fun j => V m c main_v17 (((cfg0.win 4).blk t).view.emb j) := rfl
theorem block2 (c : Dev nD) (t : Fin cfg0.N) : iblk m c 2 t = fun j => V m c main_v26 (((cfg0.win 4).blk t).view.emb j) := rfl
theorem block3 (c : Dev nD) (t : Fin cfg0.N) : iblk m c 3 t = fun j => V m c main_v35 (((cfg0.win 4).blk t).view.emb j) := rfl

/-- What the call writes back to array 0 is the plain update of the packed arrays: it stores once, over the whole array. -/
theorem flushed4 (c : Dev nD) (t : Fin cfg0.N) :
    (dats m 0 c).flushed 4 t = ((cfg0.win 4).blk t).view.read (Elt F) (update (s := S8x512) (V m c main_v8) (V m c main_v17) (V m c main_v26) (V m c main_v35)) := by
  show (cfg0.win 4).cut (grid0.coords t) ((dats m 0 c).after 4 t) = _
  rw [after0_4]
  unfold out0_4
  rw [View.canon_unit_zero hz]
  simp only [View.ld_unit_zero (S := S8x512) hz]
  rw [pay4_eq, block0, block1, block2, block3]
  generalize V m c main_v8 = w
  generalize V m c main_v17 = g
  generalize V m c main_v26 = a
  generalize V m c main_v35 = b
  rfl

/-- The one block written back is the whole array. -/
theorem covered4 (i : S8x512.Idx) : ∃ t : Fin cfg0.N, (cfg0.win 4).flush t = true ∧ i ∈ ((cfg0.win 4).blk t).view.set := by
  refine ⟨t0_0, flush0_4 _, ?_⟩
  show i ∈ ((View.whole main_v36_0).slice (win0_4.rect t0_0)).set
  rw [View.set_slice_whole, Rect.mem_set_unit]
  have e : win0_4.index t0_0 0 * win0_4.size 0 = 0 ∧ win0_4.xsize (grid0.coords t0_0) 0 = 8
      ∧ win0_4.index t0_0 1 * win0_4.size 1 = 0 ∧ win0_4.xsize (grid0.coords t0_0) 1 = 512 := by decide +kernel
  intro a
  match a with
  | ⟨0, _⟩ =>
    show win0_4.index t0_0 0 * win0_4.size 0 ≤ (i 0 : Nat) ∧ (i 0 : Nat) < win0_4.index t0_0 0 * win0_4.size 0 + win0_4.xsize (grid0.coords t0_0) 0
    have h0 : (i 0 : Nat) < 8 := (i 0).isLt
    rw [e.1, e.2.1]; omega
  | ⟨1, _⟩ =>
    show win0_4.index t0_0 1 * win0_4.size 1 ≤ (i 1 : Nat) ∧ (i 1 : Nat) < win0_4.index t0_0 1 * win0_4.size 1 + win0_4.xsize (grid0.coords t0_0) 1
    have h1 : (i 1 : Nat) < 512 := (i 1).isLt
    rw [e.2.2.1, e.2.2.2]; omega

theorem final4 (c : Dev nD) :
    (dats m 0 c).arrAt 4 cfg0.N = update (s := S8x512) (V m c main_v8) (V m c main_v17) (V m c main_v26) (V m c main_v35) :=
  (dats m 0 c).arrAt_eq_of_cover 4 _ (fun t _ => flushed4 m c t) covered4

/-- What the call writes back to array 1 is the plain first moment of the packed arrays: it stores once, over the whole array. -/
theorem flushed5 (c : Dev nD) (t : Fin cfg0.N) :
    (dats m 0 c).flushed 5 t = ((cfg0.win 5).blk t).view.read (Elt F) (first (s := S8x512) (V m c main_v17) (V m c main_v26)) := by
  show (cfg0.win 5).cut (grid0.coords t) ((dats m 0 c).after 5 t) = _
  rw [after0_5]
  unfold out0_5
  rw [View.canon_unit_zero hz]
  simp only [View.ld_unit_zero (S := S8x512) hz]
  rw [pay2_eq]
  rfl

/-- The one block written back is the whole array. -/
theorem covered5 (i : S8x512.Idx) : ∃ t : Fin cfg0.N, (cfg0.win 5).flush t = true ∧ i ∈ ((cfg0.win 5).blk t).view.set := by
  refine ⟨t0_0, flush0_5 _, ?_⟩
  show i ∈ ((View.whole main_v36_1).slice (win0_5.rect t0_0)).set
  rw [View.set_slice_whole, Rect.mem_set_unit]
  have e : win0_5.index t0_0 0 * win0_5.size 0 = 0 ∧ win0_5.xsize (grid0.coords t0_0) 0 = 8
      ∧ win0_5.index t0_0 1 * win0_5.size 1 = 0 ∧ win0_5.xsize (grid0.coords t0_0) 1 = 512 := by decide +kernel
  intro a
  match a with
  | ⟨0, _⟩ =>
    show win0_5.index t0_0 0 * win0_5.size 0 ≤ (i 0 : Nat) ∧ (i 0 : Nat) < win0_5.index t0_0 0 * win0_5.size 0 + win0_5.xsize (grid0.coords t0_0) 0
    have h0 : (i 0 : Nat) < 8 := (i 0).isLt
    rw [e.1, e.2.1]; omega
  | ⟨1, _⟩ =>
    show win0_5.index t0_0 1 * win0_5.size 1 ≤ (i 1 : Nat) ∧ (i 1 : Nat) < win0_5.index t0_0 1 * win0_5.size 1 + win0_5.xsize (grid0.coords t0_0) 1
    have h1 : (i 1 : Nat) < 512 := (i 1).isLt
    rw [e.2.2.1, e.2.2.2]; omega

theorem final5 (c : Dev nD) :
    (dats m 0 c).arrAt 5 cfg0.N = first (s := S8x512) (V m c main_v17) (V m c main_v26) :=
  (dats m 0 c).arrAt_eq_of_cover 5 _ (fun t _ => flushed5 m c t) covered5

/-- What the call writes back to array 2 is the plain second moment of the packed arrays: it stores once, over the whole array. -/
theorem flushed6 (c : Dev nD) (t : Fin cfg0.N) :
    (dats m 0 c).flushed 6 t = ((cfg0.win 6).blk t).view.read (Elt F) (second (s := S8x512) (V m c main_v17) (V m c main_v35)) := by
  show (cfg0.win 6).cut (grid0.coords t) ((dats m 0 c).after 6 t) = _
  rw [after0_6]
  unfold out0_6
  rw [View.canon_unit_zero hz]
  simp only [View.ld_unit_zero (S := S8x512) hz]
  rw [pay3_eq]
  rfl

/-- The one block written back is the whole array. -/
theorem covered6 (i : S8x512.Idx) : ∃ t : Fin cfg0.N, (cfg0.win 6).flush t = true ∧ i ∈ ((cfg0.win 6).blk t).view.set := by
  refine ⟨t0_0, flush0_6 _, ?_⟩
  show i ∈ ((View.whole main_v36_2).slice (win0_6.rect t0_0)).set
  rw [View.set_slice_whole, Rect.mem_set_unit]
  have e : win0_6.index t0_0 0 * win0_6.size 0 = 0 ∧ win0_6.xsize (grid0.coords t0_0) 0 = 8
      ∧ win0_6.index t0_0 1 * win0_6.size 1 = 0 ∧ win0_6.xsize (grid0.coords t0_0) 1 = 512 := by decide +kernel
  intro a
  match a with
  | ⟨0, _⟩ =>
    show win0_6.index t0_0 0 * win0_6.size 0 ≤ (i 0 : Nat) ∧ (i 0 : Nat) < win0_6.index t0_0 0 * win0_6.size 0 + win0_6.xsize (grid0.coords t0_0) 0
    have h0 : (i 0 : Nat) < 8 := (i 0).isLt
    rw [e.1, e.2.1]; omega
  | ⟨1, _⟩ =>
    show win0_6.index t0_0 1 * win0_6.size 1 ≤ (i 1 : Nat) ∧ (i 1 : Nat) < win0_6.index t0_0 1 * win0_6.size 1 + win0_6.xsize (grid0.coords t0_0) 1
    have h1 : (i 1 : Nat) < 512 := (i 1).isLt
    rw [e.2.2.1, e.2.2.2]; omega

theorem final6 (c : Dev nD) :
    (dats m 0 c).arrAt 6 cfg0.N = second (s := S8x512) (V m c main_v17) (V m c main_v35) :=
  (dats m 0 c).arrAt_eq_of_cover 6 _ (fun t _ => flushed6 m c t) covered6

/-! ## The packed arguments -/

/-- What a host operation of seven operands leaves in its result, the operands read each at its own reference. -/
theorem seven_result {x0 x1 x2 x3 x4 x5 x6 y : Ref sig .tc}
    (f : ((k : Fin 7) → ((![x0, x1, x2, x3, x4, x5, x6] : Fin 7 → Ref sig .tc) k).ty.Contents (Elt F)) → y.ty.Contents (Elt F)) (hxs hy)
    (V : Valuation τ sig (Elt F)) :
    (StableHlo.nary (τ := τ) ![x0, x1, x2, x3, x4, x5, x6] y f hxs hy).result V (no_index (Proc.devRef .tc y))
      = f (Fin.cons (V (Proc.devRef .tc x0)) (Fin.cons (V (Proc.devRef .tc x1)) (Fin.cons (V (Proc.devRef .tc x2))
          (Fin.cons (V (Proc.devRef .tc x3)) (Fin.cons (V (Proc.devRef .tc x4)) (Fin.cons (V (Proc.devRef .tc x5))
            (Fin.cons (V (Proc.devRef .tc x6)) (fun i => i.elim0)))))))) := by
  rw [StableHlo.nary_result]; congr 1; funext k; fin_cases k <;> rfl

/-- The call finds the weights packed. -/
theorem V_main_v8 (c : Dev nD) :
    V m c main_v8 = pack (m ((c : Thread nD τ).loc main_arg0))
        (m ((c : Thread nD τ).loc main_arg1))
        (m ((c : Thread nD τ).loc main_arg2))
        (m ((c : Thread nD τ).loc main_arg3))
        (m ((c : Thread nD τ).loc main_arg4))
        (m ((c : Thread nD τ).loc main_arg5))
        (broadcastInDim S608 ![] bcast_S_S608 (constant S_ .f32 0x00000000#32)) := by
  unfold V V0
  simp (disch := decide) only [List.flatten_cons, List.flatten_nil, List.append_nil, hostOps0, StableHlo.after_cons, StableHlo.after_nil,
    StableHlo.nullary_result', StableHlo.unary_result', StableHlo.reshape_result', seven_result, StableHlo.nullary_result_ne',
    StableHlo.unary_result_ne', StableHlo.reshape_result_ne', StableHlo.nary_result_ne']
  rfl

/-- The call finds the gradients packed. -/
theorem V_main_v17 (c : Dev nD) :
    V m c main_v17 = pack (m ((c : Thread nD τ).loc main_arg6))
        (m ((c : Thread nD τ).loc main_arg7))
        (m ((c : Thread nD τ).loc main_arg8))
        (m ((c : Thread nD τ).loc main_arg9))
        (m ((c : Thread nD τ).loc main_arg10))
        (m ((c : Thread nD τ).loc main_arg11))
        (broadcastInDim S608 ![] bcast_S_S608 (constant S_ .f32 0x00000000#32)) := by
  unfold V V0
  simp (disch := decide) only [List.flatten_cons, List.flatten_nil, List.append_nil, hostOps0, StableHlo.after_cons, StableHlo.after_nil,
    StableHlo.nullary_result', StableHlo.unary_result', StableHlo.reshape_result', seven_result, StableHlo.nullary_result_ne',
    StableHlo.unary_result_ne', StableHlo.reshape_result_ne', StableHlo.nary_result_ne']
  rfl

/-- The call finds the first moments packed. -/
theorem V_main_v26 (c : Dev nD) :
    V m c main_v26 = pack (m ((c : Thread nD τ).loc main_arg12))
        (m ((c : Thread nD τ).loc main_arg13))
        (m ((c : Thread nD τ).loc main_arg14))
        (m ((c : Thread nD τ).loc main_arg15))
        (m ((c : Thread nD τ).loc main_arg16))
        (m ((c : Thread nD τ).loc main_arg17))
        (broadcastInDim S608 ![] bcast_S_S608 (constant S_ .f32 0x00000000#32)) := by
  unfold V V0
  simp (disch := decide) only [List.flatten_cons, List.flatten_nil, List.append_nil, hostOps0, StableHlo.after_cons, StableHlo.after_nil,
    StableHlo.nullary_result', StableHlo.unary_result', StableHlo.reshape_result', seven_result, StableHlo.nullary_result_ne',
    StableHlo.unary_result_ne', StableHlo.reshape_result_ne', StableHlo.nary_result_ne']
  rfl

/-- The call finds the second moments packed. -/
theorem V_main_v35 (c : Dev nD) :
    V m c main_v35 = pack (m ((c : Thread nD τ).loc main_arg18))
        (m ((c : Thread nD τ).loc main_arg19))
        (m ((c : Thread nD τ).loc main_arg20))
        (m ((c : Thread nD τ).loc main_arg21))
        (m ((c : Thread nD τ).loc main_arg22))
        (m ((c : Thread nD τ).loc main_arg23))
        (broadcastInDim S608 ![] bcast_S_S608 (constant S_ .f32 0x3F800000#32)) := by
  unfold V V0
  simp (disch := decide) only [List.flatten_cons, List.flatten_nil, List.append_nil, hostOps0, StableHlo.after_cons, StableHlo.after_nil,
    StableHlo.nullary_result', StableHlo.unary_result', StableHlo.reshape_result', seven_result, StableHlo.nullary_result_ne',
    StableHlo.unary_result_ne', StableHlo.reshape_result_ne', StableHlo.nary_result_ne']
  rfl

/-! ## The results -/

theorem arrays_distinct : Function.Injective (Pipeline.arrRef spec0) := by decide +kernel

/-- The arrays the call writes, as the host's slices find them. -/

theorem found4 (c : Dev nD) :
    Pipeline.withArrays spec0 c (V0 m c) (fun w => (dats m 0 c).arrAt w cfg0.N) (Proc.devRef .tc main_v36_0)
      = (dats m 0 c).arrAt 4 cfg0.N :=
  Pipeline.withArrays_arr spec0 arrays_distinct c (V0 m c) (fun w => (dats m 0 c).arrAt w cfg0.N) 4

theorem found5 (c : Dev nD) :
    Pipeline.withArrays spec0 c (V0 m c) (fun w => (dats m 0 c).arrAt w cfg0.N) (Proc.devRef .tc main_v36_1)
      = (dats m 0 c).arrAt 5 cfg0.N :=
  Pipeline.withArrays_arr spec0 arrays_distinct c (V0 m c) (fun w => (dats m 0 c).arrAt w cfg0.N) 5

theorem found6 (c : Dev nD) :
    Pipeline.withArrays spec0 c (V0 m c) (fun w => (dats m 0 c).arrAt w cfg0.N) (Proc.devRef .tc main_v36_2)
      = (dats m 0 c).arrAt 6 cfg0.N :=
  Pipeline.withArrays_arr spec0 arrays_distinct c (V0 m c) (fun w => (dats m 0 c).arrAt w cfg0.N) 6

theorem tail_v39 (c : Dev nD) :
    Pipeline.afterTail₀ cfgs (dats m) 0 (V0 m) [hostOps1] c main_v39 = update (m ((c : Thread nD τ).loc main_arg0)) (m ((c : Thread nD τ).loc main_arg6)) (m ((c : Thread nD τ).loc main_arg12)) (m ((c : Thread nD τ).loc main_arg18)) := by
  have read : Pipeline.afterTail₀ cfgs (dats m) 0 (V0 m) [hostOps1] c main_v39
      = cut0 (Pipeline.withArrays spec0 c (V0 m c) (fun w => (dats m 0 c).arrAt w cfg0.N) (Proc.devRef .tc main_v36_0)) := by
    unfold Pipeline.afterTail₀
    simp (disch := decide) only [List.flatten_cons, List.flatten_nil, List.append_nil, hostOps1, StableHlo.after_cons,
      StableHlo.after_nil, StableHlo.unary_result', StableHlo.reshape_result', StableHlo.unary_result_ne', StableHlo.reshape_result_ne']
    rfl
  rw [read, found4, final4, V_main_v8, V_main_v17, V_main_v26, V_main_v35]
  refine Eq.trans (b := update (cut0 (pack _ _ _ _ _ _ _)) (cut0 (pack _ _ _ _ _ _ _)) (cut0 (pack _ _ _ _ _ _ _)) (cut0 (pack _ _ _ _ _ _ _))) rfl ?_
  simp only [cut0_pack]

theorem tail_v48 (c : Dev nD) :
    Pipeline.afterTail₀ cfgs (dats m) 0 (V0 m) [hostOps1] c main_v48 = update (m ((c : Thread nD τ).loc main_arg1)) (m ((c : Thread nD τ).loc main_arg7)) (m ((c : Thread nD τ).loc main_arg13)) (m ((c : Thread nD τ).loc main_arg19)) := by
  have read : Pipeline.afterTail₀ cfgs (dats m) 0 (V0 m) [hostOps1] c main_v48
      = cut1 (Pipeline.withArrays spec0 c (V0 m c) (fun w => (dats m 0 c).arrAt w cfg0.N) (Proc.devRef .tc main_v36_0)) := by
    unfold Pipeline.afterTail₀
    simp (disch := decide) only [List.flatten_cons, List.flatten_nil, List.append_nil, hostOps1, StableHlo.after_cons,
      StableHlo.after_nil, StableHlo.unary_result', StableHlo.reshape_result', StableHlo.unary_result_ne', StableHlo.reshape_result_ne']
    rfl
  rw [read, found4, final4, V_main_v8, V_main_v17, V_main_v26, V_main_v35]
  refine Eq.trans (b := update (cut1 (pack _ _ _ _ _ _ _)) (cut1 (pack _ _ _ _ _ _ _)) (cut1 (pack _ _ _ _ _ _ _)) (cut1 (pack _ _ _ _ _ _ _))) rfl ?_
  simp only [cut1_pack]

theorem tail_v57 (c : Dev nD) :
    Pipeline.afterTail₀ cfgs (dats m) 0 (V0 m) [hostOps1] c main_v57 = update (m ((c : Thread nD τ).loc main_arg2)) (m ((c : Thread nD τ).loc main_arg8)) (m ((c : Thread nD τ).loc main_arg14)) (m ((c : Thread nD τ).loc main_arg20)) := by
  have read : Pipeline.afterTail₀ cfgs (dats m) 0 (V0 m) [hostOps1] c main_v57
      = cut2 (Pipeline.withArrays spec0 c (V0 m c) (fun w => (dats m 0 c).arrAt w cfg0.N) (Proc.devRef .tc main_v36_0)) := by
    unfold Pipeline.afterTail₀
    simp (disch := decide) only [List.flatten_cons, List.flatten_nil, List.append_nil, hostOps1, StableHlo.after_cons,
      StableHlo.after_nil, StableHlo.unary_result', StableHlo.reshape_result', StableHlo.unary_result_ne', StableHlo.reshape_result_ne']
    rfl
  rw [read, found4, final4, V_main_v8, V_main_v17, V_main_v26, V_main_v35]
  refine Eq.trans (b := update (cut2 (pack _ _ _ _ _ _ _)) (cut2 (pack _ _ _ _ _ _ _)) (cut2 (pack _ _ _ _ _ _ _)) (cut2 (pack _ _ _ _ _ _ _))) rfl ?_
  simp only [cut2_pack]

theorem tail_v66 (c : Dev nD) :
    Pipeline.afterTail₀ cfgs (dats m) 0 (V0 m) [hostOps1] c main_v66 = update (m ((c : Thread nD τ).loc main_arg3)) (m ((c : Thread nD τ).loc main_arg9)) (m ((c : Thread nD τ).loc main_arg15)) (m ((c : Thread nD τ).loc main_arg21)) := by
  have read : Pipeline.afterTail₀ cfgs (dats m) 0 (V0 m) [hostOps1] c main_v66
      = cut3 (Pipeline.withArrays spec0 c (V0 m c) (fun w => (dats m 0 c).arrAt w cfg0.N) (Proc.devRef .tc main_v36_0)) := by
    unfold Pipeline.afterTail₀
    simp (disch := decide) only [List.flatten_cons, List.flatten_nil, List.append_nil, hostOps1, StableHlo.after_cons,
      StableHlo.after_nil, StableHlo.unary_result', StableHlo.reshape_result', StableHlo.unary_result_ne', StableHlo.reshape_result_ne']
    rfl
  rw [read, found4, final4, V_main_v8, V_main_v17, V_main_v26, V_main_v35]
  refine Eq.trans (b := update (cut3 (pack _ _ _ _ _ _ _)) (cut3 (pack _ _ _ _ _ _ _)) (cut3 (pack _ _ _ _ _ _ _)) (cut3 (pack _ _ _ _ _ _ _))) rfl ?_
  simp only [cut3_pack]

theorem tail_v75 (c : Dev nD) :
    Pipeline.afterTail₀ cfgs (dats m) 0 (V0 m) [hostOps1] c main_v75 = update (m ((c : Thread nD τ).loc main_arg4)) (m ((c : Thread nD τ).loc main_arg10)) (m ((c : Thread nD τ).loc main_arg16)) (m ((c : Thread nD τ).loc main_arg22)) := by
  have read : Pipeline.afterTail₀ cfgs (dats m) 0 (V0 m) [hostOps1] c main_v75
      = cut4 (Pipeline.withArrays spec0 c (V0 m c) (fun w => (dats m 0 c).arrAt w cfg0.N) (Proc.devRef .tc main_v36_0)) := by
    unfold Pipeline.afterTail₀
    simp (disch := decide) only [List.flatten_cons, List.flatten_nil, List.append_nil, hostOps1, StableHlo.after_cons,
      StableHlo.after_nil, StableHlo.unary_result', StableHlo.reshape_result', StableHlo.unary_result_ne', StableHlo.reshape_result_ne']
    rfl
  rw [read, found4, final4, V_main_v8, V_main_v17, V_main_v26, V_main_v35]
  refine Eq.trans (b := update (cut4 (pack _ _ _ _ _ _ _)) (cut4 (pack _ _ _ _ _ _ _)) (cut4 (pack _ _ _ _ _ _ _)) (cut4 (pack _ _ _ _ _ _ _))) rfl ?_
  simp only [cut4_pack]

theorem tail_v84 (c : Dev nD) :
    Pipeline.afterTail₀ cfgs (dats m) 0 (V0 m) [hostOps1] c main_v84 = update (m ((c : Thread nD τ).loc main_arg5)) (m ((c : Thread nD τ).loc main_arg11)) (m ((c : Thread nD τ).loc main_arg17)) (m ((c : Thread nD τ).loc main_arg23)) := by
  have read : Pipeline.afterTail₀ cfgs (dats m) 0 (V0 m) [hostOps1] c main_v84
      = cut5 (Pipeline.withArrays spec0 c (V0 m c) (fun w => (dats m 0 c).arrAt w cfg0.N) (Proc.devRef .tc main_v36_0)) := by
    unfold Pipeline.afterTail₀
    simp (disch := decide) only [List.flatten_cons, List.flatten_nil, List.append_nil, hostOps1, StableHlo.after_cons,
      StableHlo.after_nil, StableHlo.unary_result', StableHlo.reshape_result', StableHlo.unary_result_ne', StableHlo.reshape_result_ne']
    rfl
  rw [read, found4, final4, V_main_v8, V_main_v17, V_main_v26, V_main_v35]
  refine Eq.trans (b := update (cut5 (pack _ _ _ _ _ _ _)) (cut5 (pack _ _ _ _ _ _ _)) (cut5 (pack _ _ _ _ _ _ _)) (cut5 (pack _ _ _ _ _ _ _))) rfl ?_
  simp only [cut5_pack]

theorem tail_v42 (c : Dev nD) :
    Pipeline.afterTail₀ cfgs (dats m) 0 (V0 m) [hostOps1] c main_v42 = first (m ((c : Thread nD τ).loc main_arg6)) (m ((c : Thread nD τ).loc main_arg12)) := by
  have read : Pipeline.afterTail₀ cfgs (dats m) 0 (V0 m) [hostOps1] c main_v42
      = cut0 (Pipeline.withArrays spec0 c (V0 m c) (fun w => (dats m 0 c).arrAt w cfg0.N) (Proc.devRef .tc main_v36_1)) := by
    unfold Pipeline.afterTail₀
    simp (disch := decide) only [List.flatten_cons, List.flatten_nil, List.append_nil, hostOps1, StableHlo.after_cons,
      StableHlo.after_nil, StableHlo.unary_result', StableHlo.reshape_result', StableHlo.unary_result_ne', StableHlo.reshape_result_ne']
    rfl
  rw [read, found5, final5, V_main_v17, V_main_v26]
  refine Eq.trans (b := first (cut0 (pack _ _ _ _ _ _ _)) (cut0 (pack _ _ _ _ _ _ _))) rfl ?_
  simp only [cut0_pack]

theorem tail_v51 (c : Dev nD) :
    Pipeline.afterTail₀ cfgs (dats m) 0 (V0 m) [hostOps1] c main_v51 = first (m ((c : Thread nD τ).loc main_arg7)) (m ((c : Thread nD τ).loc main_arg13)) := by
  have read : Pipeline.afterTail₀ cfgs (dats m) 0 (V0 m) [hostOps1] c main_v51
      = cut1 (Pipeline.withArrays spec0 c (V0 m c) (fun w => (dats m 0 c).arrAt w cfg0.N) (Proc.devRef .tc main_v36_1)) := by
    unfold Pipeline.afterTail₀
    simp (disch := decide) only [List.flatten_cons, List.flatten_nil, List.append_nil, hostOps1, StableHlo.after_cons,
      StableHlo.after_nil, StableHlo.unary_result', StableHlo.reshape_result', StableHlo.unary_result_ne', StableHlo.reshape_result_ne']
    rfl
  rw [read, found5, final5, V_main_v17, V_main_v26]
  refine Eq.trans (b := first (cut1 (pack _ _ _ _ _ _ _)) (cut1 (pack _ _ _ _ _ _ _))) rfl ?_
  simp only [cut1_pack]

theorem tail_v60 (c : Dev nD) :
    Pipeline.afterTail₀ cfgs (dats m) 0 (V0 m) [hostOps1] c main_v60 = first (m ((c : Thread nD τ).loc main_arg8)) (m ((c : Thread nD τ).loc main_arg14)) := by
  have read : Pipeline.afterTail₀ cfgs (dats m) 0 (V0 m) [hostOps1] c main_v60
      = cut2 (Pipeline.withArrays spec0 c (V0 m c) (fun w => (dats m 0 c).arrAt w cfg0.N) (Proc.devRef .tc main_v36_1)) := by
    unfold Pipeline.afterTail₀
    simp (disch := decide) only [List.flatten_cons, List.flatten_nil, List.append_nil, hostOps1, StableHlo.after_cons,
      StableHlo.after_nil, StableHlo.unary_result', StableHlo.reshape_result', StableHlo.unary_result_ne', StableHlo.reshape_result_ne']
    rfl
  rw [read, found5, final5, V_main_v17, V_main_v26]
  refine Eq.trans (b := first (cut2 (pack _ _ _ _ _ _ _)) (cut2 (pack _ _ _ _ _ _ _))) rfl ?_
  simp only [cut2_pack]

theorem tail_v69 (c : Dev nD) :
    Pipeline.afterTail₀ cfgs (dats m) 0 (V0 m) [hostOps1] c main_v69 = first (m ((c : Thread nD τ).loc main_arg9)) (m ((c : Thread nD τ).loc main_arg15)) := by
  have read : Pipeline.afterTail₀ cfgs (dats m) 0 (V0 m) [hostOps1] c main_v69
      = cut3 (Pipeline.withArrays spec0 c (V0 m c) (fun w => (dats m 0 c).arrAt w cfg0.N) (Proc.devRef .tc main_v36_1)) := by
    unfold Pipeline.afterTail₀
    simp (disch := decide) only [List.flatten_cons, List.flatten_nil, List.append_nil, hostOps1, StableHlo.after_cons,
      StableHlo.after_nil, StableHlo.unary_result', StableHlo.reshape_result', StableHlo.unary_result_ne', StableHlo.reshape_result_ne']
    rfl
  rw [read, found5, final5, V_main_v17, V_main_v26]
  refine Eq.trans (b := first (cut3 (pack _ _ _ _ _ _ _)) (cut3 (pack _ _ _ _ _ _ _))) rfl ?_
  simp only [cut3_pack]

theorem tail_v78 (c : Dev nD) :
    Pipeline.afterTail₀ cfgs (dats m) 0 (V0 m) [hostOps1] c main_v78 = first (m ((c : Thread nD τ).loc main_arg10)) (m ((c : Thread nD τ).loc main_arg16)) := by
  have read : Pipeline.afterTail₀ cfgs (dats m) 0 (V0 m) [hostOps1] c main_v78
      = cut4 (Pipeline.withArrays spec0 c (V0 m c) (fun w => (dats m 0 c).arrAt w cfg0.N) (Proc.devRef .tc main_v36_1)) := by
    unfold Pipeline.afterTail₀
    simp (disch := decide) only [List.flatten_cons, List.flatten_nil, List.append_nil, hostOps1, StableHlo.after_cons,
      StableHlo.after_nil, StableHlo.unary_result', StableHlo.reshape_result', StableHlo.unary_result_ne', StableHlo.reshape_result_ne']
    rfl
  rw [read, found5, final5, V_main_v17, V_main_v26]
  refine Eq.trans (b := first (cut4 (pack _ _ _ _ _ _ _)) (cut4 (pack _ _ _ _ _ _ _))) rfl ?_
  simp only [cut4_pack]

theorem tail_v87 (c : Dev nD) :
    Pipeline.afterTail₀ cfgs (dats m) 0 (V0 m) [hostOps1] c main_v87 = first (m ((c : Thread nD τ).loc main_arg11)) (m ((c : Thread nD τ).loc main_arg17)) := by
  have read : Pipeline.afterTail₀ cfgs (dats m) 0 (V0 m) [hostOps1] c main_v87
      = cut5 (Pipeline.withArrays spec0 c (V0 m c) (fun w => (dats m 0 c).arrAt w cfg0.N) (Proc.devRef .tc main_v36_1)) := by
    unfold Pipeline.afterTail₀
    simp (disch := decide) only [List.flatten_cons, List.flatten_nil, List.append_nil, hostOps1, StableHlo.after_cons,
      StableHlo.after_nil, StableHlo.unary_result', StableHlo.reshape_result', StableHlo.unary_result_ne', StableHlo.reshape_result_ne']
    rfl
  rw [read, found5, final5, V_main_v17, V_main_v26]
  refine Eq.trans (b := first (cut5 (pack _ _ _ _ _ _ _)) (cut5 (pack _ _ _ _ _ _ _))) rfl ?_
  simp only [cut5_pack]

theorem tail_v45 (c : Dev nD) :
    Pipeline.afterTail₀ cfgs (dats m) 0 (V0 m) [hostOps1] c main_v45 = second (m ((c : Thread nD τ).loc main_arg6)) (m ((c : Thread nD τ).loc main_arg18)) := by
  have read : Pipeline.afterTail₀ cfgs (dats m) 0 (V0 m) [hostOps1] c main_v45
      = cut0 (Pipeline.withArrays spec0 c (V0 m c) (fun w => (dats m 0 c).arrAt w cfg0.N) (Proc.devRef .tc main_v36_2)) := by
    unfold Pipeline.afterTail₀
    simp (disch := decide) only [List.flatten_cons, List.flatten_nil, List.append_nil, hostOps1, StableHlo.after_cons,
      StableHlo.after_nil, StableHlo.unary_result', StableHlo.reshape_result', StableHlo.unary_result_ne', StableHlo.reshape_result_ne']
    rfl
  rw [read, found6, final6, V_main_v17, V_main_v35]
  refine Eq.trans (b := second (cut0 (pack _ _ _ _ _ _ _)) (cut0 (pack _ _ _ _ _ _ _))) rfl ?_
  simp only [cut0_pack]

theorem tail_v54 (c : Dev nD) :
    Pipeline.afterTail₀ cfgs (dats m) 0 (V0 m) [hostOps1] c main_v54 = second (m ((c : Thread nD τ).loc main_arg7)) (m ((c : Thread nD τ).loc main_arg19)) := by
  have read : Pipeline.afterTail₀ cfgs (dats m) 0 (V0 m) [hostOps1] c main_v54
      = cut1 (Pipeline.withArrays spec0 c (V0 m c) (fun w => (dats m 0 c).arrAt w cfg0.N) (Proc.devRef .tc main_v36_2)) := by
    unfold Pipeline.afterTail₀
    simp (disch := decide) only [List.flatten_cons, List.flatten_nil, List.append_nil, hostOps1, StableHlo.after_cons,
      StableHlo.after_nil, StableHlo.unary_result', StableHlo.reshape_result', StableHlo.unary_result_ne', StableHlo.reshape_result_ne']
    rfl
  rw [read, found6, final6, V_main_v17, V_main_v35]
  refine Eq.trans (b := second (cut1 (pack _ _ _ _ _ _ _)) (cut1 (pack _ _ _ _ _ _ _))) rfl ?_
  simp only [cut1_pack]

theorem tail_v63 (c : Dev nD) :
    Pipeline.afterTail₀ cfgs (dats m) 0 (V0 m) [hostOps1] c main_v63 = second (m ((c : Thread nD τ).loc main_arg8)) (m ((c : Thread nD τ).loc main_arg20)) := by
  have read : Pipeline.afterTail₀ cfgs (dats m) 0 (V0 m) [hostOps1] c main_v63
      = cut2 (Pipeline.withArrays spec0 c (V0 m c) (fun w => (dats m 0 c).arrAt w cfg0.N) (Proc.devRef .tc main_v36_2)) := by
    unfold Pipeline.afterTail₀
    simp (disch := decide) only [List.flatten_cons, List.flatten_nil, List.append_nil, hostOps1, StableHlo.after_cons,
      StableHlo.after_nil, StableHlo.unary_result', StableHlo.reshape_result', StableHlo.unary_result_ne', StableHlo.reshape_result_ne']
    rfl
  rw [read, found6, final6, V_main_v17, V_main_v35]
  refine Eq.trans (b := second (cut2 (pack _ _ _ _ _ _ _)) (cut2 (pack _ _ _ _ _ _ _))) rfl ?_
  simp only [cut2_pack]

theorem tail_v72 (c : Dev nD) :
    Pipeline.afterTail₀ cfgs (dats m) 0 (V0 m) [hostOps1] c main_v72 = second (m ((c : Thread nD τ).loc main_arg9)) (m ((c : Thread nD τ).loc main_arg21)) := by
  have read : Pipeline.afterTail₀ cfgs (dats m) 0 (V0 m) [hostOps1] c main_v72
      = cut3 (Pipeline.withArrays spec0 c (V0 m c) (fun w => (dats m 0 c).arrAt w cfg0.N) (Proc.devRef .tc main_v36_2)) := by
    unfold Pipeline.afterTail₀
    simp (disch := decide) only [List.flatten_cons, List.flatten_nil, List.append_nil, hostOps1, StableHlo.after_cons,
      StableHlo.after_nil, StableHlo.unary_result', StableHlo.reshape_result', StableHlo.unary_result_ne', StableHlo.reshape_result_ne']
    rfl
  rw [read, found6, final6, V_main_v17, V_main_v35]
  refine Eq.trans (b := second (cut3 (pack _ _ _ _ _ _ _)) (cut3 (pack _ _ _ _ _ _ _))) rfl ?_
  simp only [cut3_pack]

theorem tail_v81 (c : Dev nD) :
    Pipeline.afterTail₀ cfgs (dats m) 0 (V0 m) [hostOps1] c main_v81 = second (m ((c : Thread nD τ).loc main_arg10)) (m ((c : Thread nD τ).loc main_arg22)) := by
  have read : Pipeline.afterTail₀ cfgs (dats m) 0 (V0 m) [hostOps1] c main_v81
      = cut4 (Pipeline.withArrays spec0 c (V0 m c) (fun w => (dats m 0 c).arrAt w cfg0.N) (Proc.devRef .tc main_v36_2)) := by
    unfold Pipeline.afterTail₀
    simp (disch := decide) only [List.flatten_cons, List.flatten_nil, List.append_nil, hostOps1, StableHlo.after_cons,
      StableHlo.after_nil, StableHlo.unary_result', StableHlo.reshape_result', StableHlo.unary_result_ne', StableHlo.reshape_result_ne']
    rfl
  rw [read, found6, final6, V_main_v17, V_main_v35]
  refine Eq.trans (b := second (cut4 (pack _ _ _ _ _ _ _)) (cut4 (pack _ _ _ _ _ _ _))) rfl ?_
  simp only [cut4_pack]

theorem tail_v90 (c : Dev nD) :
    Pipeline.afterTail₀ cfgs (dats m) 0 (V0 m) [hostOps1] c main_v90 = second (m ((c : Thread nD τ).loc main_arg11)) (m ((c : Thread nD τ).loc main_arg23)) := by
  have read : Pipeline.afterTail₀ cfgs (dats m) 0 (V0 m) [hostOps1] c main_v90
      = cut5 (Pipeline.withArrays spec0 c (V0 m c) (fun w => (dats m 0 c).arrAt w cfg0.N) (Proc.devRef .tc main_v36_2)) := by
    unfold Pipeline.afterTail₀
    simp (disch := decide) only [List.flatten_cons, List.flatten_nil, List.append_nil, hostOps1, StableHlo.after_cons,
      StableHlo.after_nil, StableHlo.unary_result', StableHlo.reshape_result', StableHlo.unary_result_ne', StableHlo.reshape_result_ne']
    rfl
  rw [read, found6, final6, V_main_v17, V_main_v35]
  refine Eq.trans (b := second (cut5 (pack _ _ _ _ _ _ _)) (cut5 (pack _ _ _ _ _ _ _))) rfl ?_
  simp only [cut5_pack]

end Cert.Proof.AdamSmallValue

end
-- ==== Proof.AdamSmallClaims.lean ====
/- The optimiser's step of the six small weights: the whole call, with the host's packing before it and its slices after it, leaves
   for each weight the update and the two moments of the plain formula. -/
module

public import proofs.«01_k».proof.Defs
public import proofs.«01_k».proof.Proof.AdamSmallValue
public import proofs.«01_k».proof.Proof.Gen.AdamSmall.Frame
public import proofs.«01_k».proof.Proof.Gen.AdamSmallRefIdeal.Run
public import proofs.«01_k».proof.Proof.Gen.AdamSmallRef
public import Idealize.ShloMosaic.Lib.Quiescent

@[expose] public section

noncomputable section

open Idealize.ShloMosaic Idealize.ShloMosaic.TcCoe Idealize.SL.Sem

namespace Cert.Proof.AdamSmallValue

open Cert.AdamSmallIdeal Cert.AdamSmallIdeal.Gen

variable {F : FTy → Type} [FloatOps F]
variable (m : (ℓ : Loc nD τ sig) → Buf (Elt F) ℓ) (ρ : Dev nD → PrngReg)

/-- What the call leaves: each result is the plain step of its weight, and the arguments are unchanged. -/
theorem run : θ_run defs (onTc (τ := τ) (main (F := F))) ⟨m, fun _ => 0, ρ⟩ fun r => ∀ c : Dev nD,
      r.2.mem ((c : Thread nD τ).loc main_v39) = update (m ((c : Thread nD τ).loc main_arg0)) (m ((c : Thread nD τ).loc main_arg6)) (m ((c : Thread nD τ).loc main_arg12)) (m ((c : Thread nD τ).loc main_arg18))
      ∧ r.2.mem ((c : Thread nD τ).loc main_v48) = update (m ((c : Thread nD τ).loc main_arg1)) (m ((c : Thread nD τ).loc main_arg7)) (m ((c : Thread nD τ).loc main_arg13)) (m ((c : Thread nD τ).loc main_arg19))
      ∧ r.2.mem ((c : Thread nD τ).loc main_v57) = update (m ((c : Thread nD τ).loc main_arg2)) (m ((c : Thread nD τ).loc main_arg8)) (m ((c : Thread nD τ).loc main_arg14)) (m ((c : Thread nD τ).loc main_arg20))
      ∧ r.2.mem ((c : Thread nD τ).loc main_v66) = update (m ((c : Thread nD τ).loc main_arg3)) (m ((c : Thread nD τ).loc main_arg9)) (m ((c : Thread nD τ).loc main_arg15)) (m ((c : Thread nD τ).loc main_arg21))
      ∧ r.2.mem ((c : Thread nD τ).loc main_v75) = update (m ((c : Thread nD τ).loc main_arg4)) (m ((c : Thread nD τ).loc main_arg10)) (m ((c : Thread nD τ).loc main_arg16)) (m ((c : Thread nD τ).loc main_arg22))
      ∧ r.2.mem ((c : Thread nD τ).loc main_v84) = update (m ((c : Thread nD τ).loc main_arg5)) (m ((c : Thread nD τ).loc main_arg11)) (m ((c : Thread nD τ).loc main_arg17)) (m ((c : Thread nD τ).loc main_arg23))
      ∧ r.2.mem ((c : Thread nD τ).loc main_v42) = first (m ((c : Thread nD τ).loc main_arg6)) (m ((c : Thread nD τ).loc main_arg12))
      ∧ r.2.mem ((c : Thread nD τ).loc main_v51) = first (m ((c : Thread nD τ).loc main_arg7)) (m ((c : Thread nD τ).loc main_arg13))
      ∧ r.2.mem ((c : Thread nD τ).loc main_v60) = first (m ((c : Thread nD τ).loc main_arg8)) (m ((c : Thread nD τ).loc main_arg14))
      ∧ r.2.mem ((c : Thread nD τ).loc main_v69) = first (m ((c : Thread nD τ).loc main_arg9)) (m ((c : Thread nD τ).loc main_arg15))
      ∧ r.2.mem ((c : Thread nD τ).loc main_v78) = first (m ((c : Thread nD τ).loc main_arg10)) (m ((c : Thread nD τ).loc main_arg16))
      ∧ r.2.mem ((c : Thread nD τ).loc main_v87) = first (m ((c : Thread nD τ).loc main_arg11)) (m ((c : Thread nD τ).loc main_arg17))
      ∧ r.2.mem ((c : Thread nD τ).loc main_v45) = second (m ((c : Thread nD τ).loc main_arg6)) (m ((c : Thread nD τ).loc main_arg18))
      ∧ r.2.mem ((c : Thread nD τ).loc main_v54) = second (m ((c : Thread nD τ).loc main_arg7)) (m ((c : Thread nD τ).loc main_arg19))
      ∧ r.2.mem ((c : Thread nD τ).loc main_v63) = second (m ((c : Thread nD τ).loc main_arg8)) (m ((c : Thread nD τ).loc main_arg20))
      ∧ r.2.mem ((c : Thread nD τ).loc main_v72) = second (m ((c : Thread nD τ).loc main_arg9)) (m ((c : Thread nD τ).loc main_arg21))
      ∧ r.2.mem ((c : Thread nD τ).loc main_v81) = second (m ((c : Thread nD τ).loc main_arg10)) (m ((c : Thread nD τ).loc main_arg22))
      ∧ r.2.mem ((c : Thread nD τ).loc main_v90) = second (m ((c : Thread nD τ).loc main_arg11)) (m ((c : Thread nD τ).loc main_arg23))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23) :=
  (θ_run defs _ _).mono (fun _ h c =>
      ⟨((h c).2 main_v39 (Pipeline.mem_restRefs_of main_v39 (by decide) (by decide))).trans (tail_v39 m c),
        ((h c).2 main_v48 (Pipeline.mem_restRefs_of main_v48 (by decide) (by decide))).trans (tail_v48 m c),
        ((h c).2 main_v57 (Pipeline.mem_restRefs_of main_v57 (by decide) (by decide))).trans (tail_v57 m c),
        ((h c).2 main_v66 (Pipeline.mem_restRefs_of main_v66 (by decide) (by decide))).trans (tail_v66 m c),
        ((h c).2 main_v75 (Pipeline.mem_restRefs_of main_v75 (by decide) (by decide))).trans (tail_v75 m c),
        ((h c).2 main_v84 (Pipeline.mem_restRefs_of main_v84 (by decide) (by decide))).trans (tail_v84 m c),
        ((h c).2 main_v42 (Pipeline.mem_restRefs_of main_v42 (by decide) (by decide))).trans (tail_v42 m c),
        ((h c).2 main_v51 (Pipeline.mem_restRefs_of main_v51 (by decide) (by decide))).trans (tail_v51 m c),
        ((h c).2 main_v60 (Pipeline.mem_restRefs_of main_v60 (by decide) (by decide))).trans (tail_v60 m c),
        ((h c).2 main_v69 (Pipeline.mem_restRefs_of main_v69 (by decide) (by decide))).trans (tail_v69 m c),
        ((h c).2 main_v78 (Pipeline.mem_restRefs_of main_v78 (by decide) (by decide))).trans (tail_v78 m c),
        ((h c).2 main_v87 (Pipeline.mem_restRefs_of main_v87 (by decide) (by decide))).trans (tail_v87 m c),
        ((h c).2 main_v45 (Pipeline.mem_restRefs_of main_v45 (by decide) (by decide))).trans (tail_v45 m c),
        ((h c).2 main_v54 (Pipeline.mem_restRefs_of main_v54 (by decide) (by decide))).trans (tail_v54 m c),
        ((h c).2 main_v63 (Pipeline.mem_restRefs_of main_v63 (by decide) (by decide))).trans (tail_v63 m c),
        ((h c).2 main_v72 (Pipeline.mem_restRefs_of main_v72 (by decide) (by decide))).trans (tail_v72 m c),
        ((h c).2 main_v81 (Pipeline.mem_restRefs_of main_v81 (by decide) (by decide))).trans (tail_v81 m c),
        ((h c).2 main_v90 (Pipeline.mem_restRefs_of main_v90 (by decide) (by decide))).trans (tail_v90 m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c),
        ((h c).2 main_arg3 (Pipeline.mem_restRefs_of main_arg3 (by decide) (by decide))).trans (W_main_arg3 m (dats m) c),
        ((h c).2 main_arg4 (Pipeline.mem_restRefs_of main_arg4 (by decide) (by decide))).trans (W_main_arg4 m (dats m) c),
        ((h c).2 main_arg5 (Pipeline.mem_restRefs_of main_arg5 (by decide) (by decide))).trans (W_main_arg5 m (dats m) c),
        ((h c).2 main_arg6 (Pipeline.mem_restRefs_of main_arg6 (by decide) (by decide))).trans (W_main_arg6 m (dats m) c),
        ((h c).2 main_arg7 (Pipeline.mem_restRefs_of main_arg7 (by decide) (by decide))).trans (W_main_arg7 m (dats m) c),
        ((h c).2 main_arg8 (Pipeline.mem_restRefs_of main_arg8 (by decide) (by decide))).trans (W_main_arg8 m (dats m) c),
        ((h c).2 main_arg9 (Pipeline.mem_restRefs_of main_arg9 (by decide) (by decide))).trans (W_main_arg9 m (dats m) c),
        ((h c).2 main_arg10 (Pipeline.mem_restRefs_of main_arg10 (by decide) (by decide))).trans (W_main_arg10 m (dats m) c),
        ((h c).2 main_arg11 (Pipeline.mem_restRefs_of main_arg11 (by decide) (by decide))).trans (W_main_arg11 m (dats m) c),
        ((h c).2 main_arg12 (Pipeline.mem_restRefs_of main_arg12 (by decide) (by decide))).trans (W_main_arg12 m (dats m) c),
        ((h c).2 main_arg13 (Pipeline.mem_restRefs_of main_arg13 (by decide) (by decide))).trans (W_main_arg13 m (dats m) c),
        ((h c).2 main_arg14 (Pipeline.mem_restRefs_of main_arg14 (by decide) (by decide))).trans (W_main_arg14 m (dats m) c),
        ((h c).2 main_arg15 (Pipeline.mem_restRefs_of main_arg15 (by decide) (by decide))).trans (W_main_arg15 m (dats m) c),
        ((h c).2 main_arg16 (Pipeline.mem_restRefs_of main_arg16 (by decide) (by decide))).trans (W_main_arg16 m (dats m) c),
        ((h c).2 main_arg17 (Pipeline.mem_restRefs_of main_arg17 (by decide) (by decide))).trans (W_main_arg17 m (dats m) c),
        ((h c).2 main_arg18 (Pipeline.mem_restRefs_of main_arg18 (by decide) (by decide))).trans (W_main_arg18 m (dats m) c),
        ((h c).2 main_arg19 (Pipeline.mem_restRefs_of main_arg19 (by decide) (by decide))).trans (W_main_arg19 m (dats m) c),
        ((h c).2 main_arg20 (Pipeline.mem_restRefs_of main_arg20 (by decide) (by decide))).trans (W_main_arg20 m (dats m) c),
        ((h c).2 main_arg21 (Pipeline.mem_restRefs_of main_arg21 (by decide) (by decide))).trans (W_main_arg21 m (dats m) c),
        ((h c).2 main_arg22 (Pipeline.mem_restRefs_of main_arg22 (by decide) (by decide))).trans (W_main_arg22 m (dats m) c),
        ((h c).2 main_arg23 (Pipeline.mem_restRefs_of main_arg23 (by decide) (by decide))).trans (W_main_arg23 m (dats m) c)⟩)
    (run_main m ρ)

end Cert.Proof.AdamSmallValue

namespace Cert.Proof.AdamSmall

/-- The call ends, its arguments unchanged and its counters at zero. -/
theorem frame_kernel : Cert.quiescent_AdamSmall := fun m ρ _ => Cert.AdamSmall.Gen.frame m ρ

theorem frame_ideal : Cert.quiescent_AdamSmallIdeal := fun m ρ _ => Cert.AdamSmallIdeal.Gen.frame m ρ

/-- The reference ends with its arguments unchanged; it has no counter. -/
theorem frame_ref_ideal : Cert.quiescent_AdamSmallRefIdeal := fun m ρ _ =>
  (θ_run Cert.AdamSmallRefIdeal.defs _ _).mono
    (fun r h => ⟨fun c => (h c).2.2.2.2.2.2.2.2.2.2.2.2.2.2.2.2.2.2, sem_eq_zero_of_no_sems (by decide) r.2⟩)
    (Cert.AdamSmallRefIdeal.Value.run (F := Ideal) m ρ)

theorem frame_ref : Cert.quiescent_AdamSmallRef := fun m ρ _ =>
  (θ_run Cert.AdamSmallRefIdeal.defs _ _).mono
    (fun r h => ⟨fun c => (h c).2.2.2.2.2.2.2.2.2.2.2.2.2.2.2.2.2.2, sem_eq_zero_of_no_sems (by decide) r.2⟩)
    (Cert.AdamSmallRefIdeal.Value.run (F := Bits) m ρ)

/-- Over the reals the call's eighteen results are the updates, the first moments and the second moments of the plain formula. -/
theorem algebraic : Cert.algebraic_AdamSmallIdeal_AdamSmallRefIdeal := by
  intro m ρ m' ρ' _ same
  refine ⟨_, _, _, _, _, _, _, _, _, _, _, _, _, _, _, _, _, _, Cert.Proof.AdamSmallValue.run (F := Ideal) m ρ, ?_⟩
  refine (θ_run Cert.AdamSmallRefIdeal.defs _ _).mono (fun _ h c => ?_) (Cert.AdamSmallRefIdeal.Value.run (F := Ideal) m' ρ')
  obtain ⟨e0, e1, e2, e3, e4, e5, e6, e7, e8, e9, e10, e11, e12, e13, e14, e15, e16, e17, e18, e19, e20, e21, e22, e23⟩ := same c
  obtain ⟨h0, h1, h2, h3, h4, h5, h6, h7, h8, h9, h10, h11, h12, h13, h14, h15, h16, h17, kept⟩ := h c
  replace e0 : StableHlo.launchContents m' c (Proc.devRef .tc Cert.AdamSmallRefIdeal.main_arg0) = _ := e0
  replace e1 : StableHlo.launchContents m' c (Proc.devRef .tc Cert.AdamSmallRefIdeal.main_arg1) = _ := e1
  replace e2 : StableHlo.launchContents m' c (Proc.devRef .tc Cert.AdamSmallRefIdeal.main_arg2) = _ := e2
  replace e3 : StableHlo.launchContents m' c (Proc.devRef .tc Cert.AdamSmallRefIdeal.main_arg3) = _ := e3
  replace e4 : StableHlo.launchContents m' c (Proc.devRef .tc Cert.AdamSmallRefIdeal.main_arg4) = _ := e4
  replace e5 : StableHlo.launchContents m' c (Proc.devRef .tc Cert.AdamSmallRefIdeal.main_arg5) = _ := e5
  replace e6 : StableHlo.launchContents m' c (Proc.devRef .tc Cert.AdamSmallRefIdeal.main_arg6) = _ := e6
  replace e7 : StableHlo.launchContents m' c (Proc.devRef .tc Cert.AdamSmallRefIdeal.main_arg7) = _ := e7
  replace e8 : StableHlo.launchContents m' c (Proc.devRef .tc Cert.AdamSmallRefIdeal.main_arg8) = _ := e8
  replace e9 : StableHlo.launchContents m' c (Proc.devRef .tc Cert.AdamSmallRefIdeal.main_arg9) = _ := e9
  replace e10 : StableHlo.launchContents m' c (Proc.devRef .tc Cert.AdamSmallRefIdeal.main_arg10) = _ := e10
  replace e11 : StableHlo.launchContents m' c (Proc.devRef .tc Cert.AdamSmallRefIdeal.main_arg11) = _ := e11
  replace e12 : StableHlo.launchContents m' c (Proc.devRef .tc Cert.AdamSmallRefIdeal.main_arg12) = _ := e12
  replace e13 : StableHlo.launchContents m' c (Proc.devRef .tc Cert.AdamSmallRefIdeal.main_arg13) = _ := e13
  replace e14 : StableHlo.launchContents m' c (Proc.devRef .tc Cert.AdamSmallRefIdeal.main_arg14) = _ := e14
  replace e15 : StableHlo.launchContents m' c (Proc.devRef .tc Cert.AdamSmallRefIdeal.main_arg15) = _ := e15
  replace e16 : StableHlo.launchContents m' c (Proc.devRef .tc Cert.AdamSmallRefIdeal.main_arg16) = _ := e16
  replace e17 : StableHlo.launchContents m' c (Proc.devRef .tc Cert.AdamSmallRefIdeal.main_arg17) = _ := e17
  replace e18 : StableHlo.launchContents m' c (Proc.devRef .tc Cert.AdamSmallRefIdeal.main_arg18) = _ := e18
  replace e19 : StableHlo.launchContents m' c (Proc.devRef .tc Cert.AdamSmallRefIdeal.main_arg19) = _ := e19
  replace e20 : StableHlo.launchContents m' c (Proc.devRef .tc Cert.AdamSmallRefIdeal.main_arg20) = _ := e20
  replace e21 : StableHlo.launchContents m' c (Proc.devRef .tc Cert.AdamSmallRefIdeal.main_arg21) = _ := e21
  replace e22 : StableHlo.launchContents m' c (Proc.devRef .tc Cert.AdamSmallRefIdeal.main_arg22) = _ := e22
  replace e23 : StableHlo.launchContents m' c (Proc.devRef .tc Cert.AdamSmallRefIdeal.main_arg23) = _ := e23
  rw [e0, e6, e12, e18] at h0
  rw [e1, e7, e13, e19] at h1
  rw [e2, e8, e14, e20] at h2
  rw [e3, e9, e15, e21] at h3
  rw [e4, e10, e16, e22] at h4
  rw [e5, e11, e17, e23] at h5
  rw [e6, e12] at h6
  rw [e7, e13] at h7
  rw [e8, e14] at h8
  rw [e9, e15] at h9
  rw [e10, e16] at h10
  rw [e11, e17] at h11
  rw [e6, e18] at h12
  rw [e7, e19] at h13
  rw [e8, e20] at h14
  rw [e9, e21] at h15
  rw [e10, e22] at h16
  rw [e11, e23] at h17
  refine ⟨?_, ?_, ?_, ?_, ?_, ?_, ?_, ?_, ?_, ?_, ?_, ?_, ?_, ?_, ?_, ?_, ?_, ?_, ?_⟩
  · exact h0
  · exact h1
  · exact h2
  · exact h3
  · exact h4
  · exact h5
  · exact h6
  · exact h7
  · exact h8
  · exact h9
  · exact h10
  · exact h11
  · exact h12
  · exact h13
  · exact h14
  · exact h15
  · exact h16
  · exact h17
  · exact kept

end Cert.Proof.AdamSmall

end
-- ==== Proof.Wires.lean ====
/-
# A body that only starts copies and waits for them

The four exchanging kernels have one shape: every device starts copies inside its own memory and copies into the
memory of one fixed partner per copy, and waits once on every semaphore. This module states that shape once. A *plan*
lists the semaphores by a finite type of keys; under key `k` device `c` pays the cell of `peer k c`, and `peer k` is
its own inverse, so every cell has exactly one payer and one waiter. The state of a running device is then two lists,
the keys it has paid and the cells it has waited on, and each instruction of such a body moves the lists on by one.
-/
module

public import Idealize.ShloMosaic.Lib.Pipeline.Launch
public import Idealize.ShloMosaic.Lib.Pipeline.Kit
public import Idealize.ShloMosaic.Lib.Tactic

@[expose] public section

noncomputable section

namespace Cert.Wires

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

abbrev RR (nD : Nat) (τ : Topo) (sig : RefSig) : Type := URounds (GSem nD τ sig) Unit
abbrev UU (nD : Nat) (τ : Topo) (sig : RefSig) : Type := RR nD τ sig × RR nD τ sig

variable {nD : Nat} {τ : Topo} {sig : RefSig} {Val : EltTy → Type}

local notation "𝕄" => MT nD τ sig Unit Val ℕ (UU nD τ sig) ℕ

abbrev EP : Emb (RR nD τ sig) (MT nD τ sig Unit Val ℕ (UU nD τ sig) ℕ) := embL
abbrev ER : Emb (RR nD τ sig) (MT nD τ sig Unit Val ℕ (UU nD τ sig) ℕ) := embR

/-- The semaphores of one kernel by keys: who pays the cell, how much, what the payer needs and what the waiter gets. -/
structure Plan (nD : Nat) (τ : Topo) (sig : RefSig) (Val : EltTy → Type) (K : Type) [Fintype K] [DecidableEq K] where
  sem : K → DmaSem sig
  sem_inj : Function.Injective sem
  /-- Under key `k` device `c` pays the cell of device `peer k c`. -/
  peer : K → Dev nD → Dev nD
  peer_peer : ∀ k c, peer k (peer k c) = c
  /-- The keys paid by a copy from another device. -/
  far : K → Bool
  near : ∀ k, far k = false → ∀ c, peer k c = c
  amt : K → ℕ
  amt_pos : ∀ k, 0 < amt k
  lvl : K → ℕ
  /-- The cell a key's source arrives through, for a copy that passes on what has landed. -/
  after : K → Option K
  /-- What device `c` reads to pay under key `k`. -/
  own : Dev nD → K → sProp (MT nD τ sig Unit Val ℕ (UU nD τ sig) ℕ)
  /-- The part of device `c`'s memory that the payer of its cell `k` fills. -/
  slot : Dev nD → K → sProp (MT nD τ sig Unit Val ℕ (UU nD τ sig) ℕ)
  /-- What the wait on cell `k` hands device `c`, and what of it stays to the end. -/
  pay : Dev nD → K → sProp (MT nD τ sig Unit Val ℕ (UU nD τ sig) ℕ)
  keep : Dev nD → K → sProp (MT nD τ sig Unit Val ℕ (UU nD τ sig) ℕ)
  storable : ∀ c k, BI.Storable (upEmb : UEmb _ (MT nD τ sig Unit Val ℕ (UU nD τ sig) ℕ)) (pay c k)
  settle : ∀ c k, pay c k ⊢ iprop(keep c k ∗ bigSep (Finset.univ.filter fun j => after j = some k) (own c))

variable {K : Type} [Fintype K] [DecidableEq K]

theorem take_off {I : Type} [DecidableEq I] {s : Finset I} {i : I} (h : i ∈ s) (Φ : I → sProp 𝕄) :
    bigSep s Φ = iprop(Φ i ∗ bigSep (s.erase i) Φ) := BI.bigSep_erase h
theorem put_on {I : Type} [DecidableEq I] {s : Finset I} {i : I} (h : i ∉ s) (Φ : I → sProp 𝕄) :
    bigSep (insert i s) Φ = iprop(Φ i ∗ bigSep s Φ) := BI.bigSep_insert h
theorem put_all {I : Type} [DecidableEq I] {s t : Finset I} (h : Disjoint s t) (Φ : I → sProp 𝕄) :
    bigSep (s ∪ t) Φ = iprop(bigSep s Φ ∗ bigSep t Φ) := BI.bigSep_union h

namespace Plan

variable (p : Plan nD τ sig Val K)

abbrev cell (c : Dev nD) (k : K) : GSem nD τ sig := ((c.tc : Thread nD τ), .dma (p.sem k))

theorem cell_inj {c c' : Dev nD} {k k' : K} (h : p.cell c k = p.cell c' k') : c = c' ∧ k = k' :=
  ⟨congrArg (fun g : GSem nD τ sig => g.1.1) h, p.sem_inj (SemLoc.dma.inj (congrArg Prod.snd h))⟩

/-- The key of a cell. -/
def Keyed (g : GSem nD τ sig) : Prop := g.1.2 = .tc ∧ ∃ k, g.2 = .dma (p.sem k)

theorem keyed (c : Dev nD) (k : K) : p.Keyed (p.cell c k) := ⟨rfl, k, rfl⟩

open Classical in
def keyOf (g : GSem nD τ sig) (h : p.Keyed g) : K := h.2.choose

theorem keyOf_cell (c : Dev nD) (k : K) (h : p.Keyed (p.cell c k)) : p.keyOf (p.cell c k) h = k :=
  (p.sem_inj (SemLoc.dma.inj h.2.choose_spec)).symm

open Classical in
def payOf (g : GSem nD τ sig) : sProp 𝕄 := if h : p.Keyed g then p.pay g.1.1 (p.keyOf g h) else iprop(emp)

open Classical in
def amtOf (g : GSem nD τ sig) : ℕ := if h : p.Keyed g then p.amt (p.keyOf g h) else 1

open Classical in
/-- Every cell has one round with one payment. -/
def sched : Rounds.Schedule (GSem nD τ sig) Unit 𝕄 where
  duties g r := if r = 0 ∧ p.Keyed g then {()} else ∅
  unitless _ := False
  amount g _ _ := p.amtOf g
  payload g _ _ := p.payOf g
  amount_pos g _ _ _ := by
    unfold amtOf; split
    · exact p.amt_pos _
    · exact Nat.one_pos

instance sched_storable (g : GSem nD τ sig) (r : ℕ) (d : Unit) :
    BI.Storable (upEmb : UEmb _ 𝕄) (p.sched.payload g r d) := by
  show BI.Storable upEmb (p.payOf g)
  unfold payOf; split
  · exact p.storable _ _
  · infer_instance

variable (c : Dev nD) (k : K)

theorem duties_cell : p.sched.duties (p.cell c k) 0 = {()} := by
  dsimp only [sched]; exact if_pos ⟨rfl, p.keyed c k⟩
theorem mem_duties : () ∈ p.sched.duties (p.cell c k) 0 := by rw [duties_cell]; exact Finset.mem_singleton_self _
theorem duties_later (g : GSem nD τ sig) : ∀ r, 1 ≤ r → p.sched.duties g r = ∅ := fun r hr => by
  dsimp only [sched]; exact if_neg fun h => by omega
theorem amount_cell (u : Unit) : p.sched.amount (p.cell c k) 0 u = p.amt k := by
  show p.amtOf _ = _; unfold amtOf; rw [dif_pos (p.keyed c k), keyOf_cell]
theorem expect_cell : p.sched.expect (p.cell c k) 0 = p.amt k := by
  unfold Schedule.expect Schedule.amountOf; rw [duties_cell, Finset.sum_singleton, amount_cell]
theorem payload_cell (u : Unit) : p.sched.payload (p.cell c k) 0 u = p.pay c k := by
  show p.payOf _ = _; unfold payOf; rw [dif_pos (p.keyed c k), keyOf_cell]
theorem rest_cell : bigSep (p.sched.duties (p.cell c k) 0 \ ∅) (fun u => p.sched.payload (p.cell c k) 0 u) = p.pay c k := by
  rw [Finset.sdiff_empty, duties_cell, bigSep_singleton, payload_cell]

/-! ## Levels and what is owed -/

def L (g : GSem nD τ sig) : Finset Unit := if g.1.2 = .tc then {()} else ∅
open Classical in
def lv (g : GSem nD τ sig) (_ : Unit) : ℕ := if h : p.Keyed g then p.lvl (p.keyOf g h) else 0

theorem lv_cell (u : Unit) : p.lv (p.cell c k) u = p.lvl k := by unfold lv; rw [dif_pos (p.keyed c k), keyOf_cell]

/-- The keys device `c` has not paid. -/
def unpaid (S : List K) : Finset K := Finset.univ.filter fun k => k ∉ S

theorem unpaid_cons (S : List K) : unpaid (k :: S) = (unpaid S).erase k := by
  ext j; simp [unpaid, not_or]

theorem mem_unpaid {S : List K} {k : K} (h : k ∉ S) : k ∈ unpaid S := by simp [unpaid, h]

/-- What is still owed to the other devices. -/
def due (S : List K) : CellTallies nD τ sig Unit :=
  ∑ k ∈ (unpaid S).filter fun k => p.far k = true, tallyAt (p.cell (p.peer k c) k) () (p.amt k)

theorem due_near {S : List K} (h : p.far k = false) : p.due c (k :: S) = p.due c S := by
  unfold due
  congr 1
  ext j
  simp only [unpaid_cons, Finset.mem_filter, Finset.mem_erase]
  constructor
  · rintro ⟨⟨-, h1⟩, h2⟩; exact ⟨h1, h2⟩
  · rintro ⟨h1, h2⟩; exact ⟨⟨fun e => by rw [e, h] at h2; exact absurd h2 (by decide), h1⟩, h2⟩

theorem due_far {S : List K} (h : p.far k = true) (hk : k ∉ S) :
    p.due c S = p.due c (k :: S) + tallyAt (p.cell (p.peer k c) k) () (p.amt k) := by
  unfold due
  rw [unpaid_cons, Finset.filter_erase]
  exact (Finset.sum_erase_add _ _ (Finset.mem_filter.mpr ⟨mem_unpaid hk, h⟩)).symm

theorem due_all {S : List K} (h : ∀ k, p.far k = true → k ∈ S) : p.due c S = 0 := by
  unfold due
  have he : (unpaid S).filter (fun k => p.far k = true) = ∅ := by
    ext k; simp only [unpaid, Finset.mem_filter, Finset.mem_univ, true_and, Finset.notMem_empty, iff_false, not_and]
    exact fun hk hf => hk (h k hf)
  rw [he, Finset.sum_empty]

theorem mayWait {S : List K} (h : ∀ j, p.far j = true → j ∉ S → p.lvl k < p.lvl j) :
    (levAts L p.lv : sProp 𝕄) ⊢ MayWait (c.tc : Thread nD τ) (.dma (p.sem k)) () (p.due c S) := by
  refine Pipeline.mayWait_of_levAts (by unfold L; rw [if_pos rfl]; exact Finset.mem_singleton_self _) fun g i hg => ?_
  obtain ⟨j, hj, hp⟩ := Pipeline.sum_pos_exists hg
  rw [Finset.mem_filter] at hj
  rw [tallyAt_apply] at hp
  by_cases hc : g = p.cell (p.peer j c) j ∧ i = ()
  · obtain ⟨rfl, -⟩ := hc
    refine ⟨by unfold L; rw [if_pos rfl]; exact Finset.mem_singleton_self _, ?_⟩
    rw [show p.lv ((c.tc : Thread nD τ), .dma (p.sem k)) () = p.lvl k from p.lv_cell c k (), lv_cell]
    exact h j hj.2 (Finset.mem_filter.mp hj.1).2
  · rw [if_neg hc] at hp; exact absurd hp (Nat.lt_irrefl 0)

/-! ## The state of a device -/

variable (κ : Dev nD × K → ℕ)

def records : sProp 𝕄 :=
  iprop((bigSep Finset.univ fun ck : Dev nD × K => cellInv ER p.sched (κ ck) (p.cell ck.1 ck.2))
    ∗ (bigSep Finset.univ fun ck : Dev nD × K => reached ER (p.cell ck.1 ck.2) 0) ∗ levAts L p.lv)

instance records_persistent : BI.Persistent (p.records κ) := by unfold records; infer_instance

theorem records_inv : p.records κ ⊢ cellInv ER p.sched (κ (c, k)) (p.cell c k) := by
  unfold records; iintro ⟨H, -, -⟩
  have h : bigSep Finset.univ (fun ck : Dev nD × K => (cellInv ER p.sched (κ ck) (p.cell ck.1 ck.2) : sProp 𝕄)) ⊢ (cellInv ER p.sched (κ (c, k)) (p.cell c k)) := bigSep_elim (Finset.mem_univ (c, k))
  iapply h
  iexact H
theorem records_reached : p.records κ ⊢ reached ER (p.cell c k) 0 := by
  unfold records; iintro ⟨-, H, -⟩
  have h : bigSep Finset.univ (fun ck : Dev nD × K => (reached ER (p.cell ck.1 ck.2) 0 : sProp 𝕄)) ⊢ (reached ER (p.cell c k) 0) := bigSep_elim (Finset.mem_univ (c, k))
  iapply h
  iexact H
theorem records_levs : p.records κ ⊢ levAts L p.lv := by unfold records; iintro ⟨-, -, H⟩; iexact H

/-- The keys whose source device `c` holds: unpaid, and the source has arrived. -/
def ready (S R : List K) : Finset K := Finset.univ.filter fun k => k ∉ S ∧ ∀ j ∈ p.after k, j ∈ R

/-- The cells of its own that device `c` holds credit for. -/
def credited (S R : List K) : Finset K := Finset.univ.filter fun k => (p.far k = true ∨ k ∈ S) ∧ k ∉ R

/-- Device `c` has paid under the keys `S` and waited on its cells `R`. -/
def st (S R : List K) : sProp 𝕄 :=
  iprop(p.records κ ∗ (∃ W, owes (c.tc : Thread nD τ) (p.due c S) W)
    ∗ (bigSep (unpaid S) fun k => dutyTok ER (p.cell (p.peer k c) k) 0 ())
    ∗ (bigSep (unpaid S) fun k => p.slot (p.peer k c) k)
    ∗ bigSep (p.ready S R) (p.own c)
    ∗ (bigSep (p.credited S R) fun k => cred (tallyAt (p.cell c k) () (p.amt k)))
    ∗ (bigSep (unpaid R) fun k => atPos ER (p.cell c k) 0 ∅ 0)
    ∗ bigSep R.toFinset fun k => iprop(atPos ER (p.cell c k) 1 ∅ 0 ∗ p.keep c k))

theorem ready_pay {S R : List K} : p.ready (k :: S) R = (p.ready S R).erase k := by
  ext j; simp [ready, not_or, and_assoc]
theorem credited_far {S R : List K} (h : p.far k = true) : p.credited (k :: S) R = p.credited S R := by
  ext j; simp only [credited, Finset.mem_filter, Finset.mem_univ, true_and, List.mem_cons]
  constructor
  · rintro ⟨h1 | h1 | h1, h2⟩
    · exact ⟨.inl h1, h2⟩
    · exact ⟨.inl (h1 ▸ h), h2⟩
    · exact ⟨.inr h1, h2⟩
  · rintro ⟨h1 | h1, h2⟩
    · exact ⟨.inl h1, h2⟩
    · exact ⟨.inr (.inr h1), h2⟩
theorem credited_near {S R : List K} (hR : k ∉ R) : p.credited (k :: S) R = insert k (p.credited S R) := by
  ext j; simp only [credited, Finset.mem_filter, Finset.mem_univ, true_and, List.mem_cons, Finset.mem_insert]
  constructor
  · rintro ⟨h1 | h1 | h1, h2⟩
    · exact .inr ⟨.inl h1, h2⟩
    · exact .inl h1
    · exact .inr ⟨.inr h1, h2⟩
  · rintro (rfl | ⟨h1 | h1, h2⟩)
    · exact ⟨.inr (.inl rfl), hR⟩
    · exact ⟨.inl h1, h2⟩
    · exact ⟨.inr (.inr h1), h2⟩
theorem credited_wait {S R : List K} : p.credited S (k :: R) = (p.credited S R).erase k := by
  ext j; simp only [credited, Finset.mem_filter, Finset.mem_univ, true_and, List.mem_cons, Finset.mem_erase, not_or]
  tauto
theorem ready_wait {S R : List K} (hR : k ∉ R) (hS : ∀ j, p.after j = some k → j ∉ S) :
    p.ready S (k :: R) = p.ready S R ∪ Finset.univ.filter fun j => p.after j = some k := by
  ext j; simp only [ready, Finset.mem_filter, Finset.mem_univ, true_and, List.mem_cons, Finset.mem_union]
  constructor
  · rintro ⟨h1, h2⟩
    by_cases h : p.after j = some k
    · exact .inr h
    · exact .inl ⟨h1, fun i hi => (h2 i hi).resolve_left fun e => h (by rw [← e]; exact hi)⟩
  · rintro (⟨h1, h2⟩ | h)
    · exact ⟨h1, fun i hi => .inr (h2 i hi)⟩
    · exact ⟨hS j h, fun i hi => .inl (by rw [h] at hi; exact (Option.some.inj hi).symm)⟩
theorem ready_disj {S R : List K} (hR : k ∉ R) :
    Disjoint (p.ready S R) (Finset.univ.filter fun j => p.after j = some k) := by
  rw [Finset.disjoint_left]; intro j h1 h2
  exact hR ((Finset.mem_filter.mp h1).2.2 k (Finset.mem_filter.mp h2).2)

/-! ## The instructions -/

section Rules

variable {Λ₀ : Idealize.SL.Sem.Labels} {defs₀ : Defs nD τ sig Val Λ₀} (𝒱 : Variants)

variable [∀ e, Nonempty (Val e)]

variable {p κ c k} {S R : List K}

/-- A copy inside the device's memory, under key `k`. -/
theorem wp_copy {sp sp' : Space} {s : Shape} {e : EltTy} {src : Memref sig (c.tc : Thread nD τ).2.kind sp s e}
    {dst : Memref sig (c.tc : Thread nD τ).2.kind sp' s e} {sem : DmaSem sig}
    {hsrc : src.view.WordExact} {hdst : dst.view.WordExact}
    {hsem : DmaTarget.Typed sp (.dma sem) (.here dst : DmaTarget nD τ sig (c.tc : Thread nD τ).2 sp' s e)}
    {α : Type} {Q : α → sProp 𝕄} {cont : PUnit → Prog (TpuEff nD τ sig Val Λ₀ .tc) α}
    (k : K) (hs : sem = p.sem k) (hf : p.far k = false) (hS : k ∉ S) (hR : k ∉ R) (hA : ∀ j ∈ p.after k, j ∈ R)
    (q : PosShare TreeShare) (fs : Buf Val (src.view.loc (c.tc : Thread nD τ))) (fd : Buf Val (dst.view.loc (c.tc : Thread nD τ)))
    (hamt : dst.view.dmaCredit = p.amt k)
    (hown : p.own c k ⊢ src.view.loc (c.tc : Thread nD τ) ↦[src.view.set]{q} fs)
    (hslot : p.slot c k ⊢ dst.view.loc (c.tc : Thread nD τ) ↦[dst.view.set]{fullShare} fd)
    (hpay : iprop((dst.view.loc (c.tc : Thread nD τ) ↦[dst.view.set]{fullShare} dst.view.write Val fd (src.view.read Val fs) Finset.univ)
      ∗ (src.view.loc (c.tc : Thread nD τ) ↦[src.view.set]{q} fs)) ⊢ p.pay c k)
    (h : p.st c κ (k :: S) R ⊢ wp frame (wpE defs₀ 𝒱 (c.tc : Thread nD τ) none) Set.univ (cont ⟨⟩) Q) :
    p.st c κ S R ⊢ wp frame (wpE defs₀ 𝒱 (c.tc : Thread nD τ) none) Set.univ
      (.op (.enqueueDma src (.here dst) (.dma sem) hsrc hdst hsem) cont) Q := by
  subst hs
  have hrule := Rounds.wp_copy_pointsTo (defs := defs₀) (Γ := .empty) (Es := Set.univ) 𝒱 ER p.sched (c.tc : Thread nD τ) none (κ := κ (c, k)) (r := 0) (d := ())
    (p.mem_duties c k) () (p.amt k) hamt (p.amount_cell c k ())
    (hsrc := hsrc) (hdst := hdst) (hsem := hsem) (src := src) (dst := dst) (q := q) (fs := fs) (fd := fd) (Q := Q) (k := cont)
    (by rw [p.payload_cell c k]; exact hpay)
  have hpeer := p.near k hf c
  unfold st
  rw [take_off (mem_unpaid hS), take_off (mem_unpaid hS), take_off (show k ∈ p.ready S R from by simp [ready, hS]; exact hA), hpeer]
  iintro ⟨#Hrec, Ho, ⟨Ht, Hts⟩, ⟨Hsl, Hsls⟩, ⟨Hown, Howns⟩, Hcr, Hat, Hdone⟩
  iapply hrule $$ [Ht Hsl Hown]
  · isplitr; · iapply (p.records_inv c k κ); iexact Hrec
    isplitl [Hown]; · iapply hown; iexact Hown
    isplitl [Hsl]; · iapply hslot; iexact Hsl
    isplitl [Ht]; · iexact Ht
    iapply (p.records_reached c k κ); iexact Hrec
  iintro Hc
  iapply h
  unfold st
  rw [p.due_near c k hf, unpaid_cons, p.ready_pay, p.credited_near k hR,
    put_on (show k ∉ p.credited S R from by simp [credited, hf, hS])]
  isplitr; · iexact Hrec
  isplitl [Ho]; · iexact Ho
  isplitl [Hts]; · iexact Hts
  isplitl [Hsls]; · iexact Hsls
  isplitl [Howns]; · iexact Howns
  isplitl [Hc Hcr]
  · isplitl [Hc]; · iexact Hc
    iexact Hcr
  isplitl [Hat]; · iexact Hat
  iexact Hdone

/-- A copy into the memory of device `n`: `ks` is the key of the sender's own semaphore, `kr` that of the receiver's. -/
theorem wp_send {sp sp' : Space} {s : Shape} {e : EltTy} {n : Dev nD} {src : Memref sig (c.tc : Thread nD τ).2.kind sp s e}
    {dst : Memref sig (n.tc : Thread nD τ).2.kind sp' s e} {sem semS : DmaSem sig}
    {hsc : dst.view.ref.isScScratch = false} {hsrc : src.view.WordExact} {hdst : dst.view.WordExact}
    {hsem : DmaTarget.Typed sp (.dma sem) (.remote (n.tc : Thread nD τ) dst (.dma semS) hsc : DmaTarget nD τ sig (c.tc : Thread nD τ).2 sp' s e)}
    {α : Type} {Q : α → sProp 𝕄} {cont : PUnit → Prog (TpuEff nD τ sig Val Λ₀ .tc) α}
    (ks kr : K) (hn : n = p.peer kr c) (hs : semS = p.sem ks) (hr : sem = p.sem kr)
    (hfs : p.far ks = false) (hfr : p.far kr = true)
    (hSs : ks ∉ S) (hSr : kr ∉ S) (hR : ks ∉ R) (hA : ∀ j ∈ p.after ks, j ∈ R)
    (q : PosShare TreeShare) (fs : Buf Val (src.view.loc (c.tc : Thread nD τ))) (fd : Buf Val (dst.view.loc (n.tc : Thread nD τ)))
    (hamts : dst.view.dmaCredit = p.amt ks) (hamtr : dst.view.dmaCredit = p.amt kr)
    (hown : p.own c ks ⊢ src.view.loc (c.tc : Thread nD τ) ↦[src.view.set]{q} fs)
    (hslot : p.slot (p.peer kr c) kr ⊢ dst.view.loc (n.tc : Thread nD τ) ↦[dst.view.set]{fullShare} fd)
    (hpays : (src.view.loc (c.tc : Thread nD τ) ↦[src.view.set]{q} fs) ⊢ p.pay c ks)
    (hpayr : (dst.view.loc (n.tc : Thread nD τ) ↦[dst.view.set]{fullShare} dst.view.write Val fd (src.view.read Val fs) Finset.univ) ⊢ p.pay (p.peer kr c) kr)
    (h : p.st c κ (kr :: ks :: S) R ⊢ wp frame (wpE defs₀ 𝒱 (c.tc : Thread nD τ) none) Set.univ (cont ⟨⟩) Q) :
    p.st c κ S R ⊢ wp frame (wpE defs₀ 𝒱 (c.tc : Thread nD τ) none) Set.univ
      (.op (.enqueueDma src (.remote (n.tc : Thread nD τ) dst (.dma semS) hsc) (.dma sem) hsrc hdst hsem) cont) Q := by
  subst hs hr hn
  have hne : kr ≠ ks := fun h => by rw [h, hfs] at hfr; exact absurd hfr (by decide)
  have hSr' : kr ∉ ks :: S := by simp [hne, hSr]
  have hrule (W : Waits sig Unit) := Rounds.wp_send_pointsTo (defs := defs₀) (Γ := .empty) (Es := Set.univ) 𝒱 ER p.sched (c.tc : Thread nD τ) none
    (κ₁ := κ (c, ks)) (κ₂ := κ (p.peer kr c, kr)) (r₁ := 0) (r₂ := 0) (d₁ := ()) (d₂ := ())
    (p.mem_duties c ks) (p.mem_duties (p.peer kr c) kr) () () (p.amt kr) hamtr
    ((p.amount_cell c ks ()).trans (hamts.symm.trans hamtr)) (p.amount_cell (p.peer kr c) kr ()) (p.due c (kr :: ks :: S))
    (p.due_far c kr hfr hSr') (W := W)
    (hsrc := hsrc) (hdst := hdst) (hsem := hsem) (src := src) (dst := dst) (q := q) (fs := fs) (fd := fd) (Q := Q) (k := cont)
    (by rw [p.payload_cell c ks]; exact hpays) (by rw [p.payload_cell (p.peer kr c) kr]; exact hpayr)
  have hpeer := p.near ks hfs c
  have hsub : bigSep ((p.ready S R).erase ks) (p.own c) ⊢ bigSep (((p.ready S R).erase ks).erase kr) (p.own c) :=
    bigSep_subset (Finset.erase_subset _ _)
  unfold st
  rw [take_off (mem_unpaid hSs), take_off (mem_unpaid hSs), ← unpaid_cons, take_off (mem_unpaid hSr'), take_off (mem_unpaid hSr'),
    take_off (show ks ∈ p.ready S R from by simp [ready, hSs]; exact hA), hpeer]
  iintro ⟨#Hrec, ⟨%W, Ho⟩, ⟨Hts, Htr, Htt⟩, ⟨-, Hsl, Hsls⟩, ⟨Hown, Howns⟩, Hcr, Hat, Hdone⟩
  rw [← p.due_near c ks hfs]
  iapply (hrule W) $$ [Hts Htr Hsl Hown Ho]
  · isplitr; · iapply (p.records_inv c ks κ); iexact Hrec
    isplitr; · iapply (p.records_inv (p.peer kr c) kr κ); iexact Hrec
    isplitl [Hown]; · iapply hown; iexact Hown
    isplitl [Hsl]; · iapply hslot; iexact Hsl
    isplitl [Ho]; · iexact Ho
    isplitl [Hts]; · iexact Hts
    isplitr; · iapply (p.records_reached c ks κ); iexact Hrec
    isplitl [Htr]; · iexact Htr
    iapply (p.records_reached (p.peer kr c) kr κ); iexact Hrec
  iintro ⟨Hc, Ho⟩
  iapply h
  unfold st
  rw [unpaid_cons kr, p.ready_pay, p.ready_pay, p.credited_far kr hfr, p.credited_near ks hR,
    put_on (show ks ∉ p.credited S R from by simp [credited, hfs, hSs]), ← hamts, hamtr]
  isplitr; · iexact Hrec
  isplitl [Ho]; · iexists W; iexact Ho
  isplitl [Htt]; · iexact Htt
  isplitl [Hsls]; · iexact Hsls
  isplitl [Howns]
  · iapply hsub; iexact Howns
  isplitl [Hc Hcr]
  · isplitl [Hc]; · iexact Hc
    iexact Hcr
  isplitl [Hat]; · iexact Hat
  iexact Hdone

/-- A wait on the device's own cell `k`. -/
theorem wp_wait {sp sp' : Space} {s s' : Shape} {e e' : EltTy} {sem : DmaSem sig}
    {src : Memref sig (c.tc : Thread nD τ).2.kind sp' s' e'} {κ' : Kind} {dst : Memref sig κ' sp s e}
    {hsrc : src.view.WordExact} {hdst : dst.view.WordExact}
    {α : Type} {Q : α → sProp 𝕄} {cont : PUnit → Prog (TpuEff nD τ sig Val Λ₀ .tc) α}
    (k : K) (hs : sem = p.sem k) (hpaid : p.far k = true ∨ k ∈ S) (hR : k ∉ R)
    (hlev : ∀ j, p.far j = true → j ∉ S → p.lvl k < p.lvl j) (hA : ∀ j, p.after j = some k → j ∉ S)
    (hamt : dst.view.dmaCredit = p.amt k)
    (h : p.st c κ S (k :: R) ⊢ wp frame (wpE defs₀ 𝒱 (c.tc : Thread nD τ) none) Set.univ (cont ⟨⟩) Q) :
    p.st c κ S R ⊢ wp frame (wpE defs₀ 𝒱 (c.tc : Thread nD τ) none) Set.univ
      (.op (.waitDma2 sem src dst hsrc hdst) cont) Q := by
  subst hs
  have hrule (W : Waits sig Unit) := Rounds.wp_wait_rest_token (defs := defs₀) 𝒱 ER p.sched (c.tc : Thread nD τ) none (κ := κ (c, k))
    (wpE_waitDma2_eq (defs := defs₀) (src := src) (dst := dst) (sem := p.sem k) (hsrc := hsrc) (hdst := hdst) 𝒱 (c.tc : Thread nD τ) none Set.univ) (Set.mem_univ _) () (O := p.due c S) (W := W) (R := 0) (m := 0) (T := ∅)
    (k := cont) (Q := Q)
    (by rw [Nat.zero_add]; exact hamt.trans (p.expect_cell c k).symm)
  unfold st
  rw [take_off (show k ∈ p.credited S R from by simp [credited, hR]; exact hpaid), take_off (mem_unpaid hR)]
  iintro ⟨#Hrec, ⟨%W, Ho⟩, Ht, Hsl, Hown, ⟨Hc, Hcr⟩, ⟨Hat, Hats⟩, Hdone⟩
  iapply (hrule W) $$ [Hc Ho Hat]
  · isplitr; · iapply (p.records_inv c k κ); iexact Hrec
    isplitl [Hc]; · rw [hamt]; iexact Hc
    isplitl [Ho]; · iexact Ho
    isplitr; · iapply (p.mayWait c k hlev); iapply (p.records_levs κ); iexact Hrec
    iexact Hat
  iintro ⟨Ho, Hat, -, Hpay⟩
  ihave Hp := (Entails.of_eq (p.rest_cell c k)) $$ Hpay
  ihave Hp := (p.settle c k) $$ Hp
  icases Hp with ⟨Hk, Hg⟩
  iapply h
  unfold st
  rw [unpaid_cons k R, p.ready_wait k hR hA, put_all (p.ready_disj k hR), p.credited_wait, List.toFinset_cons,
    put_on (show k ∉ R.toFinset from by simpa using hR)]
  isplitr; · iexact Hrec
  isplitl [Ho]; · iexists _; iexact Ho
  isplitl [Ht]; · iexact Ht
  isplitl [Hsl]; · iexact Hsl
  isplitl [Hown Hg]
  · isplitl [Hown]; · iexact Hown
    iexact Hg
  isplitl [Hcr]; · iexact Hcr
  isplitl [Hats]; · iexact Hats
  isplitl [Hat Hk]
  · isplitl [Hat]; · iexact Hat
    iexact Hk
  iexact Hdone

end Rules

end Plan

end Cert.Wires

end
-- ==== Proof.WiresRun.lean ====
/-
# The launch of a plan

Eight devices start at once. What a device fills lies partly in its partner's memory, so the destinations have to
change hands before any device runs: this module deals them, together with the tokens, along the partner maps at the
launch, and concludes that every run of `@main` ends with all counters at zero and with what the waits handed over.
-/
module

public import proofs.«01_k».proof.Proof.Wires
public import Idealize.ShloMosaic.Lib.Rounds.Family

@[expose] public section

noncomputable section

namespace Cert.Wires

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg)

variable {nD : Nat} {τ : Topo} {sig : RefSig} {Val : EltTy → Type}

local notation "𝕄" => MT nD τ sig Unit Val ℕ (UU nD τ sig) ℕ

variable {K : Type} [Fintype K] [DecidableEq K]

namespace Plan

variable (p : Plan nD τ sig Val K)

/-- The state of device `c` before its body, short of what it owes. -/
def start (c : Dev nD) : sProp 𝕄 :=
  iprop(∃ κ, (∃ W, owes (c.tc : Thread nD τ) (p.due c []) W) -∗ p.st c κ [] [])

/-- What device `c` has after its body. -/
def done (c : Dev nD) : sProp 𝕄 :=
  iprop((bigSep Finset.univ fun k => semVal (p.cell c k) 0) ∗ bigSep Finset.univ (p.keep c))

def after₁ (c : Dev nD) : sProp 𝕄 := iprop((∃ W, owes (c.tc : Thread nD τ) 0 W) ∗ p.done c)

theorem finish (c : Dev nD) (κ : Dev nD × K → ℕ) {S R : List K} (hS : ∀ k, p.far k = true → k ∈ S) (hR : ∀ k, k ∈ R) :
    p.st c κ S R ⊢ |={Set.univ}=> p.after₁ c := by
  have hRu : R.toFinset = Finset.univ := by ext k; simp [hR k]
  have hinv : (bigSep Finset.univ fun ck : Dev nD × K => (cellInv ER p.sched (κ ck) (p.cell ck.1 ck.2) : sProp 𝕄))
      ⊢ bigSep Finset.univ fun k : K => cellInv ER p.sched (κ (c, k)) (p.cell c k) := by
    rw [bigSep_univ_prod (fun ck : Dev nD × K => (cellInv ER p.sched (κ ck) (p.cell ck.1 ck.2) : sProp 𝕄))]
    exact bigSep_elim (Finset.mem_univ c)
  unfold st after₁ done records
  rw [p.due_all c hS, hRu, bigSep_sep']
  iintro ⟨⟨Hinv, -, -⟩, Ho, -, -, -, -, -, Hat, Hk⟩
  ihave Hi := hinv $$ Hinv
  imod (Rounds.cells_close ER p.sched Finset.univ (fun k => p.cell c k) (fun k => κ (c, k)) (Es := Set.univ) (fun k _ => Set.mem_univ _) (fun k _ h => h) (fun _ => 1)
    (fun k _ => p.duties_later _)) $$ [Hi Hat] with Hz
  · rw [bigSep_sep']; isplitl [Hi] <;> iassumption
  imodintro
  isplitl [Ho]; · iexact Ho
  isplitl [Hz] <;> iassumption

/-! ## The deal -/

def cells : Finset (GSem nD τ sig) :=
  Finset.univ.map ⟨fun ck : Dev nD × K => p.cell ck.1 ck.2, fun a b h => Prod.ext (p.cell_inj h).1 (p.cell_inj h).2⟩
def toks : Finset (GSem nD τ sig × ℕ × Unit) :=
  Finset.univ.map ⟨fun ck : Dev nD × K => (p.cell ck.1 ck.2, 0, ()),
    fun a b h => Prod.ext (p.cell_inj (congrArg Prod.fst h)).1 (p.cell_inj (congrArg Prod.fst h)).2⟩

/-- Device and key under which cell `(c, k)` is paid: an involution of the pairs. -/
def turn : Dev nD × K ≃ Dev nD × K where
  toFun ck := (p.peer ck.2 ck.1, ck.2)
  invFun ck := (p.peer ck.2 ck.1, ck.2)
  left_inv ck := by simp [p.peer_peer]
  right_inv ck := by simp [p.peer_peer]

theorem turned (Φ : Dev nD → K → sProp 𝕄) :
    (bigSep Finset.univ fun c : Dev nD => bigSep Finset.univ (Φ c))
      = bigSep Finset.univ fun c : Dev nD => bigSep Finset.univ fun k => Φ (p.peer k c) k := by
  rw [← bigSep_univ_prod (fun ck : Dev nD × K => Φ ck.1 ck.2), bigSep_univ_equiv p.turn,
    ← bigSep_univ_prod (fun ck : Dev nD × K => Φ (p.peer ck.2 ck.1) ck.2)]
  rfl

theorem credits (c : Dev nD) :
    (Pipeline.launchCred (fun d => p.due d []) c : sProp 𝕄)
      ⊢ bigSep (p.credited [] []) fun k => cred (tallyAt (p.cell c k) () (p.amt k)) := by
  have he : p.credited [] [] = (unpaid []).filter fun k : K => p.far k = true := by
    ext k; simp [credited, unpaid]
  unfold due
  rw [Pipeline.launchCred_sum, he]
  exact bigSep_mono fun k _ => Pipeline.launchCred_tallyAt (.dma (p.sem k)) (p.peer k) (p.peer k) (p.peer_peer k) (p.peer_peer k) () (p.amt k) c

theorem unpaid_nil : unpaid ([] : List K) = Finset.univ := by ext k; simp [unpaid]

def piece (c : Dev nD) : sProp 𝕄 :=
  iprop((bigSep Finset.univ fun k => dutyTok ER (p.cell (p.peer k c) k) 0 ())
    ∗ (bigSep Finset.univ fun k => p.slot (p.peer k c) k)
    ∗ bigSep (p.ready [] []) (p.own c)
    ∗ (bigSep (p.credited [] []) fun k => cred (tallyAt (p.cell c k) () (p.amt k)))
    ∗ bigSep Finset.univ fun k => atPos ER (p.cell c k) 0 ∅ 0)

theorem start_of (κ : Dev nD × K → ℕ) (c : Dev nD) : iprop(p.records κ ∗ p.piece c) ⊢ p.start c := by
  unfold piece start
  iintro ⟨#Hrec, Ht, Hs, Ho, Hc, Ha⟩
  iexists κ
  iintro HW
  unfold st
  rw [unpaid_nil, List.toFinset_nil, BI.bigSep_empty]
  isplitr; · iexact Hrec
  isplitl [HW]; · iexact HW
  isplitl [Ht]; · iexact Ht
  isplitl [Hs]; · iexact Hs
  isplitl [Ho]; · iexact Ho
  isplitl [Hc]; · iexact Hc
  isplitl [Ha]; · iexact Ha
  iempintro

theorem with_records {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

abbrev osem (k : K) : SemLoc sig := .dma (p.sem k)

theorem deal (B aside : Dev nD → sProp 𝕄)
    (hdeal : ∀ c, B c ⊢ iprop(bigSep (p.ready [] []) (p.own c) ∗ bigSep Finset.univ (p.slot c) ∗ aside c)) :
    iprop((bigSep Finset.univ fun c : Dev nD => Pipeline.ownSems0 (Ix := Unit) (Name := ℕ) (U := UU nD τ sig) (Lvl := ℕ) (Val := Val) (τ := τ) p.osem c)
        ∗ (bigSep Finset.univ B)
        ∗ (bigSep Finset.univ fun c : Dev nD => Pipeline.launchCred (fun d => p.due d []) c)
        ∗ levAts L p.lv ∗ BI.own (ER (initOf p.cells p.toks)))
      ⊢ (|={Set.univ}=> iprop(bigSep Finset.univ p.start ∗ bigSep Finset.univ aside) : sProp 𝕄) := by
  have hcells (Φ : GSem nD τ sig → sProp 𝕄) : bigSep p.cells Φ = bigSep Finset.univ fun ck : Dev nD × K => Φ (p.cell ck.1 ck.2) := by
    unfold cells; rw [bigSep_map]; rfl
  have htoks : bigSep p.toks (fun x => (dutyTok ER x.1 x.2.1 x.2.2 : sProp 𝕄))
      = bigSep Finset.univ fun c : Dev nD => bigSep Finset.univ fun k => dutyTok ER (p.cell (p.peer k c) k) 0 () := by
    rw [← p.turned fun c k => dutyTok ER (p.cell c k) 0 ()]
    unfold toks; rw [bigSep_map, bigSep_univ_prod]; rfl
  have hown : (bigSep Finset.univ fun c : Dev nD => Pipeline.ownSems0 (Ix := Unit) (Name := ℕ) (U := UU nD τ sig) (Lvl := ℕ) (Val := Val) (τ := τ) p.osem c : sProp 𝕄)
      = bigSep Finset.univ fun ck : Dev nD × K => semVal (p.cell ck.1 ck.2) 0 :=
    (bigSep_univ_prod fun ck : Dev nD × K => (semVal (p.cell ck.1 ck.2) 0 : sProp 𝕄)).symm
  have hbufs : bigSep Finset.univ B ⊢ iprop((bigSep Finset.univ fun c => bigSep (p.ready [] []) (p.own c))
      ∗ (bigSep Finset.univ fun c : Dev nD => bigSep Finset.univ fun k => p.slot (p.peer k c) k) ∗ bigSep Finset.univ aside) := by
    rw [← p.turned p.slot]
    refine (bigSep_mono fun c _ => hdeal c).trans ?_
    rw [bigSep_sep', bigSep_sep']; exact BI.Entails.refl _
  have hcred : (bigSep Finset.univ fun c : Dev nD => (Pipeline.launchCred (fun d => p.due d []) c : sProp 𝕄))
      ⊢ bigSep Finset.univ fun c => bigSep (p.credited [] []) fun k => cred (tallyAt (p.cell c k) () (p.amt k)) := bigSep_mono fun c _ => p.credits c
  have halloc : iprop((bigSep Finset.univ fun ck : Dev nD × K => semVal (p.cell ck.1 ck.2) 0)
        ∗ bigSep Finset.univ fun ck : Dev nD × K => roundState ER p.sched (p.cell ck.1 ck.2) 0)
      ⊢ (|={Set.univ}=> bigSep Finset.univ fun ck : Dev nD × K => iprop(∃ κ : ℕ, cellInv ER p.sched κ (p.cell ck.1 ck.2)) : sProp 𝕄) := by
    rw [← bigSep_sep']
    exact (bigSep_mono fun ck _ => (Rounds.body_intro ER p.sched (p.cell ck.1 ck.2)).trans inv_alloc).trans (bigSep_fupd _ _)
  have hname : (bigSep Finset.univ fun ck : Dev nD × K => iprop(∃ κ : ℕ, cellInv ER p.sched κ (p.cell ck.1 ck.2)) : sProp 𝕄)
      ⊢ iprop(∃ κ : Dev nD × K → ℕ, bigSep Finset.univ fun ck : Dev nD × K => cellInv ER p.sched (κ ck) (p.cell ck.1 ck.2)) :=
    BI.bigSep_exists_pi Finset.univ (fun (ck : Dev nD × K) (κ : ℕ) => (cellInv ER p.sched κ (p.cell ck.1 ck.2) : sProp 𝕄))
  rw [hown]
  iintro ⟨Hv, HB, Hcr, Hlev, HX⟩
  imod (Rounds.fund ER p.sched p.cells p.toks) $$ HX with ⟨Hst, Hr, Hat, Htok⟩
  ihave Hst := (Entails.of_eq (hcells fun g => roundState ER p.sched g 0)) $$ Hst
  ihave Hr := (Entails.of_eq (hcells fun g => reached ER g 0)) $$ Hr
  ihave Hat := (Entails.of_eq ((hcells fun g => atPos ER g 0 ∅ 0).trans (bigSep_univ_prod fun ck : Dev nD × K => (atPos ER (p.cell ck.1 ck.2) 0 ∅ 0 : sProp 𝕄)))) $$ Hat
  ihave Htok := (Entails.of_eq htoks) $$ Htok
  ihave HB := hbufs $$ HB
  icases HB with ⟨Ho, Hs, Hz⟩
  ihave Hcr := hcred $$ Hcr
  imod halloc $$ [Hv Hst] with Hi
  · isplitl [Hv] <;> iassumption
  ihave Hi := hname $$ Hi
  icases Hi with ⟨%κ, Hi⟩
  imodintro
  isplitr [Hz]
  · iapply (with_records (R := p.records κ) fun c _ => p.start_of κ c)
    isplitl [Hi Hr Hlev]
    · unfold records
      isplitl [Hi]; · iexact Hi
      isplitl [Hr] <;> iassumption
    · unfold piece
      simp only [bigSep_sep']
      isplitl [Htok]; · iexact Htok
      isplitl [Hs]; · iexact Hs
      isplitl [Ho]; · iexact Ho
      isplitl [Hcr] <;> iassumption
  · iexact Hz

/-! ## The run -/

section Run

variable {Λ₀ : Idealize.SL.Sem.Labels} (defs₀ : Defs nD τ sig Val Λ₀)
variable (cfgs : Fin 1 → Cfg sig Λ₀)

/-- The proof data of the one kernel: no windows, `start` before the body and `done` after it. -/
def dats [IsEmpty (Fin (cfgs 0).W)] (q : Fin 1) (c : Dev nD) : Dat τ Val Unit ℕ (UU nD τ sig) ℕ (cfgs q) c where
  A w := by rw [Subsingleton.elim q 0] at *; exact isEmptyElim w
  after w := by rw [Subsingleton.elim q 0] at *; exact isEmptyElim w
  Φ t := if t.val = 0 then p.start c else p.done c
  q _ := fullShare
  owed t := if t.val = 0 then p.due c [] else 0

theorem body_ok [IsEmpty (Fin (cfgs 0).W)] (hN : (cfgs 0).N = 1) (c : Dev nD)
    (hbody : ∀ κ t, p.st c κ [] [] ⊢ wp frame (wpE defs₀ Variants.none c none) Set.univ
      (defs₀ .tc (cfgs 0).body ((cfgs 0).bodyArgs t ((cfgs 0).slots t))) (fun _ => p.after₁ c)) :
    Pipeline.BodyObligation (p.dats cfgs 0 c) defs₀ Variants.none () Set.univ := fun t => by
  have ht : t.val = 0 := by have := t.isLt; omega
  rw [Finset.univ_eq_empty, BI.bigSep_empty, BI.bigSep_empty]
  unfold Dat.owesAt Pipeline.owesWithin
  rw [show (p.dats cfgs 0 c).Φ t.castSucc = p.start c from if_pos ht, show (p.dats cfgs 0 c).Φ t.succ = p.done c from (if_neg (Nat.succ_ne_zero t.val) : (if t.val + 1 = 0 then p.start c else p.done c) = _),
    show (p.dats cfgs 0 c).owed t.castSucc = p.due c [] from if_pos ht, show (p.dats cfgs 0 c).owed t.succ = 0 from (if_neg (Nat.succ_ne_zero t.val) : (if t.val + 1 = 0 then p.due c [] else 0) = _)]
  have hpost : p.after₁ c ⊢ iprop(p.done c ∗ (∃ W : Waits sig Unit, ⌜(↑W : Set (SemLoc sig × Unit)) ⊆ (p.dats cfgs 0 c).bound () t.succ⌝ ∗ owes (c.tc : Thread nD τ) 0 W) ∗ emp) := by
    unfold after₁
    iintro ⟨⟨%W, Ho⟩, Hd⟩
    isplitl [Hd]; · iexact Hd
    isplitl [Ho]
    · iexists W
      isplitr; · ipureintro; exact fun _ _ => Or.inl trivial
      iexact Ho
    · iempintro
  unfold start
  iintro ⟨⟨%κ, Hs⟩, ⟨%W, -, Ho⟩, -⟩
  iapply (wp_mono frame (wpE defs₀ Variants.none (c.tc : Thread nD τ) none) Set.univ fun _ => hpost)
  iapply (hbody κ t)
  iapply Hs
  iexists W
  iexact Ho

local notation "ℙ" => fun q : Fin 1 => Cfg.toPCfg (Val := Val) (cfgs q)
local notation "𝔸" => fun q : Fin 1 => Cfg.toPCfg_adm (Val := Val) (cfgs q)
local notation "𝕍" => Variants.lift Variants.none

variable [∀ e, Nonempty (Val e)]

theorem run [IsEmpty (Fin (cfgs 0).W)] (hN : (cfgs 0).N = 1)
    (hinj : Function.Injective (Pipeline.cellOf (nD := nD) (τ := τ) cfgs))
    (hw : Pipeline.WinFacts (cfgs 0).spec) (ho : Pipeline.OwnSemFacts (cfgs 0).spec p.osem)
    (m : (ℓ : Loc nD τ sig) → Buf Val ℓ) (g : Dev nD → PrngReg)
    (main : Dev nD → Prog (TpuEff nD τ sig Val (Pipeline.Sig Λ₀ (Fin 1) fun q => (ℙ q).Adm) .tc) PUnit)
    (hmain : ∀ c, main c = .op (.customCall (Pipeline.entry 0) ()) fun _ => .ret ⟨⟩)
    (hrest : ∀ c : Dev nD, (Pipeline.scopedRest (cfgs 0).spec c : sProp 𝕄) = (BI.emp : sProp 𝕄))
    (aside : Dev nD → sProp 𝕄)
    (hdeal : ∀ c : Dev nD, (Pipeline.unscopedRest (cfgs 0).spec c (fun b => m ((c.tc : Thread nD τ).loc b)) : sProp 𝕄)
      ⊢ iprop(bigSep (p.ready [] []) (p.own c) ∗ bigSep Finset.univ (p.slot c) ∗ aside c))
    (hbody : ∀ c κ t, p.st c κ [] [] ⊢ wp frame (wpE defs₀ Variants.none c none) Set.univ
      (defs₀ .tc (cfgs 0).body ((cfgs 0).bodyArgs t ((cfgs 0).slots t))) (fun _ => p.after₁ c))
    (QY : Dev nD → MemSt nD τ sig Val → Prop)
    (hY : ∀ c (s' : Phys nD τ sig Val), iprop((bigSep Finset.univ (p.keep c) ∗ aside c) ∗ SI s') ⊢ iprop(⌜QY c s'.mem⌝ ∗ SI s')) :
    θ_run (Pipeline.defs ℙ defs₀) (onTc main) ⟨m, fun _ => 0, g⟩
      (fun r => (∀ c, QY c r.2) ∧ ∀ g' : GSem nD τ sig, (g'.1.2 ≠ .tc ∨ g'.2.isScoped .tc = true) → r.2.sem g' = 0) := by
  classical
  have hW (w : Fin (cfgs 0).W) : False := isEmptyElim w
  have hstage : ∀ w s, (((cfgs 0).spec w).stage s).IsWhole := fun w => (hW w).elim
  have hss := fun c : Dev nD => Pipeline.scopedSems0_split (Val := Val) (Ix := Unit) (Name := ℕ) (U := UU nD τ sig) (Lvl := ℕ) cfgs hinj 0 hw.to₀ ho c
  have hsb := fun c : Dev nD => Pipeline.scopedBufs_split (Val := Val) (Ix := Unit) (Name := ℕ) (U := UU nD τ sig) (Lvl := ℕ) (nD := nD) (τ := τ) cfgs 0 hw.stage_scoped hw.stage_inj hstage c
  have hub (c : Dev nD) : (unscopedBufs c (fun b => m ((c.tc : Thread nD τ).loc b)) : sProp 𝕄) ⊢ Pipeline.unscopedRest (cfgs 0).spec c (fun b => m ((c.tc : Thread nD τ).loc b)) := by
    rw [Pipeline.unscopedBufs_split cfgs 0 hw.arr_unscoped hw.arr_inj c]
    iintro ⟨-, H⟩; iexact H
  let O₀ : Dev nD → CellTallies nD τ sig Unit := fun d => p.due d []
  let u₀ : UU nD τ sig := (initOf (Pipeline.cells cfgs hinj) (Pipeline.launchToks cfgs hinj), initOf p.cells p.toks)
  let pre : Dev nD → sProp 𝕄 := fun c => iprop(scopedBufs (c.tc : Thread nD τ) ∗ Pipeline.cellsSems0 cfgs 0 c ∗ Pipeline.idleSems0 cfgs hinj 0 ho c
    ∗ owes (c.tc : Thread nD τ) (O₀ c) ∅ ∗ levAts L p.lv ∗ Pipeline.cellsGhost cfgs EP 0 c ∗ Pipeline.toksInit cfgs EP 0 c ∗ p.start c ∗ aside c)
  let fin : Dev nD → sProp 𝕄 := fun c => iprop((bigSep Finset.univ (p.keep c) ∗ aside c) ∗ scopedSems0 (c.tc : Thread nD τ))
  refine (θ_run _ _ _).mono (Q := fun r => (∀ c : Dev nD, QY c r.2
      ∧ ∀ sm : SemLoc sig, sm.isScoped .tc = true → r.2.sem ((c.tc : Thread nD τ), sm) = 0)
      ∧ ∀ g' : GSem nD τ sig, g'.1.2 ≠ .tc → r.2.sem g' = 0)
    (fun r hr => ⟨fun c => (hr.1 c).1, sems_of_reads (fun c => (hr.1 c).2) hr.2⟩) (adequate_tpu _ _ _ _
    (reflect_intro_fupd_tc_sems (X := Unit) 𝕍 (Pipeline.owing O₀) 0 (noBookings fun _ => le_rfl) (Pipeline.owing_of_ne O₀) u₀ (fun _ => pre) (fun _ => fin)
      (fun _ => iprop(emp)) Set.univ ?_ (fun _ c => ?_) fun _ => ?_))
  · -- the launch: regroup by kind of resource, fix the levels, deal
    have hcore (c : Dev nD) :
        coreInit (Ix := Unit) (Name := ℕ) (U := UU nD τ sig) (Lvl := ℕ) (Pipeline.owing O₀) 0 (⟨m, fun _ => 0, g⟩ : MemSt nD τ sig Val) (c.tc : Thread nD τ)
          ⊢ iprop(iprop(scopedBufs (c.tc : Thread nD τ) ∗ Pipeline.cellsSems0 cfgs 0 c ∗ Pipeline.idleSems0 cfgs hinj 0 ho c ∗ owes (c.tc : Thread nD τ) (O₀ c) ∅)
              ∗ Pipeline.ownSems0 p.osem c ∗ unscopedBufs c (fun b => m ((c.tc : Thread nD τ).loc b))
              ∗ Pipeline.launchCred O₀ c ∗ levels0 c) := by
      refine (Pipeline.coreInit_boundary_owing O₀ m g c).trans ?_
      unfold boundary
      rw [hss c]
      iintro ⟨⟨Hsc, ⟨⟨Hcells, Hos⟩, Hidle⟩, -⟩, Hub, -, HL, Hlv, -, Hcr⟩
      isplitl [Hsc Hcells Hidle HL]
      · isplitl [Hsc]; · iexact Hsc
        isplitl [Hcells]; · iexact Hcells
        isplitl [Hidle] <;> iassumption
      isplitl [Hos]; · iexact Hos
      isplitl [Hub]; · iexact Hub
      isplitl [Hcr] <;> iassumption
    have hcores : (bigSep Finset.univ fun c : Dev nD => coreInit (Ix := Unit) (Name := ℕ) (U := UU nD τ sig) (Lvl := ℕ) (Pipeline.owing O₀) 0 (⟨m, fun _ => 0, g⟩ : MemSt nD τ sig Val) (c.tc : Thread nD τ))
        ⊢ iprop(iprop((bigSep Finset.univ fun c : Dev nD => scopedBufs (c.tc : Thread nD τ)) ∗ (bigSep Finset.univ fun c : Dev nD => Pipeline.cellsSems0 cfgs 0 c)
              ∗ (bigSep Finset.univ fun c : Dev nD => Pipeline.idleSems0 cfgs hinj 0 ho c) ∗ bigSep Finset.univ fun c : Dev nD => owes (c.tc : Thread nD τ) (O₀ c) ∅)
            ∗ (bigSep Finset.univ fun c : Dev nD => Pipeline.ownSems0 p.osem c) ∗ (bigSep Finset.univ fun c : Dev nD => unscopedBufs c (fun b => m ((c.tc : Thread nD τ).loc b)))
            ∗ (bigSep Finset.univ fun c : Dev nD => Pipeline.launchCred O₀ c) ∗ bigSep Finset.univ fun c : Dev nD => levels0 c) := by
      refine (bigSep_mono fun c _ => hcore c).trans ?_
      simp only [bigSep_sep']
      exact BI.Entails.refl _
    have hL (g : GSem nD τ sig) (h : g.1.2 ≠ .tc) : L g = ∅ := if_neg h
    have hlev : (bigSep Finset.univ fun c : Dev nD => levels0 (Ix := Unit) (Val := Val) (Name := ℕ) (U := UU nD τ sig) (Lvl := ℕ) (τ := τ) (sig := sig) c)
        ⊢ (|==> levAts L p.lv : sProp 𝕄) := by
      refine (bigSep_mono fun c _ => lev_assign_cells (c.tc : Thread nD τ) L p.lv).trans <| (BI.bigSep_bupd _ _).trans <| BI.bupd_mono ?_
      have hother (d : Dev nD) : (bigSep (Finset.univ.erase Proc.tc) fun q : Proc τ => (coreLevAts ((d, q) : Thread nD τ) L p.lv : sProp 𝕄)) = BI.emp := by
        refine (bigSep_congr (Ψ := fun _ : Proc τ => (BI.emp : sProp 𝕄)) fun q hq => ?_).trans (BI.bigSep_emp_const _)
        unfold coreLevAts
        refine (bigSep_congr (Ψ := fun _ : SemLoc sig => (BI.emp : sProp 𝕄)) fun sm _ => ?_).trans (BI.bigSep_emp_const _)
        rw [hL (((d, q) : Thread nD τ), sm) (Finset.ne_of_mem_erase hq), BI.bigSep_empty]
      have hrest' : (bigSep Finset.univ fun d : Dev nD => bigSep (Finset.univ.erase Proc.tc) fun q : Proc τ => (coreLevAts ((d, q) : Thread nD τ) L p.lv : sProp 𝕄)) = BI.emp :=
        (bigSep_congr fun d _ => hother d).trans (BI.bigSep_emp_const _)
      have hinner : (bigSep Finset.univ fun c : Dev nD =>
            iprop((bigSep Finset.univ fun sm : SemLoc sig => levels ((c.tc : Thread nD τ), sm) (L ((c.tc : Thread nD τ), sm))) ∗ coreLevAts (c.tc : Thread nD τ) L p.lv))
          ⊢ iprop((bigSep Finset.univ fun d : Dev nD => coreLevAts (d.tc : Thread nD τ) L p.lv)
              ∗ bigSep Finset.univ fun d : Dev nD => bigSep (Finset.univ.erase Proc.tc) fun q : Proc τ => (coreLevAts ((d, q) : Thread nD τ) L p.lv : sProp 𝕄)) := by
        rw [hrest', bigSep_sep']
        iintro ⟨-, H⟩
        isplitl [H]; · iexact H
        iempintro
      rw [show (levAts L p.lv : sProp 𝕄) = bigSep Finset.univ fun c : Thread nD τ => coreLevAts c L p.lv
        from bigSep_univ_prod fun g : GSem nD τ sig => bigSep (L g) fun ι => levAt g ι (p.lv g ι), bigSep_threads (fun c : Thread nD τ => coreLevAts c L p.lv)]
      exact hinner
    have hpick (Φ : Fin 1 → Dev nD → sProp 𝕄) :
        (bigSep Finset.univ fun c : Dev nD => bigSep Finset.univ fun q => Φ q c) ⊢ bigSep Finset.univ fun c : Dev nD => Φ 0 c :=
      bigSep_mono fun c _ => BI.bigSep_elim (Finset.mem_univ (0 : Fin 1))
    have hstarts := p.deal (fun c => unscopedBufs c fun b => m ((c.tc : Thread nD τ).loc b)) aside fun c => (hub c).trans (hdeal c)
    iintro ⟨Hcores, Hu⟩
    ihave Hc := hcores $$ Hcores
    icases Hc with ⟨⟨Hsc, Hcells, Hidle, HL⟩, Hos, Hub, Hcr, Hlv⟩
    imod hlev $$ Hlv with #Hla
    ihave Hu := (ownU_pair _ _) $$ Hu
    icases Hu with ⟨HP, HX⟩
    imod (Pipeline.fund_ghost cfgs EP hinj) $$ HP with ⟨Hg, Ht⟩
    imod hstarts $$ [Hos Hub Hcr HX] with ⟨Hs, Hz⟩
    · isplitl [Hos]; · iexact Hos
      isplitl [Hub]; · iexact Hub
      isplitl [Hcr]; · iexact Hcr
      isplitr; · iexact Hla
      iexact HX
    imodintro
    iexists ()
    isplitr []
    · simp only [pre, bigSep_sep']
      isplitl [Hsc]; · iexact Hsc
      isplitl [Hcells]; · iexact Hcells
      isplitl [Hidle]; · iexact Hidle
      isplitl [HL]; · iexact HL
      isplitr; · iapply (BI.bigSep_intro_persistent (S := Finset.univ) fun (c : Dev nD) _ => (BI.Entails.refl (levAts L p.lv : sProp 𝕄))); iexact Hla
      isplitl [Hg]; · iapply (hpick fun q c => Pipeline.cellsGhost cfgs EP q c); iexact Hg
      isplitl [Ht]; · iapply (hpick fun q c => Pipeline.toksInit cfgs EP q c); iexact Ht
      isplitl [Hs]; · iexact Hs
      iexact Hz
    · iempintro
  · -- one device: its only instruction is the kernel
    have hwaits : (levAts L p.lv : sProp 𝕄) ⊢ Pipeline.cellsWaits cfgs (p.dats cfgs) () 0 c :=
      Pipeline.cellsWaits_intro cfgs (p.dats cfgs) () 0 c fun w => (hW w).elim
    have hback (c : Dev nD) : (bigSep Finset.univ fun k => semVal (p.cell c k) 0 : sProp 𝕄) ⊢ Pipeline.ownSems0 p.osem c := BI.Entails.refl _
    have hout : iprop((p.dats cfgs 0 c).Φ (Fin.last (cfgs 0).N) ∗ Pipeline.cellsSems0 cfgs 0 c ∗ Dat.staging (cfgs 0) c ∗ Pipeline.idleSems0 cfgs hinj 0 ho c)
        ⊢ iprop(bigSep Finset.univ (p.keep c) ∗ scopedSems0 (c.tc : Thread nD τ) ∗ scopedBufs (c.tc : Thread nD τ)) := by
      rw [hss c, hsb c, hrest c, show (p.dats cfgs 0 c).Φ (Fin.last (cfgs 0).N) = p.done c from if_neg (by rw [Fin.val_last, hN]; decide)]
      unfold done
      iintro ⟨⟨Hz, Hk⟩, Hcells, Hst, Hidle⟩
      isplitl [Hk]; · iexact Hk
      isplitl [Hcells Hz Hidle]
      · isplitl [Hcells Hz]
        · isplitl [Hcells]; · iexact Hcells
          iapply (hback c); iexact Hz
        iexact Hidle
      isplitl [Hst]; · iexact Hst
      iempintro
    simp only [pre]
    rw [hmain c]
    iintro ⟨Hsc, Hcells, Hidle, HL, #Hla, Hg, Ht, Hs, Hz⟩
    ihave Hw := hwaits $$ Hla
    iapply (fupd_wp frame (wpE (Pipeline.defs ℙ defs₀) 𝕍 (c.tc : Thread nD τ) none) Set.univ _ _)
    imod (Pipeline.cellsInit_alloc cfgs (p.dats cfgs) EP hinj 0 c) $$ [Hcells Hg] with ⟨%κ, -, Hinit⟩
    · isplitl [Hcells] <;> iassumption
    imodintro
    iapply (Pipeline.wp_customCall_entry_frame ℙ 𝔸 (p.dats cfgs) () EP κ hinj 0 defs₀ Variants.none (fun _ => fullShare) c Set.univ (fun _ _ => Set.mem_univ _)
        (p.body_ok defs₀ cfgs hN c (hbody c)).loose (fun w => (hW w).elim) none (fun u h => nomatch h) (X := p.start c) (Y := bigSep Finset.univ (p.keep c))
        (R := (BI.emp : sProp 𝕄)) (I := Pipeline.idleSems0 cfgs hinj 0 ho c)
        (by rw [hsb c, hrest c]) (by
          rw [show (p.dats cfgs 0 c).Φ 0 = p.start c from (if_pos rfl : (if (0 : ℕ) = 0 then p.start c else p.done c) = _)]
          iintro ⟨H, -, -⟩; iexact H) hout
        (k := fun _ => .ret ⟨⟩) (Q := fun _ => post (liftTc fin BI.emp) (c.tc : Thread nD τ))) $$ [HL Hinit Ht Hidle Hsc Hw Hs]
    · isplitl [HL Hinit Ht Hw]
      · unfold Pipeline.EntryPre Pipeline.PerCore.EntryPre Dat.owesAt Pipeline.owesWithin
        isplitr; · unfold Dat.arrays; rw [Finset.univ_eq_empty, BI.bigSep_empty]; iempintro
        isplitl [HL]
        · iexists ∅; isplitr; · ipureintro; rw [Finset.coe_empty]; exact Set.empty_subset _
          rw [show (p.dats cfgs 0 c).owed 0 = p.due c [] from (if_pos rfl : (if (0 : ℕ) = 0 then p.due c [] else 0) = _)]
          iexact HL
        isplitl [Hw]; · iexact Hw
        isplitl [Hinit] <;> iassumption
      isplitr
      · unfold Pipeline.prefHeld; rw [Finset.univ_eq_empty, BI.bigSep_empty]; iempintro
      isplitl [Hs]; · iexact Hs
      isplitl [Hidle]; · iexact Hidle
      iexact Hsc
    iintro ⟨Hpost, Hk, Hss, -⟩
    rw [wp_ret]; imodintro
    unfold post; simp only [liftTc_tc, fin]
    unfold Pipeline.EntryPost Pipeline.PerCore.EntryPost Dat.owesAt Pipeline.owesWithin
    rw [show (p.dats cfgs 0 c).owed (Fin.last (cfgs 0).N) = 0 from if_neg (by rw [Fin.val_last, hN]; decide)]
    icases Hpost with ⟨-, ⟨%W, -, HW⟩⟩
    isplitr [HW]
    · isplitl [Hk Hz]
      · isplitl [Hk] <;> iassumption
      iexact Hss
    · iexists W; iexact HW
  · -- the final state
    have hread (c : Dev nD) (s' : Phys nD τ sig Val) : iprop(fin c ∗ SI s') ⊢ |={Set.univ}=>
        iprop(⌜QY c s'.mem ∧ ∀ sm : SemLoc sig, sm.isScoped .tc = true → s'.mem.sem ((c.tc : Thread nD τ), sm) = 0⌝ ∗ SI s') := by
      simp only [fin]
      iintro ⟨⟨Hk, Hss⟩, HSI⟩
      ihave %hz := (tcScoped_read_pers c s') $$ [Hss HSI]
      · isplitl [Hss] <;> iassumption
      ihave Hr := (hY c s') $$ [Hk HSI]
      · isplitl [Hk] <;> iassumption
      icases Hr with ⟨%hy, HSI⟩
      imodintro
      isplitr
      · ipureintro; exact ⟨hy, hz⟩
      · iexact HSI
    iintro ⟨H, -, Hsc⟩ %s' HSI
    ihave %hsc := (scSems_read_zero m g s') $$ [Hsc HSI]
    · isplitl [Hsc] <;> iassumption
    imod (posts_fupd Finset.univ hread s') $$ [H HSI] with %h
    · isplitl [H] <;> iassumption
    imodintro
    ipureintro
    exact ⟨fun c => h c (Finset.mem_univ c), hsc⟩

end Run

end Plan

end Cert.Wires

end
-- ==== Proof.Lines.lean ====
/-
# Plans made of whole copies

A plan whose keys come from copies: a copy inside a device has one semaphore, a copy to the partner has one on each
side. A line names its source and destination as views of the issuing device; everything the plan of `Wires` asks for
follows from the lines, the sources' contents and the memory the devices start with. The last part reads off the final
memory: through the destination view it holds what the source view read.
-/
module

public import proofs.«01_k».proof.Proof.WiresRun

@[expose] public section

noncomputable section

namespace Cert.Wires

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg)

variable {nD : Nat} {τ : Topo} {sig : RefSig} {Val : EltTy → Type}

local notation "𝕄" => MT nD τ sig Unit Val ℕ (UU nD τ sig) ℕ

/-- One copy: where it reads and where it writes, as the issuing device names them. -/
structure Wire (sig : RefSig) where
  sp : Space
  sp' : Space
  s : Shape
  e : EltTy
  src : Memref sig .tc sp s e
  dst : Memref sig .tc sp' s e

/-- The keys: one per copy inside the device, two per copy to the partner. -/
inductive Key (A B : Type) where
  | here (a : A)
  | out (b : B)
  | inn (b : B)
deriving DecidableEq

namespace Key

variable {A B : Type}

def toSum : Key A B ≃ A ⊕ (B ⊕ B) where
  toFun | .here a => .inl a | .out b => .inr (.inl b) | .inn b => .inr (.inr b)
  invFun | .inl a => .here a | .inr (.inl b) => .out b | .inr (.inr b) => .inn b
  left_inv k := by cases k <;> rfl
  right_inv k := by rcases k with a | b | b <;> rfl

instance [Fintype A] [Fintype B] : Fintype (Key A B) := Fintype.ofEquiv _ toSum.symm

variable [Fintype A] [Fintype B] [DecidableEq A] [DecidableEq B]

/-- A product over the keys with a property, by their three forms. -/
theorem split (P : Key A B → Prop) [DecidablePred P] (Φ : Key A B → sProp 𝕄) :
    bigSep (Finset.univ.filter P) Φ
      = iprop(bigSep (Finset.univ.filter fun a => P (.here a)) (fun a => Φ (.here a))
        ∗ bigSep (Finset.univ.filter fun b => P (.out b)) (fun b => Φ (.out b))
        ∗ bigSep (Finset.univ.filter fun b => P (.inn b)) (fun b => Φ (.inn b))) := by
  have h : (Finset.univ.filter P : Finset (Key A B))
      = (Finset.univ.filter fun a => P (.here a)).map ⟨Key.here, fun _ _ h => Key.here.inj h⟩
        ∪ ((Finset.univ.filter fun b => P (.out b)).map ⟨Key.out, fun _ _ h => Key.out.inj h⟩
          ∪ (Finset.univ.filter fun b => P (.inn b)).map ⟨Key.inn, fun _ _ h => Key.inn.inj h⟩) := by
    ext k
    cases k <;> simp only [Finset.mem_union, Finset.mem_map, Finset.mem_filter, Finset.mem_univ, true_and]
    · exact ⟨fun h => .inl ⟨_, h, rfl⟩, fun
        | .inl ⟨a, h, e⟩ => by obtain rfl := Key.here.inj e; exact h
        | .inr (.inl ⟨a, h, e⟩) => nomatch (show Key.out a = Key.here _ from e)
        | .inr (.inr ⟨a, h, e⟩) => nomatch (show Key.inn a = Key.here _ from e)⟩
    · exact ⟨fun h => .inr (.inl ⟨_, h, rfl⟩), fun
        | .inl ⟨a, h, e⟩ => nomatch (show Key.here a = Key.out _ from e)
        | .inr (.inl ⟨a, h, e⟩) => by obtain rfl := Key.out.inj e; exact h
        | .inr (.inr ⟨a, h, e⟩) => nomatch (show Key.inn a = Key.out _ from e)⟩
    · exact ⟨fun h => .inr (.inr ⟨_, h, rfl⟩), fun
        | .inl ⟨a, h, e⟩ => nomatch (show Key.here a = Key.inn _ from e)
        | .inr (.inl ⟨a, h, e⟩) => nomatch (show Key.out a = Key.inn _ from e)
        | .inr (.inr ⟨a, h, e⟩) => by obtain rfl := Key.inn.inj e; exact h⟩
  rw [h, put_all, put_all, bigSep_map, bigSep_map, bigSep_map]
  · rfl
  · rw [Finset.disjoint_left]; intro k h1 h2
    obtain ⟨b, -, rfl⟩ := Finset.mem_map.mp h1
    obtain ⟨b', -, h⟩ := Finset.mem_map.mp h2
    exact nomatch (show Key.inn b' = Key.out b from h)
  · rw [Finset.disjoint_left]; intro k h1 h2
    obtain ⟨a, -, rfl⟩ := Finset.mem_map.mp h1
    rcases Finset.mem_union.mp h2 with h2 | h2 <;> obtain ⟨b', -, h⟩ := Finset.mem_map.mp h2
    · exact nomatch (show Key.out b' = Key.here a from h)
    · exact nomatch (show Key.inn b' = Key.here a from h)

theorem split_univ (Φ : Key A B → sProp 𝕄) :
    bigSep Finset.univ Φ
      = iprop(bigSep Finset.univ (fun a => Φ (.here a)) ∗ bigSep Finset.univ (fun b => Φ (.out b)) ∗ bigSep Finset.univ (fun b => Φ (.inn b))) := by
  have h := split (fun _ : Key A B => True) Φ
  simpa using h

end Key

/-- The copies of one kernel. -/
structure Lines (nD : Nat) (τ : Topo) (sig : RefSig) (Val : EltTy → Type) (A B : Type) [Fintype A] [Fintype B] [DecidableEq A] [DecidableEq B] where
  sem : Key A B → DmaSem sig
  sem_inj : Function.Injective sem
  lvl : Key A B → ℕ
  /-- The copies inside a device, and those to the partner. -/
  near : A → Dev nD → Wire sig
  far : B → Dev nD → Wire sig
  peer : B → Dev nD → Dev nD
  peer_peer : ∀ b c, peer b (peer b c) = c
  /-- What a wait on the copy consumes, the same on every device. -/
  amtA : A → ℕ
  amtB : B → ℕ
  amtA_pos : ∀ a, 0 < amtA a
  amtB_pos : ∀ b, 0 < amtB b
  /-- The arrival a copy to the partner passes on, if it does. -/
  after : B → Option B
  /-- The shares the sources are read at, and the share of an arrival that is not passed on. -/
  shareA : A → PosShare TreeShare
  shareB : B → PosShare TreeShare
  left : B → PosShare TreeShare
  /-- The contents of the sources, and the memory at the start. -/
  heldA : (c : Dev nD) → (a : A) → Buf Val ((near a c).src.view.loc (c.tc : Thread nD τ))
  heldB : (c : Dev nD) → (b : B) → Buf Val ((far b c).src.view.loc (c.tc : Thread nD τ))
  mem : (ℓ : Loc nD τ sig) → Buf Val ℓ
  /-- An arrival splits into what stays and the sources that pass it on. -/
  settle : ∀ c b,
    ((far b (peer b c)).dst.view.loc (c.tc : Thread nD τ) ↦[(far b (peer b c)).dst.view.set]{fullShare}
        (far b (peer b c)).dst.view.write Val (mem ((far b (peer b c)).dst.view.loc (c.tc : Thread nD τ))) ((far b (peer b c)).src.view.read Val (heldB (peer b c) b)) Finset.univ : sProp (MT nD τ sig Unit Val ℕ (UU nD τ sig) ℕ))
      ⊢ iprop(((far b (peer b c)).dst.view.loc (c.tc : Thread nD τ) ↦[(far b (peer b c)).dst.view.set]{left b}
          (far b (peer b c)).dst.view.write Val (mem ((far b (peer b c)).dst.view.loc (c.tc : Thread nD τ))) ((far b (peer b c)).src.view.read Val (heldB (peer b c) b)) Finset.univ)
        ∗ bigSep (Finset.univ.filter fun j => after j = some b) fun j =>
            ((far j c).src.view.loc (c.tc : Thread nD τ) ↦[(far j c).src.view.set]{shareB j} heldB c j))

namespace Lines

variable {A B : Type} [Fintype A] [Fintype B] [DecidableEq A] [DecidableEq B] (w : Lines nD τ sig Val A B)

def ownA (c : Dev nD) (a : A) : sProp 𝕄 :=
  (w.near a c).src.view.loc (c.tc : Thread nD τ) ↦[(w.near a c).src.view.set]{w.shareA a} w.heldA c a
def ownB (c : Dev nD) (b : B) : sProp 𝕄 :=
  (w.far b c).src.view.loc (c.tc : Thread nD τ) ↦[(w.far b c).src.view.set]{w.shareB b} w.heldB c b
def slotA (c : Dev nD) (a : A) : sProp 𝕄 :=
  (w.near a c).dst.view.loc (c.tc : Thread nD τ) ↦[(w.near a c).dst.view.set]{fullShare} w.mem _
def slotB (c : Dev nD) (b : B) : sProp 𝕄 :=
  (w.far b (w.peer b c)).dst.view.loc (c.tc : Thread nD τ) ↦[(w.far b (w.peer b c)).dst.view.set]{fullShare} w.mem _
def landA (c : Dev nD) (a : A) : sProp 𝕄 :=
  (w.near a c).dst.view.loc (c.tc : Thread nD τ) ↦[(w.near a c).dst.view.set]{fullShare}
    (w.near a c).dst.view.write Val (w.mem ((w.near a c).dst.view.loc (c.tc : Thread nD τ))) ((w.near a c).src.view.read Val (w.heldA c a)) Finset.univ
def landB (q : PosShare TreeShare) (c : Dev nD) (b : B) : sProp 𝕄 :=
  (w.far b (w.peer b c)).dst.view.loc (c.tc : Thread nD τ) ↦[(w.far b (w.peer b c)).dst.view.set]{q}
    (w.far b (w.peer b c)).dst.view.write Val (w.mem ((w.far b (w.peer b c)).dst.view.loc (c.tc : Thread nD τ))) ((w.far b (w.peer b c)).src.view.read Val (w.heldB (w.peer b c) b)) Finset.univ

def own (c : Dev nD) : Key A B → sProp 𝕄
  | .here a => w.ownA c a | .out b => w.ownB c b | .inn b => iprop(emp)
def slot (c : Dev nD) : Key A B → sProp 𝕄
  | .here a => w.slotA c a | .out b => iprop(emp) | .inn b => w.slotB c b
def pay (c : Dev nD) : Key A B → sProp 𝕄
  | .here a => w.landA c a | .out b => iprop(emp) | .inn b => w.landB fullShare c b
def keep (c : Dev nD) : Key A B → sProp 𝕄
  | .here a => w.landA c a | .out b => iprop(emp) | .inn b => w.landB (w.left b) c b

def afterK : Key A B → Option (Key A B)
  | .out b => (w.after b).map .inn
  | _ => none

def farK : Key A B → Bool
  | .inn _ => true
  | _ => false

def peerK : Key A B → Dev nD → Dev nD
  | .inn b => w.peer b
  | _ => id

/-- The plan of the copies. -/
def plan : Plan nD τ sig Val (Key A B) where
  sem := w.sem
  sem_inj := w.sem_inj
  peer := w.peerK
  peer_peer k c := match k with | .here _ => rfl | .out _ => rfl | .inn b => w.peer_peer b c
  far := farK
  near k h c := match k, h with | .here _, _ => rfl | .out _, _ => rfl
  amt | .here a => w.amtA a | .out b => w.amtB b | .inn b => w.amtB b
  amt_pos k := by cases k <;> first | exact w.amtA_pos _ | exact w.amtB_pos _
  lvl := w.lvl
  after := w.afterK
  own := w.own
  slot := w.slot
  pay := w.pay
  keep := w.keep
  storable c k := by cases k <;> (unfold pay; first | infer_instance | (unfold landA; infer_instance) | (unfold landB; infer_instance))
  settle c k := by
    cases k with
    | here a =>
      have he : (Finset.univ.filter fun j => w.afterK j = some (.here a)) = ∅ :=
        Finset.filter_false_of_mem fun j _ => by cases j <;> simp [afterK]
      rw [he, BI.bigSep_empty]
      show w.landA c a ⊢ iprop(w.landA c a ∗ BI.emp)
      iintro H
      isplitl [H]; · iexact H
      iempintro
    | out b =>
      have he : (Finset.univ.filter fun j => w.afterK j = some (.out b)) = ∅ :=
        Finset.filter_false_of_mem fun j _ => by cases j <;> simp [afterK]
      rw [he, BI.bigSep_empty]
      show (BI.emp : sProp 𝕄) ⊢ iprop((BI.emp : sProp 𝕄) ∗ BI.emp)
      iintro H
      isplitl [H]; · iexact H
      iempintro
    | inn b =>
      have hs := w.settle c b
      rw [Key.split]
      simp only [afterK, Option.map_eq_some_iff, Key.inn.injEq, exists_eq_right, reduceCtorEq, Finset.filter_false, BI.bigSep_empty]
      show w.landB fullShare c b ⊢ iprop(w.landB (w.left b) c b ∗ _)
      unfold landB
      iintro H
      ihave H := hs $$ H
      icases H with ⟨Hk, Ho⟩
      isplitl [Hk]; · iexact Hk
      isplitr; · iempintro
      isplitl [Ho]; · iexact Ho
      iempintro

variable {Λ₀ : Idealize.SL.Sem.Labels} {defs₀ : Defs nD τ sig Val Λ₀} (𝒱 : Variants)
variable [∀ e, Nonempty (Val e)]
variable {w} {κ : Dev nD × Key A B → ℕ} {c : Dev nD} {S R : List (Key A B)}

theorem wp_copy (a : A) {sem : DmaSem sig}
    {hsrc : (w.near a c).src.view.WordExact} {hdst : (w.near a c).dst.view.WordExact}
    {hsem : DmaTarget.Typed (w.near a c).sp (.dma sem) (.here (w.near a c).dst : DmaTarget nD τ sig (c.tc : Thread nD τ).2 (w.near a c).sp' (w.near a c).s (w.near a c).e)}
    {α : Type} {Q : α → sProp 𝕄} {cont : PUnit → Prog (TpuEff nD τ sig Val Λ₀ .tc) α}
    (hs : sem = w.sem (.here a)) (hamt : (w.near a c).dst.view.dmaCredit = w.amtA a)
    (hS : Key.here a ∉ S) (hR : Key.here a ∉ R)
    (h : w.plan.st c κ (.here a :: S) R ⊢ wp frame (wpE defs₀ 𝒱 (c.tc : Thread nD τ) none) Set.univ (cont ⟨⟩) Q) :
    w.plan.st c κ S R ⊢ wp frame (wpE defs₀ 𝒱 (c.tc : Thread nD τ) none) Set.univ
      (.op (.enqueueDma (w.near a c).src (.here (w.near a c).dst) (.dma sem) hsrc hdst hsem) cont) Q :=
  w.plan.wp_copy 𝒱 (.here a) hs rfl hS hR (fun j hj => nomatch hj) (w.shareA a) (w.heldA c a) (w.mem _) hamt
    (BI.Entails.refl _) (BI.Entails.refl _) (by
      show _ ⊢ w.landA c a
      unfold landA
      iintro ⟨H, -⟩; iexact H) h

theorem wp_send (b : B) {n : Dev nD} {sem semS : DmaSem sig} {hsc : (w.far b c).dst.view.ref.isScScratch = false}
    {hsrc : (w.far b c).src.view.WordExact} {hdst : (w.far b c).dst.view.WordExact}
    {hsem : DmaTarget.Typed (w.far b c).sp (.dma sem)
      (.remote (n.tc : Thread nD τ) (w.far b c).dst (.dma semS) hsc : DmaTarget nD τ sig (c.tc : Thread nD τ).2 (w.far b c).sp' (w.far b c).s (w.far b c).e)}
    {α : Type} {Q : α → sProp 𝕄} {cont : PUnit → Prog (TpuEff nD τ sig Val Λ₀ .tc) α}
    (hn : n = w.peer b c) (hs : semS = w.sem (.out b)) (hr : sem = w.sem (.inn b)) (hamt : (w.far b c).dst.view.dmaCredit = w.amtB b)
    (hSs : Key.out b ∉ S) (hSr : Key.inn b ∉ S) (hR : Key.out b ∉ R) (hA : ∀ j ∈ w.after b, Key.inn j ∈ R)
    (h : w.plan.st c κ (.inn b :: .out b :: S) R ⊢ wp frame (wpE defs₀ 𝒱 (c.tc : Thread nD τ) none) Set.univ (cont ⟨⟩) Q) :
    w.plan.st c κ S R ⊢ wp frame (wpE defs₀ 𝒱 (c.tc : Thread nD τ) none) Set.univ
      (.op (.enqueueDma (w.far b c).src (.remote (n.tc : Thread nD τ) (w.far b c).dst (.dma semS) hsc) (.dma sem) hsrc hdst hsem) cont) Q := by
  subst hn
  refine w.plan.wp_send 𝒱 (.out b) (.inn b) rfl hs hr rfl rfl hSs hSr hR (fun j hj => ?_) (w.shareB b) (w.heldB c b) (w.mem _) hamt hamt
    (BI.Entails.refl _) ?_ (by show _ ⊢ (BI.emp : sProp 𝕄); iintro -; iempintro) ?_ h
  · obtain ⟨i, hi, rfl⟩ := Option.map_eq_some_iff.mp (show (w.after b).map Key.inn = some j from hj)
    exact hA i hi
  · show w.slotB (w.peer b c) b ⊢ _
    unfold slotB
    rw [w.peer_peer]
  · show _ ⊢ w.landB fullShare (w.peer b c) b
    unfold landB
    rw [w.peer_peer]

theorem wp_waitA (a : A) {sp sp' : Space} {s s' : Shape} {e e' : EltTy} {sem : DmaSem sig}
    {src : Memref sig (c.tc : Thread nD τ).2.kind sp' s' e'} {κ' : Kind} {dst : Memref sig κ' sp s e}
    {hsrc : src.view.WordExact} {hdst : dst.view.WordExact}
    {α : Type} {Q : α → sProp 𝕄} {cont : PUnit → Prog (TpuEff nD τ sig Val Λ₀ .tc) α}
    (hs : sem = w.sem (.here a)) (hamt : dst.view.dmaCredit = w.amtA a) (hS : Key.here a ∈ S) (hR : Key.here a ∉ R)
    (hlev : ∀ b, Key.inn b ∉ S → w.lvl (.here a) < w.lvl (.inn b))
    (h : w.plan.st c κ S (.here a :: R) ⊢ wp frame (wpE defs₀ 𝒱 (c.tc : Thread nD τ) none) Set.univ (cont ⟨⟩) Q) :
    w.plan.st c κ S R ⊢ wp frame (wpE defs₀ 𝒱 (c.tc : Thread nD τ) none) Set.univ
      (.op (.waitDma2 sem src dst hsrc hdst) cont) Q :=
  w.plan.wp_wait 𝒱 (.here a) hs (.inr hS) hR (fun j hj hjS => by
    cases j with
    | inn b => exact hlev b hjS
    | _ => exact absurd hj (by simp [plan, farK])) (fun j hj => by
      cases j <;> simp [plan, afterK] at hj) hamt h

theorem wp_waitS (b : B) {sp sp' : Space} {s s' : Shape} {e e' : EltTy} {sem : DmaSem sig}
    {src : Memref sig (c.tc : Thread nD τ).2.kind sp' s' e'} {κ' : Kind} {dst : Memref sig κ' sp s e}
    {hsrc : src.view.WordExact} {hdst : dst.view.WordExact}
    {α : Type} {Q : α → sProp 𝕄} {cont : PUnit → Prog (TpuEff nD τ sig Val Λ₀ .tc) α}
    (hs : sem = w.sem (.out b)) (hamt : dst.view.dmaCredit = w.amtB b) (hS : Key.out b ∈ S) (hR : Key.out b ∉ R)
    (hlev : ∀ b', Key.inn b' ∉ S → w.lvl (.out b) < w.lvl (.inn b'))
    (h : w.plan.st c κ S (.out b :: R) ⊢ wp frame (wpE defs₀ 𝒱 (c.tc : Thread nD τ) none) Set.univ (cont ⟨⟩) Q) :
    w.plan.st c κ S R ⊢ wp frame (wpE defs₀ 𝒱 (c.tc : Thread nD τ) none) Set.univ
      (.op (.waitDma2 sem src dst hsrc hdst) cont) Q :=
  w.plan.wp_wait 𝒱 (.out b) hs (.inr hS) hR (fun j hj hjS => by
    cases j with
    | inn b => exact hlev b hjS
    | _ => exact absurd hj (by simp [plan, farK])) (fun j hj => by
      cases j <;> simp [plan, afterK] at hj) hamt h

theorem wp_waitR (b : B) {sp sp' : Space} {s s' : Shape} {e e' : EltTy} {sem : DmaSem sig}
    {src : Memref sig (c.tc : Thread nD τ).2.kind sp' s' e'} {κ' : Kind} {dst : Memref sig κ' sp s e}
    {hsrc : src.view.WordExact} {hdst : dst.view.WordExact}
    {α : Type} {Q : α → sProp 𝕄} {cont : PUnit → Prog (TpuEff nD τ sig Val Λ₀ .tc) α}
    (hs : sem = w.sem (.inn b)) (hamt : dst.view.dmaCredit = w.amtB b) (hR : Key.inn b ∉ R)
    (hlev : ∀ b', Key.inn b' ∉ S → w.lvl (.inn b) < w.lvl (.inn b'))
    (hA : ∀ j, w.after j = some b → Key.out j ∉ S)
    (h : w.plan.st c κ S (.inn b :: R) ⊢ wp frame (wpE defs₀ 𝒱 (c.tc : Thread nD τ) none) Set.univ (cont ⟨⟩) Q) :
    w.plan.st c κ S R ⊢ wp frame (wpE defs₀ 𝒱 (c.tc : Thread nD τ) none) Set.univ
      (.op (.waitDma2 sem src dst hsrc hdst) cont) Q :=
  w.plan.wp_wait 𝒱 (.inn b) hs (.inl rfl) hR (fun j hj hjS => by
    cases j with
    | inn b => exact hlev b hjS
    | _ => exact absurd hj (by simp [plan, farK])) (fun j hj => by
      cases j with
      | out j => exact hA j (by simpa [plan, afterK] using hj)
      | _ => simp [plan, afterK] at hj) hamt h

/-! ## Dealing, and the final memory -/

variable (w)

theorem deal_of (c : Dev nD) (P aside : sProp 𝕄)
    (h : P ⊢ iprop((bigSep Finset.univ (w.ownA c) ∗ bigSep (Finset.univ.filter fun b => w.after b = none) (w.ownB c))
      ∗ (bigSep Finset.univ (w.slotA c) ∗ bigSep Finset.univ (w.slotB c)) ∗ aside)) :
    P ⊢ iprop(bigSep (w.plan.ready [] []) (w.plan.own c) ∗ bigSep Finset.univ (w.plan.slot c) ∗ aside) := by
  refine h.trans ?_
  have hready : w.plan.ready [] [] = Finset.univ.filter fun k => w.afterK k = none := by
    ext k
    simp only [Plan.ready, Finset.mem_filter, Finset.mem_univ, true_and, List.not_mem_nil, not_false_eq_true]
    exact ⟨fun h => Option.eq_none_iff_forall_not_mem.mpr fun j hj => h j hj, fun h j hj => by
      rw [show w.plan.after k = none from h] at hj; cases hj⟩
  rw [hready, Key.split, Key.split_univ]
  simp only [afterK, Option.map_eq_none_iff, Finset.filter_true]
  iintro ⟨⟨Ha, Hb⟩, ⟨Hc, Hd⟩, Hz⟩
  isplitl [Ha Hb]
  · isplitl [Ha]; · iexact Ha
    isplitl [Hb]; · iexact Hb
    have he : (iprop(emp) : sProp 𝕄) ⊢ bigSep Finset.univ fun b : B => w.plan.own c (.inn b) := by
      rw [show (fun b : B => w.plan.own c (.inn b)) = fun _ => (BI.emp : sProp 𝕄) from rfl, BI.bigSep_emp_const]; exact BI.Entails.refl _
    iapply he; iempintro
  isplitl [Hc Hd]
  · isplitl [Hc]; · iexact Hc
    isplitr
    · have he : (iprop(emp) : sProp 𝕄) ⊢ bigSep Finset.univ fun b : B => w.plan.slot c (.out b) := by
        rw [show (fun b : B => w.plan.slot c (.out b)) = fun _ => (BI.emp : sProp 𝕄) from rfl, BI.bigSep_emp_const]; exact BI.Entails.refl _
      iapply he; iempintro
    iexact Hd
  iexact Hz

/-- The same, array by array: each array has one copy inside the device and one to the partner per `t`. -/
theorem deal_rows {T : Type} [Fintype T] [DecidableEq T] (w : Lines nD τ sig Val A (A × T)) (c : Dev nD) (h₀ : ∀ b, w.after b = none) (P aside : A → sProp 𝕄)
    (h : ∀ i, P i ⊢ iprop((w.ownA c i ∗ bigSep Finset.univ fun t => w.ownB c (i, t)) ∗ (w.slotA c i ∗ bigSep Finset.univ fun t => w.slotB c (i, t)) ∗ aside i)) :
    bigSep Finset.univ P ⊢ iprop((bigSep Finset.univ (w.ownA c) ∗ bigSep (Finset.univ.filter fun b => w.after b = none) (w.ownB c))
      ∗ (bigSep Finset.univ (w.slotA c) ∗ bigSep Finset.univ (w.slotB c)) ∗ bigSep Finset.univ aside) := by
  refine (bigSep_mono fun i _ => h i).trans ?_
  rw [Finset.filter_true_of_mem fun b _ => h₀ b, bigSep_univ_prod, bigSep_univ_prod, bigSep_sep', bigSep_sep', bigSep_sep', bigSep_sep']
  exact BI.Entails.refl _

/-- What a held view says about the memory. -/
theorem read_held {sp : Space} {s : Shape} {e : EltTy} (v : View sig .tc sp s e) (q : PosShare TreeShare)
    (f : Buf Val (v.loc (c.tc : Thread nD τ))) (s' : Phys nD τ sig Val) :
    iprop((v.loc (c.tc : Thread nD τ) ↦[v.set]{q} f) ∗ SI s') ⊢ (⌜v.read Val (s'.mem.mem (v.loc (c.tc : Thread nD τ))) = v.read Val f⌝ : sProp 𝕄) := by
  iintro ⟨H, HSI⟩
  icombine HSI H gives %h
  ipureintro
  exact View.read_congr h

/-- The facts about the final memory of device `c`. -/
def Landed (c : Dev nD) (μ : MemSt nD τ sig Val) : Prop :=
  (∀ a, (w.near a c).dst.view.read Val (μ.mem ((w.near a c).dst.view.loc (c.tc : Thread nD τ))) = (w.near a c).src.view.read Val (w.heldA c a))
  ∧ ∀ b, (w.far b (w.peer b c)).dst.view.read Val (μ.mem ((w.far b (w.peer b c)).dst.view.loc (c.tc : Thread nD τ)))
      = (w.far b (w.peer b c)).src.view.read Val (w.heldB (w.peer b c) b)

theorem landed (c : Dev nD) (s' : Phys nD τ sig Val) :
    iprop(bigSep Finset.univ (w.plan.keep c) ∗ SI s') ⊢ (⌜w.Landed c s'.mem⌝ : sProp 𝕄) := by
  have hA (a : A) : iprop(bigSep Finset.univ (w.plan.keep c) ∗ SI s')
      ⊢ (⌜(w.near a c).dst.view.read Val (s'.mem.mem ((w.near a c).dst.view.loc (c.tc : Thread nD τ))) = (w.near a c).src.view.read Val (w.heldA c a)⌝ : sProp 𝕄) := by
    have hk : bigSep Finset.univ (w.plan.keep c) ⊢ w.landA c a := bigSep_elim (Finset.mem_univ (Key.here a))
    unfold landA at hk
    have hr := read_held (c := c) (w.near a c).dst.view fullShare
      ((w.near a c).dst.view.write Val (w.mem ((w.near a c).dst.view.loc (c.tc : Thread nD τ))) ((w.near a c).src.view.read Val (w.heldA c a)) Finset.univ) s'
    rw [View.read_write_univ] at hr
    iintro ⟨H, HSI⟩
    iapply hr
    isplitl [H]; · iapply hk; iexact H
    iexact HSI
  have hB (b : B) : iprop(bigSep Finset.univ (w.plan.keep c) ∗ SI s')
      ⊢ (⌜(w.far b (w.peer b c)).dst.view.read Val (s'.mem.mem ((w.far b (w.peer b c)).dst.view.loc (c.tc : Thread nD τ)))
        = (w.far b (w.peer b c)).src.view.read Val (w.heldB (w.peer b c) b)⌝ : sProp 𝕄) := by
    have hk : bigSep Finset.univ (w.plan.keep c) ⊢ w.landB (w.left b) c b := bigSep_elim (Finset.mem_univ (Key.inn b))
    unfold landB at hk
    have hr := read_held (c := c) (w.far b (w.peer b c)).dst.view (w.left b)
      ((w.far b (w.peer b c)).dst.view.write Val (w.mem ((w.far b (w.peer b c)).dst.view.loc (c.tc : Thread nD τ))) ((w.far b (w.peer b c)).src.view.read Val (w.heldB (w.peer b c) b)) Finset.univ) s'
    rw [View.read_write_univ] at hr
    iintro ⟨H, HSI⟩
    iapply hr
    isplitl [H]; · iapply hk; iexact H
    iexact HSI
  have hAll : iprop(bigSep Finset.univ (w.plan.keep c) ∗ SI s') ⊢ (⌜∀ x : A ⊕ B, Sum.elim
      (fun a => (w.near a c).dst.view.read Val (s'.mem.mem ((w.near a c).dst.view.loc (c.tc : Thread nD τ))) = (w.near a c).src.view.read Val (w.heldA c a))
      (fun b => (w.far b (w.peer b c)).dst.view.read Val (s'.mem.mem ((w.far b (w.peer b c)).dst.view.loc (c.tc : Thread nD τ)))
        = (w.far b (w.peer b c)).src.view.read Val (w.heldB (w.peer b c) b)) x⌝ : sProp 𝕄) :=
    (Laws.forall_intro fun x => by cases x; exacts [hA _, hB _]).trans Laws.pure_forall.2
  exact hAll.trans (Laws.pure_mono fun h => ⟨fun a => h (.inl a), fun b => h (.inr b)⟩)

end Lines

/-- Disjoint pieces of one buffer. -/
theorem carve {ℓ : Loc nD τ sig} {q : PosShare TreeShare} {f : Buf Val ℓ} {T : Type} (S : Finset T) (I : T → Finset (Idx ℓ))
    (h : ∀ t ∈ S, ∀ t' ∈ S, t ≠ t' → Disjoint (I t) (I t')) :
    (ℓ ↦{q} f : sProp 𝕄) ⊢ bigSep S fun t => ℓ ↦[I t]{q} f := by
  rw [← pointsTo_biUnion S I h]
  have hs := (pointsTo_split_subset (Val := Val) (Ix := Unit) (Name := ℕ) (U := UU nD τ sig) (Lvl := ℕ) (q := q) (f := f) (Finset.subset_univ (S.biUnion I))).1
  iintro H
  ihave H := hs $$ H
  icases H with ⟨H, -⟩
  iexact H

/-- Two disjoint pieces of one buffer. -/
theorem halves {ℓ : Loc nD τ sig} {q : PosShare TreeShare} {f : Buf Val ℓ} (I J : Finset (Idx ℓ)) (h : Disjoint I J) :
    (ℓ ↦{q} f : sProp 𝕄) ⊢ iprop((ℓ ↦[I]{q} f) ∗ (ℓ ↦[J]{q} f)) := by
  have hs := (pointsTo_split_subset (Val := Val) (Ix := Unit) (Name := ℕ) (U := UU nD τ sig) (Lvl := ℕ) (q := q) (f := f) (Finset.subset_univ I)).1
  have ht := (pointsTo_split_subset (Val := Val) (Ix := Unit) (Name := ℕ) (U := UU nD τ sig) (Lvl := ℕ) (q := q) (f := f)
    (show J ⊆ Finset.univ \ I from fun x hx => Finset.mem_sdiff.mpr ⟨Finset.mem_univ x, fun hi => Finset.disjoint_left.mp h hi hx⟩)).1
  iintro H
  ihave H := hs $$ H
  icases H with ⟨H, H'⟩
  ihave H' := ht $$ H'
  icases H' with ⟨H', -⟩
  isplitl [H]; · iexact H
  iexact H'

/-- A first piece of a buffer and more pieces, all disjoint. -/
theorem pieces {ℓ : Loc nD τ sig} {q : PosShare TreeShare} {f : Buf Val ℓ} {T : Type} [Fintype T] [DecidableEq T] (I : Finset (Idx ℓ)) (J : T → Finset (Idx ℓ))
    (h : ∀ t, Disjoint I (J t)) (h' : ∀ t t', t ≠ t' → Disjoint (J t) (J t')) :
    (ℓ ↦{q} f : sProp 𝕄) ⊢ iprop((ℓ ↦[I]{q} f) ∗ bigSep Finset.univ fun t => ℓ ↦[J t]{q} f) := by
  rw [← pointsTo_biUnion Finset.univ J fun t _ t' _ => h' t t']
  exact halves I _ ((Finset.disjoint_biUnion_right _ _ _).mpr fun t _ => h t)

/-- The two halves of a share. -/
theorem share2 {ℓ : Loc nD τ sig} (I : Finset (Idx ℓ)) (q : PosShare TreeShare) {f : Buf Val ℓ} :
    (ℓ ↦[I]{q} f : sProp 𝕄) ⊢ iprop((ℓ ↦[I]{q.left} f) ∗ (ℓ ↦[I]{q.right} f)) :=
  (pointsTo_share (PosShare.mem_left_op_right q)).1

/-- A part of a buffer. -/
theorem within {ℓ : Loc nD τ sig} {q : PosShare TreeShare} {f : Buf Val ℓ} (I : Finset (Idx ℓ)) : (ℓ ↦{q} f : sProp 𝕄) ⊢ (ℓ ↦[I]{q} f) := by
  have hs := (pointsTo_split_subset (Val := Val) (Ix := Unit) (Name := ℕ) (U := UU nD τ sig) (Lvl := ℕ) (q := q) (f := f) (Finset.subset_univ I)).1
  iintro H
  ihave H := hs $$ H
  icases H with ⟨H, -⟩
  iexact H

/-- An arrival is kept in part, and in part passed on from where it arrived. -/
theorem pass {n : ℕ} {P : (Fin n → ℕ) → Prop} {sp : Space} {s : Shape} {e : EltTy} (M : (o : Fin n → ℕ) → P o → Memref sig .tc sp s e) {o o' : Fin n → ℕ} (eq : o = o')
    (h : P o) (h' : P o') (c : Dev nD) (m : (ℓ : Loc nD τ sig) → Buf Val ℓ) (X : s.Idx → Val e) :
    ((M o h).view.loc (c.tc : Thread nD τ) ↦[(M o h).view.set]{fullShare} (M o h).view.write Val (m ((M o h).view.loc (c.tc : Thread nD τ))) X Finset.univ : sProp 𝕄)
      ⊢ iprop(((M o h).view.loc (c.tc : Thread nD τ) ↦[(M o h).view.set]{fullShare.left} (M o h).view.write Val (m ((M o h).view.loc (c.tc : Thread nD τ))) X Finset.univ)
        ∗ ((M o' h').view.loc (c.tc : Thread nD τ) ↦[(M o' h').view.set]{fullShare.right} (M o' h').view.write Val (m ((M o' h').view.loc (c.tc : Thread nD τ))) X Finset.univ)) := by
  subst eq
  exact share2 _ _

/-- An arrival nothing passes on stays. -/
theorem stays {B : Type} [Fintype B] [DecidableEq B] (after : B → Option B) (b : B) (h : ∀ j, after j ≠ some b) (P : sProp 𝕄) (Φ : B → sProp 𝕄) :
    P ⊢ iprop(P ∗ bigSep (Finset.univ.filter fun j => after j = some b) Φ) := by
  rw [Finset.filter_false_of_mem fun j _ => h j, BI.bigSep_empty]
  iintro H
  isplitl [H]; · iexact H
  iempintro

/-- Separate pieces of a whole buffer. -/
theorem apart {b : Ref sig .tc} {r r' : Rect b.ty.shape} {h : _} {h' : _} (hd : Disjoint r.set r'.set) :
    Disjoint ((Memref.whole b).slice r h).view.set ((Memref.whole b).slice r' h').view.set := by
  have e (r : Rect b.ty.shape) (h) : ((Memref.whole b).slice r h).view.set = r.set := View.set_slice_whole b r
  rw [e, e]; exact hd

theorem apart_squeezed {b : Ref sig .tc} {r r' : Rect b.ty.shape} {h : _} {h' : _} {s s' : Shape} (hs : r.shape.Squeezes s) (hs' : r'.shape.Squeezes s')
    (hd : Disjoint r.set r'.set) :
    Disjoint (((Memref.whole b).slice r h).squeeze s hs).view.set (((Memref.whole b).slice r' h').squeeze s' hs').view.set := by
  have e (r : Rect b.ty.shape) (h) (s : Shape) (hs : r.shape.Squeezes s) : (((Memref.whole b).slice r h).squeeze s hs).view.set = r.set :=
    (View.set_reshape _ _).trans (View.set_slice_whole b r)
  rw [e, e]; exact hd

/-- Whole buffers set aside still hold what they held. -/
theorem kept {I : Type} [Fintype I] [DecidableEq I] (ℓ : I → Loc nD τ sig) (q : I → PosShare TreeShare) (f : (i : I) → Buf Val (ℓ i)) (s' : Phys nD τ sig Val) :
    iprop(bigSep Finset.univ (fun i => (ℓ i ↦{q i} f i : sProp 𝕄)) ∗ SI s') ⊢ (⌜∀ i, s'.mem.mem (ℓ i) = f i⌝ : sProp 𝕄) := by
  refine (Laws.forall_intro fun i => ?_).trans Laws.pure_forall.2
  have hk : bigSep Finset.univ (fun i => (ℓ i ↦{q i} f i : sProp 𝕄)) ⊢ (ℓ i ↦{q i} f i) := bigSep_elim (Finset.mem_univ i)
  iintro ⟨H, HSI⟩
  ihave H := hk $$ H
  icombine HSI H gives %h
  ipureintro
  exact funext fun x => h x (Finset.mem_univ x)

theorem Lines.facts [∀ e, Nonempty (Val e)] {A B : Type} [Fintype A] [Fintype B] [DecidableEq A] [DecidableEq B] (w : Lines nD τ sig Val A B) (c : Dev nD)
    {asd : sProp 𝕄} {Q : MemSt nD τ sig Val → Prop} (h : ∀ s' : Phys nD τ sig Val, iprop(asd ∗ SI s') ⊢ (⌜Q s'.mem⌝ : sProp 𝕄)) (s' : Phys nD τ sig Val) :
    iprop((bigSep Finset.univ (w.plan.keep c) ∗ asd) ∗ SI s') ⊢ iprop(⌜w.Landed c s'.mem ∧ Q s'.mem⌝ ∗ SI s') := by
  refine Laws.pure_elim (w.Landed c s'.mem) ?_ fun hl => Laws.pure_elim (Q s'.mem) ?_ fun hq => ?_
  · iintro ⟨⟨H, -⟩, HSI⟩
    iapply w.landed c s'
    isplitl [H]; · iexact H
    iexact HSI
  · iintro ⟨⟨-, H⟩, HSI⟩
    iapply h s'
    isplitl [H]; · iexact H
    iexact HSI
  · iintro ⟨-, HSI⟩
    isplitr; · ipureintro; exact ⟨hl, hq⟩
    iexact HSI

end Cert.Wires

end
-- ==== Proof.Mesh.lean ====
/-
# The devices

Device `4x + 2y + c` is core `c` of chip `(x, y)`.
-/
module

public import Mathlib.Data.Fin.Basic
public import Mathlib.Tactic.DeriveFintype

@[expose] public section

namespace Cert.Mesh

/-- The device that shares this one's chip. -/
def sib (c : Fin 8) : Fin 8 := ⟨4 * (c.val / 4) + 2 * ((c.val / 2) % 2) + 1 - c.val % 2, by have := c.isLt; omega⟩

theorem sib_sib (c : Fin 8) : sib (sib c) = c := by revert c; decide

theorem sib_odd (c : Fin 8) : c.val % 2 = 0 ∧ (sib c).val % 2 = 1 ∨ c.val % 2 = 1 ∧ (sib c).val % 2 = 0 := by revert c; decide

/-- The halves of `n` rows that belong to the two cores of a chip do not meet. -/
theorem apart_rows (n : ℕ) (c : Fin 8) :
    n * (c.val % 2) + n ≤ n * ((sib c).val % 2) ∨ n * ((sib c).val % 2) + n ≤ n * (c.val % 2) := by
  rcases sib_odd c with ⟨h, h'⟩ | ⟨h, h'⟩ <;> rw [h, h'] <;> omega

/-- The half that belongs to this core and the other half do not meet. -/
theorem apart_other (n k : ℕ) : n * (k % 2) + n ≤ n - n * (k % 2) ∨ n - n * (k % 2) + n ≤ n * (k % 2) := by
  rcases Nat.mod_two_eq_zero_or_one k with h | h <;> rw [h] <;> omega

/-- The device of the same core on another chip: across `x`, across `y`, or across both. -/
def other (r : Fin 3) (c : Fin 8) : Fin 8 :=
  ⟨4 * ((c.val / 4 + (if r.val = 1 then 0 else 1)) % 2) + 2 * ((c.val / 2 + (if r.val = 0 then 0 else 1)) % 2) + c.val % 2, by have := c.isLt; omega⟩

theorem other_other (r : Fin 3) (c : Fin 8) : other r (other r c) = c := by revert r c; decide

/-- The chip of a device. -/
def chip (c : Fin 8) : Fin 4 := ⟨c.val / 2, by have := c.isLt; omega⟩

end Cert.Mesh
-- ==== Proof.ExchangeRun.lean ====
/-
# The exchange of the halves of a chip's gradients

Each core keeps one half of the rows of each of its four arrays and sends the other half to its sibling. The plan has one
copy inside the device and one to the sibling per array; nothing is awaited before all eight are issued.
-/
module

public import proofs.«01_k».proof.Proof.Lines
public import proofs.«01_k».proof.Proof.Mesh
public import proofs.«01_k».proof.Proof.Gen.ExchangeIdeal.Skeleton
public import proofs.«01_k».proof.Proof.Gen.ExchangeIdeal.Launch

@[expose] public section

noncomputable section

namespace Cert.ExchangeRun

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.ExchangeIdeal Cert.ExchangeIdeal.Gen Cert.Wires Cert.Mesh

variable {F : FTy → Type} [FloatOps F]

local notation "𝕄" => MT nD τ sig Unit (Elt F) ℕ (UU nD τ sig) ℕ

/-- The half of array `i` that device `c` keeps. -/
def near : Fin 4 → Dev nD → Wire sig
  | 0, c => ⟨.hbm, .hbm, S1024x8192, .bf16,
      (Memref.whole main_arg0).slice (Rect.unit (s := S2048x8192) (k0_off1 c) S1024x8192.size (k0_off1_inb c)) (fun _ => rfl), Memref.whole main_v1_0⟩
  | 1, c => ⟨.hbm, .hbm, S4x256x2048, .bf16,
      (Memref.whole main_arg1).slice (Rect.unit (s := S4x512x2048) (k0_off3 c) S4x256x2048.size (k0_off3_inb c)) (fun _ => rfl), Memref.whole main_v1_1⟩
  | 2, c => ⟨.hbm, .hbm, S1024x4608, .bf16,
      (Memref.whole main_arg2).slice (Rect.unit (s := S2048x4608) (k0_off5 c) S1024x4608.size (k0_off5_inb c)) (fun _ => rfl), Memref.whole main_v1_2⟩
  | 3, c => ⟨.hbm, .hbm, S4x256x2048, .bf16,
      (Memref.whole main_arg3).slice (Rect.unit (s := S4x512x2048) (k0_off3 c) S4x256x2048.size (k0_off3_inb c)) (fun _ => rfl), Memref.whole main_v1_3⟩

/-- The half of array `i` that device `c` sends. -/
def far : Fin 4 → Dev nD → Wire sig
  | 0, c => ⟨.hbm, .hbm, S1024x8192, .bf16,
      (Memref.whole main_arg0).slice (Rect.unit (s := S2048x8192) (k0_off2 c) S1024x8192.size (k0_off2_inb c)) (fun _ => rfl), Memref.whole main_v1_4⟩
  | 1, c => ⟨.hbm, .hbm, S4x256x2048, .bf16,
      (Memref.whole main_arg1).slice (Rect.unit (s := S4x512x2048) (k0_off4 c) S4x256x2048.size (k0_off4_inb c)) (fun _ => rfl), Memref.whole main_v1_5⟩
  | 2, c => ⟨.hbm, .hbm, S1024x4608, .bf16,
      (Memref.whole main_arg2).slice (Rect.unit (s := S2048x4608) (k0_off6 c) S1024x4608.size (k0_off6_inb c)) (fun _ => rfl), Memref.whole main_v1_6⟩
  | 3, c => ⟨.hbm, .hbm, S4x256x2048, .bf16,
      (Memref.whole main_arg3).slice (Rect.unit (s := S4x512x2048) (k0_off4 c) S4x256x2048.size (k0_off4_inb c)) (fun _ => rfl), Memref.whole main_v1_7⟩

def semOf : Key (Fin 4) (Fin 4) → DmaSem sig
  | .out i => ⟨i.val, by have := i.isLt; show i.val < 12; omega⟩
  | .inn i => ⟨4 + i.val, by have := i.isLt; show 4 + i.val < 12; omega⟩
  | .here i => ⟨8 + i.val, by have := i.isLt; show 8 + i.val < 12; omega⟩

variable (m : (ℓ : Loc nD τ sig) → Buf (Elt F) ℓ)

def lines : Lines nD τ sig (Elt F) (Fin 4) (Fin 4) where
  sem := semOf
  sem_inj := by decide
  lvl _ := 0
  near := near
  far := far
  peer _ := sib
  peer_peer _ := by decide
  amtA i := (near i 0).dst.view.dmaCredit
  amtB i := (far i 0).dst.view.dmaCredit
  amtA_pos i := View.dmaCredit_pos _ (by match i with | 0 | 1 | 2 | 3 => decide)
  amtB_pos i := View.dmaCredit_pos _ (by match i with | 0 | 1 | 2 | 3 => decide)
  after _ := none
  shareA _ := fullShare.right
  shareB _ := fullShare.right
  left _ := fullShare
  heldA c i := m _
  heldB c i := m _
  mem := m
  settle c b := stays (fun _ => none) b (fun _ h => nomatch h) _ _

/-- What is set aside of an argument while the copies read it. -/
def asideAt (c : Dev nD) (i : Fin 4) : sProp 𝕄 :=
  (near i c).src.view.loc (c.tc : Thread nD τ) ↦{fullShare.left} m _
def aside (c : Dev nD) : sProp 𝕄 := bigSep Finset.univ (asideAt m c)

/-- An argument lends its two halves to the copies, and each result is a place as a whole. -/
theorem dealt {ℓ ℓ' ℓ'' : Loc nD τ sig} {f : Buf (Elt F) ℓ} {g : Buf (Elt F) ℓ'} {h : Buf (Elt F) ℓ''} (I J : Finset (Idx ℓ)) (hd : Disjoint I J)
    (K : Finset (Idx ℓ')) (hK : K = Finset.univ) (K' : Finset (Idx ℓ'')) (hK' : K' = Finset.univ) :
    iprop((ℓ ↦{fullShare} f) ∗ (ℓ' ↦{fullShare} g) ∗ (ℓ'' ↦{fullShare} h) : sProp 𝕄)
      ⊢ iprop((ℓ ↦[I]{fullShare.right} f) ∗ (ℓ ↦[J]{fullShare.right} f) ∗ (ℓ' ↦[K]{fullShare} g) ∗ (ℓ'' ↦[K']{fullShare} h) ∗ (ℓ ↦{fullShare.left} f)) := by
  subst hK hK'
  iintro ⟨H, G, G'⟩
  ihave H := share2 (ℓ := ℓ) Finset.univ fullShare (f := f) $$ H
  icases H with ⟨Hl, Hr⟩
  ihave Hr := halves (ℓ := ℓ) I J hd (f := f) $$ Hr
  icases Hr with ⟨Ha, Hb⟩
  isplitl [Ha]; · iexact Ha
  isplitl [Hb]; · iexact Hb
  isplitl [G]; · iexact G
  isplitl [G']; · iexact G'
  iexact Hl

theorem array0 (c : Dev nD) :
    iprop((((c.tc : Thread nD τ).loc main_arg0) ↦{fullShare} m ((c.tc : Thread nD τ).loc main_arg0)) ∗ (((c.tc : Thread nD τ).loc main_v1_0) ↦{fullShare} m ((c.tc : Thread nD τ).loc main_v1_0))
        ∗ (((c.tc : Thread nD τ).loc main_v1_4) ↦{fullShare} m ((c.tc : Thread nD τ).loc main_v1_4)) : sProp 𝕄)
      ⊢ iprop((lines m).ownA c 0 ∗ (lines m).ownB c 0 ∗ (lines m).slotA c 0 ∗ (lines m).slotB c 0 ∗ asideAt m c 0) :=
  dealt (ℓ := (c.tc : Thread nD τ).loc main_arg0) (ℓ' := (c.tc : Thread nD τ).loc main_v1_0) (ℓ'' := (c.tc : Thread nD τ).loc main_v1_4)
    (f := m ((c.tc : Thread nD τ).loc main_arg0)) (g := m ((c.tc : Thread nD τ).loc main_v1_0)) (h := m ((c.tc : Thread nD τ).loc main_v1_4))
    (near 0 c).src.view.set (far 0 c).src.view.set
    (apart (h := fun _ => rfl) (h' := fun _ => rfl) (Rect.unit_disjoint (0 : Fin 2) (by rw [k0_off1_eq, k0_off2_eq]; exact apart_other 1024 c.val)))
    (near 0 c).dst.view.set (View.set_whole _) (far 0 (sib c)).dst.view.set (View.set_whole _)

theorem array1 (c : Dev nD) :
    iprop((((c.tc : Thread nD τ).loc main_arg1) ↦{fullShare} m ((c.tc : Thread nD τ).loc main_arg1)) ∗ (((c.tc : Thread nD τ).loc main_v1_1) ↦{fullShare} m ((c.tc : Thread nD τ).loc main_v1_1))
        ∗ (((c.tc : Thread nD τ).loc main_v1_5) ↦{fullShare} m ((c.tc : Thread nD τ).loc main_v1_5)) : sProp 𝕄)
      ⊢ iprop((lines m).ownA c 1 ∗ (lines m).ownB c 1 ∗ (lines m).slotA c 1 ∗ (lines m).slotB c 1 ∗ asideAt m c 1) :=
  dealt (ℓ := (c.tc : Thread nD τ).loc main_arg1) (ℓ' := (c.tc : Thread nD τ).loc main_v1_1) (ℓ'' := (c.tc : Thread nD τ).loc main_v1_5)
    (f := m ((c.tc : Thread nD τ).loc main_arg1)) (g := m ((c.tc : Thread nD τ).loc main_v1_1)) (h := m ((c.tc : Thread nD τ).loc main_v1_5))
    (near 1 c).src.view.set (far 1 c).src.view.set
    (apart (h := fun _ => rfl) (h' := fun _ => rfl) (Rect.unit_disjoint (1 : Fin 3) (by rw [k0_off3_eq, k0_off4_eq]; exact apart_other 256 c.val)))
    (near 1 c).dst.view.set (View.set_whole _) (far 1 (sib c)).dst.view.set (View.set_whole _)

theorem array2 (c : Dev nD) :
    iprop((((c.tc : Thread nD τ).loc main_arg2) ↦{fullShare} m ((c.tc : Thread nD τ).loc main_arg2)) ∗ (((c.tc : Thread nD τ).loc main_v1_2) ↦{fullShare} m ((c.tc : Thread nD τ).loc main_v1_2))
        ∗ (((c.tc : Thread nD τ).loc main_v1_6) ↦{fullShare} m ((c.tc : Thread nD τ).loc main_v1_6)) : sProp 𝕄)
      ⊢ iprop((lines m).ownA c 2 ∗ (lines m).ownB c 2 ∗ (lines m).slotA c 2 ∗ (lines m).slotB c 2 ∗ asideAt m c 2) :=
  dealt (ℓ := (c.tc : Thread nD τ).loc main_arg2) (ℓ' := (c.tc : Thread nD τ).loc main_v1_2) (ℓ'' := (c.tc : Thread nD τ).loc main_v1_6)
    (f := m ((c.tc : Thread nD τ).loc main_arg2)) (g := m ((c.tc : Thread nD τ).loc main_v1_2)) (h := m ((c.tc : Thread nD τ).loc main_v1_6))
    (near 2 c).src.view.set (far 2 c).src.view.set
    (apart (h := fun _ => rfl) (h' := fun _ => rfl) (Rect.unit_disjoint (0 : Fin 2) (by rw [k0_off5_eq, k0_off6_eq]; exact apart_other 1024 c.val)))
    (near 2 c).dst.view.set (View.set_whole _) (far 2 (sib c)).dst.view.set (View.set_whole _)

theorem array3 (c : Dev nD) :
    iprop((((c.tc : Thread nD τ).loc main_arg3) ↦{fullShare} m ((c.tc : Thread nD τ).loc main_arg3)) ∗ (((c.tc : Thread nD τ).loc main_v1_3) ↦{fullShare} m ((c.tc : Thread nD τ).loc main_v1_3))
        ∗ (((c.tc : Thread nD τ).loc main_v1_7) ↦{fullShare} m ((c.tc : Thread nD τ).loc main_v1_7)) : sProp 𝕄)
      ⊢ iprop((lines m).ownA c 3 ∗ (lines m).ownB c 3 ∗ (lines m).slotA c 3 ∗ (lines m).slotB c 3 ∗ asideAt m c 3) :=
  dealt (ℓ := (c.tc : Thread nD τ).loc main_arg3) (ℓ' := (c.tc : Thread nD τ).loc main_v1_3) (ℓ'' := (c.tc : Thread nD τ).loc main_v1_7)
    (f := m ((c.tc : Thread nD τ).loc main_arg3)) (g := m ((c.tc : Thread nD τ).loc main_v1_3)) (h := m ((c.tc : Thread nD τ).loc main_v1_7))
    (near 3 c).src.view.set (far 3 c).src.view.set
    (apart (h := fun _ => rfl) (h' := fun _ => rfl) (Rect.unit_disjoint (1 : Fin 3) (by rw [k0_off3_eq, k0_off4_eq]; exact apart_other 256 c.val)))
    (near 3 c).dst.view.set (View.set_whole _) (far 3 (sib c)).dst.view.set (View.set_whole _)

theorem open4 (Φ : Fin 4 → sProp 𝕄) : bigSep Finset.univ Φ = iprop(Φ 0 ∗ Φ 1 ∗ Φ 2 ∗ Φ 3) := by
  rw [bigSep_univ_eq_bigSepL [0, 1, 2, 3] (by decide) (by decide) Φ]
  rfl

theorem deal (c : Dev nD) : Pipeline.unscopedRest (cfgs 0).spec c (fun b => m ((c.tc : Thread nD τ).loc b))
    ⊢ iprop(bigSep ((lines m).plan.ready [] []) ((lines m).plan.own c) ∗ bigSep Finset.univ ((lines m).plan.slot c) ∗ aside m c) := by
  refine (lines m).deal_of c _ _ ?_
  rw [show (Finset.univ.filter fun b => (lines m).after b = none) = (Finset.univ : Finset (Fin 4)) from Finset.filter_true_of_mem fun _ _ => rfl]
  rw [show Pipeline.unscopedRest (cfgs 0).spec c _ = _ from unscopedRest0_eq c _]
  unfold aside
  rw [open4, open4, open4, open4, open4]
  iintro ⟨H0, H1, H2, H3, G0, G1, G2, G3, K0, K1, K2, K3⟩
  ihave W0 := array0 m c $$ [H0 G0 K0]
  · isplitl [H0]; · iexact H0
    isplitl [G0]; · iexact G0
    iexact K0
  icases W0 with ⟨A0, B0, S0, T0, Z0⟩
  ihave W1 := array1 m c $$ [H1 G1 K1]
  · isplitl [H1]; · iexact H1
    isplitl [G1]; · iexact G1
    iexact K1
  icases W1 with ⟨A1, B1, S1, T1, Z1⟩
  ihave W2 := array2 m c $$ [H2 G2 K2]
  · isplitl [H2]; · iexact H2
    isplitl [G2]; · iexact G2
    iexact K2
  icases W2 with ⟨A2, B2, S2, T2, Z2⟩
  ihave W3 := array3 m c $$ [H3 G3 K3]
  · isplitl [H3]; · iexact H3
    isplitl [G3]; · iexact G3
    iexact K3
  icases W3 with ⟨A3, B3, S3, T3, Z3⟩
  isplitl [A0 A1 A2 A3 B0 B1 B2 B3]
  · isplitl [A0 A1 A2 A3]
    · isplitl [A0]; · iexact A0
      isplitl [A1]; · iexact A1
      isplitl [A2]; · iexact A2
      iexact A3
    · isplitl [B0]; · iexact B0
      isplitl [B1]; · iexact B1
      isplitl [B2]; · iexact B2
      iexact B3
  isplitl [S0 S1 S2 S3 T0 T1 T2 T3]
  · isplitl [S0 S1 S2 S3]
    · isplitl [S0]; · iexact S0
      isplitl [S1]; · iexact S1
      isplitl [S2]; · iexact S2
      iexact S3
    · isplitl [T0]; · iexact T0
      isplitl [T1]; · iexact T1
      isplitl [T2]; · iexact T2
      iexact T3
  isplitl [Z0]; · iexact Z0
  isplitl [Z1]; · iexact Z1
  isplitl [Z2]; · iexact Z2
  iexact Z3

theorem allS : ∀ k : Key (Fin 4) (Fin 4), k ∈ ([.inn 3, .out 3, .here 3, .inn 2, .out 2, .here 2, .inn 1, .out 1, .here 1, .inn 0, .out 0, .here 0] : List (Key (Fin 4) (Fin 4))) := by decide
theorem allR : ∀ k : Key (Fin 4) (Fin 4), k ∈ ([.here 3, .out 3, .inn 3, .here 2, .out 2, .inn 2, .here 1, .out 1, .inn 1, .here 0, .out 0, .inn 0] : List (Key (Fin 4) (Fin 4))) := by decide
theorem issued (b : Fin 4) : Key.inn b ∈ ([.inn 3, .out 3, .here 3, .inn 2, .out 2, .here 2, .inn 1, .out 1, .here 1, .inn 0, .out 0, .here 0] : List (Key (Fin 4) (Fin 4))) := allS _

theorem body (c : Dev nD) (κ : Dev nD × Key (Fin 4) (Fin 4) → ℕ) (t : Fin (cfgs 0).N) :
    (lines m).plan.st c κ [] [] ⊢ wp frame (wpE (defs₀ (F := F)) Variants.none (c.tc : Thread nD τ) none) Set.univ
      (defs₀ (F := F) .tc (cfgs 0).body ((cfgs 0).bodyArgs t ((cfgs 0).slots t))) (fun _ => (lines m).plan.after₁ c) := by
  show _ ⊢ wp frame _ _ (cc0_exchange_halves (F := F) (Memref.whole main_arg0) (Memref.isWhole_whole _) (Memref.whole main_arg1) (Memref.isWhole_whole _)
    (Memref.whole main_arg2) (Memref.isWhole_whole _) (Memref.whole main_arg3) (Memref.isWhole_whole _)
    (Memref.whole main_v1_0) (Memref.isWhole_whole _) (Memref.whole main_v1_1) (Memref.isWhole_whole _)
    (Memref.whole main_v1_2) (Memref.isWhole_whole _) (Memref.whole main_v1_3) (Memref.isWhole_whole _)
    (Memref.whole main_v1_4) (Memref.isWhole_whole _) (Memref.whole main_v1_5) (Memref.isWhole_whole _)
    (Memref.whole main_v1_6) (Memref.isWhole_whole _) (Memref.whole main_v1_7) (Memref.isWhole_whole _)
    cc0_scratch0 cc0_scratch1 cc0_scratch2) _
  simp only [cc0_exchange_halves_eq_skeleton]
  unfold cc0_exchange_halves_skel
  simp only [k0_part1_eq_skeleton, k0_part2_eq_skeleton, k0_part3_eq_skeleton, k0_part4_eq_skeleton]
  unfold k0_part1_skel k0_part2_skel k0_part3_skel k0_part4_skel
  simp only [Prog.lift, Prog.bind_op, Prog.bind_ret, Prog.pure_eq_ret, wp_deviceId]
  refine Lines.wp_copy (w := lines m) Variants.none 0 rfl rfl (by decide) (by decide) ?_
  refine Lines.wp_send (w := lines m) Variants.none 0 (Fin.ext (k0_dev1_eq c)) rfl rfl rfl (by decide) (by decide) (by decide) (fun _ h => nomatch h) ?_
  refine Lines.wp_copy (w := lines m) Variants.none 1 rfl rfl (by decide) (by decide) ?_
  refine Lines.wp_send (w := lines m) Variants.none 1 (Fin.ext (k0_dev2_eq c)) rfl rfl rfl (by decide) (by decide) (by decide) (fun _ h => nomatch h) ?_
  refine Lines.wp_copy (w := lines m) Variants.none 2 rfl rfl (by decide) (by decide) ?_
  refine Lines.wp_send (w := lines m) Variants.none 2 (Fin.ext (k0_dev3_eq c)) rfl rfl rfl (by decide) (by decide) (by decide) (fun _ h => nomatch h) ?_
  refine Lines.wp_copy (w := lines m) Variants.none 3 rfl rfl (by decide) (by decide) ?_
  refine Lines.wp_send (w := lines m) Variants.none 3 (Fin.ext (k0_dev4_eq c)) rfl rfl rfl (by decide) (by decide) (by decide) (fun _ h => nomatch h) ?_
  refine Lines.wp_waitR (w := lines m) Variants.none 0 rfl rfl (by decide) (fun b hb => absurd (issued b) hb) (fun _ h => nomatch h) ?_
  refine Lines.wp_waitS (w := lines m) Variants.none 0 rfl rfl (by decide) (by decide) (fun b hb => absurd (issued b) hb) ?_
  refine Lines.wp_waitA (w := lines m) Variants.none 0 rfl rfl (by decide) (by decide) (fun b hb => absurd (issued b) hb) ?_
  refine Lines.wp_waitR (w := lines m) Variants.none 1 rfl rfl (by decide) (fun b hb => absurd (issued b) hb) (fun _ h => nomatch h) ?_
  refine Lines.wp_waitS (w := lines m) Variants.none 1 rfl rfl (by decide) (by decide) (fun b hb => absurd (issued b) hb) ?_
  refine Lines.wp_waitA (w := lines m) Variants.none 1 rfl rfl (by decide) (by decide) (fun b hb => absurd (issued b) hb) ?_
  refine Lines.wp_waitR (w := lines m) Variants.none 2 rfl rfl (by decide) (fun b hb => absurd (issued b) hb) (fun _ h => nomatch h) ?_
  refine Lines.wp_waitS (w := lines m) Variants.none 2 rfl rfl (by decide) (by decide) (fun b hb => absurd (issued b) hb) ?_
  refine Lines.wp_waitA (w := lines m) Variants.none 2 rfl rfl (by decide) (by decide) (fun b hb => absurd (issued b) hb) ?_
  refine Lines.wp_waitR (w := lines m) Variants.none 3 rfl rfl (by decide) (fun b hb => absurd (issued b) hb) (fun _ h => nomatch h) ?_
  refine Lines.wp_waitS (w := lines m) Variants.none 3 rfl rfl (by decide) (by decide) (fun b hb => absurd (issued b) hb) ?_
  refine Lines.wp_waitA (w := lines m) Variants.none 3 rfl rfl (by decide) (by decide) (fun b hb => absurd (issued b) hb) ?_
  rw [wp_ret]
  exact (lines m).plan.finish c κ (fun k _ => allS k) allR

/-- The facts about the final memory of device `c`: the copies arrived and the arguments are unchanged. -/
def Ends (c : Dev nD) (μ : MemSt nD τ sig (Elt F)) : Prop :=
  (lines m).Landed c μ ∧ ∀ i : Fin 4, μ.mem ((near i c).src.view.loc (c.tc : Thread nD τ)) = m _

theorem ownSemFacts : Pipeline.OwnSemFacts cfg0.spec (lines m).plan.osem := by
  show Pipeline.OwnSemFacts cfg0.spec (fun k => .dma (semOf k))
  decide

theorem run_main (g : Dev nD → PrngReg) :
    θ_run (defs (F := F)) (onTc (τ := τ) (main (F := F))) ⟨m, fun _ => 0, g⟩ (fun r => (∀ c, Ends m c r.2) ∧ r.2.sem = fun _ => 0) := by
  have h := (lines m).plan.run (defs₀ (F := F)) cfgs N_0 cellOf_inj winFacts0 (ownSemFacts m) m g (main (F := F)) (fun _ => rfl)
    (fun c => scopedRest0_eq c) (aside m) (deal m) (body m) (Ends m)
    (fun c s' => (lines m).facts c (asd := aside m c) (Q := fun μ => ∀ i : Fin 4, μ.mem ((near i c).src.view.loc (c.tc : Thread nD τ)) = m _) (fun s' => kept (fun i => (near i c).src.view.loc (c.tc : Thread nD τ)) _ _ s') s')
  exact (θ_run defs _ _).mono (fun r hr => ⟨hr.1, sem_eq_zero_of_scoped (by decide) hr.2⟩) h

end Cert.ExchangeRun

end
-- ==== Proof.Blocks.lean ====
/-
# Arrays put together from eight pieces

A device's block of an array that is stacked from eight pieces is the device's piece; and a piece cut from the whole array
is what a slice of one device's block holds.
-/
module

public import Idealize.ShloMosaic.Lib.Pipeline.Value
public import Idealize.ShloMosaic.Lib.Layout

@[expose] public section

noncomputable section

namespace Cert.Blocks

open Idealize.ShloMosaic

variable {α : Type} {n : ℕ}

/-- Eight pieces of sizes `s` fill `u` along the first axis. -/
abbrev Eight (s u : Fin (n + 1) → ℕ) : Prop :=
  Shape.Concatenates [⟨n + 1, s⟩, ⟨n + 1, s⟩, ⟨n + 1, s⟩, ⟨n + 1, s⟩, ⟨n + 1, s⟩, ⟨n + 1, s⟩, ⟨n + 1, s⟩, ⟨n + 1, s⟩] ⟨n + 1, u⟩ (0 : Fin (n + 1))

/-- Eight pieces, one below the other. -/
def stack8 {s u : Fin (n + 1) → ℕ} (h : Eight s u)
    (p0 p1 p2 p3 p4 p5 p6 p7 : (⟨n + 1, s⟩ : Shape).Idx → α) : (⟨n + 1, u⟩ : Shape).Idx → α :=
  concatenate ⟨n + 1, u⟩ (0 : Fin (n + 1))
    [⟨⟨n + 1, s⟩, p0⟩, ⟨⟨n + 1, s⟩, p1⟩, ⟨⟨n + 1, s⟩, p2⟩, ⟨⟨n + 1, s⟩, p3⟩, ⟨⟨n + 1, s⟩, p4⟩, ⟨⟨n + 1, s⟩, p5⟩, ⟨⟨n + 1, s⟩, p6⟩, ⟨⟨n + 1, s⟩, p7⟩] h

theorem block_stack8 {s u : Fin (n + 1) → ℕ} (h : Eight s u) (P : Fin 8 → (⟨n + 1, s⟩ : Shape).Idx → α) (d : Fin 8)
    (ht : Layout.Tiles ⟨n + 1, s⟩ ⟨n + 1, u⟩ 0 8) :
    Layout.block ⟨n + 1, s⟩ ⟨n + 1, u⟩ 0 8 d (stack8 h (P 0) (P 1) (P 2) (P 3) (P 4) (P 5) (P 6) (P 7)) ht = P d := by
  funext i
  refine concatenate_apply_piece (t := ⟨n + 1, u⟩) (0 : Fin (n + 1))
    [⟨⟨n + 1, s⟩, P 0⟩, ⟨⟨n + 1, s⟩, P 1⟩, ⟨⟨n + 1, s⟩, P 2⟩, ⟨⟨n + 1, s⟩, P 3⟩, ⟨⟨n + 1, s⟩, P 4⟩, ⟨⟨n + 1, s⟩, P 5⟩, ⟨⟨n + 1, s⟩, P 6⟩, ⟨⟨n + 1, s⟩, P 7⟩]
    h (ht.idx d i) d.val d.isLt ⟨n + 1, s⟩ (P d) ?_ rfl (d.val * s 0) ?_ i ?_ ?_
  · match d with
    | 0 | 1 | 2 | 3 | 4 | 5 | 6 | 7 => rfl
  · match d with
    | 0 | 1 | 2 | 3 | 4 | 5 | 6 | 7 =>
      simp [List.take]
      try omega
  · intro b hb
    have hb' : b.val ≠ 0 := fun h0 => hb (Fin.ext h0)
    show (i b).val = if b.val = 0 then _ else (i b).val
    rw [if_neg hb']
  · show d.val * s 0 + (i 0).val = if (0 : Fin (n + 1)).val = 0 then d.val * s 0 + (i 0).val else (i 0).val
    exact (if_pos (Fin.val_zero (n + 1))).symm

/-- The pieces cut from a whole array at `off`, stacked. -/
def regroup {s t u : Fin (n + 1) → ℕ} (h : Eight s u) (off : Fin 8 → Fin (n + 1) → ℕ) (hs : ∀ d, (⟨n + 1, t⟩ : Shape).Slices (off d) ⟨n + 1, s⟩)
    (X : (⟨n + 1, t⟩ : Shape).Idx → α) : (⟨n + 1, u⟩ : Shape).Idx → α :=
  stack8 (s := s) h (extractStridedSlice ⟨n + 1, s⟩ (off 0) X (hs 0)) (extractStridedSlice ⟨n + 1, s⟩ (off 1) X (hs 1))
    (extractStridedSlice ⟨n + 1, s⟩ (off 2) X (hs 2)) (extractStridedSlice ⟨n + 1, s⟩ (off 3) X (hs 3))
    (extractStridedSlice ⟨n + 1, s⟩ (off 4) X (hs 4)) (extractStridedSlice ⟨n + 1, s⟩ (off 5) X (hs 5))
    (extractStridedSlice ⟨n + 1, s⟩ (off 6) X (hs 6)) (extractStridedSlice ⟨n + 1, s⟩ (off 7) X (hs 7))

/-- What a slice of device `e`'s block holds is device `d`'s block of the pieces, when the slice is where the piece is cut. -/
theorem slice_eq_block {s b t u : Fin (n + 1) → ℕ} (h : Eight s u) (off : Fin 8 → Fin (n + 1) → ℕ)
    (hs : ∀ d, (⟨n + 1, t⟩ : Shape).Slices (off d) ⟨n + 1, s⟩) (X : (⟨n + 1, t⟩ : Shape).Idx → α) (d e : Fin 8)
    (hb : Layout.Tiles ⟨n + 1, b⟩ ⟨n + 1, t⟩ 0 8) (ht : Layout.Tiles ⟨n + 1, s⟩ ⟨n + 1, u⟩ 0 8)
    (A : (⟨n + 1, b⟩ : Shape).Idx → α) (hA : A = Layout.block ⟨n + 1, b⟩ ⟨n + 1, t⟩ 0 8 e X hb)
    (roff : Fin (n + 1) → ℕ) (inb : ∀ i, roff i + s i ≤ b i)
    (hoff : ∀ i : Fin (n + 1), (if i.val = 0 then e.val * b 0 else 0) + roff i = off d i)
    (V : (⟨n + 1, s⟩ : Shape).Idx → α) (hV : ∀ y, V y = A ((Rect.unit (s := ⟨n + 1, b⟩) roff s inb).emb y)) :
    V = Layout.block ⟨n + 1, s⟩ ⟨n + 1, u⟩ 0 8 d (regroup h off hs X) ht := by
  refine Eq.trans (funext fun y => ?_) (block_stack8 h (fun k => extractStridedSlice ⟨n + 1, s⟩ (off k) X (hs k)) d ht).symm
  rw [hV, hA]
  show X _ = X _
  congr 1
  funext i
  apply Fin.ext
  show (if i.val = 0 then e.val * b i + (roff i + 1 * (y i).val) else roff i + 1 * (y i).val) = off d i + (y i).val
  rw [← hoff i]
  split
  · next h0 =>
    rw [show i = 0 from Fin.ext (h0.trans (Fin.val_zero (n + 1)).symm)]
    omega
  · omega

end Cert.Blocks

end
-- ==== Proof.ExchangeHost.lean ====
/-
# What the reference of the exchange computes

The reference puts each result together from eight pieces, the piece of every device below the one before. Its operations
are run result by result: eight cuts and the putting together.
-/
module

public import proofs.«01_k».proof.Proof.Mesh
public import proofs.«01_k».proof.Proof.Blocks
public import proofs.«01_k».proof.Proof.Gen.ExchangeRefIdeal
public import Idealize.ShloMosaic.Lib.StableHlo.Run
public import Idealize.ShloMosaic.Lib.Pipeline.Frame

@[expose] public section

noncomputable section

namespace Cert.ExchangeHost

open Idealize.ShloMosaic Idealize.ShloMosaic.TcCoe Idealize.ShloMosaic.StableHlo
open Idealize.SL.Sem
open Cert.ExchangeRefIdeal Cert.ExchangeRefIdeal.Gen Cert.Mesh Cert.Blocks

variable {F : FTy → Type} [FloatOps F]

/-- Where the half that device `d` keeps begins in an array of rows, `n` rows to a half, -/
def keepRows (n : ℕ) (d : Fin 8) : Fin 2 → ℕ := ![(2 * d.val + d.val % 2) * n, 0]
/-- where the half it receives begins, -/
def takeRows (n : ℕ) (d : Fin 8) : Fin 2 → ℕ := ![(2 * (sib d).val + d.val % 2) * n, 0]
/-- and the same in an array of four slabs to a device. -/
def keepSlabs (d : Fin 8) : Fin 3 → ℕ := ![4 * d.val, 256 * (d.val % 2), 0]
def takeSlabs (d : Fin 8) : Fin 3 → ℕ := ![4 * (sib d).val, 256 * (d.val % 2), 0]

/-- Contents of a whole array of shape `s`. -/
abbrev Whole (F : FTy → Type) (s : Shape) : Type := (⟨s, .bf16⟩ : BufTy).Contents (Elt F)

/-- The operations of result `main_v8` -/
def mine0 : List (HloOp τ sig (Elt F)) :=
  [ unary main_arg0 main_v0 ((extractStridedSlice S1024x8192 ![0, 0] · slices_S16384x8192_S1024x8192_0_0) : Whole F S16384x8192 → Whole F S1024x8192),
    unary main_arg0 main_v1 ((extractStridedSlice S1024x8192 ![3072, 0] · slices_S16384x8192_S1024x8192_3072_0) : Whole F S16384x8192 → Whole F S1024x8192),
    unary main_arg0 main_v2 ((extractStridedSlice S1024x8192 ![4096, 0] · slices_S16384x8192_S1024x8192_4096_0) : Whole F S16384x8192 → Whole F S1024x8192),
    unary main_arg0 main_v3 ((extractStridedSlice S1024x8192 ![7168, 0] · slices_S16384x8192_S1024x8192_7168_0) : Whole F S16384x8192 → Whole F S1024x8192),
    unary main_arg0 main_v4 ((extractStridedSlice S1024x8192 ![8192, 0] · slices_S16384x8192_S1024x8192_8192_0) : Whole F S16384x8192 → Whole F S1024x8192),
    unary main_arg0 main_v5 ((extractStridedSlice S1024x8192 ![11264, 0] · slices_S16384x8192_S1024x8192_11264_0) : Whole F S16384x8192 → Whole F S1024x8192),
    unary main_arg0 main_v6 ((extractStridedSlice S1024x8192 ![12288, 0] · slices_S16384x8192_S1024x8192_12288_0) : Whole F S16384x8192 → Whole F S1024x8192),
    unary main_arg0 main_v7 ((extractStridedSlice S1024x8192 ![15360, 0] · slices_S16384x8192_S1024x8192_15360_0) : Whole F S16384x8192 → Whole F S1024x8192),
    nary ![main_v0, main_v1, main_v2, main_v3, main_v4, main_v5, main_v6, main_v7] main_v8 (fun u => stack8 concatenates_S1024x8192_S1024x8192_S1024x8192_S1024x8192_S1024x8192_S1024x8192_S1024x8192_S1024x8192_S8192x8192_d0 (u 0) (u 1) (u 2) (u 3) (u 4) (u 5) (u 6) (u 7)) ]
/-- and what they write. -/
def mine0Refs : List (Ref sig .tc) := [main_v0, main_v1, main_v2, main_v3, main_v4, main_v5, main_v6, main_v7, main_v8]

/-- The operations of result `main_v17` -/
def theirs0 : List (HloOp τ sig (Elt F)) :=
  [ unary main_arg0 main_v9 ((extractStridedSlice S1024x8192 ![2048, 0] · slices_S16384x8192_S1024x8192_2048_0) : Whole F S16384x8192 → Whole F S1024x8192),
    unary main_arg0 main_v10 ((extractStridedSlice S1024x8192 ![1024, 0] · slices_S16384x8192_S1024x8192_1024_0) : Whole F S16384x8192 → Whole F S1024x8192),
    unary main_arg0 main_v11 ((extractStridedSlice S1024x8192 ![6144, 0] · slices_S16384x8192_S1024x8192_6144_0) : Whole F S16384x8192 → Whole F S1024x8192),
    unary main_arg0 main_v12 ((extractStridedSlice S1024x8192 ![5120, 0] · slices_S16384x8192_S1024x8192_5120_0) : Whole F S16384x8192 → Whole F S1024x8192),
    unary main_arg0 main_v13 ((extractStridedSlice S1024x8192 ![10240, 0] · slices_S16384x8192_S1024x8192_10240_0) : Whole F S16384x8192 → Whole F S1024x8192),
    unary main_arg0 main_v14 ((extractStridedSlice S1024x8192 ![9216, 0] · slices_S16384x8192_S1024x8192_9216_0) : Whole F S16384x8192 → Whole F S1024x8192),
    unary main_arg0 main_v15 ((extractStridedSlice S1024x8192 ![14336, 0] · slices_S16384x8192_S1024x8192_14336_0) : Whole F S16384x8192 → Whole F S1024x8192),
    unary main_arg0 main_v16 ((extractStridedSlice S1024x8192 ![13312, 0] · slices_S16384x8192_S1024x8192_13312_0) : Whole F S16384x8192 → Whole F S1024x8192),
    nary ![main_v9, main_v10, main_v11, main_v12, main_v13, main_v14, main_v15, main_v16] main_v17 (fun u => stack8 concatenates_S1024x8192_S1024x8192_S1024x8192_S1024x8192_S1024x8192_S1024x8192_S1024x8192_S1024x8192_S8192x8192_d0 (u 0) (u 1) (u 2) (u 3) (u 4) (u 5) (u 6) (u 7)) ]
/-- and what they write. -/
def theirs0Refs : List (Ref sig .tc) := [main_v9, main_v10, main_v11, main_v12, main_v13, main_v14, main_v15, main_v16, main_v17]

/-- The operations of result `main_v26` -/
def mine1 : List (HloOp τ sig (Elt F)) :=
  [ unary main_arg1 main_v18 ((extractStridedSlice S4x256x2048 ![0, 0, 0] · slices_S32x512x2048_S4x256x2048_0_0_0) : Whole F S32x512x2048 → Whole F S4x256x2048),
    unary main_arg1 main_v19 ((extractStridedSlice S4x256x2048 ![4, 256, 0] · slices_S32x512x2048_S4x256x2048_4_256_0) : Whole F S32x512x2048 → Whole F S4x256x2048),
    unary main_arg1 main_v20 ((extractStridedSlice S4x256x2048 ![8, 0, 0] · slices_S32x512x2048_S4x256x2048_8_0_0) : Whole F S32x512x2048 → Whole F S4x256x2048),
    unary main_arg1 main_v21 ((extractStridedSlice S4x256x2048 ![12, 256, 0] · slices_S32x512x2048_S4x256x2048_12_256_0) : Whole F S32x512x2048 → Whole F S4x256x2048),
    unary main_arg1 main_v22 ((extractStridedSlice S4x256x2048 ![16, 0, 0] · slices_S32x512x2048_S4x256x2048_16_0_0) : Whole F S32x512x2048 → Whole F S4x256x2048),
    unary main_arg1 main_v23 ((extractStridedSlice S4x256x2048 ![20, 256, 0] · slices_S32x512x2048_S4x256x2048_20_256_0) : Whole F S32x512x2048 → Whole F S4x256x2048),
    unary main_arg1 main_v24 ((extractStridedSlice S4x256x2048 ![24, 0, 0] · slices_S32x512x2048_S4x256x2048_24_0_0) : Whole F S32x512x2048 → Whole F S4x256x2048),
    unary main_arg1 main_v25 ((extractStridedSlice S4x256x2048 ![28, 256, 0] · slices_S32x512x2048_S4x256x2048_28_256_0) : Whole F S32x512x2048 → Whole F S4x256x2048),
    nary ![main_v18, main_v19, main_v20, main_v21, main_v22, main_v23, main_v24, main_v25] main_v26 (fun u => stack8 concatenates_S4x256x2048_S4x256x2048_S4x256x2048_S4x256x2048_S4x256x2048_S4x256x2048_S4x256x2048_S4x256x2048_S32x256x2048_d0 (u 0) (u 1) (u 2) (u 3) (u 4) (u 5) (u 6) (u 7)) ]
/-- and what they write. -/
def mine1Refs : List (Ref sig .tc) := [main_v18, main_v19, main_v20, main_v21, main_v22, main_v23, main_v24, main_v25, main_v26]

/-- The operations of result `main_v35` -/
def theirs1 : List (HloOp τ sig (Elt F)) :=
  [ unary main_arg1 main_v27 ((extractStridedSlice S4x256x2048 ![4, 0, 0] · slices_S32x512x2048_S4x256x2048_4_0_0) : Whole F S32x512x2048 → Whole F S4x256x2048),
    unary main_arg1 main_v28 ((extractStridedSlice S4x256x2048 ![0, 256, 0] · slices_S32x512x2048_S4x256x2048_0_256_0) : Whole F S32x512x2048 → Whole F S4x256x2048),
    unary main_arg1 main_v29 ((extractStridedSlice S4x256x2048 ![12, 0, 0] · slices_S32x512x2048_S4x256x2048_12_0_0) : Whole F S32x512x2048 → Whole F S4x256x2048),
    unary main_arg1 main_v30 ((extractStridedSlice S4x256x2048 ![8, 256, 0] · slices_S32x512x2048_S4x256x2048_8_256_0) : Whole F S32x512x2048 → Whole F S4x256x2048),
    unary main_arg1 main_v31 ((extractStridedSlice S4x256x2048 ![20, 0, 0] · slices_S32x512x2048_S4x256x2048_20_0_0) : Whole F S32x512x2048 → Whole F S4x256x2048),
    unary main_arg1 main_v32 ((extractStridedSlice S4x256x2048 ![16, 256, 0] · slices_S32x512x2048_S4x256x2048_16_256_0) : Whole F S32x512x2048 → Whole F S4x256x2048),
    unary main_arg1 main_v33 ((extractStridedSlice S4x256x2048 ![28, 0, 0] · slices_S32x512x2048_S4x256x2048_28_0_0) : Whole F S32x512x2048 → Whole F S4x256x2048),
    unary main_arg1 main_v34 ((extractStridedSlice S4x256x2048 ![24, 256, 0] · slices_S32x512x2048_S4x256x2048_24_256_0) : Whole F S32x512x2048 → Whole F S4x256x2048),
    nary ![main_v27, main_v28, main_v29, main_v30, main_v31, main_v32, main_v33, main_v34] main_v35 (fun u => stack8 concatenates_S4x256x2048_S4x256x2048_S4x256x2048_S4x256x2048_S4x256x2048_S4x256x2048_S4x256x2048_S4x256x2048_S32x256x2048_d0 (u 0) (u 1) (u 2) (u 3) (u 4) (u 5) (u 6) (u 7)) ]
/-- and what they write. -/
def theirs1Refs : List (Ref sig .tc) := [main_v27, main_v28, main_v29, main_v30, main_v31, main_v32, main_v33, main_v34, main_v35]

/-- The operations of result `main_v44` -/
def mine2 : List (HloOp τ sig (Elt F)) :=
  [ unary main_arg2 main_v36 ((extractStridedSlice S1024x4608 ![0, 0] · slices_S16384x4608_S1024x4608_0_0) : Whole F S16384x4608 → Whole F S1024x4608),
    unary main_arg2 main_v37 ((extractStridedSlice S1024x4608 ![3072, 0] · slices_S16384x4608_S1024x4608_3072_0) : Whole F S16384x4608 → Whole F S1024x4608),
    unary main_arg2 main_v38 ((extractStridedSlice S1024x4608 ![4096, 0] · slices_S16384x4608_S1024x4608_4096_0) : Whole F S16384x4608 → Whole F S1024x4608),
    unary main_arg2 main_v39 ((extractStridedSlice S1024x4608 ![7168, 0] · slices_S16384x4608_S1024x4608_7168_0) : Whole F S16384x4608 → Whole F S1024x4608),
    unary main_arg2 main_v40 ((extractStridedSlice S1024x4608 ![8192, 0] · slices_S16384x4608_S1024x4608_8192_0) : Whole F S16384x4608 → Whole F S1024x4608),
    unary main_arg2 main_v41 ((extractStridedSlice S1024x4608 ![11264, 0] · slices_S16384x4608_S1024x4608_11264_0) : Whole F S16384x4608 → Whole F S1024x4608),
    unary main_arg2 main_v42 ((extractStridedSlice S1024x4608 ![12288, 0] · slices_S16384x4608_S1024x4608_12288_0) : Whole F S16384x4608 → Whole F S1024x4608),
    unary main_arg2 main_v43 ((extractStridedSlice S1024x4608 ![15360, 0] · slices_S16384x4608_S1024x4608_15360_0) : Whole F S16384x4608 → Whole F S1024x4608),
    nary ![main_v36, main_v37, main_v38, main_v39, main_v40, main_v41, main_v42, main_v43] main_v44 (fun u => stack8 concatenates_S1024x4608_S1024x4608_S1024x4608_S1024x4608_S1024x4608_S1024x4608_S1024x4608_S1024x4608_S8192x4608_d0 (u 0) (u 1) (u 2) (u 3) (u 4) (u 5) (u 6) (u 7)) ]
/-- and what they write. -/
def mine2Refs : List (Ref sig .tc) := [main_v36, main_v37, main_v38, main_v39, main_v40, main_v41, main_v42, main_v43, main_v44]

/-- The operations of result `main_v53` -/
def theirs2 : List (HloOp τ sig (Elt F)) :=
  [ unary main_arg2 main_v45 ((extractStridedSlice S1024x4608 ![2048, 0] · slices_S16384x4608_S1024x4608_2048_0) : Whole F S16384x4608 → Whole F S1024x4608),
    unary main_arg2 main_v46 ((extractStridedSlice S1024x4608 ![1024, 0] · slices_S16384x4608_S1024x4608_1024_0) : Whole F S16384x4608 → Whole F S1024x4608),
    unary main_arg2 main_v47 ((extractStridedSlice S1024x4608 ![6144, 0] · slices_S16384x4608_S1024x4608_6144_0) : Whole F S16384x4608 → Whole F S1024x4608),
    unary main_arg2 main_v48 ((extractStridedSlice S1024x4608 ![5120, 0] · slices_S16384x4608_S1024x4608_5120_0) : Whole F S16384x4608 → Whole F S1024x4608),
    unary main_arg2 main_v49 ((extractStridedSlice S1024x4608 ![10240, 0] · slices_S16384x4608_S1024x4608_10240_0) : Whole F S16384x4608 → Whole F S1024x4608),
    unary main_arg2 main_v50 ((extractStridedSlice S1024x4608 ![9216, 0] · slices_S16384x4608_S1024x4608_9216_0) : Whole F S16384x4608 → Whole F S1024x4608),
    unary main_arg2 main_v51 ((extractStridedSlice S1024x4608 ![14336, 0] · slices_S16384x4608_S1024x4608_14336_0) : Whole F S16384x4608 → Whole F S1024x4608),
    unary main_arg2 main_v52 ((extractStridedSlice S1024x4608 ![13312, 0] · slices_S16384x4608_S1024x4608_13312_0) : Whole F S16384x4608 → Whole F S1024x4608),
    nary ![main_v45, main_v46, main_v47, main_v48, main_v49, main_v50, main_v51, main_v52] main_v53 (fun u => stack8 concatenates_S1024x4608_S1024x4608_S1024x4608_S1024x4608_S1024x4608_S1024x4608_S1024x4608_S1024x4608_S8192x4608_d0 (u 0) (u 1) (u 2) (u 3) (u 4) (u 5) (u 6) (u 7)) ]
/-- and what they write. -/
def theirs2Refs : List (Ref sig .tc) := [main_v45, main_v46, main_v47, main_v48, main_v49, main_v50, main_v51, main_v52, main_v53]

/-- The operations of result `main_v62` -/
def mine3 : List (HloOp τ sig (Elt F)) :=
  [ unary main_arg3 main_v54 ((extractStridedSlice S4x256x2048 ![0, 0, 0] · slices_S32x512x2048_S4x256x2048_0_0_0) : Whole F S32x512x2048 → Whole F S4x256x2048),
    unary main_arg3 main_v55 ((extractStridedSlice S4x256x2048 ![4, 256, 0] · slices_S32x512x2048_S4x256x2048_4_256_0) : Whole F S32x512x2048 → Whole F S4x256x2048),
    unary main_arg3 main_v56 ((extractStridedSlice S4x256x2048 ![8, 0, 0] · slices_S32x512x2048_S4x256x2048_8_0_0) : Whole F S32x512x2048 → Whole F S4x256x2048),
    unary main_arg3 main_v57 ((extractStridedSlice S4x256x2048 ![12, 256, 0] · slices_S32x512x2048_S4x256x2048_12_256_0) : Whole F S32x512x2048 → Whole F S4x256x2048),
    unary main_arg3 main_v58 ((extractStridedSlice S4x256x2048 ![16, 0, 0] · slices_S32x512x2048_S4x256x2048_16_0_0) : Whole F S32x512x2048 → Whole F S4x256x2048),
    unary main_arg3 main_v59 ((extractStridedSlice S4x256x2048 ![20, 256, 0] · slices_S32x512x2048_S4x256x2048_20_256_0) : Whole F S32x512x2048 → Whole F S4x256x2048),
    unary main_arg3 main_v60 ((extractStridedSlice S4x256x2048 ![24, 0, 0] · slices_S32x512x2048_S4x256x2048_24_0_0) : Whole F S32x512x2048 → Whole F S4x256x2048),
    unary main_arg3 main_v61 ((extractStridedSlice S4x256x2048 ![28, 256, 0] · slices_S32x512x2048_S4x256x2048_28_256_0) : Whole F S32x512x2048 → Whole F S4x256x2048),
    nary ![main_v54, main_v55, main_v56, main_v57, main_v58, main_v59, main_v60, main_v61] main_v62 (fun u => stack8 concatenates_S4x256x2048_S4x256x2048_S4x256x2048_S4x256x2048_S4x256x2048_S4x256x2048_S4x256x2048_S4x256x2048_S32x256x2048_d0 (u 0) (u 1) (u 2) (u 3) (u 4) (u 5) (u 6) (u 7)) ]
/-- and what they write. -/
def mine3Refs : List (Ref sig .tc) := [main_v54, main_v55, main_v56, main_v57, main_v58, main_v59, main_v60, main_v61, main_v62]

/-- The operations of result `main_v71` -/
def theirs3 : List (HloOp τ sig (Elt F)) :=
  [ unary main_arg3 main_v63 ((extractStridedSlice S4x256x2048 ![4, 0, 0] · slices_S32x512x2048_S4x256x2048_4_0_0) : Whole F S32x512x2048 → Whole F S4x256x2048),
    unary main_arg3 main_v64 ((extractStridedSlice S4x256x2048 ![0, 256, 0] · slices_S32x512x2048_S4x256x2048_0_256_0) : Whole F S32x512x2048 → Whole F S4x256x2048),
    unary main_arg3 main_v65 ((extractStridedSlice S4x256x2048 ![12, 0, 0] · slices_S32x512x2048_S4x256x2048_12_0_0) : Whole F S32x512x2048 → Whole F S4x256x2048),
    unary main_arg3 main_v66 ((extractStridedSlice S4x256x2048 ![8, 256, 0] · slices_S32x512x2048_S4x256x2048_8_256_0) : Whole F S32x512x2048 → Whole F S4x256x2048),
    unary main_arg3 main_v67 ((extractStridedSlice S4x256x2048 ![20, 0, 0] · slices_S32x512x2048_S4x256x2048_20_0_0) : Whole F S32x512x2048 → Whole F S4x256x2048),
    unary main_arg3 main_v68 ((extractStridedSlice S4x256x2048 ![16, 256, 0] · slices_S32x512x2048_S4x256x2048_16_256_0) : Whole F S32x512x2048 → Whole F S4x256x2048),
    unary main_arg3 main_v69 ((extractStridedSlice S4x256x2048 ![28, 0, 0] · slices_S32x512x2048_S4x256x2048_28_0_0) : Whole F S32x512x2048 → Whole F S4x256x2048),
    unary main_arg3 main_v70 ((extractStridedSlice S4x256x2048 ![24, 256, 0] · slices_S32x512x2048_S4x256x2048_24_256_0) : Whole F S32x512x2048 → Whole F S4x256x2048),
    nary ![main_v63, main_v64, main_v65, main_v66, main_v67, main_v68, main_v69, main_v70] main_v71 (fun u => stack8 concatenates_S4x256x2048_S4x256x2048_S4x256x2048_S4x256x2048_S4x256x2048_S4x256x2048_S4x256x2048_S4x256x2048_S32x256x2048_d0 (u 0) (u 1) (u 2) (u 3) (u 4) (u 5) (u 6) (u 7)) ]
/-- and what they write. -/
def theirs3Refs : List (Ref sig .tc) := [main_v63, main_v64, main_v65, main_v66, main_v67, main_v68, main_v69, main_v70, main_v71]

def ops : List (HloOp τ sig (Elt F)) := mine0 ++ (theirs0 ++ (mine1 ++ (theirs1 ++ (mine2 ++ (theirs2 ++ (mine3 ++ (theirs3)))))))
def written : List (Ref sig .tc) := mine0Refs ++ (theirs0Refs ++ (mine1Refs ++ (theirs1Refs ++ (mine2Refs ++ (theirs2Refs ++ (mine3Refs ++ (theirs3Refs)))))))

set_option maxRecDepth 8192 in
theorem main_eq (d : Dev nD) : main (F := F) d = seq ops := rfl

/-- The operations `l` write the buffers `W`, in order. -/
abbrev Write (l : List (HloOp τ sig (Elt F))) (W : List (Ref sig .tc)) : Prop :=
  l.map HloOp.writes = W.map fun r => {Proc.devRef (τ := τ) .tc r}

theorem kept (V : Valuation τ sig (Elt F)) (r : Ref sig .tc) (hr : r ∉ written) : after ops V (Proc.devRef .tc r) = V (Proc.devRef .tc r) :=
  after_of_writes_sub _ V (forall_writes_sub_of_map (W := written) rfl) hr

/-- A result is what the operations of its own group make of an argument, since no others touch either. -/
theorem read_part (x y : Ref sig .tc) (f : x.ty.Contents (Elt F) → y.ty.Contents (Elt F))
    {pre g post : List (HloOp τ sig (Elt F))} {Wpre Wpost : List (Ref sig .tc)} (split : ops = pre ++ (g ++ post))
    (h : ∀ V, after g V (Proc.devRef .tc y) = f (V (Proc.devRef .tc x)))
    (hpre : Write pre Wpre) (hpost : Write post Wpost) (hx : x ∉ Wpre) (hy : y ∉ Wpost) (V : Valuation τ sig (Elt F)) :
    after ops V (Proc.devRef .tc y) = f (V (Proc.devRef .tc x)) := by
  rw [split, after_append, after_append, after_of_writes_sub _ _ (forall_writes_sub_of_map hpost) hy, h,
    after_of_writes_sub _ _ (forall_writes_sub_of_map hpre) hx]

theorem read_mine0 (V : Valuation τ sig (Elt F)) : after ops V (Proc.devRef .tc main_v8)
    = regroup concatenates_S1024x8192_S1024x8192_S1024x8192_S1024x8192_S1024x8192_S1024x8192_S1024x8192_S1024x8192_S8192x8192_d0 (keepRows 1024) (by decide) (V (Proc.devRef .tc main_arg0) : Whole F S16384x8192) :=
  read_part main_arg0 main_v8 (fun X : Whole F S16384x8192 => regroup concatenates_S1024x8192_S1024x8192_S1024x8192_S1024x8192_S1024x8192_S1024x8192_S1024x8192_S1024x8192_S8192x8192_d0 (keepRows 1024) (by decide) X)
    (pre := []) (g := mine0) (post := theirs0 ++ (mine1 ++ (theirs1 ++ (mine2 ++ (theirs2 ++ (mine3 ++ (theirs3)))))))
    (Wpre := []) (Wpost := theirs0Refs ++ (mine1Refs ++ (theirs1Refs ++ (mine2Refs ++ (theirs2Refs ++ (mine3Refs ++ (theirs3Refs)))))))
    rfl (fun V => by unfold mine0; after_results; rfl) rfl rfl (by decide) (by decide) V

theorem read_theirs0 (V : Valuation τ sig (Elt F)) : after ops V (Proc.devRef .tc main_v17)
    = regroup concatenates_S1024x8192_S1024x8192_S1024x8192_S1024x8192_S1024x8192_S1024x8192_S1024x8192_S1024x8192_S8192x8192_d0 (takeRows 1024) (by decide) (V (Proc.devRef .tc main_arg0) : Whole F S16384x8192) :=
  read_part main_arg0 main_v17 (fun X : Whole F S16384x8192 => regroup concatenates_S1024x8192_S1024x8192_S1024x8192_S1024x8192_S1024x8192_S1024x8192_S1024x8192_S1024x8192_S8192x8192_d0 (takeRows 1024) (by decide) X)
    (pre := mine0) (g := theirs0) (post := mine1 ++ (theirs1 ++ (mine2 ++ (theirs2 ++ (mine3 ++ (theirs3))))))
    (Wpre := mine0Refs) (Wpost := mine1Refs ++ (theirs1Refs ++ (mine2Refs ++ (theirs2Refs ++ (mine3Refs ++ (theirs3Refs))))))
    rfl (fun V => by unfold theirs0; after_results; rfl) rfl rfl (by decide) (by decide) V

theorem read_mine1 (V : Valuation τ sig (Elt F)) : after ops V (Proc.devRef .tc main_v26)
    = regroup concatenates_S4x256x2048_S4x256x2048_S4x256x2048_S4x256x2048_S4x256x2048_S4x256x2048_S4x256x2048_S4x256x2048_S32x256x2048_d0 keepSlabs (by decide) (V (Proc.devRef .tc main_arg1) : Whole F S32x512x2048) :=
  read_part main_arg1 main_v26 (fun X : Whole F S32x512x2048 => regroup concatenates_S4x256x2048_S4x256x2048_S4x256x2048_S4x256x2048_S4x256x2048_S4x256x2048_S4x256x2048_S4x256x2048_S32x256x2048_d0 keepSlabs (by decide) X)
    (pre := mine0 ++ (theirs0)) (g := mine1) (post := theirs1 ++ (mine2 ++ (theirs2 ++ (mine3 ++ (theirs3)))))
    (Wpre := mine0Refs ++ (theirs0Refs)) (Wpost := theirs1Refs ++ (mine2Refs ++ (theirs2Refs ++ (mine3Refs ++ (theirs3Refs)))))
    rfl (fun V => by unfold mine1; after_results; rfl) rfl rfl (by decide) (by decide) V

theorem read_theirs1 (V : Valuation τ sig (Elt F)) : after ops V (Proc.devRef .tc main_v35)
    = regroup concatenates_S4x256x2048_S4x256x2048_S4x256x2048_S4x256x2048_S4x256x2048_S4x256x2048_S4x256x2048_S4x256x2048_S32x256x2048_d0 takeSlabs (by decide) (V (Proc.devRef .tc main_arg1) : Whole F S32x512x2048) :=
  read_part main_arg1 main_v35 (fun X : Whole F S32x512x2048 => regroup concatenates_S4x256x2048_S4x256x2048_S4x256x2048_S4x256x2048_S4x256x2048_S4x256x2048_S4x256x2048_S4x256x2048_S32x256x2048_d0 takeSlabs (by decide) X)
    (pre := mine0 ++ (theirs0 ++ (mine1))) (g := theirs1) (post := mine2 ++ (theirs2 ++ (mine3 ++ (theirs3))))
    (Wpre := mine0Refs ++ (theirs0Refs ++ (mine1Refs))) (Wpost := mine2Refs ++ (theirs2Refs ++ (mine3Refs ++ (theirs3Refs))))
    rfl (fun V => by unfold theirs1; after_results; rfl) rfl rfl (by decide) (by decide) V

theorem read_mine2 (V : Valuation τ sig (Elt F)) : after ops V (Proc.devRef .tc main_v44)
    = regroup concatenates_S1024x4608_S1024x4608_S1024x4608_S1024x4608_S1024x4608_S1024x4608_S1024x4608_S1024x4608_S8192x4608_d0 (keepRows 1024) (by decide) (V (Proc.devRef .tc main_arg2) : Whole F S16384x4608) :=
  read_part main_arg2 main_v44 (fun X : Whole F S16384x4608 => regroup concatenates_S1024x4608_S1024x4608_S1024x4608_S1024x4608_S1024x4608_S1024x4608_S1024x4608_S1024x4608_S8192x4608_d0 (keepRows 1024) (by decide) X)
    (pre := mine0 ++ (theirs0 ++ (mine1 ++ (theirs1)))) (g := mine2) (post := theirs2 ++ (mine3 ++ (theirs3)))
    (Wpre := mine0Refs ++ (theirs0Refs ++ (mine1Refs ++ (theirs1Refs)))) (Wpost := theirs2Refs ++ (mine3Refs ++ (theirs3Refs)))
    rfl (fun V => by unfold mine2; after_results; rfl) rfl rfl (by decide) (by decide) V

theorem read_theirs2 (V : Valuation τ sig (Elt F)) : after ops V (Proc.devRef .tc main_v53)
    = regroup concatenates_S1024x4608_S1024x4608_S1024x4608_S1024x4608_S1024x4608_S1024x4608_S1024x4608_S1024x4608_S8192x4608_d0 (takeRows 1024) (by decide) (V (Proc.devRef .tc main_arg2) : Whole F S16384x4608) :=
  read_part main_arg2 main_v53 (fun X : Whole F S16384x4608 => regroup concatenates_S1024x4608_S1024x4608_S1024x4608_S1024x4608_S1024x4608_S1024x4608_S1024x4608_S1024x4608_S8192x4608_d0 (takeRows 1024) (by decide) X)
    (pre := mine0 ++ (theirs0 ++ (mine1 ++ (theirs1 ++ (mine2))))) (g := theirs2) (post := mine3 ++ (theirs3))
    (Wpre := mine0Refs ++ (theirs0Refs ++ (mine1Refs ++ (theirs1Refs ++ (mine2Refs))))) (Wpost := mine3Refs ++ (theirs3Refs))
    rfl (fun V => by unfold theirs2; after_results; rfl) rfl rfl (by decide) (by decide) V

theorem read_mine3 (V : Valuation τ sig (Elt F)) : after ops V (Proc.devRef .tc main_v62)
    = regroup concatenates_S4x256x2048_S4x256x2048_S4x256x2048_S4x256x2048_S4x256x2048_S4x256x2048_S4x256x2048_S4x256x2048_S32x256x2048_d0 keepSlabs (by decide) (V (Proc.devRef .tc main_arg3) : Whole F S32x512x2048) :=
  read_part main_arg3 main_v62 (fun X : Whole F S32x512x2048 => regroup concatenates_S4x256x2048_S4x256x2048_S4x256x2048_S4x256x2048_S4x256x2048_S4x256x2048_S4x256x2048_S4x256x2048_S32x256x2048_d0 keepSlabs (by decide) X)
    (pre := mine0 ++ (theirs0 ++ (mine1 ++ (theirs1 ++ (mine2 ++ (theirs2)))))) (g := mine3) (post := theirs3)
    (Wpre := mine0Refs ++ (theirs0Refs ++ (mine1Refs ++ (theirs1Refs ++ (mine2Refs ++ (theirs2Refs)))))) (Wpost := theirs3Refs)
    rfl (fun V => by unfold mine3; after_results; rfl) rfl rfl (by decide) (by decide) V

theorem read_theirs3 (V : Valuation τ sig (Elt F)) : after ops V (Proc.devRef .tc main_v71)
    = regroup concatenates_S4x256x2048_S4x256x2048_S4x256x2048_S4x256x2048_S4x256x2048_S4x256x2048_S4x256x2048_S4x256x2048_S32x256x2048_d0 takeSlabs (by decide) (V (Proc.devRef .tc main_arg3) : Whole F S32x512x2048) :=
  read_part main_arg3 main_v71 (fun X : Whole F S32x512x2048 => regroup concatenates_S4x256x2048_S4x256x2048_S4x256x2048_S4x256x2048_S4x256x2048_S4x256x2048_S4x256x2048_S4x256x2048_S32x256x2048_d0 takeSlabs (by decide) X)
    (pre := mine0 ++ (theirs0 ++ (mine1 ++ (theirs1 ++ (mine2 ++ (theirs2 ++ (mine3))))))) (g := theirs3) (post := [])
    (Wpre := mine0Refs ++ (theirs0Refs ++ (mine1Refs ++ (theirs1Refs ++ (mine2Refs ++ (theirs2Refs ++ (mine3Refs))))))) (Wpost := [])
    rfl (fun V => by unfold theirs3; after_results; rfl) rfl rfl (by decide) (by decide) V

end Cert.ExchangeHost

end
-- ==== Proof.ExchangeValue.lean ====
/-
# What the exchange of a chip's halves computes

Every device keeps the half of its own rows that falls to its core and receives the same half of its sibling's rows. So a
result on a device is the device's block of the array stacked from these halves.
-/
module

public import proofs.«01_k».proof.Proof.ExchangeRun
public import proofs.«01_k».proof.Proof.ExchangeHost
public import Idealize.ShloMosaic.Lib.Layout

@[expose] public section

noncomputable section

namespace Cert.ExchangeRun

open Idealize.ShloMosaic
open Idealize.ShloMosaic.TcCoe
open Idealize.SL.Sem
open Cert.ExchangeIdeal Cert.ExchangeIdeal.Gen Cert.Wires Cert.Mesh Cert.Blocks
open Cert.ExchangeHost (keepRows takeRows keepSlabs takeSlabs)

variable {F : FTy → Type} [FloatOps F]

/-- Where the kept and the sent halves begin, counted in the array of all devices. -/
theorem keep_rows (n : ℕ) (c : Fin 8) (off : Fin 2 → ℕ) (ho : off = ![n * (c.val % 2), 0]) (i : Fin 2) :
    (if i.val = 0 then c.val * (2 * n) else 0) + off i = keepRows n c i := by
  subst ho
  rcases i with ⟨_ | _ | k, hi⟩
  · show c.val * (2 * n) + n * (c.val % 2) = (2 * c.val + c.val % 2) * n
    rw [Nat.add_mul, Nat.mul_left_comm, Nat.mul_assoc, Nat.mul_comm n]
  · rfl
  · exact absurd hi (by omega)

theorem take_rows (n : ℕ) (c : Fin 8) (off : Fin 2 → ℕ) (ho : off = ![n - n * ((sib c).val % 2), 0]) (i : Fin 2) :
    (if i.val = 0 then (sib c).val * (2 * n) else 0) + off i = takeRows n c i := by
  have hs : n - n * ((sib c).val % 2) = (c.val % 2) * n := by
    have h := sib_odd c
    rcases Nat.mod_two_eq_zero_or_one c.val with hp | hp
    · rw [show (sib c).val % 2 = 1 by omega, hp]; omega
    · rw [show (sib c).val % 2 = 0 by omega, hp]; omega
  subst ho
  rcases i with ⟨_ | _ | k, hi⟩
  · show (sib c).val * (2 * n) + (n - n * ((sib c).val % 2)) = (2 * (sib c).val + c.val % 2) * n
    rw [hs, Nat.add_mul, Nat.mul_left_comm, Nat.mul_assoc]
  · rfl
  · exact absurd hi (by omega)

theorem keep_slabs (c : Fin 8) (off : Fin 3 → ℕ) (ho : off = ![0, 256 * (c.val % 2), 0]) (i : Fin 3) :
    (if i.val = 0 then c.val * 4 else 0) + off i = keepSlabs c i := by
  subst ho
  revert c i
  decide

theorem take_slabs (c : Fin 8) (off : Fin 3 → ℕ) (ho : off = ![0, 256 - 256 * ((sib c).val % 2), 0]) (i : Fin 3) :
    (if i.val = 0 then (sib c).val * 4 else 0) + off i = takeSlabs c i := by
  subst ho
  revert c i
  decide

variable (m : (ℓ : Loc nD τ sig) → Buf (Elt F) ℓ)

theorem mine0 {c : Dev nD} {μ : MemSt nD τ sig (Elt F)} (h : Ends m c μ) (X : (⟨2, ![16384, 8192]⟩ : Shape).Idx → F .bf16)
    (hX : ∀ d : Dev nD, m ((d.tc : Thread nD τ).loc main_arg0) = Layout.block ⟨2, ![2048, 8192]⟩ ⟨2, ![16384, 8192]⟩ 0 8 d X) (h8 : Eight ![1024, 8192] ![8192, 8192]) :
    μ.mem ((c.tc : Thread nD τ).loc main_v1_0) = Layout.block ⟨2, ![1024, 8192]⟩ ⟨2, ![8192, 8192]⟩ 0 8 c (regroup h8 (keepRows 1024) (by decide) X) :=
  slice_eq_block h8 (keepRows 1024) (by decide) X c c _ _ _ (hX c) (k0_off1 c) (k0_off1_inb c) (keep_rows 1024 c _ (k0_off1_eq c)) _ (congrFun (h.1.1 0))

theorem mine1 {c : Dev nD} {μ : MemSt nD τ sig (Elt F)} (h : Ends m c μ) (X : (⟨3, ![32, 512, 2048]⟩ : Shape).Idx → F .bf16)
    (hX : ∀ d : Dev nD, m ((d.tc : Thread nD τ).loc main_arg1) = Layout.block ⟨3, ![4, 512, 2048]⟩ ⟨3, ![32, 512, 2048]⟩ 0 8 d X) (h8 : Eight ![4, 256, 2048] ![32, 256, 2048]) :
    μ.mem ((c.tc : Thread nD τ).loc main_v1_1) = Layout.block ⟨3, ![4, 256, 2048]⟩ ⟨3, ![32, 256, 2048]⟩ 0 8 c (regroup h8 keepSlabs (by decide) X) :=
  slice_eq_block h8 keepSlabs (by decide) X c c _ _ _ (hX c) (k0_off3 c) (k0_off3_inb c) (keep_slabs c _ (k0_off3_eq c)) _ (congrFun (h.1.1 1))

theorem mine2 {c : Dev nD} {μ : MemSt nD τ sig (Elt F)} (h : Ends m c μ) (X : (⟨2, ![16384, 4608]⟩ : Shape).Idx → F .bf16)
    (hX : ∀ d : Dev nD, m ((d.tc : Thread nD τ).loc main_arg2) = Layout.block ⟨2, ![2048, 4608]⟩ ⟨2, ![16384, 4608]⟩ 0 8 d X) (h8 : Eight ![1024, 4608] ![8192, 4608]) :
    μ.mem ((c.tc : Thread nD τ).loc main_v1_2) = Layout.block ⟨2, ![1024, 4608]⟩ ⟨2, ![8192, 4608]⟩ 0 8 c (regroup h8 (keepRows 1024) (by decide) X) :=
  slice_eq_block h8 (keepRows 1024) (by decide) X c c _ _ _ (hX c) (k0_off5 c) (k0_off5_inb c) (keep_rows 1024 c _ (k0_off5_eq c)) _ (congrFun (h.1.1 2))

theorem mine3 {c : Dev nD} {μ : MemSt nD τ sig (Elt F)} (h : Ends m c μ) (X : (⟨3, ![32, 512, 2048]⟩ : Shape).Idx → F .bf16)
    (hX : ∀ d : Dev nD, m ((d.tc : Thread nD τ).loc main_arg3) = Layout.block ⟨3, ![4, 512, 2048]⟩ ⟨3, ![32, 512, 2048]⟩ 0 8 d X) (h8 : Eight ![4, 256, 2048] ![32, 256, 2048]) :
    μ.mem ((c.tc : Thread nD τ).loc main_v1_3) = Layout.block ⟨3, ![4, 256, 2048]⟩ ⟨3, ![32, 256, 2048]⟩ 0 8 c (regroup h8 keepSlabs (by decide) X) :=
  slice_eq_block h8 keepSlabs (by decide) X c c _ _ _ (hX c) (k0_off3 c) (k0_off3_inb c) (keep_slabs c _ (k0_off3_eq c)) _ (congrFun (h.1.1 3))

theorem theirs0 {c : Dev nD} {μ : MemSt nD τ sig (Elt F)} (h : Ends m c μ) (X : (⟨2, ![16384, 8192]⟩ : Shape).Idx → F .bf16)
    (hX : ∀ d : Dev nD, m ((d.tc : Thread nD τ).loc main_arg0) = Layout.block ⟨2, ![2048, 8192]⟩ ⟨2, ![16384, 8192]⟩ 0 8 d X) (h8 : Eight ![1024, 8192] ![8192, 8192]) :
    μ.mem ((c.tc : Thread nD τ).loc main_v1_4) = Layout.block ⟨2, ![1024, 8192]⟩ ⟨2, ![8192, 8192]⟩ 0 8 c (regroup h8 (takeRows 1024) (by decide) X) :=
  slice_eq_block h8 (takeRows 1024) (by decide) X c (sib c) _ _ _ (hX (sib c)) (k0_off2 (sib c)) (k0_off2_inb (sib c)) (take_rows 1024 c _ (k0_off2_eq (sib c))) _ (congrFun (h.1.2 0))

theorem theirs1 {c : Dev nD} {μ : MemSt nD τ sig (Elt F)} (h : Ends m c μ) (X : (⟨3, ![32, 512, 2048]⟩ : Shape).Idx → F .bf16)
    (hX : ∀ d : Dev nD, m ((d.tc : Thread nD τ).loc main_arg1) = Layout.block ⟨3, ![4, 512, 2048]⟩ ⟨3, ![32, 512, 2048]⟩ 0 8 d X) (h8 : Eight ![4, 256, 2048] ![32, 256, 2048]) :
    μ.mem ((c.tc : Thread nD τ).loc main_v1_5) = Layout.block ⟨3, ![4, 256, 2048]⟩ ⟨3, ![32, 256, 2048]⟩ 0 8 c (regroup h8 takeSlabs (by decide) X) :=
  slice_eq_block h8 takeSlabs (by decide) X c (sib c) _ _ _ (hX (sib c)) (k0_off4 (sib c)) (k0_off4_inb (sib c)) (take_slabs c _ (k0_off4_eq (sib c))) _ (congrFun (h.1.2 1))

theorem theirs2 {c : Dev nD} {μ : MemSt nD τ sig (Elt F)} (h : Ends m c μ) (X : (⟨2, ![16384, 4608]⟩ : Shape).Idx → F .bf16)
    (hX : ∀ d : Dev nD, m ((d.tc : Thread nD τ).loc main_arg2) = Layout.block ⟨2, ![2048, 4608]⟩ ⟨2, ![16384, 4608]⟩ 0 8 d X) (h8 : Eight ![1024, 4608] ![8192, 4608]) :
    μ.mem ((c.tc : Thread nD τ).loc main_v1_6) = Layout.block ⟨2, ![1024, 4608]⟩ ⟨2, ![8192, 4608]⟩ 0 8 c (regroup h8 (takeRows 1024) (by decide) X) :=
  slice_eq_block h8 (takeRows 1024) (by decide) X c (sib c) _ _ _ (hX (sib c)) (k0_off6 (sib c)) (k0_off6_inb (sib c)) (take_rows 1024 c _ (k0_off6_eq (sib c))) _ (congrFun (h.1.2 2))

theorem theirs3 {c : Dev nD} {μ : MemSt nD τ sig (Elt F)} (h : Ends m c μ) (X : (⟨3, ![32, 512, 2048]⟩ : Shape).Idx → F .bf16)
    (hX : ∀ d : Dev nD, m ((d.tc : Thread nD τ).loc main_arg3) = Layout.block ⟨3, ![4, 512, 2048]⟩ ⟨3, ![32, 512, 2048]⟩ 0 8 d X) (h8 : Eight ![4, 256, 2048] ![32, 256, 2048]) :
    μ.mem ((c.tc : Thread nD τ).loc main_v1_7) = Layout.block ⟨3, ![4, 256, 2048]⟩ ⟨3, ![32, 256, 2048]⟩ 0 8 c (regroup h8 takeSlabs (by decide) X) :=
  slice_eq_block h8 takeSlabs (by decide) X c (sib c) _ _ _ (hX (sib c)) (k0_off4 (sib c)) (k0_off4_inb (sib c)) (take_slabs c _ (k0_off4_eq (sib c))) _ (congrFun (h.1.2 3))

end Cert.ExchangeRun

end
-- ==== Proof.ExchangeClaims.lean ====
/-
# The claims about the exchange of a chip's halves

Both frames from one run, the reference's frames, and the two value claims.
-/
module

public import proofs.«01_k».proof.Defs
public import proofs.«01_k».proof.Proof.ExchangeValue
public import proofs.«01_k».proof.Proof.Gen.Exchange
public import proofs.«01_k».proof.Proof.Gen.ExchangeRef
public import Idealize.ShloMosaic.Lib.StableHlo.Run

@[expose] public section

noncomputable section

namespace Cert.ExchangeClaims

open Idealize.ShloMosaic Idealize.ShloMosaic.TcCoe Idealize.ShloMosaic.StableHlo
open Idealize.SL.Sem
open Cert.ExchangeRun Cert.Blocks
open Cert.ExchangeHost (keepRows takeRows keepSlabs takeSlabs)

theorem frame_ideal : Cert.quiescent_ExchangeIdeal := fun m g _ =>
  (θ_run Cert.ExchangeIdeal.defs _ _).mono (fun _ h => ⟨fun c => ⟨(h.1 c).2 0, (h.1 c).2 1, (h.1 c).2 2, (h.1 c).2 3⟩, h.2⟩) (run_main (F := Ideal) m g)

theorem frame_kernel : Cert.quiescent_Exchange := fun m g _ =>
  (θ_run Cert.ExchangeIdeal.defs _ _).mono (fun _ h => ⟨fun c => ⟨(h.1 c).2 0, (h.1 c).2 1, (h.1 c).2 2, (h.1 c).2 3⟩, h.2⟩) (run_main (F := Bits) m g)

theorem ops_sub {F : FTy → Type} [FloatOps F] :
    (ExchangeHost.ops (F := F)).Forall fun op => op.bufs ⊆ tcRefs Cert.ExchangeRefIdeal.τ Cert.ExchangeRefIdeal.sig := by
  simp only [ExchangeHost.ops, List.forall_append, ExchangeHost.mine0, ExchangeHost.mine1, ExchangeHost.mine2, ExchangeHost.mine3, ExchangeHost.theirs0, ExchangeHost.theirs1, ExchangeHost.theirs2, ExchangeHost.theirs3, List.Forall, unary_bufs_sub, nary_bufs_sub, and_self]

/-- The array stacked from the halves the devices keep. -/
def kept_wide {α : Type} (X : (⟨2, ![16384, 8192]⟩ : Shape).Idx → α) : (⟨2, ![8192, 8192]⟩ : Shape).Idx → α :=
  regroup (s := ![1024, 8192]) (t := ![16384, 8192]) (u := ![8192, 8192]) (by decide) (keepRows 1024) (by decide) X

/-- The array stacked from the halves the devices keep. -/
def kept_slab {α : Type} (X : (⟨3, ![32, 512, 2048]⟩ : Shape).Idx → α) : (⟨3, ![32, 256, 2048]⟩ : Shape).Idx → α :=
  regroup (s := ![4, 256, 2048]) (t := ![32, 512, 2048]) (u := ![32, 256, 2048]) (by decide) keepSlabs (by decide) X

/-- The array stacked from the halves the devices keep. -/
def kept_tall {α : Type} (X : (⟨2, ![16384, 4608]⟩ : Shape).Idx → α) : (⟨2, ![8192, 4608]⟩ : Shape).Idx → α :=
  regroup (s := ![1024, 4608]) (t := ![16384, 4608]) (u := ![8192, 4608]) (by decide) (keepRows 1024) (by decide) X

/-- The array stacked from the halves they receive. -/
def taken_wide {α : Type} (X : (⟨2, ![16384, 8192]⟩ : Shape).Idx → α) : (⟨2, ![8192, 8192]⟩ : Shape).Idx → α :=
  regroup (s := ![1024, 8192]) (t := ![16384, 8192]) (u := ![8192, 8192]) (by decide) (takeRows 1024) (by decide) X

/-- The array stacked from the halves they receive. -/
def taken_slab {α : Type} (X : (⟨3, ![32, 512, 2048]⟩ : Shape).Idx → α) : (⟨3, ![32, 256, 2048]⟩ : Shape).Idx → α :=
  regroup (s := ![4, 256, 2048]) (t := ![32, 512, 2048]) (u := ![32, 256, 2048]) (by decide) takeSlabs (by decide) X

/-- The array stacked from the halves they receive. -/
def taken_tall {α : Type} (X : (⟨2, ![16384, 4608]⟩ : Shape).Idx → α) : (⟨2, ![8192, 4608]⟩ : Shape).Idx → α :=
  regroup (s := ![1024, 4608]) (t := ![16384, 4608]) (u := ![8192, 4608]) (by decide) (takeRows 1024) (by decide) X

/-- What the reference ends with: its results, and its arguments as they were. -/
def RefEnds {F : FTy → Type} (m μ : (ℓ : Loc Cert.ExchangeRefIdeal.nD Cert.ExchangeRefIdeal.τ Cert.ExchangeRefIdeal.sig) → Buf (Elt F) ℓ) (d : Dev Cert.ExchangeRefIdeal.nD) : Prop :=
  μ ((d.tc : Thread Cert.ExchangeRefIdeal.nD Cert.ExchangeRefIdeal.τ).loc Cert.ExchangeRefIdeal.main_v8) = kept_wide (m ((d.tc : Thread Cert.ExchangeRefIdeal.nD Cert.ExchangeRefIdeal.τ).loc Cert.ExchangeRefIdeal.main_arg0))
  ∧ μ ((d.tc : Thread Cert.ExchangeRefIdeal.nD Cert.ExchangeRefIdeal.τ).loc Cert.ExchangeRefIdeal.main_v26) = kept_slab (m ((d.tc : Thread Cert.ExchangeRefIdeal.nD Cert.ExchangeRefIdeal.τ).loc Cert.ExchangeRefIdeal.main_arg1))
  ∧ μ ((d.tc : Thread Cert.ExchangeRefIdeal.nD Cert.ExchangeRefIdeal.τ).loc Cert.ExchangeRefIdeal.main_v44) = kept_tall (m ((d.tc : Thread Cert.ExchangeRefIdeal.nD Cert.ExchangeRefIdeal.τ).loc Cert.ExchangeRefIdeal.main_arg2))
  ∧ μ ((d.tc : Thread Cert.ExchangeRefIdeal.nD Cert.ExchangeRefIdeal.τ).loc Cert.ExchangeRefIdeal.main_v62) = kept_slab (m ((d.tc : Thread Cert.ExchangeRefIdeal.nD Cert.ExchangeRefIdeal.τ).loc Cert.ExchangeRefIdeal.main_arg3))
  ∧ μ ((d.tc : Thread Cert.ExchangeRefIdeal.nD Cert.ExchangeRefIdeal.τ).loc Cert.ExchangeRefIdeal.main_v17) = taken_wide (m ((d.tc : Thread Cert.ExchangeRefIdeal.nD Cert.ExchangeRefIdeal.τ).loc Cert.ExchangeRefIdeal.main_arg0))
  ∧ μ ((d.tc : Thread Cert.ExchangeRefIdeal.nD Cert.ExchangeRefIdeal.τ).loc Cert.ExchangeRefIdeal.main_v35) = taken_slab (m ((d.tc : Thread Cert.ExchangeRefIdeal.nD Cert.ExchangeRefIdeal.τ).loc Cert.ExchangeRefIdeal.main_arg1))
  ∧ μ ((d.tc : Thread Cert.ExchangeRefIdeal.nD Cert.ExchangeRefIdeal.τ).loc Cert.ExchangeRefIdeal.main_v53) = taken_tall (m ((d.tc : Thread Cert.ExchangeRefIdeal.nD Cert.ExchangeRefIdeal.τ).loc Cert.ExchangeRefIdeal.main_arg2))
  ∧ μ ((d.tc : Thread Cert.ExchangeRefIdeal.nD Cert.ExchangeRefIdeal.τ).loc Cert.ExchangeRefIdeal.main_v71) = taken_slab (m ((d.tc : Thread Cert.ExchangeRefIdeal.nD Cert.ExchangeRefIdeal.τ).loc Cert.ExchangeRefIdeal.main_arg3))
  ∧ μ ((d.tc : Thread Cert.ExchangeRefIdeal.nD Cert.ExchangeRefIdeal.τ).loc Cert.ExchangeRefIdeal.main_arg0) = m ((d.tc : Thread Cert.ExchangeRefIdeal.nD Cert.ExchangeRefIdeal.τ).loc Cert.ExchangeRefIdeal.main_arg0)
  ∧ μ ((d.tc : Thread Cert.ExchangeRefIdeal.nD Cert.ExchangeRefIdeal.τ).loc Cert.ExchangeRefIdeal.main_arg1) = m ((d.tc : Thread Cert.ExchangeRefIdeal.nD Cert.ExchangeRefIdeal.τ).loc Cert.ExchangeRefIdeal.main_arg1)
  ∧ μ ((d.tc : Thread Cert.ExchangeRefIdeal.nD Cert.ExchangeRefIdeal.τ).loc Cert.ExchangeRefIdeal.main_arg2) = m ((d.tc : Thread Cert.ExchangeRefIdeal.nD Cert.ExchangeRefIdeal.τ).loc Cert.ExchangeRefIdeal.main_arg2)
  ∧ μ ((d.tc : Thread Cert.ExchangeRefIdeal.nD Cert.ExchangeRefIdeal.τ).loc Cert.ExchangeRefIdeal.main_arg3) = m ((d.tc : Thread Cert.ExchangeRefIdeal.nD Cert.ExchangeRefIdeal.τ).loc Cert.ExchangeRefIdeal.main_arg3)

theorem run_ref {F : FTy → Type} [FloatOps F] (m : (ℓ : Loc Cert.ExchangeRefIdeal.nD Cert.ExchangeRefIdeal.τ Cert.ExchangeRefIdeal.sig) → Buf (Elt F) ℓ) (g : Dev Cert.ExchangeRefIdeal.nD → PrngReg) :
    θ_run (Cert.ExchangeRefIdeal.defs (F := F)) (onTc (τ := Cert.ExchangeRefIdeal.τ) (Cert.ExchangeRefIdeal.main (F := F))) ⟨m, fun _ => 0, g⟩ fun r =>
      (∀ d, RefEnds m r.2.mem d) ∧ r.2.sem = fun _ => 0 :=
  (θ_run Cert.ExchangeRefIdeal.defs _ _).mono
    (fun r h => ⟨fun d => ⟨(h d _).trans (ExchangeHost.read_mine0 _), (h d _).trans (ExchangeHost.read_mine1 _), (h d _).trans (ExchangeHost.read_mine2 _), (h d _).trans (ExchangeHost.read_mine3 _), (h d _).trans (ExchangeHost.read_theirs0 _), (h d _).trans (ExchangeHost.read_theirs1 _), (h d _).trans (ExchangeHost.read_theirs2 _), (h d _).trans (ExchangeHost.read_theirs3 _),
      (h d _).trans (ExchangeHost.kept _ _ (by decide)), (h d _).trans (ExchangeHost.kept _ _ (by decide)), (h d _).trans (ExchangeHost.kept _ _ (by decide)), (h d _).trans (ExchangeHost.kept _ _ (by decide))⟩, sem_eq_zero_of_no_sems (by decide) r.2⟩)
    (run_seq (by decide) (by decide) Cert.ExchangeRefIdeal.defs Cert.ExchangeRefIdeal.main (fun _ => ExchangeHost.ops) ExchangeHost.main_eq (fun _ => ops_sub) m g
      (fun _ => List.forall_iff_forall_mem.mp (forall_fresh_of_map rfl)))

theorem frame_ref_ideal : Cert.quiescent_ExchangeRefIdeal := fun m g _ =>
  (θ_run Cert.ExchangeRefIdeal.defs _ _).mono (fun _ h => ⟨fun c => (h.1 c).2.2.2.2.2.2.2.2, h.2⟩) (run_ref (F := Ideal) m g)

theorem frame_ref : Cert.quiescent_ExchangeRef := fun m g _ =>
  (θ_run Cert.ExchangeRefIdeal.defs _ _).mono (fun _ h => ⟨fun c => (h.1 c).2.2.2.2.2.2.2.2, h.2⟩) (run_ref (F := Bits) m g)

/-- What the kernel ends with on device `c` when the devices' arguments are the blocks of `X0` to `X3`. -/
def KerEnds {F : FTy → Type} (m μ : (ℓ : Loc Cert.ExchangeIdeal.nD Cert.ExchangeIdeal.τ Cert.ExchangeIdeal.sig) → Buf (Elt F) ℓ)
    (X0 : (⟨2, ![16384, 8192]⟩ : Shape).Idx → F .bf16) (X1 : (⟨3, ![32, 512, 2048]⟩ : Shape).Idx → F .bf16) (X2 : (⟨2, ![16384, 4608]⟩ : Shape).Idx → F .bf16) (X3 : (⟨3, ![32, 512, 2048]⟩ : Shape).Idx → F .bf16) (c : Dev Cert.ExchangeIdeal.nD) : Prop :=
  μ ((c.tc : Thread Cert.ExchangeIdeal.nD Cert.ExchangeIdeal.τ).loc Cert.ExchangeIdeal.main_v1_0) = Layout.block ⟨2, ![1024, 8192]⟩ ⟨2, ![8192, 8192]⟩ 0 8 c (kept_wide X0)
  ∧ μ ((c.tc : Thread Cert.ExchangeIdeal.nD Cert.ExchangeIdeal.τ).loc Cert.ExchangeIdeal.main_v1_1) = Layout.block ⟨3, ![4, 256, 2048]⟩ ⟨3, ![32, 256, 2048]⟩ 0 8 c (kept_slab X1)
  ∧ μ ((c.tc : Thread Cert.ExchangeIdeal.nD Cert.ExchangeIdeal.τ).loc Cert.ExchangeIdeal.main_v1_2) = Layout.block ⟨2, ![1024, 4608]⟩ ⟨2, ![8192, 4608]⟩ 0 8 c (kept_tall X2)
  ∧ μ ((c.tc : Thread Cert.ExchangeIdeal.nD Cert.ExchangeIdeal.τ).loc Cert.ExchangeIdeal.main_v1_3) = Layout.block ⟨3, ![4, 256, 2048]⟩ ⟨3, ![32, 256, 2048]⟩ 0 8 c (kept_slab X3)
  ∧ μ ((c.tc : Thread Cert.ExchangeIdeal.nD Cert.ExchangeIdeal.τ).loc Cert.ExchangeIdeal.main_v1_4) = Layout.block ⟨2, ![1024, 8192]⟩ ⟨2, ![8192, 8192]⟩ 0 8 c (taken_wide X0)
  ∧ μ ((c.tc : Thread Cert.ExchangeIdeal.nD Cert.ExchangeIdeal.τ).loc Cert.ExchangeIdeal.main_v1_5) = Layout.block ⟨3, ![4, 256, 2048]⟩ ⟨3, ![32, 256, 2048]⟩ 0 8 c (taken_slab X1)
  ∧ μ ((c.tc : Thread Cert.ExchangeIdeal.nD Cert.ExchangeIdeal.τ).loc Cert.ExchangeIdeal.main_v1_6) = Layout.block ⟨2, ![1024, 4608]⟩ ⟨2, ![8192, 4608]⟩ 0 8 c (taken_tall X2)
  ∧ μ ((c.tc : Thread Cert.ExchangeIdeal.nD Cert.ExchangeIdeal.τ).loc Cert.ExchangeIdeal.main_v1_7) = Layout.block ⟨3, ![4, 256, 2048]⟩ ⟨3, ![32, 256, 2048]⟩ 0 8 c (taken_slab X3)
  ∧ μ ((c.tc : Thread Cert.ExchangeIdeal.nD Cert.ExchangeIdeal.τ).loc Cert.ExchangeIdeal.main_arg0) = m ((c.tc : Thread Cert.ExchangeIdeal.nD Cert.ExchangeIdeal.τ).loc Cert.ExchangeIdeal.main_arg0)
  ∧ μ ((c.tc : Thread Cert.ExchangeIdeal.nD Cert.ExchangeIdeal.τ).loc Cert.ExchangeIdeal.main_arg1) = m ((c.tc : Thread Cert.ExchangeIdeal.nD Cert.ExchangeIdeal.τ).loc Cert.ExchangeIdeal.main_arg1)
  ∧ μ ((c.tc : Thread Cert.ExchangeIdeal.nD Cert.ExchangeIdeal.τ).loc Cert.ExchangeIdeal.main_arg2) = m ((c.tc : Thread Cert.ExchangeIdeal.nD Cert.ExchangeIdeal.τ).loc Cert.ExchangeIdeal.main_arg2)
  ∧ μ ((c.tc : Thread Cert.ExchangeIdeal.nD Cert.ExchangeIdeal.τ).loc Cert.ExchangeIdeal.main_arg3) = m ((c.tc : Thread Cert.ExchangeIdeal.nD Cert.ExchangeIdeal.τ).loc Cert.ExchangeIdeal.main_arg3)

theorem run_ker {F : FTy → Type} [FloatOps F] (m : (ℓ : Loc Cert.ExchangeIdeal.nD Cert.ExchangeIdeal.τ Cert.ExchangeIdeal.sig) → Buf (Elt F) ℓ) (g : Dev Cert.ExchangeIdeal.nD → PrngReg)
    (X0 : (⟨2, ![16384, 8192]⟩ : Shape).Idx → F .bf16) (X1 : (⟨3, ![32, 512, 2048]⟩ : Shape).Idx → F .bf16) (X2 : (⟨2, ![16384, 4608]⟩ : Shape).Idx → F .bf16) (X3 : (⟨3, ![32, 512, 2048]⟩ : Shape).Idx → F .bf16)
    (hin : ∀ c : Dev Cert.ExchangeIdeal.nD, m ((c.tc : Thread Cert.ExchangeIdeal.nD Cert.ExchangeIdeal.τ).loc Cert.ExchangeIdeal.main_arg0) = Layout.block ⟨2, ![2048, 8192]⟩ ⟨2, ![16384, 8192]⟩ 0 8 c X0 ∧ m ((c.tc : Thread Cert.ExchangeIdeal.nD Cert.ExchangeIdeal.τ).loc Cert.ExchangeIdeal.main_arg1) = Layout.block ⟨3, ![4, 512, 2048]⟩ ⟨3, ![32, 512, 2048]⟩ 0 8 c X1 ∧ m ((c.tc : Thread Cert.ExchangeIdeal.nD Cert.ExchangeIdeal.τ).loc Cert.ExchangeIdeal.main_arg2) = Layout.block ⟨2, ![2048, 4608]⟩ ⟨2, ![16384, 4608]⟩ 0 8 c X2 ∧ m ((c.tc : Thread Cert.ExchangeIdeal.nD Cert.ExchangeIdeal.τ).loc Cert.ExchangeIdeal.main_arg3) = Layout.block ⟨3, ![4, 512, 2048]⟩ ⟨3, ![32, 512, 2048]⟩ 0 8 c X3) :
    θ_run (Cert.ExchangeIdeal.defs (F := F)) (onTc (τ := Cert.ExchangeIdeal.τ) (Cert.ExchangeIdeal.main (F := F))) ⟨m, fun _ => 0, g⟩ fun r => ∀ c, KerEnds m r.2.mem X0 X1 X2 X3 c :=
  (θ_run Cert.ExchangeIdeal.defs _ _).mono (fun _ h c =>
    ⟨mine0 m (h.1 c) X0 (fun d => (hin d).1) _, mine1 m (h.1 c) X1 (fun d => (hin d).2.1) _, mine2 m (h.1 c) X2 (fun d => (hin d).2.2.1) _, mine3 m (h.1 c) X3 (fun d => (hin d).2.2.2) _, theirs0 m (h.1 c) X0 (fun d => (hin d).1) _, theirs1 m (h.1 c) X1 (fun d => (hin d).2.1) _, theirs2 m (h.1 c) X2 (fun d => (hin d).2.2.1) _, theirs3 m (h.1 c) X3 (fun d => (hin d).2.2.2) _,
      (h.1 c).2 0, (h.1 c).2 1, (h.1 c).2 2, (h.1 c).2 3⟩) (run_main m g)

theorem algebraic : Cert.algebraic_ExchangeIdeal_ExchangeRefIdeal := fun m g m' g' _ hin =>
  ⟨kept_wide (m' (((0 : Dev Cert.ExchangeRefIdeal.nD).tc : Thread Cert.ExchangeRefIdeal.nD Cert.ExchangeRefIdeal.τ).loc Cert.ExchangeRefIdeal.main_arg0)), kept_slab (m' (((0 : Dev Cert.ExchangeRefIdeal.nD).tc : Thread Cert.ExchangeRefIdeal.nD Cert.ExchangeRefIdeal.τ).loc Cert.ExchangeRefIdeal.main_arg1)), kept_tall (m' (((0 : Dev Cert.ExchangeRefIdeal.nD).tc : Thread Cert.ExchangeRefIdeal.nD Cert.ExchangeRefIdeal.τ).loc Cert.ExchangeRefIdeal.main_arg2)), kept_slab (m' (((0 : Dev Cert.ExchangeRefIdeal.nD).tc : Thread Cert.ExchangeRefIdeal.nD Cert.ExchangeRefIdeal.τ).loc Cert.ExchangeRefIdeal.main_arg3)), taken_wide (m' (((0 : Dev Cert.ExchangeRefIdeal.nD).tc : Thread Cert.ExchangeRefIdeal.nD Cert.ExchangeRefIdeal.τ).loc Cert.ExchangeRefIdeal.main_arg0)), taken_slab (m' (((0 : Dev Cert.ExchangeRefIdeal.nD).tc : Thread Cert.ExchangeRefIdeal.nD Cert.ExchangeRefIdeal.τ).loc Cert.ExchangeRefIdeal.main_arg1)), taken_tall (m' (((0 : Dev Cert.ExchangeRefIdeal.nD).tc : Thread Cert.ExchangeRefIdeal.nD Cert.ExchangeRefIdeal.τ).loc Cert.ExchangeRefIdeal.main_arg2)), taken_slab (m' (((0 : Dev Cert.ExchangeRefIdeal.nD).tc : Thread Cert.ExchangeRefIdeal.nD Cert.ExchangeRefIdeal.τ).loc Cert.ExchangeRefIdeal.main_arg3)),
    run_ker m g _ _ _ _ hin, (θ_run Cert.ExchangeRefIdeal.defs _ _).mono (fun _ h => h.1 0) (run_ref m' g')⟩

theorem bitexact : Cert.bitexact_Exchange_ExchangeRef := fun m g m' g' _ hin =>
  ⟨kept_wide (m' (((0 : Dev Cert.ExchangeRefIdeal.nD).tc : Thread Cert.ExchangeRefIdeal.nD Cert.ExchangeRefIdeal.τ).loc Cert.ExchangeRefIdeal.main_arg0)), kept_slab (m' (((0 : Dev Cert.ExchangeRefIdeal.nD).tc : Thread Cert.ExchangeRefIdeal.nD Cert.ExchangeRefIdeal.τ).loc Cert.ExchangeRefIdeal.main_arg1)), kept_tall (m' (((0 : Dev Cert.ExchangeRefIdeal.nD).tc : Thread Cert.ExchangeRefIdeal.nD Cert.ExchangeRefIdeal.τ).loc Cert.ExchangeRefIdeal.main_arg2)), kept_slab (m' (((0 : Dev Cert.ExchangeRefIdeal.nD).tc : Thread Cert.ExchangeRefIdeal.nD Cert.ExchangeRefIdeal.τ).loc Cert.ExchangeRefIdeal.main_arg3)), taken_wide (m' (((0 : Dev Cert.ExchangeRefIdeal.nD).tc : Thread Cert.ExchangeRefIdeal.nD Cert.ExchangeRefIdeal.τ).loc Cert.ExchangeRefIdeal.main_arg0)), taken_slab (m' (((0 : Dev Cert.ExchangeRefIdeal.nD).tc : Thread Cert.ExchangeRefIdeal.nD Cert.ExchangeRefIdeal.τ).loc Cert.ExchangeRefIdeal.main_arg1)), taken_tall (m' (((0 : Dev Cert.ExchangeRefIdeal.nD).tc : Thread Cert.ExchangeRefIdeal.nD Cert.ExchangeRefIdeal.τ).loc Cert.ExchangeRefIdeal.main_arg2)), taken_slab (m' (((0 : Dev Cert.ExchangeRefIdeal.nD).tc : Thread Cert.ExchangeRefIdeal.nD Cert.ExchangeRefIdeal.τ).loc Cert.ExchangeRefIdeal.main_arg3)),
    run_ker m g _ _ _ _ hin, (θ_run Cert.ExchangeRefIdeal.defs _ _).mono (fun _ h => h.1 0) (run_ref m' g')⟩

end Cert.ExchangeClaims

end
-- ==== Proof.GatherPlan.lean ====
/-
# The gather of the weights

Each device holds one shard of four weights and one small array, the same on both cores of a chip. It copies them into its
own results, sends one half of each shard (the half of its core) and the small array to the other three chips, and passes
every half that arrives on to its sibling. So a device has twelve copies that wait for an arrival before they are issued.
-/
module

public import proofs.«01_k».proof.Proof.Lines
public import proofs.«01_k».proof.Proof.Mesh
public import proofs.«01_k».proof.Proof.Gen.GatherIdeal.Skeleton
public import proofs.«01_k».proof.Proof.Gen.GatherIdeal.Launch

@[expose] public section

noncomputable section

namespace Cert.GatherRun

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.GatherIdeal Cert.GatherIdeal.Gen Cert.Wires Cert.Mesh

variable {F : FTy → Type} [FloatOps F]

local notation "𝕄" => MT nD τ sig Unit (Elt F) ℕ (UU nD τ sig) ℕ

/-- The copies inside a device: one for each weight, and the small array. -/
abbrev Here : Type := Fin 4 ⊕ Unit
/-- The copies to other devices: the halves and the small array to each other chip, and the halves passed on. -/
abbrev There : Type := ((Fin 4 × Fin 3) ⊕ Fin 3) ⊕ (Fin 4 × Fin 3)

/-- The place of half a shard in a gathered weight, from its corner. -/
def spot0 (o : Fin 2 → Nat) (h : ∀ a, o a + S1024x2048.size a ≤ S2048x8192.size a) : Memref sig .tc .hbm S1024x2048 .bf16 :=
  (Memref.whole main_v1_0).slice (Rect.unit (s := S2048x8192) o S1024x2048.size h) (fun _ => rfl)
def spot1 (o : Fin 2 → Nat) (h : ∀ a, o a + S256x2048.size a ≤ S2048x2048.size a) : Memref sig .tc .hbm S256x2048 .bf16 :=
  (Memref.whole main_v1_1).slice (Rect.unit (s := S2048x2048) o S256x2048.size h) (fun _ => rfl)
def spot2 (o : Fin 2 → Nat) (h : ∀ a, o a + S1024x1152.size a ≤ S2048x4608.size a) : Memref sig .tc .hbm S1024x1152 .bf16 :=
  (Memref.whole main_v1_2).slice (Rect.unit (s := S2048x4608) o S1024x1152.size h) (fun _ => rfl)
def spot3 (o : Fin 2 → Nat) (h : ∀ a, o a + S256x2048.size a ≤ S2048x2048.size a) : Memref sig .tc .hbm S256x2048 .bf16 :=
  (Memref.whole main_v1_3).slice (Rect.unit (s := S2048x2048) o S256x2048.size h) (fun _ => rfl)

/-- The place of a small array. -/
def spot4 (c : Dev nD) : Memref sig .tc .hbm S8x512 .f32 :=
  ((Memref.whole main_v1_4).slice (Rect.unit (s := S4x8x512) (k0_off4 c) S1x8x512.size (k0_off4_inb c)) (fun _ => rfl)).squeeze S8x512 squeezes_S1x8x512_S8x512

/-- The place of device `c`'s own shard. -/
def region0 (c : Dev nD) : Memref sig .tc .hbm S2048x2048 .bf16 :=
  (Memref.whole main_v1_0).slice (Rect.unit (s := S2048x8192) (k0_off1 c) S2048x2048.size (k0_off1_inb c)) (fun _ => rfl)
def region1 (c : Dev nD) : Memref sig .tc .hbm S512x2048 .bf16 :=
  (Memref.whole main_v1_1).slice (Rect.unit (s := S2048x2048) (k0_off2 c) S512x2048.size (k0_off2_inb c)) (fun _ => rfl)
def region2 (c : Dev nD) : Memref sig .tc .hbm S2048x1152 .bf16 :=
  (Memref.whole main_v1_2).slice (Rect.unit (s := S2048x4608) (k0_off3 c) S2048x1152.size (k0_off3_inb c)) (fun _ => rfl)
def region3 (c : Dev nD) : Memref sig .tc .hbm S512x2048 .bf16 :=
  (Memref.whole main_v1_3).slice (Rect.unit (s := S2048x2048) (k0_off2 c) S512x2048.size (k0_off2_inb c)) (fun _ => rfl)

/-- The half of its shard that device `c` sends. -/
def half0 (c : Dev nD) : Memref sig .tc .hbm S1024x2048 .bf16 :=
  (Memref.whole main_arg0).slice (Rect.unit (s := S2048x2048) (k0_off5 c) S1024x2048.size (k0_off5_inb c)) (fun _ => rfl)
def half1 (c : Dev nD) : Memref sig .tc .hbm S256x2048 .bf16 :=
  (Memref.whole main_arg1).slice (Rect.unit (s := S512x2048) (k0_off7 c) S256x2048.size (k0_off7_inb c)) (fun _ => rfl)
def half2 (c : Dev nD) : Memref sig .tc .hbm S1024x1152 .bf16 :=
  (Memref.whole main_arg2).slice (Rect.unit (s := S2048x1152) (k0_off9 c) S1024x1152.size (k0_off9_inb c)) (fun _ => rfl)
def half3 (c : Dev nD) : Memref sig .tc .hbm S256x2048 .bf16 :=
  (Memref.whole main_arg3).slice (Rect.unit (s := S512x2048) (k0_off7 c) S256x2048.size (k0_off7_inb c)) (fun _ => rfl)

def near : Here → Dev nD → Wire sig
  | .inl 0, c => ⟨.hbm, .hbm, S2048x2048, .bf16, Memref.whole main_arg0, region0 c⟩
  | .inl 1, c => ⟨.hbm, .hbm, S512x2048, .bf16, Memref.whole main_arg1, region1 c⟩
  | .inl 2, c => ⟨.hbm, .hbm, S2048x1152, .bf16, Memref.whole main_arg2, region2 c⟩
  | .inl 3, c => ⟨.hbm, .hbm, S512x2048, .bf16, Memref.whole main_arg3, region3 c⟩
  | .inr (), c => ⟨.hbm, .hbm, S8x512, .f32, Memref.whole main_arg4, spot4 c⟩

def far : There → Dev nD → Wire sig
  | .inl (.inl (0, r)), c => ⟨.hbm, .hbm, S1024x2048, .bf16, half0 c, spot0 (k0_off6 c) (k0_off6_inb c)⟩
  | .inl (.inl (1, r)), c => ⟨.hbm, .hbm, S256x2048, .bf16, half1 c, spot1 (k0_off8 c) (k0_off8_inb c)⟩
  | .inl (.inl (2, r)), c => ⟨.hbm, .hbm, S1024x1152, .bf16, half2 c, spot2 (k0_off10 c) (k0_off10_inb c)⟩
  | .inl (.inl (3, r)), c => ⟨.hbm, .hbm, S256x2048, .bf16, half3 c, spot3 (k0_off8 c) (k0_off8_inb c)⟩
  | .inl (.inr r), c => ⟨.hbm, .hbm, S8x512, .f32, Memref.whole main_arg4, spot4 c⟩
  | .inr (0, r), c => ⟨.hbm, .hbm, S1024x2048, .bf16, spot0 (k0_off12 c (k0_off12_at r).1 (k0_off12_at r).2) (k0_off12_inb c r), spot0 (k0_off12 c (k0_off12_at r).1 (k0_off12_at r).2) (k0_off12_inb c r)⟩
  | .inr (1, r), c => ⟨.hbm, .hbm, S256x2048, .bf16, spot1 (k0_off14 c (k0_off14_at r).1 (k0_off14_at r).2) (k0_off14_inb c r), spot1 (k0_off14 c (k0_off14_at r).1 (k0_off14_at r).2) (k0_off14_inb c r)⟩
  | .inr (2, r), c => ⟨.hbm, .hbm, S1024x1152, .bf16, spot2 (k0_off16 c (k0_off16_at r).1 (k0_off16_at r).2) (k0_off16_inb c r), spot2 (k0_off16 c (k0_off16_at r).1 (k0_off16_at r).2) (k0_off16_inb c r)⟩
  | .inr (3, r), c => ⟨.hbm, .hbm, S256x2048, .bf16, spot3 (k0_off14 c (k0_off14_at r).1 (k0_off14_at r).2) (k0_off14_inb c r), spot3 (k0_off14 c (k0_off14_at r).1 (k0_off14_at r).2) (k0_off14_inb c r)⟩

def semOf : Key Here There → DmaSem sig
  | .out (.inl (.inl b)) => ⟨4 * b.2.val + b.1.val, by have := b.1.isLt; have := b.2.isLt; show 4 * b.2.val + b.1.val < 59; omega⟩
  | .inn (.inl (.inl b)) => ⟨12 + (4 * b.2.val + b.1.val), by have := b.1.isLt; have := b.2.isLt; show 12 + (4 * b.2.val + b.1.val) < 59; omega⟩
  | .out (.inr b) => ⟨24 + (4 * b.2.val + b.1.val), by have := b.1.isLt; have := b.2.isLt; show 24 + (4 * b.2.val + b.1.val) < 59; omega⟩
  | .inn (.inr b) => ⟨36 + (4 * b.2.val + b.1.val), by have := b.1.isLt; have := b.2.isLt; show 36 + (4 * b.2.val + b.1.val) < 59; omega⟩
  | .out (.inl (.inr r)) => ⟨48 + r.val, by have := r.isLt; show 48 + r.val < 59; omega⟩
  | .inn (.inl (.inr r)) => ⟨51 + r.val, by have := r.isLt; show 51 + r.val < 59; omega⟩
  | .here (.inl i) => ⟨54 + i.val, by have := i.isLt; show 54 + i.val < 59; omega⟩
  | .here (.inr ()) => ⟨58, by decide⟩

def peerOf : There → Dev nD → Dev nD
  | .inl (.inl p) => other p.2
  | .inl (.inr r) => other r
  | .inr _ => sib

theorem peer_peer : ∀ (b : There) (c : Dev nD), peerOf b (peerOf b c) = c
  | .inl (.inl p), c => other_other p.2 c
  | .inl (.inr r), c => other_other r c
  | .inr _, c => sib_sib c

/-- The arrival that a copy passes on. -/
def afterOf : There → Option There
  | .inl _ => none
  | .inr p => some (.inl (.inl p))

def level : Key Here There → ℕ
  | .inn (.inr _) => 1
  | _ => 0

/-- The shares at which the copies to the three other chips read the same half. -/
def third : Fin 3 → PosShare TreeShare
  | 0 => fullShare.right.right.left
  | 1 => fullShare.right.right.right.left
  | 2 => fullShare.right.right.right.right

def readShare : There → PosShare TreeShare
  | .inl (.inl p) => third p.2
  | .inl (.inr r) => third r
  | .inr _ => fullShare.right

def leftShare : There → PosShare TreeShare
  | .inl (.inl _) => fullShare.left
  | _ => fullShare

def creditA : Here → ℕ
  | .inl i => (near (.inl i) 0).dst.view.dmaCredit
  | .inr () => (spot4 0).view.dmaCredit
def credit : Fin 4 → ℕ := fun i => (far (.inl (.inl (i, 0))) 0).dst.view.dmaCredit
def creditB : There → ℕ
  | .inl (.inl p) => credit p.1
  | .inl (.inr r) => (spot4 0).view.dmaCredit
  | .inr p => credit p.1

theorem creditA_pos : ∀ a, 0 < creditA a
  | .inl 0 | .inl 1 | .inl 2 | .inl 3 => View.dmaCredit_pos _ (by decide)
  | .inr () => View.dmaCredit_pos _ (by decide)
theorem credit_pos : ∀ i, 0 < credit i
  | 0 | 1 | 2 | 3 => View.dmaCredit_pos _ (by decide)
theorem creditB_pos : ∀ b, 0 < creditB b
  | .inl (.inl p) => credit_pos p.1
  | .inl (.inr r) => View.dmaCredit_pos _ (by decide)
  | .inr p => credit_pos p.1

variable (m : (ℓ : Loc nD τ sig) → Buf (Elt F) ℓ)

/-- The half of its shard that a device sends, read. -/
def sent0 (d : Dev nD) := (half0 d).view.read (Elt F) (m ((half0 d).view.loc (d.tc : Thread nD τ)))
def sent1 (d : Dev nD) := (half1 d).view.read (Elt F) (m ((half1 d).view.loc (d.tc : Thread nD τ)))
def sent2 (d : Dev nD) := (half2 d).view.read (Elt F) (m ((half2 d).view.loc (d.tc : Thread nD τ)))
def sent3 (d : Dev nD) := (half3 d).view.read (Elt F) (m ((half3 d).view.loc (d.tc : Thread nD τ)))

/-- What the sources hold: the memory at the start, and for a copy that passes an arrival on, the arrival. -/
def held (c : Dev nD) : (b : There) → Buf (Elt F) ((far b c).src.view.loc (c.tc : Thread nD τ))
  | .inl _ => m _
  | .inr (0, r) => (spot0 (k0_off12 c (k0_off12_at r).1 (k0_off12_at r).2) (k0_off12_inb c r)).view.write (Elt F) (m ((c.tc : Thread nD τ).loc main_v1_0))
      (sent0 m (other r c)) Finset.univ
  | .inr (1, r) => (spot1 (k0_off14 c (k0_off14_at r).1 (k0_off14_at r).2) (k0_off14_inb c r)).view.write (Elt F) (m ((c.tc : Thread nD τ).loc main_v1_1))
      (sent1 m (other r c)) Finset.univ
  | .inr (2, r) => (spot2 (k0_off16 c (k0_off16_at r).1 (k0_off16_at r).2) (k0_off16_inb c r)).view.write (Elt F) (m ((c.tc : Thread nD τ).loc main_v1_2))
      (sent2 m (other r c)) Finset.univ
  | .inr (3, r) => (spot3 (k0_off14 c (k0_off14_at r).1 (k0_off14_at r).2) (k0_off14_inb c r)).view.write (Elt F) (m ((c.tc : Thread nD τ).loc main_v1_3))
      (sent3 m (other r c)) Finset.univ

theorem settle_of (p : Fin 4 × Fin 3) (P Q : sProp 𝕄) (Φ : There → sProp 𝕄) (h : P ⊢ iprop(Q ∗ Φ (.inr p))) :
    P ⊢ iprop(Q ∗ bigSep (Finset.univ.filter fun j => afterOf j = some (.inl (.inl p))) Φ) := by
  have e : (Finset.univ.filter fun j => afterOf j = some (.inl (.inl p))) = {.inr p} := by
    ext j
    rw [Finset.mem_filter, Finset.mem_singleton]
    rcases j with b | q
    · exact ⟨fun h => absurd h.2 (fun e => nomatch e), fun h => nomatch h⟩
    · exact ⟨fun h => congrArg Sum.inr (Sum.inl.inj (Sum.inl.inj (Option.some.inj h.2))), fun h => ⟨Finset.mem_univ _, by rw [Sum.inr.inj h]; rfl⟩⟩
  rw [e, BI.bigSep_singleton]
  exact h

/-- A half arrives where it is passed on from. -/
theorem lands0 : ∀ (c : Dev nD) (r : Fin 3), k0_off6 (other r c) = k0_off12 c (k0_off12_at r).1 (k0_off12_at r).2 := by decide +kernel
theorem lands1 : ∀ (c : Dev nD) (r : Fin 3), k0_off8 (other r c) = k0_off14 c (k0_off14_at r).1 (k0_off14_at r).2 := by decide +kernel
theorem lands2 : ∀ (c : Dev nD) (r : Fin 3), k0_off10 (other r c) = k0_off16 c (k0_off16_at r).1 (k0_off16_at r).2 := by decide +kernel

/-- What arrives is kept in part, and the rest is the source of the copy that passes it on. -/
def Settles (c : Dev nD) (b : There) : Prop :=
    ((far b (peerOf b c)).dst.view.loc (c.tc : Thread nD τ) ↦[(far b (peerOf b c)).dst.view.set]{fullShare}
        (far b (peerOf b c)).dst.view.write (Elt F) (m ((far b (peerOf b c)).dst.view.loc (c.tc : Thread nD τ))) ((far b (peerOf b c)).src.view.read (Elt F) (held m (peerOf b c) b)) Finset.univ : sProp 𝕄)
      ⊢ iprop(((far b (peerOf b c)).dst.view.loc (c.tc : Thread nD τ) ↦[(far b (peerOf b c)).dst.view.set]{leftShare b}
          (far b (peerOf b c)).dst.view.write (Elt F) (m ((far b (peerOf b c)).dst.view.loc (c.tc : Thread nD τ))) ((far b (peerOf b c)).src.view.read (Elt F) (held m (peerOf b c) b)) Finset.univ)
        ∗ bigSep (Finset.univ.filter fun j => afterOf j = some b) fun j =>
            ((far j c).src.view.loc (c.tc : Thread nD τ) ↦[(far j c).src.view.set]{readShare j} held m c j))

theorem settles0 (c : Dev nD) (r : Fin 3) : Settles m c (.inl (.inl (0, r))) :=
  settle_of (0, r) _ _ _ (pass spot0 (lands0 c r) _ _ c m
    (sent0 m (other r c)))
theorem settles1 (c : Dev nD) (r : Fin 3) : Settles m c (.inl (.inl (1, r))) :=
  settle_of (1, r) _ _ _ (pass spot1 (lands1 c r) _ _ c m
    (sent1 m (other r c)))
theorem settles2 (c : Dev nD) (r : Fin 3) : Settles m c (.inl (.inl (2, r))) :=
  settle_of (2, r) _ _ _ (pass spot2 (lands2 c r) _ _ c m
    (sent2 m (other r c)))
theorem settles3 (c : Dev nD) (r : Fin 3) : Settles m c (.inl (.inl (3, r))) :=
  settle_of (3, r) _ _ _ (pass spot3 (lands1 c r) _ _ c m
    (sent3 m (other r c)))

theorem settle : ∀ (c : Dev nD) (b : There), Settles m c b
  | c, .inl (.inl (0, r)) => settles0 m c r
  | c, .inl (.inl (1, r)) => settles1 m c r
  | c, .inl (.inl (2, r)) => settles2 m c r
  | c, .inl (.inl (3, r)) => settles3 m c r
  | c, .inl (.inr r) => stays afterOf _ (fun j h => by rcases j with j | j <;> simp [afterOf] at h) _ _
  | c, .inr p => stays afterOf _ (fun j h => by rcases j with j | j <;> simp [afterOf] at h) _ _

def lines : Lines nD τ sig (Elt F) Here There where
  sem := semOf
  sem_inj := by decide +kernel
  lvl := level
  near := near
  far := far
  peer := peerOf
  peer_peer := peer_peer
  amtA := creditA
  amtB := creditB
  amtA_pos := creditA_pos
  amtB_pos := creditB_pos
  after := afterOf
  shareA _ := fullShare.right.left
  shareB := readShare
  left := leftShare
  heldA c i := m _
  heldB := held m
  mem := m
  settle := settle m

/-- What is set aside of an argument while the copies read it. -/
def asideAt (c : Dev nD) (i : Here) : sProp 𝕄 :=
  (near i c).src.view.loc (c.tc : Thread nD τ) ↦{fullShare.left} m _
def aside (c : Dev nD) : sProp 𝕄 := bigSep Finset.univ (asideAt m c)

/-- An argument lends itself to the copy inside the device and a piece to the three copies to other chips. -/
theorem lent {ℓ : Loc nD τ sig} {f : Buf (Elt F) ℓ} (I I' : Finset (Idx ℓ)) :
    (ℓ ↦{fullShare} f : sProp 𝕄) ⊢ iprop(((ℓ ↦[I]{fullShare.right.left} f) ∗ bigSep Finset.univ fun r => ℓ ↦[I']{third r} f) ∗ (ℓ ↦{fullShare.left} f)) := by
  rw [bigSep_univ_eq_bigSepL [0, 1, 2] (by decide) (by decide) (fun r : Fin 3 => iprop(ℓ ↦[I']{third r} f))]
  show _ ⊢ iprop(((ℓ ↦[I]{fullShare.right.left} f) ∗ (ℓ ↦[I']{fullShare.right.right.left} f) ∗ (ℓ ↦[I']{fullShare.right.right.right.left} f)
    ∗ (ℓ ↦[I']{fullShare.right.right.right.right} f)) ∗ (ℓ ↦{fullShare.left} f))
  iintro H
  ihave H := share2 (ℓ := ℓ) Finset.univ fullShare (f := f) $$ H
  icases H with ⟨Hl, H⟩
  ihave H := share2 (ℓ := ℓ) Finset.univ fullShare.right (f := f) $$ H
  icases H with ⟨Ha, H⟩
  ihave H := within (ℓ := ℓ) I' (q := fullShare.right.right) (f := f) $$ H
  ihave Ha := within (ℓ := ℓ) I (q := fullShare.right.left) (f := f) $$ Ha
  ihave H := share2 (ℓ := ℓ) I' fullShare.right.right (f := f) $$ H
  icases H with ⟨H0, H⟩
  ihave H := share2 (ℓ := ℓ) I' fullShare.right.right.right (f := f) $$ H
  icases H with ⟨H1, H2⟩
  isplitr [Hl]
  · isplitl [Ha]; · iexact Ha
    isplitl [H0]; · iexact H0
    isplitl [H1]; · iexact H1
    iexact H2
  iexact Hl

/-- The corners of the six halves that a device is sent: three from the other chips, three from its sibling. -/
def corner0 (c : Dev nD) : Fin 3 ⊕ Fin 3 → Fin 2 → ℕ
  | .inl r => k0_off6 (other r c)
  | .inr r => k0_off12 (sib c) (k0_off12_at r).1 (k0_off12_at r).2
theorem corner0_inb (c : Dev nD) : ∀ t a, corner0 c t a + S1024x2048.size a ≤ S2048x8192.size a
  | .inl r => k0_off6_inb (other r c)
  | .inr r => k0_off12_inb (sib c) r
def corner1 (c : Dev nD) : Fin 3 ⊕ Fin 3 → Fin 2 → ℕ
  | .inl r => k0_off8 (other r c)
  | .inr r => k0_off14 (sib c) (k0_off14_at r).1 (k0_off14_at r).2
theorem corner1_inb (c : Dev nD) : ∀ t a, corner1 c t a + S256x2048.size a ≤ S2048x2048.size a
  | .inl r => k0_off8_inb (other r c)
  | .inr r => k0_off14_inb (sib c) r
def corner2 (c : Dev nD) : Fin 3 ⊕ Fin 3 → Fin 2 → ℕ
  | .inl r => k0_off10 (other r c)
  | .inr r => k0_off16 (sib c) (k0_off16_at r).1 (k0_off16_at r).2
theorem corner2_inb (c : Dev nD) : ∀ t a, corner2 c t a + S1024x1152.size a ≤ S2048x4608.size a
  | .inl r => k0_off10_inb (other r c)
  | .inr r => k0_off16_inb (sib c) r

/-- None of them meets the device's own shard, or another. -/
theorem own_corner0 : ∀ (c : Dev nD) (t : Fin 3 ⊕ Fin 3), k0_off1 c 1 + 2048 ≤ corner0 c t 1 ∨ corner0 c t 1 + 2048 ≤ k0_off1 c 1 := by decide +kernel
theorem corner_corner0 : ∀ (c : Dev nD) (t t' : Fin 3 ⊕ Fin 3), t ≠ t' → (corner0 c t 0 + 1024 ≤ corner0 c t' 0 ∨ corner0 c t' 0 + 1024 ≤ corner0 c t 0) ∨ (corner0 c t 1 + 2048 ≤ corner0 c t' 1 ∨ corner0 c t' 1 + 2048 ≤ corner0 c t 1) := by decide +kernel
theorem own_corner1 : ∀ (c : Dev nD) (t : Fin 3 ⊕ Fin 3), k0_off2 c 0 + 512 ≤ corner1 c t 0 ∨ corner1 c t 0 + 256 ≤ k0_off2 c 0 := by decide +kernel
theorem corner_corner1 : ∀ (c : Dev nD) (t t' : Fin 3 ⊕ Fin 3), t ≠ t' → (corner1 c t 0 + 256 ≤ corner1 c t' 0 ∨ corner1 c t' 0 + 256 ≤ corner1 c t 0) ∨ (corner1 c t 1 + 2048 ≤ corner1 c t' 1 ∨ corner1 c t' 1 + 2048 ≤ corner1 c t 1) := by decide +kernel
theorem own_corner2 : ∀ (c : Dev nD) (t : Fin 3 ⊕ Fin 3), k0_off3 c 1 + 1152 ≤ corner2 c t 1 ∨ corner2 c t 1 + 1152 ≤ k0_off3 c 1 := by decide +kernel
theorem corner_corner2 : ∀ (c : Dev nD) (t t' : Fin 3 ⊕ Fin 3), t ≠ t' → (corner2 c t 0 + 1024 ≤ corner2 c t' 0 ∨ corner2 c t' 0 + 1024 ≤ corner2 c t 0) ∨ (corner2 c t 1 + 1152 ≤ corner2 c t' 1 ∨ corner2 c t' 1 + 1152 ≤ corner2 c t 1) := by decide +kernel
theorem own_small : ∀ (c : Dev nD) (r : Fin 3), k0_off4 c 0 + 1 ≤ k0_off4 (other r c) 0 ∨ k0_off4 (other r c) 0 + 1 ≤ k0_off4 c 0 := by decide +kernel
theorem small_small : ∀ (c : Dev nD) (r r' : Fin 3), r ≠ r' → k0_off4 (other r c) 0 + 1 ≤ k0_off4 (other r' c) 0 ∨ k0_off4 (other r' c) 0 + 1 ≤ k0_off4 (other r c) 0 := by decide +kernel

theorem spots0 {o o' : Fin 2 → ℕ} {ho : _} {ho' : _} (h : (o 0 + 1024 ≤ o' 0 ∨ o' 0 + 1024 ≤ o 0) ∨ (o 1 + 2048 ≤ o' 1 ∨ o' 1 + 2048 ≤ o 1)) :
    Disjoint (spot0 o ho).view.set (spot0 o' ho').view.set :=
  h.elim (fun h => apart (h := fun _ => rfl) (h' := fun _ => rfl) (Rect.unit_disjoint (0 : Fin 2) h))
    (fun h => apart (h := fun _ => rfl) (h' := fun _ => rfl) (Rect.unit_disjoint (1 : Fin 2) h))
theorem region_spot0 (c : Dev nD) {o : Fin 2 → ℕ} {ho : _} (h : k0_off1 c 1 + 2048 ≤ o 1 ∨ o 1 + 2048 ≤ k0_off1 c 1) :
    Disjoint (region0 c).view.set (spot0 o ho).view.set :=
  apart (h := fun _ => rfl) (h' := fun _ => rfl) (Rect.unit_disjoint (1 : Fin 2) h)
theorem spots1 {o o' : Fin 2 → ℕ} {ho : _} {ho' : _} (h : (o 0 + 256 ≤ o' 0 ∨ o' 0 + 256 ≤ o 0) ∨ (o 1 + 2048 ≤ o' 1 ∨ o' 1 + 2048 ≤ o 1)) :
    Disjoint (spot1 o ho).view.set (spot1 o' ho').view.set :=
  h.elim (fun h => apart (h := fun _ => rfl) (h' := fun _ => rfl) (Rect.unit_disjoint (0 : Fin 2) h))
    (fun h => apart (h := fun _ => rfl) (h' := fun _ => rfl) (Rect.unit_disjoint (1 : Fin 2) h))
theorem region_spot1 (c : Dev nD) {o : Fin 2 → ℕ} {ho : _} (h : k0_off2 c 0 + 512 ≤ o 0 ∨ o 0 + 256 ≤ k0_off2 c 0) :
    Disjoint (region1 c).view.set (spot1 o ho).view.set :=
  apart (h := fun _ => rfl) (h' := fun _ => rfl) (Rect.unit_disjoint (0 : Fin 2) h)
theorem spots2 {o o' : Fin 2 → ℕ} {ho : _} {ho' : _} (h : (o 0 + 1024 ≤ o' 0 ∨ o' 0 + 1024 ≤ o 0) ∨ (o 1 + 1152 ≤ o' 1 ∨ o' 1 + 1152 ≤ o 1)) :
    Disjoint (spot2 o ho).view.set (spot2 o' ho').view.set :=
  h.elim (fun h => apart (h := fun _ => rfl) (h' := fun _ => rfl) (Rect.unit_disjoint (0 : Fin 2) h))
    (fun h => apart (h := fun _ => rfl) (h' := fun _ => rfl) (Rect.unit_disjoint (1 : Fin 2) h))
theorem region_spot2 (c : Dev nD) {o : Fin 2 → ℕ} {ho : _} (h : k0_off3 c 1 + 1152 ≤ o 1 ∨ o 1 + 1152 ≤ k0_off3 c 1) :
    Disjoint (region2 c).view.set (spot2 o ho).view.set :=
  apart (h := fun _ => rfl) (h' := fun _ => rfl) (Rect.unit_disjoint (1 : Fin 2) h)
theorem spots3 {o o' : Fin 2 → ℕ} {ho : _} {ho' : _} (h : (o 0 + 256 ≤ o' 0 ∨ o' 0 + 256 ≤ o 0) ∨ (o 1 + 2048 ≤ o' 1 ∨ o' 1 + 2048 ≤ o 1)) :
    Disjoint (spot3 o ho).view.set (spot3 o' ho').view.set :=
  h.elim (fun h => apart (h := fun _ => rfl) (h' := fun _ => rfl) (Rect.unit_disjoint (0 : Fin 2) h))
    (fun h => apart (h := fun _ => rfl) (h' := fun _ => rfl) (Rect.unit_disjoint (1 : Fin 2) h))
theorem region_spot3 (c : Dev nD) {o : Fin 2 → ℕ} {ho : _} (h : k0_off2 c 0 + 512 ≤ o 0 ∨ o 0 + 256 ≤ k0_off2 c 0) :
    Disjoint (region3 c).view.set (spot3 o ho).view.set :=
  apart (h := fun _ => rfl) (h' := fun _ => rfl) (Rect.unit_disjoint (0 : Fin 2) h)
theorem smalls {d d' : Dev nD} (h : k0_off4 d 0 + 1 ≤ k0_off4 d' 0 ∨ k0_off4 d' 0 + 1 ≤ k0_off4 d 0) : Disjoint (spot4 d).view.set (spot4 d').view.set :=
  apart_squeezed (h := fun _ => rfl) (h' := fun _ => rfl) squeezes_S1x8x512_S8x512 squeezes_S1x8x512_S8x512 (Rect.unit_disjoint (0 : Fin 3) h)

/-- An argument and its result, whole. -/
def given (c : Dev nD) (i : Here) : sProp 𝕄 :=
  iprop(((near i c).src.view.loc (c.tc : Thread nD τ) ↦{fullShare} m _) ∗ ((near i c).dst.view.loc (c.tc : Thread nD τ) ↦{fullShare} m _))

/-- What one weight gives to the copies, to the places of its result and to what is set aside. -/
def Dealt (c : Dev nD) (i : Fin 4) : Prop :=
  given m c (.inl i) ⊢ iprop(((lines m).ownA c (.inl i) ∗ bigSep Finset.univ fun r => (lines m).ownB c (.inl (.inl (i, r))))
    ∗ ((lines m).slotA c (.inl i) ∗ (bigSep Finset.univ fun r => (lines m).slotB c (.inl (.inl (i, r)))) ∗ bigSep Finset.univ fun r => (lines m).slotB c (.inr (i, r)))
    ∗ asideAt m c (.inl i))

theorem dealt {ℓ ℓ' : Loc nD τ sig} {f : Buf (Elt F) ℓ} {g : Buf (Elt F) ℓ'} (I I' : Finset (Idx ℓ)) (J : Finset (Idx ℓ')) (J' : Fin 3 ⊕ Fin 3 → Finset (Idx ℓ'))
    (hJ : ∀ t, Disjoint J (J' t)) (hJ' : ∀ t t', t ≠ t' → Disjoint (J' t) (J' t')) :
    iprop((ℓ ↦{fullShare} f) ∗ (ℓ' ↦{fullShare} g) : sProp 𝕄)
      ⊢ iprop(((ℓ ↦[I]{fullShare.right.left} f) ∗ bigSep Finset.univ fun r => (ℓ ↦[I']{third r} f))
        ∗ ((ℓ' ↦[J]{fullShare} g) ∗ (bigSep Finset.univ fun r => (ℓ' ↦[J' (.inl r)]{fullShare} g)) ∗ bigSep Finset.univ fun r => (ℓ' ↦[J' (.inr r)]{fullShare} g))
        ∗ (ℓ ↦{fullShare.left} f)) := by
  iintro ⟨H, G⟩
  ihave H := lent (ℓ := ℓ) I I' (f := f) $$ H
  icases H with ⟨Hr, Hl⟩
  have hG : (ℓ' ↦{fullShare} g : sProp 𝕄) ⊢ iprop((ℓ' ↦[J]{fullShare} g) ∗ (bigSep Finset.univ fun r => (ℓ' ↦[J' (.inl r)]{fullShare} g)) ∗ bigSep Finset.univ fun r => (ℓ' ↦[J' (.inr r)]{fullShare} g)) := by
    refine (pieces (ℓ := ℓ') J J' hJ hJ' (f := g)).trans ?_
    rw [bigSep_univ_sum]
    exact BI.Entails.refl _
  ihave G := hG $$ G
  isplitl [Hr]; · iexact Hr
  isplitl [G]; · iexact G
  iexact Hl

theorem weight0 (c : Dev nD) : Dealt m c 0 :=
  dealt (ℓ := (c.tc : Thread nD τ).loc main_arg0) (ℓ' := (c.tc : Thread nD τ).loc main_v1_0)
    (f := m ((c.tc : Thread nD τ).loc main_arg0)) (g := m ((c.tc : Thread nD τ).loc main_v1_0))
    (Memref.whole main_arg0).view.set (half0 c).view.set (region0 c).view.set (fun t => (spot0 (corner0 c t) (corner0_inb c t)).view.set)
    (fun t => region_spot0 c (own_corner0 c t)) (fun t t' h => spots0 (corner_corner0 c t t' h))
theorem weight1 (c : Dev nD) : Dealt m c 1 :=
  dealt (ℓ := (c.tc : Thread nD τ).loc main_arg1) (ℓ' := (c.tc : Thread nD τ).loc main_v1_1)
    (f := m ((c.tc : Thread nD τ).loc main_arg1)) (g := m ((c.tc : Thread nD τ).loc main_v1_1))
    (Memref.whole main_arg1).view.set (half1 c).view.set (region1 c).view.set (fun t => (spot1 (corner1 c t) (corner1_inb c t)).view.set)
    (fun t => region_spot1 c (own_corner1 c t)) (fun t t' h => spots1 (corner_corner1 c t t' h))
theorem weight2 (c : Dev nD) : Dealt m c 2 :=
  dealt (ℓ := (c.tc : Thread nD τ).loc main_arg2) (ℓ' := (c.tc : Thread nD τ).loc main_v1_2)
    (f := m ((c.tc : Thread nD τ).loc main_arg2)) (g := m ((c.tc : Thread nD τ).loc main_v1_2))
    (Memref.whole main_arg2).view.set (half2 c).view.set (region2 c).view.set (fun t => (spot2 (corner2 c t) (corner2_inb c t)).view.set)
    (fun t => region_spot2 c (own_corner2 c t)) (fun t t' h => spots2 (corner_corner2 c t t' h))
theorem weight3 (c : Dev nD) : Dealt m c 3 :=
  dealt (ℓ := (c.tc : Thread nD τ).loc main_arg3) (ℓ' := (c.tc : Thread nD τ).loc main_v1_3)
    (f := m ((c.tc : Thread nD τ).loc main_arg3)) (g := m ((c.tc : Thread nD τ).loc main_v1_3))
    (Memref.whole main_arg3).view.set (half3 c).view.set (region3 c).view.set (fun t => (spot3 (corner1 c t) (corner1_inb c t)).view.set)
    (fun t => region_spot3 c (own_corner1 c t)) (fun t t' h => spots3 (corner_corner1 c t t' h))

theorem weight (c : Dev nD) : ∀ i : Fin 4, Dealt m c i
  | 0 => weight0 m c
  | 1 => weight1 m c
  | 2 => weight2 m c
  | 3 => weight3 m c

theorem dealt_small {ℓ ℓ' : Loc nD τ sig} {f : Buf (Elt F) ℓ} {g : Buf (Elt F) ℓ'} (I I' : Finset (Idx ℓ)) (J : Finset (Idx ℓ')) (J' : Fin 3 → Finset (Idx ℓ'))
    (hJ : ∀ t, Disjoint J (J' t)) (hJ' : ∀ t t', t ≠ t' → Disjoint (J' t) (J' t')) :
    iprop((ℓ ↦{fullShare} f) ∗ (ℓ' ↦{fullShare} g) : sProp 𝕄)
      ⊢ iprop(((ℓ ↦[I]{fullShare.right.left} f) ∗ bigSep Finset.univ fun r => (ℓ ↦[I']{third r} f))
        ∗ ((ℓ' ↦[J]{fullShare} g) ∗ bigSep Finset.univ fun r => (ℓ' ↦[J' r]{fullShare} g)) ∗ (ℓ ↦{fullShare.left} f)) := by
  iintro ⟨H, G⟩
  ihave H := lent (ℓ := ℓ) I I' (f := f) $$ H
  ihave G := pieces (ℓ := ℓ') J J' hJ hJ' (f := g) $$ G
  icases H with ⟨Hr, Hl⟩
  isplitl [Hr]; · iexact Hr
  isplitl [G]; · iexact G
  iexact Hl

theorem small (c : Dev nD) : given m c (.inr ()) ⊢ iprop(((lines m).ownA c (.inr ()) ∗ bigSep Finset.univ fun r => (lines m).ownB c (.inl (.inr r)))
    ∗ ((lines m).slotA c (.inr ()) ∗ bigSep Finset.univ fun r => (lines m).slotB c (.inl (.inr r))) ∗ asideAt m c (.inr ())) := dealt_small (ℓ := (c.tc : Thread nD τ).loc main_arg4) (ℓ' := (c.tc : Thread nD τ).loc main_v1_4)
    (f := m ((c.tc : Thread nD τ).loc main_arg4)) (g := m ((c.tc : Thread nD τ).loc main_v1_4))
    (Memref.whole main_arg4).view.set (Memref.whole main_arg4).view.set (spot4 c).view.set (fun r => (spot4 (other r c)).view.set)
    (fun r => smalls (own_small c r)) (fun r r' h => smalls (small_small c r r' h))

theorem weights (c : Dev nD) : (bigSep Finset.univ fun i => given m c (.inl i)) ⊢ iprop(
    ((bigSep Finset.univ fun i => (lines m).ownA c (.inl i)) ∗ bigSep Finset.univ fun p => (lines m).ownB c (.inl (.inl p)))
    ∗ ((bigSep Finset.univ fun i => (lines m).slotA c (.inl i)) ∗ (bigSep Finset.univ fun p => (lines m).slotB c (.inl (.inl p))) ∗ bigSep Finset.univ fun p => (lines m).slotB c (.inr p))
    ∗ bigSep Finset.univ fun i => asideAt m c (.inl i)) := by
  refine (bigSep_mono fun i _ => weight m c i).trans ?_
  rw [bigSep_univ_prod, bigSep_univ_prod, bigSep_univ_prod, bigSep_sep', bigSep_sep', bigSep_sep', bigSep_sep', bigSep_sep']
  exact BI.Entails.refl _

/-- The copies that wait for nothing. -/
theorem firsts : (Finset.univ.filter fun b => afterOf b = none) = Finset.univ.map ⟨(Sum.inl : (Fin 4 × Fin 3) ⊕ Fin 3 → There), Sum.inl_injective⟩ := by
  ext b
  rw [Finset.mem_filter, Finset.mem_map]
  rcases b with b | b
  · exact ⟨fun _ => ⟨b, Finset.mem_univ _, rfl⟩, fun _ => ⟨Finset.mem_univ _, rfl⟩⟩
  · exact ⟨fun h => absurd h.2 (fun e => nomatch e), fun h => h.elim fun _ h => absurd h.2 (fun e => nomatch e)⟩

/-- The weights' parts and the small array's, side by side. -/
theorem assemble {X0 X1 X2 X3 X4 Y0 Y1 Y2 Y3 Y4 W1 W2 W3 W4 W5 W6 V1 V2 V3 V4 V6 : sProp 𝕄}
    (hw : iprop((X0 ∗ Y0) ∗ (X1 ∗ Y1) ∗ (X2 ∗ Y2) ∗ (X3 ∗ Y3)) ⊢ iprop((W1 ∗ W2) ∗ (W3 ∗ W4 ∗ W5) ∗ W6))
    (hs : iprop(X4 ∗ Y4) ⊢ iprop((V1 ∗ V2) ∗ (V3 ∗ V4) ∗ V6)) :
    iprop(X0 ∗ X1 ∗ X2 ∗ X3 ∗ X4 ∗ Y0 ∗ Y1 ∗ Y2 ∗ Y3 ∗ Y4)
      ⊢ iprop(((W1 ∗ V1) ∗ (W2 ∗ V2)) ∗ ((W3 ∗ V3) ∗ ((W4 ∗ V4) ∗ W5)) ∗ (W6 ∗ V6)) := by
  iintro ⟨H0, H1, H2, H3, H4, G0, G1, G2, G3, G4⟩
  ihave W := hw $$ [H0 H1 H2 H3 G0 G1 G2 G3]
  · isplitl [H0 G0]
    · isplitl [H0]; · iexact H0
      iexact G0
    isplitl [H1 G1]
    · isplitl [H1]; · iexact H1
      iexact G1
    isplitl [H2 G2]
    · isplitl [H2]; · iexact H2
      iexact G2
    isplitl [H3]; · iexact H3
    iexact G3
  ihave V := hs $$ [H4 G4]
  · isplitl [H4]; · iexact H4
    iexact G4
  icases W with ⟨⟨W1, W2⟩, ⟨W3, W4, W5⟩, W6⟩
  icases V with ⟨⟨V1, V2⟩, ⟨V3, V4⟩, V6⟩
  isplitl [W1 V1 W2 V2]
  · isplitl [W1 V1]
    · isplitl [W1]; · iexact W1
      iexact V1
    isplitl [W2]; · iexact W2
    iexact V2
  isplitl [W3 V3 W4 V4 W5]
  · isplitl [W3 V3]
    · isplitl [W3]; · iexact W3
      iexact V3
    isplitl [W4 V4]
    · isplitl [W4]; · iexact W4
      iexact V4
    iexact W5
  isplitl [W6]; · iexact W6
  iexact V6

theorem deal (c : Dev nD) : Pipeline.unscopedRest (cfgs 0).spec c (fun b => m ((c.tc : Thread nD τ).loc b))
    ⊢ iprop(bigSep ((lines m).plan.ready [] []) ((lines m).plan.own c) ∗ bigSep Finset.univ ((lines m).plan.slot c) ∗ aside m c) := by
  refine (lines m).deal_of c _ _ ?_
  show _ ⊢ iprop((_ ∗ bigSep (Finset.univ.filter fun b => afterOf b = none) _) ∗ _ ∗ bigSep Finset.univ (asideAt m c))
  rw [show Pipeline.unscopedRest (cfgs 0).spec c _ = _ from unscopedRest0_eq c _, firsts, bigSep_map, bigSep_univ_sum, bigSep_univ_sum, bigSep_univ_sum, bigSep_univ_sum, bigSep_univ_sum, bigSep_univ_sum,
    bigSep_univ_of_subsingleton (I := Unit) (), bigSep_univ_of_subsingleton (I := Unit) (), bigSep_univ_of_subsingleton (I := Unit) ()]
  have hw := weights m c
  rw [bigSep_univ_eq_bigSepL [0, 1, 2, 3] (by decide) (by decide) (fun i : Fin 4 => given m c (.inl i))] at hw
  have hs := small m c
  exact assemble hw hs

end Cert.GatherRun

end
-- ==== Proof.GatherRun.lean ====
/-
# The gather of the weights, run
-/
module

public import proofs.«01_k».proof.Proof.GatherPlan

@[expose] public section

noncomputable section

namespace Cert.GatherRun

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.GatherIdeal Cert.GatherIdeal.Gen Cert.Wires Cert.Mesh

variable {F : FTy → Type} [FloatOps F]

local notation "𝕄" => MT nD τ sig Unit (Elt F) ℕ (UU nD τ sig) ℕ

variable (m : (ℓ : Loc nD τ sig) → Buf (Elt F) ℓ)

/-- Membership of keys is decided. -/
instance decKey : DecidableEq (Key Here There) := inferInstance

/-- Once the first copies are issued, only arrivals passed on are still to be issued, and these rank above. -/
theorem below {S : List (Key Here There)} (h : ∀ b : (Fin 4 × Fin 3) ⊕ Fin 3, Key.inn (.inl b) ∈ S) : ∀ b' : There, Key.inn b' ∉ S → 0 < level (.inn b')
  | .inl b, hb => absurd (h b) hb
  | .inr _, _ => Nat.zero_lt_one

/-- An arrival is awaited before the copy that passes it on is issued. -/
theorem before {S : List (Key Here There)} {p : Fin 4 × Fin 3} (h : Key.out (.inr p) ∉ S) : ∀ j : There, afterOf j = some (.inl (.inl p)) → Key.out j ∉ S
  | .inl _, e => nomatch e
  | .inr q, e => (Sum.inl.inj (Sum.inl.inj (Option.some.inj e)) : q = p) ▸ h

theorem nobody {S : List (Key Here There)} {r : Fin 3} : ∀ {j : There}, afterOf j = some (.inl (.inr r)) → Key.out j ∉ S
  | .inl _, e => nomatch e
  | .inr _, e => nomatch e
theorem nobody' {S : List (Key Here There)} {p : Fin 4 × Fin 3} : ∀ {j : There}, afterOf j = some (.inr p) → Key.out j ∉ S
  | .inl _, e => nomatch e
  | .inr _, e => nomatch e

/-- A copy that passes an arrival on is issued after it. -/
theorem came {R : List (Key Here There)} {p : Fin 4 × Fin 3} (h : Key.inn (.inl (.inl p)) ∈ R) : ∀ j ∈ afterOf (.inr p), Key.inn j ∈ R :=
  fun j hj => (Option.some.inj hj : (Sum.inl (Sum.inl p) : There) = j) ▸ h

def issues : List (Key Here There) :=
  .inn (.inr (3, 2)) :: .out (.inr (3, 2)) :: .inn (.inr (2, 2)) :: .out (.inr (2, 2)) :: .inn (.inr (1, 2)) :: .out (.inr (1, 2)) :: .inn (.inr (0, 2)) :: .out (.inr (0, 2)) :: .inn (.inr (3, 1)) :: .out (.inr (3, 1)) :: .inn (.inr (2, 1)) :: .out (.inr (2, 1)) :: .inn (.inr (1, 1)) :: .out (.inr (1, 1)) :: .inn (.inr (0, 1)) :: .out (.inr (0, 1)) :: .inn (.inr (3, 0)) :: .out (.inr (3, 0)) :: .inn (.inr (2, 0)) :: .out (.inr (2, 0)) :: .inn (.inr (1, 0)) :: .out (.inr (1, 0)) :: .inn (.inr (0, 0)) :: .out (.inr (0, 0)) :: .inn (.inl (.inr 2)) :: .out (.inl (.inr 2)) :: .inn (.inl (.inl (3, 2))) :: .out (.inl (.inl (3, 2))) :: .inn (.inl (.inl (2, 2))) :: .out (.inl (.inl (2, 2))) :: .inn (.inl (.inl (1, 2))) :: .out (.inl (.inl (1, 2))) :: .inn (.inl (.inl (0, 2))) :: .out (.inl (.inl (0, 2))) :: .inn (.inl (.inr 1)) :: .out (.inl (.inr 1)) :: .inn (.inl (.inl (3, 1))) :: .out (.inl (.inl (3, 1))) :: .inn (.inl (.inl (2, 1))) :: .out (.inl (.inl (2, 1))) :: .inn (.inl (.inl (1, 1))) :: .out (.inl (.inl (1, 1))) :: .inn (.inl (.inl (0, 1))) :: .out (.inl (.inl (0, 1))) :: .inn (.inl (.inr 0)) :: .out (.inl (.inr 0)) :: .inn (.inl (.inl (3, 0))) :: .out (.inl (.inl (3, 0))) :: .inn (.inl (.inl (2, 0))) :: .out (.inl (.inl (2, 0))) :: .inn (.inl (.inl (1, 0))) :: .out (.inl (.inl (1, 0))) :: .inn (.inl (.inl (0, 0))) :: .out (.inl (.inl (0, 0))) :: .here (.inr ()) :: .here (.inl 3) :: .here (.inl 2) :: .here (.inl 1) :: .here (.inl 0) :: []
theorem allS : ∀ k : Key Here There, k ∈ issues := by decide +kernel
def waits : List (Key Here There) :=
  .here (.inr ()) :: .here (.inl 3) :: .here (.inl 2) :: .here (.inl 1) :: .here (.inl 0) :: .out (.inr (3, 2)) :: .out (.inr (2, 2)) :: .out (.inr (1, 2)) :: .out (.inr (0, 2)) :: .out (.inr (3, 1)) :: .out (.inr (2, 1)) :: .out (.inr (1, 1)) :: .out (.inr (0, 1)) :: .out (.inr (3, 0)) :: .out (.inr (2, 0)) :: .out (.inr (1, 0)) :: .out (.inr (0, 0)) :: .out (.inl (.inr 2)) :: .out (.inl (.inl (3, 2))) :: .out (.inl (.inl (2, 2))) :: .out (.inl (.inl (1, 2))) :: .out (.inl (.inl (0, 2))) :: .out (.inl (.inr 1)) :: .out (.inl (.inl (3, 1))) :: .out (.inl (.inl (2, 1))) :: .out (.inl (.inl (1, 1))) :: .out (.inl (.inl (0, 1))) :: .out (.inl (.inr 0)) :: .out (.inl (.inl (3, 0))) :: .out (.inl (.inl (2, 0))) :: .out (.inl (.inl (1, 0))) :: .out (.inl (.inl (0, 0))) :: .inn (.inr (3, 2)) :: .inn (.inr (2, 2)) :: .inn (.inr (1, 2)) :: .inn (.inr (0, 2)) :: .inn (.inr (3, 1)) :: .inn (.inr (2, 1)) :: .inn (.inr (1, 1)) :: .inn (.inr (0, 1)) :: .inn (.inr (3, 0)) :: .inn (.inr (2, 0)) :: .inn (.inr (1, 0)) :: .inn (.inr (0, 0)) :: .inn (.inl (.inr 2)) :: .inn (.inl (.inl (3, 2))) :: .inn (.inl (.inl (2, 2))) :: .inn (.inl (.inl (1, 2))) :: .inn (.inl (.inl (0, 2))) :: .inn (.inl (.inr 1)) :: .inn (.inl (.inl (3, 1))) :: .inn (.inl (.inl (2, 1))) :: .inn (.inl (.inl (1, 1))) :: .inn (.inl (.inl (0, 1))) :: .inn (.inl (.inr 0)) :: .inn (.inl (.inl (3, 0))) :: .inn (.inl (.inl (2, 0))) :: .inn (.inl (.inl (1, 0))) :: .inn (.inl (.inl (0, 0))) :: []
theorem allR : ∀ k : Key Here There, k ∈ waits := by decide +kernel
theorem issued (b : There) : Key.inn b ∈ issues := allS _

theorem to0 : ∀ c : Dev nD, k0_dev1 c = (other 0 c).val := by decide +kernel
theorem to1 : ∀ c : Dev nD, k0_dev6 c = (other 1 c).val := by decide +kernel
theorem to2 : ∀ c : Dev nD, k0_dev11 c = (other 2 c).val := by decide +kernel
theorem toSib : ∀ c : Dev nD, k0_dev16 c = (sib c).val := by decide +kernel

set_option maxRecDepth 65536 in
set_option maxHeartbeats 4000000 in
theorem body (c : Dev nD) (κ : Dev nD × Key Here There → ℕ) (t : Fin (cfgs 0).N) :
    (lines m).plan.st c κ [] [] ⊢ wp frame (wpE (defs₀ (F := F)) Variants.none (c.tc : Thread nD τ) none) Set.univ
      (defs₀ (F := F) .tc (cfgs 0).body ((cfgs 0).bodyArgs t ((cfgs 0).slots t))) (fun _ => (lines m).plan.after₁ c) := by
  show _ ⊢ wp frame _ _ (cc0_gather_weights (F := F) (Memref.whole main_arg0) (Memref.isWhole_whole _) (Memref.whole main_arg1) (Memref.isWhole_whole _)
    (Memref.whole main_arg2) (Memref.isWhole_whole _) (Memref.whole main_arg3) (Memref.isWhole_whole _) (Memref.whole main_arg4) (Memref.isWhole_whole _)
    (Memref.whole main_v1_0) (Memref.isWhole_whole _) (Memref.whole main_v1_1) (Memref.isWhole_whole _)
    (Memref.whole main_v1_2) (Memref.isWhole_whole _) (Memref.whole main_v1_3) (Memref.isWhole_whole _) (Memref.whole main_v1_4) (Memref.isWhole_whole _)
    cc0_scratch0 cc0_scratch1 cc0_scratch2 cc0_scratch3 cc0_scratch4 cc0_scratch5 cc0_scratch6) _
  simp only [cc0_gather_weights_eq_skeleton]
  unfold cc0_gather_weights_skel
  simp only [k0_part34_eq_skeleton]
  unfold k0_part34_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel k0_part31_skel k0_part32_skel k0_part33_skel
  simp only [Prog.lift, Prog.bind_op, Prog.bind_ret, Prog.pure_eq_ret, wp_deviceId]
  refine Lines.wp_copy (w := lines m) Variants.none (.inl 0) rfl rfl (by decide +kernel) (by decide +kernel) ?_
  refine Lines.wp_copy (w := lines m) Variants.none (.inl 1) rfl rfl (by decide +kernel) (by decide +kernel) ?_
  refine Lines.wp_copy (w := lines m) Variants.none (.inl 2) rfl rfl (by decide +kernel) (by decide +kernel) ?_
  refine Lines.wp_copy (w := lines m) Variants.none (.inl 3) rfl rfl (by decide +kernel) (by decide +kernel) ?_
  refine Lines.wp_copy (w := lines m) Variants.none (.inr ()) rfl rfl (by decide +kernel) (by decide +kernel) ?_
  refine Lines.wp_send (w := lines m) Variants.none (.inl (.inl (0, 0))) (Fin.ext (to0 c)) rfl rfl rfl (by decide +kernel) (by decide +kernel) (by decide +kernel) (fun _ h => nomatch h) ?_
  refine Lines.wp_send (w := lines m) Variants.none (.inl (.inl (1, 0))) (Fin.ext (to0 c)) rfl rfl rfl (by decide +kernel) (by decide +kernel) (by decide +kernel) (fun _ h => nomatch h) ?_
  refine Lines.wp_send (w := lines m) Variants.none (.inl (.inl (2, 0))) (Fin.ext (to0 c)) rfl rfl rfl (by decide +kernel) (by decide +kernel) (by decide +kernel) (fun _ h => nomatch h) ?_
  refine Lines.wp_send (w := lines m) Variants.none (.inl (.inl (3, 0))) (Fin.ext (to0 c)) rfl rfl rfl (by decide +kernel) (by decide +kernel) (by decide +kernel) (fun _ h => nomatch h) ?_
  refine Lines.wp_send (w := lines m) Variants.none (.inl (.inr 0)) (Fin.ext (to0 c)) rfl rfl rfl (by decide +kernel) (by decide +kernel) (by decide +kernel) (fun _ h => nomatch h) ?_
  refine Lines.wp_send (w := lines m) Variants.none (.inl (.inl (0, 1))) (Fin.ext (to1 c)) rfl rfl rfl (by decide +kernel) (by decide +kernel) (by decide +kernel) (fun _ h => nomatch h) ?_
  refine Lines.wp_send (w := lines m) Variants.none (.inl (.inl (1, 1))) (Fin.ext (to1 c)) rfl rfl rfl (by decide +kernel) (by decide +kernel) (by decide +kernel) (fun _ h => nomatch h) ?_
  refine Lines.wp_send (w := lines m) Variants.none (.inl (.inl (2, 1))) (Fin.ext (to1 c)) rfl rfl rfl (by decide +kernel) (by decide +kernel) (by decide +kernel) (fun _ h => nomatch h) ?_
  refine Lines.wp_send (w := lines m) Variants.none (.inl (.inl (3, 1))) (Fin.ext (to1 c)) rfl rfl rfl (by decide +kernel) (by decide +kernel) (by decide +kernel) (fun _ h => nomatch h) ?_
  refine Lines.wp_send (w := lines m) Variants.none (.inl (.inr 1)) (Fin.ext (to1 c)) rfl rfl rfl (by decide +kernel) (by decide +kernel) (by decide +kernel) (fun _ h => nomatch h) ?_
  refine Lines.wp_send (w := lines m) Variants.none (.inl (.inl (0, 2))) (Fin.ext (to2 c)) rfl rfl rfl (by decide +kernel) (by decide +kernel) (by decide +kernel) (fun _ h => nomatch h) ?_
  refine Lines.wp_send (w := lines m) Variants.none (.inl (.inl (1, 2))) (Fin.ext (to2 c)) rfl rfl rfl (by decide +kernel) (by decide +kernel) (by decide +kernel) (fun _ h => nomatch h) ?_
  refine Lines.wp_send (w := lines m) Variants.none (.inl (.inl (2, 2))) (Fin.ext (to2 c)) rfl rfl rfl (by decide +kernel) (by decide +kernel) (by decide +kernel) (fun _ h => nomatch h) ?_
  refine Lines.wp_send (w := lines m) Variants.none (.inl (.inl (3, 2))) (Fin.ext (to2 c)) rfl rfl rfl (by decide +kernel) (by decide +kernel) (by decide +kernel) (fun _ h => nomatch h) ?_
  refine Lines.wp_send (w := lines m) Variants.none (.inl (.inr 2)) (Fin.ext (to2 c)) rfl rfl rfl (by decide +kernel) (by decide +kernel) (by decide +kernel) (fun _ h => nomatch h) ?_
  refine Lines.wp_waitR (w := lines m) Variants.none (.inl (.inl (0, 0))) rfl rfl (by decide +kernel) (below (by decide +kernel)) (before (by decide +kernel)) ?_
  refine Lines.wp_send (w := lines m) Variants.none (.inr (0, 0)) (Fin.ext (toSib c)) rfl rfl rfl (by decide +kernel) (by decide +kernel) (by decide +kernel) (came (by decide +kernel)) ?_
  refine Lines.wp_waitR (w := lines m) Variants.none (.inl (.inl (1, 0))) rfl rfl (by decide +kernel) (below (by decide +kernel)) (before (by decide +kernel)) ?_
  refine Lines.wp_send (w := lines m) Variants.none (.inr (1, 0)) (Fin.ext (toSib c)) rfl rfl rfl (by decide +kernel) (by decide +kernel) (by decide +kernel) (came (by decide +kernel)) ?_
  refine Lines.wp_waitR (w := lines m) Variants.none (.inl (.inl (2, 0))) rfl rfl (by decide +kernel) (below (by decide +kernel)) (before (by decide +kernel)) ?_
  refine Lines.wp_send (w := lines m) Variants.none (.inr (2, 0)) (Fin.ext (toSib c)) rfl rfl rfl (by decide +kernel) (by decide +kernel) (by decide +kernel) (came (by decide +kernel)) ?_
  refine Lines.wp_waitR (w := lines m) Variants.none (.inl (.inl (3, 0))) rfl rfl (by decide +kernel) (below (by decide +kernel)) (before (by decide +kernel)) ?_
  refine Lines.wp_send (w := lines m) Variants.none (.inr (3, 0)) (Fin.ext (toSib c)) rfl rfl rfl (by decide +kernel) (by decide +kernel) (by decide +kernel) (came (by decide +kernel)) ?_
  refine Lines.wp_waitR (w := lines m) Variants.none (.inl (.inr 0)) rfl rfl (by decide +kernel) (below (by decide +kernel)) (fun j h => nobody h) ?_
  refine Lines.wp_waitR (w := lines m) Variants.none (.inl (.inl (0, 1))) rfl rfl (by decide +kernel) (below (by decide +kernel)) (before (by decide +kernel)) ?_
  refine Lines.wp_send (w := lines m) Variants.none (.inr (0, 1)) (Fin.ext (toSib c)) rfl rfl rfl (by decide +kernel) (by decide +kernel) (by decide +kernel) (came (by decide +kernel)) ?_
  refine Lines.wp_waitR (w := lines m) Variants.none (.inl (.inl (1, 1))) rfl rfl (by decide +kernel) (below (by decide +kernel)) (before (by decide +kernel)) ?_
  refine Lines.wp_send (w := lines m) Variants.none (.inr (1, 1)) (Fin.ext (toSib c)) rfl rfl rfl (by decide +kernel) (by decide +kernel) (by decide +kernel) (came (by decide +kernel)) ?_
  refine Lines.wp_waitR (w := lines m) Variants.none (.inl (.inl (2, 1))) rfl rfl (by decide +kernel) (below (by decide +kernel)) (before (by decide +kernel)) ?_
  refine Lines.wp_send (w := lines m) Variants.none (.inr (2, 1)) (Fin.ext (toSib c)) rfl rfl rfl (by decide +kernel) (by decide +kernel) (by decide +kernel) (came (by decide +kernel)) ?_
  refine Lines.wp_waitR (w := lines m) Variants.none (.inl (.inl (3, 1))) rfl rfl (by decide +kernel) (below (by decide +kernel)) (before (by decide +kernel)) ?_
  refine Lines.wp_send (w := lines m) Variants.none (.inr (3, 1)) (Fin.ext (toSib c)) rfl rfl rfl (by decide +kernel) (by decide +kernel) (by decide +kernel) (came (by decide +kernel)) ?_
  refine Lines.wp_waitR (w := lines m) Variants.none (.inl (.inr 1)) rfl rfl (by decide +kernel) (below (by decide +kernel)) (fun j h => nobody h) ?_
  refine Lines.wp_waitR (w := lines m) Variants.none (.inl (.inl (0, 2))) rfl rfl (by decide +kernel) (below (by decide +kernel)) (before (by decide +kernel)) ?_
  refine Lines.wp_send (w := lines m) Variants.none (.inr (0, 2)) (Fin.ext (toSib c)) rfl rfl rfl (by decide +kernel) (by decide +kernel) (by decide +kernel) (came (by decide +kernel)) ?_
  refine Lines.wp_waitR (w := lines m) Variants.none (.inl (.inl (1, 2))) rfl rfl (by decide +kernel) (below (by decide +kernel)) (before (by decide +kernel)) ?_
  refine Lines.wp_send (w := lines m) Variants.none (.inr (1, 2)) (Fin.ext (toSib c)) rfl rfl rfl (by decide +kernel) (by decide +kernel) (by decide +kernel) (came (by decide +kernel)) ?_
  refine Lines.wp_waitR (w := lines m) Variants.none (.inl (.inl (2, 2))) rfl rfl (by decide +kernel) (below (by decide +kernel)) (before (by decide +kernel)) ?_
  refine Lines.wp_send (w := lines m) Variants.none (.inr (2, 2)) (Fin.ext (toSib c)) rfl rfl rfl (by decide +kernel) (by decide +kernel) (by decide +kernel) (came (by decide +kernel)) ?_
  refine Lines.wp_waitR (w := lines m) Variants.none (.inl (.inl (3, 2))) rfl rfl (by decide +kernel) (below (by decide +kernel)) (before (by decide +kernel)) ?_
  refine Lines.wp_send (w := lines m) Variants.none (.inr (3, 2)) (Fin.ext (toSib c)) rfl rfl rfl (by decide +kernel) (by decide +kernel) (by decide +kernel) (came (by decide +kernel)) ?_
  refine Lines.wp_waitR (w := lines m) Variants.none (.inl (.inr 2)) rfl rfl (by decide +kernel) (fun b hb => absurd (issued b) hb) (fun j h => nobody h) ?_
  refine Lines.wp_waitR (w := lines m) Variants.none (.inr (0, 0)) rfl rfl (by decide +kernel) (fun b hb => absurd (issued b) hb) (fun j h => nobody' h) ?_
  refine Lines.wp_waitR (w := lines m) Variants.none (.inr (1, 0)) rfl rfl (by decide +kernel) (fun b hb => absurd (issued b) hb) (fun j h => nobody' h) ?_
  refine Lines.wp_waitR (w := lines m) Variants.none (.inr (2, 0)) rfl rfl (by decide +kernel) (fun b hb => absurd (issued b) hb) (fun j h => nobody' h) ?_
  refine Lines.wp_waitR (w := lines m) Variants.none (.inr (3, 0)) rfl rfl (by decide +kernel) (fun b hb => absurd (issued b) hb) (fun j h => nobody' h) ?_
  refine Lines.wp_waitR (w := lines m) Variants.none (.inr (0, 1)) rfl rfl (by decide +kernel) (fun b hb => absurd (issued b) hb) (fun j h => nobody' h) ?_
  refine Lines.wp_waitR (w := lines m) Variants.none (.inr (1, 1)) rfl rfl (by decide +kernel) (fun b hb => absurd (issued b) hb) (fun j h => nobody' h) ?_
  refine Lines.wp_waitR (w := lines m) Variants.none (.inr (2, 1)) rfl rfl (by decide +kernel) (fun b hb => absurd (issued b) hb) (fun j h => nobody' h) ?_
  refine Lines.wp_waitR (w := lines m) Variants.none (.inr (3, 1)) rfl rfl (by decide +kernel) (fun b hb => absurd (issued b) hb) (fun j h => nobody' h) ?_
  refine Lines.wp_waitR (w := lines m) Variants.none (.inr (0, 2)) rfl rfl (by decide +kernel) (fun b hb => absurd (issued b) hb) (fun j h => nobody' h) ?_
  refine Lines.wp_waitR (w := lines m) Variants.none (.inr (1, 2)) rfl rfl (by decide +kernel) (fun b hb => absurd (issued b) hb) (fun j h => nobody' h) ?_
  refine Lines.wp_waitR (w := lines m) Variants.none (.inr (2, 2)) rfl rfl (by decide +kernel) (fun b hb => absurd (issued b) hb) (fun j h => nobody' h) ?_
  refine Lines.wp_waitR (w := lines m) Variants.none (.inr (3, 2)) rfl rfl (by decide +kernel) (fun b hb => absurd (issued b) hb) (fun j h => nobody' h) ?_
  refine Lines.wp_waitS (w := lines m) Variants.none (.inl (.inl (0, 0))) rfl rfl (by decide +kernel) (by decide +kernel) (fun b hb => absurd (issued b) hb) ?_
  refine Lines.wp_waitS (w := lines m) Variants.none (.inl (.inl (1, 0))) rfl rfl (by decide +kernel) (by decide +kernel) (fun b hb => absurd (issued b) hb) ?_
  refine Lines.wp_waitS (w := lines m) Variants.none (.inl (.inl (2, 0))) rfl rfl (by decide +kernel) (by decide +kernel) (fun b hb => absurd (issued b) hb) ?_
  refine Lines.wp_waitS (w := lines m) Variants.none (.inl (.inl (3, 0))) rfl rfl (by decide +kernel) (by decide +kernel) (fun b hb => absurd (issued b) hb) ?_
  refine Lines.wp_waitS (w := lines m) Variants.none (.inl (.inr 0)) rfl rfl (by decide +kernel) (by decide +kernel) (fun b hb => absurd (issued b) hb) ?_
  refine Lines.wp_waitS (w := lines m) Variants.none (.inl (.inl (0, 1))) rfl rfl (by decide +kernel) (by decide +kernel) (fun b hb => absurd (issued b) hb) ?_
  refine Lines.wp_waitS (w := lines m) Variants.none (.inl (.inl (1, 1))) rfl rfl (by decide +kernel) (by decide +kernel) (fun b hb => absurd (issued b) hb) ?_
  refine Lines.wp_waitS (w := lines m) Variants.none (.inl (.inl (2, 1))) rfl rfl (by decide +kernel) (by decide +kernel) (fun b hb => absurd (issued b) hb) ?_
  refine Lines.wp_waitS (w := lines m) Variants.none (.inl (.inl (3, 1))) rfl rfl (by decide +kernel) (by decide +kernel) (fun b hb => absurd (issued b) hb) ?_
  refine Lines.wp_waitS (w := lines m) Variants.none (.inl (.inr 1)) rfl rfl (by decide +kernel) (by decide +kernel) (fun b hb => absurd (issued b) hb) ?_
  refine Lines.wp_waitS (w := lines m) Variants.none (.inl (.inl (0, 2))) rfl rfl (by decide +kernel) (by decide +kernel) (fun b hb => absurd (issued b) hb) ?_
  refine Lines.wp_waitS (w := lines m) Variants.none (.inl (.inl (1, 2))) rfl rfl (by decide +kernel) (by decide +kernel) (fun b hb => absurd (issued b) hb) ?_
  refine Lines.wp_waitS (w := lines m) Variants.none (.inl (.inl (2, 2))) rfl rfl (by decide +kernel) (by decide +kernel) (fun b hb => absurd (issued b) hb) ?_
  refine Lines.wp_waitS (w := lines m) Variants.none (.inl (.inl (3, 2))) rfl rfl (by decide +kernel) (by decide +kernel) (fun b hb => absurd (issued b) hb) ?_
  refine Lines.wp_waitS (w := lines m) Variants.none (.inl (.inr 2)) rfl rfl (by decide +kernel) (by decide +kernel) (fun b hb => absurd (issued b) hb) ?_
  refine Lines.wp_waitS (w := lines m) Variants.none (.inr (0, 0)) rfl rfl (by decide +kernel) (by decide +kernel) (fun b hb => absurd (issued b) hb) ?_
  refine Lines.wp_waitS (w := lines m) Variants.none (.inr (1, 0)) rfl rfl (by decide +kernel) (by decide +kernel) (fun b hb => absurd (issued b) hb) ?_
  refine Lines.wp_waitS (w := lines m) Variants.none (.inr (2, 0)) rfl rfl (by decide +kernel) (by decide +kernel) (fun b hb => absurd (issued b) hb) ?_
  refine Lines.wp_waitS (w := lines m) Variants.none (.inr (3, 0)) rfl rfl (by decide +kernel) (by decide +kernel) (fun b hb => absurd (issued b) hb) ?_
  refine Lines.wp_waitS (w := lines m) Variants.none (.inr (0, 1)) rfl rfl (by decide +kernel) (by decide +kernel) (fun b hb => absurd (issued b) hb) ?_
  refine Lines.wp_waitS (w := lines m) Variants.none (.inr (1, 1)) rfl rfl (by decide +kernel) (by decide +kernel) (fun b hb => absurd (issued b) hb) ?_
  refine Lines.wp_waitS (w := lines m) Variants.none (.inr (2, 1)) rfl rfl (by decide +kernel) (by decide +kernel) (fun b hb => absurd (issued b) hb) ?_
  refine Lines.wp_waitS (w := lines m) Variants.none (.inr (3, 1)) rfl rfl (by decide +kernel) (by decide +kernel) (fun b hb => absurd (issued b) hb) ?_
  refine Lines.wp_waitS (w := lines m) Variants.none (.inr (0, 2)) rfl rfl (by decide +kernel) (by decide +kernel) (fun b hb => absurd (issued b) hb) ?_
  refine Lines.wp_waitS (w := lines m) Variants.none (.inr (1, 2)) rfl rfl (by decide +kernel) (by decide +kernel) (fun b hb => absurd (issued b) hb) ?_
  refine Lines.wp_waitS (w := lines m) Variants.none (.inr (2, 2)) rfl rfl (by decide +kernel) (by decide +kernel) (fun b hb => absurd (issued b) hb) ?_
  refine Lines.wp_waitS (w := lines m) Variants.none (.inr (3, 2)) rfl rfl (by decide +kernel) (by decide +kernel) (fun b hb => absurd (issued b) hb) ?_
  refine Lines.wp_waitA (w := lines m) Variants.none (.inl 0) rfl rfl (by decide +kernel) (by decide +kernel) (fun b hb => absurd (issued b) hb) ?_
  refine Lines.wp_waitA (w := lines m) Variants.none (.inl 1) rfl rfl (by decide +kernel) (by decide +kernel) (fun b hb => absurd (issued b) hb) ?_
  refine Lines.wp_waitA (w := lines m) Variants.none (.inl 2) rfl rfl (by decide +kernel) (by decide +kernel) (fun b hb => absurd (issued b) hb) ?_
  refine Lines.wp_waitA (w := lines m) Variants.none (.inl 3) rfl rfl (by decide +kernel) (by decide +kernel) (fun b hb => absurd (issued b) hb) ?_
  refine Lines.wp_waitA (w := lines m) Variants.none (.inr ()) rfl rfl (by decide +kernel) (by decide +kernel) (fun b hb => absurd (issued b) hb) ?_
  rw [wp_ret]
  exact (lines m).plan.finish c κ (fun k _ => allS k) allR

/-- The facts about the final memory of device `c`: the copies arrived and the arguments are unchanged. -/
def Ends (c : Dev nD) (μ : MemSt nD τ sig (Elt F)) : Prop :=
  (lines m).Landed c μ ∧ ∀ i : Here, μ.mem ((near i c).src.view.loc (c.tc : Thread nD τ)) = m _

theorem ownSemFacts : Pipeline.OwnSemFacts cfg0.spec (lines m).plan.osem := by
  show Pipeline.OwnSemFacts cfg0.spec (fun k => .dma (semOf k))
  decide +kernel

theorem run_main (g : Dev nD → PrngReg) :
    θ_run (defs (F := F)) (onTc (τ := τ) (main (F := F))) ⟨m, fun _ => 0, g⟩ (fun r => (∀ c, Ends m c r.2) ∧ r.2.sem = fun _ => 0) := by
  have h := (lines m).plan.run (defs₀ (F := F)) cfgs N_0 cellOf_inj winFacts0 (ownSemFacts m) m g (main (F := F)) (fun _ => rfl)
    (fun c => scopedRest0_eq c) (aside m) (deal m) (body m) (Ends m)
    (fun c s' => (lines m).facts c (asd := aside m c) (Q := fun μ => ∀ i : Here, μ.mem ((near i c).src.view.loc (c.tc : Thread nD τ)) = m _) (fun s' => kept (fun i => (near i c).src.view.loc (c.tc : Thread nD τ)) _ _ s') s')
  exact (θ_run defs _ _).mono (fun r hr => ⟨hr.1, sem_eq_zero_of_scoped (by decide) hr.2⟩) h

end Cert.GatherRun

end
-- ==== Proof.Regroup.lean ====
/-
# Regrouping the pieces by owner

The reference's reshape, transpose and reshape, read at an index; and a row of a three-dimensional buffer read as a matrix.
-/
module

public import Idealize.ShloMosaic.Lib.Pipeline.Value
public import Idealize.ShloMosaic.Lib.Layout

@[expose] public section

noncomputable section

namespace Cert.Regroup

open Idealize.ShloMosaic

variable {α : Type}

/-- Indices by their coordinates. -/
def at2 {a b : ℕ} (i : Fin a) (j : Fin b) : (⟨2, ![a, b]⟩ : Shape).Idx
  | ⟨0, _⟩ => i
  | ⟨1, _⟩ => j
def at3 {a b c : ℕ} (i : Fin a) (j : Fin b) (k : Fin c) : (⟨3, ![a, b, c]⟩ : Shape).Idx
  | ⟨0, _⟩ => i
  | ⟨1, _⟩ => j
  | ⟨2, _⟩ => k
def at5 {a b c d e : ℕ} (i : Fin a) (j : Fin b) (k : Fin c) (l : Fin d) (n : Fin e) : (⟨5, ![a, b, c, d, e]⟩ : Shape).Idx
  | ⟨0, _⟩ => i
  | ⟨1, _⟩ => j
  | ⟨2, _⟩ => k
  | ⟨3, _⟩ => l
  | ⟨4, _⟩ => n

theorem eq_at2 {a b : ℕ} (z : (⟨2, ![a, b]⟩ : Shape).Idx) (i : Fin a) (j : Fin b) (h : (z 0).val = i.val) (h' : (z 1).val = j.val) : z = at2 i j := by
  funext x
  rcases x with ⟨_ | _ | k, hx⟩
  · exact Fin.ext h
  · exact Fin.ext h'
  · exact absurd hx (by show ¬ k + 2 < 2; omega)

theorem eq_at3 {a b c : ℕ} (z : (⟨3, ![a, b, c]⟩ : Shape).Idx) (i : Fin a) (j : Fin b) (k : Fin c) (h : (z 0).val = i.val) (h' : (z 1).val = j.val)
    (h'' : (z 2).val = k.val) : z = at3 i j k := by
  funext x
  rcases x with ⟨_ | _ | _ | n, hx⟩
  · exact Fin.ext h
  · exact Fin.ext h'
  · exact Fin.ext h''
  · exact absurd hx (by show ¬ n + 3 < 3; omega)

/-- A row of a three-dimensional buffer, read as a matrix. -/
theorem read_row {sig : RefSig} {κ : Kind} {sp : Space} {J R W : ℕ} {e : EltTy} {Val : EltTy → Type} (M : Memref sig κ sp ⟨3, ![J, R, W]⟩ e)
    (o : Fin 3 → ℕ) (h : ∀ a, o a + (![1, R, W] : Fin 3 → ℕ) a ≤ (![J, R, W] : Fin 3 → ℕ) a)
    (hq : (⟨3, ![1, R, W]⟩ : Shape).Squeezes ⟨2, ![R, W]⟩) (hc : (⟨3, ![1, R, W]⟩ : Shape).ShapeCasts ⟨2, ![R, W]⟩) (f : M.view.ty.Contents Val)
    (z : (⟨3, ![J, R, W]⟩ : Shape).Idx) (a : Fin R) (b : Fin W) (h0 : (z 0).val = o 0) (h1 : (z 1).val = o 1 + a.val) (h2 : (z 2).val = o 2 + b.val) :
    ((M.slice (Rect.unit (s := ⟨3, ![J, R, W]⟩) o ![1, R, W] h) (fun _ => rfl)).squeeze ⟨2, ![R, W]⟩ hq).view.read Val f (at2 a b) = M.view.read Val f z := by
  rw [Memref.read_squeeze_slice M (Rect.unit (s := ⟨3, ![J, R, W]⟩) o ![1, R, W] h) (fun _ => rfl) hq hc f]
  rw [shapeCast_apply _ hc (at2 a b) (at3 (0 : Fin 1) a b) (by
    rw [Shape.rowMajor_val_three, Shape.rowMajor_val_two]
    show ((0 * R + a.val) * W + b.val) = a.val * W + b.val
    rw [Nat.zero_mul, Nat.zero_add])]
  show M.view.read Val f ((Rect.unit (s := ⟨3, ![J, R, W]⟩) o ![1, R, W] h).emb (at3 (0 : Fin 1) a b)) = _
  congr 1
  have hz (i : Fin 3) : ((Rect.unit (s := ⟨3, ![J, R, W]⟩) o ![1, R, W] h).emb (at3 (0 : Fin 1) a b) i).val = o i + 1 * (at3 (0 : Fin 1) a b i).val := rfl
  rw [eq_at3 z (z 0) (z 1) (z 2) rfl rfl rfl]
  refine eq_at3 _ _ _ _ ?_ ?_ ?_
  · rw [hz, h0]; show o 0 + 1 * 0 = _; omega
  · rw [hz, h1]; show o 1 + 1 * a.val = _; omega
  · rw [hz, h2]; show o 2 + 1 * b.val = _; omega

/-- The device of chip `j` with the core of device `c`. -/
def source (c : Fin 8) (j : Fin 4) : Fin 8 := ⟨2 * j.val + c.val % 2, by have := j.isLt; omega⟩

/-- Regrouping by the chip that owns a column piece: blocks of rows of the devices become, per owner, the pieces of its column. -/
def columns {T W : ℕ} (h : (⟨2, ![8192, T]⟩ : Shape).ShapeCasts ⟨5, ![4, 2, 1024, 4, W]⟩)
    (h' : (⟨5, ![4, 2, 1024, 4, W]⟩ : Shape).Transposes [3, 1, 0, 2, 4] ⟨5, ![4, 2, 4, 1024, W]⟩)
    (h'' : (⟨5, ![4, 2, 4, 1024, W]⟩ : Shape).ShapeCasts ⟨3, ![32, 1024, W]⟩) (X : (⟨2, ![8192, T]⟩ : Shape).Idx → α) : (⟨3, ![32, 1024, W]⟩ : Shape).Idx → α :=
  shapeCast _ (transpose ⟨5, ![4, 2, 4, 1024, W]⟩ [3, 1, 0, 2, 4] (shapeCast _ X h) h') h''

theorem columns_block {T W : ℕ} (hT : T = 4 * W) (h : (⟨2, ![8192, T]⟩ : Shape).ShapeCasts ⟨5, ![4, 2, 1024, 4, W]⟩)
    (h' : (⟨5, ![4, 2, 1024, 4, W]⟩ : Shape).Transposes [3, 1, 0, 2, 4] ⟨5, ![4, 2, 4, 1024, W]⟩)
    (h'' : (⟨5, ![4, 2, 4, 1024, W]⟩ : Shape).ShapeCasts ⟨3, ![32, 1024, W]⟩) (X : (⟨2, ![8192, T]⟩ : Shape).Idx → α)
    (hb : Layout.Tiles ⟨2, ![1024, T]⟩ ⟨2, ![8192, T]⟩ 0 8) (ht : Layout.Tiles ⟨3, ![4, 1024, W]⟩ ⟨3, ![32, 1024, W]⟩ 0 8)
    (A : Fin 8 → (⟨2, ![1024, T]⟩ : Shape).Idx → α) (hA : ∀ d, A d = Layout.block ⟨2, ![1024, T]⟩ ⟨2, ![8192, T]⟩ 0 8 d X hb) (c : Fin 8)
    (V : (⟨3, ![4, 1024, W]⟩ : Shape).Idx → α)
    (hV : ∀ (j : Fin 4) (a : Fin 1024) (b : Fin W) (y : Fin T), y.val = W * (c.val / 2) + b.val → V (at3 j a b) = A (source c j) (at2 a y)) :
    V = Layout.block ⟨3, ![4, 1024, W]⟩ ⟨3, ![32, 1024, W]⟩ 0 8 c (columns h h' h'' X) ht := by
  funext z
  obtain ⟨j, a, b, rfl⟩ : ∃ (j : Fin 4) (a : Fin 1024) (b : Fin W), z = at3 j a b := ⟨z 0, z 1, z 2, eq_at3 z _ _ _ rfl rfl rfl⟩
  have hc := c.isLt; have hj := j.isLt
  have hy : W * (c.val / 2) + b.val < T := by
    have := Nat.mul_le_mul_left W (show c.val / 2 + 1 ≤ 4 by omega)
    rw [Nat.mul_add, Nat.mul_one, Nat.mul_comm W 4] at this
    have := b.isLt; omega
  rw [hV j a b ⟨_, hy⟩ rfl, hA, Layout.block_apply, Layout.block_apply]
  symm
  unfold columns
  refine (shapeCast_apply _ h'' _ (at5 (⟨c.val / 2, by omega⟩ : Fin 4) (⟨c.val % 2, by omega⟩ : Fin 2) j a b) ?_).trans ?_
  · rw [Shape.rowMajor_val_three, Shape.rowMajor_val_five]
    show ((((c.val / 2) * 2 + c.val % 2) * 4 + j.val) * 1024 + a.val) * W + b.val = ((c.val * 4 + j.val) * 1024 + a.val) * W + b.val
    rw [show (c.val / 2) * 2 + c.val % 2 = c.val by omega]
  refine (transpose_apply _ _ h' _ (at5 j (⟨c.val % 2, by omega⟩ : Fin 2) a (⟨c.val / 2, by omega⟩ : Fin 4) b) ?_).trans ?_
  · intro i
    rcases i with ⟨_ | _ | _ | _ | _ | n, hi⟩
    · rfl
    · rfl
    · rfl
    · rfl
    · rfl
    · exact absurd hi (by show ¬ n + 5 < 5; omega)
  refine shapeCast_apply _ h _ _ ?_
  rw [Shape.rowMajor_val_two, Shape.rowMajor_val_five]
  show ((2 * j.val + c.val % 2) * 1024 + a.val) * T + (W * (c.val / 2) + b.val) = (((j.val * 2 + c.val % 2) * 1024 + a.val) * 4 + c.val / 2) * W + b.val
  rw [hT, Nat.add_mul _ (c.val / 2) W, ← Nat.add_assoc, Nat.mul_assoc _ 4 W, Nat.mul_comm W, Nat.mul_comm 2]

/-- Regrouping by the chip that owns a slab. -/
def slabs (h : (⟨3, ![32, 256, 2048]⟩ : Shape).ShapeCasts ⟨5, ![4, 2, 4, 256, 2048]⟩)
    (h' : (⟨5, ![4, 2, 4, 256, 2048]⟩ : Shape).Transposes [2, 1, 0, 3, 4] ⟨5, ![4, 2, 4, 256, 2048]⟩)
    (h'' : (⟨5, ![4, 2, 4, 256, 2048]⟩ : Shape).ShapeCasts ⟨3, ![32, 256, 2048]⟩) (X : (⟨3, ![32, 256, 2048]⟩ : Shape).Idx → α) : (⟨3, ![32, 256, 2048]⟩ : Shape).Idx → α :=
  shapeCast _ (transpose ⟨5, ![4, 2, 4, 256, 2048]⟩ [2, 1, 0, 3, 4] (shapeCast _ X h) h') h''

theorem slabs_block (h : (⟨3, ![32, 256, 2048]⟩ : Shape).ShapeCasts ⟨5, ![4, 2, 4, 256, 2048]⟩)
    (h' : (⟨5, ![4, 2, 4, 256, 2048]⟩ : Shape).Transposes [2, 1, 0, 3, 4] ⟨5, ![4, 2, 4, 256, 2048]⟩)
    (h'' : (⟨5, ![4, 2, 4, 256, 2048]⟩ : Shape).ShapeCasts ⟨3, ![32, 256, 2048]⟩) (X : (⟨3, ![32, 256, 2048]⟩ : Shape).Idx → α)
    (ht : Layout.Tiles ⟨3, ![4, 256, 2048]⟩ ⟨3, ![32, 256, 2048]⟩ 0 8)
    (A : Fin 8 → (⟨3, ![4, 256, 2048]⟩ : Shape).Idx → α) (hA : ∀ d, A d = Layout.block ⟨3, ![4, 256, 2048]⟩ ⟨3, ![32, 256, 2048]⟩ 0 8 d X ht) (c : Fin 8)
    (V : (⟨3, ![4, 256, 2048]⟩ : Shape).Idx → α)
    (hV : ∀ (j : Fin 4) (a : Fin 256) (b : Fin 2048), V (at3 j a b) = A (source c j) (at3 (⟨c.val / 2, by have := c.isLt; omega⟩ : Fin 4) a b)) :
    V = Layout.block ⟨3, ![4, 256, 2048]⟩ ⟨3, ![32, 256, 2048]⟩ 0 8 c (slabs h h' h'' X) ht := by
  funext z
  obtain ⟨j, a, b, rfl⟩ : ∃ (j : Fin 4) (a : Fin 256) (b : Fin 2048), z = at3 j a b := ⟨z 0, z 1, z 2, eq_at3 z _ _ _ rfl rfl rfl⟩
  have hc := c.isLt; have hj := j.isLt
  rw [hV j a b, hA, Layout.block_apply, Layout.block_apply]
  symm
  unfold slabs
  refine (shapeCast_apply _ h'' _ (at5 (⟨c.val / 2, by omega⟩ : Fin 4) (⟨c.val % 2, by omega⟩ : Fin 2) j a b) ?_).trans ?_
  · rw [Shape.rowMajor_val_three, Shape.rowMajor_val_five]
    show ((((c.val / 2) * 2 + c.val % 2) * 4 + j.val) * 256 + a.val) * 2048 + b.val = ((c.val * 4 + j.val) * 256 + a.val) * 2048 + b.val
    rw [show (c.val / 2) * 2 + c.val % 2 = c.val by omega]
  refine (transpose_apply _ _ h' _ (at5 j (⟨c.val % 2, by omega⟩ : Fin 2) (⟨c.val / 2, by omega⟩ : Fin 4) a b) ?_).trans ?_
  · intro i
    rcases i with ⟨_ | _ | _ | _ | _ | n, hi⟩
    · rfl
    · rfl
    · rfl
    · rfl
    · rfl
    · exact absurd hi (by show ¬ n + 5 < 5; omega)
  refine shapeCast_apply _ h _ _ ?_
  rw [Shape.rowMajor_val_three, Shape.rowMajor_val_five]
  show (((2 * j.val + c.val % 2) * 4 + c.val / 2) * 256 + a.val) * 2048 + b.val = (((j.val * 2 + c.val % 2) * 4 + c.val / 2) * 256 + a.val) * 2048 + b.val
  rw [Nat.mul_comm 2]

/-- A rectangle of a matrix, read at an index. -/
theorem read_rect {sig : RefSig} {κ : Kind} {sp : Space} {A B R W : ℕ} {e : EltTy} {Val : EltTy → Type} (M : Memref sig κ sp ⟨2, ![A, B]⟩ e)
    (o : Fin 2 → ℕ) (h : ∀ a, o a + (![R, W] : Fin 2 → ℕ) a ≤ (![A, B] : Fin 2 → ℕ) a) (f : M.view.ty.Contents Val)
    (a : Fin R) (b : Fin W) (x : Fin A) (y : Fin B) (hx : x.val = o 0 + a.val) (hy : y.val = o 1 + b.val) :
    (M.slice (Rect.unit (s := ⟨2, ![A, B]⟩) o ![R, W] h) (fun _ => rfl)).view.read Val f (at2 a b) = M.view.read Val f (at2 x y) := by
  show M.view.read Val f ((Rect.unit (s := ⟨2, ![A, B]⟩) o ![R, W] h).emb (at2 a b)) = _
  congr 1
  have hz (i : Fin 2) : ((Rect.unit (s := ⟨2, ![A, B]⟩) o ![R, W] h).emb (at2 a b) i).val = o i + 1 * (at2 a b i).val := rfl
  refine eq_at2 _ _ _ ?_ ?_
  · rw [hz, hx]; show o 0 + 1 * a.val = _; omega
  · rw [hz, hy]; show o 1 + 1 * b.val = _; omega

/-- A block of a matrix, read at an index. -/
theorem blockN_at {r w R W : ℕ} {kN : Fin 2 → ℕ} (j : (b : Fin 2) → Fin (kN b)) (X : (⟨2, ![R, W]⟩ : Shape).Idx → α)
    (h : Layout.TilesN ⟨2, ![r, w]⟩ ⟨2, ![R, W]⟩ kN) (a : Fin r) (b : Fin w) (x : Fin R) (y : Fin W)
    (hx : x.val = (j 0).val * r + a.val) (hy : y.val = (j 1).val * w + b.val) :
    Layout.blockN ⟨2, ![r, w]⟩ ⟨2, ![R, W]⟩ j X h (at2 a b) = X (at2 x y) := by
  rw [Layout.blockN_apply]
  congr 1
  exact eq_at2 _ _ _ hx.symm hy.symm

/-- The block of the chip of a device. -/
theorem chip_block : ∀ d : Fin 8, Layout.meshLin [2, 2, 2] d.val [0, 1] = d.val / 2 := by decide

/-- A matrix whose columns are cut among the chips, put together: the own chip's columns, and each other chip's from its two
devices, half of the rows each. -/
theorem gathered_columns {w T : ℕ} (hw : 0 < w) (hT : T = 4 * w) (X f : (⟨2, ![2048, T]⟩ : Shape).Idx → α) (A : Fin 8 → (⟨2, ![2048, w]⟩ : Shape).Idx → α)
    (hA : ∀ (d : Fin 8) (a : Fin 2048) (b : Fin w) (y : Fin T), y.val = d.val / 2 * w + b.val → A d (at2 a b) = X (at2 a y)) (c : Fin 8)
    (own : ∀ (a : Fin 2048) (b : Fin w) (y : Fin T), y.val = c.val / 2 * w + b.val → f (at2 a y) = A c (at2 a b))
    (rest : ∀ d : Fin 8, d.val / 2 ≠ c.val / 2 → ∀ (a : Fin 1024) (b : Fin w) (x : Fin 2048) (y : Fin T), x.val = 1024 * (d.val % 2) + a.val →
      y.val = d.val / 2 * w + b.val → f (at2 x y) = A d (at2 x b)) : f = X := by
  funext z
  obtain ⟨x, y, rfl⟩ : ∃ (x : Fin 2048) (y : Fin T), z = at2 x y := ⟨z 0, z 1, eq_at2 z _ _ rfl rfl⟩
  have hx := x.isLt
  have hj : y.val / w < 4 := (Nat.div_lt_iff_lt_mul hw).mpr (hT ▸ y.isLt)
  have hy : y.val = y.val / w * w + y.val % w := by rw [Nat.mul_comm]; exact (Nat.div_add_mod _ _).symm
  by_cases e : y.val / w = c.val / 2
  · have h : y.val = c.val / 2 * w + y.val % w := e ▸ hy
    rw [own x ⟨y.val % w, Nat.mod_lt _ hw⟩ y h, hA c x ⟨y.val % w, Nat.mod_lt _ hw⟩ y h]
  · have hd : (2 * (y.val / w) + x.val / 1024) / 2 = y.val / w := by omega
    have h : y.val = (2 * (y.val / w) + x.val / 1024) / 2 * w + y.val % w := by rw [hd]; exact hy
    rw [rest ⟨2 * (y.val / w) + x.val / 1024, by omega⟩ (by show _ / 2 ≠ _; rw [hd]; exact e) ⟨x.val % 1024, Nat.mod_lt _ (by decide)⟩ ⟨y.val % w, Nat.mod_lt _ hw⟩ x y
        (by show x.val = 1024 * ((2 * (y.val / w) + x.val / 1024) % 2) + x.val % 1024; omega) h,
      hA _ x ⟨y.val % w, Nat.mod_lt _ hw⟩ y h]

/-- The same for a matrix whose rows are cut among the chips. -/
theorem gathered_rows (X f : (⟨2, ![2048, 2048]⟩ : Shape).Idx → α) (A : Fin 8 → (⟨2, ![512, 2048]⟩ : Shape).Idx → α)
    (hA : ∀ (d : Fin 8) (a : Fin 512) (x y : Fin 2048), x.val = d.val / 2 * 512 + a.val → A d (at2 a y) = X (at2 x y)) (c : Fin 8)
    (own : ∀ (a : Fin 512) (x y : Fin 2048), x.val = c.val / 2 * 512 + a.val → f (at2 x y) = A c (at2 a y))
    (rest : ∀ d : Fin 8, d.val / 2 ≠ c.val / 2 → ∀ (a : Fin 256) (a' : Fin 512) (x y : Fin 2048), a'.val = 256 * (d.val % 2) + a.val →
      x.val = d.val / 2 * 512 + a'.val → f (at2 x y) = A d (at2 a' y)) : f = X := by
  funext z
  obtain ⟨x, y, rfl⟩ : ∃ (x y : Fin 2048), z = at2 x y := ⟨z 0, z 1, eq_at2 z _ _ rfl rfl⟩
  have hx := x.isLt
  obtain ⟨a, ha⟩ : ∃ a : Fin 512, a.val = x.val % 512 := ⟨⟨x.val % 512, Nat.mod_lt _ (by decide)⟩, rfl⟩
  obtain ⟨a', ha'⟩ : ∃ a' : Fin 256, a'.val = x.val % 256 := ⟨⟨x.val % 256, Nat.mod_lt _ (by decide)⟩, rfl⟩
  by_cases e : x.val / 512 = c.val / 2
  · have h : x.val = c.val / 2 * 512 + a.val := by omega
    rw [own a x y h, hA c a x y h]
  · obtain ⟨d, hd⟩ : ∃ d : Fin 8, d.val = x.val / 256 := ⟨⟨x.val / 256, by omega⟩, rfl⟩
    have h : x.val = d.val / 2 * 512 + a.val := by omega
    rw [rest d (by omega) a' a x y (by omega) h, hA d a x y h]

end Cert.Regroup

end
-- ==== Proof.GatherValue.lean ====
/-
# What the gather of the weights computes

Each device ends holding every weight whole: its own chip's shard copied, and each other chip's in two halves, one sent to
this device and one passed on by its sibling.
-/
module

public import proofs.«01_k».proof.Proof.GatherRun
public import proofs.«01_k».proof.Proof.Regroup

@[expose] public section

noncomputable section

namespace Cert.GatherRun

open Idealize.ShloMosaic
open Idealize.ShloMosaic.TcCoe
open Idealize.SL.Sem
open Cert.GatherIdeal Cert.GatherIdeal.Gen Cert.Wires Cert.Mesh Cert.Regroup

variable {F : FTy → Type} [FloatOps F]
variable (m : (ℓ : Loc nD τ sig) → Buf (Elt F) ℓ)

/-- A device of another chip is one of the three that send here, or one of the three that send to the sibling. -/
theorem sender : ∀ c d : Dev nD, d.val / 2 ≠ c.val / 2 → (∃ r, d = other r c) ∨ ∃ r, d = other r (sib c) := by decide +kernel

theorem half_chip : ∀ d : Fin 8, 2 * (d.val / 4) + (d.val / 2) % 2 = d.val / 2 := by decide

/-- What is read from a place is what was written there, wherever the place is said to be. -/
theorem read_moved {n : ℕ} {P : (Fin n → ℕ) → Prop} {sp : Space} {s : Shape} {e : EltTy} (M : (o : Fin n → ℕ) → P o → Memref sig .tc sp s e) {o o' : Fin n → ℕ} (eq : o = o')
    (h : P o) (h' : P o') (c c' : Dev nD) (μ m : (ℓ : Loc nD τ sig) → Buf (Elt F) ℓ) (X : s.Idx → Elt F e)
    (hr : (M o' h').view.read (Elt F) (μ ((M o' h').view.loc (c.tc : Thread nD τ)))
      = (M o' h').view.read (Elt F) ((M o' h').view.write (Elt F) (m ((M o' h').view.loc (c'.tc : Thread nD τ))) X Finset.univ)) :
    (M o h).view.read (Elt F) (μ ((M o h).view.loc (c.tc : Thread nD τ))) = X := by
  subst eq
  exact hr.trans (View.read_write_univ _ _)

/-- In the place of a device of another chip lies the half that this device sends. -/
theorem got0 {c : Dev nD} {μ : MemSt nD τ sig (Elt F)} (h : Ends m c μ) (d : Dev nD) (hd : d.val / 2 ≠ c.val / 2) :
    (spot0 (k0_off6 d) (k0_off6_inb d)).view.read (Elt F) (μ.mem ((c.tc : Thread nD τ).loc main_v1_0)) = sent0 m d := by
  rcases sender c d hd with ⟨r, rfl⟩ | ⟨r, rfl⟩
  · exact h.1.2 (.inl (.inl (0, r)))
  · exact read_moved spot0 (lands0 (sib c) r) _ _ c (sib c) μ.mem m _ (h.1.2 (.inr (0, r)))
theorem got1 {c : Dev nD} {μ : MemSt nD τ sig (Elt F)} (h : Ends m c μ) (d : Dev nD) (hd : d.val / 2 ≠ c.val / 2) :
    (spot1 (k0_off8 d) (k0_off8_inb d)).view.read (Elt F) (μ.mem ((c.tc : Thread nD τ).loc main_v1_1)) = sent1 m d := by
  rcases sender c d hd with ⟨r, rfl⟩ | ⟨r, rfl⟩
  · exact h.1.2 (.inl (.inl (1, r)))
  · exact read_moved spot1 (lands1 (sib c) r) _ _ c (sib c) μ.mem m _ (h.1.2 (.inr (1, r)))
theorem got2 {c : Dev nD} {μ : MemSt nD τ sig (Elt F)} (h : Ends m c μ) (d : Dev nD) (hd : d.val / 2 ≠ c.val / 2) :
    (spot2 (k0_off10 d) (k0_off10_inb d)).view.read (Elt F) (μ.mem ((c.tc : Thread nD τ).loc main_v1_2)) = sent2 m d := by
  rcases sender c d hd with ⟨r, rfl⟩ | ⟨r, rfl⟩
  · exact h.1.2 (.inl (.inl (2, r)))
  · exact read_moved spot2 (lands2 (sib c) r) _ _ c (sib c) μ.mem m _ (h.1.2 (.inr (2, r)))
theorem got3 {c : Dev nD} {μ : MemSt nD τ sig (Elt F)} (h : Ends m c μ) (d : Dev nD) (hd : d.val / 2 ≠ c.val / 2) :
    (spot3 (k0_off8 d) (k0_off8_inb d)).view.read (Elt F) (μ.mem ((c.tc : Thread nD τ).loc main_v1_3)) = sent3 m d := by
  rcases sender c d hd with ⟨r, rfl⟩ | ⟨r, rfl⟩
  · exact h.1.2 (.inl (.inl (3, r)))
  · exact read_moved spot3 (lands1 (sib c) r) _ _ c (sib c) μ.mem m _ (h.1.2 (.inr (3, r)))

/-- The small array of a device. -/
def shard4 (d : Dev nD) := m ((d.tc : Thread nD τ).loc main_arg4)

theorem source_cases : ∀ (c : Dev nD) (j : Fin 4), source c j = c ∨ ∃ r, source c j = other r c := by decide +kernel

/-- In the place of a chip lies its small array. -/
theorem got4 {c : Dev nD} {μ : MemSt nD τ sig (Elt F)} (h : Ends m c μ) (j : Fin 4) :
    (spot4 (source c j)).view.read (Elt F) (μ.mem ((c.tc : Thread nD τ).loc main_v1_4)) = shard4 m (source c j) := by
  rcases source_cases c j with e | ⟨r, e⟩
  · rw [e]; exact h.1.1 (.inr ())
  · rw [e]; exact h.1.2 (.inl (.inr r))

theorem value0 {c : Dev nD} {μ : MemSt nD τ sig (Elt F)} (h : Ends m c μ) (X : (⟨2, ![2048, 8192]⟩ : Shape).Idx → F .bf16)
    (hX : ∀ d : Dev nD, m ((d.tc : Thread nD τ).loc main_arg0) = Layout.blockN ⟨2, ![2048, 2048]⟩ ⟨2, ![2048, 8192]⟩ (Layout.meshBlock [2, 2, 2] ![[], [0, 1]] d) X) :
    μ.mem ((c.tc : Thread nD τ).loc main_v1_0) = X := by
  refine gathered_columns (w := 2048) (by decide) rfl X _ (fun (d : Dev nD) => m ((d.tc : Thread nD τ).loc main_arg0)) (fun d a b y hy => ?_) c (fun a b y hy => ?_) (fun (d : Dev nD) hd a b x y hx hy => ?_)
  · rw [hX d]
    exact blockN_at _ X _ a b a y (by show a.val = 0 * 2048 + a.val; omega) (hy.trans (congrArg (· * 2048 + b.val) (chip_block d).symm))
  · have e := read_rect (R := 2048) (W := 2048) (Val := Elt F) (Memref.whole main_v1_0) (k0_off1 c) (k0_off1_inb c) (μ.mem ((c.tc : Thread nD τ).loc main_v1_0)) a b a y
      (by rw [k0_off1_eq]; exact (Nat.zero_add _).symm)
      (by rw [k0_off1_eq, hy]; have := half_chip c; show _ = 4096 * (c.val / 4) + 2048 * ((c.val / 2) % 2) + b.val; omega)
    show (Memref.whole main_v1_0).view.read (Elt F) (μ.mem ((c.tc : Thread nD τ).loc main_v1_0)) (at2 a y) = (Memref.whole main_arg0).view.read (Elt F) (m ((c.tc : Thread nD τ).loc main_arg0)) (at2 a b)
    exact e.symm.trans (congrFun (h.1.1 (.inl 0)) (at2 a b))
  · have e := read_rect (R := 1024) (W := 2048) (Val := Elt F) (Memref.whole main_v1_0) (k0_off6 d) (k0_off6_inb d) (μ.mem ((c.tc : Thread nD τ).loc main_v1_0)) a b x y
      (by rw [k0_off6_eq]; exact hx)
      (by rw [k0_off6_eq, hy]; have := half_chip d; show _ = 4096 * (d.val / 4) + 2048 * ((d.val / 2) % 2) + b.val; omega)
    have e' := read_rect (R := 1024) (W := 2048) (Val := Elt F) (Memref.whole main_arg0) (k0_off5 d) (k0_off5_inb d) (m ((d.tc : Thread nD τ).loc main_arg0)) a b x b
      (by rw [k0_off5_eq]; exact hx)
      (by rw [k0_off5_eq]; exact (Nat.zero_add _).symm)
    show (Memref.whole main_v1_0).view.read (Elt F) (μ.mem ((c.tc : Thread nD τ).loc main_v1_0)) (at2 x y) = (Memref.whole main_arg0).view.read (Elt F) (m ((d.tc : Thread nD τ).loc main_arg0)) (at2 x b)
    exact e.symm.trans ((congrFun (got0 m h d hd) (at2 a b)).trans e')

theorem value2 {c : Dev nD} {μ : MemSt nD τ sig (Elt F)} (h : Ends m c μ) (X : (⟨2, ![2048, 4608]⟩ : Shape).Idx → F .bf16)
    (hX : ∀ d : Dev nD, m ((d.tc : Thread nD τ).loc main_arg2) = Layout.blockN ⟨2, ![2048, 1152]⟩ ⟨2, ![2048, 4608]⟩ (Layout.meshBlock [2, 2, 2] ![[], [0, 1]] d) X) :
    μ.mem ((c.tc : Thread nD τ).loc main_v1_2) = X := by
  refine gathered_columns (w := 1152) (by decide) rfl X _ (fun (d : Dev nD) => m ((d.tc : Thread nD τ).loc main_arg2)) (fun d a b y hy => ?_) c (fun a b y hy => ?_) (fun (d : Dev nD) hd a b x y hx hy => ?_)
  · rw [hX d]
    exact blockN_at _ X _ a b a y (by show a.val = 0 * 2048 + a.val; omega) (hy.trans (congrArg (· * 1152 + b.val) (chip_block d).symm))
  · have e := read_rect (R := 2048) (W := 1152) (Val := Elt F) (Memref.whole main_v1_2) (k0_off3 c) (k0_off3_inb c) (μ.mem ((c.tc : Thread nD τ).loc main_v1_2)) a b a y
      (by rw [k0_off3_eq]; exact (Nat.zero_add _).symm)
      (by rw [k0_off3_eq, hy]; have := half_chip c; show _ = 2304 * (c.val / 4) + 1152 * ((c.val / 2) % 2) + b.val; omega)
    show (Memref.whole main_v1_2).view.read (Elt F) (μ.mem ((c.tc : Thread nD τ).loc main_v1_2)) (at2 a y) = (Memref.whole main_arg2).view.read (Elt F) (m ((c.tc : Thread nD τ).loc main_arg2)) (at2 a b)
    exact e.symm.trans (congrFun (h.1.1 (.inl 2)) (at2 a b))
  · have e := read_rect (R := 1024) (W := 1152) (Val := Elt F) (Memref.whole main_v1_2) (k0_off10 d) (k0_off10_inb d) (μ.mem ((c.tc : Thread nD τ).loc main_v1_2)) a b x y
      (by rw [k0_off10_eq]; exact hx)
      (by rw [k0_off10_eq, hy]; have := half_chip d; show _ = 2304 * (d.val / 4) + 1152 * ((d.val / 2) % 2) + b.val; omega)
    have e' := read_rect (R := 1024) (W := 1152) (Val := Elt F) (Memref.whole main_arg2) (k0_off9 d) (k0_off9_inb d) (m ((d.tc : Thread nD τ).loc main_arg2)) a b x b
      (by rw [k0_off9_eq]; exact hx)
      (by rw [k0_off9_eq]; exact (Nat.zero_add _).symm)
    show (Memref.whole main_v1_2).view.read (Elt F) (μ.mem ((c.tc : Thread nD τ).loc main_v1_2)) (at2 x y) = (Memref.whole main_arg2).view.read (Elt F) (m ((d.tc : Thread nD τ).loc main_arg2)) (at2 x b)
    exact e.symm.trans ((congrFun (got2 m h d hd) (at2 a b)).trans e')

theorem value1 {c : Dev nD} {μ : MemSt nD τ sig (Elt F)} (h : Ends m c μ) (X : (⟨2, ![2048, 2048]⟩ : Shape).Idx → F .bf16)
    (hX : ∀ d : Dev nD, m ((d.tc : Thread nD τ).loc main_arg1) = Layout.blockN ⟨2, ![512, 2048]⟩ ⟨2, ![2048, 2048]⟩ (Layout.meshBlock [2, 2, 2] ![[0, 1], []] d) X) :
    μ.mem ((c.tc : Thread nD τ).loc main_v1_1) = X := by
  refine gathered_rows X _ (fun (d : Dev nD) => m ((d.tc : Thread nD τ).loc main_arg1)) (fun d a x y hx => ?_) c (fun a x y hx => ?_) (fun (d : Dev nD) hd a a' x y ha hx => ?_)
  · rw [hX d]
    exact blockN_at _ X _ a y x y (hx.trans (congrArg (· * 512 + a.val) (chip_block d).symm)) (by show y.val = 0 * 2048 + y.val; omega)
  · have e := read_rect (R := 512) (W := 2048) (Val := Elt F) (Memref.whole main_v1_1) (k0_off2 c) (k0_off2_inb c) (μ.mem ((c.tc : Thread nD τ).loc main_v1_1)) a y x y
      (by rw [k0_off2_eq, hx]; have := half_chip c; show _ = 1024 * (c.val / 4) + 512 * ((c.val / 2) % 2) + a.val; omega)
      (by rw [k0_off2_eq]; exact (Nat.zero_add _).symm)
    show (Memref.whole main_v1_1).view.read (Elt F) (μ.mem ((c.tc : Thread nD τ).loc main_v1_1)) (at2 x y) = (Memref.whole main_arg1).view.read (Elt F) (m ((c.tc : Thread nD τ).loc main_arg1)) (at2 a y)
    exact e.symm.trans (congrFun (h.1.1 (.inl 1)) (at2 a y))
  · have e := read_rect (R := 256) (W := 2048) (Val := Elt F) (Memref.whole main_v1_1) (k0_off8 d) (k0_off8_inb d) (μ.mem ((c.tc : Thread nD τ).loc main_v1_1)) a y x y
      (by rw [k0_off8_eq, hx, ha]; have := half_chip d; show _ = 256 * (d.val % 2) + 1024 * (d.val / 4) + 512 * ((d.val / 2) % 2) + a.val; omega)
      (by rw [k0_off8_eq]; exact (Nat.zero_add _).symm)
    have e' := read_rect (R := 256) (W := 2048) (Val := Elt F) (Memref.whole main_arg1) (k0_off7 d) (k0_off7_inb d) (m ((d.tc : Thread nD τ).loc main_arg1)) a y a' y
      (by rw [k0_off7_eq]; exact ha)
      (by rw [k0_off7_eq]; exact (Nat.zero_add _).symm)
    show (Memref.whole main_v1_1).view.read (Elt F) (μ.mem ((c.tc : Thread nD τ).loc main_v1_1)) (at2 x y) = (Memref.whole main_arg1).view.read (Elt F) (m ((d.tc : Thread nD τ).loc main_arg1)) (at2 a' y)
    exact e.symm.trans ((congrFun (got1 m h d hd) (at2 a y)).trans e')

theorem value3 {c : Dev nD} {μ : MemSt nD τ sig (Elt F)} (h : Ends m c μ) (X : (⟨2, ![2048, 2048]⟩ : Shape).Idx → F .bf16)
    (hX : ∀ d : Dev nD, m ((d.tc : Thread nD τ).loc main_arg3) = Layout.blockN ⟨2, ![512, 2048]⟩ ⟨2, ![2048, 2048]⟩ (Layout.meshBlock [2, 2, 2] ![[0, 1], []] d) X) :
    μ.mem ((c.tc : Thread nD τ).loc main_v1_3) = X := by
  refine gathered_rows X _ (fun (d : Dev nD) => m ((d.tc : Thread nD τ).loc main_arg3)) (fun d a x y hx => ?_) c (fun a x y hx => ?_) (fun (d : Dev nD) hd a a' x y ha hx => ?_)
  · rw [hX d]
    exact blockN_at _ X _ a y x y (hx.trans (congrArg (· * 512 + a.val) (chip_block d).symm)) (by show y.val = 0 * 2048 + y.val; omega)
  · have e := read_rect (R := 512) (W := 2048) (Val := Elt F) (Memref.whole main_v1_3) (k0_off2 c) (k0_off2_inb c) (μ.mem ((c.tc : Thread nD τ).loc main_v1_3)) a y x y
      (by rw [k0_off2_eq, hx]; have := half_chip c; show _ = 1024 * (c.val / 4) + 512 * ((c.val / 2) % 2) + a.val; omega)
      (by rw [k0_off2_eq]; exact (Nat.zero_add _).symm)
    show (Memref.whole main_v1_3).view.read (Elt F) (μ.mem ((c.tc : Thread nD τ).loc main_v1_3)) (at2 x y) = (Memref.whole main_arg3).view.read (Elt F) (m ((c.tc : Thread nD τ).loc main_arg3)) (at2 a y)
    exact e.symm.trans (congrFun (h.1.1 (.inl 3)) (at2 a y))
  · have e := read_rect (R := 256) (W := 2048) (Val := Elt F) (Memref.whole main_v1_3) (k0_off8 d) (k0_off8_inb d) (μ.mem ((c.tc : Thread nD τ).loc main_v1_3)) a y x y
      (by rw [k0_off8_eq, hx, ha]; have := half_chip d; show _ = 256 * (d.val % 2) + 1024 * (d.val / 4) + 512 * ((d.val / 2) % 2) + a.val; omega)
      (by rw [k0_off8_eq]; exact (Nat.zero_add _).symm)
    have e' := read_rect (R := 256) (W := 2048) (Val := Elt F) (Memref.whole main_arg3) (k0_off7 d) (k0_off7_inb d) (m ((d.tc : Thread nD τ).loc main_arg3)) a y a' y
      (by rw [k0_off7_eq]; exact ha)
      (by rw [k0_off7_eq]; exact (Nat.zero_add _).symm)
    show (Memref.whole main_v1_3).view.read (Elt F) (μ.mem ((c.tc : Thread nD τ).loc main_v1_3)) (at2 x y) = (Memref.whole main_arg3).view.read (Elt F) (m ((d.tc : Thread nD τ).loc main_arg3)) (at2 a' y)
    exact e.symm.trans ((congrFun (got3 m h d hd) (at2 a y)).trans e')

theorem value4 {c : Dev nD} {μ : MemSt nD τ sig (Elt F)} (h : Ends m c μ) (X : (⟨2, ![32, 512]⟩ : Shape).Idx → F .f32)
    (hX : ∀ d : Dev nD, m ((d.tc : Thread nD τ).loc main_arg4) = Layout.blockN ⟨2, ![8, 512]⟩ ⟨2, ![32, 512]⟩ (Layout.meshBlock [2, 2, 2] ![[0, 1], []] d) X)
    (hc : (⟨2, ![32, 512]⟩ : Shape).ShapeCasts ⟨3, ![4, 8, 512]⟩) :
    μ.mem ((c.tc : Thread nD τ).loc main_v1_4) = shapeCast ⟨3, ![4, 8, 512]⟩ X hc := by
  funext z
  obtain ⟨j, a, b, rfl⟩ : ∃ (j : Fin 4) (a : Fin 8) (b : Fin 512), z = at3 j a b := ⟨z 0, z 1, z 2, eq_at3 z _ _ _ rfl rfl rfl⟩
  have hj := j.isLt; have ha := a.isLt
  have hs : (source c j).val / 2 = j.val := by show (2 * j.val + c.val % 2) / 2 = j.val; omega
  have ho : k0_off4 (source c j) 0 = j.val := by rw [k0_off4_eq]; have := half_chip (source c j); show 2 * ((source c j).val / 4) + ((source c j).val / 2) % 2 = j.val; omega
  have e := read_row (J := 4) (R := 8) (W := 512) (Val := Elt F) (Memref.whole main_v1_4) (k0_off4 (source c j)) (k0_off4_inb (source c j)) squeezes_S1x8x512_S8x512 (by decide)
    (μ.mem ((c.tc : Thread nD τ).loc main_v1_4)) (at3 j a b) a b ho.symm (by rw [k0_off4_eq]; exact (Nat.zero_add _).symm) (by rw [k0_off4_eq]; exact (Nat.zero_add _).symm)
  show (Memref.whole main_v1_4).view.read (Elt F) (μ.mem ((c.tc : Thread nD τ).loc main_v1_4)) (at3 j a b) = _
  refine e.symm.trans ((congrFun (got4 m h j) (at2 a b)).trans ?_)
  unfold shard4
  rw [hX (source c j), blockN_at _ X _ a b (⟨8 * j.val + a.val, by omega⟩ : Fin 32) b
    ((by show 8 * j.val + a.val = (source c j).val / 2 * 8 + a.val; omega : _ = (source c j).val / 2 * 8 + a.val).trans (congrArg (· * 8 + a.val) (chip_block (source c j)).symm))
    (by show b.val = 0 * 512 + b.val; omega)]
  refine (shapeCast_apply X hc (at3 j a b) (at2 (⟨8 * j.val + a.val, by omega⟩ : Fin 32) b) ?_).symm
  rw [Shape.rowMajor_val_three, Shape.rowMajor_val_two]
  show (8 * j.val + a.val) * 512 + b.val = (j.val * 8 + a.val) * 512 + b.val
  rw [Nat.mul_comm 8]

end Cert.GatherRun

end
-- ==== Proof.GatherClaims.lean ====
/-
# The claims about the gather of the weights

Both frames from one run, the reference's frames, and the two value claims.
-/
module

public import proofs.«01_k».proof.Defs
public import proofs.«01_k».proof.Proof.GatherValue
public import proofs.«01_k».proof.Proof.Gen.Gather
public import proofs.«01_k».proof.Proof.Gen.GatherRef
public import proofs.«01_k».proof.Proof.Gen.GatherRefIdeal.Run

@[expose] public section

noncomputable section

namespace Cert.GatherClaims

open Idealize.ShloMosaic Idealize.ShloMosaic.TcCoe Idealize.ShloMosaic.StableHlo
open Idealize.SL.Sem
open Cert.GatherRun

theorem frame_ideal : Cert.quiescent_GatherIdeal := fun m g _ =>
  (θ_run Cert.GatherIdeal.defs _ _).mono (fun _ h => ⟨fun c => ⟨(h.1 c).2 (.inl 0), (h.1 c).2 (.inl 1), (h.1 c).2 (.inl 2), (h.1 c).2 (.inl 3), (h.1 c).2 (.inr ())⟩, h.2⟩) (run_main (F := Ideal) m g)

theorem frame_kernel : Cert.quiescent_Gather := fun m g _ =>
  (θ_run Cert.GatherIdeal.defs _ _).mono (fun _ h => ⟨fun c => ⟨(h.1 c).2 (.inl 0), (h.1 c).2 (.inl 1), (h.1 c).2 (.inl 2), (h.1 c).2 (.inl 3), (h.1 c).2 (.inr ())⟩, h.2⟩) (run_main (F := Bits) m g)

/-- The small arrays, one chip after another. -/
def stacked {α : Type} (X : (⟨2, ![32, 512]⟩ : Shape).Idx → α) : (⟨3, ![4, 8, 512]⟩ : Shape).Idx → α := shapeCast ⟨3, ![4, 8, 512]⟩ X (by decide)

/-- What the reference ends with: its arguments, the small one stacked. -/
def RefEnds {F : FTy → Type} (m μ : (ℓ : Loc Cert.GatherRefIdeal.nD Cert.GatherRefIdeal.τ Cert.GatherRefIdeal.sig) → Buf (Elt F) ℓ) (d : Dev Cert.GatherRefIdeal.nD) : Prop :=
  μ ((d.tc : Thread Cert.GatherRefIdeal.nD Cert.GatherRefIdeal.τ).loc Cert.GatherRefIdeal.main_arg0) = m ((d.tc : Thread Cert.GatherRefIdeal.nD Cert.GatherRefIdeal.τ).loc Cert.GatherRefIdeal.main_arg0)
  ∧ μ ((d.tc : Thread Cert.GatherRefIdeal.nD Cert.GatherRefIdeal.τ).loc Cert.GatherRefIdeal.main_arg1) = m ((d.tc : Thread Cert.GatherRefIdeal.nD Cert.GatherRefIdeal.τ).loc Cert.GatherRefIdeal.main_arg1)
  ∧ μ ((d.tc : Thread Cert.GatherRefIdeal.nD Cert.GatherRefIdeal.τ).loc Cert.GatherRefIdeal.main_arg2) = m ((d.tc : Thread Cert.GatherRefIdeal.nD Cert.GatherRefIdeal.τ).loc Cert.GatherRefIdeal.main_arg2)
  ∧ μ ((d.tc : Thread Cert.GatherRefIdeal.nD Cert.GatherRefIdeal.τ).loc Cert.GatherRefIdeal.main_arg3) = m ((d.tc : Thread Cert.GatherRefIdeal.nD Cert.GatherRefIdeal.τ).loc Cert.GatherRefIdeal.main_arg3)
  ∧ μ ((d.tc : Thread Cert.GatherRefIdeal.nD Cert.GatherRefIdeal.τ).loc Cert.GatherRefIdeal.main_v0) = stacked (m ((d.tc : Thread Cert.GatherRefIdeal.nD Cert.GatherRefIdeal.τ).loc Cert.GatherRefIdeal.main_arg4))
  ∧ μ ((d.tc : Thread Cert.GatherRefIdeal.nD Cert.GatherRefIdeal.τ).loc Cert.GatherRefIdeal.main_arg0) = m ((d.tc : Thread Cert.GatherRefIdeal.nD Cert.GatherRefIdeal.τ).loc Cert.GatherRefIdeal.main_arg0)
  ∧ μ ((d.tc : Thread Cert.GatherRefIdeal.nD Cert.GatherRefIdeal.τ).loc Cert.GatherRefIdeal.main_arg1) = m ((d.tc : Thread Cert.GatherRefIdeal.nD Cert.GatherRefIdeal.τ).loc Cert.GatherRefIdeal.main_arg1)
  ∧ μ ((d.tc : Thread Cert.GatherRefIdeal.nD Cert.GatherRefIdeal.τ).loc Cert.GatherRefIdeal.main_arg2) = m ((d.tc : Thread Cert.GatherRefIdeal.nD Cert.GatherRefIdeal.τ).loc Cert.GatherRefIdeal.main_arg2)
  ∧ μ ((d.tc : Thread Cert.GatherRefIdeal.nD Cert.GatherRefIdeal.τ).loc Cert.GatherRefIdeal.main_arg3) = m ((d.tc : Thread Cert.GatherRefIdeal.nD Cert.GatherRefIdeal.τ).loc Cert.GatherRefIdeal.main_arg3)
  ∧ μ ((d.tc : Thread Cert.GatherRefIdeal.nD Cert.GatherRefIdeal.τ).loc Cert.GatherRefIdeal.main_arg4) = m ((d.tc : Thread Cert.GatherRefIdeal.nD Cert.GatherRefIdeal.τ).loc Cert.GatherRefIdeal.main_arg4)

theorem run_ref {F : FTy → Type} [FloatOps F] (m : (ℓ : Loc Cert.GatherRefIdeal.nD Cert.GatherRefIdeal.τ Cert.GatherRefIdeal.sig) → Buf (Elt F) ℓ) (g : Dev Cert.GatherRefIdeal.nD → PrngReg) :
    θ_run (Cert.GatherRefIdeal.defs (F := F)) (onTc (τ := Cert.GatherRefIdeal.τ) (Cert.GatherRefIdeal.main (F := F))) ⟨m, fun _ => 0, g⟩ fun r =>
      (∀ d, RefEnds m r.2.mem d) ∧ r.2.sem = fun _ => 0 :=
  (θ_run Cert.GatherRefIdeal.defs _ _).mono (fun r h => ⟨h, sem_eq_zero_of_no_sems (by decide) r.2⟩) (Cert.GatherRefIdeal.Value.run m g)

theorem frame_ref_ideal : Cert.quiescent_GatherRefIdeal := fun m g _ =>
  (θ_run Cert.GatherRefIdeal.defs _ _).mono (fun _ h => ⟨fun c => (h.1 c).2.2.2.2.2, h.2⟩) (run_ref (F := Ideal) m g)

theorem frame_ref : Cert.quiescent_GatherRef := fun m g _ =>
  (θ_run Cert.GatherRefIdeal.defs _ _).mono (fun _ h => ⟨fun c => (h.1 c).2.2.2.2.2, h.2⟩) (run_ref (F := Bits) m g)

/-- What the kernel ends with on device `c` when the devices' arguments are the blocks of `X0` to `X4`. -/
def KerEnds {F : FTy → Type} (m μ : (ℓ : Loc Cert.GatherIdeal.nD Cert.GatherIdeal.τ Cert.GatherIdeal.sig) → Buf (Elt F) ℓ)
    (X0 : (⟨2, ![2048, 8192]⟩ : Shape).Idx → F .bf16) (X1 : (⟨2, ![2048, 2048]⟩ : Shape).Idx → F .bf16) (X2 : (⟨2, ![2048, 4608]⟩ : Shape).Idx → F .bf16) (X3 : (⟨2, ![2048, 2048]⟩ : Shape).Idx → F .bf16) (X4 : (⟨2, ![32, 512]⟩ : Shape).Idx → F .f32) (c : Dev Cert.GatherIdeal.nD) : Prop :=
  μ ((c.tc : Thread Cert.GatherIdeal.nD Cert.GatherIdeal.τ).loc Cert.GatherIdeal.main_v1_0) = X0
  ∧ μ ((c.tc : Thread Cert.GatherIdeal.nD Cert.GatherIdeal.τ).loc Cert.GatherIdeal.main_v1_1) = X1
  ∧ μ ((c.tc : Thread Cert.GatherIdeal.nD Cert.GatherIdeal.τ).loc Cert.GatherIdeal.main_v1_2) = X2
  ∧ μ ((c.tc : Thread Cert.GatherIdeal.nD Cert.GatherIdeal.τ).loc Cert.GatherIdeal.main_v1_3) = X3
  ∧ μ ((c.tc : Thread Cert.GatherIdeal.nD Cert.GatherIdeal.τ).loc Cert.GatherIdeal.main_v1_4) = stacked X4
  ∧ μ ((c.tc : Thread Cert.GatherIdeal.nD Cert.GatherIdeal.τ).loc Cert.GatherIdeal.main_arg0) = m ((c.tc : Thread Cert.GatherIdeal.nD Cert.GatherIdeal.τ).loc Cert.GatherIdeal.main_arg0)
  ∧ μ ((c.tc : Thread Cert.GatherIdeal.nD Cert.GatherIdeal.τ).loc Cert.GatherIdeal.main_arg1) = m ((c.tc : Thread Cert.GatherIdeal.nD Cert.GatherIdeal.τ).loc Cert.GatherIdeal.main_arg1)
  ∧ μ ((c.tc : Thread Cert.GatherIdeal.nD Cert.GatherIdeal.τ).loc Cert.GatherIdeal.main_arg2) = m ((c.tc : Thread Cert.GatherIdeal.nD Cert.GatherIdeal.τ).loc Cert.GatherIdeal.main_arg2)
  ∧ μ ((c.tc : Thread Cert.GatherIdeal.nD Cert.GatherIdeal.τ).loc Cert.GatherIdeal.main_arg3) = m ((c.tc : Thread Cert.GatherIdeal.nD Cert.GatherIdeal.τ).loc Cert.GatherIdeal.main_arg3)
  ∧ μ ((c.tc : Thread Cert.GatherIdeal.nD Cert.GatherIdeal.τ).loc Cert.GatherIdeal.main_arg4) = m ((c.tc : Thread Cert.GatherIdeal.nD Cert.GatherIdeal.τ).loc Cert.GatherIdeal.main_arg4)

theorem run_ker {F : FTy → Type} [FloatOps F] (m : (ℓ : Loc Cert.GatherIdeal.nD Cert.GatherIdeal.τ Cert.GatherIdeal.sig) → Buf (Elt F) ℓ) (g : Dev Cert.GatherIdeal.nD → PrngReg)
    (X0 : (⟨2, ![2048, 8192]⟩ : Shape).Idx → F .bf16) (X1 : (⟨2, ![2048, 2048]⟩ : Shape).Idx → F .bf16) (X2 : (⟨2, ![2048, 4608]⟩ : Shape).Idx → F .bf16) (X3 : (⟨2, ![2048, 2048]⟩ : Shape).Idx → F .bf16) (X4 : (⟨2, ![32, 512]⟩ : Shape).Idx → F .f32)
    (hin : ∀ c : Dev Cert.GatherIdeal.nD, m ((c.tc : Thread Cert.GatherIdeal.nD Cert.GatherIdeal.τ).loc Cert.GatherIdeal.main_arg0) = Layout.blockN ⟨2, ![2048, 2048]⟩ ⟨2, ![2048, 8192]⟩ (Layout.meshBlock [2, 2, 2] ![[], [0, 1]] c) X0 ∧ m ((c.tc : Thread Cert.GatherIdeal.nD Cert.GatherIdeal.τ).loc Cert.GatherIdeal.main_arg1) = Layout.blockN ⟨2, ![512, 2048]⟩ ⟨2, ![2048, 2048]⟩ (Layout.meshBlock [2, 2, 2] ![[0, 1], []] c) X1 ∧ m ((c.tc : Thread Cert.GatherIdeal.nD Cert.GatherIdeal.τ).loc Cert.GatherIdeal.main_arg2) = Layout.blockN ⟨2, ![2048, 1152]⟩ ⟨2, ![2048, 4608]⟩ (Layout.meshBlock [2, 2, 2] ![[], [0, 1]] c) X2 ∧ m ((c.tc : Thread Cert.GatherIdeal.nD Cert.GatherIdeal.τ).loc Cert.GatherIdeal.main_arg3) = Layout.blockN ⟨2, ![512, 2048]⟩ ⟨2, ![2048, 2048]⟩ (Layout.meshBlock [2, 2, 2] ![[0, 1], []] c) X3 ∧ m ((c.tc : Thread Cert.GatherIdeal.nD Cert.GatherIdeal.τ).loc Cert.GatherIdeal.main_arg4) = Layout.blockN ⟨2, ![8, 512]⟩ ⟨2, ![32, 512]⟩ (Layout.meshBlock [2, 2, 2] ![[0, 1], []] c) X4) :
    θ_run (Cert.GatherIdeal.defs (F := F)) (onTc (τ := Cert.GatherIdeal.τ) (Cert.GatherIdeal.main (F := F))) ⟨m, fun _ => 0, g⟩ fun r => ∀ c, KerEnds m r.2.mem X0 X1 X2 X3 X4 c :=
  (θ_run Cert.GatherIdeal.defs _ _).mono (fun _ h c =>
    ⟨value0 m (h.1 c) X0 fun d => (hin d).1, value1 m (h.1 c) X1 fun d => (hin d).2.1, value2 m (h.1 c) X2 fun d => (hin d).2.2.1, value3 m (h.1 c) X3 fun d => (hin d).2.2.2.1,
      value4 m (h.1 c) X4 (fun d => (hin d).2.2.2.2) _, (h.1 c).2 (.inl 0), (h.1 c).2 (.inl 1), (h.1 c).2 (.inl 2), (h.1 c).2 (.inl 3), (h.1 c).2 (.inr ())⟩) (run_main m g)

theorem algebraic : Cert.algebraic_GatherIdeal_GatherRefIdeal := fun m g m' g' _ hin =>
  ⟨m' (((0 : Dev Cert.GatherRefIdeal.nD).tc : Thread Cert.GatherRefIdeal.nD Cert.GatherRefIdeal.τ).loc Cert.GatherRefIdeal.main_arg0), m' (((0 : Dev Cert.GatherRefIdeal.nD).tc : Thread Cert.GatherRefIdeal.nD Cert.GatherRefIdeal.τ).loc Cert.GatherRefIdeal.main_arg1), m' (((0 : Dev Cert.GatherRefIdeal.nD).tc : Thread Cert.GatherRefIdeal.nD Cert.GatherRefIdeal.τ).loc Cert.GatherRefIdeal.main_arg2), m' (((0 : Dev Cert.GatherRefIdeal.nD).tc : Thread Cert.GatherRefIdeal.nD Cert.GatherRefIdeal.τ).loc Cert.GatherRefIdeal.main_arg3), stacked (m' (((0 : Dev Cert.GatherRefIdeal.nD).tc : Thread Cert.GatherRefIdeal.nD Cert.GatherRefIdeal.τ).loc Cert.GatherRefIdeal.main_arg4)),
    run_ker m g _ _ _ _ _ hin, (θ_run Cert.GatherRefIdeal.defs _ _).mono (fun _ h => h.1 0) (run_ref m' g')⟩

theorem bitexact : Cert.bitexact_Gather_GatherRef := fun m g m' g' _ hin =>
  ⟨m' (((0 : Dev Cert.GatherRefIdeal.nD).tc : Thread Cert.GatherRefIdeal.nD Cert.GatherRefIdeal.τ).loc Cert.GatherRefIdeal.main_arg0), m' (((0 : Dev Cert.GatherRefIdeal.nD).tc : Thread Cert.GatherRefIdeal.nD Cert.GatherRefIdeal.τ).loc Cert.GatherRefIdeal.main_arg1), m' (((0 : Dev Cert.GatherRefIdeal.nD).tc : Thread Cert.GatherRefIdeal.nD Cert.GatherRefIdeal.τ).loc Cert.GatherRefIdeal.main_arg2), m' (((0 : Dev Cert.GatherRefIdeal.nD).tc : Thread Cert.GatherRefIdeal.nD Cert.GatherRefIdeal.τ).loc Cert.GatherRefIdeal.main_arg3), stacked (m' (((0 : Dev Cert.GatherRefIdeal.nD).tc : Thread Cert.GatherRefIdeal.nD Cert.GatherRefIdeal.τ).loc Cert.GatherRefIdeal.main_arg4)),
    run_ker m g _ _ _ _ _ hin, (θ_run Cert.GatherRefIdeal.defs _ _).mono (fun _ h => h.1 0) (run_ref m' g')⟩

end Cert.GatherClaims

end
-- ==== Proof.ScatterRun.lean ====
/-
# The scatter of the pair sums to their owners

A device cuts each of its four arrays in four pieces, one for each chip. It keeps its own chip's piece and sends the other
three to the same core of the other chips. The plan has one copy inside the device per array and three to other chips;
nothing is awaited before all sixteen are issued.
-/
module

public import proofs.«01_k».proof.Proof.Lines
public import proofs.«01_k».proof.Proof.Mesh
public import proofs.«01_k».proof.Proof.Gen.ScatterIdeal.Skeleton
public import proofs.«01_k».proof.Proof.Gen.ScatterIdeal.Launch

@[expose] public section

noncomputable section

namespace Cert.ScatterRun

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.ScatterIdeal Cert.ScatterIdeal.Gen Cert.Wires Cert.Mesh

variable {F : FTy → Type} [FloatOps F]

local notation "𝕄" => MT nD τ sig Unit (Elt F) ℕ (UU nD τ sig) ℕ

/-- Where device `c` puts its pieces of array `i`, on any chip. -/
def place0 (c : Dev nD) : Memref sig .tc .hbm S1024x2048 .bf16 :=
  ((Memref.whole main_v1_0).slice (Rect.unit (s := S4x1024x2048) (k0_off1 c) S1x1024x2048.size (k0_off1_inb c)) (fun _ => rfl)).squeeze S1024x2048 squeezes_S1x1024x2048_S1024x2048
def place1 (c : Dev nD) : Memref sig .tc .hbm S256x2048 .bf16 :=
  ((Memref.whole main_v1_1).slice (Rect.unit (s := S4x256x2048) (k0_off3 c) S1x256x2048.size (k0_off3_inb c)) (fun _ => rfl)).squeeze S256x2048 squeezes_S1x256x2048_S256x2048
def place2 (c : Dev nD) : Memref sig .tc .hbm S1024x1152 .bf16 :=
  ((Memref.whole main_v1_2).slice (Rect.unit (s := S4x1024x1152) (k0_off4 c) S1x1024x1152.size (k0_off4_inb c)) (fun _ => rfl)).squeeze S1024x1152 squeezes_S1x1024x1152_S1024x1152
def place3 (c : Dev nD) : Memref sig .tc .hbm S256x2048 .bf16 :=
  ((Memref.whole main_v1_3).slice (Rect.unit (s := S4x256x2048) (k0_off3 c) S1x256x2048.size (k0_off3_inb c)) (fun _ => rfl)).squeeze S256x2048 squeezes_S1x256x2048_S256x2048

/-- A piece of array `i`, from a given corner. -/
def cut0 (o : Fin 2 → Nat) (h : ∀ a, o a + S1024x2048.size a ≤ S1024x8192.size a) : Memref sig .tc .hbm S1024x2048 .bf16 :=
  (Memref.whole main_arg0).slice (Rect.unit (s := S1024x8192) o S1024x2048.size h) (fun _ => rfl)
def cut1 (o : Fin 3 → Nat) (h : ∀ a, o a + S1x256x2048.size a ≤ S4x256x2048.size a) : Memref sig .tc .hbm S256x2048 .bf16 :=
  ((Memref.whole main_arg1).slice (Rect.unit (s := S4x256x2048) o S1x256x2048.size h) (fun _ => rfl)).squeeze S256x2048 squeezes_S1x256x2048_S256x2048
def cut2 (o : Fin 2 → Nat) (h : ∀ a, o a + S1024x1152.size a ≤ S1024x4608.size a) : Memref sig .tc .hbm S1024x1152 .bf16 :=
  (Memref.whole main_arg2).slice (Rect.unit (s := S1024x4608) o S1024x1152.size h) (fun _ => rfl)
def cut3 (o : Fin 3 → Nat) (h : ∀ a, o a + S1x256x2048.size a ≤ S4x256x2048.size a) : Memref sig .tc .hbm S256x2048 .bf16 :=
  ((Memref.whole main_arg3).slice (Rect.unit (s := S4x256x2048) o S1x256x2048.size h) (fun _ => rfl)).squeeze S256x2048 squeezes_S1x256x2048_S256x2048

/-- The piece of array `i` that device `c` keeps. -/
def near : Fin 4 → Dev nD → Wire sig
  | 0, c => ⟨.hbm, .hbm, S1024x2048, .bf16, cut0 (k0_off2 c) (k0_off2_inb c), place0 c⟩
  | 1, c => ⟨.hbm, .hbm, S256x2048, .bf16, cut1 (k0_off3 c) (k0_off3_inb c), place1 c⟩
  | 2, c => ⟨.hbm, .hbm, S1024x1152, .bf16, cut2 (k0_off5 c) (k0_off5_inb c), place2 c⟩
  | 3, c => ⟨.hbm, .hbm, S256x2048, .bf16, cut3 (k0_off3 c) (k0_off3_inb c), place3 c⟩

/-- The piece of array `i` that device `c` sends to the chip across `r`. -/
def far : Fin 4 × Fin 3 → Dev nD → Wire sig
  | (0, r), c => ⟨.hbm, .hbm, S1024x2048, .bf16, cut0 (k0_off6 c (k0_off6_at r).1 (k0_off6_at r).2) (k0_off6_inb c r), place0 c⟩
  | (1, r), c => ⟨.hbm, .hbm, S256x2048, .bf16, cut1 (k0_off7 c (k0_off7_at r).1 (k0_off7_at r).2) (k0_off7_inb c r), place1 c⟩
  | (2, r), c => ⟨.hbm, .hbm, S1024x1152, .bf16, cut2 (k0_off8 c (k0_off8_at r).1 (k0_off8_at r).2) (k0_off8_inb c r), place2 c⟩
  | (3, r), c => ⟨.hbm, .hbm, S256x2048, .bf16, cut3 (k0_off7 c (k0_off7_at r).1 (k0_off7_at r).2) (k0_off7_inb c r), place3 c⟩

def semOf : Key (Fin 4) (Fin 4 × Fin 3) → DmaSem sig
  | .out b => ⟨4 * b.2.val + b.1.val, by have := b.1.isLt; have := b.2.isLt; show 4 * b.2.val + b.1.val < 28; omega⟩
  | .inn b => ⟨12 + (4 * b.2.val + b.1.val), by have := b.1.isLt; have := b.2.isLt; show 12 + (4 * b.2.val + b.1.val) < 28; omega⟩
  | .here i => ⟨24 + i.val, by have := i.isLt; show 24 + i.val < 28; omega⟩

variable (m : (ℓ : Loc nD τ sig) → Buf (Elt F) ℓ)

def lines : Lines nD τ sig (Elt F) (Fin 4) (Fin 4 × Fin 3) where
  sem := semOf
  sem_inj := by decide +kernel
  lvl _ := 0
  near := near
  far := far
  peer b := other b.2
  peer_peer b := other_other b.2
  amtA i := (near i 0).dst.view.dmaCredit
  amtB b := (near b.1 0).dst.view.dmaCredit
  amtA_pos i := View.dmaCredit_pos _ (by match i with | 0 | 1 | 2 | 3 => decide)
  amtB_pos b := View.dmaCredit_pos _ (by match b.1 with | 0 | 1 | 2 | 3 => decide)
  after _ := none
  shareA _ := fullShare.right
  shareB _ := fullShare.right
  left _ := fullShare
  heldA c i := m _
  heldB c b := m _
  mem := m
  settle c b := stays (fun _ => none) b (fun _ h => nomatch h) _ _

/-- What is set aside of an argument while the copies read it. -/
def asideAt (c : Dev nD) (i : Fin 4) : sProp 𝕄 :=
  (near i c).src.view.loc (c.tc : Thread nD τ) ↦{fullShare.left} m _
def aside (c : Dev nD) : sProp 𝕄 := bigSep Finset.univ (asideAt m c)

/-- An argument lends its pieces to the copies, and a result is cut in the places they go to. -/
theorem dealt {ℓ ℓ' : Loc nD τ sig} {f : Buf (Elt F) ℓ} {g : Buf (Elt F) ℓ'} {T : Type} [Fintype T] [DecidableEq T]
    (I : Finset (Idx ℓ)) (I' : T → Finset (Idx ℓ)) (hI : ∀ t, Disjoint I (I' t)) (hI' : ∀ t t', t ≠ t' → Disjoint (I' t) (I' t'))
    (J : Finset (Idx ℓ')) (J' : T → Finset (Idx ℓ')) (hJ : ∀ t, Disjoint J (J' t)) (hJ' : ∀ t t', t ≠ t' → Disjoint (J' t) (J' t')) :
    iprop((ℓ ↦{fullShare} f) ∗ (ℓ' ↦{fullShare} g) : sProp 𝕄)
      ⊢ iprop(((ℓ ↦[I]{fullShare.right} f) ∗ bigSep Finset.univ fun t => (ℓ ↦[I' t]{fullShare.right} f))
        ∗ ((ℓ' ↦[J]{fullShare} g) ∗ bigSep Finset.univ fun t => (ℓ' ↦[J' t]{fullShare} g)) ∗ (ℓ ↦{fullShare.left} f)) := by
  iintro ⟨H, G⟩
  ihave H := share2 (ℓ := ℓ) Finset.univ fullShare (f := f) $$ H
  icases H with ⟨Hl, Hr⟩
  ihave Hr := pieces (ℓ := ℓ) I I' hI hI' (f := f) $$ Hr
  ihave G := pieces (ℓ := ℓ') J J' hJ hJ' (f := g) $$ G
  isplitl [Hr]; · iexact Hr
  isplitl [G]; · iexact G
  iexact Hl

/-- The pieces of an array do not meet: the kept one and a sent one, and two sent ones. -/
theorem keep_send0 : ∀ (c : Dev nD) (r : Fin 3), k0_off2 c 1 + 2048 ≤ k0_off6 c (k0_off6_at r).1 (k0_off6_at r).2 1 ∨ k0_off6 c (k0_off6_at r).1 (k0_off6_at r).2 1 + 2048 ≤ k0_off2 c 1 := by decide +kernel
theorem send_send0 : ∀ (c : Dev nD) (r r' : Fin 3), r ≠ r' → k0_off6 c (k0_off6_at r).1 (k0_off6_at r).2 1 + 2048 ≤ k0_off6 c (k0_off6_at r').1 (k0_off6_at r').2 1 ∨ k0_off6 c (k0_off6_at r').1 (k0_off6_at r').2 1 + 2048 ≤ k0_off6 c (k0_off6_at r).1 (k0_off6_at r).2 1 := by decide +kernel
theorem keep_send1 : ∀ (c : Dev nD) (r : Fin 3), k0_off3 c 0 + 1 ≤ k0_off7 c (k0_off7_at r).1 (k0_off7_at r).2 0 ∨ k0_off7 c (k0_off7_at r).1 (k0_off7_at r).2 0 + 1 ≤ k0_off3 c 0 := by decide +kernel
theorem send_send1 : ∀ (c : Dev nD) (r r' : Fin 3), r ≠ r' → k0_off7 c (k0_off7_at r).1 (k0_off7_at r).2 0 + 1 ≤ k0_off7 c (k0_off7_at r').1 (k0_off7_at r').2 0 ∨ k0_off7 c (k0_off7_at r').1 (k0_off7_at r').2 0 + 1 ≤ k0_off7 c (k0_off7_at r).1 (k0_off7_at r).2 0 := by decide +kernel
theorem keep_send2 : ∀ (c : Dev nD) (r : Fin 3), k0_off5 c 1 + 1152 ≤ k0_off8 c (k0_off8_at r).1 (k0_off8_at r).2 1 ∨ k0_off8 c (k0_off8_at r).1 (k0_off8_at r).2 1 + 1152 ≤ k0_off5 c 1 := by decide +kernel
theorem send_send2 : ∀ (c : Dev nD) (r r' : Fin 3), r ≠ r' → k0_off8 c (k0_off8_at r).1 (k0_off8_at r).2 1 + 1152 ≤ k0_off8 c (k0_off8_at r').1 (k0_off8_at r').2 1 ∨ k0_off8 c (k0_off8_at r').1 (k0_off8_at r').2 1 + 1152 ≤ k0_off8 c (k0_off8_at r).1 (k0_off8_at r).2 1 := by decide +kernel

/-- Nor do the places in a result. -/
theorem keep_get0 : ∀ (c : Dev nD) (r : Fin 3), k0_off1 c 0 + 1 ≤ k0_off1 (other r c) 0 ∨ k0_off1 (other r c) 0 + 1 ≤ k0_off1 c 0 := by decide +kernel
theorem get_get0 : ∀ (c : Dev nD) (r r' : Fin 3), r ≠ r' → k0_off1 (other r c) 0 + 1 ≤ k0_off1 (other r' c) 0 ∨ k0_off1 (other r' c) 0 + 1 ≤ k0_off1 (other r c) 0 := by decide +kernel
theorem keep_get1 : ∀ (c : Dev nD) (r : Fin 3), k0_off3 c 0 + 1 ≤ k0_off3 (other r c) 0 ∨ k0_off3 (other r c) 0 + 1 ≤ k0_off3 c 0 := by decide +kernel
theorem get_get1 : ∀ (c : Dev nD) (r r' : Fin 3), r ≠ r' → k0_off3 (other r c) 0 + 1 ≤ k0_off3 (other r' c) 0 ∨ k0_off3 (other r' c) 0 + 1 ≤ k0_off3 (other r c) 0 := by decide +kernel
theorem keep_get2 : ∀ (c : Dev nD) (r : Fin 3), k0_off4 c 0 + 1 ≤ k0_off4 (other r c) 0 ∨ k0_off4 (other r c) 0 + 1 ≤ k0_off4 c 0 := by decide +kernel
theorem get_get2 : ∀ (c : Dev nD) (r r' : Fin 3), r ≠ r' → k0_off4 (other r c) 0 + 1 ≤ k0_off4 (other r' c) 0 ∨ k0_off4 (other r' c) 0 + 1 ≤ k0_off4 (other r c) 0 := by decide +kernel

/-- An argument and its result, whole. -/
def given (c : Dev nD) (i : Fin 4) : sProp 𝕄 :=
  iprop(((near i c).src.view.loc (c.tc : Thread nD τ) ↦{fullShare} m _) ∗ ((near i c).dst.view.loc (c.tc : Thread nD τ) ↦{fullShare} m _))

theorem cuts0 {o o' : Fin 2 → Nat} {ho : _} {ho' : _} (h : o 1 + 2048 ≤ o' 1 ∨ o' 1 + 2048 ≤ o 1) : Disjoint (cut0 o ho).view.set (cut0 o' ho').view.set :=
  apart (h := fun _ => rfl) (h' := fun _ => rfl) (Rect.unit_disjoint (1 : Fin 2) h)
theorem cuts1 {o o' : Fin 3 → Nat} {ho : _} {ho' : _} (h : o 0 + 1 ≤ o' 0 ∨ o' 0 + 1 ≤ o 0) : Disjoint (cut1 o ho).view.set (cut1 o' ho').view.set :=
  apart_squeezed (h := fun _ => rfl) (h' := fun _ => rfl) squeezes_S1x256x2048_S256x2048 squeezes_S1x256x2048_S256x2048 (Rect.unit_disjoint (0 : Fin 3) h)
theorem cuts2 {o o' : Fin 2 → Nat} {ho : _} {ho' : _} (h : o 1 + 1152 ≤ o' 1 ∨ o' 1 + 1152 ≤ o 1) : Disjoint (cut2 o ho).view.set (cut2 o' ho').view.set :=
  apart (h := fun _ => rfl) (h' := fun _ => rfl) (Rect.unit_disjoint (1 : Fin 2) h)
theorem cuts3 {o o' : Fin 3 → Nat} {ho : _} {ho' : _} (h : o 0 + 1 ≤ o' 0 ∨ o' 0 + 1 ≤ o 0) : Disjoint (cut3 o ho).view.set (cut3 o' ho').view.set :=
  apart_squeezed (h := fun _ => rfl) (h' := fun _ => rfl) squeezes_S1x256x2048_S256x2048 squeezes_S1x256x2048_S256x2048 (Rect.unit_disjoint (0 : Fin 3) h)
theorem places0 {d d' : Dev nD} (h : k0_off1 d 0 + 1 ≤ k0_off1 d' 0 ∨ k0_off1 d' 0 + 1 ≤ k0_off1 d 0) : Disjoint (place0 d).view.set (place0 d').view.set :=
  apart_squeezed (h := fun _ => rfl) (h' := fun _ => rfl) squeezes_S1x1024x2048_S1024x2048 squeezes_S1x1024x2048_S1024x2048 (Rect.unit_disjoint (0 : Fin 3) h)
theorem places1 {d d' : Dev nD} (h : k0_off3 d 0 + 1 ≤ k0_off3 d' 0 ∨ k0_off3 d' 0 + 1 ≤ k0_off3 d 0) : Disjoint (place1 d).view.set (place1 d').view.set :=
  apart_squeezed (h := fun _ => rfl) (h' := fun _ => rfl) squeezes_S1x256x2048_S256x2048 squeezes_S1x256x2048_S256x2048 (Rect.unit_disjoint (0 : Fin 3) h)
theorem places2 {d d' : Dev nD} (h : k0_off4 d 0 + 1 ≤ k0_off4 d' 0 ∨ k0_off4 d' 0 + 1 ≤ k0_off4 d 0) : Disjoint (place2 d).view.set (place2 d').view.set :=
  apart_squeezed (h := fun _ => rfl) (h' := fun _ => rfl) squeezes_S1x1024x1152_S1024x1152 squeezes_S1x1024x1152_S1024x1152 (Rect.unit_disjoint (0 : Fin 3) h)
theorem places3 {d d' : Dev nD} (h : k0_off3 d 0 + 1 ≤ k0_off3 d' 0 ∨ k0_off3 d' 0 + 1 ≤ k0_off3 d 0) : Disjoint (place3 d).view.set (place3 d').view.set :=
  apart_squeezed (h := fun _ => rfl) (h' := fun _ => rfl) squeezes_S1x256x2048_S256x2048 squeezes_S1x256x2048_S256x2048 (Rect.unit_disjoint (0 : Fin 3) h)

/-- What one array gives to the copies, to the places of a result and to what is set aside. -/
def Dealt (c : Dev nD) (i : Fin 4) : Prop :=
  given m c i ⊢ iprop(((lines m).ownA c i ∗ bigSep Finset.univ fun r => (lines m).ownB c (i, r))
    ∗ ((lines m).slotA c i ∗ bigSep Finset.univ fun r => (lines m).slotB c (i, r)) ∗ asideAt m c i)

theorem array0 (c : Dev nD) : Dealt m c 0 :=
  dealt (ℓ := (c.tc : Thread nD τ).loc main_arg0) (ℓ' := (c.tc : Thread nD τ).loc main_v1_0)
    (f := m ((c.tc : Thread nD τ).loc main_arg0)) (g := m ((c.tc : Thread nD τ).loc main_v1_0))
    (cut0 (k0_off2 c) (k0_off2_inb c)).view.set (fun r => (cut0 (k0_off6 c (k0_off6_at r).1 (k0_off6_at r).2) (k0_off6_inb c r)).view.set)
    (fun r => cuts0 (keep_send0 c r)) (fun r r' h => cuts0 (send_send0 c r r' h))
    (place0 c).view.set (fun r => (place0 (other r c)).view.set)
    (fun r => places0 (keep_get0 c r)) (fun r r' h => places0 (get_get0 c r r' h))
theorem array1 (c : Dev nD) : Dealt m c 1 :=
  dealt (ℓ := (c.tc : Thread nD τ).loc main_arg1) (ℓ' := (c.tc : Thread nD τ).loc main_v1_1)
    (f := m ((c.tc : Thread nD τ).loc main_arg1)) (g := m ((c.tc : Thread nD τ).loc main_v1_1))
    (cut1 (k0_off3 c) (k0_off3_inb c)).view.set (fun r => (cut1 (k0_off7 c (k0_off7_at r).1 (k0_off7_at r).2) (k0_off7_inb c r)).view.set)
    (fun r => cuts1 (keep_send1 c r)) (fun r r' h => cuts1 (send_send1 c r r' h))
    (place1 c).view.set (fun r => (place1 (other r c)).view.set)
    (fun r => places1 (keep_get1 c r)) (fun r r' h => places1 (get_get1 c r r' h))
theorem array2 (c : Dev nD) : Dealt m c 2 :=
  dealt (ℓ := (c.tc : Thread nD τ).loc main_arg2) (ℓ' := (c.tc : Thread nD τ).loc main_v1_2)
    (f := m ((c.tc : Thread nD τ).loc main_arg2)) (g := m ((c.tc : Thread nD τ).loc main_v1_2))
    (cut2 (k0_off5 c) (k0_off5_inb c)).view.set (fun r => (cut2 (k0_off8 c (k0_off8_at r).1 (k0_off8_at r).2) (k0_off8_inb c r)).view.set)
    (fun r => cuts2 (keep_send2 c r)) (fun r r' h => cuts2 (send_send2 c r r' h))
    (place2 c).view.set (fun r => (place2 (other r c)).view.set)
    (fun r => places2 (keep_get2 c r)) (fun r r' h => places2 (get_get2 c r r' h))
theorem array3 (c : Dev nD) : Dealt m c 3 :=
  dealt (ℓ := (c.tc : Thread nD τ).loc main_arg3) (ℓ' := (c.tc : Thread nD τ).loc main_v1_3)
    (f := m ((c.tc : Thread nD τ).loc main_arg3)) (g := m ((c.tc : Thread nD τ).loc main_v1_3))
    (cut3 (k0_off3 c) (k0_off3_inb c)).view.set (fun r => (cut3 (k0_off7 c (k0_off7_at r).1 (k0_off7_at r).2) (k0_off7_inb c r)).view.set)
    (fun r => cuts3 (keep_send1 c r)) (fun r r' h => cuts3 (send_send1 c r r' h))
    (place3 c).view.set (fun r => (place3 (other r c)).view.set)
    (fun r => places3 (keep_get1 c r)) (fun r r' h => places3 (get_get1 c r r' h))

theorem array (c : Dev nD) : ∀ i : Fin 4, Dealt m c i
  | 0 => array0 m c
  | 1 => array1 m c
  | 2 => array2 m c
  | 3 => array3 m c

theorem deal (c : Dev nD) : Pipeline.unscopedRest (cfgs 0).spec c (fun b => m ((c.tc : Thread nD τ).loc b))
    ⊢ iprop(bigSep ((lines m).plan.ready [] []) ((lines m).plan.own c) ∗ bigSep Finset.univ ((lines m).plan.slot c) ∗ aside m c) := by
  refine (lines m).deal_of c _ _ (BI.Entails.trans ?_ ((lines m).deal_rows c (fun _ => rfl) (given m c) (asideAt m c) (array m c)))
  rw [show Pipeline.unscopedRest (cfgs 0).spec c _ = _ from unscopedRest0_eq c _]
  rw [bigSep_univ_eq_bigSepL [0, 1, 2, 3] (by decide) (by decide) (given m c)]
  show _ ⊢ iprop(given m c 0 ∗ given m c 1 ∗ given m c 2 ∗ given m c 3)
  unfold given
  iintro ⟨H0, H1, H2, H3, G0, G1, G2, G3⟩
  isplitl [H0 G0]
  · isplitl [H0]; · iexact H0
    iexact G0
  isplitl [H1 G1]
  · isplitl [H1]; · iexact H1
    iexact G1
  isplitl [H2 G2]
  · isplitl [H2]; · iexact H2
    iexact G2
  isplitl [H3]; · iexact H3
  iexact G3

theorem allS : ∀ k : Key (Fin 4) (Fin 4 × Fin 3), k ∈ ([.inn (3, 2), .out (3, 2), .inn (2, 2), .out (2, 2), .inn (1, 2), .out (1, 2), .inn (0, 2), .out (0, 2), .inn (3, 1), .out (3, 1), .inn (2, 1), .out (2, 1), .inn (1, 1), .out (1, 1), .inn (0, 1), .out (0, 1), .inn (3, 0), .out (3, 0), .inn (2, 0), .out (2, 0), .inn (1, 0), .out (1, 0), .inn (0, 0), .out (0, 0), .here 3, .here 2, .here 1, .here 0] : List (Key (Fin 4) (Fin 4 × Fin 3))) := by decide +kernel
theorem allR : ∀ k : Key (Fin 4) (Fin 4 × Fin 3), k ∈ ([.here 3, .here 2, .here 1, .here 0, .out (3, 2), .out (2, 2), .out (1, 2), .out (0, 2), .out (3, 1), .out (2, 1), .out (1, 1), .out (0, 1), .out (3, 0), .out (2, 0), .out (1, 0), .out (0, 0), .inn (3, 2), .inn (2, 2), .inn (1, 2), .inn (0, 2), .inn (3, 1), .inn (2, 1), .inn (1, 1), .inn (0, 1), .inn (3, 0), .inn (2, 0), .inn (1, 0), .inn (0, 0)] : List (Key (Fin 4) (Fin 4 × Fin 3))) := by decide +kernel
theorem issued (b : Fin 4 × Fin 3) : Key.inn b ∈ ([.inn (3, 2), .out (3, 2), .inn (2, 2), .out (2, 2), .inn (1, 2), .out (1, 2), .inn (0, 2), .out (0, 2), .inn (3, 1), .out (3, 1), .inn (2, 1), .out (2, 1), .inn (1, 1), .out (1, 1), .inn (0, 1), .out (0, 1), .inn (3, 0), .out (3, 0), .inn (2, 0), .out (2, 0), .inn (1, 0), .out (1, 0), .inn (0, 0), .out (0, 0), .here 3, .here 2, .here 1, .here 0] : List (Key (Fin 4) (Fin 4 × Fin 3))) := allS _

theorem to0 : ∀ c : Dev nD, k0_dev1 c = (other 0 c).val := by decide +kernel
theorem to1 : ∀ c : Dev nD, k0_dev5 c = (other 1 c).val := by decide +kernel
theorem to2 : ∀ c : Dev nD, k0_dev9 c = (other 2 c).val := by decide +kernel

theorem body (c : Dev nD) (κ : Dev nD × Key (Fin 4) (Fin 4 × Fin 3) → ℕ) (t : Fin (cfgs 0).N) :
    (lines m).plan.st c κ [] [] ⊢ wp frame (wpE (defs₀ (F := F)) Variants.none (c.tc : Thread nD τ) none) Set.univ
      (defs₀ (F := F) .tc (cfgs 0).body ((cfgs 0).bodyArgs t ((cfgs 0).slots t))) (fun _ => (lines m).plan.after₁ c) := by
  show _ ⊢ wp frame _ _ (cc0_scatter_to_owners (F := F) (Memref.whole main_arg0) (Memref.isWhole_whole _) (Memref.whole main_arg1) (Memref.isWhole_whole _)
    (Memref.whole main_arg2) (Memref.isWhole_whole _) (Memref.whole main_arg3) (Memref.isWhole_whole _)
    (Memref.whole main_v1_0) (Memref.isWhole_whole _) (Memref.whole main_v1_1) (Memref.isWhole_whole _)
    (Memref.whole main_v1_2) (Memref.isWhole_whole _) (Memref.whole main_v1_3) (Memref.isWhole_whole _)
    cc0_scratch0 cc0_scratch1 cc0_scratch2) _
  simp only [cc0_scatter_to_owners_eq_skeleton]
  unfold cc0_scatter_to_owners_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel
  simp only [Prog.lift, Prog.bind_op, Prog.bind_ret, Prog.pure_eq_ret, wp_deviceId]
  refine Lines.wp_copy (w := lines m) Variants.none 0 rfl rfl (by decide) (by decide) ?_
  refine Lines.wp_copy (w := lines m) Variants.none 1 rfl rfl (by decide) (by decide) ?_
  refine Lines.wp_copy (w := lines m) Variants.none 2 rfl rfl (by decide) (by decide) ?_
  refine Lines.wp_copy (w := lines m) Variants.none 3 rfl rfl (by decide) (by decide) ?_
  refine Lines.wp_send (w := lines m) Variants.none (0, 0) (Fin.ext (to0 c)) rfl rfl rfl (by decide) (by decide) (by decide) (fun _ h => nomatch h) ?_
  refine Lines.wp_send (w := lines m) Variants.none (1, 0) (Fin.ext (to0 c)) rfl rfl rfl (by decide) (by decide) (by decide) (fun _ h => nomatch h) ?_
  refine Lines.wp_send (w := lines m) Variants.none (2, 0) (Fin.ext (to0 c)) rfl rfl rfl (by decide) (by decide) (by decide) (fun _ h => nomatch h) ?_
  refine Lines.wp_send (w := lines m) Variants.none (3, 0) (Fin.ext (to0 c)) rfl rfl rfl (by decide) (by decide) (by decide) (fun _ h => nomatch h) ?_
  refine Lines.wp_send (w := lines m) Variants.none (0, 1) (Fin.ext (to1 c)) rfl rfl rfl (by decide) (by decide) (by decide) (fun _ h => nomatch h) ?_
  refine Lines.wp_send (w := lines m) Variants.none (1, 1) (Fin.ext (to1 c)) rfl rfl rfl (by decide) (by decide) (by decide) (fun _ h => nomatch h) ?_
  refine Lines.wp_send (w := lines m) Variants.none (2, 1) (Fin.ext (to1 c)) rfl rfl rfl (by decide) (by decide) (by decide) (fun _ h => nomatch h) ?_
  refine Lines.wp_send (w := lines m) Variants.none (3, 1) (Fin.ext (to1 c)) rfl rfl rfl (by decide) (by decide) (by decide) (fun _ h => nomatch h) ?_
  refine Lines.wp_send (w := lines m) Variants.none (0, 2) (Fin.ext (to2 c)) rfl rfl rfl (by decide) (by decide) (by decide) (fun _ h => nomatch h) ?_
  refine Lines.wp_send (w := lines m) Variants.none (1, 2) (Fin.ext (to2 c)) rfl rfl rfl (by decide) (by decide) (by decide) (fun _ h => nomatch h) ?_
  refine Lines.wp_send (w := lines m) Variants.none (2, 2) (Fin.ext (to2 c)) rfl rfl rfl (by decide) (by decide) (by decide) (fun _ h => nomatch h) ?_
  refine Lines.wp_send (w := lines m) Variants.none (3, 2) (Fin.ext (to2 c)) rfl rfl rfl (by decide) (by decide) (by decide) (fun _ h => nomatch h) ?_
  refine Lines.wp_waitR (w := lines m) Variants.none (0, 0) rfl rfl (by decide) (fun b hb => absurd (issued b) hb) (fun _ h => nomatch h) ?_
  refine Lines.wp_waitR (w := lines m) Variants.none (1, 0) rfl rfl (by decide) (fun b hb => absurd (issued b) hb) (fun _ h => nomatch h) ?_
  refine Lines.wp_waitR (w := lines m) Variants.none (2, 0) rfl rfl (by decide) (fun b hb => absurd (issued b) hb) (fun _ h => nomatch h) ?_
  refine Lines.wp_waitR (w := lines m) Variants.none (3, 0) rfl rfl (by decide) (fun b hb => absurd (issued b) hb) (fun _ h => nomatch h) ?_
  refine Lines.wp_waitR (w := lines m) Variants.none (0, 1) rfl rfl (by decide) (fun b hb => absurd (issued b) hb) (fun _ h => nomatch h) ?_
  refine Lines.wp_waitR (w := lines m) Variants.none (1, 1) rfl rfl (by decide) (fun b hb => absurd (issued b) hb) (fun _ h => nomatch h) ?_
  refine Lines.wp_waitR (w := lines m) Variants.none (2, 1) rfl rfl (by decide) (fun b hb => absurd (issued b) hb) (fun _ h => nomatch h) ?_
  refine Lines.wp_waitR (w := lines m) Variants.none (3, 1) rfl rfl (by decide) (fun b hb => absurd (issued b) hb) (fun _ h => nomatch h) ?_
  refine Lines.wp_waitR (w := lines m) Variants.none (0, 2) rfl rfl (by decide) (fun b hb => absurd (issued b) hb) (fun _ h => nomatch h) ?_
  refine Lines.wp_waitR (w := lines m) Variants.none (1, 2) rfl rfl (by decide) (fun b hb => absurd (issued b) hb) (fun _ h => nomatch h) ?_
  refine Lines.wp_waitR (w := lines m) Variants.none (2, 2) rfl rfl (by decide) (fun b hb => absurd (issued b) hb) (fun _ h => nomatch h) ?_
  refine Lines.wp_waitR (w := lines m) Variants.none (3, 2) rfl rfl (by decide) (fun b hb => absurd (issued b) hb) (fun _ h => nomatch h) ?_
  refine Lines.wp_waitS (w := lines m) Variants.none (0, 0) rfl rfl (by decide) (by decide) (fun b hb => absurd (issued b) hb) ?_
  refine Lines.wp_waitS (w := lines m) Variants.none (1, 0) rfl rfl (by decide) (by decide) (fun b hb => absurd (issued b) hb) ?_
  refine Lines.wp_waitS (w := lines m) Variants.none (2, 0) rfl rfl (by decide) (by decide) (fun b hb => absurd (issued b) hb) ?_
  refine Lines.wp_waitS (w := lines m) Variants.none (3, 0) rfl rfl (by decide) (by decide) (fun b hb => absurd (issued b) hb) ?_
  refine Lines.wp_waitS (w := lines m) Variants.none (0, 1) rfl rfl (by decide) (by decide) (fun b hb => absurd (issued b) hb) ?_
  refine Lines.wp_waitS (w := lines m) Variants.none (1, 1) rfl rfl (by decide) (by decide) (fun b hb => absurd (issued b) hb) ?_
  refine Lines.wp_waitS (w := lines m) Variants.none (2, 1) rfl rfl (by decide) (by decide) (fun b hb => absurd (issued b) hb) ?_
  refine Lines.wp_waitS (w := lines m) Variants.none (3, 1) rfl rfl (by decide) (by decide) (fun b hb => absurd (issued b) hb) ?_
  refine Lines.wp_waitS (w := lines m) Variants.none (0, 2) rfl rfl (by decide) (by decide) (fun b hb => absurd (issued b) hb) ?_
  refine Lines.wp_waitS (w := lines m) Variants.none (1, 2) rfl rfl (by decide) (by decide) (fun b hb => absurd (issued b) hb) ?_
  refine Lines.wp_waitS (w := lines m) Variants.none (2, 2) rfl rfl (by decide) (by decide) (fun b hb => absurd (issued b) hb) ?_
  refine Lines.wp_waitS (w := lines m) Variants.none (3, 2) rfl rfl (by decide) (by decide) (fun b hb => absurd (issued b) hb) ?_
  refine Lines.wp_waitA (w := lines m) Variants.none 0 rfl rfl (by decide) (by decide) (fun b hb => absurd (issued b) hb) ?_
  refine Lines.wp_waitA (w := lines m) Variants.none 1 rfl rfl (by decide) (by decide) (fun b hb => absurd (issued b) hb) ?_
  refine Lines.wp_waitA (w := lines m) Variants.none 2 rfl rfl (by decide) (by decide) (fun b hb => absurd (issued b) hb) ?_
  refine Lines.wp_waitA (w := lines m) Variants.none 3 rfl rfl (by decide) (by decide) (fun b hb => absurd (issued b) hb) ?_
  rw [wp_ret]
  exact (lines m).plan.finish c κ (fun k _ => allS k) allR

/-- The facts about the final memory of device `c`: the copies arrived and the arguments are unchanged. -/
def Ends (c : Dev nD) (μ : MemSt nD τ sig (Elt F)) : Prop :=
  (lines m).Landed c μ ∧ ∀ i : Fin 4, μ.mem ((near i c).src.view.loc (c.tc : Thread nD τ)) = m _

theorem ownSemFacts : Pipeline.OwnSemFacts cfg0.spec (lines m).plan.osem := by
  show Pipeline.OwnSemFacts cfg0.spec (fun k => .dma (semOf k))
  decide +kernel

theorem run_main (g : Dev nD → PrngReg) :
    θ_run (defs (F := F)) (onTc (τ := τ) (main (F := F))) ⟨m, fun _ => 0, g⟩ (fun r => (∀ c, Ends m c r.2) ∧ r.2.sem = fun _ => 0) := by
  have h := (lines m).plan.run (defs₀ (F := F)) cfgs N_0 cellOf_inj winFacts0 (ownSemFacts m) m g (main (F := F)) (fun _ => rfl)
    (fun c => scopedRest0_eq c) (aside m) (deal m) (body m) (Ends m)
    (fun c s' => (lines m).facts c (asd := aside m c) (Q := fun μ => ∀ i : Fin 4, μ.mem ((near i c).src.view.loc (c.tc : Thread nD τ)) = m _) (fun s' => kept (fun i => (near i c).src.view.loc (c.tc : Thread nD τ)) _ _ s') s')
  exact (θ_run defs _ _).mono (fun r hr => ⟨hr.1, sem_eq_zero_of_scoped (by decide) hr.2⟩) h

end Cert.ScatterRun

end
-- ==== Proof.ScatterValue.lean ====
/-
# What the scatter to the owners computes

Device `c` ends holding, for each chip, the piece that its own chip owns of the array of that chip's device of the same
core: the device's block of the reference's regrouped array.
-/
module

public import proofs.«01_k».proof.Proof.ScatterRun
public import proofs.«01_k».proof.Proof.Regroup

@[expose] public section

noncomputable section

namespace Cert.ScatterRun

open Idealize.ShloMosaic
open Idealize.ShloMosaic.TcCoe
open Idealize.SL.Sem
open Cert.ScatterIdeal Cert.ScatterIdeal.Gen Cert.Wires Cert.Mesh Cert.Regroup

variable {F : FTy → Type} [FloatOps F]
variable (m : (ℓ : Loc nD τ sig) → Buf (Elt F) ℓ)

/-- The device of chip `j` with the core of device `c`. -/
abbrev origin (c : Dev nD) (j : Fin 4) : Dev nD := source c j

/-- The device of chip `j` with the same core is the device itself or one of its three partners. -/
theorem source_cases : ∀ (c : Dev nD) (j : Fin 4), origin c j = c ∨ ∃ r, origin c j = other r c := by decide +kernel

/-- A partner cuts the piece it sends here where this device cuts its own. -/
theorem sent_columns0 : ∀ (c : Dev nD) (r : Fin 3), k0_off6 (other r c) (k0_off6_at r).1 (k0_off6_at r).2 = k0_off2 c := by decide +kernel
theorem sent_slabs : ∀ (c : Dev nD) (r : Fin 3), k0_off7 (other r c) (k0_off7_at r).1 (k0_off7_at r).2 = k0_off3 c := by decide +kernel
theorem sent_columns2 : ∀ (c : Dev nD) (r : Fin 3), k0_off8 (other r c) (k0_off8_at r).1 (k0_off8_at r).2 = k0_off5 c := by decide +kernel

/-- What lies in the place of chip `j`: the piece of that chip's array. -/
theorem got0 {c : Dev nD} {μ : MemSt nD τ sig (Elt F)} (h : Ends m c μ) (j : Fin 4) :
    (place0 (origin c j)).view.read (Elt F) (μ.mem ((c.tc : Thread nD τ).loc main_v1_0))
      = (cut0 (k0_off2 c) (k0_off2_inb c)).view.read (Elt F) (m (((origin c j).tc : Thread nD τ).loc main_arg0)) := by
  have hm (o) (ho : o = k0_off2 c) (hi) (d : Dev nD) : (cut0 o hi).view.read (Elt F) (m ((d.tc : Thread nD τ).loc main_arg0))
      = (cut0 (k0_off2 c) (k0_off2_inb c)).view.read (Elt F) (m ((d.tc : Thread nD τ).loc main_arg0)) := by subst ho; rfl
  rcases source_cases c j with e | ⟨r, e⟩
  · rw [e]; exact h.1.1 0
  · rw [e]; exact (h.1.2 (0, r)).trans (hm _ (sent_columns0 c r) (k0_off6_inb (other r c) r) (other r c))
theorem got1 {c : Dev nD} {μ : MemSt nD τ sig (Elt F)} (h : Ends m c μ) (j : Fin 4) :
    (place1 (origin c j)).view.read (Elt F) (μ.mem ((c.tc : Thread nD τ).loc main_v1_1))
      = (cut1 (k0_off3 c) (k0_off3_inb c)).view.read (Elt F) (m (((origin c j).tc : Thread nD τ).loc main_arg1)) := by
  have hm (o) (ho : o = k0_off3 c) (hi) (d : Dev nD) : (cut1 o hi).view.read (Elt F) (m ((d.tc : Thread nD τ).loc main_arg1))
      = (cut1 (k0_off3 c) (k0_off3_inb c)).view.read (Elt F) (m ((d.tc : Thread nD τ).loc main_arg1)) := by subst ho; rfl
  rcases source_cases c j with e | ⟨r, e⟩
  · rw [e]; exact h.1.1 1
  · rw [e]; exact (h.1.2 (1, r)).trans (hm _ (sent_slabs c r) (k0_off7_inb (other r c) r) (other r c))
theorem got2 {c : Dev nD} {μ : MemSt nD τ sig (Elt F)} (h : Ends m c μ) (j : Fin 4) :
    (place2 (origin c j)).view.read (Elt F) (μ.mem ((c.tc : Thread nD τ).loc main_v1_2))
      = (cut2 (k0_off5 c) (k0_off5_inb c)).view.read (Elt F) (m (((origin c j).tc : Thread nD τ).loc main_arg2)) := by
  have hm (o) (ho : o = k0_off5 c) (hi) (d : Dev nD) : (cut2 o hi).view.read (Elt F) (m ((d.tc : Thread nD τ).loc main_arg2))
      = (cut2 (k0_off5 c) (k0_off5_inb c)).view.read (Elt F) (m ((d.tc : Thread nD τ).loc main_arg2)) := by subst ho; rfl
  rcases source_cases c j with e | ⟨r, e⟩
  · rw [e]; exact h.1.1 2
  · rw [e]; exact (h.1.2 (2, r)).trans (hm _ (sent_columns2 c r) (k0_off8_inb (other r c) r) (other r c))
theorem got3 {c : Dev nD} {μ : MemSt nD τ sig (Elt F)} (h : Ends m c μ) (j : Fin 4) :
    (place3 (origin c j)).view.read (Elt F) (μ.mem ((c.tc : Thread nD τ).loc main_v1_3))
      = (cut3 (k0_off3 c) (k0_off3_inb c)).view.read (Elt F) (m (((origin c j).tc : Thread nD τ).loc main_arg3)) := by
  have hm (o) (ho : o = k0_off3 c) (hi) (d : Dev nD) : (cut3 o hi).view.read (Elt F) (m ((d.tc : Thread nD τ).loc main_arg3))
      = (cut3 (k0_off3 c) (k0_off3_inb c)).view.read (Elt F) (m ((d.tc : Thread nD τ).loc main_arg3)) := by subst ho; rfl
  rcases source_cases c j with e | ⟨r, e⟩
  · rw [e]; exact h.1.1 3
  · rw [e]; exact (h.1.2 (3, r)).trans (hm _ (sent_slabs c r) (k0_off7_inb (other r c) r) (other r c))

/-- A place of a result read at an index. -/
theorem chip_source (c : Dev nD) (j : Fin 4) : 2 * ((origin c j).val / 4) + ((origin c j).val / 2) % 2 = j.val :=
  (show ∀ (c : Fin 8) (j : Fin 4), 2 * ((source c j).val / 4) + ((source c j).val / 2) % 2 = j.val from by decide) c j
theorem place0_at (c : Dev nD) (f : Buf (Elt F) ((c.tc : Thread nD τ).loc main_v1_0)) (j : Fin 4) (a : Fin 1024) (b : Fin 2048) :
    f (at3 j a b) = (place0 (origin c j)).view.read (Elt F) f (at2 a b) :=
  (read_row (J := 4) (R := 1024) (W := 2048) (Memref.whole main_v1_0) (k0_off1 (origin c j)) (k0_off1_inb (origin c j)) squeezes_S1x1024x2048_S1024x2048 (by decide) f (at3 j a b) a b
    ((chip_source c j).symm.trans (congrFun (k0_off1_eq (origin c j)) 0).symm)
    ((Nat.zero_add _).symm.trans (congrArg (· + a.val) (congrFun (k0_off1_eq (origin c j)) 1).symm))
    ((Nat.zero_add _).symm.trans (congrArg (· + b.val) (congrFun (k0_off1_eq (origin c j)) 2).symm))).symm
theorem place1_at (c : Dev nD) (f : Buf (Elt F) ((c.tc : Thread nD τ).loc main_v1_1)) (j : Fin 4) (a : Fin 256) (b : Fin 2048) :
    f (at3 j a b) = (place1 (origin c j)).view.read (Elt F) f (at2 a b) :=
  (read_row (J := 4) (R := 256) (W := 2048) (Memref.whole main_v1_1) (k0_off3 (origin c j)) (k0_off3_inb (origin c j)) squeezes_S1x256x2048_S256x2048 (by decide) f (at3 j a b) a b
    ((chip_source c j).symm.trans (congrFun (k0_off3_eq (origin c j)) 0).symm)
    ((Nat.zero_add _).symm.trans (congrArg (· + a.val) (congrFun (k0_off3_eq (origin c j)) 1).symm))
    ((Nat.zero_add _).symm.trans (congrArg (· + b.val) (congrFun (k0_off3_eq (origin c j)) 2).symm))).symm
theorem place2_at (c : Dev nD) (f : Buf (Elt F) ((c.tc : Thread nD τ).loc main_v1_2)) (j : Fin 4) (a : Fin 1024) (b : Fin 1152) :
    f (at3 j a b) = (place2 (origin c j)).view.read (Elt F) f (at2 a b) :=
  (read_row (J := 4) (R := 1024) (W := 1152) (Memref.whole main_v1_2) (k0_off4 (origin c j)) (k0_off4_inb (origin c j)) squeezes_S1x1024x1152_S1024x1152 (by decide) f (at3 j a b) a b
    ((chip_source c j).symm.trans (congrFun (k0_off4_eq (origin c j)) 0).symm)
    ((Nat.zero_add _).symm.trans (congrArg (· + a.val) (congrFun (k0_off4_eq (origin c j)) 1).symm))
    ((Nat.zero_add _).symm.trans (congrArg (· + b.val) (congrFun (k0_off4_eq (origin c j)) 2).symm))).symm
theorem place3_at (c : Dev nD) (f : Buf (Elt F) ((c.tc : Thread nD τ).loc main_v1_3)) (j : Fin 4) (a : Fin 256) (b : Fin 2048) :
    f (at3 j a b) = (place3 (origin c j)).view.read (Elt F) f (at2 a b) :=
  (read_row (J := 4) (R := 256) (W := 2048) (Memref.whole main_v1_3) (k0_off3 (origin c j)) (k0_off3_inb (origin c j)) squeezes_S1x256x2048_S256x2048 (by decide) f (at3 j a b) a b
    ((chip_source c j).symm.trans (congrFun (k0_off3_eq (origin c j)) 0).symm)
    ((Nat.zero_add _).symm.trans (congrArg (· + a.val) (congrFun (k0_off3_eq (origin c j)) 1).symm))
    ((Nat.zero_add _).symm.trans (congrArg (· + b.val) (congrFun (k0_off3_eq (origin c j)) 2).symm))).symm

theorem half_chip (c : Fin 8) : 2 * (c.val / 4) + (c.val / 2) % 2 = c.val / 2 := by revert c; decide

/-- A piece of an argument read at an index. -/
theorem cut0_at (c d : Dev nD) (f : Buf (Elt F) ((d.tc : Thread nD τ).loc main_arg0)) (a : Fin 1024) (b : Fin 2048) (y : Fin 8192) (hy : y.val = 2048 * (c.val / 2) + b.val) :
    (cut0 (k0_off2 c) (k0_off2_inb c)).view.read (Elt F) f (at2 a b) = f (at2 a y) := by
  show f ((Rect.unit (s := ⟨2, ![1024, 8192]⟩) (k0_off2 c) ![1024, 2048] (k0_off2_inb c)).emb (at2 a b)) = _
  congr 1
  have hz (i : Fin 2) : ((Rect.unit (s := ⟨2, ![1024, 8192]⟩) (k0_off2 c) ![1024, 2048] (k0_off2_inb c)).emb (at2 a b) i).val = k0_off2 c i + 1 * (at2 a b i).val := rfl
  refine eq_at2 _ _ _ ?_ ?_
  · rw [hz, k0_off2_eq]; show 0 + 1 * a.val = _; omega
  · rw [hz, k0_off2_eq, hy]; have := half_chip c; show 4096 * (c.val / 4) + 2048 * ((c.val / 2) % 2) + 1 * b.val = 2048 * (c.val / 2) + b.val; omega
theorem cut2_at (c d : Dev nD) (f : Buf (Elt F) ((d.tc : Thread nD τ).loc main_arg2)) (a : Fin 1024) (b : Fin 1152) (y : Fin 4608) (hy : y.val = 1152 * (c.val / 2) + b.val) :
    (cut2 (k0_off5 c) (k0_off5_inb c)).view.read (Elt F) f (at2 a b) = f (at2 a y) := by
  show f ((Rect.unit (s := ⟨2, ![1024, 4608]⟩) (k0_off5 c) ![1024, 1152] (k0_off5_inb c)).emb (at2 a b)) = _
  congr 1
  have hz (i : Fin 2) : ((Rect.unit (s := ⟨2, ![1024, 4608]⟩) (k0_off5 c) ![1024, 1152] (k0_off5_inb c)).emb (at2 a b) i).val = k0_off5 c i + 1 * (at2 a b i).val := rfl
  refine eq_at2 _ _ _ ?_ ?_
  · rw [hz, k0_off5_eq]; show 0 + 1 * a.val = _; omega
  · rw [hz, k0_off5_eq, hy]; have := half_chip c; show 2304 * (c.val / 4) + 1152 * ((c.val / 2) % 2) + 1 * b.val = 1152 * (c.val / 2) + b.val; omega
theorem cut1_at (c d : Dev nD) (f : Buf (Elt F) ((d.tc : Thread nD τ).loc main_arg1)) (a : Fin 256) (b : Fin 2048) :
    (cut1 (k0_off3 c) (k0_off3_inb c)).view.read (Elt F) f (at2 a b) = f (at3 (chip c) a b) :=
  read_row (J := 4) (R := 256) (W := 2048) (Memref.whole main_arg1) (k0_off3 c) (k0_off3_inb c) squeezes_S1x256x2048_S256x2048 (by decide) f _ a b
    ((half_chip c).symm.trans (congrFun (k0_off3_eq c) 0).symm)
    ((Nat.zero_add _).symm.trans (congrArg (· + a.val) (congrFun (k0_off3_eq c) 1).symm))
    ((Nat.zero_add _).symm.trans (congrArg (· + b.val) (congrFun (k0_off3_eq c) 2).symm))
theorem cut3_at (c d : Dev nD) (f : Buf (Elt F) ((d.tc : Thread nD τ).loc main_arg3)) (a : Fin 256) (b : Fin 2048) :
    (cut3 (k0_off3 c) (k0_off3_inb c)).view.read (Elt F) f (at2 a b) = f (at3 (chip c) a b) :=
  read_row (J := 4) (R := 256) (W := 2048) (Memref.whole main_arg3) (k0_off3 c) (k0_off3_inb c) squeezes_S1x256x2048_S256x2048 (by decide) f _ a b
    ((half_chip c).symm.trans (congrFun (k0_off3_eq c) 0).symm)
    ((Nat.zero_add _).symm.trans (congrArg (· + a.val) (congrFun (k0_off3_eq c) 1).symm))
    ((Nat.zero_add _).symm.trans (congrArg (· + b.val) (congrFun (k0_off3_eq c) 2).symm))

/-- The regrouped arrays. -/
def wide {α : Type} (X : (⟨2, ![8192, 8192]⟩ : Shape).Idx → α) : (⟨3, ![32, 1024, 2048]⟩ : Shape).Idx → α :=
  columns (T := 8192) (W := 2048) (by decide) (by decide) (by decide) X
def tall {α : Type} (X : (⟨2, ![8192, 4608]⟩ : Shape).Idx → α) : (⟨3, ![32, 1024, 1152]⟩ : Shape).Idx → α :=
  columns (T := 4608) (W := 1152) (by decide) (by decide) (by decide) X
def slab {α : Type} (X : (⟨3, ![32, 256, 2048]⟩ : Shape).Idx → α) : (⟨3, ![32, 256, 2048]⟩ : Shape).Idx → α :=
  slabs (by decide) (by decide) (by decide) X

theorem value0 {c : Dev nD} {μ : MemSt nD τ sig (Elt F)} (h : Ends m c μ) (X : (⟨2, ![8192, 8192]⟩ : Shape).Idx → F .bf16)
    (hX : ∀ d : Dev nD, m ((d.tc : Thread nD τ).loc main_arg0) = Layout.block ⟨2, ![1024, 8192]⟩ ⟨2, ![8192, 8192]⟩ 0 8 d X) :
    μ.mem ((c.tc : Thread nD τ).loc main_v1_0) = Layout.block ⟨3, ![4, 1024, 2048]⟩ ⟨3, ![32, 1024, 2048]⟩ 0 8 c (wide X) :=
  columns_block (T := 8192) (W := 2048) rfl _ _ _ X (by decide) (by decide) (fun (d : Dev nD) => m ((d.tc : Thread nD τ).loc main_arg0)) hX c _ fun j a b y hy =>
    (place0_at c _ j a b).trans ((congrFun (got0 m h j) (at2 a b)).trans (cut0_at c (origin c j) _ a b y hy))
theorem value2 {c : Dev nD} {μ : MemSt nD τ sig (Elt F)} (h : Ends m c μ) (X : (⟨2, ![8192, 4608]⟩ : Shape).Idx → F .bf16)
    (hX : ∀ d : Dev nD, m ((d.tc : Thread nD τ).loc main_arg2) = Layout.block ⟨2, ![1024, 4608]⟩ ⟨2, ![8192, 4608]⟩ 0 8 d X) :
    μ.mem ((c.tc : Thread nD τ).loc main_v1_2) = Layout.block ⟨3, ![4, 1024, 1152]⟩ ⟨3, ![32, 1024, 1152]⟩ 0 8 c (tall X) :=
  columns_block (T := 4608) (W := 1152) rfl _ _ _ X (by decide) (by decide) (fun (d : Dev nD) => m ((d.tc : Thread nD τ).loc main_arg2)) hX c _ fun j a b y hy =>
    (place2_at c _ j a b).trans ((congrFun (got2 m h j) (at2 a b)).trans (cut2_at c (origin c j) _ a b y hy))
theorem value1 {c : Dev nD} {μ : MemSt nD τ sig (Elt F)} (h : Ends m c μ) (X : (⟨3, ![32, 256, 2048]⟩ : Shape).Idx → F .bf16)
    (hX : ∀ d : Dev nD, m ((d.tc : Thread nD τ).loc main_arg1) = Layout.block ⟨3, ![4, 256, 2048]⟩ ⟨3, ![32, 256, 2048]⟩ 0 8 d X) :
    μ.mem ((c.tc : Thread nD τ).loc main_v1_1) = Layout.block ⟨3, ![4, 256, 2048]⟩ ⟨3, ![32, 256, 2048]⟩ 0 8 c (slab X) :=
  slabs_block _ _ _ X (by decide) (fun (d : Dev nD) => m ((d.tc : Thread nD τ).loc main_arg1)) hX c _ fun j a b =>
    (place1_at c _ j a b).trans ((congrFun (got1 m h j) (at2 a b)).trans (cut1_at c (origin c j) _ a b))
theorem value3 {c : Dev nD} {μ : MemSt nD τ sig (Elt F)} (h : Ends m c μ) (X : (⟨3, ![32, 256, 2048]⟩ : Shape).Idx → F .bf16)
    (hX : ∀ d : Dev nD, m ((d.tc : Thread nD τ).loc main_arg3) = Layout.block ⟨3, ![4, 256, 2048]⟩ ⟨3, ![32, 256, 2048]⟩ 0 8 d X) :
    μ.mem ((c.tc : Thread nD τ).loc main_v1_3) = Layout.block ⟨3, ![4, 256, 2048]⟩ ⟨3, ![32, 256, 2048]⟩ 0 8 c (slab X) :=
  slabs_block _ _ _ X (by decide) (fun (d : Dev nD) => m ((d.tc : Thread nD τ).loc main_arg3)) hX c _ fun j a b =>
    (place3_at c _ j a b).trans ((congrFun (got3 m h j) (at2 a b)).trans (cut3_at c (origin c j) _ a b))

end Cert.ScatterRun

end
-- ==== Proof.ScatterClaims.lean ====
/-
# The claims about the scatter to the owners

Both frames from one run, the reference's frames, and the two value claims.
-/
module

public import proofs.«01_k».proof.Defs
public import proofs.«01_k».proof.Proof.ScatterValue
public import proofs.«01_k».proof.Proof.Gen.Scatter
public import proofs.«01_k».proof.Proof.Gen.ScatterRef
public import proofs.«01_k».proof.Proof.Gen.ScatterRefIdeal.Run

@[expose] public section

noncomputable section

namespace Cert.ScatterClaims

open Idealize.ShloMosaic Idealize.ShloMosaic.TcCoe Idealize.ShloMosaic.StableHlo
open Idealize.SL.Sem
open Cert.ScatterRun

theorem frame_ideal : Cert.quiescent_ScatterIdeal := fun m g _ =>
  (θ_run Cert.ScatterIdeal.defs _ _).mono (fun _ h => ⟨fun c => ⟨(h.1 c).2 0, (h.1 c).2 1, (h.1 c).2 2, (h.1 c).2 3⟩, h.2⟩) (run_main (F := Ideal) m g)

theorem frame_kernel : Cert.quiescent_Scatter := fun m g _ =>
  (θ_run Cert.ScatterIdeal.defs _ _).mono (fun _ h => ⟨fun c => ⟨(h.1 c).2 0, (h.1 c).2 1, (h.1 c).2 2, (h.1 c).2 3⟩, h.2⟩) (run_main (F := Bits) m g)

/-- What the reference ends with: the regrouped arrays, and its arguments. -/
def RefEnds {F : FTy → Type} (m μ : (ℓ : Loc Cert.ScatterRefIdeal.nD Cert.ScatterRefIdeal.τ Cert.ScatterRefIdeal.sig) → Buf (Elt F) ℓ) (d : Dev Cert.ScatterRefIdeal.nD) : Prop :=
  μ ((d.tc : Thread Cert.ScatterRefIdeal.nD Cert.ScatterRefIdeal.τ).loc Cert.ScatterRefIdeal.main_v2) = wide (m ((d.tc : Thread Cert.ScatterRefIdeal.nD Cert.ScatterRefIdeal.τ).loc Cert.ScatterRefIdeal.main_arg0))
  ∧ μ ((d.tc : Thread Cert.ScatterRefIdeal.nD Cert.ScatterRefIdeal.τ).loc Cert.ScatterRefIdeal.main_v5) = slab (m ((d.tc : Thread Cert.ScatterRefIdeal.nD Cert.ScatterRefIdeal.τ).loc Cert.ScatterRefIdeal.main_arg1))
  ∧ μ ((d.tc : Thread Cert.ScatterRefIdeal.nD Cert.ScatterRefIdeal.τ).loc Cert.ScatterRefIdeal.main_v8) = tall (m ((d.tc : Thread Cert.ScatterRefIdeal.nD Cert.ScatterRefIdeal.τ).loc Cert.ScatterRefIdeal.main_arg2))
  ∧ μ ((d.tc : Thread Cert.ScatterRefIdeal.nD Cert.ScatterRefIdeal.τ).loc Cert.ScatterRefIdeal.main_v11) = slab (m ((d.tc : Thread Cert.ScatterRefIdeal.nD Cert.ScatterRefIdeal.τ).loc Cert.ScatterRefIdeal.main_arg3))
  ∧ μ ((d.tc : Thread Cert.ScatterRefIdeal.nD Cert.ScatterRefIdeal.τ).loc Cert.ScatterRefIdeal.main_arg0) = m ((d.tc : Thread Cert.ScatterRefIdeal.nD Cert.ScatterRefIdeal.τ).loc Cert.ScatterRefIdeal.main_arg0)
  ∧ μ ((d.tc : Thread Cert.ScatterRefIdeal.nD Cert.ScatterRefIdeal.τ).loc Cert.ScatterRefIdeal.main_arg1) = m ((d.tc : Thread Cert.ScatterRefIdeal.nD Cert.ScatterRefIdeal.τ).loc Cert.ScatterRefIdeal.main_arg1)
  ∧ μ ((d.tc : Thread Cert.ScatterRefIdeal.nD Cert.ScatterRefIdeal.τ).loc Cert.ScatterRefIdeal.main_arg2) = m ((d.tc : Thread Cert.ScatterRefIdeal.nD Cert.ScatterRefIdeal.τ).loc Cert.ScatterRefIdeal.main_arg2)
  ∧ μ ((d.tc : Thread Cert.ScatterRefIdeal.nD Cert.ScatterRefIdeal.τ).loc Cert.ScatterRefIdeal.main_arg3) = m ((d.tc : Thread Cert.ScatterRefIdeal.nD Cert.ScatterRefIdeal.τ).loc Cert.ScatterRefIdeal.main_arg3)

theorem run_ref {F : FTy → Type} [FloatOps F] (m : (ℓ : Loc Cert.ScatterRefIdeal.nD Cert.ScatterRefIdeal.τ Cert.ScatterRefIdeal.sig) → Buf (Elt F) ℓ) (g : Dev Cert.ScatterRefIdeal.nD → PrngReg) :
    θ_run (Cert.ScatterRefIdeal.defs (F := F)) (onTc (τ := Cert.ScatterRefIdeal.τ) (Cert.ScatterRefIdeal.main (F := F))) ⟨m, fun _ => 0, g⟩ fun r =>
      (∀ d, RefEnds m r.2.mem d) ∧ r.2.sem = fun _ => 0 :=
  (θ_run Cert.ScatterRefIdeal.defs _ _).mono (fun r h => ⟨h, sem_eq_zero_of_no_sems (by decide) r.2⟩) (Cert.ScatterRefIdeal.Value.run m g)

theorem frame_ref_ideal : Cert.quiescent_ScatterRefIdeal := fun m g _ =>
  (θ_run Cert.ScatterRefIdeal.defs _ _).mono (fun _ h => ⟨fun c => (h.1 c).2.2.2.2, h.2⟩) (run_ref (F := Ideal) m g)

theorem frame_ref : Cert.quiescent_ScatterRef := fun m g _ =>
  (θ_run Cert.ScatterRefIdeal.defs _ _).mono (fun _ h => ⟨fun c => (h.1 c).2.2.2.2, h.2⟩) (run_ref (F := Bits) m g)

/-- What the kernel ends with on device `c` when the devices' arguments are the blocks of `X0` to `X3`. -/
def KerEnds {F : FTy → Type} (m μ : (ℓ : Loc Cert.ScatterIdeal.nD Cert.ScatterIdeal.τ Cert.ScatterIdeal.sig) → Buf (Elt F) ℓ)
    (X0 : (⟨2, ![8192, 8192]⟩ : Shape).Idx → F .bf16) (X1 : (⟨3, ![32, 256, 2048]⟩ : Shape).Idx → F .bf16) (X2 : (⟨2, ![8192, 4608]⟩ : Shape).Idx → F .bf16) (X3 : (⟨3, ![32, 256, 2048]⟩ : Shape).Idx → F .bf16) (c : Dev Cert.ScatterIdeal.nD) : Prop :=
  μ ((c.tc : Thread Cert.ScatterIdeal.nD Cert.ScatterIdeal.τ).loc Cert.ScatterIdeal.main_v1_0) = Layout.block ⟨3, ![4, 1024, 2048]⟩ ⟨3, ![32, 1024, 2048]⟩ 0 8 c (wide X0)
  ∧ μ ((c.tc : Thread Cert.ScatterIdeal.nD Cert.ScatterIdeal.τ).loc Cert.ScatterIdeal.main_v1_1) = Layout.block ⟨3, ![4, 256, 2048]⟩ ⟨3, ![32, 256, 2048]⟩ 0 8 c (slab X1)
  ∧ μ ((c.tc : Thread Cert.ScatterIdeal.nD Cert.ScatterIdeal.τ).loc Cert.ScatterIdeal.main_v1_2) = Layout.block ⟨3, ![4, 1024, 1152]⟩ ⟨3, ![32, 1024, 1152]⟩ 0 8 c (tall X2)
  ∧ μ ((c.tc : Thread Cert.ScatterIdeal.nD Cert.ScatterIdeal.τ).loc Cert.ScatterIdeal.main_v1_3) = Layout.block ⟨3, ![4, 256, 2048]⟩ ⟨3, ![32, 256, 2048]⟩ 0 8 c (slab X3)
  ∧ μ ((c.tc : Thread Cert.ScatterIdeal.nD Cert.ScatterIdeal.τ).loc Cert.ScatterIdeal.main_arg0) = m ((c.tc : Thread Cert.ScatterIdeal.nD Cert.ScatterIdeal.τ).loc Cert.ScatterIdeal.main_arg0)
  ∧ μ ((c.tc : Thread Cert.ScatterIdeal.nD Cert.ScatterIdeal.τ).loc Cert.ScatterIdeal.main_arg1) = m ((c.tc : Thread Cert.ScatterIdeal.nD Cert.ScatterIdeal.τ).loc Cert.ScatterIdeal.main_arg1)
  ∧ μ ((c.tc : Thread Cert.ScatterIdeal.nD Cert.ScatterIdeal.τ).loc Cert.ScatterIdeal.main_arg2) = m ((c.tc : Thread Cert.ScatterIdeal.nD Cert.ScatterIdeal.τ).loc Cert.ScatterIdeal.main_arg2)
  ∧ μ ((c.tc : Thread Cert.ScatterIdeal.nD Cert.ScatterIdeal.τ).loc Cert.ScatterIdeal.main_arg3) = m ((c.tc : Thread Cert.ScatterIdeal.nD Cert.ScatterIdeal.τ).loc Cert.ScatterIdeal.main_arg3)

theorem run_ker {F : FTy → Type} [FloatOps F] (m : (ℓ : Loc Cert.ScatterIdeal.nD Cert.ScatterIdeal.τ Cert.ScatterIdeal.sig) → Buf (Elt F) ℓ) (g : Dev Cert.ScatterIdeal.nD → PrngReg)
    (X0 : (⟨2, ![8192, 8192]⟩ : Shape).Idx → F .bf16) (X1 : (⟨3, ![32, 256, 2048]⟩ : Shape).Idx → F .bf16) (X2 : (⟨2, ![8192, 4608]⟩ : Shape).Idx → F .bf16) (X3 : (⟨3, ![32, 256, 2048]⟩ : Shape).Idx → F .bf16)
    (hin : ∀ c : Dev Cert.ScatterIdeal.nD, m ((c.tc : Thread Cert.ScatterIdeal.nD Cert.ScatterIdeal.τ).loc Cert.ScatterIdeal.main_arg0) = Layout.block ⟨2, ![1024, 8192]⟩ ⟨2, ![8192, 8192]⟩ 0 8 c X0 ∧ m ((c.tc : Thread Cert.ScatterIdeal.nD Cert.ScatterIdeal.τ).loc Cert.ScatterIdeal.main_arg1) = Layout.block ⟨3, ![4, 256, 2048]⟩ ⟨3, ![32, 256, 2048]⟩ 0 8 c X1 ∧ m ((c.tc : Thread Cert.ScatterIdeal.nD Cert.ScatterIdeal.τ).loc Cert.ScatterIdeal.main_arg2) = Layout.block ⟨2, ![1024, 4608]⟩ ⟨2, ![8192, 4608]⟩ 0 8 c X2 ∧ m ((c.tc : Thread Cert.ScatterIdeal.nD Cert.ScatterIdeal.τ).loc Cert.ScatterIdeal.main_arg3) = Layout.block ⟨3, ![4, 256, 2048]⟩ ⟨3, ![32, 256, 2048]⟩ 0 8 c X3) :
    θ_run (Cert.ScatterIdeal.defs (F := F)) (onTc (τ := Cert.ScatterIdeal.τ) (Cert.ScatterIdeal.main (F := F))) ⟨m, fun _ => 0, g⟩ fun r => ∀ c, KerEnds m r.2.mem X0 X1 X2 X3 c :=
  (θ_run Cert.ScatterIdeal.defs _ _).mono (fun _ h c =>
    ⟨value0 m (h.1 c) X0 fun d => (hin d).1, value1 m (h.1 c) X1 fun d => (hin d).2.1, value2 m (h.1 c) X2 fun d => (hin d).2.2.1, value3 m (h.1 c) X3 fun d => (hin d).2.2.2,
      (h.1 c).2 0, (h.1 c).2 1, (h.1 c).2 2, (h.1 c).2 3⟩) (run_main m g)

theorem algebraic : Cert.algebraic_ScatterIdeal_ScatterRefIdeal := fun m g m' g' _ hin =>
  ⟨wide (m' (((0 : Dev Cert.ScatterRefIdeal.nD).tc : Thread Cert.ScatterRefIdeal.nD Cert.ScatterRefIdeal.τ).loc Cert.ScatterRefIdeal.main_arg0)), slab (m' (((0 : Dev Cert.ScatterRefIdeal.nD).tc : Thread Cert.ScatterRefIdeal.nD Cert.ScatterRefIdeal.τ).loc Cert.ScatterRefIdeal.main_arg1)), tall (m' (((0 : Dev Cert.ScatterRefIdeal.nD).tc : Thread Cert.ScatterRefIdeal.nD Cert.ScatterRefIdeal.τ).loc Cert.ScatterRefIdeal.main_arg2)), slab (m' (((0 : Dev Cert.ScatterRefIdeal.nD).tc : Thread Cert.ScatterRefIdeal.nD Cert.ScatterRefIdeal.τ).loc Cert.ScatterRefIdeal.main_arg3)),
    run_ker m g _ _ _ _ hin, (θ_run Cert.ScatterRefIdeal.defs _ _).mono (fun _ h => h.1 0) (run_ref m' g')⟩

theorem bitexact : Cert.bitexact_Scatter_ScatterRef := fun m g m' g' _ hin =>
  ⟨wide (m' (((0 : Dev Cert.ScatterRefIdeal.nD).tc : Thread Cert.ScatterRefIdeal.nD Cert.ScatterRefIdeal.τ).loc Cert.ScatterRefIdeal.main_arg0)), slab (m' (((0 : Dev Cert.ScatterRefIdeal.nD).tc : Thread Cert.ScatterRefIdeal.nD Cert.ScatterRefIdeal.τ).loc Cert.ScatterRefIdeal.main_arg1)), tall (m' (((0 : Dev Cert.ScatterRefIdeal.nD).tc : Thread Cert.ScatterRefIdeal.nD Cert.ScatterRefIdeal.τ).loc Cert.ScatterRefIdeal.main_arg2)), slab (m' (((0 : Dev Cert.ScatterRefIdeal.nD).tc : Thread Cert.ScatterRefIdeal.nD Cert.ScatterRefIdeal.τ).loc Cert.ScatterRefIdeal.main_arg3)),
    run_ker m g _ _ _ _ hin, (θ_run Cert.ScatterRefIdeal.defs _ _).mono (fun _ h => h.1 0) (run_ref m' g')⟩

end Cert.ScatterClaims

end
-- ==== Proof.NormValue.lean ====
/- The backward pass of the even layer's norm: row by row, the gradient that the call leaves is the one of the plain formula. -/
module

public import proofs.«01_k».proof.Defs
public import proofs.«01_k».proof.Proof.Gen.NormIdeal.Value
public import proofs.«01_k».proof.Proof.Gen.NormRefIdeal.Run
public import proofs.«01_k».proof.Proof.Gen.Norm.Frame
public import proofs.«01_k».proof.Proof.Gen.NormRef
public import Idealize.ShloMosaic.Lib.Quiescent
public import Idealize.ShloMosaic.Lib.Pointwise.Tactic
public import Idealize.ShloMosaic.Lib.Pointwise.Reduce
public import Idealize.ShloMosaic.Lib.Pointwise.Reshape

@[expose] public section

noncomputable section

open Idealize.ShloMosaic Idealize.ShloMosaic.TcCoe Idealize.SL.Sem

namespace Cert.Proof.Norm

open Cert.NormIdeal Cert.NormIdeal.Gen

/-- The mean square of a row with the small constant added. -/
def mean (x : Fin 2048 → EReal) : EReal :=
  Ideal.div (∑ k, x k * x k) (Ideal.ofBits .f32 0x45000000#32) + Ideal.ofBits .f32 0x358637BD#32

/-- One over its root. -/
def scale (x : Fin 2048 → EReal) : EReal := Ideal.rsqrt (mean x)

/-- What reaches a row's entry through that root, for each unit of the entry. -/
def pull (x w g : Fin 2048 → EReal) : EReal :=
  Ideal.div ((∑ l, x l * (g l * w l)) * (Ideal.ofBits .f32 0xBF000000#32 * Ideal.div (scale x) (mean x))) (Ideal.ofBits .f32 0x45000000#32)

/-- The gradient of a row's entry: of the row `x`, the weight `w`, the incoming gradient `g` and what is added, `r`. -/
def slope (x w g r : Fin 2048 → EReal) (k : Fin 2048) : EReal :=
  r k + scale x * (g k * w k - x k * scale x * Ideal.div (∑ l, g l * w l * (x l * scale x)) (Ideal.ofBits .f32 0x45000000#32))

/-- What the body computes of its blocks is that gradient, row by row. -/
theorem pay5_apply (x : Vec Ideal S256x2048 .f32) (g : Vec Ideal S256x2048 .bf16) (w : Vec Ideal S1x2048 .f32)
    (r : Vec Ideal S256x2048 .f32) (i : Fin 256) (k : Fin 2048) :
    k0_pay5 x g w r (ix2 i k) = slope (fun l => x (ix2 i l)) (fun l => w (ix2 0 l)) (fun l => g (ix2 i l)) (fun l => r (ix2 i l)) k := by
  unfold_payloads
  pointwise! [slope, scale, mean]

/-- What differentiating the norm gives for a row's entry: `x` times the root's slope comes once from each factor of the square. -/
def derivative (x w g r : Fin 2048 → EReal) (k : Fin 2048) : EReal :=
  g k * w k * scale x + x k * pull x w g + pull x w g * x k + r k

/-- Every real that is not negative distributes over a sum, whatever its terms. -/
theorem sum_mul_real {n : Nat} {c : ℝ} (hc : 0 ≤ c) (f : Fin n → EReal) : ∑ l, f l * (c : EReal) = (∑ l, f l) * (c : EReal) := by
  rw [mul_comm (∑ l, f l)]
  generalize (Finset.univ : Finset (Fin n)) = s
  induction s using Finset.induction_on with
  | empty => simp
  | insert a s ha ih =>
    rw [Finset.sum_insert ha, Finset.sum_insert ha, ih,
      EReal.left_distrib_of_nonneg_of_ne_top (by exact_mod_cast hc) (EReal.coe_ne_top c), mul_comm (f a)]

theorem ofBits_2048 : Ideal.ofBits .f32 0x45000000#32 = ((2048 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul]; norm_num

theorem ofBits_small : ∃ e : ℝ, 0 < e ∧ Ideal.ofBits .f32 0x358637BD#32 = (e : EReal) := by
  refine ⟨_, ?_, by simp [Ideal.ofBits, Ideal.ieee, -EReal.coe_mul]; rfl⟩
  positivity

theorem square_nonneg (a : EReal) : 0 ≤ a * a := by
  induction a with
  | bot => simp
  | top => simp
  | coe a => exact_mod_cast mul_self_nonneg a

/-- The mean square with the small constant is a positive real or infinite. -/
theorem mean_cases (x : Fin 2048 → EReal) : mean x = ⊤ ∨ ∃ v : ℝ, 0 < v ∧ mean x = (v : EReal) := by
  obtain ⟨e, he, hb⟩ := ofBits_small
  have h : 0 ≤ ∑ k, x k * x k := Finset.sum_nonneg fun k _ => square_nonneg (x k)
  unfold mean
  rw [hb, ofBits_2048, Ideal.div_coe (by norm_num)]
  revert h
  generalize (∑ k, x k * x k) = S
  intro h
  induction S with
  | bot => simp at h
  | top =>
    left
    rw [EReal.top_mul_coe_of_pos (by norm_num)]
    rfl
  | coe S =>
    right
    refine ⟨S * (1 / 2048) + e, ?_, by push_cast; rfl⟩
    have : 0 ≤ S := by exact_mod_cast h
    positivity

/-- The derivative is the gradient that the call's formula gives, infinities included. -/
theorem derivative_eq (x w g r : Fin 2048 → EReal) (k : Fin 2048) : derivative x w g r k = slope x w g r k := by
  unfold derivative slope
  rw [add_comm]
  congr 1
  rcases mean_cases x with h | ⟨v, hv, h⟩
  · have hs : scale x = 0 := by unfold scale; rw [h]; rfl
    have hp : pull x w g = 0 := by
      unfold pull
      rw [hs, ofBits_2048, Ideal.div_coe (by norm_num), h]
      simp [Ideal.div]
    rw [hs, hp]
    simp
  · have hs : scale x = (((Real.sqrt v)⁻¹ : ℝ) : EReal) := by
      unfold scale
      rw [h, Ideal.rsqrt_coe, if_neg (not_lt.mpr hv.le), if_neg hv.ne']
    have hq : 0 ≤ (Real.sqrt v)⁻¹ := by positivity
    have hv' : (1 / v : ℝ) = (Real.sqrt v)⁻¹ * (Real.sqrt v)⁻¹ := by
      rw [← mul_inv, Real.mul_self_sqrt hv.le, one_div]
    unfold pull
    simp only [hs, ofBits_2048, ofBits_neg_half, h]
    rw [Ideal.div_coe (by norm_num), Ideal.div_coe hv.ne', Ideal.div_coe (by norm_num), hv']
    revert hq
    generalize (Real.sqrt v)⁻¹ = q
    intro hq
    have e1 : ∀ l, g l * w l * (x l * (q : EReal)) = x l * (g l * w l) * (q : EReal) := fun l => by ac_rfl
    simp only [e1]
    rw [sum_mul_real hq]
    generalize (∑ l, x l * (g l * w l)) = S
    rw [sub_eq_add_neg, EReal.left_distrib_of_nonneg_of_ne_top (by exact_mod_cast hq) (EReal.coe_ne_top q), add_assoc]
    refine congrArg₂ (· + ·) (mul_comm _ _) ?_
    have e2 : ∀ y : EReal, y + y = y * ((2 : ℝ) : EReal) := fun y => by
      have := EReal.left_distrib_of_nonneg (a := 1) (b := 1) (c := y) zero_le_one zero_le_one
      rw [mul_one] at this
      rw [← this]
      norm_cast
    have e3 : x k * (S * ((((-(1 / 2) : ℝ) : EReal)) * ((q : EReal) * ((q * q : ℝ) : EReal))) * ((1 / 2048 : ℝ) : EReal))
        = x k * S * ((-(1 / 2) * (q * (q * q)) * (1 / 2048) : ℝ) : EReal) := by
      push_cast
      ac_rfl
    rw [mul_comm _ (x k), e3, e2, mul_neg, mul_assoc (x k * S), ← EReal.coe_mul]
    have e4 : (q : EReal) * (x k * (q : EReal) * (S * (q : EReal) * ((1 / 2048 : ℝ) : EReal)))
        = x k * S * ((q * q * q * (1 / 2048) : ℝ) : EReal) := by
      push_cast
      ac_rfl
    rw [e4, ← mul_neg, ← EReal.coe_neg]
    congr 2
    ring

theorem hz : (![0, 0] : Fin 2 → Nat) = fun _ => 0 := funext fun a => by fin_cases a <;> rfl

section Body
variable {F : FTy → Type} [FloatOps F]
variable (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S256x2048 .bf16) (harg3 : arg3.IsWhole) (arg4 : Memref sig .tc .vmem S256x2048 .f32) (harg4 : arg4.IsWhole) (arg5 : Memref sig .tc .vmem S256x2048 .f32) (harg5 : arg5.IsWhole) (arg6 : Memref sig .tc .vmem S8x2048 .f32) (harg6 : arg6.IsWhole)
  (x0 : Vec F S256x2048 .f32) (x1 : Vec F S1x2048 .f32) (x2 : Vec F S256x2048 .bf16) (x3 : Vec F S256x2048 .f32)

theorem first_point (hc0 : cond0_0 i) :
    out0_A_4 c i arg1 harg1 arg2 harg2 arg3 harg3 arg4 harg4 arg5 harg5 arg6 harg6 hc0 x0 x1 x2 x3 = k0_pay5 x0 x2 x1 x3 := by
  unfold out0_A_4
  rw [View.read_writes_eq_canon _ _ _ (cover0_A_4 c i arg1 harg1 arg2 harg2 arg3 harg3 arg4 harg4 arg5 harg5 arg6 harg6 hc0 x0 x1 x2 x3)]
  unfold kernelRun0_A
  dsimp only
  rw [View.canon_unit_zero hz]
  simp only [View.readAt_eq_ld, View.ld_unit_zero (S := S256x2048) hz, View.ld_unit_zero (S := S1x2048) hz, harg1.read_unread, harg2.read_unread, harg3.read_unread, harg4.read_unread]

theorem later_point (hc0 : ¬cond0_0 i) (xo5 : Vec F S8x2048 .f32) :
    out0_B_4 c i arg1 harg1 arg2 harg2 arg3 harg3 arg4 harg4 arg5 harg5 arg6 harg6 hc0 x0 x1 x2 x3 xo5 = k0_pay5 x0 x2 x1 x3 := by
  unfold out0_B_4
  rw [View.read_writes_eq_canon _ _ _ (cover0_B_4 c i arg1 harg1 arg2 harg2 arg3 harg3 arg4 harg4 arg5 harg5 arg6 harg6 hc0 x0 x1 x2 x3 xo5)]
  unfold kernelRun0_B
  dsimp only
  rw [View.canon_unit_zero hz]
  simp only [View.readAt_eq_ld, View.ld_unit_zero (S := S256x2048) hz, View.ld_unit_zero (S := S1x2048) hz, harg1.read_unread, harg2.read_unread, harg3.read_unread, harg4.read_unread]

end Body

variable (m : (ℓ : Loc nD τ sig) → Buf (Elt Ideal) ℓ) (ρ : Dev nD → PrngReg)

/-- The row of the whole array that row `i` of block `t` is. -/
def row (t : Fin cfg0.N) (i : Fin 256) : Fin 8192 :=
  ⟨256 * t.val + i.val, by have h1 : t.val < 32 := t.isLt; have h2 := i.isLt; omega⟩

theorem starts : ∀ t : Fin cfg0.N, win0_4.index t 0 = t.val ∧ win0_4.index t 1 = 0 :=
  (by decide +kernel : ∀ t : Fin grid0.N, win0_4.index t 0 = t.val ∧ win0_4.index t 1 = 0)

theorem emb_row (t : Fin cfg0.N) (i : Fin 256) (k : Fin 2048) :
    ((cfg0.win 4).blk t).view.emb (ix2 i k) = ix2 (row t i) k := by
  have h := starts t
  funext a
  apply Fin.ext
  match a with
  | ⟨0, _⟩ =>
    show win0_4.index t 0 * 256 + 1 * i.val = 256 * t.val + i.val
    rw [h.1]; omega
  | ⟨1, _⟩ =>
    show win0_4.index t 1 * 2048 + 1 * k.val = k.val
    rw [h.2]; omega

/-- Each block of rows is cut from its array as the block that is written back is; the weight is its whole array. -/
theorem block0 (c : Dev nD) (t : Fin cfg0.N) (i : Fin 256) (k : Fin 2048) :
    iblk m c 0 t (ix2 i k) = V m c main_arg0 (ix2 (row t i) k) := by
  rw [← emb_row]; rfl
theorem block1 (c : Dev nD) (t : Fin cfg0.N) (k : Fin 2048) :
    iblk m c 1 t (ix2 0 k) = V m c main_arg1 (ix2 0 k) := by
  show V m c main_arg1 (((cfg0.win 1).blk t).view.emb (ix2 0 k)) = _
  congr 1
  funext a
  apply Fin.ext
  match a with
  | ⟨0, _⟩ => rfl
  | ⟨1, _⟩ =>
    show 0 * 2048 + 1 * k.val = k.val
    omega
theorem block2 (c : Dev nD) (t : Fin cfg0.N) (i : Fin 256) (k : Fin 2048) :
    iblk m c 2 t (ix2 i k) = V m c main_arg2 (ix2 (row t i) k) := by
  rw [← emb_row]; rfl
theorem block3 (c : Dev nD) (t : Fin cfg0.N) (i : Fin 256) (k : Fin 2048) :
    iblk m c 3 t (ix2 i k) = V m c main_arg3 (ix2 (row t i) k) := by
  rw [← emb_row]; rfl

/-- The gradient of the whole array, row by row. -/
def gradient (x : Vec Ideal S8192x2048 .f32) (w : Vec Ideal S1x2048 .f32) (g : Vec Ideal S8192x2048 .bf16)
    (r : Vec Ideal S8192x2048 .f32) : Vec Ideal S8192x2048 .f32 := fun i =>
  slope (fun l => x (ix2 (i 0) l)) (fun l => w (ix2 0 l)) (fun l => g (ix2 (i 0) l)) (fun l => r (ix2 (i 0) l)) (i 1)

/-- What a point writes back is its rows of the gradient. -/
theorem flushed4 (c : Dev nD) (t : Fin cfg0.N) :
    (dats m 0 c).flushed 4 t = ((cfg0.win 4).blk t).view.read (Elt Ideal)
      (gradient (V m c main_arg0) (V m c main_arg1) (V m c main_arg2) (V m c main_arg3)) := by
  have e : (dats m 0 c).flushed 4 t
      = (cfg0.win 4).cut (grid0.coords t) (k0_pay5 (iblk m c 0 t) (iblk m c 2 t) (iblk m c 1 t) (iblk m c 3 t)) := by
    by_cases h0 : t.val % 32 = 0
    · rw [Cert.NormIdeal.Value.flushed4_A m c t h0, first_point]
    · rw [Cert.NormIdeal.Value.flushed4_B m c t h0, later_point]
  rw [e]
  funext j
  show k0_pay5 (iblk m c 0 t) (iblk m c 2 t) (iblk m c 1 t) (iblk m c 3 t) j
    = gradient (V m c main_arg0) (V m c main_arg1) (V m c main_arg2) (V m c main_arg3) (((cfg0.win 4).blk t).view.emb j)
  obtain ⟨i, k, rfl⟩ : ∃ (i : Fin 256) (k : Fin 2048), j = ix2 i k := ⟨j 0, j 1, eq_ix2 j⟩
  rw [emb_row, pay5_apply]
  simp only [block0, block1, block2, block3]
  rfl

/-- The blocks written back are all the rows. -/
theorem covered4 (i : S8192x2048.Idx) : ∃ t : Fin cfg0.N, (cfg0.win 4).flush t = true ∧ i ∈ ((cfg0.win 4).blk t).view.set := by
  obtain ⟨a, b, rfl⟩ : ∃ (a : Fin 8192) (b : Fin 2048), i = ix2 a b := ⟨i 0, i 1, eq_ix2 i⟩
  have h : a.val < 8192 := a.isLt
  obtain ⟨t, ht⟩ : ∃ t : Fin cfg0.N, t.val = a.val / 256 := ⟨⟨a.val / 256, by show a.val / 256 < 32; omega⟩, rfl⟩
  refine ⟨t, flush0_4 _, ?_⟩
  have e : row t ⟨a.val % 256, Nat.mod_lt _ (by decide)⟩ = a := by
    apply Fin.ext
    show 256 * t.val + a.val % 256 = a.val
    omega
  rw [← e, ← emb_row]
  exact View.emb_mem_set _ _

theorem final4 (c : Dev nD) : (dats m 0 c).arrAt 4 cfg0.N
    = gradient (V m c main_arg0) (V m c main_arg1) (V m c main_arg2) (V m c main_arg3) :=
  (dats m 0 c).arrAt_eq_of_cover 4 _ (fun t _ => flushed4 m c t) covered4

/-! ## The claims -/

/-- The call ends, its arguments unchanged and its counters at zero. -/
theorem frame_kernel : Cert.quiescent_Norm := fun m ρ _ => Cert.Norm.Gen.frame m ρ

theorem frame_ideal : Cert.quiescent_NormIdeal := fun m ρ _ => Cert.NormIdeal.Gen.frame m ρ

/-- The reference ends with its arguments unchanged; it has no counter. -/
theorem frame_ref_ideal : Cert.quiescent_NormRefIdeal := fun m ρ _ =>
  (θ_run Cert.NormRefIdeal.defs _ _).mono
    (fun r h => ⟨fun c => (h c).2, sem_eq_zero_of_no_sems (by decide) r.2⟩)
    (Cert.NormRefIdeal.Value.run (F := Ideal) m ρ)

theorem frame_ref : Cert.quiescent_NormRef := fun m ρ _ =>
  (θ_run Cert.NormRefIdeal.defs _ _).mono
    (fun r h => ⟨fun c => (h c).2, sem_eq_zero_of_no_sems (by decide) r.2⟩)
    (Cert.NormRefIdeal.Value.run (F := Bits) m ρ)

/-- Over the reals the call's result is the gradient of the plain formula. -/
theorem algebraic : Cert.algebraic_NormIdeal_NormRefIdeal := by
  intro m ρ m' ρ' _ same
  refine ⟨_, (θ_run Cert.NormIdeal.defs _ _).mono (fun r h c => ⟨(h c).1, (h c).2.2⟩) (Cert.NormIdeal.Value.run_blocks (F := Ideal) m ρ), ?_⟩
  refine (θ_run Cert.NormRefIdeal.defs _ _).mono (fun _ h c => ?_) (Cert.NormRefIdeal.Value.run (F := Ideal) m' ρ')
  obtain ⟨hx, hw, hg, hr⟩ := same c
  obtain ⟨h1, kept⟩ := h c
  rw [hx, hw, hg, hr] at h1
  refine ⟨h1.trans ?_, kept⟩
  rw [final4, V_main_arg0, V_main_arg1, V_main_arg2, V_main_arg3]
  generalize m ((c.tc : Thread nD τ).loc main_arg0) = x
  generalize m ((c.tc : Thread nD τ).loc main_arg1) = w
  generalize m ((c.tc : Thread nD τ).loc main_arg2) = g
  generalize m ((c.tc : Thread nD τ).loc main_arg3) = r
  funext i
  obtain ⟨a, k, rfl⟩ : ∃ (a : Fin 8192) (k : Fin 2048), i = ix2 a k := ⟨i 0, i 1, eq_ix2 i⟩
  refine Eq.trans ?_ (derivative_eq (fun l => x (ix2 a l)) (fun l => w (ix2 0 l)) (fun l => g (ix2 a l)) (fun l => r (ix2 a l)) k)
  pointwise! [derivative, pull, scale, mean]
  simp only [Finset.univ_unique, Finset.sum_singleton]

end Cert.Proof.Norm

end
-- ==== Proof.LossValue.lean ====
/- One device's part of the loss: the sum of the squared differences that the call gathers block of rows by block of rows, halved and
   divided by the width, is half the sum over the rows of the mean squared difference. -/
module

public import proofs.«01_k».proof.Defs
public import proofs.«01_k».proof.Proof.NormValue
public import proofs.«01_k».proof.Proof.Gen.LossIdeal.Frame
public import proofs.«01_k».proof.Proof.Gen.LossRefIdeal.Run
public import proofs.«01_k».proof.Proof.Gen.Loss.Frame
public import proofs.«01_k».proof.Proof.Gen.LossRef
public import Idealize.ShloMosaic.Lib.Quiescent
public import Idealize.ShloMosaic.Lib.Pipeline.Value
public import Idealize.ShloMosaic.Lib.StableHlo.Run
public import Idealize.ShloMosaic.Lib.Pointwise.Tactic
public import Idealize.ShloMosaic.Lib.Pointwise.Reduce
public import Idealize.ShloMosaic.Lib.Pointwise.Reshape

@[expose] public section

noncomputable section

open Idealize.ShloMosaic Idealize.ShloMosaic.TcCoe Idealize.SL.Sem

namespace Cert.Proof.Loss

open Cert.LossIdeal Cert.LossIdeal.Gen

/-- The squared differences of a row, added up. -/
def square {n : Nat} (y t : Vec Ideal ⟨2, ![n, 2048]⟩ .f32) (i : Fin n) : EReal :=
  ∑ l : Fin 2048, (y (ix2 i l) - t (ix2 i l)) * (y (ix2 i l) - t (ix2 i l))

/-- What the body adds to the gathered sum: the squares of its block of rows. -/
theorem pay5_apply (y t : Vec Ideal S256x2048 .f32) (s : Vec Ideal S8x128 .f32) (a : Fin 8) (b : Fin 128) :
    k0_pay5 y t s (ix2 a b) = s (ix2 a b) + ∑ i : Fin 256, square y t i := by
  unfold_payloads
  pointwise! [square]

theorem pay4_apply (a : Fin 8) (b : Fin 128) : k0_pay4 (F := Ideal) (ix2 a b) = 0 := by
  unfold_payloads
  pointwise!

theorem hz : (![0, 0] : Fin 2 → Nat) = fun _ => 0 := funext fun a => by fin_cases a <;> rfl

section Body
variable {F : FTy → Type} [FloatOps F]
variable (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S256x2048 .f32) (harg3 : arg3.IsWhole) (arg4 : Memref sig .tc .vmem S256x2048 .bf16) (harg4 : arg4.IsWhole) (arg5 : Memref sig .tc .vmem S8x128 .f32) (harg5 : arg5.IsWhole)
  (x0 x1 : Vec F S256x2048 .f32)

theorem first_point (hc0 : cond0_0 i) :
    out0_A_4 c i arg1 harg1 arg2 harg2 arg3 harg3 arg4 harg4 arg5 harg5 hc0 x0 x1 = k0_pay5 x0 x1 k0_pay4 := by
  unfold out0_A_4
  rw [View.read_writes_eq_canon _ _ _ (cover0_A_4 c i arg1 harg1 arg2 harg2 arg3 harg3 arg4 harg4 arg5 harg5 hc0 x0 x1)]
  unfold kernelRun0_A
  dsimp only
  rw [View.canon_cons_unit_zero hz]
  unfold kernelRun0_A.sl.v11
  unfold kernelRun0_A.sl.H4_1
  rw [View.readCov_unit_zero _ hz]
  simp only [View.readAt_eq_ld, View.ld_unit_zero (S := S256x2048) hz, View.ld_unit_zero (S := S8x128) hz, harg1.read_unread, harg2.read_unread]

theorem later_point (hc0 : ¬cond0_0 i) (xo4 : Vec F S8x128 .f32) :
    out0_B_4 c i arg1 harg1 arg2 harg2 arg3 harg3 arg4 harg4 arg5 harg5 hc0 x0 x1 xo4 = k0_pay5 x0 x1 xo4 := by
  unfold out0_B_4
  rw [View.read_writes_eq_canon _ _ _ (cover0_B_4 c i arg1 harg1 arg2 harg2 arg3 harg3 arg4 harg4 arg5 harg5 hc0 x0 x1 xo4)]
  unfold kernelRun0_B
  dsimp only
  rw [View.canon_unit_zero hz]
  simp only [View.readAt_eq_ld, View.ld_unit_zero (S := S256x2048) hz, View.ld_unit_zero (S := S8x128) hz, harg1.read_unread, harg2.read_unread, harg5.read_unread]

end Body

variable (m : (ℓ : Loc nD τ sig) → Buf (Elt Ideal) ℓ) (ρ : Dev nD → PrngReg)

/-- The row of the whole array that row `i` of block `t` is. -/
def row (t : Fin cfg0.N) (i : Fin 256) : Fin 8192 :=
  ⟨256 * t.val + i.val, by have h1 : t.val < 32 := t.isLt; have h2 := i.isLt; omega⟩

theorem starts : ∀ t : Fin cfg0.N, win0_2.index t 0 = t.val ∧ win0_2.index t 1 = 0 :=
  (by decide +kernel : ∀ t : Fin grid0.N, win0_2.index t 0 = t.val ∧ win0_2.index t 1 = 0)

theorem emb_row (t : Fin cfg0.N) (i : Fin 256) (k : Fin 2048) :
    ((cfg0.win 2).blk t).view.emb (ix2 i k) = ix2 (row t i) k := by
  have h := starts t
  funext a
  apply Fin.ext
  match a with
  | ⟨0, _⟩ =>
    show win0_2.index t 0 * 256 + 1 * i.val = 256 * t.val + i.val
    rw [h.1]; omega
  | ⟨1, _⟩ =>
    show win0_2.index t 1 * 2048 + 1 * k.val = k.val
    rw [h.2]; omega

theorem block0 (c : Dev nD) (t : Fin cfg0.N) (i : Fin 256) (k : Fin 2048) :
    iblk m c 0 t (ix2 i k) = V m c main_arg0 (ix2 (row t i) k) := by
  rw [← emb_row]; rfl
theorem block1 (c : Dev nD) (t : Fin cfg0.N) (i : Fin 256) (k : Fin 2048) :
    iblk m c 1 t (ix2 i k) = V m c main_arg1 (ix2 (row t i) k) := by
  rw [← emb_row]; rfl

/-- A row's squares by the row's number. -/
def term (y t : Vec Ideal S8192x2048 .f32) (j : Nat) : EReal := if h : j < 8192 then square y t ⟨j, h⟩ else 0

theorem square_block (c : Dev nD) (t : Fin cfg0.N) (i : Fin 256) :
    square (n := 256) (iblk m c 0 t) (iblk m c 1 t) i = term (V m c main_arg0) (V m c main_arg1) (256 * t.val + i.val) := by
  have h : 256 * t.val + i.val < 8192 := (row t i).isLt
  unfold term
  rw [dif_pos h]
  unfold square
  simp only [block0, block1]
  rfl

/-- After a point the gathered sum is the squares of all rows up to its block's end. -/
theorem gathered (c : Dev nD) : ∀ (n : Nat) (hn : n < cfg0.N) (a : Fin 8) (b : Fin 128),
    (outsAt0 m c n hn).2.2 (ix2 a b) = ∑ j ∈ Finset.range (256 * (n + 1)), term (V m c main_arg0) (V m c main_arg1) j
  | 0, hn, a, b => by
    rw [show outsAt0 m c 0 hn = _ from outsAt0_A m c ⟨0, hn⟩ rfl]
    dsimp only
    rw [first_point, pay5_apply, pay4_apply, zero_add, Finset.sum_range]
    refine Finset.sum_congr rfl fun i _ => ?_
    rw [square_block]
    show term _ _ (256 * 0 + i.val) = _
    rw [Nat.mul_zero, Nat.zero_add]
  | n + 1, hn, a, b => by
    have h32 : n + 1 < 32 := hn
    rw [show outsAt0 m c (n + 1) hn = _ from outsAt0_B m c ⟨n + 1, hn⟩ (by show ¬(n + 1) % 32 = 0; omega)]
    dsimp only
    rw [later_point, pay5_apply]
    show (outsAt0 m c n _).2.2 (ix2 a b) + _ = _
    rw [gathered c n (Nat.lt_of_succ_lt hn) a b,
      show 256 * (n + 1 + 1) = 256 * (n + 1) + 256 from rfl, Finset.sum_range_add, Finset.sum_range (n := 256)]
    simp only [square_block]

theorem total (y t : Vec Ideal S8192x2048 .f32) :
    ∑ j ∈ Finset.range 8192, term y t j = ∑ i : Fin 8192, square y t i := by
  rw [Finset.sum_range]
  refine Finset.sum_congr rfl fun i _ => ?_
  unfold term
  rw [dif_pos i.isLt]

/-- The sum over all rows, in every entry. -/
def everywhere (y t : Vec Ideal S8192x2048 .f32) : Vec Ideal S8x128 .f32 := fun _ => ∑ i : Fin 8192, square y t i

theorem starts4 : ∀ t : Fin cfg0.N, win0_4.index t 0 = 0 ∧ win0_4.index t 1 = 0 :=
  (by decide +kernel : ∀ t : Fin grid0.N, win0_4.index t 0 = 0 ∧ win0_4.index t 1 = 0)

theorem emb_whole (t : Fin cfg0.N) (a : Fin 8) (b : Fin 128) : ((cfg0.win 4).blk t).view.emb (ix2 a b) = ix2 a b := by
  have h := starts4 t
  funext x
  apply Fin.ext
  match x with
  | ⟨0, _⟩ =>
    show win0_4.index t 0 * 8 + 1 * a.val = a.val
    rw [h.1]; omega
  | ⟨1, _⟩ =>
    show win0_4.index t 1 * 128 + 1 * b.val = b.val
    rw [h.2]; omega

/-- What is written back at the end: the sum over all rows, in every entry. -/
theorem flushed4 (c : Dev nD) (t : Fin cfg0.N) (ht : (cfg0.win 4).flush t = true) :
    (dats m 0 c).flushed 4 t = ((cfg0.win 4).blk t).view.read (Elt Ideal)
      (everywhere (V m c main_arg0) (V m c main_arg1)) := by
  have h := (flush0_4 t).mp ht
  have h32 : t.val < 32 := t.isLt
  have h31 : t.val = 31 := by omega
  have hs : (outsAt0 m c t.val t.isLt).2.2 = everywhere (V m c main_arg0) (V m c main_arg1) := by
    have e : 256 * (t.val + 1) = 8192 := by omega
    funext j
    obtain ⟨a, b, rfl⟩ : ∃ (a : Fin 8) (b : Fin 128), j = ix2 a b := ⟨j 0, j 1, eq_ix2 j⟩
    refine (gathered m c t.val t.isLt a b).trans ?_
    rw [e]
    exact total _ _
  show (cfg0.win 4).cut (grid0.coords t) ((dats m 0 c).after 4 t) = _
  rw [after0_4, hs]
  generalize everywhere (V m c main_arg0) (V m c main_arg1) = s
  funext j
  obtain ⟨a, b, rfl⟩ : ∃ (a : Fin 8) (b : Fin 128), j = ix2 a b := ⟨j 0, j 1, eq_ix2 j⟩
  show s (ix2 a b) = s (((cfg0.win 4).blk t).view.emb (ix2 a b))
  rw [emb_whole]

theorem covered4 (i : S8x128.Idx) : ∃ t : Fin cfg0.N, (cfg0.win 4).flush t = true ∧ i ∈ ((cfg0.win 4).blk t).view.set := by
  obtain ⟨a, b, rfl⟩ : ∃ (a : Fin 8) (b : Fin 128), i = ix2 a b := ⟨i 0, i 1, eq_ix2 i⟩
  obtain ⟨t, ht⟩ : ∃ t : Fin cfg0.N, t.val = 31 := ⟨⟨31, by show 31 < 32; omega⟩, rfl⟩
  refine ⟨t, (flush0_4 t).mpr (by rw [ht]), ?_⟩
  rw [← emb_whole t]
  exact View.emb_mem_set _ _

theorem final4 (c : Dev nD) : (dats m 0 c).arrAt 4 cfg0.N
    = everywhere (V m c main_arg0) (V m c main_arg1) :=
  (dats m 0 c).arrAt_eq_of_cover 4 _ (fun t ht => flushed4 m c t ht) covered4

theorem arrays_distinct : Function.Injective (Pipeline.arrRef spec0) := by decide +kernel

theorem found4 (c : Dev nD) :
    Pipeline.withArrays spec0 c (V0 m c) (fun w => (dats m 0 c).arrAt w cfg0.N) (Proc.devRef .tc main_v0_2)
      = (dats m 0 c).arrAt 4 cfg0.N :=
  Pipeline.withArrays_arr spec0 arrays_distinct c (V0 m c) (fun w => (dats m 0 c).arrAt w cfg0.N) 4

/-- What the call's last lines make of the sum. -/
def ending (s : FVec Ideal S8x128 .f32) : FVec Ideal S_ .f32 :=
  Host.divf (mulf (constant S_ .f32 0x3F000000#32) (shapeCast S_ (extractStridedSlice S1x1 ![0, 0] s slices_S8x128_S1x1_0_0) shapeCasts_S1x1_S_))
    (constant S_ .f32 0x45000000#32)

theorem tail_v4 (c : Dev nD) :
    Pipeline.afterTail₀ cfgs (dats m) 0 (V0 m) [hostOps1] c main_v4
      = ending (everywhere (V m c main_arg0) (V m c main_arg1)) := by
  have read : Pipeline.afterTail₀ cfgs (dats m) 0 (V0 m) [hostOps1] c main_v4
      = ending (Pipeline.withArrays spec0 c (V0 m c) (fun w => (dats m 0 c).arrAt w cfg0.N) (Proc.devRef .tc main_v0_2)) := by
    unfold Pipeline.afterTail₀
    simp (disch := decide) only [List.flatten_cons, List.flatten_nil, List.append_nil, hostOps1, StableHlo.after_cons,
      StableHlo.after_nil, StableHlo.unary_result', StableHlo.reshape_result', StableHlo.nullary_result', StableHlo.binary_result',
      StableHlo.unary_result_ne', StableHlo.reshape_result_ne', StableHlo.nullary_result_ne', StableHlo.binary_result_ne']
    rfl
  rw [read, found4, final4]

/-! ## The claims -/

/-- The call ends with the loss of the device's rows, its arguments unchanged. -/
theorem run : θ_run Cert.LossIdeal.defs (onTc (τ := τ) (Cert.LossIdeal.main (F := Ideal))) ⟨m, fun _ => 0, ρ⟩
    (fun r => ∀ c : Dev nD,
      r.2.mem ((c.tc : Thread nD τ).loc main_v4) = ending (everywhere (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run Cert.LossIdeal.defs _ _).mono
    (fun _ h c =>
      ⟨((h c).2 main_v4 (Pipeline.mem_restRefs_of main_v4 (by decide) (by decide))).trans (tail_v4 m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

/-- The call ends, its arguments unchanged and its counters at zero. -/
theorem frame_kernel : Cert.quiescent_Loss := fun m ρ _ => Cert.Loss.Gen.frame m ρ

theorem frame_ideal : Cert.quiescent_LossIdeal := fun m ρ _ => Cert.LossIdeal.Gen.frame m ρ

/-- The reference ends with its arguments unchanged; it has no counter. -/
theorem frame_ref_ideal : Cert.quiescent_LossRefIdeal := fun m ρ _ =>
  (θ_run Cert.LossRefIdeal.defs _ _).mono
    (fun r h => ⟨fun c => (h c).2, sem_eq_zero_of_no_sems (by decide) r.2⟩)
    (Cert.LossRefIdeal.Value.run (F := Ideal) m ρ)

theorem frame_ref : Cert.quiescent_LossRef := fun m ρ _ =>
  (θ_run Cert.LossRefIdeal.defs _ _).mono
    (fun r h => ⟨fun c => (h c).2, sem_eq_zero_of_no_sems (by decide) r.2⟩)
    (Cert.LossRefIdeal.Value.run (F := Bits) m ρ)

/-- Dividing the sum is dividing each row's part. -/
theorem share_out (T : Fin 8192 → EReal) (h : EReal) :
    Ideal.div (h * ∑ i, T i) (Ideal.ofBits .f32 0x45000000#32) = h * ∑ i, Ideal.div (T i) (Ideal.ofBits .f32 0x45000000#32) := by
  rw [Norm.ofBits_2048]
  simp only [Ideal.div_coe (show (2048 : ℝ) ≠ 0 by norm_num)]
  rw [Norm.sum_mul_real (by norm_num), mul_assoc]

/-- Over the reals the call's loss is half the sum over the rows of the mean squared difference. -/
theorem algebraic : Cert.algebraic_LossIdeal_LossRefIdeal := by
  intro m ρ m' ρ' _ same
  refine ⟨_, run m ρ, ?_⟩
  refine (θ_run Cert.LossRefIdeal.defs _ _).mono (fun _ h c => ?_) (Cert.LossRefIdeal.Value.run (F := Ideal) m' ρ')
  obtain ⟨hy, ht⟩ := same c
  obtain ⟨h1, kept⟩ := h c
  rw [hy, ht] at h1
  refine ⟨h1.trans ?_, kept⟩
  generalize m ((c.tc : Thread nD τ).loc main_arg0) = y
  generalize m ((c.tc : Thread nD τ).loc main_arg1) = t
  funext i
  refine Eq.trans (b := Ideal.ofBits .f32 0x3F000000#32 * ∑ a : Fin 8192, Ideal.div (square (n := 8192) y t a) (Ideal.ofBits .f32 0x45000000#32)) ?_ ?_
  · pointwise! [square]
  · rw [← share_out]
    unfold ending everywhere
    pointwise!

end Cert.Proof.Loss

end
-- ==== Proof.TotalLossBody.lean ====
/- The first call of the whole loss: at each of its 32 blocks of rows the body leaves the block's gradient twice and adds the block's
   squares to a running sum, which starts at the first block and is written back after the last. -/
module

public import proofs.«01_k».proof.Proof.Gen.TotalLossIdeal.Launch
public import proofs.«01_k».proof.Proof.Gen.TotalLossIdeal.Skeleton
public import proofs.«01_k».proof.Proof.Gen.TotalLossIdeal.Points
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.TotalLossRun

open Cert.TotalLossIdeal Cert.TotalLossIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The region's component beside that of the sum over the devices. -/
abbrev UU : Type := UR sig nD τ × Sites.UC

local notation "𝕄" => MT nD τ sig ℕ (Elt F) ℕ UU ℕ

/-! ## The body -/

/-- The body is at the first block. -/
abbrev atStart (i : grid0.Coords) : Prop := (Scalar.cmpi .ne (Scalar.extui (Scalar.cmpi .eq (BitVec.ofNat 32 (i 0).val) 0#32)) 0#32) = 1#1

theorem atStart_iff (t : Fin cfg0.N) : atStart (grid0.coords t) ↔ t.val % 32 = 0 := by
  have ht : t.val < 32 := lt_of_lt_of_eq t.isLt (show cfg0.N = 32 from N_0)
  have e0 : (grid0.coords t 0).val = t.val / 1 % 32 := Pipeline.Grid.coords_val t 0 (by decide) rfl
  simp only [atStart, e0]
  word_cmp

theorem hz : (![0, 0] : Fin 2 → Nat) = fun _ => 0 := funext fun a => by fin_cases a <;> rfl

section Body
variable (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S256x2048 .f32) (harg3 : arg3.IsWhole) (arg4 : Memref sig .tc .vmem S256x2048 .bf16) (harg4 : arg4.IsWhole) (arg5 : Memref sig .tc .vmem S8x128 .f32) (harg5 : arg5.IsWhole)
  (x0 x1 : Vec F S256x2048 .f32)

set_option maxHeartbeats 1000000 in
/-- What the body writes at the first block, with the proof that it runs to there. -/
noncomputable def runFirst (hc0 : atStart i) :
    Σ' (L2 : List (View.Piece (Elt F) S256x2048 .f32)), Σ' (L3 : List (View.Piece (Elt F) S256x2048 .bf16)), { L4 : List (View.Piece (Elt F) S8x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4)) -∗ K ⟨⟩))
          ⊢ wp frame (wpE (defs₀ (F := F)) Variants.none c none) E (cc0_loss_grad i arg1 harg1 arg2 harg2 arg3 harg3 arg4 harg4 arg5 harg5) K } := by
  refine ⟨?_, ?_, ?_, fun E K => ?run⟩
  case run =>
    simp only [cc0_loss_grad_eq_skeleton]; unfold cc0_loss_grad_skel
    unfold owns
    iintro ⟨⟨%f0, %hf0, H0⟩, ⟨%f1, %hf1, H1⟩, ⟨%d2, %f2, -, H2⟩, ⟨%d3, %f3, -, H3⟩, ⟨%d4, %f4, -, H4⟩, Hk⟩
    obtain rfl := harg1.eq_unread hf0; obtain rfl := harg2.eq_unread hf1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    iexists _; iexact H4

set_option maxHeartbeats 1000000 in
/-- The same at a later block, where the running sum is at `s`. -/
noncomputable def runLater (hc0 : ¬atStart i) (s : Vec F S8x128 .f32) :
    Σ' (L2 : List (View.Piece (Elt F) S256x2048 .f32)), Σ' (L3 : List (View.Piece (Elt F) S256x2048 .bf16)), { L4 : List (View.Piece (Elt F) S8x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare s
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4)) -∗ K ⟨⟩))
          ⊢ wp frame (wpE (defs₀ (F := F)) Variants.none c none) E (cc0_loss_grad i arg1 harg1 arg2 harg2 arg3 harg3 arg4 harg4 arg5 harg5) K } := by
  refine ⟨?_, ?_, ?_, fun E K => ?run⟩
  case run =>
    simp only [cc0_loss_grad_eq_skeleton]; unfold cc0_loss_grad_skel
    unfold owns
    iintro ⟨⟨%f0, %hf0, H0⟩, ⟨%f1, %hf1, H1⟩, ⟨%d2, %f2, -, H2⟩, ⟨%d3, %f3, -, H3⟩, ⟨%f4, %hf4, H4⟩, Hk⟩
    obtain rfl := harg1.eq_unread hf0; obtain rfl := harg2.eq_unread hf1; obtain rfl := harg5.eq_unread hf4
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    iexists _; iexact H4

theorem first2 (hc0 : atStart i) (f) :
    arg3.view.read (Elt F) (arg3.view.writes (Elt F) f (runFirst c i arg1 harg1 arg2 harg2 arg3 harg3 arg4 harg4 arg5 harg5 x0 x1 hc0).1) = k0_pay2 x0 x1 := by
  rw [View.read_writes_eq_canon _ _ _ (View.cover_of_tiledL _ S256x2048.size (by sl_kernel_rfl))]
  unfold runFirst
  dsimp only
  rw [View.canon_unit_zero hz]
  simp only [View.readAt_eq_ld, View.ld_unit_zero (S := S256x2048) hz, harg1.read_unread, harg2.read_unread]

theorem first3 (hc0 : atStart i) (f) :
    arg4.view.read (Elt F) (arg4.view.writes (Elt F) f (runFirst c i arg1 harg1 arg2 harg2 arg3 harg3 arg4 harg4 arg5 harg5 x0 x1 hc0).2.1) = k0_pay3 x0 x1 := by
  rw [View.read_writes_eq_canon _ _ _ (View.cover_of_tiledL _ S256x2048.size (by sl_kernel_rfl))]
  unfold runFirst
  dsimp only
  rw [View.canon_unit_zero hz]
  simp only [View.readAt_eq_ld, View.ld_unit_zero (S := S256x2048) hz, harg1.read_unread, harg2.read_unread]

theorem first4 (hc0 : atStart i) (f) :
    arg5.view.read (Elt F) (arg5.view.writes (Elt F) f (runFirst c i arg1 harg1 arg2 harg2 arg3 harg3 arg4 harg4 arg5 harg5 x0 x1 hc0).2.2.1) = k0_pay5 x0 x1 k0_pay4 := by
  rw [View.read_writes_eq_canon _ _ _ (View.cover_of_tiledL _ S8x128.size (by sl_kernel_rfl))]
  unfold runFirst
  dsimp only
  rw [View.canon_cons_unit_zero hz]
  unfold runFirst.sl.v13
  unfold runFirst.sl.H4_1
  rw [View.readCov_unit_zero _ hz]
  simp only [View.readAt_eq_ld, View.ld_unit_zero (S := S256x2048) hz, View.ld_unit_zero (S := S8x128) hz, harg1.read_unread, harg2.read_unread]

theorem later2 (hc0 : ¬atStart i) (s) (f) :
    arg3.view.read (Elt F) (arg3.view.writes (Elt F) f (runLater c i arg1 harg1 arg2 harg2 arg3 harg3 arg4 harg4 arg5 harg5 x0 x1 hc0 s).1) = k0_pay2 x0 x1 := by
  rw [View.read_writes_eq_canon _ _ _ (View.cover_of_tiledL _ S256x2048.size (by sl_kernel_rfl))]
  unfold runLater
  dsimp only
  rw [View.canon_unit_zero hz]
  simp only [View.readAt_eq_ld, View.ld_unit_zero (S := S256x2048) hz, harg1.read_unread, harg2.read_unread]

theorem later3 (hc0 : ¬atStart i) (s) (f) :
    arg4.view.read (Elt F) (arg4.view.writes (Elt F) f (runLater c i arg1 harg1 arg2 harg2 arg3 harg3 arg4 harg4 arg5 harg5 x0 x1 hc0 s).2.1) = k0_pay3 x0 x1 := by
  rw [View.read_writes_eq_canon _ _ _ (View.cover_of_tiledL _ S256x2048.size (by sl_kernel_rfl))]
  unfold runLater
  dsimp only
  rw [View.canon_unit_zero hz]
  simp only [View.readAt_eq_ld, View.ld_unit_zero (S := S256x2048) hz, harg1.read_unread, harg2.read_unread]

theorem later4 (hc0 : ¬atStart i) (s) (f) :
    arg5.view.read (Elt F) (arg5.view.writes (Elt F) f (runLater c i arg1 harg1 arg2 harg2 arg3 harg3 arg4 harg4 arg5 harg5 x0 x1 hc0 s).2.2.1) = k0_pay5 x0 x1 s := by
  rw [View.read_writes_eq_canon _ _ _ (View.cover_of_tiledL _ S8x128.size (by sl_kernel_rfl))]
  unfold runLater
  dsimp only
  rw [View.canon_unit_zero hz]
  simp only [View.readAt_eq_ld, View.ld_unit_zero (S := S256x2048) hz, View.ld_unit_zero (S := S8x128) hz, harg1.read_unread, harg2.read_unread, harg5.read_unread]

end Body

/-! ## The region's proof data -/

variable (W : Dev nD → Valuation τ sig (Elt F))

/-- Window `w`'s block at point `t`, of the array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (W c (Proc.devRef .tc (Pipeline.arrRef spec0 w)))

/-- The running sum after the block at position `n`. -/
def sums (c : Dev nD) : (n : ℕ) → n < cfg0.N → Vec F S8x128 .f32
  | 0, hn => k0_pay5 (iblk W c 0 ⟨0, hn⟩) (iblk W c 1 ⟨0, hn⟩) k0_pay4
  | n + 1, hn => k0_pay5 (iblk W c 0 ⟨n + 1, hn⟩) (iblk W c 1 ⟨n + 1, hn⟩) (sums c n (Nat.lt_of_succ_lt hn))

theorem sums_first (c : Dev nD) (t : Fin cfg0.N) (h0 : t.val % 32 = 0) :
    sums W c t.val t.isLt = k0_pay5 (iblk W c 0 t) (iblk W c 1 t) k0_pay4 := by
  have hN : t.val < 32 := lt_of_lt_of_eq t.isLt (show cfg0.N = 32 from N_0)
  obtain ⟨n, hn⟩ := t
  cases n with
  | zero => rfl
  | succ n => exfalso; dsimp only at h0 hN; omega

theorem sums_later (c : Dev nD) (t : Fin cfg0.N) (h0 : ¬t.val % 32 = 0) :
    sums W c t.val t.isLt = k0_pay5 (iblk W c 0 t) (iblk W c 1 t) (sums W c (t.val - 1) (Nat.lt_of_le_of_lt (Nat.sub_le _ _) t.isLt)) := by
  obtain ⟨n, hn⟩ := t
  cases n with
  | zero => exact absurd (Nat.zero_mod _) h0
  | succ n => rfl

/-- The arrays as the region finds them; after the body at `t` the inputs' blocks, the gradient twice and the running sum;
    the device owes the sum over the devices throughout. -/
def dat0 (c : Dev nD) : Dat τ (Elt F) ℕ ℕ UU ℕ cfg0 c where
  A w := W c (Proc.devRef .tc (Pipeline.arrRef spec0 w))
  after w t := match w with
    | ⟨0, _⟩ => iblk W c 0 t
    | ⟨1, _⟩ => iblk W c 1 t
    | ⟨2, _⟩ => k0_pay2 (iblk W c 0 t) (iblk W c 1 t)
    | ⟨3, _⟩ => k0_pay3 (iblk W c 0 t) (iblk W c 1 t)
    | ⟨4, _⟩ => sums W c t.val t.isLt
  Φ _ := iprop(Pipeline.scopedRest (Ix := ℕ) (Name := ℕ) (U := UU) (Lvl := ℕ) (Val := Elt F) spec0 c ∗ ∃ r, prngReg c r)
  q _ := fullShare
  owed _ := Sites.O0 (F := F) c

theorem A_eq (c : Dev nD) (w : Fin cfg0.W) : (dat0 W c).A w = W c (Proc.devRef .tc (Pipeline.arrRef spec0 w)) := by
  dsimp only [dat0]
theorem after0_0 (c : Dev nD) (t : Fin cfg0.N) : (dat0 W c).after 0 t = iblk W c 0 t := by dsimp only [dat0]
theorem after0_1 (c : Dev nD) (t : Fin cfg0.N) : (dat0 W c).after 1 t = iblk W c 1 t := by dsimp only [dat0]
theorem after0_2 (c : Dev nD) (t : Fin cfg0.N) : (dat0 W c).after 2 t = k0_pay2 (iblk W c 0 t) (iblk W c 1 t) := by dsimp only [dat0]
theorem after0_3 (c : Dev nD) (t : Fin cfg0.N) : (dat0 W c).after 3 t = k0_pay3 (iblk W c 0 t) (iblk W c 1 t) := by dsimp only [dat0]
theorem after0_4 (c : Dev nD) (t : Fin cfg0.N) : (dat0 W c).after 4 t = sums W c t.val t.isLt := by dsimp only [dat0]

theorem before0_0 (c : Dev nD) (t : Fin cfg0.N) (d) : (dat0 W c).before 0 t d = iblk W c 0 t :=
  ((dat0 W c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dat0 W c).before 1 t d = iblk W c 1 t :=
  ((dat0 W c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
/-- At a later block the running sum's buffer holds what the block before left. -/
theorem before0_4 (c : Dev nD) (t : Fin cfg0.N) (h0 : ¬t.val % 32 = 0) (d) :
    (dat0 W c).before 4 t d = sums W c (t.val - 1) (Nat.lt_of_le_of_lt (Nat.sub_le _ _) t.isLt) := by
  have hN : t.val < 32 := lt_of_lt_of_eq t.isLt (show cfg0.N = 32 from N_0)
  rw [Dat.before_out_kept _ 4 rfl t (by omega) (Bool.eq_false_iff.mpr fun h => by have := (flush0_4 _).mp h; dsimp only at this; omega)
    (fun _ => rfl) (fun _ _ => rfl)]
  dsimp only [dat0]

/-! ## The body's obligation -/

def bodyPre (c : Dev nD) (t : Fin cfg0.N) : sProp 𝕄 :=
  iprop((dat0 W c).Φ t.castSucc ∗ (dat0 W c).owesAt 0 t.castSucc
    ∗ (∃ d, owns (c : Thread nD τ) (st0_0 t) fullShare ((dat0 W c).before 0 t d))
    ∗ (∃ d, owns (c : Thread nD τ) (st0_1 t) fullShare ((dat0 W c).before 1 t d))
    ∗ (∃ d, owns (c : Thread nD τ) (st0_2 t) fullShare ((dat0 W c).before 2 t d))
    ∗ (∃ d, owns (c : Thread nD τ) (st0_3 t) fullShare ((dat0 W c).before 3 t d))
    ∗ (∃ d, owns (c : Thread nD τ) (st0_4 t) fullShare ((dat0 W c).before 4 t d)))

def bodyPost (c : Dev nD) (t : Fin cfg0.N) : sProp 𝕄 :=
  iprop((dat0 W c).Φ t.succ ∗ (dat0 W c).owesAt 0 t.succ
    ∗ owns (c : Thread nD τ) (st0_0 t) fullShare ((dat0 W c).after 0 t)
    ∗ owns (c : Thread nD τ) (st0_1 t) fullShare ((dat0 W c).after 1 t)
    ∗ owns (c : Thread nD τ) (st0_2 t) fullShare ((dat0 W c).after 2 t)
    ∗ owns (c : Thread nD τ) (st0_3 t) fullShare ((dat0 W c).after 3 t)
    ∗ owns (c : Thread nD τ) (st0_4 t) fullShare ((dat0 W c).after 4 t))

set_option maxHeartbeats 800000 in
theorem sound_body (c : Dev nD) (t : Fin cfg0.N) :
    bodyPre W c t ⊢ wp frame (wpE (defs₀ (F := F)) Variants.none c none) Set.univ (bodyAt0 t) (fun _ => bodyPost W c t) := by
  unfold bodyPre bodyPost bodyAt0
  simp only [before0_0, before0_1]
  rw [show (dat0 W c).Φ t.succ = (dat0 W c).Φ t.castSucc from rfl,
    show (dat0 W c).owesAt 0 t.succ = (dat0 W c).owesAt 0 t.castSucc from rfl,
    after0_0, after0_1, after0_2, after0_3, after0_4]
  by_cases h0 : t.val % 32 = 0
  · rw [sums_first W c t h0]
    iintro ⟨HΦ, Ho, ⟨%d0, H0⟩, ⟨%d1, H1⟩, ⟨%d2, H2⟩, ⟨%d3, H3⟩, ⟨%d4, H4⟩⟩
    iapply ((runFirst c (grid0.coords t) _ _ _ _ _ _ _ _ _ _ (iblk W c 0 t) (iblk W c 1 t) ((atStart_iff t).mpr h0)).2.2.2 Set.univ _)
    isplitl [H0]; · iexact H0
    isplitl [H1]; · iexact H1
    isplitl [H2]; · iexists _; iexact H2
    isplitl [H3]; · iexists _; iexact H3
    isplitl [H4]; · iexists _; iexact H4
    iintro ⟨H0, H1, ⟨%e2, H2⟩, ⟨%e3, H3⟩, ⟨%e4, H4⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact first2 c _ _ _ _ _ _ _ _ _ _ _ _ _ _ _
    isplitl [H3]
    · unfold owns; iexists _; isplitr
      swap; · iexact H3
      ipureintro; exact first3 c _ _ _ _ _ _ _ _ _ _ _ _ _ _ _
    unfold owns; iexists _; isplitr
    swap; · iexact H4
    ipureintro; exact first4 c _ _ _ _ _ _ _ _ _ _ _ _ _ _ _
  · rw [sums_later W c t h0]
    simp only [before0_4 W c t h0]
    iintro ⟨HΦ, Ho, ⟨%d0, H0⟩, ⟨%d1, H1⟩, ⟨%d2, H2⟩, ⟨%d3, H3⟩, ⟨%d4, H4⟩⟩
    iapply ((runLater c (grid0.coords t) _ _ _ _ _ _ _ _ _ _ (iblk W c 0 t) (iblk W c 1 t) (fun h => h0 ((atStart_iff t).mp h)) _).2.2.2 Set.univ _)
    isplitl [H0]; · iexact H0
    isplitl [H1]; · iexact H1
    isplitl [H2]; · iexists _; iexact H2
    isplitl [H3]; · iexists _; iexact H3
    isplitl [H4]; · iexact H4
    iintro ⟨H0, H1, ⟨%e2, H2⟩, ⟨%e3, H3⟩, ⟨%e4, H4⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact later2 c _ _ _ _ _ _ _ _ _ _ _ _ _ _ _ _
    isplitl [H3]
    · unfold owns; iexists _; isplitr
      swap; · iexact H3
      ipureintro; exact later3 c _ _ _ _ _ _ _ _ _ _ _ _ _ _ _ _
    unfold owns; iexists _; isplitr
    swap; · iexact H4
    ipureintro; exact later4 c _ _ _ _ _ _ _ _ _ _ _ _ _ _ _ _

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dat0 (F := F) W c) (defs₀ (F := F)) Variants.none 0 Set.univ := fun t => by
  rw [bigSep_W0, bigSep_W0, defs₀_row]
  exact triple_restated (sound_body W c t) rfl .rfl fun _ => .rfl

end Cert.TotalLossRun

end
-- ==== Proof.TotalLossRun.lean ====
/- The run of the whole loss on the eight devices: the operands reshaped, the first call, its running sum's first entry taken, halved
   and divided by the width, and that added up over the devices. Between two lines a device holds all its buffers at one valuation. -/
module

public import proofs.«01_k».proof.Proof.TotalLossBody
public import Idealize.ShloMosaic.Lib.StableHlo.CollectiveRules
public import Idealize.ShloMosaic.Lib.Pipeline.Regions
public import Idealize.ShloMosaic.Lib.Pipeline.RegionArraysS
public import Idealize.ShloMosaic.Lib.Pipeline.CollectiveSegs
public import Idealize.ShloMosaic.Lib.Pipeline.Kit

@[expose] public section

noncomputable section

namespace Cert.TotalLossRun

open Cert.TotalLossIdeal Cert.TotalLossIdeal.Gen
open Cert.TotalLossIdeal.Gen.Sites (L lv)
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

abbrev EP : Emb (UR sig nD τ) (MT nD τ sig ℕ (Elt F) ℕ UU ℕ) := embL
abbrev EC : Emb Sites.UC (MT nD τ sig ℕ (Elt F) ℕ UU ℕ) := embR

abbrev adm : (p : Fin 1) → (pcfgs (F := F) p).Adm := fun p => (cfgs p).toPCfg_adm
abbrev 𝒱₀ : Variants := Variants.none

variable (m : (ℓ : Loc nD τ sig) → Buf (Elt F) ℓ) (ρ : Dev nD → PrngReg)

/-! ## What the buffers hold between the lines -/

/-- At launch; -/
def V₀ (c : Dev nD) : Valuation τ sig (Elt F) := fun b => m ((c : Dev nD), b)
/-- with the operands reshaped; -/
def Va (c : Dev nD) : Valuation τ sig (Elt F) := StableHlo.after (hostOps0 (F := F)) (V₀ m c)
/-- after the call; -/
def Vb (c : Dev nD) : Valuation τ sig (Elt F) := Pipeline.afterRegion (dat0 (Va m) c) (Va m c)
/-- with the device's part of the loss; -/
def Vc (c : Dev nD) : Valuation τ sig (Elt F) := StableHlo.after (hostOps1 (F := F)) (Vb m c)
/-- at the end. -/
def Vd (c : Dev nD) : Valuation τ sig (Elt F) := (ar0 (F := F)).after₀ (Vc m) c

abbrev pdats : (p : Fin 1) → (c : Dev nD) → Pipeline.Dat τ (Elt F) ℕ ℕ UU ℕ (Pipeline.pin (pcfgs (F := F)) adm p) c
  | ⟨0, _⟩ => fun c => dat0 (Va m) c

local notation "ℍ" => Pipeline.HostSeg (Name := ℕ) (U := UU) (pcfgs (F := F)) defs₀ 𝒱₀ L lv
local notation "ℝ𝕊" => Pipeline.RegionSeg (pcfgs (F := F)) adm (pdats m) 0 defs₀ 𝒱₀ L lv

/-! ## The lines -/

/-- What the sum over the devices needs rides through the lines before it. -/
abbrev Rd (c : Dev nD) : sProp 𝕄 := Sites.Es EC (Vc m) 0 c
abbrev rides (c : Dev nD) : sProp 𝕄 := Sites.rides0 EC (Vc m) c
abbrev invs : sProp 𝕄 := iprop(∃ κ, (AllReduce.Dat.once (ar0 (F := F)) (Vc m)).cellInvs (Sites.E0 EC) κ)

theorem ops0_sub : ∀ op ∈ (hostOps0 : List (HloOp τ sig (Elt F))), op.bufs ⊆ Pipeline.ucRefs τ sig := fun op h =>
  Pipeline.sub_ucRefs op ((List.forall_iff_forall_mem.mp hostOps0_sub) op h)
theorem ops1_sub : ∀ op ∈ (hostOps1 : List (HloOp τ sig (Elt F))), op.bufs ⊆ Pipeline.ucRefs τ sig := fun op h =>
  Pipeline.sub_ucRefs op ((List.forall_iff_forall_mem.mp hostOps1_sub) op h)
theorem ops0_fresh : ∀ op ∈ (hostOps0 : List (HloOp τ sig (Elt F))), op.fresh = ∅ :=
  List.forall_iff_forall_mem.mp (by simp only [List.Forall]; repeat' constructor)
theorem ops1_fresh : ∀ op ∈ (hostOps1 : List (HloOp τ sig (Elt F))), op.fresh = ∅ :=
  List.forall_iff_forall_mem.mp (by simp only [List.Forall]; repeat' constructor)

def seg0 : ℍ := Pipeline.HostSeg.ofOps _ _ _ _ _ (Pipeline.ucRefs τ sig) (hostOps0 (F := F)) ops0_sub ops0_fresh (V₀ m) (Rd m)

theorem cut0 : Pipeline.LevelCut (pcfgs (F := F)) adm 0 L lv 0 (Sites.O0 (F := F)) 0 :=
  ⟨fun _ _ _ => Sites.mem_L _ _ (by decide), fun _ _ _ => le_refl _, fun _ _ _ hg => ⟨(Sites.O0_pos hg).1, (Sites.O0_pos hg).2⟩⟩

abbrev reg (c : Dev nD) : sProp 𝕄 := iprop(∃ r, prngReg c r)

def reg1 : ℝ𝕊 0 :=
  Pipeline.RegionSeg.ofHeldIn (pcfgs (F := F)) adm (pdats m) 0 defs₀ 𝒱₀ L lv 0 (Sites.O0 (F := F)) (Pipeline.ucRefs τ sig) reg reg
    launch0.toP rfl (fun c => (body_obligation (Va m) c).loose) (fun _ _ => rfl) (fun _ => rfl)
    (fun c => (dat0 (Va m) c).share_full fun _ => rfl) (fun _ => .rfl) (fun _ => .rfl) 0 cut0 (rides m) (Va m) (fun _ _ => rfl)

def seg2 : ℍ := Pipeline.HostSeg.ofOps _ _ _ _ _ (Pipeline.ucRefs τ sig) (hostOps1 (F := F)) ops1_sub ops1_fresh (Vb m) (Rd m)

def seg3 : ℍ := Sites.seg0 EC 𝒱₀ (Vc m) (Sites.Rest0 (Vc m) fun _ => invs m)

def segs : List (Pipeline.Seg (pcfgs (F := F)) adm (pdats m) 0 defs₀ 𝒱₀ L lv) := [.host (seg0 m), .region (reg1 m), .host (seg2 m), .host (seg3 m)]

theorem main_eq (c : Dev nD) : main (F := F) c = Pipeline.Seg.run (segs m) :=
  main_segs adm (pdats m) 0 𝒱₀ L lv (seg0 m) (seg2 m) (seg3 m) (reg1 m) rfl rfl rfl c

abbrev T₀ (c : Dev nD) : sProp 𝕄 := iprop(StableHlo.held (c : Thread nD τ) (Pipeline.ucRefs τ sig) (V₀ m c) ∗ Rd m c)

theorem arrays_sub : Pipeline.arrRefs (τ := τ) (pcfgs (F := F) 0).spec ⊆ Pipeline.ucRefs τ sig :=
  Pipeline.arrRefs_sub_ucRefs _ launch0.win.arr_unscoped

theorem seg0_reg1 (c : Dev nD) : (seg0 (F := F) m).post c ⊢ (reg1 m).pre c := by
  refine .trans ?_ (Pipeline.RegionSeg.ofHeldIn_pre arrays_sub c)
  show iprop(StableHlo.held (c.tc : Thread nD τ) (Pipeline.ucRefs τ sig) (Va m c) ∗ Rd m c) ⊢ _
  rw [show Rd m c = _ from Sites.Es_0 EC (Vc m) c]

theorem reg1_seg2 (c : Dev nD) : (reg1 (F := F) m).post c ⊢ (seg2 m).pre c := by
  refine (Pipeline.RegionSeg.ofHeldIn_post arrays_sub c).trans ?_
  show _ ⊢ iprop(StableHlo.held (c.tc : Thread nD τ) (Pipeline.ucRefs τ sig) (Vb m c) ∗ Rd m c)
  rw [show Rd m c = _ from Sites.Es_0 EC (Vc m) c]
  exact .rfl

theorem seg2_seg3 (c : Dev nD) : (seg2 (F := F) m).post c ⊢ (seg3 m).pre c := by
  refine .trans ?_ (Sites.pre0 EC 𝒱₀ (Vc m) (fun _ => invs m) c)
  show iprop(StableHlo.held (c.tc : Thread nD τ) (Pipeline.ucRefs τ sig) (Vc m c) ∗ Rd m c) ⊢ _
  rw [show Rd m c = _ from Sites.Es_0 EC (Vc m) c]
  iintro ⟨Hh, HO, Hp, Hr⟩
  ihave #Hi := (show (AllReduce.Dat.once (ar0 (F := F)) (Vc m)).rides (Sites.E0 EC) c 1 2 ⊢ invs m from by
    unfold AllReduce.Dat.rides; iintro ⟨Hi, -⟩; iexact Hi) $$ Hr
  isplitl [Hh]; · iexact Hh
  isplitl [HO Hp Hr]
  · rw [Sites.Es_0]
    isplitl [HO]; · iexact HO
    isplitl [Hp] <;> iassumption
  iexact Hi

/-- At the end all buffers are held and the counters can be read. -/
abbrev Tₙ (c : Dev nD) : sProp 𝕄 :=
  iprop(StableHlo.held (c : Thread nD τ) (Pipeline.ucRefs τ sig) (Vd m c) ∗ (invs m ∗ Sites.Ghost0 (F := F) EC c))

theorem seg3_Tₙ (c : Dev nD) : (seg3 (F := F) m).post c ⊢ iprop(Tₙ m c ∗ ∃ W, owes (c : Thread nD τ) (0 : CellTallies nD τ sig ℕ) W) := by
  refine (Sites.post0 EC 𝒱₀ (Vc m) (fun _ => invs m) c).trans ?_
  have h := Sites.hE_last EC (Vc m) c
  iintro ⟨Hh, HE, Hg, Hi⟩
  isplitr [HE]
  · isplitl [Hh]; · iexact Hh
    isplitl [Hi] <;> iassumption
  iapply h; iexact HE

/-! ## The launch -/

def u₀ : UU :=
  (initOf (Pipeline.cells (Pipeline.pin (pcfgs (F := F)) adm) cellOf_inj) (Pipeline.launchToks (Pipeline.pin (pcfgs (F := F)) adm) cellOf_inj),
    Sites.uC (U := UU) (Vc m))

theorem init :
    iprop((bigSep Finset.univ fun c : Dev nD => iprop(unscopedBufs c (fun b => m ((c : Thread nD τ).loc b)) ∗ unscopedSems0 c
          ∗ owes (c : Thread nD τ) (Sites.O0 (F := F) c) ∅ ∗ Pipeline.launchCred (Sites.O0 (F := F)) c ∗ prngReg c (ρ c) ∗ Sites.G EC (Vc m) c)) ∗ levAts L lv)
      ⊢ (|={Set.univ}=> bigSep Finset.univ (T₀ m) : sProp 𝕄) := by
  have hb (c : Dev nD) : (unscopedBufs c (fun b => m ((c : Thread nD τ).loc b)) : sProp 𝕄)
      = StableHlo.held (c : Thread nD τ) (Pipeline.ucRefs τ sig) (V₀ m c) := Pipeline.unscopedBufs_held c (V₀ m c)
  simp only [hb]
  rw [bigSep_sep']
  iintro ⟨⟨Hh, Hx⟩, Hl⟩
  imod (Sites.hE0 EC (Vc m) ρ) $$ [Hx Hl] with HE
  · isplitl [Hx] <;> iassumption
  imodintro
  iapply (show iprop((bigSep Finset.univ fun c : Dev nD => StableHlo.held (c : Thread nD τ) (Pipeline.ucRefs τ sig) (V₀ m c))
      ∗ bigSep Finset.univ (Rd m)) ⊢ bigSep Finset.univ (T₀ m) from by rw [← bigSep_sep'])
  isplitl [Hh] <;> iassumption

/-! ## The run -/

abbrev pl (c : Dev nD) (b : Ref sig .tc) (f : b.ty.Contents (Elt F)) : sProp 𝕄 := ((c : Thread nD τ).loc b) ↦{fullShare} f

/-- The result and the two arguments. -/
def outer : Finset (DevRef τ sig) := {Proc.devRef .tc main_v8, Proc.devRef .tc main_arg0, Proc.devRef .tc main_arg1}

theorem outer_sub : outer ⊆ Pipeline.ucRefs τ sig := by
  intro b hb
  unfold outer at hb
  simp only [Finset.mem_insert, Finset.mem_singleton] at hb
  rcases hb with rfl | rfl | rfl <;> exact Finset.mem_filter.mpr ⟨StableHlo.devRef_mem_tcRefs _, by decide⟩

theorem held_outer (c : Dev nD) (V : Valuation τ sig (Elt F)) :
    (StableHlo.held (c : Thread nD τ) outer V : sProp 𝕄) = iprop(pl c main_v8 (V main_v8) ∗ pl c main_arg0 (V main_arg0) ∗ pl c main_arg1 (V main_arg1)) := by
  unfold StableHlo.held outer
  rw [bigSep_eq_bigSepL_of_eq [Proc.devRef .tc main_v8, Proc.devRef .tc main_arg0, Proc.devRef .tc main_arg1] (by decide) (by decide)]
  rfl

set_option backward.isDefEq.respectTransparency.types false in
/-- Every run ends with the result and the arguments as the last valuation has them, and every counter at zero. -/
theorem run_main : θ_run defs (onTc (τ := τ) (main (F := F))) ⟨m, fun _ => 0, ρ⟩
    (fun r => (∀ c : Dev nD, r.2.mem ((c : Thread nD τ).loc main_v8) = Vd m c main_v8
      ∧ r.2.mem ((c : Thread nD τ).loc main_arg0) = Vd m c main_arg0
      ∧ r.2.mem ((c : Thread nD τ).loc main_arg1) = Vd m c main_arg1) ∧ r.2.sem = fun _ => 0) :=
  Pipeline.θ_run_regions_kit_sems (pcfgs (F := F)) adm (pdats m) 0 cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := Sites.O0 (F := F)) (hL := Sites.hL) (G := Sites.G EC (Vc m)) (u₀ := u₀ m)
    (hu₀ := by
      unfold u₀
      iintro Hu
      ihave H := (ownU_pair _ _) $$ Hu
      icases H with ⟨HP, HX⟩
      imodintro
      isplitl [HP]; · iexact HP
      rw [Sites.bigSep_G]; iexact HX)
    (T₀ := T₀ m) (Tₙ := Tₙ m)
    (hch := ⟨fun _ => .rfl, seg0_reg1 m, reg1_seg2 m, seg2_seg3 m, seg3_Tₙ m⟩)
    (hinit := init m ρ)
    (QY := fun c s => (s.mem ((c : Thread nD τ).loc main_v8) = Vd m c main_v8
        ∧ s.mem ((c : Thread nD τ).loc main_arg0) = Vd m c main_arg0
        ∧ s.mem ((c : Thread nD τ).loc main_arg1) = Vd m c main_arg1)
      ∧ (s.sem ((ar0 (F := F)).barrierCell c) = 0 ∧ s.sem ((ar0 (F := F)).recvCell c) = 0 ∧ s.sem ((ar0 (F := F)).sendCell c) = 0))
    (hfin := fun c s' => by
      rw [show Tₙ m c = iprop((iprop(pl c main_v8 (Vd m c main_v8) ∗ pl c main_arg0 (Vd m c main_arg0) ∗ pl c main_arg1 (Vd m c main_arg1))
          ∗ StableHlo.held (c : Thread nD τ) (Pipeline.ucRefs τ sig \ outer) (Vd m c)) ∗ (invs m ∗ Sites.Ghost0 (F := F) EC c)) from by
        rw [← held_outer, ← StableHlo.held_sub_split (c : Thread nD τ) outer_sub (Vd m c)]]
      iintro ⟨⟨⟨⟨H8, H0, H1⟩, -⟩, He⟩, HSI⟩
      icombine HSI H8 gives %h8
      icombine HSI H0 gives %h0
      icombine HSI H1 gives %h1
      imod ((AllReduce.Dat.once (ar0 (F := F)) (Vc m)).ghostAfter_read (Sites.E0 EC) c (k := 0) le_rfl s') $$ [He HSI] with ⟨%ha, HSI⟩
      · isplitl [He] <;> iassumption
      imodintro
      isplitr
      · ipureintro
        exact ⟨⟨Buf.eq_of_forall_mem_univ h8, Buf.eq_of_forall_mem_univ h0, Buf.eq_of_forall_mem_univ h1⟩, ha⟩
      iexact HSI)
    (hQ := fun s h hs => ⟨fun c => (h c).1, sem_eq_zero hs fun c sm hsm => by
      have hl : ∀ sm : SemLoc sig, sm.isScoped .tc = false → sm = .reg ar0_barrier ∨ sm = .dma ar0_recv ∨ sm = .dma ar0_send := by decide
      rcases hl sm hsm with rfl | rfl | rfl
      exacts [(h c).2.1, (h c).2.2.1, (h c).2.2.2]⟩)

end Cert.TotalLossRun

end
-- ==== Proof.TotalLossValue.lean ====
/- The whole loss: the devices' parts, each half the sum over its rows of the mean squared difference, added up are half the sum over
   all rows of all devices. -/
module

public import proofs.«01_k».proof.Defs
public import proofs.«01_k».proof.Proof.LossValue
public import proofs.«01_k».proof.Proof.TotalLossRun
public import proofs.«01_k».proof.Proof.Gen.TotalLossRefIdeal.Run
public import proofs.«01_k».proof.Proof.Gen.TotalLoss
public import proofs.«01_k».proof.Proof.Gen.TotalLossRef
public import Idealize.ShloMosaic.Lib.Layout
public import Idealize.ShloMosaic.Lib.Quiescent
public import Idealize.ShloMosaic.Lib.Pipeline.Value
public import Idealize.ShloMosaic.Lib.StableHlo.Run
public import Idealize.ShloMosaic.Lib.Pointwise.Tactic
public import Idealize.ShloMosaic.Lib.Pointwise.Reduce
public import Idealize.ShloMosaic.Lib.Pointwise.Reshape

@[expose] public section

noncomputable section

open Idealize.ShloMosaic Idealize.ShloMosaic.TcCoe Idealize.SL.Sem

namespace Cert.Proof.TotalLoss

open Cert.TotalLossIdeal Cert.TotalLossIdeal.Gen Cert.TotalLossRun

/-! ## What no line writes -/

section Kept
variable {F : FTy → Type} [FloatOps F] (m : (ℓ : Loc nD τ sig) → Buf (Elt F) ℓ) (ρ : Dev nD → PrngReg)

/-- The sum over the devices writes its result and its stages only. -/
theorem off_sum (c : Dev nD) (r : Ref sig .tc) (h8 : r ≠ main_v8) (hs : ∀ j, r ≠ ar0_stage j) :
    Vd m c (Proc.devRef .tc r) = Vc m c (Proc.devRef .tc r) :=
  (ar0 (F := F)).after₀_of_notMem (Vc m) c fun h => by
    rcases Finset.mem_insert.mp h with h | h
    · exact h8 (Proc.devRef_injective _ h)
    · obtain ⟨j, hj⟩ := (ar0 (F := F)).mem_stageRefs.mp h
      exact hs j (Proc.devRef_injective _ hj)

/-- No line writes an argument. -/
theorem kept (c : Dev nD) (r : Ref sig .tc) (hr : r = main_arg0 ∨ r = main_arg1) : Vd m c r = m ((c.tc : Thread nD τ).loc r) := by
  refine (off_sum m c r (by rcases hr with rfl | rfl <;> decide) (by rcases hr with rfl | rfl <;> decide)).trans ?_
  have h1 : Vc m c r = Vb m c r := by
    unfold Vc
    rcases hr with rfl | rfl <;> simp (disch := decide) only [hostOps1, StableHlo.after_cons, StableHlo.after_nil,
      StableHlo.unary_result_ne', StableHlo.reshape_result_ne', StableHlo.nullary_result_ne', StableHlo.binary_result_ne']
  have h2 : Vb m c r = Va m c r :=
    Pipeline.afterRegion_of_not_arr (dat0 (Va m) c) (Va m c) (b := r) (by rcases hr with rfl | rfl <;> decide)
  have h3 : Va m c r = V₀ m c r := by
    unfold Va
    rcases hr with rfl | rfl <;>
      simp (disch := decide) only [hostOps0, StableHlo.after_cons, StableHlo.after_nil, StableHlo.reshape_result_ne']
  exact h1.trans (h2.trans h3)

theorem kept0 (c : Dev nD) : Vd m c main_arg0 = m ((c.tc : Thread nD τ).loc main_arg0) := kept m c main_arg0 (.inl rfl)
theorem kept1 (c : Dev nD) : Vd m c main_arg1 = m ((c.tc : Thread nD τ).loc main_arg1) := kept m c main_arg1 (.inr rfl)

end Kept

/-! ## The frames -/

/-- The call ends, its arguments unchanged and its counters at zero. -/
theorem frame {F : FTy → Type} [FloatOps F] (m : (ℓ : Loc nD τ sig) → Buf (Elt F) ℓ) (ρ : Dev nD → PrngReg) :
    θ_run (Cert.TotalLossIdeal.defs (F := F)) (onTc (τ := τ) (Cert.TotalLossIdeal.main (F := F))) ⟨m, fun _ => 0, ρ⟩ (fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0) :=
  (θ_run Cert.TotalLossIdeal.defs _ _).mono
    (fun _ h => ⟨fun c => ⟨(h.1 c).2.1.trans (kept0 m c), (h.1 c).2.2.trans (kept1 m c)⟩, h.2⟩) (run_main m ρ)

theorem same_defs : Cert.TotalLoss.defs (F := Bits) = Cert.TotalLossIdeal.defs (F := Bits) := by sl_kernel_rfl

theorem frame_kernel : Cert.quiescent_TotalLoss := fun m ρ _ => by
  rw [same_defs]
  exact frame (F := Bits) m ρ

theorem frame_ideal : Cert.quiescent_TotalLossIdeal := fun m ρ _ => frame (F := Ideal) m ρ

/-- The reference ends with its arguments unchanged; it has no counter. -/
theorem frame_ref_ideal : Cert.quiescent_TotalLossRefIdeal := fun m ρ _ =>
  (θ_run Cert.TotalLossRefIdeal.defs _ _).mono
    (fun r h => ⟨fun c => (h c).2, sem_eq_zero_of_no_sems (by decide) r.2⟩)
    (Cert.TotalLossRefIdeal.Value.run (F := Ideal) m ρ)

theorem frame_ref : Cert.quiescent_TotalLossRef := fun m ρ _ =>
  (θ_run Cert.TotalLossRefIdeal.defs _ _).mono
    (fun r h => ⟨fun c => (h c).2, sem_eq_zero_of_no_sems (by decide) r.2⟩)
    (Cert.TotalLossRefIdeal.Value.run (F := Bits) m ρ)

/-! ## The first call's running sum -/

variable (m : (ℓ : Loc nD τ sig) → Buf (Elt Ideal) ℓ) (ρ : Dev nD → PrngReg)

theorem pay5_apply (y t : Vec Ideal S256x2048 .f32) (s : Vec Ideal S8x128 .f32) (a : Fin 8) (b : Fin 128) :
    k0_pay5 y t s (ix2 a b) = s (ix2 a b) + ∑ i : Fin 256, Loss.square y t i := by
  unfold_payloads
  pointwise! [Loss.square]

theorem pay4_apply (a : Fin 8) (b : Fin 128) : k0_pay4 (F := Ideal) (ix2 a b) = 0 := Loss.pay4_apply a b

/-- The row of the whole array that row `i` of block `t` is. -/
def row (t : Fin cfg0.N) (i : Fin 256) : Fin 8192 :=
  ⟨256 * t.val + i.val, by have h1 : t.val < 32 := t.isLt; have h2 := i.isLt; omega⟩

theorem starts : ∀ t : Fin cfg0.N, win0_2.index t 0 = t.val ∧ win0_2.index t 1 = 0 :=
  (by decide +kernel : ∀ t : Fin grid0.N, win0_2.index t 0 = t.val ∧ win0_2.index t 1 = 0)

theorem emb_row (t : Fin cfg0.N) (i : Fin 256) (k : Fin 2048) :
    ((cfg0.win 2).blk t).view.emb (ix2 i k) = ix2 (row t i) k := by
  have h := starts t
  funext a
  apply Fin.ext
  match a with
  | ⟨0, _⟩ =>
    show win0_2.index t 0 * 256 + 1 * i.val = 256 * t.val + i.val
    rw [h.1]; omega
  | ⟨1, _⟩ =>
    show win0_2.index t 1 * 2048 + 1 * k.val = k.val
    rw [h.2]; omega

theorem block0 (c : Dev nD) (t : Fin cfg0.N) (i : Fin 256) (k : Fin 2048) :
    iblk (Va m) c 0 t (ix2 i k) = Va m c main_v1 (ix2 (row t i) k) := by
  rw [← emb_row]; rfl
theorem block1 (c : Dev nD) (t : Fin cfg0.N) (i : Fin 256) (k : Fin 2048) :
    iblk (Va m) c 1 t (ix2 i k) = Va m c main_v2 (ix2 (row t i) k) := by
  rw [← emb_row]; rfl

theorem square_block (c : Dev nD) (t : Fin cfg0.N) (i : Fin 256) :
    Loss.square (n := 256) (iblk (Va m) c 0 t) (iblk (Va m) c 1 t) i
      = Loss.term (Va m c main_v1) (Va m c main_v2) (256 * t.val + i.val) := by
  have h : 256 * t.val + i.val < 8192 := (row t i).isLt
  unfold Loss.term
  rw [dif_pos h]
  unfold Loss.square
  simp only [block0, block1]
  rfl

/-- After a block the running sum is the squares of all rows up to the block's end. -/
theorem gathered (c : Dev nD) : ∀ (n : Nat) (hn : n < cfg0.N) (a : Fin 8) (b : Fin 128),
    sums (Va m) c n hn (ix2 a b) = ∑ j ∈ Finset.range (256 * (n + 1)), Loss.term (Va m c main_v1) (Va m c main_v2) j
  | 0, hn, a, b => by
    unfold sums
    rw [pay5_apply, pay4_apply, zero_add, Finset.sum_range]
    refine Finset.sum_congr rfl fun i _ => ?_
    rw [square_block]
    show Loss.term _ _ (256 * 0 + i.val) = _
    rw [Nat.mul_zero, Nat.zero_add]
  | n + 1, hn, a, b => by
    unfold sums
    rw [pay5_apply, gathered c n (Nat.lt_of_succ_lt hn) a b,
      show 256 * (n + 1 + 1) = 256 * (n + 1) + 256 from rfl, Finset.sum_range_add, Finset.sum_range (n := 256)]
    simp only [square_block]

theorem starts4 : ∀ t : Fin cfg0.N, win0_4.index t 0 = 0 ∧ win0_4.index t 1 = 0 :=
  (by decide +kernel : ∀ t : Fin grid0.N, win0_4.index t 0 = 0 ∧ win0_4.index t 1 = 0)

theorem emb_whole (t : Fin cfg0.N) (a : Fin 8) (b : Fin 128) : ((cfg0.win 4).blk t).view.emb (ix2 a b) = ix2 a b := by
  have h := starts4 t
  funext x
  apply Fin.ext
  match x with
  | ⟨0, _⟩ =>
    show win0_4.index t 0 * 8 + 1 * a.val = a.val
    rw [h.1]; omega
  | ⟨1, _⟩ =>
    show win0_4.index t 1 * 128 + 1 * b.val = b.val
    rw [h.2]; omega

/-- What is written back at the end: the sum over all rows of the device, in every entry. -/
theorem flushed4 (c : Dev nD) (t : Fin cfg0.N) (ht : (cfg0.win 4).flush t = true) :
    (dat0 (Va m) c).flushed 4 t = ((cfg0.win 4).blk t).view.read (Elt Ideal)
      (Loss.everywhere (Va m c main_v1) (Va m c main_v2)) := by
  have h := (flush0_4 t).mp ht
  have h32 : t.val < 32 := t.isLt
  have h31 : t.val = 31 := by omega
  have hs : sums (Va m) c t.val t.isLt = Loss.everywhere (Va m c main_v1) (Va m c main_v2) := by
    have e : 256 * (t.val + 1) = 8192 := by omega
    funext j
    obtain ⟨a, b, rfl⟩ : ∃ (a : Fin 8) (b : Fin 128), j = ix2 a b := ⟨j 0, j 1, eq_ix2 j⟩
    refine (gathered m c t.val t.isLt a b).trans ?_
    rw [e]
    exact Loss.total _ _
  show (cfg0.win 4).cut (grid0.coords t) ((dat0 (Va m) c).after 4 t) = _
  rw [after0_4, hs]
  generalize Loss.everywhere (Va m c main_v1) (Va m c main_v2) = s
  funext j
  obtain ⟨a, b, rfl⟩ : ∃ (a : Fin 8) (b : Fin 128), j = ix2 a b := ⟨j 0, j 1, eq_ix2 j⟩
  show s (ix2 a b) = s (((cfg0.win 4).blk t).view.emb (ix2 a b))
  rw [emb_whole]

theorem covered4 (i : S8x128.Idx) : ∃ t : Fin cfg0.N, (cfg0.win 4).flush t = true ∧ i ∈ ((cfg0.win 4).blk t).view.set := by
  obtain ⟨a, b, rfl⟩ : ∃ (a : Fin 8) (b : Fin 128), i = ix2 a b := ⟨i 0, i 1, eq_ix2 i⟩
  obtain ⟨t, ht⟩ : ∃ t : Fin cfg0.N, t.val = 31 := ⟨⟨31, by show 31 < 32; omega⟩, rfl⟩
  refine ⟨t, (flush0_4 t).mpr (by rw [ht]), ?_⟩
  rw [← emb_whole t]
  exact View.emb_mem_set _ _

theorem final4 (c : Dev nD) : (dat0 (Va m) c).arrAt 4 cfg0.N = Loss.everywhere (Va m c main_v1) (Va m c main_v2) :=
  (dat0 (Va m) c).arrAt_eq_of_cover 4 _ (fun t ht => flushed4 m c t ht) covered4

theorem sum_v3 (c : Dev nD) : Vb m c main_v3_2 = Loss.everywhere (Va m c main_v1) (Va m c main_v2) :=
  (Pipeline.afterRegion_arr (dat0 (Va m) c) (Va m c) launch0.win.arr_inj 4).trans (final4 m c)

/-! ## A device's part, and the sum of the parts -/

/-- A device's block without its leading axis. -/
def flat (x : Vec Ideal S1x8192x2048 .f32) : Vec Ideal S8192x2048 .f32 := shapeCast S8192x2048 x shapeCasts_S1x8192x2048_S8192x2048

theorem flat0 (c : Dev nD) : Va m c main_v1 = flat (m ((c.tc : Thread nD τ).loc main_arg0)) := by
  unfold Va
  simp (disch := decide) only [hostOps0, StableHlo.after_cons, StableHlo.after_nil, StableHlo.reshape_result', StableHlo.reshape_result_ne']
  rfl

theorem flat1 (c : Dev nD) : Va m c main_v2 = flat (m ((c.tc : Thread nD τ).loc main_arg1)) := by
  unfold Va
  simp (disch := decide) only [hostOps0, StableHlo.after_cons, StableHlo.after_nil, StableHlo.reshape_result', StableHlo.reshape_result_ne']
  rfl

/-- A device's part of the loss. -/
def part (y t : Vec Ideal S1x8192x2048 .f32) : EReal :=
  Ideal.ofBits .f32 0x3F000000#32 * ∑ i : Fin 8192, Ideal.div (Loss.square (n := 8192) (flat y) (flat t) i) (Ideal.ofBits .f32 0x45000000#32)

theorem part_v7 (c : Dev nD) :
    Vc m c main_v7 = fun _ => part (m ((c.tc : Thread nD τ).loc main_arg0)) (m ((c.tc : Thread nD τ).loc main_arg1)) := by
  have read : Vc m c main_v7 = Loss.ending (Vb m c main_v3_2) := by
    unfold Vc
    simp (disch := decide) only [hostOps1, StableHlo.after_cons,
      StableHlo.after_nil, StableHlo.unary_result', StableHlo.reshape_result', StableHlo.nullary_result', StableHlo.binary_result',
      StableHlo.unary_result_ne', StableHlo.reshape_result_ne', StableHlo.nullary_result_ne', StableHlo.binary_result_ne']
    rfl
  rw [read, sum_v3, flat0, flat1]
  unfold part
  generalize flat (m ((c.tc : Thread nD τ).loc main_arg0)) = y
  generalize flat (m ((c.tc : Thread nD τ).loc main_arg1)) = t
  funext i
  rw [← Loss.share_out]
  unfold Loss.ending Loss.everywhere
  pointwise!

/-- Adding eight up from the left is their sum. -/
theorem added (p : Fin 8 → EReal) : ((List.finRange 8).drop 1).foldl (fun a j => a + p j) (p 0) = ∑ d, p d := by
  rw [Fin.sum_univ_eight]
  rfl

/-- Device `d`'s part, and the eight parts added up. -/
def parts (d : Fin 8) : EReal :=
  part (m ((Dev.tc (nD := nD) d : Thread nD τ).loc main_arg0)) (m ((Dev.tc (nD := nD) d : Thread nD τ).loc main_arg1))
def whole : Vec Ideal S_ .f32 := fun _ => ∑ d : Fin 8, parts m d

theorem result_v8 (c : Dev nD) : Vd m c main_v8 = whole m := by
  unfold Vd
  refine ((ar0 (F := Ideal)).after₀_result (Vc m) c).trans ?_
  have plain : ∀ Y, (ar0 (F := Ideal)).toResult Y = Y := fun Y => by
    unfold AllReduce.Cfg.toResult
    exact cast_eq _ _
  rw [plain]
  have peer : ∀ (c : Dev nD) (j : Fin 8), (ar0 (F := Ideal)).peer c j = j := fun c j => by
    show ar0_mem ((ar0 (F := Ideal)).grp c, j) = j
    rw [show (ar0 (F := Ideal)).grp c = 0 from Subsingleton.elim (α := Fin 1) _ _]
    fin_cases j <;> rfl
  rw [show (fun j : Fin 8 => Vc m ((ar0 (F := Ideal)).peer c j) main_v7) = fun j _ => parts m j from
    funext fun j => by rw [peer, part_v7]; rfl]
  unfold whole
  generalize parts m = p
  funext i
  unfold AllReduce.Cfg.foldGroup
  exact added p

/-- The call ends with the sum of the parts on every device, its arguments unchanged. -/
theorem run : θ_run Cert.TotalLossIdeal.defs (onTc (τ := τ) (Cert.TotalLossIdeal.main (F := Ideal))) ⟨m, fun _ => 0, ρ⟩
    (fun r => ∀ c : Dev nD,
      r.2.mem ((c.tc : Thread nD τ).loc main_v8) = whole m
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run Cert.TotalLossIdeal.defs _ _).mono
    (fun _ h c => ⟨(h.1 c).1.trans (result_v8 m c), (h.1 c).2.1.trans (kept0 m c), (h.1 c).2.2.trans (kept1 m c)⟩) (run_main m ρ)

/-! ## Against the plain loss -/

theorem ofBits_half : Ideal.ofBits .f32 0x3F000000#32 = ((1 / 2 : ℝ) : EReal) := by
  simp [Ideal.ofBits, Ideal.ieee, -EReal.coe_mul]; norm_num

/-- Halving the sum is halving the parts. -/
theorem halve_out (T : Fin 8 → EReal) :
    ∑ d, Ideal.ofBits .f32 0x3F000000#32 * T d = Ideal.ofBits .f32 0x3F000000#32 * ∑ d, T d := by
  rw [ofBits_half]
  simp only [mul_comm ((1 / 2 : ℝ) : EReal)]
  exact Norm.sum_mul_real (by norm_num) T

/-- The squared differences of row `i` of device `d`'s block. -/
def squareAt (Y T : Vec Ideal ⟨3, ![8, 8192, 2048]⟩ .f32) (d : Fin 8) (i : Fin 8192) : EReal :=
  ∑ l : Fin 2048, (Y (ix3 d i l) - T (ix3 d i l)) * (Y (ix3 d i l) - T (ix3 d i l))

theorem flat_block (X : Vec Ideal ⟨3, ![8, 8192, 2048]⟩ .f32) (d : Fin 8) (i : Fin 8192) (l : Fin 2048) :
    flat (Layout.block ⟨3, ![1, 8192, 2048]⟩ ⟨3, ![8, 8192, 2048]⟩ 0 8 d X) (ix2 i l) = X (ix3 d i l) := by
  have h : ∀ x : Vec Ideal S1x8192x2048 .f32, flat x (ix2 i l) = x (ix3 0 i l) := fun x => by
    unfold flat
    pointwise!
  rw [h]
  show X _ = X _
  congr 1
  funext a
  apply Fin.ext
  match a with
  | ⟨0, _⟩ => show d.val * 1 + 0 = d.val; omega
  | ⟨1, _⟩ => rfl
  | ⟨2, _⟩ => rfl

theorem square_flat (Y T : Vec Ideal ⟨3, ![8, 8192, 2048]⟩ .f32) (d : Fin 8) (i : Fin 8192) :
    Loss.square (n := 8192) (flat (Layout.block ⟨3, ![1, 8192, 2048]⟩ ⟨3, ![8, 8192, 2048]⟩ 0 8 d Y))
      (flat (Layout.block ⟨3, ![1, 8192, 2048]⟩ ⟨3, ![8, 8192, 2048]⟩ 0 8 d T)) i = squareAt Y T d i :=
  Finset.sum_congr rfl fun l _ => by rw [flat_block, flat_block]

/-- Over the reals every device ends with half the sum over all rows of the mean squared difference. -/
theorem algebraic : Cert.algebraic_TotalLossIdeal_TotalLossRefIdeal := by
  intro m ρ m' ρ' _ same
  refine ⟨whole m, run m ρ, ?_⟩
  refine (θ_run Cert.TotalLossRefIdeal.defs _ _).mono (fun _ h => ?_) (Cert.TotalLossRefIdeal.Value.run (F := Ideal) m' ρ')
  obtain ⟨h1, kept⟩ := h 0
  refine ⟨h1.trans ?_, kept⟩
  unfold whole parts
  simp only [fun d : Dev nD => (same d).1, fun d : Dev nD => (same d).2]
  generalize m' (((0 : Dev Cert.TotalLossRefIdeal.nD).tc : Thread Cert.TotalLossRefIdeal.nD Cert.TotalLossRefIdeal.τ).loc Cert.TotalLossRefIdeal.main_arg0) = Y
  generalize m' (((0 : Dev Cert.TotalLossRefIdeal.nD).tc : Thread Cert.TotalLossRefIdeal.nD Cert.TotalLossRefIdeal.τ).loc Cert.TotalLossRefIdeal.main_arg1) = T
  funext i
  refine Eq.trans (b := Ideal.ofBits .f32 0x3F000000#32 * ∑ d : Fin 8, ∑ a : Fin 8192, Ideal.div (squareAt Y T d a) (Ideal.ofBits .f32 0x45000000#32)) ?_ ?_
  · pointwise! [squareAt]
  · rw [← halve_out]
    refine Finset.sum_congr rfl fun d _ => ?_
    unfold part
    refine congrArg _ (Finset.sum_congr rfl fun a _ => ?_)
    exact congrArg (fun s => Ideal.div s _) (square_flat Y T d a).symm

end Cert.Proof.TotalLoss

end
-- ==== Proof.Gathering.lean ====
/- Facts about arrays read block by block: an entry by its two coordinates as numbers, and a sum gathered block by block. -/
module

public import Idealize.ShloMosaic.Lib.Pointwise.Tactic
public import Idealize.ShloMosaic.Lib.Pointwise.Reduce
public import Idealize.ShloMosaic.Lib.Pointwise.Reshape

@[expose] public section

noncomputable section

open Idealize.ShloMosaic

namespace Cert.Proof.Gathering

/-- The entry of an array at two numbers, zero outside of it. -/
def entry {p q : Nat} (x : (⟨2, ![p, q]⟩ : Shape).Idx → EReal) (a b : Nat) : EReal :=
  if h : a < p ∧ b < q then x (ix2 ⟨a, h.1⟩ ⟨b, h.2⟩) else 0

theorem entry_ix2 {p q : Nat} (x : (⟨2, ![p, q]⟩ : Shape).Idx → EReal) (i : Fin p) (k : Fin q) :
    entry x i.val k.val = x (ix2 i k) := dif_pos ⟨i.isLt, k.isLt⟩

theorem entry_of {p q : Nat} (x : (⟨2, ![p, q]⟩ : Shape).Idx → EReal) (j : (⟨2, ![p, q]⟩ : Shape).Idx) {a b : Nat}
    (h0 : (j 0).val = a) (h1 : (j 1).val = b) : x j = entry x a b := by
  obtain ⟨i, k, rfl⟩ : ∃ (i : Fin p) (k : Fin q), j = ix2 i k := ⟨j 0, j 1, eq_ix2 j⟩
  subst h0 h1
  exact (entry_ix2 x i k).symm

/-- A sum over `n` blocks of `b` terms is the sum over all terms. -/
theorem sum_blocks {n b K : Nat} (h : b * n = K) (f : Nat → EReal) :
    ∑ s ∈ Finset.range n, ∑ k : Fin b, f (b * s + k.val) = ∑ k : Fin K, f k.val := by
  subst h
  rw [← Finset.sum_range (n := b * n) f]
  induction n with
  | zero => simp
  | succ n ih =>
    rw [Finset.sum_range_succ, ih, Nat.mul_succ, Finset.sum_range_add, Finset.sum_range (n := b)]

/-- What is gathered over a run of points that starts at `p`: the first point sets its part, each later one up to `l` adds its own. -/
theorem gathered {N p l : Nat} (val : (t : Nat) → t < N → EReal) (part : Nat → EReal)
    (first : ∀ h, val p h = part 0)
    (between : ∀ s h, s + 1 < l → val (p + (s + 1)) h = val (p + s) (Nat.lt_of_succ_lt h) + part (s + 1)) :
    ∀ s h, s < l → val (p + s) h = ∑ r ∈ Finset.range (s + 1), part r
  | 0, h, _ => (first h).trans (Finset.sum_range_one _).symm
  | s + 1, h, hs => by
    rw [between s h hs, gathered val part first between s (Nat.lt_of_succ_lt h) (Nat.lt_of_succ_lt hs), Finset.sum_range_succ _ (s + 1)]

/-- An index of an array is reached by the block whose rows and columns start at its quotients. -/
theorem reaches {M N p q A B : Nat} (emb : (⟨2, ![p, q]⟩ : Shape).Idx → (⟨2, ![M, N]⟩ : Shape).Idx)
    (place : ∀ (a : Fin p) (b : Fin q), (emb (ix2 a b) 0).val = p * A + a.val ∧ (emb (ix2 a b) 1).val = q * B + b.val)
    (hp : 0 < p) (hq : 0 < q) (i : Fin M) (k : Fin N) (hA : i.val / p = A) (hB : k.val / q = B) : ∃ x, emb x = ix2 i k := by
  subst hA hB
  have h := place ⟨i.val % p, Nat.mod_lt _ hp⟩ ⟨k.val % q, Nat.mod_lt _ hq⟩
  refine ⟨ix2 ⟨i.val % p, Nat.mod_lt _ hp⟩ ⟨k.val % q, Nat.mod_lt _ hq⟩, funext fun z => Fin.ext ?_⟩
  match z with
  | ⟨0, _⟩ => exact h.1.trans (Nat.div_add_mod i.val p)
  | ⟨1, _⟩ => exact h.2.trans (Nat.div_add_mod k.val q)

/-- The zero offsets of a block that is a whole buffer. -/
theorem hz : (![0, 0] : Fin 2 → Nat) = fun _ => 0 := funext fun a => by fin_cases a <;> rfl

end Cert.Proof.Gathering

end
-- ==== Proof.NormForwardValue.lean ====
/- The forward norm: row by row, what the call leaves is the plain formula's. -/
module

public import proofs.«01_k».proof.Proof.NormValue
public import proofs.«01_k».proof.Proof.Gathering
public import proofs.«01_k».proof.Proof.Gen.NormForwardIdeal.Value
public import proofs.«01_k».proof.Proof.Gen.NormForwardRefIdeal.Run
public import proofs.«01_k».proof.Proof.Gen.NormForward.Frame
public import proofs.«01_k».proof.Proof.Gen.NormForwardRef

@[expose] public section

noncomputable section

open Idealize.ShloMosaic Idealize.ShloMosaic.TcCoe Idealize.SL.Sem

namespace Cert.Proof.NormForward

open Cert.NormForwardIdeal Cert.NormForwardIdeal.Gen

variable (m : (ℓ : Loc nD τ sig) → Buf (Elt Ideal) ℓ)

/-- What the body computes of its blocks: a row times one over its root mean square, times the weight. -/
theorem stored (x : Vec Ideal S256x2048 .f32) (w : Vec Ideal S1x2048 .f32) (i : Fin 256) (k : Fin 2048) :
    out0_2 x w (ix2 i k) = x (ix2 i k) * Norm.scale (fun l => x (ix2 i l)) * w (ix2 0 k) := by
  unfold out0_2
  rw [View.canon_unit_zero Gathering.hz]
  simp only [View.ld_unit_zero (S := S256x2048) Gathering.hz, View.ld_unit_zero (S := S1x2048) Gathering.hz]
  unfold_payloads
  pointwise! [Norm.scale, Norm.mean]

theorem starts : ∀ t : Fin cfg0.N, (win0_0.index t 0 = t.val ∧ win0_0.index t 1 = 0) ∧ (win0_1.index t 0 = 0 ∧ win0_1.index t 1 = 0)
      ∧ win0_2.index t 0 = t.val ∧ win0_2.index t 1 = 0 :=
  (by decide +kernel : ∀ t : Fin grid0.N, (win0_0.index t 0 = t.val ∧ win0_0.index t 1 = 0) ∧ (win0_1.index t 0 = 0 ∧ win0_1.index t 1 = 0)
      ∧ win0_2.index t 0 = t.val ∧ win0_2.index t 1 = 0)

/-- The row of the whole array that row `i` of block `t` is. -/
def row (t : Fin cfg0.N) (i : Fin 256) : Fin 8192 :=
  ⟨256 * t.val + i.val, by have h1 : t.val < 32 := t.isLt; have h2 := i.isLt; omega⟩

theorem emb_row (t : Fin cfg0.N) (i : Fin 256) (k : Fin 2048) :
    ((cfg0.win 2).blk t).view.emb (ix2 i k) = ix2 (row t i) k := by
  have h := (starts t).2.2
  funext a
  apply Fin.ext
  match a with
  | ⟨0, _⟩ =>
    show win0_2.index t 0 * 256 + 1 * i.val = 256 * t.val + i.val
    rw [h.1]; omega
  | ⟨1, _⟩ =>
    show win0_2.index t 1 * 2048 + 1 * k.val = k.val
    rw [h.2]; omega

/-- The rows are cut from their array as those that are written back are; the weight is its whole array. -/
theorem block0 (c : Dev nD) (t : Fin cfg0.N) (i : Fin 256) (k : Fin 2048) :
    iblk m c 0 t (ix2 i k) = V m c main_arg0 (ix2 (row t i) k) := by
  rw [← emb_row]; rfl
theorem block1 (c : Dev nD) (t : Fin cfg0.N) (k : Fin 2048) :
    iblk m c 1 t (ix2 0 k) = V m c main_arg1 (ix2 0 k) := by
  have h := (starts t).2.1
  show V m c main_arg1 (((cfg0.win 1).blk t).view.emb (ix2 0 k)) = _
  congr 1
  funext a
  apply Fin.ext
  match a with
  | ⟨0, _⟩ =>
    show win0_1.index t 0 * 1 + 1 * 0 = 0
    rw [h.1]
  | ⟨1, _⟩ =>
    show win0_1.index t 1 * 2048 + 1 * k.val = k.val
    rw [h.2]; omega

/-- The norm of the whole array, row by row. -/
def normed (x : Vec Ideal S8192x2048 .f32) (w : Vec Ideal S1x2048 .f32) : Vec Ideal S8192x2048 .bf16 := fun j =>
  x (ix2 (j 0) (j 1)) * Norm.scale (fun l => x (ix2 (j 0) l)) * w (ix2 0 (j 1))

theorem normed_apply (x : Vec Ideal S8192x2048 .f32) (w : Vec Ideal S1x2048 .f32) (i : Fin 8192) (k : Fin 2048) :
    normed x w (ix2 i k) = x (ix2 i k) * Norm.scale (fun l => x (ix2 i l)) * w (ix2 0 k) := rfl

theorem flushed2 (c : Dev nD) (t : Fin cfg0.N) :
    (dats m 0 c).flushed 2 t = ((cfg0.win 2).blk t).view.read (Elt Ideal) (normed (V m c main_arg0) (V m c main_arg1)) := by
  rw [Cert.NormForwardIdeal.Value.flushed2]
  funext j
  show out0_2 (iblk m c 0 t) (iblk m c 1 t) j = normed (V m c main_arg0) (V m c main_arg1) (((cfg0.win 2).blk t).view.emb j)
  obtain ⟨i, k, rfl⟩ : ∃ (i : Fin 256) (k : Fin 2048), j = ix2 i k := ⟨j 0, j 1, eq_ix2 j⟩
  rw [emb_row, stored]
  simp only [block0, block1]
  rfl

theorem covered2 (j : S8192x2048.Idx) : ∃ t : Fin cfg0.N, (cfg0.win 2).flush t = true ∧ j ∈ ((cfg0.win 2).blk t).view.set := by
  obtain ⟨a, b, rfl⟩ : ∃ (a : Fin 8192) (b : Fin 2048), j = ix2 a b := ⟨j 0, j 1, eq_ix2 j⟩
  have h : a.val < 8192 := a.isLt
  obtain ⟨t, ht⟩ : ∃ t : Fin cfg0.N, t.val = a.val / 256 := ⟨⟨a.val / 256, by show a.val / 256 < 32; omega⟩, rfl⟩
  refine ⟨t, flush0_2 _, ?_⟩
  have e : row t ⟨a.val % 256, Nat.mod_lt _ (by decide)⟩ = a := by
    apply Fin.ext
    show 256 * t.val + a.val % 256 = a.val
    omega
  rw [← e, ← emb_row]
  exact View.emb_mem_set _ _

theorem final2 (c : Dev nD) : (dats m 0 c).arrAt 2 cfg0.N = normed (V m c main_arg0) (V m c main_arg1) :=
  (dats m 0 c).arrAt_eq_of_cover 2 _ (fun t _ => flushed2 m c t) covered2

/-- The call ends, its arguments unchanged and its counters at zero. -/
theorem frame_kernel : Cert.quiescent_NormForward := fun m ρ _ => Cert.NormForward.Gen.frame m ρ

theorem frame_ideal : Cert.quiescent_NormForwardIdeal := fun m ρ _ => Cert.NormForwardIdeal.Gen.frame m ρ

/-- The reference ends with its arguments unchanged; it has no counter. -/
theorem frame_ref_ideal : Cert.quiescent_NormForwardRefIdeal := fun m ρ _ =>
  (θ_run Cert.NormForwardRefIdeal.defs _ _).mono
    (fun r h => ⟨fun c => (h c).2, sem_eq_zero_of_no_sems (by decide) r.2⟩)
    (Cert.NormForwardRefIdeal.Value.run (F := Ideal) m ρ)

theorem frame_ref : Cert.quiescent_NormForwardRef := fun m ρ _ =>
  (θ_run Cert.NormForwardRefIdeal.defs _ _).mono
    (fun r h => ⟨fun c => (h c).2, sem_eq_zero_of_no_sems (by decide) r.2⟩)
    (Cert.NormForwardRefIdeal.Value.run (F := Bits) m ρ)

/-- Over the reals the call's result is the plain norm. -/
theorem algebraic : Cert.algebraic_NormForwardIdeal_NormForwardRefIdeal := by
  intro m ρ m' ρ' _ same
  refine ⟨_, Cert.NormForwardIdeal.Value.run_blocks (F := Ideal) m ρ, ?_⟩
  refine (θ_run Cert.NormForwardRefIdeal.defs _ _).mono (fun _ h c => ?_) (Cert.NormForwardRefIdeal.Value.run (F := Ideal) m' ρ')
  obtain ⟨hx, hw⟩ := same c
  obtain ⟨h1, kept⟩ := h c
  rw [hx, hw] at h1
  refine ⟨h1.trans ?_, kept⟩
  rw [final2, V_main_arg0, V_main_arg1]
  generalize m ((c.tc : Thread nD τ).loc main_arg0) = x
  generalize m ((c.tc : Thread nD τ).loc main_arg1) = w
  funext j
  obtain ⟨i, k, rfl⟩ : ∃ (i : Fin 8192) (k : Fin 2048), j = ix2 i k := ⟨j 0, j 1, eq_ix2 j⟩
  refine Eq.trans ?_ (normed_apply x w i k).symm
  pointwise! [Norm.scale, Norm.mean]

end Cert.Proof.NormForward

end
-- ==== Proof.ProductSums.lean ====
/- The products that are gathered block by block of the inner axis: the gradient taken back through an input weight, and the gradient of
   a weight. A point adds its block's product to what the points before it left, and the last one writes the sum back. -/
module

public import proofs.«01_k».proof.Defs
public import proofs.«01_k».proof.Proof.Gathering
public import proofs.«01_k».proof.Proof.Gen.OddInGradIdeal.Value
public import proofs.«01_k».proof.Proof.Gen.OddInGradRefIdeal.Run
public import proofs.«01_k».proof.Proof.Gen.OddInGrad.Frame
public import proofs.«01_k».proof.Proof.Gen.OddInGradRef
public import proofs.«01_k».proof.Proof.Gen.EvenInGradIdeal.Value
public import proofs.«01_k».proof.Proof.Gen.EvenInGradRefIdeal.Run
public import proofs.«01_k».proof.Proof.Gen.EvenInGrad.Frame
public import proofs.«01_k».proof.Proof.Gen.EvenInGradRef
public import proofs.«01_k».proof.Proof.Gen.OutWeightGradIdeal.Value
public import proofs.«01_k».proof.Proof.Gen.OutWeightGradRefIdeal.Run
public import proofs.«01_k».proof.Proof.Gen.OutWeightGrad.Frame
public import proofs.«01_k».proof.Proof.Gen.OutWeightGradRef
public import proofs.«01_k».proof.Proof.Gen.OddInWeightGradIdeal.Value
public import proofs.«01_k».proof.Proof.Gen.OddInWeightGradRefIdeal.Run
public import proofs.«01_k».proof.Proof.Gen.OddInWeightGrad.Frame
public import proofs.«01_k».proof.Proof.Gen.OddInWeightGradRef
public import proofs.«01_k».proof.Proof.Gen.EvenInWeightGradIdeal.Value
public import proofs.«01_k».proof.Proof.Gen.EvenInWeightGradRefIdeal.Run
public import proofs.«01_k».proof.Proof.Gen.EvenInWeightGrad.Frame
public import proofs.«01_k».proof.Proof.Gen.EvenInWeightGradRef
public import Idealize.ShloMosaic.Lib.Quiescent
public import Idealize.ShloMosaic.Lib.Pointwise.Contract

@[expose] public section

noncomputable section

open Idealize.ShloMosaic Idealize.ShloMosaic.TcCoe Idealize.SL.Sem
open Cert.Proof.Gathering (entry entry_ix2 entry_of gathered hz reaches sum_blocks)

/-! ## The gradient taken back through the odd input weight -/

namespace Cert.Proof.OddInGrad

open Cert.OddInGradIdeal Cert.OddInGradIdeal.Gen

/-- The product of two blocks, the second one transposed. -/
def multiply (x : Vec Ideal S1024x1152 .bf16) (y : Vec Ideal S1024x1152 .bf16) (a b : Fin 1024) : EReal := ∑ k : Fin 1152, x (ix2 a k) * y (ix2 b k)

section Body
variable (c : Dev nD) (i : grid0.Coords) (arg3 : Memref sig .tc .vmem S1024x1152 .bf16) (harg3 : arg3.IsWhole) (arg4 : Memref sig .tc .vmem S1024x1152 .bf16) (harg4 : arg4.IsWhole) (arg5 : Memref sig .tc .vmem S1024x1024 .bf16) (harg5 : arg5.IsWhole) (arg6 : Memref sig .tc .vmem S1024x1024 .f32) (harg6 : arg6.IsWhole)
  (x : Vec Ideal S1024x1152 .bf16) (y : Vec Ideal S1024x1152 .bf16) (z : Vec Ideal S1024x1024 .f32) (a b : Fin 1024)

/-- The first point of a block leaves the product of its blocks, the second one transposed. -/
theorem first (hc0 : cond0_0 i) (hc1 : ¬cond0_1 i) (hc2 : ¬cond0_2 i) :
    sout0_A_0 c i arg3 harg3 arg4 harg4 arg5 harg5 arg6 harg6 hc0 hc1 hc2 x y (ix2 a b) = multiply x y a b := by
  unfold sout0_A_0
  rw [View.read_writes_eq_canon _ _ _ (scover0_A_0 c i arg3 harg3 arg4 harg4 arg5 harg5 arg6 harg6 hc0 hc1 hc2 x y)]
  unfold kernelRun0_A
  dsimp only
  rw [View.canon_unit_zero hz]
  simp only [View.readAt_eq_ld, View.ld_unit_zero (S := S1024x1152) hz, View.ld_unit_zero (S := S1024x1024) hz, harg3.read_unread, harg4.read_unread]
  unfold_payloads
  pointwise! [multiply]

/-- A point in between adds its product to what is there. -/
theorem between (hc0 : ¬cond0_0 i) (hc1 : cond0_1 i) (hc2 : ¬cond0_2 i) :
    sout0_B_0 c i arg3 harg3 arg4 harg4 arg5 harg5 arg6 harg6 hc0 hc1 hc2 x y z (ix2 a b) = z (ix2 a b) + multiply x y a b := by
  unfold sout0_B_0
  rw [View.read_writes_eq_canon _ _ _ (scover0_B_0 c i arg3 harg3 arg4 harg4 arg5 harg5 arg6 harg6 hc0 hc1 hc2 x y z)]
  unfold kernelRun0_B
  dsimp only
  rw [View.canon_unit_zero hz]
  simp only [View.readAt_eq_ld, View.ld_unit_zero (S := S1024x1152) hz, View.ld_unit_zero (S := S1024x1024) hz, harg3.read_unread, harg4.read_unread, harg6.read_unread]
  unfold_payloads
  pointwise! [multiply]

/-- The last point writes back what is there with its product. -/
theorem last (hc0 : ¬cond0_0 i) (hc1 : ¬cond0_1 i) (hc2 : cond0_2 i) :
    out0_C_2 c i arg3 harg3 arg4 harg4 arg5 harg5 arg6 harg6 hc0 hc1 hc2 x y z (ix2 a b) = z (ix2 a b) + multiply x y a b := by
  unfold out0_C_2
  rw [View.read_writes_eq_canon _ _ _ (cover0_C_2 c i arg3 harg3 arg4 harg4 arg5 harg5 arg6 harg6 hc0 hc1 hc2 x y z)]
  unfold kernelRun0_C
  dsimp only
  rw [View.canon_unit_zero hz]
  simp only [View.readAt_eq_ld, View.ld_unit_zero (S := S1024x1152) hz, View.ld_unit_zero (S := S1024x1024) hz, harg3.read_unread, harg4.read_unread, harg6.read_unread]
  unfold_payloads
  pointwise! [multiply]

end Body

variable (m : (ℓ : Loc nD τ sig) → Buf (Elt Ideal) ℓ)

theorem starts : ∀ t : Fin cfg0.N, (win0_0.index t 0 = t.val / 8 ∧ win0_0.index t 1 = t.val % 4) ∧ (win0_1.index t 0 = t.val / 4 % 2 ∧ win0_1.index t 1 = t.val % 4)
      ∧ win0_2.index t 0 = t.val / 8 ∧ win0_2.index t 1 = t.val / 4 % 2 :=
  (by decide +kernel : ∀ t : Fin grid0.N, (win0_0.index t 0 = t.val / 8 ∧ win0_0.index t 1 = t.val % 4) ∧ (win0_1.index t 0 = t.val / 4 % 2 ∧ win0_1.index t 1 = t.val % 4)
      ∧ win0_2.index t 0 = t.val / 8 ∧ win0_2.index t 1 = t.val / 4 % 2)

theorem block0 (c : Dev nD) (t : Fin cfg0.N) {q s : Nat} (ht : t.val = 4 * q + s) (hs : s < 4) (a : Fin 1024) (k : Fin 1152) :
    iblk m c 0 t (ix2 a k) = entry (V m c main_arg0) (1024 * (q / 2) + a.val) (1152 * s + k.val) := by
  have h := (starts t).1
  refine entry_of (V m c main_arg0) (((cfg0.win 0).blk t).view.emb (ix2 a k)) ?_ ?_
  · show win0_0.index t 0 * 1024 + 1 * a.val = _
    rw [h.1]; omega
  · show win0_0.index t 1 * 1152 + 1 * k.val = _
    rw [h.2]; omega

theorem block1 (c : Dev nD) (t : Fin cfg0.N) {q s : Nat} (ht : t.val = 4 * q + s) (hs : s < 4) (b : Fin 1024) (k : Fin 1152) :
    iblk m c 1 t (ix2 b k) = entry (V m c main_arg1) (1024 * (q % 2) + b.val) (1152 * s + k.val) := by
  have h := (starts t).2.1
  refine entry_of (V m c main_arg1) (((cfg0.win 1).blk t).view.emb (ix2 b k)) ?_ ?_
  · show win0_1.index t 0 * 1024 + 1 * b.val = _
    rw [h.1]; omega
  · show win0_1.index t 1 * 1152 + 1 * k.val = _
    rw [h.2]; omega

theorem place (t : Fin cfg0.N) (a b : Fin 1024) :
    (((cfg0.win 2).blk t).view.emb (ix2 a b) 0).val = 1024 * (t.val / 8) + a.val
      ∧ (((cfg0.win 2).blk t).view.emb (ix2 a b) 1).val = 1024 * (t.val / 4 % 2) + b.val := by
  have h := (starts t).2.2
  constructor
  · show win0_2.index t 0 * 1024 + 1 * a.val = _
    rw [h.1]; omega
  · show win0_2.index t 1 * 1024 + 1 * b.val = _
    rw [h.2]; omega

/-- A term of the product at two numbers. -/
def term (x : Vec Ideal S8192x4608 .bf16) (y : Vec Ideal S2048x4608 .bf16) (a b k : Nat) : EReal := entry x a k * entry y b k

/-- The `s`-th part of the result's block `q`. -/
def part (c : Dev nD) (q : Nat) (a b : Fin 1024) (s : Nat) : EReal := ∑ k : Fin 1152,
  term (V m c main_arg0) (V m c main_arg1) (1024 * (q / 2) + a.val) (1024 * (q % 2) + b.val) (1152 * s + k.val)

theorem part_eq (c : Dev nD) (t : Fin cfg0.N) {q s : Nat} (ht : t.val = 4 * q + s) (hs : s < 4) (a b : Fin 1024) :
    multiply (iblk m c 0 t) (iblk m c 1 t) a b = part m c q a b s :=
  Finset.sum_congr rfl fun k _ => congrArg₂ (· * ·) (block0 m c t ht hs a k) (block1 m c t ht hs b k)

theorem at_first (c : Dev nD) (t : Fin cfg0.N) {q : Nat} (ht : t.val = 4 * q + 0) (a b : Fin 1024) :
    (outsAt0 m c t.val t.isLt).2 (ix2 a b) = part m c q a b 0 := by
  rw [outsAt0_A m c t (by omega) (by omega) (by omega)]
  dsimp only
  rw [first, part_eq m c t ht (by decide)]

theorem at_between (c : Dev nD) (t : Fin cfg0.N) {q s : Nat} (ht : t.val = 4 * q + (s + 1)) (hs : s + 1 < 3) (a b : Fin 1024) :
    (outsAt0 m c t.val t.isLt).2 (ix2 a b)
      = (outsAt0 m c (t.val - 1) (Nat.lt_of_le_of_lt (Nat.sub_le _ _) t.isLt)).2 (ix2 a b) + part m c q a b (s + 1) := by
  rw [outsAt0_B m c t (by omega) (by omega) (by omega)]
  dsimp only
  rw [between, part_eq m c t ht (by omega)]

/-- The product of the whole arrays, the second one transposed. -/
def product (x : Vec Ideal S8192x4608 .bf16) (y : Vec Ideal S2048x4608 .bf16) : Vec Ideal S8192x2048 .bf16 := fun j =>
  ∑ k : Fin 4608, term x y (j 0).val (j 1).val k.val

theorem product_apply (x : Vec Ideal S8192x4608 .bf16) (y : Vec Ideal S2048x4608 .bf16) (a : Fin 8192) (b : Fin 2048) :
    product x y (ix2 a b) = ∑ k : Fin 4608, x (ix2 a k) * y (ix2 b k) :=
  Finset.sum_congr rfl fun k _ => congrArg₂ (· * ·) (entry_ix2 x a k) (entry_ix2 y b k)

theorem product_of (x : Vec Ideal S8192x4608 .bf16) (y : Vec Ideal S2048x4608 .bf16) (j : S8192x2048.Idx) {a b : Nat} (h0 : (j 0).val = a) (h1 : (j 1).val = b) :
    product x y j = ∑ k : Fin 4608, term x y a b k.val := by
  subst h0 h1
  rfl

theorem flushed2 (c : Dev nD) (t : Fin cfg0.N) (hf : (cfg0.win 2).flush t = true) :
    (dats m 0 c).flushed 2 t = ((cfg0.win 2).blk t).view.read (Elt Ideal) (product (V m c main_arg0) (V m c main_arg1)) := by
  have hl := (flush0_2 t).mp hf
  have hp := product_of (V m c main_arg0) (V m c main_arg1)
  generalize product (V m c main_arg0) (V m c main_arg1) = z at hp ⊢
  obtain ⟨n, hn⟩ := t
  obtain ⟨q, rfl⟩ : ∃ q, n = 4 * q + 3 := ⟨n / 4, by dsimp only at hl; omega⟩
  rw [Cert.OddInGradIdeal.Value.flushed2_C m c _ (by dsimp only; omega) (by dsimp only; omega) hl]
  funext j
  obtain ⟨a, b, rfl⟩ : ∃ (a b : Fin 1024), j = ix2 a b := ⟨j 0, j 1, eq_ix2 j⟩
  refine (last c _ _ _ _ _ _ _ _ _ _ _ _ a b _ _ _).trans ?_
  have before := gathered (p := 4 * q) (l := 3) (fun t h => (outsAt0 m c t h).2 (ix2 a b)) (part m c q a b)
    (fun h => at_first m c ⟨4 * q, h⟩ rfl a b) (fun s h hs => at_between m c ⟨4 * q + (s + 1), h⟩ rfl hs a b)
    2 (Nat.lt_of_succ_lt hn) (by decide)
  refine (congrArg₂ (· + ·) before (part_eq m c ⟨4 * q + 3, hn⟩ rfl (by decide) a b)).trans ?_
  rw [← Finset.sum_range_succ]
  show _ = z (((cfg0.win 2).blk ⟨4 * q + 3, hn⟩).view.emb (ix2 a b))
  have h := place ⟨4 * q + 3, hn⟩ a b
  rw [hp _ (h.1.trans (show _ = 1024 * (q / 2) + a.val by dsimp only; omega)) (h.2.trans (show _ = 1024 * (q % 2) + b.val by dsimp only; omega))]
  exact sum_blocks (n := 4) (b := 1152) (K := 4608) (by norm_num) (term (V m c main_arg0) (V m c main_arg1) (1024 * (q / 2) + a.val) (1024 * (q % 2) + b.val))

theorem covered2 (j : S8192x2048.Idx) : ∃ t : Fin cfg0.N, (cfg0.win 2).flush t = true ∧ j ∈ ((cfg0.win 2).blk t).view.set := by
  obtain ⟨a, b, rfl⟩ : ∃ (a : Fin 8192) (b : Fin 2048), j = ix2 a b := ⟨j 0, j 1, eq_ix2 j⟩
  have ha := a.isLt
  have hb := b.isLt
  obtain ⟨t, ht⟩ : ∃ t : Fin cfg0.N, t.val = 8 * (a.val / 1024) + 4 * (b.val / 1024) + 3 :=
    ⟨⟨8 * (a.val / 1024) + 4 * (b.val / 1024) + 3, by show _ < 64; omega⟩, rfl⟩
  obtain ⟨x, hx⟩ := reaches ((cfg0.win 2).blk t).view.emb (place t) (by decide) (by decide) a b (by omega) (by omega)
  exact ⟨t, (flush0_2 t).mpr (by omega), hx ▸ View.emb_mem_set _ _⟩

theorem final2 (c : Dev nD) : (dats m 0 c).arrAt 2 cfg0.N = product (V m c main_arg0) (V m c main_arg1) :=
  (dats m 0 c).arrAt_eq_of_cover 2 _ (fun t hf => flushed2 m c t hf) covered2

/-- The call ends, its arguments unchanged and its counters at zero. -/
theorem frame_kernel : Cert.quiescent_OddInGrad := fun m ρ _ => Cert.OddInGrad.Gen.frame m ρ

theorem frame_ideal : Cert.quiescent_OddInGradIdeal := fun m ρ _ => Cert.OddInGradIdeal.Gen.frame m ρ

/-- The reference ends with its arguments unchanged; it has no counter. -/
theorem frame_ref_ideal : Cert.quiescent_OddInGradRefIdeal := fun m ρ _ =>
  (θ_run Cert.OddInGradRefIdeal.defs _ _).mono
    (fun r h => ⟨fun c => (h c).2, sem_eq_zero_of_no_sems (by decide) r.2⟩)
    (Cert.OddInGradRefIdeal.Value.run (F := Ideal) m ρ)

theorem frame_ref : Cert.quiescent_OddInGradRef := fun m ρ _ =>
  (θ_run Cert.OddInGradRefIdeal.defs _ _).mono
    (fun r h => ⟨fun c => (h c).2, sem_eq_zero_of_no_sems (by decide) r.2⟩)
    (Cert.OddInGradRefIdeal.Value.run (F := Bits) m ρ)

/-- Over the reals the call's result is the product. -/
theorem algebraic : Cert.algebraic_OddInGradIdeal_OddInGradRefIdeal := by
  intro m ρ m' ρ' _ same
  refine ⟨_, (θ_run Cert.OddInGradIdeal.defs _ _).mono (fun r h c => h c) (Cert.OddInGradIdeal.Value.run_blocks (F := Ideal) m ρ), ?_⟩
  refine (θ_run Cert.OddInGradRefIdeal.defs _ _).mono (fun _ h c => ?_) (Cert.OddInGradRefIdeal.Value.run (F := Ideal) m' ρ')
  obtain ⟨hx, hy⟩ := same c
  obtain ⟨h1, kept⟩ := h c
  rw [hx, hy] at h1
  refine ⟨h1.trans ?_, kept⟩
  rw [final2, V_main_arg0, V_main_arg1]
  generalize m ((c.tc : Thread nD τ).loc main_arg0) = x
  generalize m ((c.tc : Thread nD τ).loc main_arg1) = y
  funext j
  obtain ⟨a, b, rfl⟩ : ∃ (a : Fin 8192) (b : Fin 2048), j = ix2 a b := ⟨j 0, j 1, eq_ix2 j⟩
  refine Eq.trans ?_ (product_apply x y a b).symm
  pointwise!

end Cert.Proof.OddInGrad

/-! ## The gradient taken back through the even input weight -/

namespace Cert.Proof.EvenInGrad

open Cert.EvenInGradIdeal Cert.EvenInGradIdeal.Gen

/-- The product of two blocks, the second one transposed. -/
def multiply (x : Vec Ideal S1024x2048 .bf16) (y : Vec Ideal S1024x2048 .bf16) (a b : Fin 1024) : EReal := ∑ k : Fin 2048, x (ix2 a k) * y (ix2 b k)

section Body
variable (c : Dev nD) (i : grid0.Coords) (arg3 : Memref sig .tc .vmem S1024x2048 .bf16) (harg3 : arg3.IsWhole) (arg4 : Memref sig .tc .vmem S1024x2048 .bf16) (harg4 : arg4.IsWhole) (arg5 : Memref sig .tc .vmem S1024x1024 .bf16) (harg5 : arg5.IsWhole) (arg6 : Memref sig .tc .vmem S1024x1024 .f32) (harg6 : arg6.IsWhole)
  (x : Vec Ideal S1024x2048 .bf16) (y : Vec Ideal S1024x2048 .bf16) (z : Vec Ideal S1024x1024 .f32) (a b : Fin 1024)

/-- The first point of a block leaves the product of its blocks, the second one transposed. -/
theorem first (hc0 : cond0_0 i) (hc1 : ¬cond0_1 i) (hc2 : ¬cond0_2 i) :
    sout0_A_0 c i arg3 harg3 arg4 harg4 arg5 harg5 arg6 harg6 hc0 hc1 hc2 x y (ix2 a b) = multiply x y a b := by
  unfold sout0_A_0
  rw [View.read_writes_eq_canon _ _ _ (scover0_A_0 c i arg3 harg3 arg4 harg4 arg5 harg5 arg6 harg6 hc0 hc1 hc2 x y)]
  unfold kernelRun0_A
  dsimp only
  rw [View.canon_unit_zero hz]
  simp only [View.readAt_eq_ld, View.ld_unit_zero (S := S1024x2048) hz, View.ld_unit_zero (S := S1024x1024) hz, harg3.read_unread, harg4.read_unread]
  unfold_payloads
  pointwise! [multiply]

/-- A point in between adds its product to what is there. -/
theorem between (hc0 : ¬cond0_0 i) (hc1 : cond0_1 i) (hc2 : ¬cond0_2 i) :
    sout0_B_0 c i arg3 harg3 arg4 harg4 arg5 harg5 arg6 harg6 hc0 hc1 hc2 x y z (ix2 a b) = z (ix2 a b) + multiply x y a b := by
  unfold sout0_B_0
  rw [View.read_writes_eq_canon _ _ _ (scover0_B_0 c i arg3 harg3 arg4 harg4 arg5 harg5 arg6 harg6 hc0 hc1 hc2 x y z)]
  unfold kernelRun0_B
  dsimp only
  rw [View.canon_unit_zero hz]
  simp only [View.readAt_eq_ld, View.ld_unit_zero (S := S1024x2048) hz, View.ld_unit_zero (S := S1024x1024) hz, harg3.read_unread, harg4.read_unread, harg6.read_unread]
  unfold_payloads
  pointwise! [multiply]

/-- The last point writes back what is there with its product. -/
theorem last (hc0 : ¬cond0_0 i) (hc1 : ¬cond0_1 i) (hc2 : cond0_2 i) :
    out0_C_2 c i arg3 harg3 arg4 harg4 arg5 harg5 arg6 harg6 hc0 hc1 hc2 x y z (ix2 a b) = z (ix2 a b) + multiply x y a b := by
  unfold out0_C_2
  rw [View.read_writes_eq_canon _ _ _ (cover0_C_2 c i arg3 harg3 arg4 harg4 arg5 harg5 arg6 harg6 hc0 hc1 hc2 x y z)]
  unfold kernelRun0_C
  dsimp only
  rw [View.canon_unit_zero hz]
  simp only [View.readAt_eq_ld, View.ld_unit_zero (S := S1024x2048) hz, View.ld_unit_zero (S := S1024x1024) hz, harg3.read_unread, harg4.read_unread, harg6.read_unread]
  unfold_payloads
  pointwise! [multiply]

end Body

variable (m : (ℓ : Loc nD τ sig) → Buf (Elt Ideal) ℓ)

theorem starts : ∀ t : Fin cfg0.N, (win0_0.index t 0 = t.val / 8 ∧ win0_0.index t 1 = t.val % 4) ∧ (win0_1.index t 0 = t.val / 4 % 2 ∧ win0_1.index t 1 = t.val % 4)
      ∧ win0_2.index t 0 = t.val / 8 ∧ win0_2.index t 1 = t.val / 4 % 2 :=
  (by decide +kernel : ∀ t : Fin grid0.N, (win0_0.index t 0 = t.val / 8 ∧ win0_0.index t 1 = t.val % 4) ∧ (win0_1.index t 0 = t.val / 4 % 2 ∧ win0_1.index t 1 = t.val % 4)
      ∧ win0_2.index t 0 = t.val / 8 ∧ win0_2.index t 1 = t.val / 4 % 2)

theorem block0 (c : Dev nD) (t : Fin cfg0.N) {q s : Nat} (ht : t.val = 4 * q + s) (hs : s < 4) (a : Fin 1024) (k : Fin 2048) :
    iblk m c 0 t (ix2 a k) = entry (V m c main_arg0) (1024 * (q / 2) + a.val) (2048 * s + k.val) := by
  have h := (starts t).1
  refine entry_of (V m c main_arg0) (((cfg0.win 0).blk t).view.emb (ix2 a k)) ?_ ?_
  · show win0_0.index t 0 * 1024 + 1 * a.val = _
    rw [h.1]; omega
  · show win0_0.index t 1 * 2048 + 1 * k.val = _
    rw [h.2]; omega

theorem block1 (c : Dev nD) (t : Fin cfg0.N) {q s : Nat} (ht : t.val = 4 * q + s) (hs : s < 4) (b : Fin 1024) (k : Fin 2048) :
    iblk m c 1 t (ix2 b k) = entry (V m c main_arg1) (1024 * (q % 2) + b.val) (2048 * s + k.val) := by
  have h := (starts t).2.1
  refine entry_of (V m c main_arg1) (((cfg0.win 1).blk t).view.emb (ix2 b k)) ?_ ?_
  · show win0_1.index t 0 * 1024 + 1 * b.val = _
    rw [h.1]; omega
  · show win0_1.index t 1 * 2048 + 1 * k.val = _
    rw [h.2]; omega

theorem place (t : Fin cfg0.N) (a b : Fin 1024) :
    (((cfg0.win 2).blk t).view.emb (ix2 a b) 0).val = 1024 * (t.val / 8) + a.val
      ∧ (((cfg0.win 2).blk t).view.emb (ix2 a b) 1).val = 1024 * (t.val / 4 % 2) + b.val := by
  have h := (starts t).2.2
  constructor
  · show win0_2.index t 0 * 1024 + 1 * a.val = _
    rw [h.1]; omega
  · show win0_2.index t 1 * 1024 + 1 * b.val = _
    rw [h.2]; omega

/-- A term of the product at two numbers. -/
def term (x : Vec Ideal S8192x8192 .bf16) (y : Vec Ideal S2048x8192 .bf16) (a b k : Nat) : EReal := entry x a k * entry y b k

/-- The `s`-th part of the result's block `q`. -/
def part (c : Dev nD) (q : Nat) (a b : Fin 1024) (s : Nat) : EReal := ∑ k : Fin 2048,
  term (V m c main_arg0) (V m c main_arg1) (1024 * (q / 2) + a.val) (1024 * (q % 2) + b.val) (2048 * s + k.val)

theorem part_eq (c : Dev nD) (t : Fin cfg0.N) {q s : Nat} (ht : t.val = 4 * q + s) (hs : s < 4) (a b : Fin 1024) :
    multiply (iblk m c 0 t) (iblk m c 1 t) a b = part m c q a b s :=
  Finset.sum_congr rfl fun k _ => congrArg₂ (· * ·) (block0 m c t ht hs a k) (block1 m c t ht hs b k)

theorem at_first (c : Dev nD) (t : Fin cfg0.N) {q : Nat} (ht : t.val = 4 * q + 0) (a b : Fin 1024) :
    (outsAt0 m c t.val t.isLt).2 (ix2 a b) = part m c q a b 0 := by
  rw [outsAt0_A m c t (by omega) (by omega) (by omega)]
  dsimp only
  rw [first, part_eq m c t ht (by decide)]

theorem at_between (c : Dev nD) (t : Fin cfg0.N) {q s : Nat} (ht : t.val = 4 * q + (s + 1)) (hs : s + 1 < 3) (a b : Fin 1024) :
    (outsAt0 m c t.val t.isLt).2 (ix2 a b)
      = (outsAt0 m c (t.val - 1) (Nat.lt_of_le_of_lt (Nat.sub_le _ _) t.isLt)).2 (ix2 a b) + part m c q a b (s + 1) := by
  rw [outsAt0_B m c t (by omega) (by omega) (by omega)]
  dsimp only
  rw [between, part_eq m c t ht (by omega)]

/-- The product of the whole arrays, the second one transposed. -/
def product (x : Vec Ideal S8192x8192 .bf16) (y : Vec Ideal S2048x8192 .bf16) : Vec Ideal S8192x2048 .bf16 := fun j =>
  ∑ k : Fin 8192, term x y (j 0).val (j 1).val k.val

theorem product_apply (x : Vec Ideal S8192x8192 .bf16) (y : Vec Ideal S2048x8192 .bf16) (a : Fin 8192) (b : Fin 2048) :
    product x y (ix2 a b) = ∑ k : Fin 8192, x (ix2 a k) * y (ix2 b k) :=
  Finset.sum_congr rfl fun k _ => congrArg₂ (· * ·) (entry_ix2 x a k) (entry_ix2 y b k)

theorem product_of (x : Vec Ideal S8192x8192 .bf16) (y : Vec Ideal S2048x8192 .bf16) (j : S8192x2048.Idx) {a b : Nat} (h0 : (j 0).val = a) (h1 : (j 1).val = b) :
    product x y j = ∑ k : Fin 8192, term x y a b k.val := by
  subst h0 h1
  rfl

theorem flushed2 (c : Dev nD) (t : Fin cfg0.N) (hf : (cfg0.win 2).flush t = true) :
    (dats m 0 c).flushed 2 t = ((cfg0.win 2).blk t).view.read (Elt Ideal) (product (V m c main_arg0) (V m c main_arg1)) := by
  have hl := (flush0_2 t).mp hf
  have hp := product_of (V m c main_arg0) (V m c main_arg1)
  generalize product (V m c main_arg0) (V m c main_arg1) = z at hp ⊢
  obtain ⟨n, hn⟩ := t
  obtain ⟨q, rfl⟩ : ∃ q, n = 4 * q + 3 := ⟨n / 4, by dsimp only at hl; omega⟩
  rw [Cert.EvenInGradIdeal.Value.flushed2_C m c _ (by dsimp only; omega) (by dsimp only; omega) hl]
  funext j
  obtain ⟨a, b, rfl⟩ : ∃ (a b : Fin 1024), j = ix2 a b := ⟨j 0, j 1, eq_ix2 j⟩
  refine (last c _ _ _ _ _ _ _ _ _ _ _ _ a b _ _ _).trans ?_
  have before := gathered (p := 4 * q) (l := 3) (fun t h => (outsAt0 m c t h).2 (ix2 a b)) (part m c q a b)
    (fun h => at_first m c ⟨4 * q, h⟩ rfl a b) (fun s h hs => at_between m c ⟨4 * q + (s + 1), h⟩ rfl hs a b)
    2 (Nat.lt_of_succ_lt hn) (by decide)
  refine (congrArg₂ (· + ·) before (part_eq m c ⟨4 * q + 3, hn⟩ rfl (by decide) a b)).trans ?_
  rw [← Finset.sum_range_succ]
  show _ = z (((cfg0.win 2).blk ⟨4 * q + 3, hn⟩).view.emb (ix2 a b))
  have h := place ⟨4 * q + 3, hn⟩ a b
  rw [hp _ (h.1.trans (show _ = 1024 * (q / 2) + a.val by dsimp only; omega)) (h.2.trans (show _ = 1024 * (q % 2) + b.val by dsimp only; omega))]
  exact sum_blocks (n := 4) (b := 2048) (K := 8192) (by norm_num) (term (V m c main_arg0) (V m c main_arg1) (1024 * (q / 2) + a.val) (1024 * (q % 2) + b.val))

theorem covered2 (j : S8192x2048.Idx) : ∃ t : Fin cfg0.N, (cfg0.win 2).flush t = true ∧ j ∈ ((cfg0.win 2).blk t).view.set := by
  obtain ⟨a, b, rfl⟩ : ∃ (a : Fin 8192) (b : Fin 2048), j = ix2 a b := ⟨j 0, j 1, eq_ix2 j⟩
  have ha := a.isLt
  have hb := b.isLt
  obtain ⟨t, ht⟩ : ∃ t : Fin cfg0.N, t.val = 8 * (a.val / 1024) + 4 * (b.val / 1024) + 3 :=
    ⟨⟨8 * (a.val / 1024) + 4 * (b.val / 1024) + 3, by show _ < 64; omega⟩, rfl⟩
  obtain ⟨x, hx⟩ := reaches ((cfg0.win 2).blk t).view.emb (place t) (by decide) (by decide) a b (by omega) (by omega)
  exact ⟨t, (flush0_2 t).mpr (by omega), hx ▸ View.emb_mem_set _ _⟩

theorem final2 (c : Dev nD) : (dats m 0 c).arrAt 2 cfg0.N = product (V m c main_arg0) (V m c main_arg1) :=
  (dats m 0 c).arrAt_eq_of_cover 2 _ (fun t hf => flushed2 m c t hf) covered2

/-- The call ends, its arguments unchanged and its counters at zero. -/
theorem frame_kernel : Cert.quiescent_EvenInGrad := fun m ρ _ => Cert.EvenInGrad.Gen.frame m ρ

theorem frame_ideal : Cert.quiescent_EvenInGradIdeal := fun m ρ _ => Cert.EvenInGradIdeal.Gen.frame m ρ

/-- The reference ends with its arguments unchanged; it has no counter. -/
theorem frame_ref_ideal : Cert.quiescent_EvenInGradRefIdeal := fun m ρ _ =>
  (θ_run Cert.EvenInGradRefIdeal.defs _ _).mono
    (fun r h => ⟨fun c => (h c).2, sem_eq_zero_of_no_sems (by decide) r.2⟩)
    (Cert.EvenInGradRefIdeal.Value.run (F := Ideal) m ρ)

theorem frame_ref : Cert.quiescent_EvenInGradRef := fun m ρ _ =>
  (θ_run Cert.EvenInGradRefIdeal.defs _ _).mono
    (fun r h => ⟨fun c => (h c).2, sem_eq_zero_of_no_sems (by decide) r.2⟩)
    (Cert.EvenInGradRefIdeal.Value.run (F := Bits) m ρ)

/-- Over the reals the call's result is the product. -/
theorem algebraic : Cert.algebraic_EvenInGradIdeal_EvenInGradRefIdeal := by
  intro m ρ m' ρ' _ same
  refine ⟨_, (θ_run Cert.EvenInGradIdeal.defs _ _).mono (fun r h c => h c) (Cert.EvenInGradIdeal.Value.run_blocks (F := Ideal) m ρ), ?_⟩
  refine (θ_run Cert.EvenInGradRefIdeal.defs _ _).mono (fun _ h c => ?_) (Cert.EvenInGradRefIdeal.Value.run (F := Ideal) m' ρ')
  obtain ⟨hx, hy⟩ := same c
  obtain ⟨h1, kept⟩ := h c
  rw [hx, hy] at h1
  refine ⟨h1.trans ?_, kept⟩
  rw [final2, V_main_arg0, V_main_arg1]
  generalize m ((c.tc : Thread nD τ).loc main_arg0) = x
  generalize m ((c.tc : Thread nD τ).loc main_arg1) = y
  funext j
  obtain ⟨a, b, rfl⟩ : ∃ (a : Fin 8192) (b : Fin 2048), j = ix2 a b := ⟨j 0, j 1, eq_ix2 j⟩
  refine Eq.trans ?_ (product_apply x y a b).symm
  pointwise!

end Cert.Proof.EvenInGrad

/-! ## The gradient of an output weight -/

namespace Cert.Proof.OutWeightGrad

open Cert.OutWeightGradIdeal Cert.OutWeightGradIdeal.Gen

/-- The product of two blocks, the first one transposed. -/
def multiply (x : Vec Ideal S1024x1024 .bf16) (y : Vec Ideal S1024x1024 .bf16) (a b : Fin 1024) : EReal := ∑ k : Fin 1024, x (ix2 k a) * y (ix2 k b)

section Body
variable (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole)
  (x : Vec Ideal S1024x1024 .bf16) (y : Vec Ideal S1024x1024 .bf16) (z : Vec Ideal S1024x1024 .f32) (a b : Fin 1024)

/-- The first point of a block leaves the product of its blocks, the first one transposed. -/
theorem first (hc0 : cond0_0 i) (hc1 : ¬cond0_1 i) (hc2 : ¬cond0_2 i) :
    sout0_A_0 c i arg3 harg3 arg4 harg4 arg5 harg5 arg6 harg6 hc0 hc1 hc2 x y (ix2 a b) = multiply x y a b := by
  unfold sout0_A_0
  rw [View.read_writes_eq_canon _ _ _ (scover0_A_0 c i arg3 harg3 arg4 harg4 arg5 harg5 arg6 harg6 hc0 hc1 hc2 x y)]
  unfold kernelRun0_A
  dsimp only
  rw [View.canon_unit_zero hz]
  simp only [View.readAt_eq_ld, View.ld_unit_zero (S := S1024x1024) hz, harg3.read_unread, harg4.read_unread]
  unfold_payloads
  pointwise! [multiply]

/-- A point in between adds its product to what is there. -/
theorem between (hc0 : ¬cond0_0 i) (hc1 : cond0_1 i) (hc2 : ¬cond0_2 i) :
    sout0_B_0 c i arg3 harg3 arg4 harg4 arg5 harg5 arg6 harg6 hc0 hc1 hc2 x y z (ix2 a b) = z (ix2 a b) + multiply x y a b := by
  unfold sout0_B_0
  rw [View.read_writes_eq_canon _ _ _ (scover0_B_0 c i arg3 harg3 arg4 harg4 arg5 harg5 arg6 harg6 hc0 hc1 hc2 x y z)]
  unfold kernelRun0_B
  dsimp only
  rw [View.canon_unit_zero hz]
  simp only [View.readAt_eq_ld, View.ld_unit_zero (S := S1024x1024) hz, harg3.read_unread, harg4.read_unread, harg6.read_unread]
  unfold_payloads
  pointwise! [multiply]

/-- The last point writes back what is there with its product. -/
theorem last (hc0 : ¬cond0_0 i) (hc1 : ¬cond0_1 i) (hc2 : cond0_2 i) :
    out0_C_2 c i arg3 harg3 arg4 harg4 arg5 harg5 arg6 harg6 hc0 hc1 hc2 x y z (ix2 a b) = z (ix2 a b) + multiply x y a b := by
  unfold out0_C_2
  rw [View.read_writes_eq_canon _ _ _ (cover0_C_2 c i arg3 harg3 arg4 harg4 arg5 harg5 arg6 harg6 hc0 hc1 hc2 x y z)]
  unfold kernelRun0_C
  dsimp only
  rw [View.canon_unit_zero hz]
  simp only [View.readAt_eq_ld, View.ld_unit_zero (S := S1024x1024) hz, harg3.read_unread, harg4.read_unread, harg6.read_unread]
  unfold_payloads
  pointwise! [multiply]

end Body

variable (m : (ℓ : Loc nD τ sig) → Buf (Elt Ideal) ℓ)

theorem starts : ∀ t : Fin cfg0.N, (win0_0.index t 0 = t.val % 8 ∧ win0_0.index t 1 = t.val / 16) ∧ (win0_1.index t 0 = t.val % 8 ∧ win0_1.index t 1 = t.val / 8 % 2)
      ∧ win0_2.index t 0 = t.val / 16 ∧ win0_2.index t 1 = t.val / 8 % 2 :=
  (by decide +kernel : ∀ t : Fin grid0.N, (win0_0.index t 0 = t.val % 8 ∧ win0_0.index t 1 = t.val / 16) ∧ (win0_1.index t 0 = t.val % 8 ∧ win0_1.index t 1 = t.val / 8 % 2)
      ∧ win0_2.index t 0 = t.val / 16 ∧ win0_2.index t 1 = t.val / 8 % 2)

theorem block0 (c : Dev nD) (t : Fin cfg0.N) {q s : Nat} (ht : t.val = 8 * q + s) (hs : s < 8) (k : Fin 1024) (a : Fin 1024) :
    iblk m c 0 t (ix2 k a) = entry (V m c main_arg0) (1024 * s + k.val) (1024 * (q / 2) + a.val) := by
  have h := (starts t).1
  refine entry_of (V m c main_arg0) (((cfg0.win 0).blk t).view.emb (ix2 k a)) ?_ ?_
  · show win0_0.index t 0 * 1024 + 1 * k.val = _
    rw [h.1]; omega
  · show win0_0.index t 1 * 1024 + 1 * a.val = _
    rw [h.2]; omega

theorem block1 (c : Dev nD) (t : Fin cfg0.N) {q s : Nat} (ht : t.val = 8 * q + s) (hs : s < 8) (k : Fin 1024) (b : Fin 1024) :
    iblk m c 1 t (ix2 k b) = entry (V m c main_arg1) (1024 * s + k.val) (1024 * (q % 2) + b.val) := by
  have h := (starts t).2.1
  refine entry_of (V m c main_arg1) (((cfg0.win 1).blk t).view.emb (ix2 k b)) ?_ ?_
  · show win0_1.index t 0 * 1024 + 1 * k.val = _
    rw [h.1]; omega
  · show win0_1.index t 1 * 1024 + 1 * b.val = _
    rw [h.2]; omega

theorem place (t : Fin cfg0.N) (a b : Fin 1024) :
    (((cfg0.win 2).blk t).view.emb (ix2 a b) 0).val = 1024 * (t.val / 16) + a.val
      ∧ (((cfg0.win 2).blk t).view.emb (ix2 a b) 1).val = 1024 * (t.val / 8 % 2) + b.val := by
  have h := (starts t).2.2
  constructor
  · show win0_2.index t 0 * 1024 + 1 * a.val = _
    rw [h.1]; omega
  · show win0_2.index t 1 * 1024 + 1 * b.val = _
    rw [h.2]; omega

/-- A term of the product at two numbers. -/
def term (x : Vec Ideal S8192x2048 .bf16) (y : Vec Ideal S8192x2048 .bf16) (a b k : Nat) : EReal := entry x k a * entry y k b

/-- The `s`-th part of the result's block `q`. -/
def part (c : Dev nD) (q : Nat) (a b : Fin 1024) (s : Nat) : EReal := ∑ k : Fin 1024,
  term (V m c main_arg0) (V m c main_arg1) (1024 * (q / 2) + a.val) (1024 * (q % 2) + b.val) (1024 * s + k.val)

theorem part_eq (c : Dev nD) (t : Fin cfg0.N) {q s : Nat} (ht : t.val = 8 * q + s) (hs : s < 8) (a b : Fin 1024) :
    multiply (iblk m c 0 t) (iblk m c 1 t) a b = part m c q a b s :=
  Finset.sum_congr rfl fun k _ => congrArg₂ (· * ·) (block0 m c t ht hs k a) (block1 m c t ht hs k b)

theorem at_first (c : Dev nD) (t : Fin cfg0.N) {q : Nat} (ht : t.val = 8 * q + 0) (a b : Fin 1024) :
    (outsAt0 m c t.val t.isLt).2 (ix2 a b) = part m c q a b 0 := by
  rw [outsAt0_A m c t (by omega) (by omega) (by omega)]
  dsimp only
  rw [first, part_eq m c t ht (by decide)]

theorem at_between (c : Dev nD) (t : Fin cfg0.N) {q s : Nat} (ht : t.val = 8 * q + (s + 1)) (hs : s + 1 < 7) (a b : Fin 1024) :
    (outsAt0 m c t.val t.isLt).2 (ix2 a b)
      = (outsAt0 m c (t.val - 1) (Nat.lt_of_le_of_lt (Nat.sub_le _ _) t.isLt)).2 (ix2 a b) + part m c q a b (s + 1) := by
  rw [outsAt0_B m c t (by omega) (by omega) (by omega)]
  dsimp only
  rw [between, part_eq m c t ht (by omega)]

/-- The product of the whole arrays, the first one transposed. -/
def product (x : Vec Ideal S8192x2048 .bf16) (y : Vec Ideal S8192x2048 .bf16) : Vec Ideal S2048x2048 .bf16 := fun j =>
  ∑ k : Fin 8192, term x y (j 0).val (j 1).val k.val

theorem product_apply (x : Vec Ideal S8192x2048 .bf16) (y : Vec Ideal S8192x2048 .bf16) (a b : Fin 2048) :
    product x y (ix2 a b) = ∑ k : Fin 8192, x (ix2 k a) * y (ix2 k b) :=
  Finset.sum_congr rfl fun k _ => congrArg₂ (· * ·) (entry_ix2 x k a) (entry_ix2 y k b)

theorem product_of (x : Vec Ideal S8192x2048 .bf16) (y : Vec Ideal S8192x2048 .bf16) (j : S2048x2048.Idx) {a b : Nat} (h0 : (j 0).val = a) (h1 : (j 1).val = b) :
    product x y j = ∑ k : Fin 8192, term x y a b k.val := by
  subst h0 h1
  rfl

theorem flushed2 (c : Dev nD) (t : Fin cfg0.N) (hf : (cfg0.win 2).flush t = true) :
    (dats m 0 c).flushed 2 t = ((cfg0.win 2).blk t).view.read (Elt Ideal) (product (V m c main_arg0) (V m c main_arg1)) := by
  have hl := (flush0_2 t).mp hf
  have hp := product_of (V m c main_arg0) (V m c main_arg1)
  generalize product (V m c main_arg0) (V m c main_arg1) = z at hp ⊢
  obtain ⟨n, hn⟩ := t
  obtain ⟨q, rfl⟩ : ∃ q, n = 8 * q + 7 := ⟨n / 8, by dsimp only at hl; omega⟩
  rw [Cert.OutWeightGradIdeal.Value.flushed2_C m c _ (by dsimp only; omega) (by dsimp only; omega) hl]
  funext j
  obtain ⟨a, b, rfl⟩ : ∃ (a b : Fin 1024), j = ix2 a b := ⟨j 0, j 1, eq_ix2 j⟩
  refine (last c _ _ _ _ _ _ _ _ _ _ _ _ a b _ _ _).trans ?_
  have before := gathered (p := 8 * q) (l := 7) (fun t h => (outsAt0 m c t h).2 (ix2 a b)) (part m c q a b)
    (fun h => at_first m c ⟨8 * q, h⟩ rfl a b) (fun s h hs => at_between m c ⟨8 * q + (s + 1), h⟩ rfl hs a b)
    6 (Nat.lt_of_succ_lt hn) (by decide)
  refine (congrArg₂ (· + ·) before (part_eq m c ⟨8 * q + 7, hn⟩ rfl (by decide) a b)).trans ?_
  rw [← Finset.sum_range_succ]
  show _ = z (((cfg0.win 2).blk ⟨8 * q + 7, hn⟩).view.emb (ix2 a b))
  have h := place ⟨8 * q + 7, hn⟩ a b
  rw [hp _ (h.1.trans (show _ = 1024 * (q / 2) + a.val by dsimp only; omega)) (h.2.trans (show _ = 1024 * (q % 2) + b.val by dsimp only; omega))]
  exact sum_blocks (n := 8) (b := 1024) (K := 8192) (by norm_num) (term (V m c main_arg0) (V m c main_arg1) (1024 * (q / 2) + a.val) (1024 * (q % 2) + b.val))

theorem covered2 (j : S2048x2048.Idx) : ∃ t : Fin cfg0.N, (cfg0.win 2).flush t = true ∧ j ∈ ((cfg0.win 2).blk t).view.set := by
  obtain ⟨a, b, rfl⟩ : ∃ (a b : Fin 2048), j = ix2 a b := ⟨j 0, j 1, eq_ix2 j⟩
  have ha := a.isLt
  have hb := b.isLt
  obtain ⟨t, ht⟩ : ∃ t : Fin cfg0.N, t.val = 16 * (a.val / 1024) + 8 * (b.val / 1024) + 7 :=
    ⟨⟨16 * (a.val / 1024) + 8 * (b.val / 1024) + 7, by show _ < 32; omega⟩, rfl⟩
  obtain ⟨x, hx⟩ := reaches ((cfg0.win 2).blk t).view.emb (place t) (by decide) (by decide) a b (by omega) (by omega)
  exact ⟨t, (flush0_2 t).mpr (by omega), hx ▸ View.emb_mem_set _ _⟩

theorem final2 (c : Dev nD) : (dats m 0 c).arrAt 2 cfg0.N = product (V m c main_arg0) (V m c main_arg1) :=
  (dats m 0 c).arrAt_eq_of_cover 2 _ (fun t hf => flushed2 m c t hf) covered2

/-- The call ends, its arguments unchanged and its counters at zero. -/
theorem frame_kernel : Cert.quiescent_OutWeightGrad := fun m ρ _ => Cert.OutWeightGrad.Gen.frame m ρ

theorem frame_ideal : Cert.quiescent_OutWeightGradIdeal := fun m ρ _ => Cert.OutWeightGradIdeal.Gen.frame m ρ

/-- The reference ends with its arguments unchanged; it has no counter. -/
theorem frame_ref_ideal : Cert.quiescent_OutWeightGradRefIdeal := fun m ρ _ =>
  (θ_run Cert.OutWeightGradRefIdeal.defs _ _).mono
    (fun r h => ⟨fun c => (h c).2, sem_eq_zero_of_no_sems (by decide) r.2⟩)
    (Cert.OutWeightGradRefIdeal.Value.run (F := Ideal) m ρ)

theorem frame_ref : Cert.quiescent_OutWeightGradRef := fun m ρ _ =>
  (θ_run Cert.OutWeightGradRefIdeal.defs _ _).mono
    (fun r h => ⟨fun c => (h c).2, sem_eq_zero_of_no_sems (by decide) r.2⟩)
    (Cert.OutWeightGradRefIdeal.Value.run (F := Bits) m ρ)

/-- Over the reals the call's result is the product. -/
theorem algebraic : Cert.algebraic_OutWeightGradIdeal_OutWeightGradRefIdeal := by
  intro m ρ m' ρ' _ same
  refine ⟨_, (θ_run Cert.OutWeightGradIdeal.defs _ _).mono (fun r h c => h c) (Cert.OutWeightGradIdeal.Value.run_blocks (F := Ideal) m ρ), ?_⟩
  refine (θ_run Cert.OutWeightGradRefIdeal.defs _ _).mono (fun _ h c => ?_) (Cert.OutWeightGradRefIdeal.Value.run (F := Ideal) m' ρ')
  obtain ⟨hx, hy⟩ := same c
  obtain ⟨h1, kept⟩ := h c
  rw [hx, hy] at h1
  refine ⟨h1.trans ?_, kept⟩
  rw [final2, V_main_arg0, V_main_arg1]
  generalize m ((c.tc : Thread nD τ).loc main_arg0) = x
  generalize m ((c.tc : Thread nD τ).loc main_arg1) = y
  funext j
  obtain ⟨a, b, rfl⟩ : ∃ (a b : Fin 2048), j = ix2 a b := ⟨j 0, j 1, eq_ix2 j⟩
  refine Eq.trans ?_ (product_apply x y a b).symm
  pointwise!

end Cert.Proof.OutWeightGrad

/-! ## The gradient of the odd input weight -/

namespace Cert.Proof.OddInWeightGrad

open Cert.OddInWeightGradIdeal Cert.OddInWeightGradIdeal.Gen

/-- The product of two blocks, the first one transposed. -/
def multiply (x : Vec Ideal S1024x1024 .bf16) (y : Vec Ideal S1024x1152 .bf16) (a : Fin 1024) (b : Fin 1152) : EReal := ∑ k : Fin 1024, x (ix2 k a) * y (ix2 k b)

section Body
variable (c : Dev nD) (i : grid0.Coords) (arg3 : Memref sig .tc .vmem S1024x1024 .bf16) (harg3 : arg3.IsWhole) (arg4 : Memref sig .tc .vmem S1024x1152 .bf16) (harg4 : arg4.IsWhole) (arg5 : Memref sig .tc .vmem S1024x1152 .bf16) (harg5 : arg5.IsWhole) (arg6 : Memref sig .tc .vmem S1024x1152 .f32) (harg6 : arg6.IsWhole)
  (x : Vec Ideal S1024x1024 .bf16) (y : Vec Ideal S1024x1152 .bf16) (z : Vec Ideal S1024x1152 .f32) (a : Fin 1024) (b : Fin 1152)

/-- The first point of a block leaves the product of its blocks, the first one transposed. -/
theorem first (hc0 : cond0_0 i) (hc1 : ¬cond0_1 i) (hc2 : ¬cond0_2 i) :
    sout0_A_0 c i arg3 harg3 arg4 harg4 arg5 harg5 arg6 harg6 hc0 hc1 hc2 x y (ix2 a b) = multiply x y a b := by
  unfold sout0_A_0
  rw [View.read_writes_eq_canon _ _ _ (scover0_A_0 c i arg3 harg3 arg4 harg4 arg5 harg5 arg6 harg6 hc0 hc1 hc2 x y)]
  unfold kernelRun0_A
  dsimp only
  rw [View.canon_unit_zero hz]
  simp only [View.readAt_eq_ld, View.ld_unit_zero (S := S1024x1024) hz, View.ld_unit_zero (S := S1024x1152) hz, harg3.read_unread, harg4.read_unread]
  unfold_payloads
  pointwise! [multiply]

/-- A point in between adds its product to what is there. -/
theorem between (hc0 : ¬cond0_0 i) (hc1 : cond0_1 i) (hc2 : ¬cond0_2 i) :
    sout0_B_0 c i arg3 harg3 arg4 harg4 arg5 harg5 arg6 harg6 hc0 hc1 hc2 x y z (ix2 a b) = z (ix2 a b) + multiply x y a b := by
  unfold sout0_B_0
  rw [View.read_writes_eq_canon _ _ _ (scover0_B_0 c i arg3 harg3 arg4 harg4 arg5 harg5 arg6 harg6 hc0 hc1 hc2 x y z)]
  unfold kernelRun0_B
  dsimp only
  rw [View.canon_unit_zero hz]
  simp only [View.readAt_eq_ld, View.ld_unit_zero (S := S1024x1024) hz, View.ld_unit_zero (S := S1024x1152) hz, harg3.read_unread, harg4.read_unread, harg6.read_unread]
  unfold_payloads
  pointwise! [multiply]

/-- The last point writes back what is there with its product. -/
theorem last (hc0 : ¬cond0_0 i) (hc1 : ¬cond0_1 i) (hc2 : cond0_2 i) :
    out0_C_2 c i arg3 harg3 arg4 harg4 arg5 harg5 arg6 harg6 hc0 hc1 hc2 x y z (ix2 a b) = z (ix2 a b) + multiply x y a b := by
  unfold out0_C_2
  rw [View.read_writes_eq_canon _ _ _ (cover0_C_2 c i arg3 harg3 arg4 harg4 arg5 harg5 arg6 harg6 hc0 hc1 hc2 x y z)]
  unfold kernelRun0_C
  dsimp only
  rw [View.canon_unit_zero hz]
  simp only [View.readAt_eq_ld, View.ld_unit_zero (S := S1024x1024) hz, View.ld_unit_zero (S := S1024x1152) hz, harg3.read_unread, harg4.read_unread, harg6.read_unread]
  unfold_payloads
  pointwise! [multiply]

end Body

variable (m : (ℓ : Loc nD τ sig) → Buf (Elt Ideal) ℓ)

theorem starts : ∀ t : Fin cfg0.N, (win0_0.index t 0 = t.val % 8 ∧ win0_0.index t 1 = t.val / 32) ∧ (win0_1.index t 0 = t.val % 8 ∧ win0_1.index t 1 = t.val / 8 % 4)
      ∧ win0_2.index t 0 = t.val / 32 ∧ win0_2.index t 1 = t.val / 8 % 4 :=
  (by decide +kernel : ∀ t : Fin grid0.N, (win0_0.index t 0 = t.val % 8 ∧ win0_0.index t 1 = t.val / 32) ∧ (win0_1.index t 0 = t.val % 8 ∧ win0_1.index t 1 = t.val / 8 % 4)
      ∧ win0_2.index t 0 = t.val / 32 ∧ win0_2.index t 1 = t.val / 8 % 4)

theorem block0 (c : Dev nD) (t : Fin cfg0.N) {q s : Nat} (ht : t.val = 8 * q + s) (hs : s < 8) (k : Fin 1024) (a : Fin 1024) :
    iblk m c 0 t (ix2 k a) = entry (V m c main_arg0) (1024 * s + k.val) (1024 * (q / 4) + a.val) := by
  have h := (starts t).1
  refine entry_of (V m c main_arg0) (((cfg0.win 0).blk t).view.emb (ix2 k a)) ?_ ?_
  · show win0_0.index t 0 * 1024 + 1 * k.val = _
    rw [h.1]; omega
  · show win0_0.index t 1 * 1024 + 1 * a.val = _
    rw [h.2]; omega

theorem block1 (c : Dev nD) (t : Fin cfg0.N) {q s : Nat} (ht : t.val = 8 * q + s) (hs : s < 8) (k : Fin 1024) (b : Fin 1152) :
    iblk m c 1 t (ix2 k b) = entry (V m c main_arg1) (1024 * s + k.val) (1152 * (q % 4) + b.val) := by
  have h := (starts t).2.1
  refine entry_of (V m c main_arg1) (((cfg0.win 1).blk t).view.emb (ix2 k b)) ?_ ?_
  · show win0_1.index t 0 * 1024 + 1 * k.val = _
    rw [h.1]; omega
  · show win0_1.index t 1 * 1152 + 1 * b.val = _
    rw [h.2]; omega

theorem place (t : Fin cfg0.N) (a : Fin 1024) (b : Fin 1152) :
    (((cfg0.win 2).blk t).view.emb (ix2 a b) 0).val = 1024 * (t.val / 32) + a.val
      ∧ (((cfg0.win 2).blk t).view.emb (ix2 a b) 1).val = 1152 * (t.val / 8 % 4) + b.val := by
  have h := (starts t).2.2
  constructor
  · show win0_2.index t 0 * 1024 + 1 * a.val = _
    rw [h.1]; omega
  · show win0_2.index t 1 * 1152 + 1 * b.val = _
    rw [h.2]; omega

/-- A term of the product at two numbers. -/
def term (x : Vec Ideal S8192x2048 .bf16) (y : Vec Ideal S8192x4608 .bf16) (a b k : Nat) : EReal := entry x k a * entry y k b

/-- The `s`-th part of the result's block `q`. -/
def part (c : Dev nD) (q : Nat) (a : Fin 1024) (b : Fin 1152) (s : Nat) : EReal := ∑ k : Fin 1024,
  term (V m c main_arg0) (V m c main_arg1) (1024 * (q / 4) + a.val) (1152 * (q % 4) + b.val) (1024 * s + k.val)

theorem part_eq (c : Dev nD) (t : Fin cfg0.N) {q s : Nat} (ht : t.val = 8 * q + s) (hs : s < 8) (a : Fin 1024) (b : Fin 1152) :
    multiply (iblk m c 0 t) (iblk m c 1 t) a b = part m c q a b s :=
  Finset.sum_congr rfl fun k _ => congrArg₂ (· * ·) (block0 m c t ht hs k a) (block1 m c t ht hs k b)

theorem at_first (c : Dev nD) (t : Fin cfg0.N) {q : Nat} (ht : t.val = 8 * q + 0) (a : Fin 1024) (b : Fin 1152) :
    (outsAt0 m c t.val t.isLt).2 (ix2 a b) = part m c q a b 0 := by
  rw [outsAt0_A m c t (by omega) (by omega) (by omega)]
  dsimp only
  rw [first, part_eq m c t ht (by decide)]

theorem at_between (c : Dev nD) (t : Fin cfg0.N) {q s : Nat} (ht : t.val = 8 * q + (s + 1)) (hs : s + 1 < 7) (a : Fin 1024) (b : Fin 1152) :
    (outsAt0 m c t.val t.isLt).2 (ix2 a b)
      = (outsAt0 m c (t.val - 1) (Nat.lt_of_le_of_lt (Nat.sub_le _ _) t.isLt)).2 (ix2 a b) + part m c q a b (s + 1) := by
  rw [outsAt0_B m c t (by omega) (by omega) (by omega)]
  dsimp only
  rw [between, part_eq m c t ht (by omega)]

/-- The product of the whole arrays, the first one transposed. -/
def product (x : Vec Ideal S8192x2048 .bf16) (y : Vec Ideal S8192x4608 .bf16) : Vec Ideal S2048x4608 .bf16 := fun j =>
  ∑ k : Fin 8192, term x y (j 0).val (j 1).val k.val

theorem product_apply (x : Vec Ideal S8192x2048 .bf16) (y : Vec Ideal S8192x4608 .bf16) (a : Fin 2048) (b : Fin 4608) :
    product x y (ix2 a b) = ∑ k : Fin 8192, x (ix2 k a) * y (ix2 k b) :=
  Finset.sum_congr rfl fun k _ => congrArg₂ (· * ·) (entry_ix2 x k a) (entry_ix2 y k b)

theorem product_of (x : Vec Ideal S8192x2048 .bf16) (y : Vec Ideal S8192x4608 .bf16) (j : S2048x4608.Idx) {a b : Nat} (h0 : (j 0).val = a) (h1 : (j 1).val = b) :
    product x y j = ∑ k : Fin 8192, term x y a b k.val := by
  subst h0 h1
  rfl

theorem flushed2 (c : Dev nD) (t : Fin cfg0.N) (hf : (cfg0.win 2).flush t = true) :
    (dats m 0 c).flushed 2 t = ((cfg0.win 2).blk t).view.read (Elt Ideal) (product (V m c main_arg0) (V m c main_arg1)) := by
  have hl := (flush0_2 t).mp hf
  have hp := product_of (V m c main_arg0) (V m c main_arg1)
  generalize product (V m c main_arg0) (V m c main_arg1) = z at hp ⊢
  obtain ⟨n, hn⟩ := t
  obtain ⟨q, rfl⟩ : ∃ q, n = 8 * q + 7 := ⟨n / 8, by dsimp only at hl; omega⟩
  rw [Cert.OddInWeightGradIdeal.Value.flushed2_C m c _ (by dsimp only; omega) (by dsimp only; omega) hl]
  funext j
  obtain ⟨a, b, rfl⟩ : ∃ (a : Fin 1024) (b : Fin 1152), j = ix2 a b := ⟨j 0, j 1, eq_ix2 j⟩
  refine (last c _ _ _ _ _ _ _ _ _ _ _ _ a b _ _ _).trans ?_
  have before := gathered (p := 8 * q) (l := 7) (fun t h => (outsAt0 m c t h).2 (ix2 a b)) (part m c q a b)
    (fun h => at_first m c ⟨8 * q, h⟩ rfl a b) (fun s h hs => at_between m c ⟨8 * q + (s + 1), h⟩ rfl hs a b)
    6 (Nat.lt_of_succ_lt hn) (by decide)
  refine (congrArg₂ (· + ·) before (part_eq m c ⟨8 * q + 7, hn⟩ rfl (by decide) a b)).trans ?_
  rw [← Finset.sum_range_succ]
  show _ = z (((cfg0.win 2).blk ⟨8 * q + 7, hn⟩).view.emb (ix2 a b))
  have h := place ⟨8 * q + 7, hn⟩ a b
  rw [hp _ (h.1.trans (show _ = 1024 * (q / 4) + a.val by dsimp only; omega)) (h.2.trans (show _ = 1152 * (q % 4) + b.val by dsimp only; omega))]
  exact sum_blocks (n := 8) (b := 1024) (K := 8192) (by norm_num) (term (V m c main_arg0) (V m c main_arg1) (1024 * (q / 4) + a.val) (1152 * (q % 4) + b.val))

theorem covered2 (j : S2048x4608.Idx) : ∃ t : Fin cfg0.N, (cfg0.win 2).flush t = true ∧ j ∈ ((cfg0.win 2).blk t).view.set := by
  obtain ⟨a, b, rfl⟩ : ∃ (a : Fin 2048) (b : Fin 4608), j = ix2 a b := ⟨j 0, j 1, eq_ix2 j⟩
  have ha := a.isLt
  have hb := b.isLt
  obtain ⟨t, ht⟩ : ∃ t : Fin cfg0.N, t.val = 32 * (a.val / 1024) + 8 * (b.val / 1152) + 7 :=
    ⟨⟨32 * (a.val / 1024) + 8 * (b.val / 1152) + 7, by show _ < 64; omega⟩, rfl⟩
  obtain ⟨x, hx⟩ := reaches ((cfg0.win 2).blk t).view.emb (place t) (by decide) (by decide) a b (by omega) (by omega)
  exact ⟨t, (flush0_2 t).mpr (by omega), hx ▸ View.emb_mem_set _ _⟩

theorem final2 (c : Dev nD) : (dats m 0 c).arrAt 2 cfg0.N = product (V m c main_arg0) (V m c main_arg1) :=
  (dats m 0 c).arrAt_eq_of_cover 2 _ (fun t hf => flushed2 m c t hf) covered2

/-- The call ends, its arguments unchanged and its counters at zero. -/
theorem frame_kernel : Cert.quiescent_OddInWeightGrad := fun m ρ _ => Cert.OddInWeightGrad.Gen.frame m ρ

theorem frame_ideal : Cert.quiescent_OddInWeightGradIdeal := fun m ρ _ => Cert.OddInWeightGradIdeal.Gen.frame m ρ

/-- The reference ends with its arguments unchanged; it has no counter. -/
theorem frame_ref_ideal : Cert.quiescent_OddInWeightGradRefIdeal := fun m ρ _ =>
  (θ_run Cert.OddInWeightGradRefIdeal.defs _ _).mono
    (fun r h => ⟨fun c => (h c).2, sem_eq_zero_of_no_sems (by decide) r.2⟩)
    (Cert.OddInWeightGradRefIdeal.Value.run (F := Ideal) m ρ)

theorem frame_ref : Cert.quiescent_OddInWeightGradRef := fun m ρ _ =>
  (θ_run Cert.OddInWeightGradRefIdeal.defs _ _).mono
    (fun r h => ⟨fun c => (h c).2, sem_eq_zero_of_no_sems (by decide) r.2⟩)
    (Cert.OddInWeightGradRefIdeal.Value.run (F := Bits) m ρ)

/-- Over the reals the call's result is the product. -/
theorem algebraic : Cert.algebraic_OddInWeightGradIdeal_OddInWeightGradRefIdeal := by
  intro m ρ m' ρ' _ same
  refine ⟨_, (θ_run Cert.OddInWeightGradIdeal.defs _ _).mono (fun r h c => h c) (Cert.OddInWeightGradIdeal.Value.run_blocks (F := Ideal) m ρ), ?_⟩
  refine (θ_run Cert.OddInWeightGradRefIdeal.defs _ _).mono (fun _ h c => ?_) (Cert.OddInWeightGradRefIdeal.Value.run (F := Ideal) m' ρ')
  obtain ⟨hx, hy⟩ := same c
  obtain ⟨h1, kept⟩ := h c
  rw [hx, hy] at h1
  refine ⟨h1.trans ?_, kept⟩
  rw [final2, V_main_arg0, V_main_arg1]
  generalize m ((c.tc : Thread nD τ).loc main_arg0) = x
  generalize m ((c.tc : Thread nD τ).loc main_arg1) = y
  funext j
  obtain ⟨a, b, rfl⟩ : ∃ (a : Fin 2048) (b : Fin 4608), j = ix2 a b := ⟨j 0, j 1, eq_ix2 j⟩
  refine Eq.trans ?_ (product_apply x y a b).symm
  pointwise!

end Cert.Proof.OddInWeightGrad

/-! ## The gradient of the even input weight -/

namespace Cert.Proof.EvenInWeightGrad

open Cert.EvenInWeightGradIdeal Cert.EvenInWeightGradIdeal.Gen

/-- The product of two blocks, the first one transposed. -/
def multiply (x : Vec Ideal S1024x1024 .bf16) (y : Vec Ideal S1024x1024 .bf16) (a b : Fin 1024) : EReal := ∑ k : Fin 1024, x (ix2 k a) * y (ix2 k b)

section Body
variable (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole)
  (x : Vec Ideal S1024x1024 .bf16) (y : Vec Ideal S1024x1024 .bf16) (z : Vec Ideal S1024x1024 .f32) (a b : Fin 1024)

/-- The first point of a block leaves the product of its blocks, the first one transposed. -/
theorem first (hc0 : cond0_0 i) (hc1 : ¬cond0_1 i) (hc2 : ¬cond0_2 i) :
    sout0_A_0 c i arg3 harg3 arg4 harg4 arg5 harg5 arg6 harg6 hc0 hc1 hc2 x y (ix2 a b) = multiply x y a b := by
  unfold sout0_A_0
  rw [View.read_writes_eq_canon _ _ _ (scover0_A_0 c i arg3 harg3 arg4 harg4 arg5 harg5 arg6 harg6 hc0 hc1 hc2 x y)]
  unfold kernelRun0_A
  dsimp only
  rw [View.canon_unit_zero hz]
  simp only [View.readAt_eq_ld, View.ld_unit_zero (S := S1024x1024) hz, harg3.read_unread, harg4.read_unread]
  unfold_payloads
  pointwise! [multiply]

/-- A point in between adds its product to what is there. -/
theorem between (hc0 : ¬cond0_0 i) (hc1 : cond0_1 i) (hc2 : ¬cond0_2 i) :
    sout0_B_0 c i arg3 harg3 arg4 harg4 arg5 harg5 arg6 harg6 hc0 hc1 hc2 x y z (ix2 a b) = z (ix2 a b) + multiply x y a b := by
  unfold sout0_B_0
  rw [View.read_writes_eq_canon _ _ _ (scover0_B_0 c i arg3 harg3 arg4 harg4 arg5 harg5 arg6 harg6 hc0 hc1 hc2 x y z)]
  unfold kernelRun0_B
  dsimp only
  rw [View.canon_unit_zero hz]
  simp only [View.readAt_eq_ld, View.ld_unit_zero (S := S1024x1024) hz, harg3.read_unread, harg4.read_unread, harg6.read_unread]
  unfold_payloads
  pointwise! [multiply]

/-- The last point writes back what is there with its product. -/
theorem last (hc0 : ¬cond0_0 i) (hc1 : ¬cond0_1 i) (hc2 : cond0_2 i) :
    out0_C_2 c i arg3 harg3 arg4 harg4 arg5 harg5 arg6 harg6 hc0 hc1 hc2 x y z (ix2 a b) = z (ix2 a b) + multiply x y a b := by
  unfold out0_C_2
  rw [View.read_writes_eq_canon _ _ _ (cover0_C_2 c i arg3 harg3 arg4 harg4 arg5 harg5 arg6 harg6 hc0 hc1 hc2 x y z)]
  unfold kernelRun0_C
  dsimp only
  rw [View.canon_unit_zero hz]
  simp only [View.readAt_eq_ld, View.ld_unit_zero (S := S1024x1024) hz, harg3.read_unread, harg4.read_unread, harg6.read_unread]
  unfold_payloads
  pointwise! [multiply]

end Body

variable (m : (ℓ : Loc nD τ sig) → Buf (Elt Ideal) ℓ)

theorem starts : ∀ t : Fin cfg0.N, (win0_0.index t 0 = t.val % 8 ∧ win0_0.index t 1 = t.val / 64) ∧ (win0_1.index t 0 = t.val % 8 ∧ win0_1.index t 1 = t.val / 8 % 8)
      ∧ win0_2.index t 0 = t.val / 64 ∧ win0_2.index t 1 = t.val / 8 % 8 :=
  (by decide +kernel : ∀ t : Fin grid0.N, (win0_0.index t 0 = t.val % 8 ∧ win0_0.index t 1 = t.val / 64) ∧ (win0_1.index t 0 = t.val % 8 ∧ win0_1.index t 1 = t.val / 8 % 8)
      ∧ win0_2.index t 0 = t.val / 64 ∧ win0_2.index t 1 = t.val / 8 % 8)

theorem block0 (c : Dev nD) (t : Fin cfg0.N) {q s : Nat} (ht : t.val = 8 * q + s) (hs : s < 8) (k : Fin 1024) (a : Fin 1024) :
    iblk m c 0 t (ix2 k a) = entry (V m c main_arg0) (1024 * s + k.val) (1024 * (q / 8) + a.val) := by
  have h := (starts t).1
  refine entry_of (V m c main_arg0) (((cfg0.win 0).blk t).view.emb (ix2 k a)) ?_ ?_
  · show win0_0.index t 0 * 1024 + 1 * k.val = _
    rw [h.1]; omega
  · show win0_0.index t 1 * 1024 + 1 * a.val = _
    rw [h.2]; omega

theorem block1 (c : Dev nD) (t : Fin cfg0.N) {q s : Nat} (ht : t.val = 8 * q + s) (hs : s < 8) (k : Fin 1024) (b : Fin 1024) :
    iblk m c 1 t (ix2 k b) = entry (V m c main_arg1) (1024 * s + k.val) (1024 * (q % 8) + b.val) := by
  have h := (starts t).2.1
  refine entry_of (V m c main_arg1) (((cfg0.win 1).blk t).view.emb (ix2 k b)) ?_ ?_
  · show win0_1.index t 0 * 1024 + 1 * k.val = _
    rw [h.1]; omega
  · show win0_1.index t 1 * 1024 + 1 * b.val = _
    rw [h.2]; omega

theorem place (t : Fin cfg0.N) (a b : Fin 1024) :
    (((cfg0.win 2).blk t).view.emb (ix2 a b) 0).val = 1024 * (t.val / 64) + a.val
      ∧ (((cfg0.win 2).blk t).view.emb (ix2 a b) 1).val = 1024 * (t.val / 8 % 8) + b.val := by
  have h := (starts t).2.2
  constructor
  · show win0_2.index t 0 * 1024 + 1 * a.val = _
    rw [h.1]; omega
  · show win0_2.index t 1 * 1024 + 1 * b.val = _
    rw [h.2]; omega

/-- A term of the product at two numbers. -/
def term (x : Vec Ideal S8192x2048 .bf16) (y : Vec Ideal S8192x8192 .bf16) (a b k : Nat) : EReal := entry x k a * entry y k b

/-- The `s`-th part of the result's block `q`. -/
def part (c : Dev nD) (q : Nat) (a b : Fin 1024) (s : Nat) : EReal := ∑ k : Fin 1024,
  term (V m c main_arg0) (V m c main_arg1) (1024 * (q / 8) + a.val) (1024 * (q % 8) + b.val) (1024 * s + k.val)

theorem part_eq (c : Dev nD) (t : Fin cfg0.N) {q s : Nat} (ht : t.val = 8 * q + s) (hs : s < 8) (a b : Fin 1024) :
    multiply (iblk m c 0 t) (iblk m c 1 t) a b = part m c q a b s :=
  Finset.sum_congr rfl fun k _ => congrArg₂ (· * ·) (block0 m c t ht hs k a) (block1 m c t ht hs k b)

theorem at_first (c : Dev nD) (t : Fin cfg0.N) {q : Nat} (ht : t.val = 8 * q + 0) (a b : Fin 1024) :
    (outsAt0 m c t.val t.isLt).2 (ix2 a b) = part m c q a b 0 := by
  rw [outsAt0_A m c t (by omega) (by omega) (by omega)]
  dsimp only
  rw [first, part_eq m c t ht (by decide)]

theorem at_between (c : Dev nD) (t : Fin cfg0.N) {q s : Nat} (ht : t.val = 8 * q + (s + 1)) (hs : s + 1 < 7) (a b : Fin 1024) :
    (outsAt0 m c t.val t.isLt).2 (ix2 a b)
      = (outsAt0 m c (t.val - 1) (Nat.lt_of_le_of_lt (Nat.sub_le _ _) t.isLt)).2 (ix2 a b) + part m c q a b (s + 1) := by
  rw [outsAt0_B m c t (by omega) (by omega) (by omega)]
  dsimp only
  rw [between, part_eq m c t ht (by omega)]

/-- The product of the whole arrays, the first one transposed. -/
def product (x : Vec Ideal S8192x2048 .bf16) (y : Vec Ideal S8192x8192 .bf16) : Vec Ideal S2048x8192 .bf16 := fun j =>
  ∑ k : Fin 8192, term x y (j 0).val (j 1).val k.val

theorem product_apply (x : Vec Ideal S8192x2048 .bf16) (y : Vec Ideal S8192x8192 .bf16) (a : Fin 2048) (b : Fin 8192) :
    product x y (ix2 a b) = ∑ k : Fin 8192, x (ix2 k a) * y (ix2 k b) :=
  Finset.sum_congr rfl fun k _ => congrArg₂ (· * ·) (entry_ix2 x k a) (entry_ix2 y k b)

theorem product_of (x : Vec Ideal S8192x2048 .bf16) (y : Vec Ideal S8192x8192 .bf16) (j : S2048x8192.Idx) {a b : Nat} (h0 : (j 0).val = a) (h1 : (j 1).val = b) :
    product x y j = ∑ k : Fin 8192, term x y a b k.val := by
  subst h0 h1
  rfl

theorem flushed2 (c : Dev nD) (t : Fin cfg0.N) (hf : (cfg0.win 2).flush t = true) :
    (dats m 0 c).flushed 2 t = ((cfg0.win 2).blk t).view.read (Elt Ideal) (product (V m c main_arg0) (V m c main_arg1)) := by
  have hl := (flush0_2 t).mp hf
  have hp := product_of (V m c main_arg0) (V m c main_arg1)
  generalize product (V m c main_arg0) (V m c main_arg1) = z at hp ⊢
  obtain ⟨n, hn⟩ := t
  obtain ⟨q, rfl⟩ : ∃ q, n = 8 * q + 7 := ⟨n / 8, by dsimp only at hl; omega⟩
  rw [Cert.EvenInWeightGradIdeal.Value.flushed2_C m c _ (by dsimp only; omega) (by dsimp only; omega) hl]
  funext j
  obtain ⟨a, b, rfl⟩ : ∃ (a b : Fin 1024), j = ix2 a b := ⟨j 0, j 1, eq_ix2 j⟩
  refine (last c _ _ _ _ _ _ _ _ _ _ _ _ a b _ _ _).trans ?_
  have before := gathered (p := 8 * q) (l := 7) (fun t h => (outsAt0 m c t h).2 (ix2 a b)) (part m c q a b)
    (fun h => at_first m c ⟨8 * q, h⟩ rfl a b) (fun s h hs => at_between m c ⟨8 * q + (s + 1), h⟩ rfl hs a b)
    6 (Nat.lt_of_succ_lt hn) (by decide)
  refine (congrArg₂ (· + ·) before (part_eq m c ⟨8 * q + 7, hn⟩ rfl (by decide) a b)).trans ?_
  rw [← Finset.sum_range_succ]
  show _ = z (((cfg0.win 2).blk ⟨8 * q + 7, hn⟩).view.emb (ix2 a b))
  have h := place ⟨8 * q + 7, hn⟩ a b
  rw [hp _ (h.1.trans (show _ = 1024 * (q / 8) + a.val by dsimp only; omega)) (h.2.trans (show _ = 1024 * (q % 8) + b.val by dsimp only; omega))]
  exact sum_blocks (n := 8) (b := 1024) (K := 8192) (by norm_num) (term (V m c main_arg0) (V m c main_arg1) (1024 * (q / 8) + a.val) (1024 * (q % 8) + b.val))

theorem covered2 (j : S2048x8192.Idx) : ∃ t : Fin cfg0.N, (cfg0.win 2).flush t = true ∧ j ∈ ((cfg0.win 2).blk t).view.set := by
  obtain ⟨a, b, rfl⟩ : ∃ (a : Fin 2048) (b : Fin 8192), j = ix2 a b := ⟨j 0, j 1, eq_ix2 j⟩
  have ha := a.isLt
  have hb := b.isLt
  obtain ⟨t, ht⟩ : ∃ t : Fin cfg0.N, t.val = 64 * (a.val / 1024) + 8 * (b.val / 1024) + 7 :=
    ⟨⟨64 * (a.val / 1024) + 8 * (b.val / 1024) + 7, by show _ < 128; omega⟩, rfl⟩
  obtain ⟨x, hx⟩ := reaches ((cfg0.win 2).blk t).view.emb (place t) (by decide) (by decide) a b (by omega) (by omega)
  exact ⟨t, (flush0_2 t).mpr (by omega), hx ▸ View.emb_mem_set _ _⟩

theorem final2 (c : Dev nD) : (dats m 0 c).arrAt 2 cfg0.N = product (V m c main_arg0) (V m c main_arg1) :=
  (dats m 0 c).arrAt_eq_of_cover 2 _ (fun t hf => flushed2 m c t hf) covered2

/-- The call ends, its arguments unchanged and its counters at zero. -/
theorem frame_kernel : Cert.quiescent_EvenInWeightGrad := fun m ρ _ => Cert.EvenInWeightGrad.Gen.frame m ρ

theorem frame_ideal : Cert.quiescent_EvenInWeightGradIdeal := fun m ρ _ => Cert.EvenInWeightGradIdeal.Gen.frame m ρ

/-- The reference ends with its arguments unchanged; it has no counter. -/
theorem frame_ref_ideal : Cert.quiescent_EvenInWeightGradRefIdeal := fun m ρ _ =>
  (θ_run Cert.EvenInWeightGradRefIdeal.defs _ _).mono
    (fun r h => ⟨fun c => (h c).2, sem_eq_zero_of_no_sems (by decide) r.2⟩)
    (Cert.EvenInWeightGradRefIdeal.Value.run (F := Ideal) m ρ)

theorem frame_ref : Cert.quiescent_EvenInWeightGradRef := fun m ρ _ =>
  (θ_run Cert.EvenInWeightGradRefIdeal.defs _ _).mono
    (fun r h => ⟨fun c => (h c).2, sem_eq_zero_of_no_sems (by decide) r.2⟩)
    (Cert.EvenInWeightGradRefIdeal.Value.run (F := Bits) m ρ)

/-- Over the reals the call's result is the product. -/
theorem algebraic : Cert.algebraic_EvenInWeightGradIdeal_EvenInWeightGradRefIdeal := by
  intro m ρ m' ρ' _ same
  refine ⟨_, (θ_run Cert.EvenInWeightGradIdeal.defs _ _).mono (fun r h c => h c) (Cert.EvenInWeightGradIdeal.Value.run_blocks (F := Ideal) m ρ), ?_⟩
  refine (θ_run Cert.EvenInWeightGradRefIdeal.defs _ _).mono (fun _ h c => ?_) (Cert.EvenInWeightGradRefIdeal.Value.run (F := Ideal) m' ρ')
  obtain ⟨hx, hy⟩ := same c
  obtain ⟨h1, kept⟩ := h c
  rw [hx, hy] at h1
  refine ⟨h1.trans ?_, kept⟩
  rw [final2, V_main_arg0, V_main_arg1]
  generalize m ((c.tc : Thread nD τ).loc main_arg0) = x
  generalize m ((c.tc : Thread nD τ).loc main_arg1) = y
  funext j
  obtain ⟨a, b, rfl⟩ : ∃ (a : Fin 2048) (b : Fin 8192), j = ix2 a b := ⟨j 0, j 1, eq_ix2 j⟩
  refine Eq.trans ?_ (product_apply x y a b).symm
  pointwise!

end Cert.Proof.EvenInWeightGrad

end
-- ==== Proof.Products.lean ====
/- The products of a layer's rows with its weights: what each of the three calls leaves is, entry by entry, the product over the
   inner axis (with the row that is added, for the layer's end); and the same of the call that takes a gradient back through an output weight. -/
module

public import proofs.«01_k».proof.Defs
public import proofs.«01_k».proof.Proof.Gathering
public import proofs.«01_k».proof.Proof.Gen.EvenInIdeal.Value
public import proofs.«01_k».proof.Proof.Gen.EvenInRefIdeal.Run
public import proofs.«01_k».proof.Proof.Gen.EvenIn.Frame
public import proofs.«01_k».proof.Proof.Gen.EvenInRef
public import proofs.«01_k».proof.Proof.Gen.OddInIdeal.Value
public import proofs.«01_k».proof.Proof.Gen.OddInRefIdeal.Run
public import proofs.«01_k».proof.Proof.Gen.OddIn.Frame
public import proofs.«01_k».proof.Proof.Gen.OddInRef
public import proofs.«01_k».proof.Proof.Gen.LayerOutIdeal.Value
public import proofs.«01_k».proof.Proof.Gen.LayerOutRefIdeal.Run
public import proofs.«01_k».proof.Proof.Gen.LayerOut.Frame
public import proofs.«01_k».proof.Proof.Gen.LayerOutRef
public import proofs.«01_k».proof.Proof.Gen.OutGradIdeal.Value
public import proofs.«01_k».proof.Proof.Gen.OutGradRefIdeal.Run
public import proofs.«01_k».proof.Proof.Gen.OutGrad.Frame
public import proofs.«01_k».proof.Proof.Gen.OutGradRef
public import Idealize.ShloMosaic.Lib.Quiescent
public import Idealize.ShloMosaic.Lib.Pointwise.Contract

@[expose] public section

noncomputable section

open Idealize.ShloMosaic Idealize.ShloMosaic.TcCoe Idealize.SL.Sem
open Cert.Proof.Gathering (entry entry_ix2 entry_of reaches hz)

/-! ## The even layer's input weight -/

namespace Cert.Proof.EvenIn

open Cert.EvenInIdeal Cert.EvenInIdeal.Gen

variable (m : (ℓ : Loc nD τ sig) → Buf (Elt Ideal) ℓ)

/-- What the body leaves is the product of its blocks. -/
theorem stored (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S8x128 .f32) (harg6 : arg6.IsWhole)
    (x : Vec Ideal S1024x2048 .bf16) (y : Vec Ideal S2048x1024 .bf16) (a b : Fin 1024) :
    out0_A_2 c i arg3 harg3 arg4 harg4 arg5 harg5 arg6 harg6 x y (ix2 a b) = ∑ k : Fin 2048, x (ix2 a k) * y (ix2 k b) := by
  unfold out0_A_2
  rw [View.read_writes_eq_canon _ _ _ (cover0_A_2 c i arg3 harg3 arg4 harg4 arg5 harg5 arg6 harg6 x y)]
  unfold kernelRun0_A
  dsimp only
  rw [View.canon_unit_zero hz]
  simp only [View.readAt_eq_ld, View.ld_unit_zero (S := S1024x2048) hz, View.ld_unit_zero (S := S2048x1024) hz, harg3.read_unread, harg4.read_unread]
  unfold_payloads
  pointwise!

theorem starts : ∀ t : Fin cfg0.N, (win0_0.index t 0 = t.val / 8 ∧ win0_0.index t 1 = 0) ∧ (win0_1.index t 0 = 0 ∧ win0_1.index t 1 = t.val % 8)
      ∧ win0_2.index t 0 = t.val / 8 ∧ win0_2.index t 1 = t.val % 8 :=
  (by decide +kernel : ∀ t : Fin grid0.N, (win0_0.index t 0 = t.val / 8 ∧ win0_0.index t 1 = 0) ∧ (win0_1.index t 0 = 0 ∧ win0_1.index t 1 = t.val % 8)
      ∧ win0_2.index t 0 = t.val / 8 ∧ win0_2.index t 1 = t.val % 8)

theorem block0 (c : Dev nD) (t : Fin cfg0.N) (a : Fin 1024) (k : Fin 2048) :
    iblk m c 0 t (ix2 a k) = entry (V m c main_arg0) (1024 * (t.val / 8) + a.val) k.val := by
  have h := (starts t).1
  refine entry_of (V m c main_arg0) (((cfg0.win 0).blk t).view.emb (ix2 a k)) ?_ ?_
  · show win0_0.index t 0 * 1024 + 1 * a.val = _
    rw [h.1]; omega
  · show win0_0.index t 1 * 2048 + 1 * k.val = _
    rw [h.2]; omega

theorem block1 (c : Dev nD) (t : Fin cfg0.N) (k : Fin 2048) (b : Fin 1024) :
    iblk m c 1 t (ix2 k b) = entry (V m c main_arg1) k.val (1024 * (t.val % 8) + b.val) := by
  have h := (starts t).2.1
  refine entry_of (V m c main_arg1) (((cfg0.win 1).blk t).view.emb (ix2 k b)) ?_ ?_
  · show win0_1.index t 0 * 2048 + 1 * k.val = _
    rw [h.1]; omega
  · show win0_1.index t 1 * 1024 + 1 * b.val = _
    rw [h.2]; omega

theorem place (t : Fin cfg0.N) (a b : Fin 1024) :
    (((cfg0.win 2).blk t).view.emb (ix2 a b) 0).val = 1024 * (t.val / 8) + a.val
      ∧ (((cfg0.win 2).blk t).view.emb (ix2 a b) 1).val = 1024 * (t.val % 8) + b.val := by
  have h := (starts t).2.2
  constructor
  · show win0_2.index t 0 * 1024 + 1 * a.val = _
    rw [h.1]; omega
  · show win0_2.index t 1 * 1024 + 1 * b.val = _
    rw [h.2]; omega

/-- The product of the whole arrays. -/
def product (x : Vec Ideal S8192x2048 .bf16) (y : Vec Ideal S2048x8192 .bf16) : Vec Ideal S8192x8192 .bf16 := fun j =>
  ∑ k : Fin 2048, entry x (j 0).val k.val * entry y k.val (j 1).val

theorem product_apply (x : Vec Ideal S8192x2048 .bf16) (y : Vec Ideal S2048x8192 .bf16) (a b : Fin 8192) :
    product x y (ix2 a b) = ∑ k : Fin 2048, x (ix2 a k) * y (ix2 k b) :=
  Finset.sum_congr rfl fun k _ => congrArg₂ (· * ·) (entry_ix2 x a k) (entry_ix2 y k b)

theorem flushed2 (c : Dev nD) (t : Fin cfg0.N) :
    (dats m 0 c).flushed 2 t = ((cfg0.win 2).blk t).view.read (Elt Ideal) (product (V m c main_arg0) (V m c main_arg1)) := by
  rw [Cert.EvenInIdeal.Value.flushed2_A]
  funext j
  obtain ⟨a, b, rfl⟩ : ∃ (a b : Fin 1024), j = ix2 a b := ⟨j 0, j 1, eq_ix2 j⟩
  refine (stored c _ _ _ _ _ _ _ _ _ _ _ a b).trans ?_
  simp only [block0, block1]
  show _ = ∑ k : Fin 2048, entry (V m c main_arg0) (((cfg0.win 2).blk t).view.emb (ix2 a b) 0).val k.val
    * entry (V m c main_arg1) k.val (((cfg0.win 2).blk t).view.emb (ix2 a b) 1).val
  rw [(place t a b).1, (place t a b).2]

theorem covered2 (j : S8192x8192.Idx) : ∃ t : Fin cfg0.N, (cfg0.win 2).flush t = true ∧ j ∈ ((cfg0.win 2).blk t).view.set := by
  obtain ⟨a, b, rfl⟩ : ∃ (a b : Fin 8192), j = ix2 a b := ⟨j 0, j 1, eq_ix2 j⟩
  have ha := a.isLt
  have hb := b.isLt
  obtain ⟨t, ht⟩ : ∃ t : Fin cfg0.N, t.val = 8 * (a.val / 1024) + b.val / 1024 :=
    ⟨⟨8 * (a.val / 1024) + b.val / 1024, by show _ < 64; omega⟩, rfl⟩
  obtain ⟨x, hx⟩ := reaches ((cfg0.win 2).blk t).view.emb (place t) (by decide) (by decide) a b (by omega) (by omega)
  exact ⟨t, flush0_2 t, hx ▸ View.emb_mem_set _ _⟩

theorem final2 (c : Dev nD) : (dats m 0 c).arrAt 2 cfg0.N = product (V m c main_arg0) (V m c main_arg1) :=
  (dats m 0 c).arrAt_eq_of_cover 2 _ (fun t _ => flushed2 m c t) covered2

/-- The call ends, its arguments unchanged and its counters at zero. -/
theorem frame_kernel : Cert.quiescent_EvenIn := fun m ρ _ => Cert.EvenIn.Gen.frame m ρ

theorem frame_ideal : Cert.quiescent_EvenInIdeal := fun m ρ _ => Cert.EvenInIdeal.Gen.frame m ρ

/-- The reference ends with its arguments unchanged; it has no counter. -/
theorem frame_ref_ideal : Cert.quiescent_EvenInRefIdeal := fun m ρ _ =>
  (θ_run Cert.EvenInRefIdeal.defs _ _).mono
    (fun r h => ⟨fun c => (h c).2, sem_eq_zero_of_no_sems (by decide) r.2⟩)
    (Cert.EvenInRefIdeal.Value.run (F := Ideal) m ρ)

theorem frame_ref : Cert.quiescent_EvenInRef := fun m ρ _ =>
  (θ_run Cert.EvenInRefIdeal.defs _ _).mono
    (fun r h => ⟨fun c => (h c).2, sem_eq_zero_of_no_sems (by decide) r.2⟩)
    (Cert.EvenInRefIdeal.Value.run (F := Bits) m ρ)

/-- Over the reals the call's result is the product. -/
theorem algebraic : Cert.algebraic_EvenInIdeal_EvenInRefIdeal := by
  intro m ρ m' ρ' _ same
  refine ⟨_, Cert.EvenInIdeal.Value.run_blocks (F := Ideal) m ρ, ?_⟩
  refine (θ_run Cert.EvenInRefIdeal.defs _ _).mono (fun _ h c => ?_) (Cert.EvenInRefIdeal.Value.run (F := Ideal) m' ρ')
  obtain ⟨hx, hy⟩ := same c
  obtain ⟨h1, kept⟩ := h c
  rw [hx, hy] at h1
  refine ⟨h1.trans ?_, kept⟩
  rw [final2, V_main_arg0, V_main_arg1]
  generalize m ((c.tc : Thread nD τ).loc main_arg0) = x
  generalize m ((c.tc : Thread nD τ).loc main_arg1) = y
  funext j
  obtain ⟨a, b, rfl⟩ : ∃ (a b : Fin 8192), j = ix2 a b := ⟨j 0, j 1, eq_ix2 j⟩
  refine Eq.trans ?_ (product_apply x y a b).symm
  pointwise!

end Cert.Proof.EvenIn

/-! ## The odd layer's input weight -/

namespace Cert.Proof.OddIn

open Cert.OddInIdeal Cert.OddInIdeal.Gen

variable (m : (ℓ : Loc nD τ sig) → Buf (Elt Ideal) ℓ)

/-- What the body leaves is the product of its blocks. -/
theorem stored (c : Dev nD) (i : grid0.Coords) (arg3 : Memref sig .tc .vmem S1024x2048 .bf16) (harg3 : arg3.IsWhole) (arg4 : Memref sig .tc .vmem S2048x1152 .bf16) (harg4 : arg4.IsWhole) (arg5 : Memref sig .tc .vmem S1024x1152 .bf16) (harg5 : arg5.IsWhole) (arg6 : Memref sig .tc .vmem S8x128 .f32) (harg6 : arg6.IsWhole)
    (x : Vec Ideal S1024x2048 .bf16) (y : Vec Ideal S2048x1152 .bf16) (a : Fin 1024) (b : Fin 1152) :
    out0_A_2 c i arg3 harg3 arg4 harg4 arg5 harg5 arg6 harg6 x y (ix2 a b) = ∑ k : Fin 2048, x (ix2 a k) * y (ix2 k b) := by
  unfold out0_A_2
  rw [View.read_writes_eq_canon _ _ _ (cover0_A_2 c i arg3 harg3 arg4 harg4 arg5 harg5 arg6 harg6 x y)]
  unfold kernelRun0_A
  dsimp only
  rw [View.canon_unit_zero hz]
  simp only [View.readAt_eq_ld, View.ld_unit_zero (S := S1024x2048) hz, View.ld_unit_zero (S := S2048x1152) hz, harg3.read_unread, harg4.read_unread]
  unfold_payloads
  pointwise!

theorem starts : ∀ t : Fin cfg0.N, (win0_0.index t 0 = t.val / 4 ∧ win0_0.index t 1 = 0) ∧ (win0_1.index t 0 = 0 ∧ win0_1.index t 1 = t.val % 4)
      ∧ win0_2.index t 0 = t.val / 4 ∧ win0_2.index t 1 = t.val % 4 :=
  (by decide +kernel : ∀ t : Fin grid0.N, (win0_0.index t 0 = t.val / 4 ∧ win0_0.index t 1 = 0) ∧ (win0_1.index t 0 = 0 ∧ win0_1.index t 1 = t.val % 4)
      ∧ win0_2.index t 0 = t.val / 4 ∧ win0_2.index t 1 = t.val % 4)

theorem block0 (c : Dev nD) (t : Fin cfg0.N) (a : Fin 1024) (k : Fin 2048) :
    iblk m c 0 t (ix2 a k) = entry (V m c main_arg0) (1024 * (t.val / 4) + a.val) k.val := by
  have h := (starts t).1
  refine entry_of (V m c main_arg0) (((cfg0.win 0).blk t).view.emb (ix2 a k)) ?_ ?_
  · show win0_0.index t 0 * 1024 + 1 * a.val = _
    rw [h.1]; omega
  · show win0_0.index t 1 * 2048 + 1 * k.val = _
    rw [h.2]; omega

theorem block1 (c : Dev nD) (t : Fin cfg0.N) (k : Fin 2048) (b : Fin 1152) :
    iblk m c 1 t (ix2 k b) = entry (V m c main_arg1) k.val (1152 * (t.val % 4) + b.val) := by
  have h := (starts t).2.1
  refine entry_of (V m c main_arg1) (((cfg0.win 1).blk t).view.emb (ix2 k b)) ?_ ?_
  · show win0_1.index t 0 * 2048 + 1 * k.val = _
    rw [h.1]; omega
  · show win0_1.index t 1 * 1152 + 1 * b.val = _
    rw [h.2]; omega

theorem place (t : Fin cfg0.N) (a : Fin 1024) (b : Fin 1152) :
    (((cfg0.win 2).blk t).view.emb (ix2 a b) 0).val = 1024 * (t.val / 4) + a.val
      ∧ (((cfg0.win 2).blk t).view.emb (ix2 a b) 1).val = 1152 * (t.val % 4) + b.val := by
  have h := (starts t).2.2
  constructor
  · show win0_2.index t 0 * 1024 + 1 * a.val = _
    rw [h.1]; omega
  · show win0_2.index t 1 * 1152 + 1 * b.val = _
    rw [h.2]; omega

/-- The product of the whole arrays. -/
def product (x : Vec Ideal S8192x2048 .bf16) (y : Vec Ideal S2048x4608 .bf16) : Vec Ideal S8192x4608 .bf16 := fun j =>
  ∑ k : Fin 2048, entry x (j 0).val k.val * entry y k.val (j 1).val

theorem product_apply (x : Vec Ideal S8192x2048 .bf16) (y : Vec Ideal S2048x4608 .bf16) (a : Fin 8192) (b : Fin 4608) :
    product x y (ix2 a b) = ∑ k : Fin 2048, x (ix2 a k) * y (ix2 k b) :=
  Finset.sum_congr rfl fun k _ => congrArg₂ (· * ·) (entry_ix2 x a k) (entry_ix2 y k b)

theorem flushed2 (c : Dev nD) (t : Fin cfg0.N) :
    (dats m 0 c).flushed 2 t = ((cfg0.win 2).blk t).view.read (Elt Ideal) (product (V m c main_arg0) (V m c main_arg1)) := by
  rw [Cert.OddInIdeal.Value.flushed2_A]
  funext j
  obtain ⟨a, b, rfl⟩ : ∃ (a : Fin 1024) (b : Fin 1152), j = ix2 a b := ⟨j 0, j 1, eq_ix2 j⟩
  refine (stored c _ _ _ _ _ _ _ _ _ _ _ a b).trans ?_
  simp only [block0, block1]
  show _ = ∑ k : Fin 2048, entry (V m c main_arg0) (((cfg0.win 2).blk t).view.emb (ix2 a b) 0).val k.val
    * entry (V m c main_arg1) k.val (((cfg0.win 2).blk t).view.emb (ix2 a b) 1).val
  rw [(place t a b).1, (place t a b).2]

theorem covered2 (j : S8192x4608.Idx) : ∃ t : Fin cfg0.N, (cfg0.win 2).flush t = true ∧ j ∈ ((cfg0.win 2).blk t).view.set := by
  obtain ⟨a, b, rfl⟩ : ∃ (a : Fin 8192) (b : Fin 4608), j = ix2 a b := ⟨j 0, j 1, eq_ix2 j⟩
  have ha := a.isLt
  have hb := b.isLt
  obtain ⟨t, ht⟩ : ∃ t : Fin cfg0.N, t.val = 4 * (a.val / 1024) + b.val / 1152 :=
    ⟨⟨4 * (a.val / 1024) + b.val / 1152, by show _ < 32; omega⟩, rfl⟩
  obtain ⟨x, hx⟩ := reaches ((cfg0.win 2).blk t).view.emb (place t) (by decide) (by decide) a b (by omega) (by omega)
  exact ⟨t, flush0_2 t, hx ▸ View.emb_mem_set _ _⟩

theorem final2 (c : Dev nD) : (dats m 0 c).arrAt 2 cfg0.N = product (V m c main_arg0) (V m c main_arg1) :=
  (dats m 0 c).arrAt_eq_of_cover 2 _ (fun t _ => flushed2 m c t) covered2

/-- The call ends, its arguments unchanged and its counters at zero. -/
theorem frame_kernel : Cert.quiescent_OddIn := fun m ρ _ => Cert.OddIn.Gen.frame m ρ

theorem frame_ideal : Cert.quiescent_OddInIdeal := fun m ρ _ => Cert.OddInIdeal.Gen.frame m ρ

/-- The reference ends with its arguments unchanged; it has no counter. -/
theorem frame_ref_ideal : Cert.quiescent_OddInRefIdeal := fun m ρ _ =>
  (θ_run Cert.OddInRefIdeal.defs _ _).mono
    (fun r h => ⟨fun c => (h c).2, sem_eq_zero_of_no_sems (by decide) r.2⟩)
    (Cert.OddInRefIdeal.Value.run (F := Ideal) m ρ)

theorem frame_ref : Cert.quiescent_OddInRef := fun m ρ _ =>
  (θ_run Cert.OddInRefIdeal.defs _ _).mono
    (fun r h => ⟨fun c => (h c).2, sem_eq_zero_of_no_sems (by decide) r.2⟩)
    (Cert.OddInRefIdeal.Value.run (F := Bits) m ρ)

/-- Over the reals the call's result is the product. -/
theorem algebraic : Cert.algebraic_OddInIdeal_OddInRefIdeal := by
  intro m ρ m' ρ' _ same
  refine ⟨_, Cert.OddInIdeal.Value.run_blocks (F := Ideal) m ρ, ?_⟩
  refine (θ_run Cert.OddInRefIdeal.defs _ _).mono (fun _ h c => ?_) (Cert.OddInRefIdeal.Value.run (F := Ideal) m' ρ')
  obtain ⟨hx, hy⟩ := same c
  obtain ⟨h1, kept⟩ := h c
  rw [hx, hy] at h1
  refine ⟨h1.trans ?_, kept⟩
  rw [final2, V_main_arg0, V_main_arg1]
  generalize m ((c.tc : Thread nD τ).loc main_arg0) = x
  generalize m ((c.tc : Thread nD τ).loc main_arg1) = y
  funext j
  obtain ⟨a, b, rfl⟩ : ∃ (a : Fin 8192) (b : Fin 4608), j = ix2 a b := ⟨j 0, j 1, eq_ix2 j⟩
  refine Eq.trans ?_ (product_apply x y a b).symm
  pointwise!

end Cert.Proof.OddIn

/-! ## The layer's end: the product with the output weight, added to what came in -/

namespace Cert.Proof.LayerOut

open Cert.LayerOutIdeal Cert.LayerOutIdeal.Gen

variable (m : (ℓ : Loc nD τ sig) → Buf (Elt Ideal) ℓ)

/-- What the body leaves is the product of its blocks and the block that is added. -/
theorem stored (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S8x128 .f32) (harg7 : arg7.IsWhole)
    (x : Vec Ideal S1024x2048 .bf16) (y : Vec Ideal S2048x1024 .bf16) (z : Vec Ideal S1024x1024 .f32) (a b : Fin 1024) :
    out0_A_3 c i arg3 harg3 arg4 harg4 arg5 harg5 arg6 harg6 arg7 harg7 x y z (ix2 a b) = ∑ k : Fin 2048, x (ix2 a k) * y (ix2 k b) + z (ix2 a b) := by
  unfold out0_A_3
  rw [View.read_writes_eq_canon _ _ _ (cover0_A_3 c i arg3 harg3 arg4 harg4 arg5 harg5 arg6 harg6 arg7 harg7 x y z)]
  unfold kernelRun0_A
  dsimp only
  rw [View.canon_unit_zero hz]
  simp only [View.readAt_eq_ld, View.ld_unit_zero (S := S1024x2048) hz, View.ld_unit_zero (S := S2048x1024) hz, View.ld_unit_zero (S := S1024x1024) hz, harg3.read_unread, harg5.read_unread, harg4.read_unread]
  unfold_payloads
  pointwise!

theorem starts : ∀ t : Fin cfg0.N, (win0_0.index t 0 = t.val / 2 ∧ win0_0.index t 1 = 0) ∧ (win0_1.index t 0 = 0 ∧ win0_1.index t 1 = t.val % 2)
      ∧ (win0_2.index t 0 = t.val / 2 ∧ win0_2.index t 1 = t.val % 2) ∧ win0_3.index t 0 = t.val / 2 ∧ win0_3.index t 1 = t.val % 2 :=
  (by decide +kernel : ∀ t : Fin grid0.N, (win0_0.index t 0 = t.val / 2 ∧ win0_0.index t 1 = 0) ∧ (win0_1.index t 0 = 0 ∧ win0_1.index t 1 = t.val % 2)
      ∧ (win0_2.index t 0 = t.val / 2 ∧ win0_2.index t 1 = t.val % 2) ∧ win0_3.index t 0 = t.val / 2 ∧ win0_3.index t 1 = t.val % 2)

theorem block0 (c : Dev nD) (t : Fin cfg0.N) (a : Fin 1024) (k : Fin 2048) :
    iblk m c 0 t (ix2 a k) = entry (V m c main_arg0) (1024 * (t.val / 2) + a.val) k.val := by
  have h := (starts t).1
  refine entry_of (V m c main_arg0) (((cfg0.win 0).blk t).view.emb (ix2 a k)) ?_ ?_
  · show win0_0.index t 0 * 1024 + 1 * a.val = _
    rw [h.1]; omega
  · show win0_0.index t 1 * 2048 + 1 * k.val = _
    rw [h.2]; omega

theorem block1 (c : Dev nD) (t : Fin cfg0.N) (k : Fin 2048) (b : Fin 1024) :
    iblk m c 1 t (ix2 k b) = entry (V m c main_arg1) k.val (1024 * (t.val % 2) + b.val) := by
  have h := (starts t).2.1
  refine entry_of (V m c main_arg1) (((cfg0.win 1).blk t).view.emb (ix2 k b)) ?_ ?_
  · show win0_1.index t 0 * 2048 + 1 * k.val = _
    rw [h.1]; omega
  · show win0_1.index t 1 * 1024 + 1 * b.val = _
    rw [h.2]; omega

theorem block2 (c : Dev nD) (t : Fin cfg0.N) (a b : Fin 1024) :
    iblk m c 2 t (ix2 a b) = entry (V m c main_arg2) (1024 * (t.val / 2) + a.val) (1024 * (t.val % 2) + b.val) := by
  have h := (starts t).2.2.1
  refine entry_of (V m c main_arg2) (((cfg0.win 2).blk t).view.emb (ix2 a b)) ?_ ?_
  · show win0_2.index t 0 * 1024 + 1 * a.val = _
    rw [h.1]; omega
  · show win0_2.index t 1 * 1024 + 1 * b.val = _
    rw [h.2]; omega

theorem place (t : Fin cfg0.N) (a b : Fin 1024) :
    (((cfg0.win 3).blk t).view.emb (ix2 a b) 0).val = 1024 * (t.val / 2) + a.val
      ∧ (((cfg0.win 3).blk t).view.emb (ix2 a b) 1).val = 1024 * (t.val % 2) + b.val := by
  have h := (starts t).2.2.2
  constructor
  · show win0_3.index t 0 * 1024 + 1 * a.val = _
    rw [h.1]; omega
  · show win0_3.index t 1 * 1024 + 1 * b.val = _
    rw [h.2]; omega

/-- The product of the whole arrays, with the array that is added. -/
def product (x : Vec Ideal S8192x2048 .bf16) (y : Vec Ideal S2048x2048 .bf16) (z : Vec Ideal S8192x2048 .f32) : Vec Ideal S8192x2048 .f32 := fun j =>
  ∑ k : Fin 2048, entry x (j 0).val k.val * entry y k.val (j 1).val + entry z (j 0).val (j 1).val

theorem product_apply (x : Vec Ideal S8192x2048 .bf16) (y : Vec Ideal S2048x2048 .bf16) (z : Vec Ideal S8192x2048 .f32) (a : Fin 8192) (b : Fin 2048) :
    product x y z (ix2 a b) = ∑ k : Fin 2048, x (ix2 a k) * y (ix2 k b) + z (ix2 a b) :=
  congrArg₂ (· + ·) (Finset.sum_congr rfl fun k _ => congrArg₂ (· * ·) (entry_ix2 x a k) (entry_ix2 y k b)) (entry_ix2 z a b)

theorem flushed3 (c : Dev nD) (t : Fin cfg0.N) :
    (dats m 0 c).flushed 3 t = ((cfg0.win 3).blk t).view.read (Elt Ideal) (product (V m c main_arg0) (V m c main_arg1) (V m c main_arg2)) := by
  rw [Cert.LayerOutIdeal.Value.flushed3_A]
  funext j
  obtain ⟨a, b, rfl⟩ : ∃ (a b : Fin 1024), j = ix2 a b := ⟨j 0, j 1, eq_ix2 j⟩
  refine (stored c _ _ _ _ _ _ _ _ _ _ _ _ _ _ a b).trans ?_
  simp only [block0, block1, block2]
  show _ = ∑ k : Fin 2048, entry (V m c main_arg0) (((cfg0.win 3).blk t).view.emb (ix2 a b) 0).val k.val
    * entry (V m c main_arg1) k.val (((cfg0.win 3).blk t).view.emb (ix2 a b) 1).val
    + entry (V m c main_arg2) (((cfg0.win 3).blk t).view.emb (ix2 a b) 0).val (((cfg0.win 3).blk t).view.emb (ix2 a b) 1).val
  rw [(place t a b).1, (place t a b).2]

theorem covered3 (j : S8192x2048.Idx) : ∃ t : Fin cfg0.N, (cfg0.win 3).flush t = true ∧ j ∈ ((cfg0.win 3).blk t).view.set := by
  obtain ⟨a, b, rfl⟩ : ∃ (a : Fin 8192) (b : Fin 2048), j = ix2 a b := ⟨j 0, j 1, eq_ix2 j⟩
  have ha := a.isLt
  have hb := b.isLt
  obtain ⟨t, ht⟩ : ∃ t : Fin cfg0.N, t.val = 2 * (a.val / 1024) + b.val / 1024 :=
    ⟨⟨2 * (a.val / 1024) + b.val / 1024, by show _ < 16; omega⟩, rfl⟩
  obtain ⟨x, hx⟩ := reaches ((cfg0.win 3).blk t).view.emb (place t) (by decide) (by decide) a b (by omega) (by omega)
  exact ⟨t, flush0_3 t, hx ▸ View.emb_mem_set _ _⟩

theorem final3 (c : Dev nD) : (dats m 0 c).arrAt 3 cfg0.N = product (V m c main_arg0) (V m c main_arg1) (V m c main_arg2) :=
  (dats m 0 c).arrAt_eq_of_cover 3 _ (fun t _ => flushed3 m c t) covered3

/-- The call ends, its arguments unchanged and its counters at zero. -/
theorem frame_kernel : Cert.quiescent_LayerOut := fun m ρ _ => Cert.LayerOut.Gen.frame m ρ

theorem frame_ideal : Cert.quiescent_LayerOutIdeal := fun m ρ _ => Cert.LayerOutIdeal.Gen.frame m ρ

/-- The reference ends with its arguments unchanged; it has no counter. -/
theorem frame_ref_ideal : Cert.quiescent_LayerOutRefIdeal := fun m ρ _ =>
  (θ_run Cert.LayerOutRefIdeal.defs _ _).mono
    (fun r h => ⟨fun c => (h c).2, sem_eq_zero_of_no_sems (by decide) r.2⟩)
    (Cert.LayerOutRefIdeal.Value.run (F := Ideal) m ρ)

theorem frame_ref : Cert.quiescent_LayerOutRef := fun m ρ _ =>
  (θ_run Cert.LayerOutRefIdeal.defs _ _).mono
    (fun r h => ⟨fun c => (h c).2, sem_eq_zero_of_no_sems (by decide) r.2⟩)
    (Cert.LayerOutRefIdeal.Value.run (F := Bits) m ρ)

/-- Over the reals the call's result is the product with what came in. -/
theorem algebraic : Cert.algebraic_LayerOutIdeal_LayerOutRefIdeal := by
  intro m ρ m' ρ' _ same
  refine ⟨_, Cert.LayerOutIdeal.Value.run_blocks (F := Ideal) m ρ, ?_⟩
  refine (θ_run Cert.LayerOutRefIdeal.defs _ _).mono (fun _ h c => ?_) (Cert.LayerOutRefIdeal.Value.run (F := Ideal) m' ρ')
  obtain ⟨hx, hy, hz⟩ := same c
  obtain ⟨h1, kept⟩ := h c
  rw [hx, hy, hz] at h1
  refine ⟨h1.trans ?_, kept⟩
  rw [final3, V_main_arg0, V_main_arg1, V_main_arg2]
  generalize m ((c.tc : Thread nD τ).loc main_arg0) = x
  generalize m ((c.tc : Thread nD τ).loc main_arg1) = y
  generalize m ((c.tc : Thread nD τ).loc main_arg2) = z
  funext j
  obtain ⟨a, b, rfl⟩ : ∃ (a : Fin 8192) (b : Fin 2048), j = ix2 a b := ⟨j 0, j 1, eq_ix2 j⟩
  refine Eq.trans ?_ (product_apply x y z a b).symm
  pointwise!

end Cert.Proof.LayerOut

/-! ## The gradient taken back through an output weight: the product with its transpose -/

namespace Cert.Proof.OutGrad

open Cert.OutGradIdeal Cert.OutGradIdeal.Gen

variable (m : (ℓ : Loc nD τ sig) → Buf (Elt Ideal) ℓ)

/-- What the body leaves is the product of its blocks, the second one transposed. -/
theorem stored (c : Dev nD) (i : grid0.Coords) (arg3 : Memref sig .tc .vmem S1024x2048 .bf16) (harg3 : arg3.IsWhole) (arg4 : Memref sig .tc .vmem S1024x2048 .bf16) (harg4 : arg4.IsWhole) (arg5 : Memref sig .tc .vmem S1024x1024 .bf16) (harg5 : arg5.IsWhole) (arg6 : Memref sig .tc .vmem S8x128 .f32) (harg6 : arg6.IsWhole)
    (x : Vec Ideal S1024x2048 .bf16) (y : Vec Ideal S1024x2048 .bf16) (a b : Fin 1024) :
    out0_A_2 c i arg3 harg3 arg4 harg4 arg5 harg5 arg6 harg6 x y (ix2 a b) = ∑ k : Fin 2048, x (ix2 a k) * y (ix2 b k) := by
  unfold out0_A_2
  rw [View.read_writes_eq_canon _ _ _ (cover0_A_2 c i arg3 harg3 arg4 harg4 arg5 harg5 arg6 harg6 x y)]
  unfold kernelRun0_A
  dsimp only
  rw [View.canon_unit_zero hz]
  simp only [View.readAt_eq_ld, View.ld_unit_zero (S := S1024x2048) hz, harg3.read_unread, harg4.read_unread]
  unfold_payloads
  pointwise!

theorem starts : ∀ t : Fin cfg0.N, (win0_0.index t 0 = t.val / 2 ∧ win0_0.index t 1 = 0) ∧ (win0_1.index t 0 = t.val % 2 ∧ win0_1.index t 1 = 0)
      ∧ win0_2.index t 0 = t.val / 2 ∧ win0_2.index t 1 = t.val % 2 :=
  (by decide +kernel : ∀ t : Fin grid0.N, (win0_0.index t 0 = t.val / 2 ∧ win0_0.index t 1 = 0) ∧ (win0_1.index t 0 = t.val % 2 ∧ win0_1.index t 1 = 0)
      ∧ win0_2.index t 0 = t.val / 2 ∧ win0_2.index t 1 = t.val % 2)

theorem block0 (c : Dev nD) (t : Fin cfg0.N) (a : Fin 1024) (k : Fin 2048) :
    iblk m c 0 t (ix2 a k) = entry (V m c main_arg0) (1024 * (t.val / 2) + a.val) k.val := by
  have h := (starts t).1
  refine entry_of (V m c main_arg0) (((cfg0.win 0).blk t).view.emb (ix2 a k)) ?_ ?_
  · show win0_0.index t 0 * 1024 + 1 * a.val = _
    rw [h.1]; omega
  · show win0_0.index t 1 * 2048 + 1 * k.val = _
    rw [h.2]; omega

theorem block1 (c : Dev nD) (t : Fin cfg0.N) (b : Fin 1024) (k : Fin 2048) :
    iblk m c 1 t (ix2 b k) = entry (V m c main_arg1) (1024 * (t.val % 2) + b.val) k.val := by
  have h := (starts t).2.1
  refine entry_of (V m c main_arg1) (((cfg0.win 1).blk t).view.emb (ix2 b k)) ?_ ?_
  · show win0_1.index t 0 * 1024 + 1 * b.val = _
    rw [h.1]; omega
  · show win0_1.index t 1 * 2048 + 1 * k.val = _
    rw [h.2]; omega

theorem place (t : Fin cfg0.N) (a b : Fin 1024) :
    (((cfg0.win 2).blk t).view.emb (ix2 a b) 0).val = 1024 * (t.val / 2) + a.val
      ∧ (((cfg0.win 2).blk t).view.emb (ix2 a b) 1).val = 1024 * (t.val % 2) + b.val := by
  have h := (starts t).2.2
  constructor
  · show win0_2.index t 0 * 1024 + 1 * a.val = _
    rw [h.1]; omega
  · show win0_2.index t 1 * 1024 + 1 * b.val = _
    rw [h.2]; omega

/-- The product of the whole arrays, the second one transposed. -/
def product (x : Vec Ideal S8192x2048 .bf16) (y : Vec Ideal S2048x2048 .bf16) : Vec Ideal S8192x2048 .bf16 := fun j =>
  ∑ k : Fin 2048, entry x (j 0).val k.val * entry y (j 1).val k.val

theorem product_apply (x : Vec Ideal S8192x2048 .bf16) (y : Vec Ideal S2048x2048 .bf16) (a : Fin 8192) (b : Fin 2048) :
    product x y (ix2 a b) = ∑ k : Fin 2048, x (ix2 a k) * y (ix2 b k) :=
  Finset.sum_congr rfl fun k _ => congrArg₂ (· * ·) (entry_ix2 x a k) (entry_ix2 y b k)

theorem flushed2 (c : Dev nD) (t : Fin cfg0.N) :
    (dats m 0 c).flushed 2 t = ((cfg0.win 2).blk t).view.read (Elt Ideal) (product (V m c main_arg0) (V m c main_arg1)) := by
  rw [Cert.OutGradIdeal.Value.flushed2_A]
  funext j
  obtain ⟨a, b, rfl⟩ : ∃ (a b : Fin 1024), j = ix2 a b := ⟨j 0, j 1, eq_ix2 j⟩
  refine (stored c _ _ _ _ _ _ _ _ _ _ _ a b).trans ?_
  simp only [block0, block1]
  show _ = ∑ k : Fin 2048, entry (V m c main_arg0) (((cfg0.win 2).blk t).view.emb (ix2 a b) 0).val k.val
    * entry (V m c main_arg1) (((cfg0.win 2).blk t).view.emb (ix2 a b) 1).val k.val
  rw [(place t a b).1, (place t a b).2]

theorem covered2 (j : S8192x2048.Idx) : ∃ t : Fin cfg0.N, (cfg0.win 2).flush t = true ∧ j ∈ ((cfg0.win 2).blk t).view.set := by
  obtain ⟨a, b, rfl⟩ : ∃ (a : Fin 8192) (b : Fin 2048), j = ix2 a b := ⟨j 0, j 1, eq_ix2 j⟩
  have ha := a.isLt
  have hb := b.isLt
  obtain ⟨t, ht⟩ : ∃ t : Fin cfg0.N, t.val = 2 * (a.val / 1024) + b.val / 1024 :=
    ⟨⟨2 * (a.val / 1024) + b.val / 1024, by show _ < 16; omega⟩, rfl⟩
  obtain ⟨x, hx⟩ := reaches ((cfg0.win 2).blk t).view.emb (place t) (by decide) (by decide) a b (by omega) (by omega)
  exact ⟨t, flush0_2 t, hx ▸ View.emb_mem_set _ _⟩

theorem final2 (c : Dev nD) : (dats m 0 c).arrAt 2 cfg0.N = product (V m c main_arg0) (V m c main_arg1) :=
  (dats m 0 c).arrAt_eq_of_cover 2 _ (fun t _ => flushed2 m c t) covered2

/-- The call ends, its arguments unchanged and its counters at zero. -/
theorem frame_kernel : Cert.quiescent_OutGrad := fun m ρ _ => Cert.OutGrad.Gen.frame m ρ

theorem frame_ideal : Cert.quiescent_OutGradIdeal := fun m ρ _ => Cert.OutGradIdeal.Gen.frame m ρ

/-- The reference ends with its arguments unchanged; it has no counter. -/
theorem frame_ref_ideal : Cert.quiescent_OutGradRefIdeal := fun m ρ _ =>
  (θ_run Cert.OutGradRefIdeal.defs _ _).mono
    (fun r h => ⟨fun c => (h c).2, sem_eq_zero_of_no_sems (by decide) r.2⟩)
    (Cert.OutGradRefIdeal.Value.run (F := Ideal) m ρ)

theorem frame_ref : Cert.quiescent_OutGradRef := fun m ρ _ =>
  (θ_run Cert.OutGradRefIdeal.defs _ _).mono
    (fun r h => ⟨fun c => (h c).2, sem_eq_zero_of_no_sems (by decide) r.2⟩)
    (Cert.OutGradRefIdeal.Value.run (F := Bits) m ρ)

/-- Over the reals the call's result is the product. -/
theorem algebraic : Cert.algebraic_OutGradIdeal_OutGradRefIdeal := by
  intro m ρ m' ρ' _ same
  refine ⟨_, Cert.OutGradIdeal.Value.run_blocks (F := Ideal) m ρ, ?_⟩
  refine (θ_run Cert.OutGradRefIdeal.defs _ _).mono (fun _ h c => ?_) (Cert.OutGradRefIdeal.Value.run (F := Ideal) m' ρ')
  obtain ⟨hx, hy⟩ := same c
  obtain ⟨h1, kept⟩ := h c
  rw [hx, hy] at h1
  refine ⟨h1.trans ?_, kept⟩
  rw [final2, V_main_arg0, V_main_arg1]
  generalize m ((c.tc : Thread nD τ).loc main_arg0) = x
  generalize m ((c.tc : Thread nD τ).loc main_arg1) = y
  funext j
  obtain ⟨a, b, rfl⟩ : ∃ (a : Fin 8192) (b : Fin 2048), j = ix2 a b := ⟨j 0, j 1, eq_ix2 j⟩
  refine Eq.trans ?_ (product_apply x y a b).symm
  pointwise!

end Cert.Proof.OutGrad

end
-- ==== Proof.ShareRun.lean ====
/-
# The exchange of finished halves

Each device copies its half of four arrays into its own result and into its sibling's. The plan has one copy inside the
device and one to the sibling per array; nothing is awaited before all eight are issued.
-/
module

public import proofs.«01_k».proof.Proof.Lines
public import proofs.«01_k».proof.Proof.Mesh
public import proofs.«01_k».proof.Proof.Gen.ShareIdeal.Skeleton
public import proofs.«01_k».proof.Proof.Gen.ShareIdeal.Launch

@[expose] public section

noncomputable section

namespace Cert.ShareRun

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.ShareIdeal Cert.ShareIdeal.Gen Cert.Wires Cert.Mesh

variable {F : FTy → Type} [FloatOps F]

local notation "𝕄" => MT nD τ sig Unit (Elt F) ℕ (UU nD τ sig) ℕ

/-- Array `i` of device `c`, and its place in the result. -/
def line : Fin 4 → Dev nD → Wire sig
  | 0, c => ⟨.hbm, .hbm, S1024x2048, .f32, Memref.whole main_arg0,
      (Memref.whole main_v1_0).slice (Rect.unit (s := S2048x2048) (k0_off1 c) S1024x2048.size (k0_off1_inb c)) (fun _ => rfl)⟩
  | 1, c => ⟨.hbm, .hbm, S256x2048, .f32, Memref.whole main_arg1,
      (Memref.whole main_v1_1).slice (Rect.unit (s := S512x2048) (k0_off2 c) S256x2048.size (k0_off2_inb c)) (fun _ => rfl)⟩
  | 2, c => ⟨.hbm, .hbm, S1024x1152, .f32, Memref.whole main_arg2,
      (Memref.whole main_v1_2).slice (Rect.unit (s := S2048x1152) (k0_off3 c) S1024x1152.size (k0_off3_inb c)) (fun _ => rfl)⟩
  | 3, c => ⟨.hbm, .hbm, S256x2048, .f32, Memref.whole main_arg3,
      (Memref.whole main_v1_3).slice (Rect.unit (s := S512x2048) (k0_off2 c) S256x2048.size (k0_off2_inb c)) (fun _ => rfl)⟩

def semOf : Key (Fin 4) (Fin 4) → DmaSem sig
  | .out i => ⟨i.val, by have := i.isLt; show i.val < 12; omega⟩
  | .inn i => ⟨4 + i.val, by have := i.isLt; show 4 + i.val < 12; omega⟩
  | .here i => ⟨8 + i.val, by have := i.isLt; show 8 + i.val < 12; omega⟩

variable (m : (ℓ : Loc nD τ sig) → Buf (Elt F) ℓ)

def lines : Lines nD τ sig (Elt F) (Fin 4) (Fin 4) where
  sem := semOf
  sem_inj := by decide
  lvl _ := 0
  near := line
  far := line
  peer _ := sib
  peer_peer _ := by decide
  amtA i := (line i 0).dst.view.dmaCredit
  amtB i := (line i 0).dst.view.dmaCredit
  amtA_pos i := View.dmaCredit_pos _ (by match i with | 0 | 1 | 2 | 3 => decide)
  amtB_pos i := View.dmaCredit_pos _ (by match i with | 0 | 1 | 2 | 3 => decide)
  after _ := none
  shareA _ := fullShare.right.left
  shareB _ := fullShare.right.right
  left _ := fullShare
  heldA c i := m _
  heldB c i := m _
  mem := m
  settle c b := stays (fun _ => none) b (fun _ h => nomatch h) _ _

/-- What is set aside of an argument while the copies read it. -/
def asideAt (c : Dev nD) (i : Fin 4) : sProp 𝕄 :=
  (line i c).src.view.loc (c.tc : Thread nD τ) ↦{fullShare.left} m _
def aside (c : Dev nD) : sProp 𝕄 := bigSep Finset.univ (asideAt m c)

theorem src_set (i : Fin 4) (c : Dev nD) : (line i c).src.view.set = Finset.univ := by
  match i with
  | 0 | 1 | 2 | 3 => exact View.set_whole _

theorem arg (i : Fin 4) (c : Dev nD) :
    ((line i c).src.view.loc (c.tc : Thread nD τ) ↦{fullShare} m _ : sProp 𝕄) ⊢ iprop((lines m).ownA c i ∗ (lines m).ownB c i ∗ asideAt m c i) := by
  have h1 := share2 (τ := τ) (Val := Elt F) (ℓ := (line i c).src.view.loc (c.tc : Thread nD τ)) Finset.univ fullShare (f := m _)
  have h2 := share2 (τ := τ) (Val := Elt F) (ℓ := (line i c).src.view.loc (c.tc : Thread nD τ)) Finset.univ fullShare.right (f := m _)
  rw [← src_set] at h2
  iintro H
  ihave H := h1 $$ H
  icases H with ⟨Hl, Hr⟩
  rw [← src_set]
  ihave Hr := h2 $$ Hr
  icases Hr with ⟨Ha, Hb⟩
  isplitl [Ha]; · unfold Lines.ownA; iexact Ha
  isplitl [Hb]; · unfold Lines.ownB; iexact Hb
  unfold asideAt; rw [← src_set]; iexact Hl

theorem out0 (c : Dev nD) :
    ((c.tc : Thread nD τ).loc main_v1_0 ↦{fullShare} m _ : sProp 𝕄) ⊢ iprop((lines m).slotA c 0 ∗ (lines m).slotB c 0) :=
  halves (ℓ := (c.tc : Thread nD τ).loc main_v1_0) (line 0 c).dst.view.set (line 0 (sib c)).dst.view.set
    (apart (h := fun _ => rfl) (h' := fun _ => rfl) (Rect.unit_disjoint (0 : Fin 2) (by rw [k0_off1_eq, k0_off1_eq]; exact apart_rows 1024 c)))

theorem out1 (c : Dev nD) :
    ((c.tc : Thread nD τ).loc main_v1_1 ↦{fullShare} m _ : sProp 𝕄) ⊢ iprop((lines m).slotA c 1 ∗ (lines m).slotB c 1) :=
  halves (ℓ := (c.tc : Thread nD τ).loc main_v1_1) (line 1 c).dst.view.set (line 1 (sib c)).dst.view.set
    (apart (h := fun _ => rfl) (h' := fun _ => rfl) (Rect.unit_disjoint (0 : Fin 2) (by rw [k0_off2_eq, k0_off2_eq]; exact apart_rows 256 c)))

theorem out2 (c : Dev nD) :
    ((c.tc : Thread nD τ).loc main_v1_2 ↦{fullShare} m _ : sProp 𝕄) ⊢ iprop((lines m).slotA c 2 ∗ (lines m).slotB c 2) :=
  halves (ℓ := (c.tc : Thread nD τ).loc main_v1_2) (line 2 c).dst.view.set (line 2 (sib c)).dst.view.set
    (apart (h := fun _ => rfl) (h' := fun _ => rfl) (Rect.unit_disjoint (0 : Fin 2) (by rw [k0_off3_eq, k0_off3_eq]; exact apart_rows 1024 c)))

theorem out3 (c : Dev nD) :
    ((c.tc : Thread nD τ).loc main_v1_3 ↦{fullShare} m _ : sProp 𝕄) ⊢ iprop((lines m).slotA c 3 ∗ (lines m).slotB c 3) :=
  halves (ℓ := (c.tc : Thread nD τ).loc main_v1_3) (line 3 c).dst.view.set (line 3 (sib c)).dst.view.set
    (apart (h := fun _ => rfl) (h' := fun _ => rfl) (Rect.unit_disjoint (0 : Fin 2) (by rw [k0_off2_eq, k0_off2_eq]; exact apart_rows 256 c)))

theorem open4 (Φ : Fin 4 → sProp 𝕄) : bigSep Finset.univ Φ = iprop(Φ 0 ∗ Φ 1 ∗ Φ 2 ∗ Φ 3) := by
  rw [bigSep_univ_eq_bigSepL [0, 1, 2, 3] (by decide) (by decide) Φ]
  rfl

theorem deal (c : Dev nD) : Pipeline.unscopedRest (cfgs 0).spec c (fun b => m ((c.tc : Thread nD τ).loc b))
    ⊢ iprop(bigSep ((lines m).plan.ready [] []) ((lines m).plan.own c) ∗ bigSep Finset.univ ((lines m).plan.slot c) ∗ aside m c) := by
  refine (lines m).deal_of c _ _ ?_
  rw [show (Finset.univ.filter fun b => (lines m).after b = none) = (Finset.univ : Finset (Fin 4)) from Finset.filter_true_of_mem fun _ _ => rfl]
  rw [show Pipeline.unscopedRest (cfgs 0).spec c _ = _ from unscopedRest0_eq c _]
  unfold aside
  rw [open4, open4, open4, open4, open4]
  have a0 : ((c.tc : Thread nD τ).loc main_arg0 ↦{fullShare} m _ : sProp 𝕄) ⊢ _ := arg m 0 c
  have a1 : ((c.tc : Thread nD τ).loc main_arg1 ↦{fullShare} m _ : sProp 𝕄) ⊢ _ := arg m 1 c
  have a2 : ((c.tc : Thread nD τ).loc main_arg2 ↦{fullShare} m _ : sProp 𝕄) ⊢ _ := arg m 2 c
  have a3 : ((c.tc : Thread nD τ).loc main_arg3 ↦{fullShare} m _ : sProp 𝕄) ⊢ _ := arg m 3 c
  iintro ⟨H0, H1, H2, H3, G0, G1, G2, G3⟩
  ihave H0 := a0 $$ H0
  ihave H1 := a1 $$ H1
  ihave H2 := a2 $$ H2
  ihave H3 := a3 $$ H3
  ihave G0 := out0 m c $$ G0
  ihave G1 := out1 m c $$ G1
  ihave G2 := out2 m c $$ G2
  ihave G3 := out3 m c $$ G3
  icases H0 with ⟨A0, B0, Z0⟩
  icases H1 with ⟨A1, B1, Z1⟩
  icases H2 with ⟨A2, B2, Z2⟩
  icases H3 with ⟨A3, B3, Z3⟩
  icases G0 with ⟨S0, T0⟩
  icases G1 with ⟨S1, T1⟩
  icases G2 with ⟨S2, T2⟩
  icases G3 with ⟨S3, T3⟩
  isplitl [A0 A1 A2 A3 B0 B1 B2 B3]
  · isplitl [A0 A1 A2 A3]
    · isplitl [A0]; · iexact A0
      isplitl [A1]; · iexact A1
      isplitl [A2]; · iexact A2
      iexact A3
    · isplitl [B0]; · iexact B0
      isplitl [B1]; · iexact B1
      isplitl [B2]; · iexact B2
      iexact B3
  isplitl [S0 S1 S2 S3 T0 T1 T2 T3]
  · isplitl [S0 S1 S2 S3]
    · isplitl [S0]; · iexact S0
      isplitl [S1]; · iexact S1
      isplitl [S2]; · iexact S2
      iexact S3
    · isplitl [T0]; · iexact T0
      isplitl [T1]; · iexact T1
      isplitl [T2]; · iexact T2
      iexact T3
  isplitl [Z0]; · iexact Z0
  isplitl [Z1]; · iexact Z1
  isplitl [Z2]; · iexact Z2
  iexact Z3

theorem allS : ∀ k : Key (Fin 4) (Fin 4), k ∈ ([.inn 3, .out 3, .here 3, .inn 2, .out 2, .here 2, .inn 1, .out 1, .here 1, .inn 0, .out 0, .here 0] : List (Key (Fin 4) (Fin 4))) := by decide
theorem allR : ∀ k : Key (Fin 4) (Fin 4), k ∈ ([.here 3, .out 3, .inn 3, .here 2, .out 2, .inn 2, .here 1, .out 1, .inn 1, .here 0, .out 0, .inn 0] : List (Key (Fin 4) (Fin 4))) := by decide
theorem issued (b : Fin 4) : Key.inn b ∈ ([.inn 3, .out 3, .here 3, .inn 2, .out 2, .here 2, .inn 1, .out 1, .here 1, .inn 0, .out 0, .here 0] : List (Key (Fin 4) (Fin 4))) := allS _

theorem body (c : Dev nD) (κ : Dev nD × Key (Fin 4) (Fin 4) → ℕ) (t : Fin (cfgs 0).N) :
    (lines m).plan.st c κ [] [] ⊢ wp frame (wpE (defs₀ (F := F)) Variants.none (c.tc : Thread nD τ) none) Set.univ
      (defs₀ (F := F) .tc (cfgs 0).body ((cfgs 0).bodyArgs t ((cfgs 0).slots t))) (fun _ => (lines m).plan.after₁ c) := by
  show _ ⊢ wp frame _ _ (cc0_share_halves (F := F) (Memref.whole main_arg0) (Memref.isWhole_whole _) (Memref.whole main_arg1) (Memref.isWhole_whole _)
    (Memref.whole main_arg2) (Memref.isWhole_whole _) (Memref.whole main_arg3) (Memref.isWhole_whole _)
    (Memref.whole main_v1_0) (Memref.isWhole_whole _) (Memref.whole main_v1_1) (Memref.isWhole_whole _)
    (Memref.whole main_v1_2) (Memref.isWhole_whole _) (Memref.whole main_v1_3) (Memref.isWhole_whole _)
    cc0_scratch0 cc0_scratch1 cc0_scratch2) _
  simp only [cc0_share_halves_eq_skeleton]
  unfold cc0_share_halves_skel
  simp only [k0_part1_eq_skeleton, k0_part2_eq_skeleton, k0_part3_eq_skeleton, k0_part4_eq_skeleton]
  unfold k0_part1_skel k0_part2_skel k0_part3_skel k0_part4_skel
  simp only [Prog.lift, Prog.bind_op, Prog.bind_ret, Prog.pure_eq_ret, wp_deviceId]
  refine Lines.wp_copy (w := lines m) Variants.none 0 rfl rfl (by decide) (by decide) ?_
  refine Lines.wp_send (w := lines m) Variants.none 0 (Fin.ext (k0_dev1_eq c)) rfl rfl rfl (by decide) (by decide) (by decide) (fun _ h => nomatch h) ?_
  refine Lines.wp_copy (w := lines m) Variants.none 1 rfl rfl (by decide) (by decide) ?_
  refine Lines.wp_send (w := lines m) Variants.none 1 (Fin.ext (k0_dev2_eq c)) rfl rfl rfl (by decide) (by decide) (by decide) (fun _ h => nomatch h) ?_
  refine Lines.wp_copy (w := lines m) Variants.none 2 rfl rfl (by decide) (by decide) ?_
  refine Lines.wp_send (w := lines m) Variants.none 2 (Fin.ext (k0_dev3_eq c)) rfl rfl rfl (by decide) (by decide) (by decide) (fun _ h => nomatch h) ?_
  refine Lines.wp_copy (w := lines m) Variants.none 3 rfl rfl (by decide) (by decide) ?_
  refine Lines.wp_send (w := lines m) Variants.none 3 (Fin.ext (k0_dev4_eq c)) rfl rfl rfl (by decide) (by decide) (by decide) (fun _ h => nomatch h) ?_
  refine Lines.wp_waitR (w := lines m) Variants.none 0 rfl rfl (by decide) (fun b hb => absurd (issued b) hb) (fun _ h => nomatch h) ?_
  refine Lines.wp_waitS (w := lines m) Variants.none 0 rfl rfl (by decide) (by decide) (fun b hb => absurd (issued b) hb) ?_
  refine Lines.wp_waitA (w := lines m) Variants.none 0 rfl rfl (by decide) (by decide) (fun b hb => absurd (issued b) hb) ?_
  refine Lines.wp_waitR (w := lines m) Variants.none 1 rfl rfl (by decide) (fun b hb => absurd (issued b) hb) (fun _ h => nomatch h) ?_
  refine Lines.wp_waitS (w := lines m) Variants.none 1 rfl rfl (by decide) (by decide) (fun b hb => absurd (issued b) hb) ?_
  refine Lines.wp_waitA (w := lines m) Variants.none 1 rfl rfl (by decide) (by decide) (fun b hb => absurd (issued b) hb) ?_
  refine Lines.wp_waitR (w := lines m) Variants.none 2 rfl rfl (by decide) (fun b hb => absurd (issued b) hb) (fun _ h => nomatch h) ?_
  refine Lines.wp_waitS (w := lines m) Variants.none 2 rfl rfl (by decide) (by decide) (fun b hb => absurd (issued b) hb) ?_
  refine Lines.wp_waitA (w := lines m) Variants.none 2 rfl rfl (by decide) (by decide) (fun b hb => absurd (issued b) hb) ?_
  refine Lines.wp_waitR (w := lines m) Variants.none 3 rfl rfl (by decide) (fun b hb => absurd (issued b) hb) (fun _ h => nomatch h) ?_
  refine Lines.wp_waitS (w := lines m) Variants.none 3 rfl rfl (by decide) (by decide) (fun b hb => absurd (issued b) hb) ?_
  refine Lines.wp_waitA (w := lines m) Variants.none 3 rfl rfl (by decide) (by decide) (fun b hb => absurd (issued b) hb) ?_
  rw [wp_ret]
  exact (lines m).plan.finish c κ (fun k _ => allS k) allR

/-- The facts about the final memory of device `c`: the copies arrived and the arguments are unchanged. -/
def Ends (c : Dev nD) (μ : MemSt nD τ sig (Elt F)) : Prop :=
  (lines m).Landed c μ ∧ ∀ i : Fin 4, μ.mem ((line i c).src.view.loc (c.tc : Thread nD τ)) = m _

theorem ownSemFacts : Pipeline.OwnSemFacts cfg0.spec (lines m).plan.osem := by
  show Pipeline.OwnSemFacts cfg0.spec (fun k => .dma (semOf k))
  decide

theorem run_main (g : Dev nD → PrngReg) :
    θ_run (defs (F := F)) (onTc (τ := τ) (main (F := F))) ⟨m, fun _ => 0, g⟩ (fun r => (∀ c, Ends m c r.2) ∧ r.2.sem = fun _ => 0) := by
  have h := (lines m).plan.run (defs₀ (F := F)) cfgs N_0 cellOf_inj winFacts0 (ownSemFacts m) m g (main (F := F)) (fun _ => rfl)
    (fun c => scopedRest0_eq c) (aside m) (deal m) (body m) (Ends m)
    (fun c s' => (lines m).facts c (asd := aside m c) (Q := fun μ => ∀ i : Fin 4, μ.mem ((line i c).src.view.loc (c.tc : Thread nD τ)) = m _) (fun s' => kept (fun i => (line i c).src.view.loc (c.tc : Thread nD τ)) _ _ s') s')
  exact (θ_run defs _ _).mono (fun r hr => ⟨hr.1, sem_eq_zero_of_scoped (by decide) hr.2⟩) h

end Cert.ShareRun

end
-- ==== Proof.ShareValue.lean ====
/-
# What the exchange of halves computes

A chip's array is the two halves its cores held, one below the other; so the result on every device is its chip's block
of the array the eight devices hold together.
-/
module

public import proofs.«01_k».proof.Proof.ShareRun
public import Idealize.ShloMosaic.Lib.Layout

@[expose] public section

noncomputable section

namespace Cert.ShareRun

open Idealize.ShloMosaic
open Idealize.ShloMosaic.TcCoe
open Idealize.SL.Sem
open Cert.ShareIdeal Cert.ShareIdeal.Gen Cert.Wires Cert.Mesh

variable {F : FTy → Type} [FloatOps F]

/-- Two pieces of `a` rows, one from each core of a chip, make the chip's block of the whole. -/
theorem join {α : Type} {a b t w : ℕ} (hb : b = 2 * a) (ht : t = 8 * a)
    (V : (⟨2, ![b, w]⟩ : Shape).Idx → α) (X : (⟨2, ![t, w]⟩ : Shape).Idx → α) (c : Fin 8)
    (h8 : Layout.Tiles ⟨2, ![a, w]⟩ ⟨2, ![t, w]⟩ 0 8)
    (h4 : Layout.TilesN ⟨2, ![b, w]⟩ ⟨2, ![t, w]⟩ (fun i => Layout.cutSize [2, 2, 2] (![[0, 1], []] i)))
    (h : ∀ d : Fin 8, d = c ∨ d = sib c → ∀ (y : (⟨2, ![a, w]⟩ : Shape).Idx) (x : (⟨2, ![b, w]⟩ : Shape).Idx),
      (x 0).val = a * (d.val % 2) + (y 0).val → (x 1).val = (y 1).val → V x = Layout.block ⟨2, ![a, w]⟩ ⟨2, ![t, w]⟩ 0 8 d X h8 y) :
    V = Layout.blockN ⟨2, ![b, w]⟩ ⟨2, ![t, w]⟩ (Layout.meshBlock [2, 2, 2] ![[0, 1], []] c) X h4 := by
  subst hb ht
  funext x
  have hx : (x 0).val < 2 * a := (x 0).isLt
  have hc := c.isLt
  have key : ∀ d : Fin 8, (d = c ∨ d = sib c) → d.val / 2 = c.val / 2 → a * (d.val % 2) ≤ (x 0).val → (x 0).val - a * (d.val % 2) < a →
      V x = Layout.blockN ⟨2, ![2 * a, w]⟩ ⟨2, ![8 * a, w]⟩ (Layout.meshBlock [2, 2, 2] ![[0, 1], []] c) X h4 x := by
    intro d hd hdc hle hlt
    let y : (⟨2, ![a, w]⟩ : Shape).Idx := Shape.pair ⟨(x 0).val - a * (d.val % 2), hlt⟩ ⟨(x 1).val, (x 1).isLt⟩
    rw [h d hd y x (by show _ = _ + ((x 0).val - a * (d.val % 2)); omega) rfl]
    show X _ = X _
    congr 1
    funext i
    apply Fin.ext
    have h3 : d.val * a = c.val / 2 * (2 * a) + a * (d.val % 2) := by
      have h2 : d.val = c.val / 2 * 2 + d.val % 2 := by omega
      conv_lhs => rw [h2]
      rw [Nat.add_mul, Nat.mul_assoc, Nat.mul_comm a]
    have h1 : (c.val / 4 % 2) * 2 + ((c.val / 2 % 2) * 1 + 0) = c.val / 2 := by omega
    rcases i with ⟨_ | _ | n, hi⟩
    · show d.val * a + ((x 0).val - a * (d.val % 2)) = ((c.val / 4 % 2) * 2 + ((c.val / 2 % 2) * 1 + 0)) * (2 * a) + (x 0).val
      rw [h1]
      omega
    · show (x 1).val = 0 * w + (x 1).val
      omega
    · exact absurd hi (by show ¬ n + 2 < 2; omega)
  have hs : (sib c).val = 4 * (c.val / 4) + 2 * ((c.val / 2) % 2) + 1 - c.val % 2 := rfl
  by_cases hlt : (x 0).val < a
  · by_cases hp : c.val % 2 = 0
    · exact key c (.inl rfl) rfl (by rw [hp]; omega) (by rw [hp]; omega)
    · have hq : (sib c).val % 2 = 0 := by omega
      exact key (sib c) (.inr rfl) (by omega) (by rw [hq]; omega) (by rw [hq]; omega)
  · by_cases hp : c.val % 2 = 1
    · exact key c (.inl rfl) rfl (by rw [hp]; omega) (by rw [hp]; omega)
    · have hq : (sib c).val % 2 = 1 := by omega
      exact key (sib c) (.inr rfl) (by omega) (by rw [hq]; omega) (by rw [hq]; omega)

/-- The same, from what the copies' places in the result hold. -/
theorem join_places {α : Type} {a b t w : ℕ} (hb : b = 2 * a) (ht : t = 8 * a)
    (V : (⟨2, ![b, w]⟩ : Shape).Idx → α) (X : (⟨2, ![t, w]⟩ : Shape).Idx → α) (A : Fin 8 → (⟨2, ![a, w]⟩ : Shape).Idx → α) (c : Fin 8)
    (h8 : Layout.Tiles ⟨2, ![a, w]⟩ ⟨2, ![t, w]⟩ 0 8)
    (h4 : Layout.TilesN ⟨2, ![b, w]⟩ ⟨2, ![t, w]⟩ (fun i => Layout.cutSize [2, 2, 2] (![[0, 1], []] i)))
    (hA : ∀ d, A d = Layout.block ⟨2, ![a, w]⟩ ⟨2, ![t, w]⟩ 0 8 d X h8)
    (off : Fin 8 → Fin 2 → ℕ) (hoff : ∀ d, off d = ![a * (d.val % 2), 0])
    (inb : ∀ d i, off d i + (⟨2, ![a, w]⟩ : Shape).size i ≤ (⟨2, ![b, w]⟩ : Shape).size i)
    (h : ∀ d : Fin 8, d = c ∨ d = sib c → ∀ y : (⟨2, ![a, w]⟩ : Shape).Idx,
      V ((Rect.unit (s := ⟨2, ![b, w]⟩) (off d) (⟨2, ![a, w]⟩ : Shape).size (inb d)).emb y) = A d y) :
    V = Layout.blockN ⟨2, ![b, w]⟩ ⟨2, ![t, w]⟩ (Layout.meshBlock [2, 2, 2] ![[0, 1], []] c) X h4 := by
  refine join hb ht V X c h8 h4 fun d hd y x hx0 hx1 => ?_
  rw [← hA d, ← h d hd y]
  congr 1
  funext i
  apply Fin.ext
  rw [Rect.emb_apply]
  show (x i).val = off d i + 1 * (y i).val
  rw [hoff]
  rcases i with ⟨_ | _ | n, hi⟩
  · show (x 0).val = a * (d.val % 2) + 1 * (y 0).val
    omega
  · show (x 1).val = 0 + 1 * (y 1).val
    omega
  · exact absurd hi (by show ¬ n + 2 < 2; omega)

variable (m : (ℓ : Loc nD τ sig) → Buf (Elt F) ℓ)

/-- The contents the copies brought, at either device of the chip. -/
theorem brought {c : Dev nD} {μ : MemSt nD τ sig (Elt F)} (h : Ends m c μ) (i : Fin 4) (d : Dev nD) (hd : d = c ∨ d = sib c) :
    (line i d).dst.view.read (Elt F) (μ.mem ((line i d).dst.view.loc (c.tc : Thread nD τ)))
      = (line i d).src.view.read (Elt F) (m ((line i d).src.view.loc (d.tc : Thread nD τ))) := by
  rcases hd with rfl | rfl
  · exact h.1.1 i
  · exact h.1.2 i

theorem value0 {c : Dev nD} {μ : MemSt nD τ sig (Elt F)} (h : Ends m c μ) (X : (⟨2, ![8192, 2048]⟩ : Shape).Idx → F .f32)
    (hX : ∀ d : Dev nD, m ((d.tc : Thread nD τ).loc main_arg0) = Layout.block ⟨2, ![1024, 2048]⟩ ⟨2, ![8192, 2048]⟩ 0 8 d X) :
    μ.mem ((c.tc : Thread nD τ).loc main_v1_0) = Layout.blockN ⟨2, ![2048, 2048]⟩ ⟨2, ![8192, 2048]⟩ (Layout.meshBlock [2, 2, 2] ![[0, 1], []] c) X :=
  join_places (a := 1024) rfl rfl _ X (fun d : Dev nD => m ((d.tc : Thread nD τ).loc main_arg0)) c (by decide) _ hX k0_off1 k0_off1_eq k0_off1_inb
    fun d hd => congrFun (brought m h 0 d hd)

theorem value1 {c : Dev nD} {μ : MemSt nD τ sig (Elt F)} (h : Ends m c μ) (X : (⟨2, ![2048, 2048]⟩ : Shape).Idx → F .f32)
    (hX : ∀ d : Dev nD, m ((d.tc : Thread nD τ).loc main_arg1) = Layout.block ⟨2, ![256, 2048]⟩ ⟨2, ![2048, 2048]⟩ 0 8 d X) :
    μ.mem ((c.tc : Thread nD τ).loc main_v1_1) = Layout.blockN ⟨2, ![512, 2048]⟩ ⟨2, ![2048, 2048]⟩ (Layout.meshBlock [2, 2, 2] ![[0, 1], []] c) X :=
  join_places (a := 256) rfl rfl _ X (fun d : Dev nD => m ((d.tc : Thread nD τ).loc main_arg1)) c (by decide) _ hX k0_off2 k0_off2_eq k0_off2_inb
    fun d hd => congrFun (brought m h 1 d hd)

theorem value2 {c : Dev nD} {μ : MemSt nD τ sig (Elt F)} (h : Ends m c μ) (X : (⟨2, ![8192, 1152]⟩ : Shape).Idx → F .f32)
    (hX : ∀ d : Dev nD, m ((d.tc : Thread nD τ).loc main_arg2) = Layout.block ⟨2, ![1024, 1152]⟩ ⟨2, ![8192, 1152]⟩ 0 8 d X) :
    μ.mem ((c.tc : Thread nD τ).loc main_v1_2) = Layout.blockN ⟨2, ![2048, 1152]⟩ ⟨2, ![8192, 1152]⟩ (Layout.meshBlock [2, 2, 2] ![[0, 1], []] c) X :=
  join_places (a := 1024) rfl rfl _ X (fun d : Dev nD => m ((d.tc : Thread nD τ).loc main_arg2)) c (by decide) _ hX k0_off3 k0_off3_eq k0_off3_inb
    fun d hd => congrFun (brought m h 2 d hd)

theorem value3 {c : Dev nD} {μ : MemSt nD τ sig (Elt F)} (h : Ends m c μ) (X : (⟨2, ![2048, 2048]⟩ : Shape).Idx → F .f32)
    (hX : ∀ d : Dev nD, m ((d.tc : Thread nD τ).loc main_arg3) = Layout.block ⟨2, ![256, 2048]⟩ ⟨2, ![2048, 2048]⟩ 0 8 d X) :
    μ.mem ((c.tc : Thread nD τ).loc main_v1_3) = Layout.blockN ⟨2, ![512, 2048]⟩ ⟨2, ![2048, 2048]⟩ (Layout.meshBlock [2, 2, 2] ![[0, 1], []] c) X :=
  join_places (a := 256) rfl rfl _ X (fun d : Dev nD => m ((d.tc : Thread nD τ).loc main_arg3)) c (by decide) _ hX k0_off2 k0_off2_eq k0_off2_inb
    fun d hd => congrFun (brought m h 3 d hd)

end Cert.ShareRun

end
-- ==== Proof.ShareClaims.lean ====
/-
# The claims about the exchange of halves

Both frames from one run, the reference's frames, and the two value claims.
-/
module

public import proofs.«01_k».proof.Defs
public import proofs.«01_k».proof.Proof.ShareValue
public import proofs.«01_k».proof.Proof.Gen.Share
public import proofs.«01_k».proof.Proof.Gen.ShareRef
public import proofs.«01_k».proof.Proof.Gen.ShareRefIdeal
public import Idealize.ShloMosaic.Lib.StableHlo.Run

@[expose] public section

noncomputable section

namespace Cert.ShareClaims

open Idealize.ShloMosaic Idealize.ShloMosaic.TcCoe Idealize.ShloMosaic.StableHlo
open Idealize.SL.Sem
open Cert.ShareRun

theorem frame_ideal : Cert.quiescent_ShareIdeal := fun m g _ =>
  (θ_run Cert.ShareIdeal.defs _ _).mono (fun _ h => ⟨fun c => ⟨(h.1 c).2 0, (h.1 c).2 1, (h.1 c).2 2, (h.1 c).2 3⟩, h.2⟩) (run_main (F := Ideal) m g)

theorem frame_kernel : Cert.quiescent_Share := fun m g _ =>
  (θ_run Cert.ShareIdeal.defs _ _).mono (fun _ h => ⟨fun c => ⟨(h.1 c).2 0, (h.1 c).2 1, (h.1 c).2 2, (h.1 c).2 3⟩, h.2⟩) (run_main (F := Bits) m g)

/-- The reference returns its arguments. -/
theorem run_ref {F : FTy → Type} [FloatOps F] (m : (ℓ : Loc Cert.ShareRefIdeal.nD Cert.ShareRefIdeal.τ Cert.ShareRefIdeal.sig) → Buf (Elt F) ℓ)
    (g : Dev Cert.ShareRefIdeal.nD → PrngReg) :
    θ_run (Cert.ShareRefIdeal.defs (F := F)) (onTc (τ := Cert.ShareRefIdeal.τ) (Cert.ShareRefIdeal.main (F := F))) ⟨m, fun _ => 0, g⟩ fun r =>
      (∀ (d : Dev Cert.ShareRefIdeal.nD) (b : Ref Cert.ShareRefIdeal.sig .tc),
        r.2.mem ((d.tc : Thread Cert.ShareRefIdeal.nD Cert.ShareRefIdeal.τ).loc b) = m ((d.tc : Thread Cert.ShareRefIdeal.nD Cert.ShareRefIdeal.τ).loc b))
      ∧ r.2.sem = fun _ => 0 :=
  (θ_run Cert.ShareRefIdeal.defs _ _).mono (fun r h => ⟨h, sem_eq_zero_of_no_sems (by decide) r.2⟩)
    (run_seq (by decide) (by decide) Cert.ShareRefIdeal.defs Cert.ShareRefIdeal.main (fun _ => []) (fun _ => rfl) (fun _ => trivial) m g)

theorem frame_ref_ideal : Cert.quiescent_ShareRefIdeal := fun m g _ =>
  (θ_run Cert.ShareRefIdeal.defs _ _).mono (fun _ h => ⟨fun c => ⟨h.1 c _, h.1 c _, h.1 c _, h.1 c _⟩, h.2⟩) (run_ref (F := Ideal) m g)

theorem frame_ref : Cert.quiescent_ShareRef := fun m g _ =>
  (θ_run Cert.ShareRefIdeal.defs _ _).mono (fun _ h => ⟨fun c => ⟨h.1 c _, h.1 c _, h.1 c _, h.1 c _⟩, h.2⟩) (run_ref (F := Bits) m g)

theorem algebraic : Cert.algebraic_ShareIdeal_ShareRefIdeal := fun m g m' g' _ hin =>
  ⟨_, _, _, _,
    (θ_run Cert.ShareIdeal.defs _ _).mono (fun _ h c =>
      ⟨value0 m (h.1 c) _ fun d => (hin d).1, value1 m (h.1 c) _ fun d => (hin d).2.1, value2 m (h.1 c) _ fun d => (hin d).2.2.1,
        value3 m (h.1 c) _ fun d => (hin d).2.2.2, (h.1 c).2 0, (h.1 c).2 1, (h.1 c).2 2, (h.1 c).2 3⟩) (run_main (F := Ideal) m g),
    (θ_run Cert.ShareRefIdeal.defs _ _).mono (fun _ h => ⟨h.1 0 _, h.1 0 _, h.1 0 _, h.1 0 _, h.1 0 _, h.1 0 _, h.1 0 _, h.1 0 _⟩) (run_ref (F := Ideal) m' g')⟩

theorem bitexact : Cert.bitexact_Share_ShareRef := fun m g m' g' _ hin =>
  ⟨_, _, _, _,
    (θ_run Cert.ShareIdeal.defs _ _).mono (fun _ h c =>
      ⟨value0 m (h.1 c) _ fun d => (hin d).1, value1 m (h.1 c) _ fun d => (hin d).2.1, value2 m (h.1 c) _ fun d => (hin d).2.2.1,
        value3 m (h.1 c) _ fun d => (hin d).2.2.2, (h.1 c).2 0, (h.1 c).2 1, (h.1 c).2 2, (h.1 c).2 3⟩) (run_main (F := Bits) m g),
    (θ_run Cert.ShareRefIdeal.defs _ _).mono (fun _ h => ⟨h.1 0 _, h.1 0 _, h.1 0 _, h.1 0 _, h.1 0 _, h.1 0 _, h.1 0 _, h.1 0 _⟩) (run_ref (F := Bits) m' g')⟩

end Cert.ShareClaims

end
-- ==== Proof.SumClaims.lean ====
/- The sums that stand between the copies of the large reduce-scatter: the call that adds two partial gradients, in its three widths,
   and the call that adds the four chips' parts, in its three shapes, leave the entrywise sums. -/
module

public import proofs.«01_k».proof.Defs
public import proofs.«01_k».proof.Proof.Gathering
public import proofs.«01_k».proof.Proof.Gen.PairEvenInIdeal.Value
public import proofs.«01_k».proof.Proof.Gen.PairEvenInRefIdeal.Run
public import proofs.«01_k».proof.Proof.Gen.PairEvenIn.Frame
public import proofs.«01_k».proof.Proof.Gen.PairEvenInRef
public import proofs.«01_k».proof.Proof.Gen.PairOddInIdeal.Value
public import proofs.«01_k».proof.Proof.Gen.PairOddInRefIdeal.Run
public import proofs.«01_k».proof.Proof.Gen.PairOddIn.Frame
public import proofs.«01_k».proof.Proof.Gen.PairOddInRef
public import proofs.«01_k».proof.Proof.Gen.PairOutIdeal.Value
public import proofs.«01_k».proof.Proof.Gen.PairOutRefIdeal.Run
public import proofs.«01_k».proof.Proof.Gen.PairOut.Frame
public import proofs.«01_k».proof.Proof.Gen.PairOutRef
public import proofs.«01_k».proof.Proof.Gen.ChipsEvenInIdeal.Value
public import proofs.«01_k».proof.Proof.Gen.ChipsEvenInRefIdeal.Run
public import proofs.«01_k».proof.Proof.Gen.ChipsEvenIn.Frame
public import proofs.«01_k».proof.Proof.Gen.ChipsEvenInRef
public import proofs.«01_k».proof.Proof.Gen.ChipsOddInIdeal.Value
public import proofs.«01_k».proof.Proof.Gen.ChipsOddInRefIdeal.Run
public import proofs.«01_k».proof.Proof.Gen.ChipsOddIn.Frame
public import proofs.«01_k».proof.Proof.Gen.ChipsOddInRef
public import proofs.«01_k».proof.Proof.Gen.ChipsOutIdeal.Value
public import proofs.«01_k».proof.Proof.Gen.ChipsOutRefIdeal.Run
public import proofs.«01_k».proof.Proof.Gen.ChipsOut.Frame
public import proofs.«01_k».proof.Proof.Gen.ChipsOutRef
public import Idealize.ShloMosaic.Lib.Quiescent
public import Idealize.ShloMosaic.Lib.Pointwise.Tactic
public import Idealize.ShloMosaic.Lib.Pointwise.Reduce
public import Idealize.ShloMosaic.Lib.Pointwise.Reshape

@[expose] public section

noncomputable section

open Idealize.ShloMosaic Idealize.ShloMosaic.TcCoe Idealize.SL.Sem

/-! ## The sum of two parts of the even input weight's gradient -/

namespace Cert.Proof.PairEvenIn

/-- The call ends, its arguments unchanged and its counters at zero. -/
theorem frame_kernel : Cert.quiescent_PairEvenIn := fun m ρ _ => Cert.PairEvenIn.Gen.frame m ρ

theorem frame_ideal : Cert.quiescent_PairEvenInIdeal := fun m ρ _ => Cert.PairEvenInIdeal.Gen.frame m ρ

/-- The reference ends with its arguments unchanged; it has no counter. -/
theorem frame_ref_ideal : Cert.quiescent_PairEvenInRefIdeal := fun m ρ _ =>
  (θ_run Cert.PairEvenInRefIdeal.defs _ _).mono
    (fun r h => ⟨fun c => (h c).2, sem_eq_zero_of_no_sems (by decide) r.2⟩)
    (Cert.PairEvenInRefIdeal.Value.run (F := Ideal) m ρ)

theorem frame_ref : Cert.quiescent_PairEvenInRef := fun m ρ _ =>
  (θ_run Cert.PairEvenInRefIdeal.defs _ _).mono
    (fun r h => ⟨fun c => (h c).2, sem_eq_zero_of_no_sems (by decide) r.2⟩)
    (Cert.PairEvenInRefIdeal.Value.run (F := Bits) m ρ)

/-- Over the reals the call's result is the entrywise sum. -/
theorem algebraic : Cert.algebraic_PairEvenInIdeal_PairEvenInRefIdeal := by
  intro m ρ m' ρ' _ same
  refine ⟨_, Cert.PairEvenInIdeal.Value.run (F := Ideal) m ρ, ?_⟩
  refine (θ_run Cert.PairEvenInRefIdeal.defs _ _).mono (fun _ h c => ?_) (Cert.PairEvenInRefIdeal.Value.run (F := Ideal) m' ρ')
  obtain ⟨ha, hb⟩ := same c
  obtain ⟨h1, kept⟩ := h c
  rw [ha, hb] at h1
  exact ⟨h1, kept⟩

end Cert.Proof.PairEvenIn

/-! ## The sum of two parts of the odd input weight's gradient -/

namespace Cert.Proof.PairOddIn

/-- The call ends, its arguments unchanged and its counters at zero. -/
theorem frame_kernel : Cert.quiescent_PairOddIn := fun m ρ _ => Cert.PairOddIn.Gen.frame m ρ

theorem frame_ideal : Cert.quiescent_PairOddInIdeal := fun m ρ _ => Cert.PairOddInIdeal.Gen.frame m ρ

/-- The reference ends with its arguments unchanged; it has no counter. -/
theorem frame_ref_ideal : Cert.quiescent_PairOddInRefIdeal := fun m ρ _ =>
  (θ_run Cert.PairOddInRefIdeal.defs _ _).mono
    (fun r h => ⟨fun c => (h c).2, sem_eq_zero_of_no_sems (by decide) r.2⟩)
    (Cert.PairOddInRefIdeal.Value.run (F := Ideal) m ρ)

theorem frame_ref : Cert.quiescent_PairOddInRef := fun m ρ _ =>
  (θ_run Cert.PairOddInRefIdeal.defs _ _).mono
    (fun r h => ⟨fun c => (h c).2, sem_eq_zero_of_no_sems (by decide) r.2⟩)
    (Cert.PairOddInRefIdeal.Value.run (F := Bits) m ρ)

/-- Over the reals the call's result is the entrywise sum. -/
theorem algebraic : Cert.algebraic_PairOddInIdeal_PairOddInRefIdeal := by
  intro m ρ m' ρ' _ same
  refine ⟨_, Cert.PairOddInIdeal.Value.run (F := Ideal) m ρ, ?_⟩
  refine (θ_run Cert.PairOddInRefIdeal.defs _ _).mono (fun _ h c => ?_) (Cert.PairOddInRefIdeal.Value.run (F := Ideal) m' ρ')
  obtain ⟨ha, hb⟩ := same c
  obtain ⟨h1, kept⟩ := h c
  rw [ha, hb] at h1
  exact ⟨h1, kept⟩

end Cert.Proof.PairOddIn

/-! ## The sum of two parts of an output weight's gradient -/

namespace Cert.Proof.PairOut

/-- The call ends, its arguments unchanged and its counters at zero. -/
theorem frame_kernel : Cert.quiescent_PairOut := fun m ρ _ => Cert.PairOut.Gen.frame m ρ

theorem frame_ideal : Cert.quiescent_PairOutIdeal := fun m ρ _ => Cert.PairOutIdeal.Gen.frame m ρ

/-- The reference ends with its arguments unchanged; it has no counter. -/
theorem frame_ref_ideal : Cert.quiescent_PairOutRefIdeal := fun m ρ _ =>
  (θ_run Cert.PairOutRefIdeal.defs _ _).mono
    (fun r h => ⟨fun c => (h c).2, sem_eq_zero_of_no_sems (by decide) r.2⟩)
    (Cert.PairOutRefIdeal.Value.run (F := Ideal) m ρ)

theorem frame_ref : Cert.quiescent_PairOutRef := fun m ρ _ =>
  (θ_run Cert.PairOutRefIdeal.defs _ _).mono
    (fun r h => ⟨fun c => (h c).2, sem_eq_zero_of_no_sems (by decide) r.2⟩)
    (Cert.PairOutRefIdeal.Value.run (F := Bits) m ρ)

/-- Over the reals the call's result is the entrywise sum. -/
theorem algebraic : Cert.algebraic_PairOutIdeal_PairOutRefIdeal := by
  intro m ρ m' ρ' _ same
  refine ⟨_, Cert.PairOutIdeal.Value.run (F := Ideal) m ρ, ?_⟩
  refine (θ_run Cert.PairOutRefIdeal.defs _ _).mono (fun _ h c => ?_) (Cert.PairOutRefIdeal.Value.run (F := Ideal) m' ρ')
  obtain ⟨ha, hb⟩ := same c
  obtain ⟨h1, kept⟩ := h c
  rw [ha, hb] at h1
  exact ⟨h1, kept⟩

end Cert.Proof.PairOut

/-! ## The sum of the four chips' parts of an output weight's gradient -/

namespace Cert.Proof.ChipsOut

open Cert.ChipsOutIdeal Cert.ChipsOutIdeal.Gen

/-- What the body computes of the four parts it loads is their sum, entry by entry. -/
theorem pay_apply (p q r s : Vec Ideal S1x256x2048 .bf16) (i : Fin 256) (k : Fin 2048) :
    k0_pay1 p q r s (ix2 i k) = p (ix3 0 i k) + q (ix3 0 i k) + r (ix3 0 i k) + s (ix3 0 i k) := by
  unfold_payloads
  pointwise!

/-- The call ends, its arguments unchanged and its counters at zero. -/
theorem frame_kernel : Cert.quiescent_ChipsOut := fun m ρ _ => Cert.ChipsOut.Gen.frame m ρ

theorem frame_ideal : Cert.quiescent_ChipsOutIdeal := fun m ρ _ => Cert.ChipsOutIdeal.Gen.frame m ρ

/-- The reference ends with its arguments unchanged; it has no counter. -/
theorem frame_ref_ideal : Cert.quiescent_ChipsOutRefIdeal := fun m ρ _ =>
  (θ_run Cert.ChipsOutRefIdeal.defs _ _).mono
    (fun r h => ⟨fun c => (h c).2, sem_eq_zero_of_no_sems (by decide) r.2⟩)
    (Cert.ChipsOutRefIdeal.Value.run (F := Ideal) m ρ)

theorem frame_ref : Cert.quiescent_ChipsOutRef := fun m ρ _ =>
  (θ_run Cert.ChipsOutRefIdeal.defs _ _).mono
    (fun r h => ⟨fun c => (h c).2, sem_eq_zero_of_no_sems (by decide) r.2⟩)
    (Cert.ChipsOutRefIdeal.Value.run (F := Bits) m ρ)

/-- Over the reals the call's result is the entrywise sum. -/
theorem algebraic : Cert.algebraic_ChipsOutIdeal_ChipsOutRefIdeal := by
  intro m ρ m' ρ' _ same
  refine ⟨_, Cert.ChipsOutIdeal.Value.run (F := Ideal) m ρ, ?_⟩
  refine (θ_run Cert.ChipsOutRefIdeal.defs _ _).mono (fun _ h c => ?_) (Cert.ChipsOutRefIdeal.Value.run (F := Ideal) m' ρ')
  obtain ⟨h1, kept⟩ := h c
  rw [same c] at h1
  refine ⟨h1.trans ?_, kept⟩
  generalize m ((c.tc : Thread nD τ).loc main_arg0) = x
  funext j
  obtain ⟨i, k, rfl⟩ : ∃ (i : Fin 256) (k : Fin 2048), j = ix2 i k := ⟨j 0, j 1, eq_ix2 j⟩
  refine Eq.trans ?_ (pay_apply _ _ _ _ i k).symm
  pointwise!
  exact Fin.sum_univ_four _

end Cert.Proof.ChipsOut

/-! ## The sum of the four chips' parts of the even input weight's gradient -/

namespace Cert.Proof.ChipsEvenIn

open Cert.ChipsEvenInIdeal Cert.ChipsEvenInIdeal.Gen

variable (m : (ℓ : Loc nD τ sig) → Buf (Elt Ideal) ℓ)

/-- What the body computes of its block is the sum of the four parts, entry by entry. -/
theorem stored (x : Vec Ideal S4x256x2048 .bf16) (i : Fin 256) (k : Fin 2048) :
    out0_1 x (ix2 i k) = ∑ s : Fin 4, x (ix3 s i k) := by
  unfold out0_1
  rw [View.canon_unit_zero Gathering.hz]
  unfold_payloads
  pointwise!
  exact (Fin.sum_univ_four (M := EReal) fun s => x (ix3 s i k)).symm

theorem starts : ∀ t : Fin cfg0.N, (win0_0.index t 0 = 0 ∧ win0_0.index t 1 = t.val ∧ win0_0.index t 2 = 0) ∧ win0_1.index t 0 = t.val ∧ win0_1.index t 1 = 0 :=
  (by decide +kernel : ∀ t : Fin grid0.N, (win0_0.index t 0 = 0 ∧ win0_0.index t 1 = t.val ∧ win0_0.index t 2 = 0) ∧ win0_1.index t 0 = t.val ∧ win0_1.index t 1 = 0)

/-- The row of the whole array that row `i` of block `t` is. -/
def row (t : Fin cfg0.N) (i : Fin 256) : Fin 1024 :=
  ⟨256 * t.val + i.val, by have h1 : t.val < 4 := t.isLt; have h2 := i.isLt; omega⟩

theorem block0 (c : Dev nD) (t : Fin cfg0.N) (s : Fin 4) (i : Fin 256) (k : Fin 2048) :
    iblk m c 0 t (ix3 s i k) = V m c main_arg0 (ix3 s (row t i) k) := by
  have h := (starts t).1
  show V m c main_arg0 (((cfg0.win 0).blk t).view.emb (ix3 s i k)) = _
  congr 1
  funext a
  apply Fin.ext
  match a with
  | ⟨0, _⟩ =>
    show win0_0.index t 0 * 4 + 1 * s.val = s.val
    rw [h.1]; omega
  | ⟨1, _⟩ =>
    show win0_0.index t 1 * 256 + 1 * i.val = 256 * t.val + i.val
    rw [h.2.1]; omega
  | ⟨2, _⟩ =>
    show win0_0.index t 2 * 2048 + 1 * k.val = k.val
    rw [h.2.2]; omega

theorem emb_row (t : Fin cfg0.N) (i : Fin 256) (k : Fin 2048) :
    ((cfg0.win 1).blk t).view.emb (ix2 i k) = ix2 (row t i) k := by
  have h := (starts t).2
  funext a
  apply Fin.ext
  match a with
  | ⟨0, _⟩ =>
    show win0_1.index t 0 * 256 + 1 * i.val = 256 * t.val + i.val
    rw [h.1]; omega
  | ⟨1, _⟩ =>
    show win0_1.index t 1 * 2048 + 1 * k.val = k.val
    rw [h.2]; omega

/-- The sum of the four parts. -/
def total (x : Vec Ideal S4x1024x2048 .bf16) : Vec Ideal S1024x2048 .f32 := fun j => ∑ s : Fin 4, x (ix3 s (j 0) (j 1))

theorem total_apply (x : Vec Ideal S4x1024x2048 .bf16) (i : Fin 1024) (k : Fin 2048) : total x (ix2 i k) = ∑ s : Fin 4, x (ix3 s i k) := rfl

theorem flushed1 (c : Dev nD) (t : Fin cfg0.N) :
    (dats m 0 c).flushed 1 t = ((cfg0.win 1).blk t).view.read (Elt Ideal) (total (V m c main_arg0)) := by
  rw [Cert.ChipsEvenInIdeal.Value.flushed1]
  funext j
  show out0_1 (iblk m c 0 t) j = total (V m c main_arg0) (((cfg0.win 1).blk t).view.emb j)
  obtain ⟨i, k, rfl⟩ : ∃ (i : Fin 256) (k : Fin 2048), j = ix2 i k := ⟨j 0, j 1, eq_ix2 j⟩
  rw [emb_row, stored]
  simp only [block0]
  rfl

theorem covered1 (j : S1024x2048.Idx) : ∃ t : Fin cfg0.N, (cfg0.win 1).flush t = true ∧ j ∈ ((cfg0.win 1).blk t).view.set := by
  obtain ⟨a, b, rfl⟩ : ∃ (a : Fin 1024) (b : Fin 2048), j = ix2 a b := ⟨j 0, j 1, eq_ix2 j⟩
  have h : a.val < 1024 := a.isLt
  obtain ⟨t, ht⟩ : ∃ t : Fin cfg0.N, t.val = a.val / 256 := ⟨⟨a.val / 256, by show a.val / 256 < 4; omega⟩, rfl⟩
  refine ⟨t, flush0_1 _, ?_⟩
  have e : row t ⟨a.val % 256, Nat.mod_lt _ (by decide)⟩ = a := by
    apply Fin.ext
    show 256 * t.val + a.val % 256 = a.val
    omega
  rw [← e, ← emb_row]
  exact View.emb_mem_set _ _

theorem final1 (c : Dev nD) : (dats m 0 c).arrAt 1 cfg0.N = total (V m c main_arg0) :=
  (dats m 0 c).arrAt_eq_of_cover 1 _ (fun t _ => flushed1 m c t) covered1

/-- The call ends, its arguments unchanged and its counters at zero. -/
theorem frame_kernel : Cert.quiescent_ChipsEvenIn := fun m ρ _ => Cert.ChipsEvenIn.Gen.frame m ρ

theorem frame_ideal : Cert.quiescent_ChipsEvenInIdeal := fun m ρ _ => Cert.ChipsEvenInIdeal.Gen.frame m ρ

/-- The reference ends with its arguments unchanged; it has no counter. -/
theorem frame_ref_ideal : Cert.quiescent_ChipsEvenInRefIdeal := fun m ρ _ =>
  (θ_run Cert.ChipsEvenInRefIdeal.defs _ _).mono
    (fun r h => ⟨fun c => (h c).2, sem_eq_zero_of_no_sems (by decide) r.2⟩)
    (Cert.ChipsEvenInRefIdeal.Value.run (F := Ideal) m ρ)

theorem frame_ref : Cert.quiescent_ChipsEvenInRef := fun m ρ _ =>
  (θ_run Cert.ChipsEvenInRefIdeal.defs _ _).mono
    (fun r h => ⟨fun c => (h c).2, sem_eq_zero_of_no_sems (by decide) r.2⟩)
    (Cert.ChipsEvenInRefIdeal.Value.run (F := Bits) m ρ)

/-- Over the reals the call's result is the entrywise sum. -/
theorem algebraic : Cert.algebraic_ChipsEvenInIdeal_ChipsEvenInRefIdeal := by
  intro m ρ m' ρ' _ same
  refine ⟨_, Cert.ChipsEvenInIdeal.Value.run_blocks (F := Ideal) m ρ, ?_⟩
  refine (θ_run Cert.ChipsEvenInRefIdeal.defs _ _).mono (fun _ h c => ?_) (Cert.ChipsEvenInRefIdeal.Value.run (F := Ideal) m' ρ')
  obtain ⟨h1, kept⟩ := h c
  rw [same c] at h1
  refine ⟨h1.trans ?_, kept⟩
  rw [final1, V_main_arg0]
  generalize m ((c.tc : Thread nD τ).loc main_arg0) = x
  funext j
  obtain ⟨i, k, rfl⟩ : ∃ (i : Fin 1024) (k : Fin 2048), j = ix2 i k := ⟨j 0, j 1, eq_ix2 j⟩
  refine Eq.trans ?_ (total_apply x i k).symm
  pointwise!

end Cert.Proof.ChipsEvenIn

/-! ## The sum of the four chips' parts of the odd input weight's gradient -/

namespace Cert.Proof.ChipsOddIn

open Cert.ChipsOddInIdeal Cert.ChipsOddInIdeal.Gen

variable (m : (ℓ : Loc nD τ sig) → Buf (Elt Ideal) ℓ)

/-- What the body computes of its block is the sum of the four parts, entry by entry. -/
theorem stored (x : Vec Ideal S4x256x1152 .bf16) (i : Fin 256) (k : Fin 1152) :
    out0_1 x (ix2 i k) = ∑ s : Fin 4, x (ix3 s i k) := by
  unfold out0_1
  rw [View.canon_unit_zero Gathering.hz]
  unfold_payloads
  pointwise!
  exact (Fin.sum_univ_four (M := EReal) fun s => x (ix3 s i k)).symm

theorem starts : ∀ t : Fin cfg0.N, (win0_0.index t 0 = 0 ∧ win0_0.index t 1 = t.val ∧ win0_0.index t 2 = 0) ∧ win0_1.index t 0 = t.val ∧ win0_1.index t 1 = 0 :=
  (by decide +kernel : ∀ t : Fin grid0.N, (win0_0.index t 0 = 0 ∧ win0_0.index t 1 = t.val ∧ win0_0.index t 2 = 0) ∧ win0_1.index t 0 = t.val ∧ win0_1.index t 1 = 0)

/-- The row of the whole array that row `i` of block `t` is. -/
def row (t : Fin cfg0.N) (i : Fin 256) : Fin 1024 :=
  ⟨256 * t.val + i.val, by have h1 : t.val < 4 := t.isLt; have h2 := i.isLt; omega⟩

theorem block0 (c : Dev nD) (t : Fin cfg0.N) (s : Fin 4) (i : Fin 256) (k : Fin 1152) :
    iblk m c 0 t (ix3 s i k) = V m c main_arg0 (ix3 s (row t i) k) := by
  have h := (starts t).1
  show V m c main_arg0 (((cfg0.win 0).blk t).view.emb (ix3 s i k)) = _
  congr 1
  funext a
  apply Fin.ext
  match a with
  | ⟨0, _⟩ =>
    show win0_0.index t 0 * 4 + 1 * s.val = s.val
    rw [h.1]; omega
  | ⟨1, _⟩ =>
    show win0_0.index t 1 * 256 + 1 * i.val = 256 * t.val + i.val
    rw [h.2.1]; omega
  | ⟨2, _⟩ =>
    show win0_0.index t 2 * 1152 + 1 * k.val = k.val
    rw [h.2.2]; omega

theorem emb_row (t : Fin cfg0.N) (i : Fin 256) (k : Fin 1152) :
    ((cfg0.win 1).blk t).view.emb (ix2 i k) = ix2 (row t i) k := by
  have h := (starts t).2
  funext a
  apply Fin.ext
  match a with
  | ⟨0, _⟩ =>
    show win0_1.index t 0 * 256 + 1 * i.val = 256 * t.val + i.val
    rw [h.1]; omega
  | ⟨1, _⟩ =>
    show win0_1.index t 1 * 1152 + 1 * k.val = k.val
    rw [h.2]; omega

/-- The sum of the four parts. -/
def total (x : Vec Ideal S4x1024x1152 .bf16) : Vec Ideal S1024x1152 .f32 := fun j => ∑ s : Fin 4, x (ix3 s (j 0) (j 1))

theorem total_apply (x : Vec Ideal S4x1024x1152 .bf16) (i : Fin 1024) (k : Fin 1152) : total x (ix2 i k) = ∑ s : Fin 4, x (ix3 s i k) := rfl

theorem flushed1 (c : Dev nD) (t : Fin cfg0.N) :
    (dats m 0 c).flushed 1 t = ((cfg0.win 1).blk t).view.read (Elt Ideal) (total (V m c main_arg0)) := by
  rw [Cert.ChipsOddInIdeal.Value.flushed1]
  funext j
  show out0_1 (iblk m c 0 t) j = total (V m c main_arg0) (((cfg0.win 1).blk t).view.emb j)
  obtain ⟨i, k, rfl⟩ : ∃ (i : Fin 256) (k : Fin 1152), j = ix2 i k := ⟨j 0, j 1, eq_ix2 j⟩
  rw [emb_row, stored]
  simp only [block0]
  rfl

theorem covered1 (j : S1024x1152.Idx) : ∃ t : Fin cfg0.N, (cfg0.win 1).flush t = true ∧ j ∈ ((cfg0.win 1).blk t).view.set := by
  obtain ⟨a, b, rfl⟩ : ∃ (a : Fin 1024) (b : Fin 1152), j = ix2 a b := ⟨j 0, j 1, eq_ix2 j⟩
  have h : a.val < 1024 := a.isLt
  obtain ⟨t, ht⟩ : ∃ t : Fin cfg0.N, t.val = a.val / 256 := ⟨⟨a.val / 256, by show a.val / 256 < 4; omega⟩, rfl⟩
  refine ⟨t, flush0_1 _, ?_⟩
  have e : row t ⟨a.val % 256, Nat.mod_lt _ (by decide)⟩ = a := by
    apply Fin.ext
    show 256 * t.val + a.val % 256 = a.val
    omega
  rw [← e, ← emb_row]
  exact View.emb_mem_set _ _

theorem final1 (c : Dev nD) : (dats m 0 c).arrAt 1 cfg0.N = total (V m c main_arg0) :=
  (dats m 0 c).arrAt_eq_of_cover 1 _ (fun t _ => flushed1 m c t) covered1

/-- The call ends, its arguments unchanged and its counters at zero. -/
theorem frame_kernel : Cert.quiescent_ChipsOddIn := fun m ρ _ => Cert.ChipsOddIn.Gen.frame m ρ

theorem frame_ideal : Cert.quiescent_ChipsOddInIdeal := fun m ρ _ => Cert.ChipsOddInIdeal.Gen.frame m ρ

/-- The reference ends with its arguments unchanged; it has no counter. -/
theorem frame_ref_ideal : Cert.quiescent_ChipsOddInRefIdeal := fun m ρ _ =>
  (θ_run Cert.ChipsOddInRefIdeal.defs _ _).mono
    (fun r h => ⟨fun c => (h c).2, sem_eq_zero_of_no_sems (by decide) r.2⟩)
    (Cert.ChipsOddInRefIdeal.Value.run (F := Ideal) m ρ)

theorem frame_ref : Cert.quiescent_ChipsOddInRef := fun m ρ _ =>
  (θ_run Cert.ChipsOddInRefIdeal.defs _ _).mono
    (fun r h => ⟨fun c => (h c).2, sem_eq_zero_of_no_sems (by decide) r.2⟩)
    (Cert.ChipsOddInRefIdeal.Value.run (F := Bits) m ρ)

/-- Over the reals the call's result is the entrywise sum. -/
theorem algebraic : Cert.algebraic_ChipsOddInIdeal_ChipsOddInRefIdeal := by
  intro m ρ m' ρ' _ same
  refine ⟨_, Cert.ChipsOddInIdeal.Value.run_blocks (F := Ideal) m ρ, ?_⟩
  refine (θ_run Cert.ChipsOddInRefIdeal.defs _ _).mono (fun _ h c => ?_) (Cert.ChipsOddInRefIdeal.Value.run (F := Ideal) m' ρ')
  obtain ⟨h1, kept⟩ := h c
  rw [same c] at h1
  refine ⟨h1.trans ?_, kept⟩
  rw [final1, V_main_arg0]
  generalize m ((c.tc : Thread nD τ).loc main_arg0) = x
  funext j
  obtain ⟨i, k, rfl⟩ : ∃ (i : Fin 1024) (k : Fin 1152), j = ix2 i k := ⟨j 0, j 1, eq_ix2 j⟩
  refine Eq.trans ?_ (total_apply x i k).symm
  pointwise!

end Cert.Proof.ChipsOddIn

end
-- ==== Proof.lean ====
module

public import proofs.«01_k».proof.Defs
public import proofs.«01_k».proof.Proof.AdamClaims
public import proofs.«01_k».proof.Proof.AdamSmallClaims
public import proofs.«01_k».proof.Proof.ExchangeClaims
public import proofs.«01_k».proof.Proof.GatherClaims
public import proofs.«01_k».proof.Proof.ScatterClaims
public import proofs.«01_k».proof.Proof.LossValue
public import proofs.«01_k».proof.Proof.TotalLossValue
public import proofs.«01_k».proof.Proof.NormValue
public import proofs.«01_k».proof.Proof.NormForwardValue
public import proofs.«01_k».proof.Proof.ProductSums
public import proofs.«01_k».proof.Proof.Products
public import proofs.«01_k».proof.Proof.ShareClaims
public import proofs.«01_k».proof.Proof.SumClaims
public import Idealize.ShloMosaic.Adequacy
public import Idealize.ShloMosaic.Init

@[expose] public section

noncomputable section

namespace Cert.Proof

theorem claim : Cert.Claim :=
  ⟨Cert.Exchange.Gen.facts, Cert.ExchangeIdeal.Gen.facts, Cert.ExchangeRef.Gen.facts, Cert.ExchangeRefIdeal.Gen.facts,
    Cert.Scatter.Gen.facts, Cert.ScatterIdeal.Gen.facts, Cert.ScatterRef.Gen.facts, Cert.ScatterRefIdeal.Gen.facts,
    Cert.Share.Gen.facts, Cert.ShareIdeal.Gen.facts, Cert.ShareRef.Gen.facts, Cert.ShareRefIdeal.Gen.facts,
    Cert.Gather.Gen.facts, Cert.GatherIdeal.Gen.facts, Cert.GatherRef.Gen.facts, Cert.GatherRefIdeal.Gen.facts,
    Cert.AdamEvenIn.Gen.facts, Cert.AdamEvenInIdeal.Gen.facts, Cert.AdamEvenInRef.Gen.facts, Cert.AdamEvenInRefIdeal.Gen.facts,
    Cert.AdamOddIn.Gen.facts, Cert.AdamOddInIdeal.Gen.facts, Cert.AdamOddInRef.Gen.facts, Cert.AdamOddInRefIdeal.Gen.facts,
    Cert.AdamOut.Gen.facts, Cert.AdamOutIdeal.Gen.facts, Cert.AdamOutRef.Gen.facts, Cert.AdamOutRefIdeal.Gen.facts,
    Cert.AdamSmall.Gen.facts, Cert.AdamSmallIdeal.Gen.facts, Cert.AdamSmallRef.Gen.facts, Cert.AdamSmallRefIdeal.Gen.facts,
    Cert.Norm.Gen.facts, Cert.NormIdeal.Gen.facts, Cert.NormRef.Gen.facts, Cert.NormRefIdeal.Gen.facts,
    Cert.Loss.Gen.facts, Cert.LossIdeal.Gen.facts, Cert.LossRef.Gen.facts, Cert.LossRefIdeal.Gen.facts,
    Cert.TotalLoss.Gen.facts, Cert.TotalLossIdeal.Gen.facts, Cert.TotalLossRef.Gen.facts, Cert.TotalLossRefIdeal.Gen.facts,
    Cert.PairEvenIn.Gen.facts, Cert.PairEvenInIdeal.Gen.facts, Cert.PairEvenInRef.Gen.facts, Cert.PairEvenInRefIdeal.Gen.facts,
    Cert.PairOddIn.Gen.facts, Cert.PairOddInIdeal.Gen.facts, Cert.PairOddInRef.Gen.facts, Cert.PairOddInRefIdeal.Gen.facts,
    Cert.PairOut.Gen.facts, Cert.PairOutIdeal.Gen.facts, Cert.PairOutRef.Gen.facts, Cert.PairOutRefIdeal.Gen.facts,
    Cert.ChipsEvenIn.Gen.facts, Cert.ChipsEvenInIdeal.Gen.facts, Cert.ChipsEvenInRef.Gen.facts, Cert.ChipsEvenInRefIdeal.Gen.facts,
    Cert.ChipsOddIn.Gen.facts, Cert.ChipsOddInIdeal.Gen.facts, Cert.ChipsOddInRef.Gen.facts, Cert.ChipsOddInRefIdeal.Gen.facts,
    Cert.ChipsOut.Gen.facts, Cert.ChipsOutIdeal.Gen.facts, Cert.ChipsOutRef.Gen.facts, Cert.ChipsOutRefIdeal.Gen.facts,
    Cert.NormForward.Gen.facts, Cert.NormForwardIdeal.Gen.facts, Cert.NormForwardRef.Gen.facts, Cert.NormForwardRefIdeal.Gen.facts,
    Cert.EvenIn.Gen.facts, Cert.EvenInIdeal.Gen.facts, Cert.EvenInRef.Gen.facts, Cert.EvenInRefIdeal.Gen.facts,
    Cert.OddIn.Gen.facts, Cert.OddInIdeal.Gen.facts, Cert.OddInRef.Gen.facts, Cert.OddInRefIdeal.Gen.facts,
    Cert.LayerOut.Gen.facts, Cert.LayerOutIdeal.Gen.facts, Cert.LayerOutRef.Gen.facts, Cert.LayerOutRefIdeal.Gen.facts,
    Cert.OutGrad.Gen.facts, Cert.OutGradIdeal.Gen.facts, Cert.OutGradRef.Gen.facts, Cert.OutGradRefIdeal.Gen.facts,
    Cert.OddInGrad.Gen.facts, Cert.OddInGradIdeal.Gen.facts, Cert.OddInGradRef.Gen.facts, Cert.OddInGradRefIdeal.Gen.facts,
    Cert.EvenInGrad.Gen.facts, Cert.EvenInGradIdeal.Gen.facts, Cert.EvenInGradRef.Gen.facts, Cert.EvenInGradRefIdeal.Gen.facts,
    Cert.OutWeightGrad.Gen.facts, Cert.OutWeightGradIdeal.Gen.facts, Cert.OutWeightGradRef.Gen.facts, Cert.OutWeightGradRefIdeal.Gen.facts,
    Cert.OddInWeightGrad.Gen.facts, Cert.OddInWeightGradIdeal.Gen.facts, Cert.OddInWeightGradRef.Gen.facts, Cert.OddInWeightGradRefIdeal.Gen.facts,
    Cert.EvenInWeightGrad.Gen.facts, Cert.EvenInWeightGradIdeal.Gen.facts, Cert.EvenInWeightGradRef.Gen.facts, Cert.EvenInWeightGradRefIdeal.Gen.facts,
    ExchangeClaims.frame_kernel, ExchangeClaims.frame_ideal, ExchangeClaims.frame_ref, ExchangeClaims.frame_ref_ideal,
    ScatterClaims.frame_kernel, ScatterClaims.frame_ideal, ScatterClaims.frame_ref, ScatterClaims.frame_ref_ideal,
    ShareClaims.frame_kernel, ShareClaims.frame_ideal, ShareClaims.frame_ref, ShareClaims.frame_ref_ideal,
    GatherClaims.frame_kernel, GatherClaims.frame_ideal, GatherClaims.frame_ref, GatherClaims.frame_ref_ideal,
    AdamEvenIn.frame_kernel, AdamEvenIn.frame_ideal, AdamEvenIn.frame_ref, AdamEvenIn.frame_ref_ideal,
    AdamOddIn.frame_kernel, AdamOddIn.frame_ideal, AdamOddIn.frame_ref, AdamOddIn.frame_ref_ideal,
    AdamOut.frame_kernel, AdamOut.frame_ideal, AdamOut.frame_ref, AdamOut.frame_ref_ideal,
    AdamSmall.frame_kernel, AdamSmall.frame_ideal, AdamSmall.frame_ref, AdamSmall.frame_ref_ideal,
    Norm.frame_kernel, Norm.frame_ideal, Norm.frame_ref, Norm.frame_ref_ideal,
    Loss.frame_kernel, Loss.frame_ideal, Loss.frame_ref, Loss.frame_ref_ideal,
    TotalLoss.frame_kernel, TotalLoss.frame_ideal, TotalLoss.frame_ref, TotalLoss.frame_ref_ideal,
    PairEvenIn.frame_kernel, PairEvenIn.frame_ideal, PairEvenIn.frame_ref, PairEvenIn.frame_ref_ideal,
    PairOddIn.frame_kernel, PairOddIn.frame_ideal, PairOddIn.frame_ref, PairOddIn.frame_ref_ideal,
    PairOut.frame_kernel, PairOut.frame_ideal, PairOut.frame_ref, PairOut.frame_ref_ideal,
    ChipsEvenIn.frame_kernel, ChipsEvenIn.frame_ideal, ChipsEvenIn.frame_ref, ChipsEvenIn.frame_ref_ideal,
    ChipsOddIn.frame_kernel, ChipsOddIn.frame_ideal, ChipsOddIn.frame_ref, ChipsOddIn.frame_ref_ideal,
    ChipsOut.frame_kernel, ChipsOut.frame_ideal, ChipsOut.frame_ref, ChipsOut.frame_ref_ideal,
    NormForward.frame_kernel, NormForward.frame_ideal, NormForward.frame_ref, NormForward.frame_ref_ideal,
    EvenIn.frame_kernel, EvenIn.frame_ideal, EvenIn.frame_ref, EvenIn.frame_ref_ideal,
    OddIn.frame_kernel, OddIn.frame_ideal, OddIn.frame_ref, OddIn.frame_ref_ideal,
    LayerOut.frame_kernel, LayerOut.frame_ideal, LayerOut.frame_ref, LayerOut.frame_ref_ideal,
    OutGrad.frame_kernel, OutGrad.frame_ideal, OutGrad.frame_ref, OutGrad.frame_ref_ideal,
    OddInGrad.frame_kernel, OddInGrad.frame_ideal, OddInGrad.frame_ref, OddInGrad.frame_ref_ideal,
    EvenInGrad.frame_kernel, EvenInGrad.frame_ideal, EvenInGrad.frame_ref, EvenInGrad.frame_ref_ideal,
    OutWeightGrad.frame_kernel, OutWeightGrad.frame_ideal, OutWeightGrad.frame_ref, OutWeightGrad.frame_ref_ideal,
    OddInWeightGrad.frame_kernel, OddInWeightGrad.frame_ideal, OddInWeightGrad.frame_ref, OddInWeightGrad.frame_ref_ideal,
    EvenInWeightGrad.frame_kernel, EvenInWeightGrad.frame_ideal, EvenInWeightGrad.frame_ref, EvenInWeightGrad.frame_ref_ideal,
    trivial, ExchangeClaims.algebraic, ExchangeClaims.bitexact,
    trivial, ScatterClaims.algebraic, ScatterClaims.bitexact,
    trivial, ShareClaims.algebraic, ShareClaims.bitexact,
    trivial, GatherClaims.algebraic, GatherClaims.bitexact,
    trivial, AdamEvenIn.algebraic,
    trivial, AdamOddIn.algebraic,
    trivial, AdamOut.algebraic,
    trivial, AdamSmall.algebraic,
    trivial, Norm.algebraic,
    trivial, Loss.algebraic,
    trivial, TotalLoss.algebraic,
    trivial, PairEvenIn.algebraic,
    trivial, PairOddIn.algebraic,
    trivial, PairOut.algebraic,
    trivial, ChipsEvenIn.algebraic,
    trivial, ChipsOddIn.algebraic,
    trivial, ChipsOut.algebraic,
    trivial, NormForward.algebraic,
    trivial, EvenIn.algebraic,
    trivial, OddIn.algebraic,
    trivial, LayerOut.algebraic,
    trivial, OutGrad.algebraic,
    trivial, OddInGrad.algebraic,
    trivial, EvenInGrad.algebraic,
    trivial, OutWeightGrad.algebraic,
    trivial, OddInWeightGrad.algebraic,
    trivial, EvenInWeightGrad.algebraic⟩

end Cert.Proof

end
